-- ==== Defs.lean ====
def Pre_KDgu (m : (ℓ : Loc Cert.KDgu.nD Cert.KDgu.τ Cert.KDgu.sig) → Buf (Elt Bits) ℓ) : Prop :=
  True

def Pre_KDguIdeal (m : (ℓ : Loc Cert.KDguIdeal.nD Cert.KDguIdeal.τ Cert.KDguIdeal.sig) → Buf (Elt Ideal) ℓ) : Prop :=
  True

def Pre_KDguIdeal_finite_dgu [hPre_finite_dgu : Cert.Pre_finite_dgu.Facts] (m : (ℓ : Loc Cert.KDguIdeal.nD Cert.KDguIdeal.τ Cert.KDguIdeal.sig) → Buf (Elt Ideal) ℓ) : Prop :=
  ∀ c : Dev Cert.KDguIdeal.nD,
    (Cert.Pre_finite_dgu.fn (F := Ideal) (m ((c.tc : Thread Cert.KDguIdeal.nD Cert.KDguIdeal.τ).loc Cert.KDguIdeal.main_arg0)) (m ((c.tc : Thread Cert.KDguIdeal.nD Cert.KDguIdeal.τ).loc Cert.KDguIdeal.main_arg1)) (m ((c.tc : Thread Cert.KDguIdeal.nD Cert.KDguIdeal.τ).loc Cert.KDguIdeal.main_arg2)) (m ((c.tc : Thread Cert.KDguIdeal.nD Cert.KDguIdeal.τ).loc Cert.KDguIdeal.main_arg3))) = (fun _ => 1#1)

def Pre_RDguIdeal (m : (ℓ : Loc Cert.RDguIdeal.nD Cert.RDguIdeal.τ Cert.RDguIdeal.sig) → Buf (Elt Ideal) ℓ) : Prop :=
  True

def Pre_RDguIdeal_finite_dgu [hPre_finite_dgu : Cert.Pre_finite_dgu.Facts] (m : (ℓ : Loc Cert.RDguIdeal.nD Cert.RDguIdeal.τ Cert.RDguIdeal.sig) → Buf (Elt Ideal) ℓ) : Prop :=
  ∀ c : Dev Cert.RDguIdeal.nD,
    (Cert.Pre_finite_dgu.fn (F := Ideal) (m ((c.tc : Thread Cert.RDguIdeal.nD Cert.RDguIdeal.τ).loc Cert.RDguIdeal.main_arg0)) (m ((c.tc : Thread Cert.RDguIdeal.nD Cert.RDguIdeal.τ).loc Cert.RDguIdeal.main_arg1)) (m ((c.tc : Thread Cert.RDguIdeal.nD Cert.RDguIdeal.τ).loc Cert.RDguIdeal.main_arg2)) (m ((c.tc : Thread Cert.RDguIdeal.nD Cert.RDguIdeal.τ).loc Cert.RDguIdeal.main_arg3))) = (fun _ => 1#1)

def Pre_KDwgu (m : (ℓ : Loc Cert.KDwgu.nD Cert.KDwgu.τ Cert.KDwgu.sig) → Buf (Elt Bits) ℓ) : Prop :=
  True

def Pre_KDwguIdeal (m : (ℓ : Loc Cert.KDwguIdeal.nD Cert.KDwguIdeal.τ Cert.KDwguIdeal.sig) → Buf (Elt Ideal) ℓ) : Prop :=
  True

def Pre_RDwguIdeal (m : (ℓ : Loc Cert.RDwguIdeal.nD Cert.RDwguIdeal.τ Cert.RDwguIdeal.sig) → Buf (Elt Ideal) ℓ) : Prop :=
  True

def Pre_KDh (m : (ℓ : Loc Cert.KDh.nD Cert.KDh.τ Cert.KDh.sig) → Buf (Elt Bits) ℓ) : Prop :=
  True

def Pre_KDhIdeal (m : (ℓ : Loc Cert.KDhIdeal.nD Cert.KDhIdeal.τ Cert.KDhIdeal.sig) → Buf (Elt Ideal) ℓ) : Prop :=
  True

def Pre_RDhIdeal (m : (ℓ : Loc Cert.RDhIdeal.nD Cert.RDhIdeal.τ Cert.RDhIdeal.sig) → Buf (Elt Ideal) ℓ) : Prop :=
  True

def Pre_KDwd (m : (ℓ : Loc Cert.KDwd.nD Cert.KDwd.τ Cert.KDwd.sig) → Buf (Elt Bits) ℓ) : Prop :=
  True

def Pre_KDwdIdeal (m : (ℓ : Loc Cert.KDwdIdeal.nD Cert.KDwdIdeal.τ Cert.KDwdIdeal.sig) → Buf (Elt Ideal) ℓ) : Prop :=
  True

def Pre_RDwdIdeal (m : (ℓ : Loc Cert.RDwdIdeal.nD Cert.RDwdIdeal.τ Cert.RDwdIdeal.sig) → Buf (Elt Ideal) ℓ) : Prop :=
  True

def Pre_KMerge (m : (ℓ : Loc Cert.KMerge.nD Cert.KMerge.τ Cert.KMerge.sig) → Buf (Elt Bits) ℓ) : Prop :=
  True

def Pre_KMergeIdeal (m : (ℓ : Loc Cert.KMergeIdeal.nD Cert.KMergeIdeal.τ Cert.KMergeIdeal.sig) → Buf (Elt Ideal) ℓ) : Prop :=
  True

def Pre_RMergeIdeal (m : (ℓ : Loc Cert.RMergeIdeal.nD Cert.RMergeIdeal.τ Cert.RMergeIdeal.sig) → Buf (Elt Ideal) ℓ) : Prop :=
  True

def Pre_KDwin (m : (ℓ : Loc Cert.KDwin.nD Cert.KDwin.τ Cert.KDwin.sig) → Buf (Elt Bits) ℓ) : Prop :=
  True

def Pre_KDwinIdeal (m : (ℓ : Loc Cert.KDwinIdeal.nD Cert.KDwinIdeal.τ Cert.KDwinIdeal.sig) → Buf (Elt Ideal) ℓ) : Prop :=
  True

def Pre_RDwinIdeal (m : (ℓ : Loc Cert.RDwinIdeal.nD Cert.RDwinIdeal.τ Cert.RDwinIdeal.sig) → Buf (Elt Ideal) ℓ) : Prop :=
  True

def Pre_KDwo (m : (ℓ : Loc Cert.KDwo.nD Cert.KDwo.τ Cert.KDwo.sig) → Buf (Elt Bits) ℓ) : Prop :=
  True

def Pre_KDwoIdeal (m : (ℓ : Loc Cert.KDwoIdeal.nD Cert.KDwoIdeal.τ Cert.KDwoIdeal.sig) → Buf (Elt Ideal) ℓ) : Prop :=
  True

def Pre_RDwoIdeal (m : (ℓ : Loc Cert.RDwoIdeal.nD Cert.RDwoIdeal.τ Cert.RDwoIdeal.sig) → Buf (Elt Ideal) ℓ) : Prop :=
  True

def Pre_KDwup (m : (ℓ : Loc Cert.KDwup.nD Cert.KDwup.τ Cert.KDwup.sig) → Buf (Elt Bits) ℓ) : Prop :=
  True

def Pre_KDwupIdeal (m : (ℓ : Loc Cert.KDwupIdeal.nD Cert.KDwupIdeal.τ Cert.KDwupIdeal.sig) → Buf (Elt Ideal) ℓ) : Prop :=
  True

def Pre_RDwupIdeal (m : (ℓ : Loc Cert.RDwupIdeal.nD Cert.RDwupIdeal.τ Cert.RDwupIdeal.sig) → Buf (Elt Ideal) ℓ) : Prop :=
  True

def Pre_KDhm (m : (ℓ : Loc Cert.KDhm.nD Cert.KDhm.τ Cert.KDhm.sig) → Buf (Elt Bits) ℓ) : Prop :=
  True

def Pre_KDhmIdeal (m : (ℓ : Loc Cert.KDhmIdeal.nD Cert.KDhmIdeal.τ Cert.KDhmIdeal.sig) → Buf (Elt Ideal) ℓ) : Prop :=
  True

def Pre_RDhmIdeal (m : (ℓ : Loc Cert.RDhmIdeal.nD Cert.RDhmIdeal.τ Cert.RDhmIdeal.sig) → Buf (Elt Ideal) ℓ) : Prop :=
  True

def Pre_KDpre (m : (ℓ : Loc Cert.KDpre.nD Cert.KDpre.τ Cert.KDpre.sig) → Buf (Elt Bits) ℓ) : Prop :=
  True

def Pre_KDpreIdeal (m : (ℓ : Loc Cert.KDpreIdeal.nD Cert.KDpreIdeal.τ Cert.KDpreIdeal.sig) → Buf (Elt Ideal) ℓ) : Prop :=
  True

def Pre_RDpreIdeal (m : (ℓ : Loc Cert.RDpreIdeal.nD Cert.RDpreIdeal.τ Cert.RDpreIdeal.sig) → Buf (Elt Ideal) ℓ) : Prop :=
  True

def Pre_KUp (m : (ℓ : Loc Cert.KUp.nD Cert.KUp.τ Cert.KUp.sig) → Buf (Elt Bits) ℓ) : Prop :=
  True

def Pre_KUpIdeal (m : (ℓ : Loc Cert.KUpIdeal.nD Cert.KUpIdeal.τ Cert.KUpIdeal.sig) → Buf (Elt Ideal) ℓ) : Prop :=
  True

def Pre_RUpIdeal (m : (ℓ : Loc Cert.RUpIdeal.nD Cert.RUpIdeal.τ Cert.RUpIdeal.sig) → Buf (Elt Ideal) ℓ) : Prop :=
  True

def Pre_KDown (m : (ℓ : Loc Cert.KDown.nD Cert.KDown.τ Cert.KDown.sig) → Buf (Elt Bits) ℓ) : Prop :=
  True

def Pre_KDownIdeal (m : (ℓ : Loc Cert.KDownIdeal.nD Cert.KDownIdeal.τ Cert.KDownIdeal.sig) → Buf (Elt Ideal) ℓ) : Prop :=
  True

def Pre_RDownIdeal (m : (ℓ : Loc Cert.RDownIdeal.nD Cert.RDownIdeal.τ Cert.RDownIdeal.sig) → Buf (Elt Ideal) ℓ) : Prop :=
  True

def Pre_KLoss (m : (ℓ : Loc Cert.KLoss.nD Cert.KLoss.τ Cert.KLoss.sig) → Buf (Elt Bits) ℓ) : Prop :=
  True

def Pre_KLossIdeal (m : (ℓ : Loc Cert.KLossIdeal.nD Cert.KLossIdeal.τ Cert.KLossIdeal.sig) → Buf (Elt Ideal) ℓ) : Prop :=
  True

def Pre_RLossIdeal (m : (ℓ : Loc Cert.RLossIdeal.nD Cert.RLossIdeal.τ Cert.RLossIdeal.sig) → Buf (Elt Ideal) ℓ) : Prop :=
  True

def Pre_KOut (m : (ℓ : Loc Cert.KOut.nD Cert.KOut.τ Cert.KOut.sig) → Buf (Elt Bits) ℓ) : Prop :=
  True

def Pre_KOutIdeal (m : (ℓ : Loc Cert.KOutIdeal.nD Cert.KOutIdeal.τ Cert.KOutIdeal.sig) → Buf (Elt Ideal) ℓ) : Prop :=
  True

def Pre_ROutIdeal (m : (ℓ : Loc Cert.ROutIdeal.nD Cert.ROutIdeal.τ Cert.ROutIdeal.sig) → Buf (Elt Ideal) ℓ) : Prop :=
  True

def Pre_KIn (m : (ℓ : Loc Cert.KIn.nD Cert.KIn.τ Cert.KIn.sig) → Buf (Elt Bits) ℓ) : Prop :=
  True

def Pre_KInIdeal (m : (ℓ : Loc Cert.KInIdeal.nD Cert.KInIdeal.τ Cert.KInIdeal.sig) → Buf (Elt Ideal) ℓ) : Prop :=
  True

def Pre_RInIdeal (m : (ℓ : Loc Cert.RInIdeal.nD Cert.RInIdeal.τ Cert.RInIdeal.sig) → Buf (Elt Ideal) ℓ) : Prop :=
  True

def Pre_KMup (m : (ℓ : Loc Cert.KMup.nD Cert.KMup.τ Cert.KMup.sig) → Buf (Elt Bits) ℓ) : Prop :=
  True

def Pre_KMupIdeal (m : (ℓ : Loc Cert.KMupIdeal.nD Cert.KMupIdeal.τ Cert.KMupIdeal.sig) → Buf (Elt Ideal) ℓ) : Prop :=
  True

def Pre_RMupIdeal (m : (ℓ : Loc Cert.RMupIdeal.nD Cert.RMupIdeal.τ Cert.RMupIdeal.sig) → Buf (Elt Ideal) ℓ) : Prop :=
  True

def Pre_KNrm (m : (ℓ : Loc Cert.KNrm.nD Cert.KNrm.τ Cert.KNrm.sig) → Buf (Elt Bits) ℓ) : Prop :=
  True

def Pre_KNrmIdeal (m : (ℓ : Loc Cert.KNrmIdeal.nD Cert.KNrmIdeal.τ Cert.KNrmIdeal.sig) → Buf (Elt Ideal) ℓ) : Prop :=
  True

def Pre_RNrmIdeal (m : (ℓ : Loc Cert.RNrmIdeal.nD Cert.RNrmIdeal.τ Cert.RNrmIdeal.sig) → Buf (Elt Ideal) ℓ) : Prop :=
  True

def Pre_KNbw (m : (ℓ : Loc Cert.KNbw.nD Cert.KNbw.τ Cert.KNbw.sig) → Buf (Elt Bits) ℓ) : Prop :=
  True

def Pre_KNbwIdeal (m : (ℓ : Loc Cert.KNbwIdeal.nD Cert.KNbwIdeal.τ Cert.KNbwIdeal.sig) → Buf (Elt Ideal) ℓ) : Prop :=
  True

def Pre_KNbwIdeal_finite_nbw [hPre_finite_nbw : Cert.Pre_finite_nbw.Facts] (m : (ℓ : Loc Cert.KNbwIdeal.nD Cert.KNbwIdeal.τ Cert.KNbwIdeal.sig) → Buf (Elt Ideal) ℓ) : Prop :=
  ∀ c : Dev Cert.KNbwIdeal.nD,
    (Cert.Pre_finite_nbw.fn (F := Ideal) (m ((c.tc : Thread Cert.KNbwIdeal.nD Cert.KNbwIdeal.τ).loc Cert.KNbwIdeal.main_arg0)) (m ((c.tc : Thread Cert.KNbwIdeal.nD Cert.KNbwIdeal.τ).loc Cert.KNbwIdeal.main_arg1)) (m ((c.tc : Thread Cert.KNbwIdeal.nD Cert.KNbwIdeal.τ).loc Cert.KNbwIdeal.main_arg2)) (m ((c.tc : Thread Cert.KNbwIdeal.nD Cert.KNbwIdeal.τ).loc Cert.KNbwIdeal.main_arg3)) (m ((c.tc : Thread Cert.KNbwIdeal.nD Cert.KNbwIdeal.τ).loc Cert.KNbwIdeal.main_arg4)) (m ((c.tc : Thread Cert.KNbwIdeal.nD Cert.KNbwIdeal.τ).loc Cert.KNbwIdeal.main_arg5)) (m ((c.tc : Thread Cert.KNbwIdeal.nD Cert.KNbwIdeal.τ).loc Cert.KNbwIdeal.main_arg6))) = (fun _ => 1#1)

def Pre_RNbwIdeal (m : (ℓ : Loc Cert.RNbwIdeal.nD Cert.RNbwIdeal.τ Cert.RNbwIdeal.sig) → Buf (Elt Ideal) ℓ) : Prop :=
  True

def Pre_RNbwIdeal_finite_nbw [hPre_finite_nbw : Cert.Pre_finite_nbw.Facts] (m : (ℓ : Loc Cert.RNbwIdeal.nD Cert.RNbwIdeal.τ Cert.RNbwIdeal.sig) → Buf (Elt Ideal) ℓ) : Prop :=
  ∀ c : Dev Cert.RNbwIdeal.nD,
    (Cert.Pre_finite_nbw.fn (F := Ideal) (m ((c.tc : Thread Cert.RNbwIdeal.nD Cert.RNbwIdeal.τ).loc Cert.RNbwIdeal.main_arg0)) (m ((c.tc : Thread Cert.RNbwIdeal.nD Cert.RNbwIdeal.τ).loc Cert.RNbwIdeal.main_arg1)) (m ((c.tc : Thread Cert.RNbwIdeal.nD Cert.RNbwIdeal.τ).loc Cert.RNbwIdeal.main_arg2)) (m ((c.tc : Thread Cert.RNbwIdeal.nD Cert.RNbwIdeal.τ).loc Cert.RNbwIdeal.main_arg3)) (m ((c.tc : Thread Cert.RNbwIdeal.nD Cert.RNbwIdeal.τ).loc Cert.RNbwIdeal.main_arg4)) (m ((c.tc : Thread Cert.RNbwIdeal.nD Cert.RNbwIdeal.τ).loc Cert.RNbwIdeal.main_arg5)) (m ((c.tc : Thread Cert.RNbwIdeal.nD Cert.RNbwIdeal.τ).loc Cert.RNbwIdeal.main_arg6))) = (fun _ => 1#1)

def Pre_KAda (m : (ℓ : Loc Cert.KAda.nD Cert.KAda.τ Cert.KAda.sig) → Buf (Elt Bits) ℓ) : Prop :=
  True

def Pre_KAdaIdeal (m : (ℓ : Loc Cert.KAdaIdeal.nD Cert.KAdaIdeal.τ Cert.KAdaIdeal.sig) → Buf (Elt Ideal) ℓ) : Prop :=
  True

def Pre_RAdaIdeal (m : (ℓ : Loc Cert.RAdaIdeal.nD Cert.RAdaIdeal.τ Cert.RAdaIdeal.sig) → Buf (Elt Ideal) ℓ) : Prop :=
  True

def Pre_KAdab (m : (ℓ : Loc Cert.KAdab.nD Cert.KAdab.τ Cert.KAdab.sig) → Buf (Elt Bits) ℓ) : Prop :=
  True

def Pre_KAdabIdeal (m : (ℓ : Loc Cert.KAdabIdeal.nD Cert.KAdabIdeal.τ Cert.KAdabIdeal.sig) → Buf (Elt Ideal) ℓ) : Prop :=
  True

def Pre_RAdabIdeal (m : (ℓ : Loc Cert.RAdabIdeal.nD Cert.RAdabIdeal.τ Cert.RAdabIdeal.sig) → Buf (Elt Ideal) ℓ) : Prop :=
  True

def Pre_KAdam (m : (ℓ : Loc Cert.KAdam.nD Cert.KAdam.τ Cert.KAdam.sig) → Buf (Elt Bits) ℓ) : Prop :=
  True

def Pre_KAdamIdeal (m : (ℓ : Loc Cert.KAdamIdeal.nD Cert.KAdamIdeal.τ Cert.KAdamIdeal.sig) → Buf (Elt Ideal) ℓ) : Prop :=
  True

def Pre_RAdamIdeal (m : (ℓ : Loc Cert.RAdamIdeal.nD Cert.RAdamIdeal.τ Cert.RAdamIdeal.sig) → Buf (Elt Ideal) ℓ) : Prop :=
  True

def Pre_KAdamt (m : (ℓ : Loc Cert.KAdamt.nD Cert.KAdamt.τ Cert.KAdamt.sig) → Buf (Elt Bits) ℓ) : Prop :=
  True

def Pre_KAdamtIdeal (m : (ℓ : Loc Cert.KAdamtIdeal.nD Cert.KAdamtIdeal.τ Cert.KAdamtIdeal.sig) → Buf (Elt Ideal) ℓ) : Prop :=
  True

def Pre_RAdamtIdeal (m : (ℓ : Loc Cert.RAdamtIdeal.nD Cert.RAdamtIdeal.τ Cert.RAdamtIdeal.sig) → Buf (Elt Ideal) ℓ) : Prop :=
  True

def Pre_KBias (m : (ℓ : Loc Cert.KBias.nD Cert.KBias.τ Cert.KBias.sig) → Buf (Elt Bits) ℓ) : Prop :=
  True

def Pre_KBiasIdeal (m : (ℓ : Loc Cert.KBiasIdeal.nD Cert.KBiasIdeal.τ Cert.KBiasIdeal.sig) → Buf (Elt Ideal) ℓ) : Prop :=
  True

def Pre_KBiasIdeal_is_bucket [hPre_is_bucket : Cert.Pre_is_bucket.Facts] (m : (ℓ : Loc Cert.KBiasIdeal.nD Cert.KBiasIdeal.τ Cert.KBiasIdeal.sig) → Buf (Elt Ideal) ℓ) : Prop :=
  ∀ c : Dev Cert.KBiasIdeal.nD,
    (Cert.Pre_is_bucket.fn (F := Ideal) (m ((c.tc : Thread Cert.KBiasIdeal.nD Cert.KBiasIdeal.τ).loc Cert.KBiasIdeal.main_arg0)) (m ((c.tc : Thread Cert.KBiasIdeal.nD Cert.KBiasIdeal.τ).loc Cert.KBiasIdeal.main_arg1))) = (fun _ => 1#1)

def Pre_RBiasIdeal (m : (ℓ : Loc Cert.RBiasIdeal.nD Cert.RBiasIdeal.τ Cert.RBiasIdeal.sig) → Buf (Elt Ideal) ℓ) : Prop :=
  True

def Pre_RBiasIdeal_is_bucket [hPre_is_bucket : Cert.Pre_is_bucket.Facts] (m : (ℓ : Loc Cert.RBiasIdeal.nD Cert.RBiasIdeal.τ Cert.RBiasIdeal.sig) → Buf (Elt Ideal) ℓ) : Prop :=
  ∀ c : Dev Cert.RBiasIdeal.nD,
    (Cert.Pre_is_bucket.fn (F := Ideal) (m ((c.tc : Thread Cert.RBiasIdeal.nD Cert.RBiasIdeal.τ).loc Cert.RBiasIdeal.main_arg0)) (m ((c.tc : Thread Cert.RBiasIdeal.nD Cert.RBiasIdeal.τ).loc Cert.RBiasIdeal.main_arg1))) = (fun _ => 1#1)

def Pre_KBiasb (m : (ℓ : Loc Cert.KBiasb.nD Cert.KBiasb.τ Cert.KBiasb.sig) → Buf (Elt Bits) ℓ) : Prop :=
  True

def Pre_KBiasbIdeal (m : (ℓ : Loc Cert.KBiasbIdeal.nD Cert.KBiasbIdeal.τ Cert.KBiasbIdeal.sig) → Buf (Elt Ideal) ℓ) : Prop :=
  True

def Pre_KBiasbIdeal_is_bucket_b [hPre_is_bucket_b : Cert.Pre_is_bucket_b.Facts] (m : (ℓ : Loc Cert.KBiasbIdeal.nD Cert.KBiasbIdeal.τ Cert.KBiasbIdeal.sig) → Buf (Elt Ideal) ℓ) : Prop :=
  ∀ c : Dev Cert.KBiasbIdeal.nD,
    (Cert.Pre_is_bucket_b.fn (F := Ideal) (m ((c.tc : Thread Cert.KBiasbIdeal.nD Cert.KBiasbIdeal.τ).loc Cert.KBiasbIdeal.main_arg0)) (m ((c.tc : Thread Cert.KBiasbIdeal.nD Cert.KBiasbIdeal.τ).loc Cert.KBiasbIdeal.main_arg1))) = (fun _ => 1#1)

def Pre_RBiasbIdeal (m : (ℓ : Loc Cert.RBiasbIdeal.nD Cert.RBiasbIdeal.τ Cert.RBiasbIdeal.sig) → Buf (Elt Ideal) ℓ) : Prop :=
  True

def Pre_RBiasbIdeal_is_bucket_b [hPre_is_bucket_b : Cert.Pre_is_bucket_b.Facts] (m : (ℓ : Loc Cert.RBiasbIdeal.nD Cert.RBiasbIdeal.τ Cert.RBiasbIdeal.sig) → Buf (Elt Ideal) ℓ) : Prop :=
  ∀ c : Dev Cert.RBiasbIdeal.nD,
    (Cert.Pre_is_bucket_b.fn (F := Ideal) (m ((c.tc : Thread Cert.RBiasbIdeal.nD Cert.RBiasbIdeal.τ).loc Cert.RBiasbIdeal.main_arg0)) (m ((c.tc : Thread Cert.RBiasbIdeal.nD Cert.RBiasbIdeal.τ).loc Cert.RBiasbIdeal.main_arg1))) = (fun _ => 1#1)

def Pre_KPoolb (m : (ℓ : Loc Cert.KPoolb.nD Cert.KPoolb.τ Cert.KPoolb.sig) → Buf (Elt Bits) ℓ) : Prop :=
  True

def Pre_KPoolbIdeal (m : (ℓ : Loc Cert.KPoolbIdeal.nD Cert.KPoolbIdeal.τ Cert.KPoolbIdeal.sig) → Buf (Elt Ideal) ℓ) : Prop :=
  True

def Pre_KPoolbIdeal_finite_poolb [hPre_finite_poolb : Cert.Pre_finite_poolb.Facts] (m : (ℓ : Loc Cert.KPoolbIdeal.nD Cert.KPoolbIdeal.τ Cert.KPoolbIdeal.sig) → Buf (Elt Ideal) ℓ) : Prop :=
  ∀ c : Dev Cert.KPoolbIdeal.nD,
    (Cert.Pre_finite_poolb.fn (F := Ideal) (m ((c.tc : Thread Cert.KPoolbIdeal.nD Cert.KPoolbIdeal.τ).loc Cert.KPoolbIdeal.main_arg0)) (m ((c.tc : Thread Cert.KPoolbIdeal.nD Cert.KPoolbIdeal.τ).loc Cert.KPoolbIdeal.main_arg1)) (m ((c.tc : Thread Cert.KPoolbIdeal.nD Cert.KPoolbIdeal.τ).loc Cert.KPoolbIdeal.main_arg2)) (m ((c.tc : Thread Cert.KPoolbIdeal.nD Cert.KPoolbIdeal.τ).loc Cert.KPoolbIdeal.main_arg3)) (m ((c.tc : Thread Cert.KPoolbIdeal.nD Cert.KPoolbIdeal.τ).loc Cert.KPoolbIdeal.main_arg4))) = (fun _ => 1#1)

def Pre_RPoolbIdeal (m : (ℓ : Loc Cert.RPoolbIdeal.nD Cert.RPoolbIdeal.τ Cert.RPoolbIdeal.sig) → Buf (Elt Ideal) ℓ) : Prop :=
  True

def Pre_RPoolbIdeal_finite_poolb [hPre_finite_poolb : Cert.Pre_finite_poolb.Facts] (m : (ℓ : Loc Cert.RPoolbIdeal.nD Cert.RPoolbIdeal.τ Cert.RPoolbIdeal.sig) → Buf (Elt Ideal) ℓ) : Prop :=
  ∀ c : Dev Cert.RPoolbIdeal.nD,
    (Cert.Pre_finite_poolb.fn (F := Ideal) (m ((c.tc : Thread Cert.RPoolbIdeal.nD Cert.RPoolbIdeal.τ).loc Cert.RPoolbIdeal.main_arg0)) (m ((c.tc : Thread Cert.RPoolbIdeal.nD Cert.RPoolbIdeal.τ).loc Cert.RPoolbIdeal.main_arg1)) (m ((c.tc : Thread Cert.RPoolbIdeal.nD Cert.RPoolbIdeal.τ).loc Cert.RPoolbIdeal.main_arg2)) (m ((c.tc : Thread Cert.RPoolbIdeal.nD Cert.RPoolbIdeal.τ).loc Cert.RPoolbIdeal.main_arg3)) (m ((c.tc : Thread Cert.RPoolbIdeal.nD Cert.RPoolbIdeal.τ).loc Cert.RPoolbIdeal.main_arg4))) = (fun _ => 1#1)

def Pre_KPoolf (m : (ℓ : Loc Cert.KPoolf.nD Cert.KPoolf.τ Cert.KPoolf.sig) → Buf (Elt Bits) ℓ) : Prop :=
  True

def Pre_KPoolfIdeal (m : (ℓ : Loc Cert.KPoolfIdeal.nD Cert.KPoolfIdeal.τ Cert.KPoolfIdeal.sig) → Buf (Elt Ideal) ℓ) : Prop :=
  True

def Pre_KPoolfIdeal_finite_poolf [hPre_finite_poolf : Cert.Pre_finite_poolf.Facts] (m : (ℓ : Loc Cert.KPoolfIdeal.nD Cert.KPoolfIdeal.τ Cert.KPoolfIdeal.sig) → Buf (Elt Ideal) ℓ) : Prop :=
  ∀ c : Dev Cert.KPoolfIdeal.nD,
    (Cert.Pre_finite_poolf.fn (F := Ideal) (m ((c.tc : Thread Cert.KPoolfIdeal.nD Cert.KPoolfIdeal.τ).loc Cert.KPoolfIdeal.main_arg0)) (m ((c.tc : Thread Cert.KPoolfIdeal.nD Cert.KPoolfIdeal.τ).loc Cert.KPoolfIdeal.main_arg1)) (m ((c.tc : Thread Cert.KPoolfIdeal.nD Cert.KPoolfIdeal.τ).loc Cert.KPoolfIdeal.main_arg2))) = (fun _ => 1#1)

def Pre_RPoolfIdeal (m : (ℓ : Loc Cert.RPoolfIdeal.nD Cert.RPoolfIdeal.τ Cert.RPoolfIdeal.sig) → Buf (Elt Ideal) ℓ) : Prop :=
  True

def Pre_RPoolfIdeal_finite_poolf [hPre_finite_poolf : Cert.Pre_finite_poolf.Facts] (m : (ℓ : Loc Cert.RPoolfIdeal.nD Cert.RPoolfIdeal.τ Cert.RPoolfIdeal.sig) → Buf (Elt Ideal) ℓ) : Prop :=
  ∀ c : Dev Cert.RPoolfIdeal.nD,
    (Cert.Pre_finite_poolf.fn (F := Ideal) (m ((c.tc : Thread Cert.RPoolfIdeal.nD Cert.RPoolfIdeal.τ).loc Cert.RPoolfIdeal.main_arg0)) (m ((c.tc : Thread Cert.RPoolfIdeal.nD Cert.RPoolfIdeal.τ).loc Cert.RPoolfIdeal.main_arg1)) (m ((c.tc : Thread Cert.RPoolfIdeal.nD Cert.RPoolfIdeal.τ).loc Cert.RPoolfIdeal.main_arg2))) = (fun _ => 1#1)

def Pre_KAttnf (m : (ℓ : Loc Cert.KAttnf.nD Cert.KAttnf.τ Cert.KAttnf.sig) → Buf (Elt Bits) ℓ) : Prop :=
  True

def Pre_KAttnfIdeal (m : (ℓ : Loc Cert.KAttnfIdeal.nD Cert.KAttnfIdeal.τ Cert.KAttnfIdeal.sig) → Buf (Elt Ideal) ℓ) : Prop :=
  True

def Pre_RAttnfIdeal (m : (ℓ : Loc Cert.RAttnfIdeal.nD Cert.RAttnfIdeal.τ Cert.RAttnfIdeal.sig) → Buf (Elt Ideal) ℓ) : Prop :=
  True

def quiescent_KDgu [hKDgu : Cert.KDgu.Facts] : Prop :=
  ∀ (m : (ℓ : Loc Cert.KDgu.nD Cert.KDgu.τ Cert.KDgu.sig) → Buf (Elt Bits) ℓ) (g : Dev Cert.KDgu.nD → PrngReg), Pre_KDgu m →
    θ_run (Cert.KDgu.defs (F := Bits)) (onTc (τ := Cert.KDgu.τ) (Cert.KDgu.main (F := Bits))) ⟨m, fun _ => 0, g⟩ (fun r => (∀ c : Dev Cert.KDgu.nD,
      r.2.mem ((c.tc : Thread Cert.KDgu.nD Cert.KDgu.τ).loc Cert.KDgu.main_arg0) = m ((c.tc : Thread Cert.KDgu.nD Cert.KDgu.τ).loc Cert.KDgu.main_arg0)
      ∧ r.2.mem ((c.tc : Thread Cert.KDgu.nD Cert.KDgu.τ).loc Cert.KDgu.main_arg1) = m ((c.tc : Thread Cert.KDgu.nD Cert.KDgu.τ).loc Cert.KDgu.main_arg1)
      ∧ r.2.mem ((c.tc : Thread Cert.KDgu.nD Cert.KDgu.τ).loc Cert.KDgu.main_arg2) = m ((c.tc : Thread Cert.KDgu.nD Cert.KDgu.τ).loc Cert.KDgu.main_arg2)
      ∧ r.2.mem ((c.tc : Thread Cert.KDgu.nD Cert.KDgu.τ).loc Cert.KDgu.main_arg3) = m ((c.tc : Thread Cert.KDgu.nD Cert.KDgu.τ).loc Cert.KDgu.main_arg3))
      ∧ r.2.sem = fun _ => 0)

def quiescent_KDguIdeal [hKDguIdeal : Cert.KDguIdeal.Facts] : Prop :=
  ∀ (m : (ℓ : Loc Cert.KDguIdeal.nD Cert.KDguIdeal.τ Cert.KDguIdeal.sig) → Buf (Elt Ideal) ℓ) (g : Dev Cert.KDguIdeal.nD → PrngReg), Pre_KDguIdeal m →
    θ_run (Cert.KDguIdeal.defs (F := Ideal)) (onTc (τ := Cert.KDguIdeal.τ) (Cert.KDguIdeal.main (F := Ideal))) ⟨m, fun _ => 0, g⟩ (fun r => (∀ c : Dev Cert.KDguIdeal.nD,
      r.2.mem ((c.tc : Thread Cert.KDguIdeal.nD Cert.KDguIdeal.τ).loc Cert.KDguIdeal.main_arg0) = m ((c.tc : Thread Cert.KDguIdeal.nD Cert.KDguIdeal.τ).loc Cert.KDguIdeal.main_arg0)
      ∧ r.2.mem ((c.tc : Thread Cert.KDguIdeal.nD Cert.KDguIdeal.τ).loc Cert.KDguIdeal.main_arg1) = m ((c.tc : Thread Cert.KDguIdeal.nD Cert.KDguIdeal.τ).loc Cert.KDguIdeal.main_arg1)
      ∧ r.2.mem ((c.tc : Thread Cert.KDguIdeal.nD Cert.KDguIdeal.τ).loc Cert.KDguIdeal.main_arg2) = m ((c.tc : Thread Cert.KDguIdeal.nD Cert.KDguIdeal.τ).loc Cert.KDguIdeal.main_arg2)
      ∧ r.2.mem ((c.tc : Thread Cert.KDguIdeal.nD Cert.KDguIdeal.τ).loc Cert.KDguIdeal.main_arg3) = m ((c.tc : Thread Cert.KDguIdeal.nD Cert.KDguIdeal.τ).loc Cert.KDguIdeal.main_arg3))
      ∧ r.2.sem = fun _ => 0)

def quiescent_KDguIdeal_pre_finite_dgu [hKDguIdeal : Cert.KDguIdeal.Facts] [hPre_finite_dgu : Cert.Pre_finite_dgu.Facts] : Prop :=
  ∀ (m : (ℓ : Loc Cert.KDguIdeal.nD Cert.KDguIdeal.τ Cert.KDguIdeal.sig) → Buf (Elt Ideal) ℓ) (g : Dev Cert.KDguIdeal.nD → PrngReg), Pre_KDguIdeal_finite_dgu m →
    θ_run (Cert.KDguIdeal.defs (F := Ideal)) (onTc (τ := Cert.KDguIdeal.τ) (Cert.KDguIdeal.main (F := Ideal))) ⟨m, fun _ => 0, g⟩ (fun r => (∀ c : Dev Cert.KDguIdeal.nD,
      r.2.mem ((c.tc : Thread Cert.KDguIdeal.nD Cert.KDguIdeal.τ).loc Cert.KDguIdeal.main_arg0) = m ((c.tc : Thread Cert.KDguIdeal.nD Cert.KDguIdeal.τ).loc Cert.KDguIdeal.main_arg0)
      ∧ r.2.mem ((c.tc : Thread Cert.KDguIdeal.nD Cert.KDguIdeal.τ).loc Cert.KDguIdeal.main_arg1) = m ((c.tc : Thread Cert.KDguIdeal.nD Cert.KDguIdeal.τ).loc Cert.KDguIdeal.main_arg1)
      ∧ r.2.mem ((c.tc : Thread Cert.KDguIdeal.nD Cert.KDguIdeal.τ).loc Cert.KDguIdeal.main_arg2) = m ((c.tc : Thread Cert.KDguIdeal.nD Cert.KDguIdeal.τ).loc Cert.KDguIdeal.main_arg2)
      ∧ r.2.mem ((c.tc : Thread Cert.KDguIdeal.nD Cert.KDguIdeal.τ).loc Cert.KDguIdeal.main_arg3) = m ((c.tc : Thread Cert.KDguIdeal.nD Cert.KDguIdeal.τ).loc Cert.KDguIdeal.main_arg3))
      ∧ r.2.sem = fun _ => 0)

def quiescent_RDguIdeal [hRDguIdeal : Cert.RDguIdeal.Facts] : Prop :=
  ∀ (m : (ℓ : Loc Cert.RDguIdeal.nD Cert.RDguIdeal.τ Cert.RDguIdeal.sig) → Buf (Elt Ideal) ℓ) (g : Dev Cert.RDguIdeal.nD → PrngReg), Pre_RDguIdeal m →
    θ_run (Cert.RDguIdeal.defs (F := Ideal)) (onTc (τ := Cert.RDguIdeal.τ) (Cert.RDguIdeal.main (F := Ideal))) ⟨m, fun _ => 0, g⟩ (fun r => (∀ c : Dev Cert.RDguIdeal.nD,
      r.2.mem ((c.tc : Thread Cert.RDguIdeal.nD Cert.RDguIdeal.τ).loc Cert.RDguIdeal.main_arg0) = m ((c.tc : Thread Cert.RDguIdeal.nD Cert.RDguIdeal.τ).loc Cert.RDguIdeal.main_arg0)
      ∧ r.2.mem ((c.tc : Thread Cert.RDguIdeal.nD Cert.RDguIdeal.τ).loc Cert.RDguIdeal.main_arg1) = m ((c.tc : Thread Cert.RDguIdeal.nD Cert.RDguIdeal.τ).loc Cert.RDguIdeal.main_arg1)
      ∧ r.2.mem ((c.tc : Thread Cert.RDguIdeal.nD Cert.RDguIdeal.τ).loc Cert.RDguIdeal.main_arg2) = m ((c.tc : Thread Cert.RDguIdeal.nD Cert.RDguIdeal.τ).loc Cert.RDguIdeal.main_arg2)
      ∧ r.2.mem ((c.tc : Thread Cert.RDguIdeal.nD Cert.RDguIdeal.τ).loc Cert.RDguIdeal.main_arg3) = m ((c.tc : Thread Cert.RDguIdeal.nD Cert.RDguIdeal.τ).loc Cert.RDguIdeal.main_arg3))
      ∧ r.2.sem = fun _ => 0)

def quiescent_RDguIdeal_pre_finite_dgu [hRDguIdeal : Cert.RDguIdeal.Facts] [hPre_finite_dgu : Cert.Pre_finite_dgu.Facts] : Prop :=
  ∀ (m : (ℓ : Loc Cert.RDguIdeal.nD Cert.RDguIdeal.τ Cert.RDguIdeal.sig) → Buf (Elt Ideal) ℓ) (g : Dev Cert.RDguIdeal.nD → PrngReg), Pre_RDguIdeal_finite_dgu m →
    θ_run (Cert.RDguIdeal.defs (F := Ideal)) (onTc (τ := Cert.RDguIdeal.τ) (Cert.RDguIdeal.main (F := Ideal))) ⟨m, fun _ => 0, g⟩ (fun r => (∀ c : Dev Cert.RDguIdeal.nD,
      r.2.mem ((c.tc : Thread Cert.RDguIdeal.nD Cert.RDguIdeal.τ).loc Cert.RDguIdeal.main_arg0) = m ((c.tc : Thread Cert.RDguIdeal.nD Cert.RDguIdeal.τ).loc Cert.RDguIdeal.main_arg0)
      ∧ r.2.mem ((c.tc : Thread Cert.RDguIdeal.nD Cert.RDguIdeal.τ).loc Cert.RDguIdeal.main_arg1) = m ((c.tc : Thread Cert.RDguIdeal.nD Cert.RDguIdeal.τ).loc Cert.RDguIdeal.main_arg1)
      ∧ r.2.mem ((c.tc : Thread Cert.RDguIdeal.nD Cert.RDguIdeal.τ).loc Cert.RDguIdeal.main_arg2) = m ((c.tc : Thread Cert.RDguIdeal.nD Cert.RDguIdeal.τ).loc Cert.RDguIdeal.main_arg2)
      ∧ r.2.mem ((c.tc : Thread Cert.RDguIdeal.nD Cert.RDguIdeal.τ).loc Cert.RDguIdeal.main_arg3) = m ((c.tc : Thread Cert.RDguIdeal.nD Cert.RDguIdeal.τ).loc Cert.RDguIdeal.main_arg3))
      ∧ r.2.sem = fun _ => 0)

def quiescent_KDwgu [hKDwgu : Cert.KDwgu.Facts] : Prop :=
  ∀ (m : (ℓ : Loc Cert.KDwgu.nD Cert.KDwgu.τ Cert.KDwgu.sig) → Buf (Elt Bits) ℓ) (g : Dev Cert.KDwgu.nD → PrngReg), Pre_KDwgu m →
    θ_run (Cert.KDwgu.defs (F := Bits)) (onTc (τ := Cert.KDwgu.τ) (Cert.KDwgu.main (F := Bits))) ⟨m, fun _ => 0, g⟩ (fun r => (∀ c : Dev Cert.KDwgu.nD,
      r.2.mem ((c.tc : Thread Cert.KDwgu.nD Cert.KDwgu.τ).loc Cert.KDwgu.main_arg0) = m ((c.tc : Thread Cert.KDwgu.nD Cert.KDwgu.τ).loc Cert.KDwgu.main_arg0)
      ∧ r.2.mem ((c.tc : Thread Cert.KDwgu.nD Cert.KDwgu.τ).loc Cert.KDwgu.main_arg1) = m ((c.tc : Thread Cert.KDwgu.nD Cert.KDwgu.τ).loc Cert.KDwgu.main_arg1)
      ∧ r.2.mem ((c.tc : Thread Cert.KDwgu.nD Cert.KDwgu.τ).loc Cert.KDwgu.main_arg2) = m ((c.tc : Thread Cert.KDwgu.nD Cert.KDwgu.τ).loc Cert.KDwgu.main_arg2))
      ∧ r.2.sem = fun _ => 0)

def quiescent_KDwguIdeal [hKDwguIdeal : Cert.KDwguIdeal.Facts] : Prop :=
  ∀ (m : (ℓ : Loc Cert.KDwguIdeal.nD Cert.KDwguIdeal.τ Cert.KDwguIdeal.sig) → Buf (Elt Ideal) ℓ) (g : Dev Cert.KDwguIdeal.nD → PrngReg), Pre_KDwguIdeal m →
    θ_run (Cert.KDwguIdeal.defs (F := Ideal)) (onTc (τ := Cert.KDwguIdeal.τ) (Cert.KDwguIdeal.main (F := Ideal))) ⟨m, fun _ => 0, g⟩ (fun r => (∀ c : Dev Cert.KDwguIdeal.nD,
      r.2.mem ((c.tc : Thread Cert.KDwguIdeal.nD Cert.KDwguIdeal.τ).loc Cert.KDwguIdeal.main_arg0) = m ((c.tc : Thread Cert.KDwguIdeal.nD Cert.KDwguIdeal.τ).loc Cert.KDwguIdeal.main_arg0)
      ∧ r.2.mem ((c.tc : Thread Cert.KDwguIdeal.nD Cert.KDwguIdeal.τ).loc Cert.KDwguIdeal.main_arg1) = m ((c.tc : Thread Cert.KDwguIdeal.nD Cert.KDwguIdeal.τ).loc Cert.KDwguIdeal.main_arg1)
      ∧ r.2.mem ((c.tc : Thread Cert.KDwguIdeal.nD Cert.KDwguIdeal.τ).loc Cert.KDwguIdeal.main_arg2) = m ((c.tc : Thread Cert.KDwguIdeal.nD Cert.KDwguIdeal.τ).loc Cert.KDwguIdeal.main_arg2))
      ∧ r.2.sem = fun _ => 0)

def quiescent_RDwguIdeal [hRDwguIdeal : Cert.RDwguIdeal.Facts] : Prop :=
  ∀ (m : (ℓ : Loc Cert.RDwguIdeal.nD Cert.RDwguIdeal.τ Cert.RDwguIdeal.sig) → Buf (Elt Ideal) ℓ) (g : Dev Cert.RDwguIdeal.nD → PrngReg), Pre_RDwguIdeal m →
    θ_run (Cert.RDwguIdeal.defs (F := Ideal)) (onTc (τ := Cert.RDwguIdeal.τ) (Cert.RDwguIdeal.main (F := Ideal))) ⟨m, fun _ => 0, g⟩ (fun r => (∀ c : Dev Cert.RDwguIdeal.nD,
      r.2.mem ((c.tc : Thread Cert.RDwguIdeal.nD Cert.RDwguIdeal.τ).loc Cert.RDwguIdeal.main_arg0) = m ((c.tc : Thread Cert.RDwguIdeal.nD Cert.RDwguIdeal.τ).loc Cert.RDwguIdeal.main_arg0)
      ∧ r.2.mem ((c.tc : Thread Cert.RDwguIdeal.nD Cert.RDwguIdeal.τ).loc Cert.RDwguIdeal.main_arg1) = m ((c.tc : Thread Cert.RDwguIdeal.nD Cert.RDwguIdeal.τ).loc Cert.RDwguIdeal.main_arg1)
      ∧ r.2.mem ((c.tc : Thread Cert.RDwguIdeal.nD Cert.RDwguIdeal.τ).loc Cert.RDwguIdeal.main_arg2) = m ((c.tc : Thread Cert.RDwguIdeal.nD Cert.RDwguIdeal.τ).loc Cert.RDwguIdeal.main_arg2))
      ∧ r.2.sem = fun _ => 0)

def quiescent_KDh [hKDh : Cert.KDh.Facts] : Prop :=
  ∀ (m : (ℓ : Loc Cert.KDh.nD Cert.KDh.τ Cert.KDh.sig) → Buf (Elt Bits) ℓ) (g : Dev Cert.KDh.nD → PrngReg), Pre_KDh m →
    θ_run (Cert.KDh.defs (F := Bits)) (onTc (τ := Cert.KDh.τ) (Cert.KDh.main (F := Bits))) ⟨m, fun _ => 0, g⟩ (fun r => (∀ c : Dev Cert.KDh.nD,
      r.2.mem ((c.tc : Thread Cert.KDh.nD Cert.KDh.τ).loc Cert.KDh.main_arg0) = m ((c.tc : Thread Cert.KDh.nD Cert.KDh.τ).loc Cert.KDh.main_arg0)
      ∧ r.2.mem ((c.tc : Thread Cert.KDh.nD Cert.KDh.τ).loc Cert.KDh.main_arg1) = m ((c.tc : Thread Cert.KDh.nD Cert.KDh.τ).loc Cert.KDh.main_arg1)
      ∧ r.2.mem ((c.tc : Thread Cert.KDh.nD Cert.KDh.τ).loc Cert.KDh.main_arg2) = m ((c.tc : Thread Cert.KDh.nD Cert.KDh.τ).loc Cert.KDh.main_arg2))
      ∧ r.2.sem = fun _ => 0)

def quiescent_KDhIdeal [hKDhIdeal : Cert.KDhIdeal.Facts] : Prop :=
  ∀ (m : (ℓ : Loc Cert.KDhIdeal.nD Cert.KDhIdeal.τ Cert.KDhIdeal.sig) → Buf (Elt Ideal) ℓ) (g : Dev Cert.KDhIdeal.nD → PrngReg), Pre_KDhIdeal m →
    θ_run (Cert.KDhIdeal.defs (F := Ideal)) (onTc (τ := Cert.KDhIdeal.τ) (Cert.KDhIdeal.main (F := Ideal))) ⟨m, fun _ => 0, g⟩ (fun r => (∀ c : Dev Cert.KDhIdeal.nD,
      r.2.mem ((c.tc : Thread Cert.KDhIdeal.nD Cert.KDhIdeal.τ).loc Cert.KDhIdeal.main_arg0) = m ((c.tc : Thread Cert.KDhIdeal.nD Cert.KDhIdeal.τ).loc Cert.KDhIdeal.main_arg0)
      ∧ r.2.mem ((c.tc : Thread Cert.KDhIdeal.nD Cert.KDhIdeal.τ).loc Cert.KDhIdeal.main_arg1) = m ((c.tc : Thread Cert.KDhIdeal.nD Cert.KDhIdeal.τ).loc Cert.KDhIdeal.main_arg1)
      ∧ r.2.mem ((c.tc : Thread Cert.KDhIdeal.nD Cert.KDhIdeal.τ).loc Cert.KDhIdeal.main_arg2) = m ((c.tc : Thread Cert.KDhIdeal.nD Cert.KDhIdeal.τ).loc Cert.KDhIdeal.main_arg2))
      ∧ r.2.sem = fun _ => 0)

def quiescent_RDhIdeal [hRDhIdeal : Cert.RDhIdeal.Facts] : Prop :=
  ∀ (m : (ℓ : Loc Cert.RDhIdeal.nD Cert.RDhIdeal.τ Cert.RDhIdeal.sig) → Buf (Elt Ideal) ℓ) (g : Dev Cert.RDhIdeal.nD → PrngReg), Pre_RDhIdeal m →
    θ_run (Cert.RDhIdeal.defs (F := Ideal)) (onTc (τ := Cert.RDhIdeal.τ) (Cert.RDhIdeal.main (F := Ideal))) ⟨m, fun _ => 0, g⟩ (fun r => (∀ c : Dev Cert.RDhIdeal.nD,
      r.2.mem ((c.tc : Thread Cert.RDhIdeal.nD Cert.RDhIdeal.τ).loc Cert.RDhIdeal.main_arg0) = m ((c.tc : Thread Cert.RDhIdeal.nD Cert.RDhIdeal.τ).loc Cert.RDhIdeal.main_arg0)
      ∧ r.2.mem ((c.tc : Thread Cert.RDhIdeal.nD Cert.RDhIdeal.τ).loc Cert.RDhIdeal.main_arg1) = m ((c.tc : Thread Cert.RDhIdeal.nD Cert.RDhIdeal.τ).loc Cert.RDhIdeal.main_arg1)
      ∧ r.2.mem ((c.tc : Thread Cert.RDhIdeal.nD Cert.RDhIdeal.τ).loc Cert.RDhIdeal.main_arg2) = m ((c.tc : Thread Cert.RDhIdeal.nD Cert.RDhIdeal.τ).loc Cert.RDhIdeal.main_arg2))
      ∧ r.2.sem = fun _ => 0)

def quiescent_KDwd [hKDwd : Cert.KDwd.Facts] : Prop :=
  ∀ (m : (ℓ : Loc Cert.KDwd.nD Cert.KDwd.τ Cert.KDwd.sig) → Buf (Elt Bits) ℓ) (g : Dev Cert.KDwd.nD → PrngReg), Pre_KDwd m →
    θ_run (Cert.KDwd.defs (F := Bits)) (onTc (τ := Cert.KDwd.τ) (Cert.KDwd.main (F := Bits))) ⟨m, fun _ => 0, g⟩ (fun r => (∀ c : Dev Cert.KDwd.nD,
      r.2.mem ((c.tc : Thread Cert.KDwd.nD Cert.KDwd.τ).loc Cert.KDwd.main_arg0) = m ((c.tc : Thread Cert.KDwd.nD Cert.KDwd.τ).loc Cert.KDwd.main_arg0)
      ∧ r.2.mem ((c.tc : Thread Cert.KDwd.nD Cert.KDwd.τ).loc Cert.KDwd.main_arg1) = m ((c.tc : Thread Cert.KDwd.nD Cert.KDwd.τ).loc Cert.KDwd.main_arg1))
      ∧ r.2.sem = fun _ => 0)

def quiescent_KDwdIdeal [hKDwdIdeal : Cert.KDwdIdeal.Facts] : Prop :=
  ∀ (m : (ℓ : Loc Cert.KDwdIdeal.nD Cert.KDwdIdeal.τ Cert.KDwdIdeal.sig) → Buf (Elt Ideal) ℓ) (g : Dev Cert.KDwdIdeal.nD → PrngReg), Pre_KDwdIdeal m →
    θ_run (Cert.KDwdIdeal.defs (F := Ideal)) (onTc (τ := Cert.KDwdIdeal.τ) (Cert.KDwdIdeal.main (F := Ideal))) ⟨m, fun _ => 0, g⟩ (fun r => (∀ c : Dev Cert.KDwdIdeal.nD,
      r.2.mem ((c.tc : Thread Cert.KDwdIdeal.nD Cert.KDwdIdeal.τ).loc Cert.KDwdIdeal.main_arg0) = m ((c.tc : Thread Cert.KDwdIdeal.nD Cert.KDwdIdeal.τ).loc Cert.KDwdIdeal.main_arg0)
      ∧ r.2.mem ((c.tc : Thread Cert.KDwdIdeal.nD Cert.KDwdIdeal.τ).loc Cert.KDwdIdeal.main_arg1) = m ((c.tc : Thread Cert.KDwdIdeal.nD Cert.KDwdIdeal.τ).loc Cert.KDwdIdeal.main_arg1))
      ∧ r.2.sem = fun _ => 0)

def quiescent_RDwdIdeal [hRDwdIdeal : Cert.RDwdIdeal.Facts] : Prop :=
  ∀ (m : (ℓ : Loc Cert.RDwdIdeal.nD Cert.RDwdIdeal.τ Cert.RDwdIdeal.sig) → Buf (Elt Ideal) ℓ) (g : Dev Cert.RDwdIdeal.nD → PrngReg), Pre_RDwdIdeal m →
    θ_run (Cert.RDwdIdeal.defs (F := Ideal)) (onTc (τ := Cert.RDwdIdeal.τ) (Cert.RDwdIdeal.main (F := Ideal))) ⟨m, fun _ => 0, g⟩ (fun r => (∀ c : Dev Cert.RDwdIdeal.nD,
      r.2.mem ((c.tc : Thread Cert.RDwdIdeal.nD Cert.RDwdIdeal.τ).loc Cert.RDwdIdeal.main_arg0) = m ((c.tc : Thread Cert.RDwdIdeal.nD Cert.RDwdIdeal.τ).loc Cert.RDwdIdeal.main_arg0)
      ∧ r.2.mem ((c.tc : Thread Cert.RDwdIdeal.nD Cert.RDwdIdeal.τ).loc Cert.RDwdIdeal.main_arg1) = m ((c.tc : Thread Cert.RDwdIdeal.nD Cert.RDwdIdeal.τ).loc Cert.RDwdIdeal.main_arg1))
      ∧ r.2.sem = fun _ => 0)

def quiescent_KMerge [hKMerge : Cert.KMerge.Facts] : Prop :=
  ∀ (m : (ℓ : Loc Cert.KMerge.nD Cert.KMerge.τ Cert.KMerge.sig) → Buf (Elt Bits) ℓ) (g : Dev Cert.KMerge.nD → PrngReg), Pre_KMerge m →
    θ_run (Cert.KMerge.defs (F := Bits)) (onTc (τ := Cert.KMerge.τ) (Cert.KMerge.main (F := Bits))) ⟨m, fun _ => 0, g⟩ (fun r => (∀ c : Dev Cert.KMerge.nD,
      r.2.mem ((c.tc : Thread Cert.KMerge.nD Cert.KMerge.τ).loc Cert.KMerge.main_arg0) = m ((c.tc : Thread Cert.KMerge.nD Cert.KMerge.τ).loc Cert.KMerge.main_arg0)
      ∧ r.2.mem ((c.tc : Thread Cert.KMerge.nD Cert.KMerge.τ).loc Cert.KMerge.main_arg1) = m ((c.tc : Thread Cert.KMerge.nD Cert.KMerge.τ).loc Cert.KMerge.main_arg1)
      ∧ r.2.mem ((c.tc : Thread Cert.KMerge.nD Cert.KMerge.τ).loc Cert.KMerge.main_arg2) = m ((c.tc : Thread Cert.KMerge.nD Cert.KMerge.τ).loc Cert.KMerge.main_arg2)
      ∧ r.2.mem ((c.tc : Thread Cert.KMerge.nD Cert.KMerge.τ).loc Cert.KMerge.main_arg3) = m ((c.tc : Thread Cert.KMerge.nD Cert.KMerge.τ).loc Cert.KMerge.main_arg3)
      ∧ r.2.mem ((c.tc : Thread Cert.KMerge.nD Cert.KMerge.τ).loc Cert.KMerge.main_arg4) = m ((c.tc : Thread Cert.KMerge.nD Cert.KMerge.τ).loc Cert.KMerge.main_arg4)
      ∧ r.2.mem ((c.tc : Thread Cert.KMerge.nD Cert.KMerge.τ).loc Cert.KMerge.main_arg5) = m ((c.tc : Thread Cert.KMerge.nD Cert.KMerge.τ).loc Cert.KMerge.main_arg5))
      ∧ r.2.sem = fun _ => 0)

def quiescent_KMergeIdeal [hKMergeIdeal : Cert.KMergeIdeal.Facts] : Prop :=
  ∀ (m : (ℓ : Loc Cert.KMergeIdeal.nD Cert.KMergeIdeal.τ Cert.KMergeIdeal.sig) → Buf (Elt Ideal) ℓ) (g : Dev Cert.KMergeIdeal.nD → PrngReg), Pre_KMergeIdeal m →
    θ_run (Cert.KMergeIdeal.defs (F := Ideal)) (onTc (τ := Cert.KMergeIdeal.τ) (Cert.KMergeIdeal.main (F := Ideal))) ⟨m, fun _ => 0, g⟩ (fun r => (∀ c : Dev Cert.KMergeIdeal.nD,
      r.2.mem ((c.tc : Thread Cert.KMergeIdeal.nD Cert.KMergeIdeal.τ).loc Cert.KMergeIdeal.main_arg0) = m ((c.tc : Thread Cert.KMergeIdeal.nD Cert.KMergeIdeal.τ).loc Cert.KMergeIdeal.main_arg0)
      ∧ r.2.mem ((c.tc : Thread Cert.KMergeIdeal.nD Cert.KMergeIdeal.τ).loc Cert.KMergeIdeal.main_arg1) = m ((c.tc : Thread Cert.KMergeIdeal.nD Cert.KMergeIdeal.τ).loc Cert.KMergeIdeal.main_arg1)
      ∧ r.2.mem ((c.tc : Thread Cert.KMergeIdeal.nD Cert.KMergeIdeal.τ).loc Cert.KMergeIdeal.main_arg2) = m ((c.tc : Thread Cert.KMergeIdeal.nD Cert.KMergeIdeal.τ).loc Cert.KMergeIdeal.main_arg2)
      ∧ r.2.mem ((c.tc : Thread Cert.KMergeIdeal.nD Cert.KMergeIdeal.τ).loc Cert.KMergeIdeal.main_arg3) = m ((c.tc : Thread Cert.KMergeIdeal.nD Cert.KMergeIdeal.τ).loc Cert.KMergeIdeal.main_arg3)
      ∧ r.2.mem ((c.tc : Thread Cert.KMergeIdeal.nD Cert.KMergeIdeal.τ).loc Cert.KMergeIdeal.main_arg4) = m ((c.tc : Thread Cert.KMergeIdeal.nD Cert.KMergeIdeal.τ).loc Cert.KMergeIdeal.main_arg4)
      ∧ r.2.mem ((c.tc : Thread Cert.KMergeIdeal.nD Cert.KMergeIdeal.τ).loc Cert.KMergeIdeal.main_arg5) = m ((c.tc : Thread Cert.KMergeIdeal.nD Cert.KMergeIdeal.τ).loc Cert.KMergeIdeal.main_arg5))
      ∧ r.2.sem = fun _ => 0)

def quiescent_RMergeIdeal [hRMergeIdeal : Cert.RMergeIdeal.Facts] : Prop :=
  ∀ (m : (ℓ : Loc Cert.RMergeIdeal.nD Cert.RMergeIdeal.τ Cert.RMergeIdeal.sig) → Buf (Elt Ideal) ℓ) (g : Dev Cert.RMergeIdeal.nD → PrngReg), Pre_RMergeIdeal m →
    θ_run (Cert.RMergeIdeal.defs (F := Ideal)) (onTc (τ := Cert.RMergeIdeal.τ) (Cert.RMergeIdeal.main (F := Ideal))) ⟨m, fun _ => 0, g⟩ (fun r => (∀ c : Dev Cert.RMergeIdeal.nD,
      r.2.mem ((c.tc : Thread Cert.RMergeIdeal.nD Cert.RMergeIdeal.τ).loc Cert.RMergeIdeal.main_arg0) = m ((c.tc : Thread Cert.RMergeIdeal.nD Cert.RMergeIdeal.τ).loc Cert.RMergeIdeal.main_arg0)
      ∧ r.2.mem ((c.tc : Thread Cert.RMergeIdeal.nD Cert.RMergeIdeal.τ).loc Cert.RMergeIdeal.main_arg1) = m ((c.tc : Thread Cert.RMergeIdeal.nD Cert.RMergeIdeal.τ).loc Cert.RMergeIdeal.main_arg1)
      ∧ r.2.mem ((c.tc : Thread Cert.RMergeIdeal.nD Cert.RMergeIdeal.τ).loc Cert.RMergeIdeal.main_arg2) = m ((c.tc : Thread Cert.RMergeIdeal.nD Cert.RMergeIdeal.τ).loc Cert.RMergeIdeal.main_arg2)
      ∧ r.2.mem ((c.tc : Thread Cert.RMergeIdeal.nD Cert.RMergeIdeal.τ).loc Cert.RMergeIdeal.main_arg3) = m ((c.tc : Thread Cert.RMergeIdeal.nD Cert.RMergeIdeal.τ).loc Cert.RMergeIdeal.main_arg3)
      ∧ r.2.mem ((c.tc : Thread Cert.RMergeIdeal.nD Cert.RMergeIdeal.τ).loc Cert.RMergeIdeal.main_arg4) = m ((c.tc : Thread Cert.RMergeIdeal.nD Cert.RMergeIdeal.τ).loc Cert.RMergeIdeal.main_arg4)
      ∧ r.2.mem ((c.tc : Thread Cert.RMergeIdeal.nD Cert.RMergeIdeal.τ).loc Cert.RMergeIdeal.main_arg5) = m ((c.tc : Thread Cert.RMergeIdeal.nD Cert.RMergeIdeal.τ).loc Cert.RMergeIdeal.main_arg5))
      ∧ r.2.sem = fun _ => 0)

def quiescent_KDwin [hKDwin : Cert.KDwin.Facts] : Prop :=
  ∀ (m : (ℓ : Loc Cert.KDwin.nD Cert.KDwin.τ Cert.KDwin.sig) → Buf (Elt Bits) ℓ) (g : Dev Cert.KDwin.nD → PrngReg), Pre_KDwin m →
    θ_run (Cert.KDwin.defs (F := Bits)) (onTc (τ := Cert.KDwin.τ) (Cert.KDwin.main (F := Bits))) ⟨m, fun _ => 0, g⟩ (fun r => (∀ c : Dev Cert.KDwin.nD,
      r.2.mem ((c.tc : Thread Cert.KDwin.nD Cert.KDwin.τ).loc Cert.KDwin.main_arg0) = m ((c.tc : Thread Cert.KDwin.nD Cert.KDwin.τ).loc Cert.KDwin.main_arg0)
      ∧ r.2.mem ((c.tc : Thread Cert.KDwin.nD Cert.KDwin.τ).loc Cert.KDwin.main_arg1) = m ((c.tc : Thread Cert.KDwin.nD Cert.KDwin.τ).loc Cert.KDwin.main_arg1))
      ∧ r.2.sem = fun _ => 0)

def quiescent_KDwinIdeal [hKDwinIdeal : Cert.KDwinIdeal.Facts] : Prop :=
  ∀ (m : (ℓ : Loc Cert.KDwinIdeal.nD Cert.KDwinIdeal.τ Cert.KDwinIdeal.sig) → Buf (Elt Ideal) ℓ) (g : Dev Cert.KDwinIdeal.nD → PrngReg), Pre_KDwinIdeal m →
    θ_run (Cert.KDwinIdeal.defs (F := Ideal)) (onTc (τ := Cert.KDwinIdeal.τ) (Cert.KDwinIdeal.main (F := Ideal))) ⟨m, fun _ => 0, g⟩ (fun r => (∀ c : Dev Cert.KDwinIdeal.nD,
      r.2.mem ((c.tc : Thread Cert.KDwinIdeal.nD Cert.KDwinIdeal.τ).loc Cert.KDwinIdeal.main_arg0) = m ((c.tc : Thread Cert.KDwinIdeal.nD Cert.KDwinIdeal.τ).loc Cert.KDwinIdeal.main_arg0)
      ∧ r.2.mem ((c.tc : Thread Cert.KDwinIdeal.nD Cert.KDwinIdeal.τ).loc Cert.KDwinIdeal.main_arg1) = m ((c.tc : Thread Cert.KDwinIdeal.nD Cert.KDwinIdeal.τ).loc Cert.KDwinIdeal.main_arg1))
      ∧ r.2.sem = fun _ => 0)

def quiescent_RDwinIdeal [hRDwinIdeal : Cert.RDwinIdeal.Facts] : Prop :=
  ∀ (m : (ℓ : Loc Cert.RDwinIdeal.nD Cert.RDwinIdeal.τ Cert.RDwinIdeal.sig) → Buf (Elt Ideal) ℓ) (g : Dev Cert.RDwinIdeal.nD → PrngReg), Pre_RDwinIdeal m →
    θ_run (Cert.RDwinIdeal.defs (F := Ideal)) (onTc (τ := Cert.RDwinIdeal.τ) (Cert.RDwinIdeal.main (F := Ideal))) ⟨m, fun _ => 0, g⟩ (fun r => (∀ c : Dev Cert.RDwinIdeal.nD,
      r.2.mem ((c.tc : Thread Cert.RDwinIdeal.nD Cert.RDwinIdeal.τ).loc Cert.RDwinIdeal.main_arg0) = m ((c.tc : Thread Cert.RDwinIdeal.nD Cert.RDwinIdeal.τ).loc Cert.RDwinIdeal.main_arg0)
      ∧ r.2.mem ((c.tc : Thread Cert.RDwinIdeal.nD Cert.RDwinIdeal.τ).loc Cert.RDwinIdeal.main_arg1) = m ((c.tc : Thread Cert.RDwinIdeal.nD Cert.RDwinIdeal.τ).loc Cert.RDwinIdeal.main_arg1))
      ∧ r.2.sem = fun _ => 0)

def quiescent_KDwo [hKDwo : Cert.KDwo.Facts] : Prop :=
  ∀ (m : (ℓ : Loc Cert.KDwo.nD Cert.KDwo.τ Cert.KDwo.sig) → Buf (Elt Bits) ℓ) (g : Dev Cert.KDwo.nD → PrngReg), Pre_KDwo m →
    θ_run (Cert.KDwo.defs (F := Bits)) (onTc (τ := Cert.KDwo.τ) (Cert.KDwo.main (F := Bits))) ⟨m, fun _ => 0, g⟩ (fun r => (∀ c : Dev Cert.KDwo.nD,
      r.2.mem ((c.tc : Thread Cert.KDwo.nD Cert.KDwo.τ).loc Cert.KDwo.main_arg0) = m ((c.tc : Thread Cert.KDwo.nD Cert.KDwo.τ).loc Cert.KDwo.main_arg0)
      ∧ r.2.mem ((c.tc : Thread Cert.KDwo.nD Cert.KDwo.τ).loc Cert.KDwo.main_arg1) = m ((c.tc : Thread Cert.KDwo.nD Cert.KDwo.τ).loc Cert.KDwo.main_arg1))
      ∧ r.2.sem = fun _ => 0)

def quiescent_KDwoIdeal [hKDwoIdeal : Cert.KDwoIdeal.Facts] : Prop :=
  ∀ (m : (ℓ : Loc Cert.KDwoIdeal.nD Cert.KDwoIdeal.τ Cert.KDwoIdeal.sig) → Buf (Elt Ideal) ℓ) (g : Dev Cert.KDwoIdeal.nD → PrngReg), Pre_KDwoIdeal m →
    θ_run (Cert.KDwoIdeal.defs (F := Ideal)) (onTc (τ := Cert.KDwoIdeal.τ) (Cert.KDwoIdeal.main (F := Ideal))) ⟨m, fun _ => 0, g⟩ (fun r => (∀ c : Dev Cert.KDwoIdeal.nD,
      r.2.mem ((c.tc : Thread Cert.KDwoIdeal.nD Cert.KDwoIdeal.τ).loc Cert.KDwoIdeal.main_arg0) = m ((c.tc : Thread Cert.KDwoIdeal.nD Cert.KDwoIdeal.τ).loc Cert.KDwoIdeal.main_arg0)
      ∧ r.2.mem ((c.tc : Thread Cert.KDwoIdeal.nD Cert.KDwoIdeal.τ).loc Cert.KDwoIdeal.main_arg1) = m ((c.tc : Thread Cert.KDwoIdeal.nD Cert.KDwoIdeal.τ).loc Cert.KDwoIdeal.main_arg1))
      ∧ r.2.sem = fun _ => 0)

def quiescent_RDwoIdeal [hRDwoIdeal : Cert.RDwoIdeal.Facts] : Prop :=
  ∀ (m : (ℓ : Loc Cert.RDwoIdeal.nD Cert.RDwoIdeal.τ Cert.RDwoIdeal.sig) → Buf (Elt Ideal) ℓ) (g : Dev Cert.RDwoIdeal.nD → PrngReg), Pre_RDwoIdeal m →
    θ_run (Cert.RDwoIdeal.defs (F := Ideal)) (onTc (τ := Cert.RDwoIdeal.τ) (Cert.RDwoIdeal.main (F := Ideal))) ⟨m, fun _ => 0, g⟩ (fun r => (∀ c : Dev Cert.RDwoIdeal.nD,
      r.2.mem ((c.tc : Thread Cert.RDwoIdeal.nD Cert.RDwoIdeal.τ).loc Cert.RDwoIdeal.main_arg0) = m ((c.tc : Thread Cert.RDwoIdeal.nD Cert.RDwoIdeal.τ).loc Cert.RDwoIdeal.main_arg0)
      ∧ r.2.mem ((c.tc : Thread Cert.RDwoIdeal.nD Cert.RDwoIdeal.τ).loc Cert.RDwoIdeal.main_arg1) = m ((c.tc : Thread Cert.RDwoIdeal.nD Cert.RDwoIdeal.τ).loc Cert.RDwoIdeal.main_arg1))
      ∧ r.2.sem = fun _ => 0)

def quiescent_KDwup [hKDwup : Cert.KDwup.Facts] : Prop :=
  ∀ (m : (ℓ : Loc Cert.KDwup.nD Cert.KDwup.τ Cert.KDwup.sig) → Buf (Elt Bits) ℓ) (g : Dev Cert.KDwup.nD → PrngReg), Pre_KDwup m →
    θ_run (Cert.KDwup.defs (F := Bits)) (onTc (τ := Cert.KDwup.τ) (Cert.KDwup.main (F := Bits))) ⟨m, fun _ => 0, g⟩ (fun r => (∀ c : Dev Cert.KDwup.nD,
      r.2.mem ((c.tc : Thread Cert.KDwup.nD Cert.KDwup.τ).loc Cert.KDwup.main_arg0) = m ((c.tc : Thread Cert.KDwup.nD Cert.KDwup.τ).loc Cert.KDwup.main_arg0)
      ∧ r.2.mem ((c.tc : Thread Cert.KDwup.nD Cert.KDwup.τ).loc Cert.KDwup.main_arg1) = m ((c.tc : Thread Cert.KDwup.nD Cert.KDwup.τ).loc Cert.KDwup.main_arg1))
      ∧ r.2.sem = fun _ => 0)

def quiescent_KDwupIdeal [hKDwupIdeal : Cert.KDwupIdeal.Facts] : Prop :=
  ∀ (m : (ℓ : Loc Cert.KDwupIdeal.nD Cert.KDwupIdeal.τ Cert.KDwupIdeal.sig) → Buf (Elt Ideal) ℓ) (g : Dev Cert.KDwupIdeal.nD → PrngReg), Pre_KDwupIdeal m →
    θ_run (Cert.KDwupIdeal.defs (F := Ideal)) (onTc (τ := Cert.KDwupIdeal.τ) (Cert.KDwupIdeal.main (F := Ideal))) ⟨m, fun _ => 0, g⟩ (fun r => (∀ c : Dev Cert.KDwupIdeal.nD,
      r.2.mem ((c.tc : Thread Cert.KDwupIdeal.nD Cert.KDwupIdeal.τ).loc Cert.KDwupIdeal.main_arg0) = m ((c.tc : Thread Cert.KDwupIdeal.nD Cert.KDwupIdeal.τ).loc Cert.KDwupIdeal.main_arg0)
      ∧ r.2.mem ((c.tc : Thread Cert.KDwupIdeal.nD Cert.KDwupIdeal.τ).loc Cert.KDwupIdeal.main_arg1) = m ((c.tc : Thread Cert.KDwupIdeal.nD Cert.KDwupIdeal.τ).loc Cert.KDwupIdeal.main_arg1))
      ∧ r.2.sem = fun _ => 0)

def quiescent_RDwupIdeal [hRDwupIdeal : Cert.RDwupIdeal.Facts] : Prop :=
  ∀ (m : (ℓ : Loc Cert.RDwupIdeal.nD Cert.RDwupIdeal.τ Cert.RDwupIdeal.sig) → Buf (Elt Ideal) ℓ) (g : Dev Cert.RDwupIdeal.nD → PrngReg), Pre_RDwupIdeal m →
    θ_run (Cert.RDwupIdeal.defs (F := Ideal)) (onTc (τ := Cert.RDwupIdeal.τ) (Cert.RDwupIdeal.main (F := Ideal))) ⟨m, fun _ => 0, g⟩ (fun r => (∀ c : Dev Cert.RDwupIdeal.nD,
      r.2.mem ((c.tc : Thread Cert.RDwupIdeal.nD Cert.RDwupIdeal.τ).loc Cert.RDwupIdeal.main_arg0) = m ((c.tc : Thread Cert.RDwupIdeal.nD Cert.RDwupIdeal.τ).loc Cert.RDwupIdeal.main_arg0)
      ∧ r.2.mem ((c.tc : Thread Cert.RDwupIdeal.nD Cert.RDwupIdeal.τ).loc Cert.RDwupIdeal.main_arg1) = m ((c.tc : Thread Cert.RDwupIdeal.nD Cert.RDwupIdeal.τ).loc Cert.RDwupIdeal.main_arg1))
      ∧ r.2.sem = fun _ => 0)

def quiescent_KDhm [hKDhm : Cert.KDhm.Facts] : Prop :=
  ∀ (m : (ℓ : Loc Cert.KDhm.nD Cert.KDhm.τ Cert.KDhm.sig) → Buf (Elt Bits) ℓ) (g : Dev Cert.KDhm.nD → PrngReg), Pre_KDhm m →
    θ_run (Cert.KDhm.defs (F := Bits)) (onTc (τ := Cert.KDhm.τ) (Cert.KDhm.main (F := Bits))) ⟨m, fun _ => 0, g⟩ (fun r => (∀ c : Dev Cert.KDhm.nD,
      r.2.mem ((c.tc : Thread Cert.KDhm.nD Cert.KDhm.τ).loc Cert.KDhm.main_arg0) = m ((c.tc : Thread Cert.KDhm.nD Cert.KDhm.τ).loc Cert.KDhm.main_arg0)
      ∧ r.2.mem ((c.tc : Thread Cert.KDhm.nD Cert.KDhm.τ).loc Cert.KDhm.main_arg1) = m ((c.tc : Thread Cert.KDhm.nD Cert.KDhm.τ).loc Cert.KDhm.main_arg1))
      ∧ r.2.sem = fun _ => 0)

def quiescent_KDhmIdeal [hKDhmIdeal : Cert.KDhmIdeal.Facts] : Prop :=
  ∀ (m : (ℓ : Loc Cert.KDhmIdeal.nD Cert.KDhmIdeal.τ Cert.KDhmIdeal.sig) → Buf (Elt Ideal) ℓ) (g : Dev Cert.KDhmIdeal.nD → PrngReg), Pre_KDhmIdeal m →
    θ_run (Cert.KDhmIdeal.defs (F := Ideal)) (onTc (τ := Cert.KDhmIdeal.τ) (Cert.KDhmIdeal.main (F := Ideal))) ⟨m, fun _ => 0, g⟩ (fun r => (∀ c : Dev Cert.KDhmIdeal.nD,
      r.2.mem ((c.tc : Thread Cert.KDhmIdeal.nD Cert.KDhmIdeal.τ).loc Cert.KDhmIdeal.main_arg0) = m ((c.tc : Thread Cert.KDhmIdeal.nD Cert.KDhmIdeal.τ).loc Cert.KDhmIdeal.main_arg0)
      ∧ r.2.mem ((c.tc : Thread Cert.KDhmIdeal.nD Cert.KDhmIdeal.τ).loc Cert.KDhmIdeal.main_arg1) = m ((c.tc : Thread Cert.KDhmIdeal.nD Cert.KDhmIdeal.τ).loc Cert.KDhmIdeal.main_arg1))
      ∧ r.2.sem = fun _ => 0)

def quiescent_RDhmIdeal [hRDhmIdeal : Cert.RDhmIdeal.Facts] : Prop :=
  ∀ (m : (ℓ : Loc Cert.RDhmIdeal.nD Cert.RDhmIdeal.τ Cert.RDhmIdeal.sig) → Buf (Elt Ideal) ℓ) (g : Dev Cert.RDhmIdeal.nD → PrngReg), Pre_RDhmIdeal m →
    θ_run (Cert.RDhmIdeal.defs (F := Ideal)) (onTc (τ := Cert.RDhmIdeal.τ) (Cert.RDhmIdeal.main (F := Ideal))) ⟨m, fun _ => 0, g⟩ (fun r => (∀ c : Dev Cert.RDhmIdeal.nD,
      r.2.mem ((c.tc : Thread Cert.RDhmIdeal.nD Cert.RDhmIdeal.τ).loc Cert.RDhmIdeal.main_arg0) = m ((c.tc : Thread Cert.RDhmIdeal.nD Cert.RDhmIdeal.τ).loc Cert.RDhmIdeal.main_arg0)
      ∧ r.2.mem ((c.tc : Thread Cert.RDhmIdeal.nD Cert.RDhmIdeal.τ).loc Cert.RDhmIdeal.main_arg1) = m ((c.tc : Thread Cert.RDhmIdeal.nD Cert.RDhmIdeal.τ).loc Cert.RDhmIdeal.main_arg1))
      ∧ r.2.sem = fun _ => 0)

def quiescent_KDpre [hKDpre : Cert.KDpre.Facts] : Prop :=
  ∀ (m : (ℓ : Loc Cert.KDpre.nD Cert.KDpre.τ Cert.KDpre.sig) → Buf (Elt Bits) ℓ) (g : Dev Cert.KDpre.nD → PrngReg), Pre_KDpre m →
    θ_run (Cert.KDpre.defs (F := Bits)) (onTc (τ := Cert.KDpre.τ) (Cert.KDpre.main (F := Bits))) ⟨m, fun _ => 0, g⟩ (fun r => (∀ c : Dev Cert.KDpre.nD,
      r.2.mem ((c.tc : Thread Cert.KDpre.nD Cert.KDpre.τ).loc Cert.KDpre.main_arg0) = m ((c.tc : Thread Cert.KDpre.nD Cert.KDpre.τ).loc Cert.KDpre.main_arg0)
      ∧ r.2.mem ((c.tc : Thread Cert.KDpre.nD Cert.KDpre.τ).loc Cert.KDpre.main_arg1) = m ((c.tc : Thread Cert.KDpre.nD Cert.KDpre.τ).loc Cert.KDpre.main_arg1))
      ∧ r.2.sem = fun _ => 0)

def quiescent_KDpreIdeal [hKDpreIdeal : Cert.KDpreIdeal.Facts] : Prop :=
  ∀ (m : (ℓ : Loc Cert.KDpreIdeal.nD Cert.KDpreIdeal.τ Cert.KDpreIdeal.sig) → Buf (Elt Ideal) ℓ) (g : Dev Cert.KDpreIdeal.nD → PrngReg), Pre_KDpreIdeal m →
    θ_run (Cert.KDpreIdeal.defs (F := Ideal)) (onTc (τ := Cert.KDpreIdeal.τ) (Cert.KDpreIdeal.main (F := Ideal))) ⟨m, fun _ => 0, g⟩ (fun r => (∀ c : Dev Cert.KDpreIdeal.nD,
      r.2.mem ((c.tc : Thread Cert.KDpreIdeal.nD Cert.KDpreIdeal.τ).loc Cert.KDpreIdeal.main_arg0) = m ((c.tc : Thread Cert.KDpreIdeal.nD Cert.KDpreIdeal.τ).loc Cert.KDpreIdeal.main_arg0)
      ∧ r.2.mem ((c.tc : Thread Cert.KDpreIdeal.nD Cert.KDpreIdeal.τ).loc Cert.KDpreIdeal.main_arg1) = m ((c.tc : Thread Cert.KDpreIdeal.nD Cert.KDpreIdeal.τ).loc Cert.KDpreIdeal.main_arg1))
      ∧ r.2.sem = fun _ => 0)

def quiescent_RDpreIdeal [hRDpreIdeal : Cert.RDpreIdeal.Facts] : Prop :=
  ∀ (m : (ℓ : Loc Cert.RDpreIdeal.nD Cert.RDpreIdeal.τ Cert.RDpreIdeal.sig) → Buf (Elt Ideal) ℓ) (g : Dev Cert.RDpreIdeal.nD → PrngReg), Pre_RDpreIdeal m →
    θ_run (Cert.RDpreIdeal.defs (F := Ideal)) (onTc (τ := Cert.RDpreIdeal.τ) (Cert.RDpreIdeal.main (F := Ideal))) ⟨m, fun _ => 0, g⟩ (fun r => (∀ c : Dev Cert.RDpreIdeal.nD,
      r.2.mem ((c.tc : Thread Cert.RDpreIdeal.nD Cert.RDpreIdeal.τ).loc Cert.RDpreIdeal.main_arg0) = m ((c.tc : Thread Cert.RDpreIdeal.nD Cert.RDpreIdeal.τ).loc Cert.RDpreIdeal.main_arg0)
      ∧ r.2.mem ((c.tc : Thread Cert.RDpreIdeal.nD Cert.RDpreIdeal.τ).loc Cert.RDpreIdeal.main_arg1) = m ((c.tc : Thread Cert.RDpreIdeal.nD Cert.RDpreIdeal.τ).loc Cert.RDpreIdeal.main_arg1))
      ∧ r.2.sem = fun _ => 0)

def quiescent_KUp [hKUp : Cert.KUp.Facts] : Prop :=
  ∀ (m : (ℓ : Loc Cert.KUp.nD Cert.KUp.τ Cert.KUp.sig) → Buf (Elt Bits) ℓ) (g : Dev Cert.KUp.nD → PrngReg), Pre_KUp m →
    θ_run (Cert.KUp.defs (F := Bits)) (onTc (τ := Cert.KUp.τ) (Cert.KUp.main (F := Bits))) ⟨m, fun _ => 0, g⟩ (fun r => (∀ c : Dev Cert.KUp.nD,
      r.2.mem ((c.tc : Thread Cert.KUp.nD Cert.KUp.τ).loc Cert.KUp.main_arg0) = m ((c.tc : Thread Cert.KUp.nD Cert.KUp.τ).loc Cert.KUp.main_arg0)
      ∧ r.2.mem ((c.tc : Thread Cert.KUp.nD Cert.KUp.τ).loc Cert.KUp.main_arg1) = m ((c.tc : Thread Cert.KUp.nD Cert.KUp.τ).loc Cert.KUp.main_arg1))
      ∧ r.2.sem = fun _ => 0)

def quiescent_KUpIdeal [hKUpIdeal : Cert.KUpIdeal.Facts] : Prop :=
  ∀ (m : (ℓ : Loc Cert.KUpIdeal.nD Cert.KUpIdeal.τ Cert.KUpIdeal.sig) → Buf (Elt Ideal) ℓ) (g : Dev Cert.KUpIdeal.nD → PrngReg), Pre_KUpIdeal m →
    θ_run (Cert.KUpIdeal.defs (F := Ideal)) (onTc (τ := Cert.KUpIdeal.τ) (Cert.KUpIdeal.main (F := Ideal))) ⟨m, fun _ => 0, g⟩ (fun r => (∀ c : Dev Cert.KUpIdeal.nD,
      r.2.mem ((c.tc : Thread Cert.KUpIdeal.nD Cert.KUpIdeal.τ).loc Cert.KUpIdeal.main_arg0) = m ((c.tc : Thread Cert.KUpIdeal.nD Cert.KUpIdeal.τ).loc Cert.KUpIdeal.main_arg0)
      ∧ r.2.mem ((c.tc : Thread Cert.KUpIdeal.nD Cert.KUpIdeal.τ).loc Cert.KUpIdeal.main_arg1) = m ((c.tc : Thread Cert.KUpIdeal.nD Cert.KUpIdeal.τ).loc Cert.KUpIdeal.main_arg1))
      ∧ r.2.sem = fun _ => 0)

def quiescent_RUpIdeal [hRUpIdeal : Cert.RUpIdeal.Facts] : Prop :=
  ∀ (m : (ℓ : Loc Cert.RUpIdeal.nD Cert.RUpIdeal.τ Cert.RUpIdeal.sig) → Buf (Elt Ideal) ℓ) (g : Dev Cert.RUpIdeal.nD → PrngReg), Pre_RUpIdeal m →
    θ_run (Cert.RUpIdeal.defs (F := Ideal)) (onTc (τ := Cert.RUpIdeal.τ) (Cert.RUpIdeal.main (F := Ideal))) ⟨m, fun _ => 0, g⟩ (fun r => (∀ c : Dev Cert.RUpIdeal.nD,
      r.2.mem ((c.tc : Thread Cert.RUpIdeal.nD Cert.RUpIdeal.τ).loc Cert.RUpIdeal.main_arg0) = m ((c.tc : Thread Cert.RUpIdeal.nD Cert.RUpIdeal.τ).loc Cert.RUpIdeal.main_arg0)
      ∧ r.2.mem ((c.tc : Thread Cert.RUpIdeal.nD Cert.RUpIdeal.τ).loc Cert.RUpIdeal.main_arg1) = m ((c.tc : Thread Cert.RUpIdeal.nD Cert.RUpIdeal.τ).loc Cert.RUpIdeal.main_arg1))
      ∧ r.2.sem = fun _ => 0)

def quiescent_KDown [hKDown : Cert.KDown.Facts] : Prop :=
  ∀ (m : (ℓ : Loc Cert.KDown.nD Cert.KDown.τ Cert.KDown.sig) → Buf (Elt Bits) ℓ) (g : Dev Cert.KDown.nD → PrngReg), Pre_KDown m →
    θ_run (Cert.KDown.defs (F := Bits)) (onTc (τ := Cert.KDown.τ) (Cert.KDown.main (F := Bits))) ⟨m, fun _ => 0, g⟩ (fun r => (∀ c : Dev Cert.KDown.nD,
      r.2.mem ((c.tc : Thread Cert.KDown.nD Cert.KDown.τ).loc Cert.KDown.main_arg0) = m ((c.tc : Thread Cert.KDown.nD Cert.KDown.τ).loc Cert.KDown.main_arg0)
      ∧ r.2.mem ((c.tc : Thread Cert.KDown.nD Cert.KDown.τ).loc Cert.KDown.main_arg1) = m ((c.tc : Thread Cert.KDown.nD Cert.KDown.τ).loc Cert.KDown.main_arg1)
      ∧ r.2.mem ((c.tc : Thread Cert.KDown.nD Cert.KDown.τ).loc Cert.KDown.main_arg2) = m ((c.tc : Thread Cert.KDown.nD Cert.KDown.τ).loc Cert.KDown.main_arg2)
      ∧ r.2.mem ((c.tc : Thread Cert.KDown.nD Cert.KDown.τ).loc Cert.KDown.main_arg3) = m ((c.tc : Thread Cert.KDown.nD Cert.KDown.τ).loc Cert.KDown.main_arg3))
      ∧ r.2.sem = fun _ => 0)

def quiescent_KDownIdeal [hKDownIdeal : Cert.KDownIdeal.Facts] : Prop :=
  ∀ (m : (ℓ : Loc Cert.KDownIdeal.nD Cert.KDownIdeal.τ Cert.KDownIdeal.sig) → Buf (Elt Ideal) ℓ) (g : Dev Cert.KDownIdeal.nD → PrngReg), Pre_KDownIdeal m →
    θ_run (Cert.KDownIdeal.defs (F := Ideal)) (onTc (τ := Cert.KDownIdeal.τ) (Cert.KDownIdeal.main (F := Ideal))) ⟨m, fun _ => 0, g⟩ (fun r => (∀ c : Dev Cert.KDownIdeal.nD,
      r.2.mem ((c.tc : Thread Cert.KDownIdeal.nD Cert.KDownIdeal.τ).loc Cert.KDownIdeal.main_arg0) = m ((c.tc : Thread Cert.KDownIdeal.nD Cert.KDownIdeal.τ).loc Cert.KDownIdeal.main_arg0)
      ∧ r.2.mem ((c.tc : Thread Cert.KDownIdeal.nD Cert.KDownIdeal.τ).loc Cert.KDownIdeal.main_arg1) = m ((c.tc : Thread Cert.KDownIdeal.nD Cert.KDownIdeal.τ).loc Cert.KDownIdeal.main_arg1)
      ∧ r.2.mem ((c.tc : Thread Cert.KDownIdeal.nD Cert.KDownIdeal.τ).loc Cert.KDownIdeal.main_arg2) = m ((c.tc : Thread Cert.KDownIdeal.nD Cert.KDownIdeal.τ).loc Cert.KDownIdeal.main_arg2)
      ∧ r.2.mem ((c.tc : Thread Cert.KDownIdeal.nD Cert.KDownIdeal.τ).loc Cert.KDownIdeal.main_arg3) = m ((c.tc : Thread Cert.KDownIdeal.nD Cert.KDownIdeal.τ).loc Cert.KDownIdeal.main_arg3))
      ∧ r.2.sem = fun _ => 0)

def quiescent_RDownIdeal [hRDownIdeal : Cert.RDownIdeal.Facts] : Prop :=
  ∀ (m : (ℓ : Loc Cert.RDownIdeal.nD Cert.RDownIdeal.τ Cert.RDownIdeal.sig) → Buf (Elt Ideal) ℓ) (g : Dev Cert.RDownIdeal.nD → PrngReg), Pre_RDownIdeal m →
    θ_run (Cert.RDownIdeal.defs (F := Ideal)) (onTc (τ := Cert.RDownIdeal.τ) (Cert.RDownIdeal.main (F := Ideal))) ⟨m, fun _ => 0, g⟩ (fun r => (∀ c : Dev Cert.RDownIdeal.nD,
      r.2.mem ((c.tc : Thread Cert.RDownIdeal.nD Cert.RDownIdeal.τ).loc Cert.RDownIdeal.main_arg0) = m ((c.tc : Thread Cert.RDownIdeal.nD Cert.RDownIdeal.τ).loc Cert.RDownIdeal.main_arg0)
      ∧ r.2.mem ((c.tc : Thread Cert.RDownIdeal.nD Cert.RDownIdeal.τ).loc Cert.RDownIdeal.main_arg1) = m ((c.tc : Thread Cert.RDownIdeal.nD Cert.RDownIdeal.τ).loc Cert.RDownIdeal.main_arg1)
      ∧ r.2.mem ((c.tc : Thread Cert.RDownIdeal.nD Cert.RDownIdeal.τ).loc Cert.RDownIdeal.main_arg2) = m ((c.tc : Thread Cert.RDownIdeal.nD Cert.RDownIdeal.τ).loc Cert.RDownIdeal.main_arg2)
      ∧ r.2.mem ((c.tc : Thread Cert.RDownIdeal.nD Cert.RDownIdeal.τ).loc Cert.RDownIdeal.main_arg3) = m ((c.tc : Thread Cert.RDownIdeal.nD Cert.RDownIdeal.τ).loc Cert.RDownIdeal.main_arg3))
      ∧ r.2.sem = fun _ => 0)

def quiescent_KLoss [hKLoss : Cert.KLoss.Facts] : Prop :=
  ∀ (m : (ℓ : Loc Cert.KLoss.nD Cert.KLoss.τ Cert.KLoss.sig) → Buf (Elt Bits) ℓ) (g : Dev Cert.KLoss.nD → PrngReg), Pre_KLoss m →
    θ_run (Cert.KLoss.defs (F := Bits)) (onTc (τ := Cert.KLoss.τ) (Cert.KLoss.main (F := Bits))) ⟨m, fun _ => 0, g⟩ (fun r => (∀ c : Dev Cert.KLoss.nD,
      r.2.mem ((c.tc : Thread Cert.KLoss.nD Cert.KLoss.τ).loc Cert.KLoss.main_arg0) = m ((c.tc : Thread Cert.KLoss.nD Cert.KLoss.τ).loc Cert.KLoss.main_arg0)
      ∧ r.2.mem ((c.tc : Thread Cert.KLoss.nD Cert.KLoss.τ).loc Cert.KLoss.main_arg1) = m ((c.tc : Thread Cert.KLoss.nD Cert.KLoss.τ).loc Cert.KLoss.main_arg1)
      ∧ r.2.mem ((c.tc : Thread Cert.KLoss.nD Cert.KLoss.τ).loc Cert.KLoss.main_arg2) = m ((c.tc : Thread Cert.KLoss.nD Cert.KLoss.τ).loc Cert.KLoss.main_arg2)
      ∧ r.2.mem ((c.tc : Thread Cert.KLoss.nD Cert.KLoss.τ).loc Cert.KLoss.main_arg3) = m ((c.tc : Thread Cert.KLoss.nD Cert.KLoss.τ).loc Cert.KLoss.main_arg3)
      ∧ r.2.mem ((c.tc : Thread Cert.KLoss.nD Cert.KLoss.τ).loc Cert.KLoss.main_arg4) = m ((c.tc : Thread Cert.KLoss.nD Cert.KLoss.τ).loc Cert.KLoss.main_arg4))
      ∧ r.2.sem = fun _ => 0)

def quiescent_KLossIdeal [hKLossIdeal : Cert.KLossIdeal.Facts] : Prop :=
  ∀ (m : (ℓ : Loc Cert.KLossIdeal.nD Cert.KLossIdeal.τ Cert.KLossIdeal.sig) → Buf (Elt Ideal) ℓ) (g : Dev Cert.KLossIdeal.nD → PrngReg), Pre_KLossIdeal m →
    θ_run (Cert.KLossIdeal.defs (F := Ideal)) (onTc (τ := Cert.KLossIdeal.τ) (Cert.KLossIdeal.main (F := Ideal))) ⟨m, fun _ => 0, g⟩ (fun r => (∀ c : Dev Cert.KLossIdeal.nD,
      r.2.mem ((c.tc : Thread Cert.KLossIdeal.nD Cert.KLossIdeal.τ).loc Cert.KLossIdeal.main_arg0) = m ((c.tc : Thread Cert.KLossIdeal.nD Cert.KLossIdeal.τ).loc Cert.KLossIdeal.main_arg0)
      ∧ r.2.mem ((c.tc : Thread Cert.KLossIdeal.nD Cert.KLossIdeal.τ).loc Cert.KLossIdeal.main_arg1) = m ((c.tc : Thread Cert.KLossIdeal.nD Cert.KLossIdeal.τ).loc Cert.KLossIdeal.main_arg1)
      ∧ r.2.mem ((c.tc : Thread Cert.KLossIdeal.nD Cert.KLossIdeal.τ).loc Cert.KLossIdeal.main_arg2) = m ((c.tc : Thread Cert.KLossIdeal.nD Cert.KLossIdeal.τ).loc Cert.KLossIdeal.main_arg2)
      ∧ r.2.mem ((c.tc : Thread Cert.KLossIdeal.nD Cert.KLossIdeal.τ).loc Cert.KLossIdeal.main_arg3) = m ((c.tc : Thread Cert.KLossIdeal.nD Cert.KLossIdeal.τ).loc Cert.KLossIdeal.main_arg3)
      ∧ r.2.mem ((c.tc : Thread Cert.KLossIdeal.nD Cert.KLossIdeal.τ).loc Cert.KLossIdeal.main_arg4) = m ((c.tc : Thread Cert.KLossIdeal.nD Cert.KLossIdeal.τ).loc Cert.KLossIdeal.main_arg4))
      ∧ r.2.sem = fun _ => 0)

def quiescent_RLossIdeal [hRLossIdeal : Cert.RLossIdeal.Facts] : Prop :=
  ∀ (m : (ℓ : Loc Cert.RLossIdeal.nD Cert.RLossIdeal.τ Cert.RLossIdeal.sig) → Buf (Elt Ideal) ℓ) (g : Dev Cert.RLossIdeal.nD → PrngReg), Pre_RLossIdeal m →
    θ_run (Cert.RLossIdeal.defs (F := Ideal)) (onTc (τ := Cert.RLossIdeal.τ) (Cert.RLossIdeal.main (F := Ideal))) ⟨m, fun _ => 0, g⟩ (fun r => (∀ c : Dev Cert.RLossIdeal.nD,
      r.2.mem ((c.tc : Thread Cert.RLossIdeal.nD Cert.RLossIdeal.τ).loc Cert.RLossIdeal.main_arg0) = m ((c.tc : Thread Cert.RLossIdeal.nD Cert.RLossIdeal.τ).loc Cert.RLossIdeal.main_arg0)
      ∧ r.2.mem ((c.tc : Thread Cert.RLossIdeal.nD Cert.RLossIdeal.τ).loc Cert.RLossIdeal.main_arg1) = m ((c.tc : Thread Cert.RLossIdeal.nD Cert.RLossIdeal.τ).loc Cert.RLossIdeal.main_arg1)
      ∧ r.2.mem ((c.tc : Thread Cert.RLossIdeal.nD Cert.RLossIdeal.τ).loc Cert.RLossIdeal.main_arg2) = m ((c.tc : Thread Cert.RLossIdeal.nD Cert.RLossIdeal.τ).loc Cert.RLossIdeal.main_arg2)
      ∧ r.2.mem ((c.tc : Thread Cert.RLossIdeal.nD Cert.RLossIdeal.τ).loc Cert.RLossIdeal.main_arg3) = m ((c.tc : Thread Cert.RLossIdeal.nD Cert.RLossIdeal.τ).loc Cert.RLossIdeal.main_arg3)
      ∧ r.2.mem ((c.tc : Thread Cert.RLossIdeal.nD Cert.RLossIdeal.τ).loc Cert.RLossIdeal.main_arg4) = m ((c.tc : Thread Cert.RLossIdeal.nD Cert.RLossIdeal.τ).loc Cert.RLossIdeal.main_arg4))
      ∧ r.2.sem = fun _ => 0)

def quiescent_KOut [hKOut : Cert.KOut.Facts] : Prop :=
  ∀ (m : (ℓ : Loc Cert.KOut.nD Cert.KOut.τ Cert.KOut.sig) → Buf (Elt Bits) ℓ) (g : Dev Cert.KOut.nD → PrngReg), Pre_KOut m →
    θ_run (Cert.KOut.defs (F := Bits)) (onTc (τ := Cert.KOut.τ) (Cert.KOut.main (F := Bits))) ⟨m, fun _ => 0, g⟩ (fun r => (∀ c : Dev Cert.KOut.nD,
      r.2.mem ((c.tc : Thread Cert.KOut.nD Cert.KOut.τ).loc Cert.KOut.main_arg0) = m ((c.tc : Thread Cert.KOut.nD Cert.KOut.τ).loc Cert.KOut.main_arg0)
      ∧ r.2.mem ((c.tc : Thread Cert.KOut.nD Cert.KOut.τ).loc Cert.KOut.main_arg1) = m ((c.tc : Thread Cert.KOut.nD Cert.KOut.τ).loc Cert.KOut.main_arg1)
      ∧ r.2.mem ((c.tc : Thread Cert.KOut.nD Cert.KOut.τ).loc Cert.KOut.main_arg2) = m ((c.tc : Thread Cert.KOut.nD Cert.KOut.τ).loc Cert.KOut.main_arg2)
      ∧ r.2.mem ((c.tc : Thread Cert.KOut.nD Cert.KOut.τ).loc Cert.KOut.main_arg3) = m ((c.tc : Thread Cert.KOut.nD Cert.KOut.τ).loc Cert.KOut.main_arg3))
      ∧ r.2.sem = fun _ => 0)

def quiescent_KOutIdeal [hKOutIdeal : Cert.KOutIdeal.Facts] : Prop :=
  ∀ (m : (ℓ : Loc Cert.KOutIdeal.nD Cert.KOutIdeal.τ Cert.KOutIdeal.sig) → Buf (Elt Ideal) ℓ) (g : Dev Cert.KOutIdeal.nD → PrngReg), Pre_KOutIdeal m →
    θ_run (Cert.KOutIdeal.defs (F := Ideal)) (onTc (τ := Cert.KOutIdeal.τ) (Cert.KOutIdeal.main (F := Ideal))) ⟨m, fun _ => 0, g⟩ (fun r => (∀ c : Dev Cert.KOutIdeal.nD,
      r.2.mem ((c.tc : Thread Cert.KOutIdeal.nD Cert.KOutIdeal.τ).loc Cert.KOutIdeal.main_arg0) = m ((c.tc : Thread Cert.KOutIdeal.nD Cert.KOutIdeal.τ).loc Cert.KOutIdeal.main_arg0)
      ∧ r.2.mem ((c.tc : Thread Cert.KOutIdeal.nD Cert.KOutIdeal.τ).loc Cert.KOutIdeal.main_arg1) = m ((c.tc : Thread Cert.KOutIdeal.nD Cert.KOutIdeal.τ).loc Cert.KOutIdeal.main_arg1)
      ∧ r.2.mem ((c.tc : Thread Cert.KOutIdeal.nD Cert.KOutIdeal.τ).loc Cert.KOutIdeal.main_arg2) = m ((c.tc : Thread Cert.KOutIdeal.nD Cert.KOutIdeal.τ).loc Cert.KOutIdeal.main_arg2)
      ∧ r.2.mem ((c.tc : Thread Cert.KOutIdeal.nD Cert.KOutIdeal.τ).loc Cert.KOutIdeal.main_arg3) = m ((c.tc : Thread Cert.KOutIdeal.nD Cert.KOutIdeal.τ).loc Cert.KOutIdeal.main_arg3))
      ∧ r.2.sem = fun _ => 0)

def quiescent_ROutIdeal [hROutIdeal : Cert.ROutIdeal.Facts] : Prop :=
  ∀ (m : (ℓ : Loc Cert.ROutIdeal.nD Cert.ROutIdeal.τ Cert.ROutIdeal.sig) → Buf (Elt Ideal) ℓ) (g : Dev Cert.ROutIdeal.nD → PrngReg), Pre_ROutIdeal m →
    θ_run (Cert.ROutIdeal.defs (F := Ideal)) (onTc (τ := Cert.ROutIdeal.τ) (Cert.ROutIdeal.main (F := Ideal))) ⟨m, fun _ => 0, g⟩ (fun r => (∀ c : Dev Cert.ROutIdeal.nD,
      r.2.mem ((c.tc : Thread Cert.ROutIdeal.nD Cert.ROutIdeal.τ).loc Cert.ROutIdeal.main_arg0) = m ((c.tc : Thread Cert.ROutIdeal.nD Cert.ROutIdeal.τ).loc Cert.ROutIdeal.main_arg0)
      ∧ r.2.mem ((c.tc : Thread Cert.ROutIdeal.nD Cert.ROutIdeal.τ).loc Cert.ROutIdeal.main_arg1) = m ((c.tc : Thread Cert.ROutIdeal.nD Cert.ROutIdeal.τ).loc Cert.ROutIdeal.main_arg1)
      ∧ r.2.mem ((c.tc : Thread Cert.ROutIdeal.nD Cert.ROutIdeal.τ).loc Cert.ROutIdeal.main_arg2) = m ((c.tc : Thread Cert.ROutIdeal.nD Cert.ROutIdeal.τ).loc Cert.ROutIdeal.main_arg2)
      ∧ r.2.mem ((c.tc : Thread Cert.ROutIdeal.nD Cert.ROutIdeal.τ).loc Cert.ROutIdeal.main_arg3) = m ((c.tc : Thread Cert.ROutIdeal.nD Cert.ROutIdeal.τ).loc Cert.ROutIdeal.main_arg3))
      ∧ r.2.sem = fun _ => 0)

def quiescent_KIn [hKIn : Cert.KIn.Facts] : Prop :=
  ∀ (m : (ℓ : Loc Cert.KIn.nD Cert.KIn.τ Cert.KIn.sig) → Buf (Elt Bits) ℓ) (g : Dev Cert.KIn.nD → PrngReg), Pre_KIn m →
    θ_run (Cert.KIn.defs (F := Bits)) (onTc (τ := Cert.KIn.τ) (Cert.KIn.main (F := Bits))) ⟨m, fun _ => 0, g⟩ (fun r => (∀ c : Dev Cert.KIn.nD,
      r.2.mem ((c.tc : Thread Cert.KIn.nD Cert.KIn.τ).loc Cert.KIn.main_arg0) = m ((c.tc : Thread Cert.KIn.nD Cert.KIn.τ).loc Cert.KIn.main_arg0)
      ∧ r.2.mem ((c.tc : Thread Cert.KIn.nD Cert.KIn.τ).loc Cert.KIn.main_arg1) = m ((c.tc : Thread Cert.KIn.nD Cert.KIn.τ).loc Cert.KIn.main_arg1))
      ∧ r.2.sem = fun _ => 0)

def quiescent_KInIdeal [hKInIdeal : Cert.KInIdeal.Facts] : Prop :=
  ∀ (m : (ℓ : Loc Cert.KInIdeal.nD Cert.KInIdeal.τ Cert.KInIdeal.sig) → Buf (Elt Ideal) ℓ) (g : Dev Cert.KInIdeal.nD → PrngReg), Pre_KInIdeal m →
    θ_run (Cert.KInIdeal.defs (F := Ideal)) (onTc (τ := Cert.KInIdeal.τ) (Cert.KInIdeal.main (F := Ideal))) ⟨m, fun _ => 0, g⟩ (fun r => (∀ c : Dev Cert.KInIdeal.nD,
      r.2.mem ((c.tc : Thread Cert.KInIdeal.nD Cert.KInIdeal.τ).loc Cert.KInIdeal.main_arg0) = m ((c.tc : Thread Cert.KInIdeal.nD Cert.KInIdeal.τ).loc Cert.KInIdeal.main_arg0)
      ∧ r.2.mem ((c.tc : Thread Cert.KInIdeal.nD Cert.KInIdeal.τ).loc Cert.KInIdeal.main_arg1) = m ((c.tc : Thread Cert.KInIdeal.nD Cert.KInIdeal.τ).loc Cert.KInIdeal.main_arg1))
      ∧ r.2.sem = fun _ => 0)

def quiescent_RInIdeal [hRInIdeal : Cert.RInIdeal.Facts] : Prop :=
  ∀ (m : (ℓ : Loc Cert.RInIdeal.nD Cert.RInIdeal.τ Cert.RInIdeal.sig) → Buf (Elt Ideal) ℓ) (g : Dev Cert.RInIdeal.nD → PrngReg), Pre_RInIdeal m →
    θ_run (Cert.RInIdeal.defs (F := Ideal)) (onTc (τ := Cert.RInIdeal.τ) (Cert.RInIdeal.main (F := Ideal))) ⟨m, fun _ => 0, g⟩ (fun r => (∀ c : Dev Cert.RInIdeal.nD,
      r.2.mem ((c.tc : Thread Cert.RInIdeal.nD Cert.RInIdeal.τ).loc Cert.RInIdeal.main_arg0) = m ((c.tc : Thread Cert.RInIdeal.nD Cert.RInIdeal.τ).loc Cert.RInIdeal.main_arg0)
      ∧ r.2.mem ((c.tc : Thread Cert.RInIdeal.nD Cert.RInIdeal.τ).loc Cert.RInIdeal.main_arg1) = m ((c.tc : Thread Cert.RInIdeal.nD Cert.RInIdeal.τ).loc Cert.RInIdeal.main_arg1))
      ∧ r.2.sem = fun _ => 0)

def quiescent_KMup [hKMup : Cert.KMup.Facts] : Prop :=
  ∀ (m : (ℓ : Loc Cert.KMup.nD Cert.KMup.τ Cert.KMup.sig) → Buf (Elt Bits) ℓ) (g : Dev Cert.KMup.nD → PrngReg), Pre_KMup m →
    θ_run (Cert.KMup.defs (F := Bits)) (onTc (τ := Cert.KMup.τ) (Cert.KMup.main (F := Bits))) ⟨m, fun _ => 0, g⟩ (fun r => (∀ c : Dev Cert.KMup.nD,
      r.2.mem ((c.tc : Thread Cert.KMup.nD Cert.KMup.τ).loc Cert.KMup.main_arg0) = m ((c.tc : Thread Cert.KMup.nD Cert.KMup.τ).loc Cert.KMup.main_arg0)
      ∧ r.2.mem ((c.tc : Thread Cert.KMup.nD Cert.KMup.τ).loc Cert.KMup.main_arg1) = m ((c.tc : Thread Cert.KMup.nD Cert.KMup.τ).loc Cert.KMup.main_arg1)
      ∧ r.2.mem ((c.tc : Thread Cert.KMup.nD Cert.KMup.τ).loc Cert.KMup.main_arg2) = m ((c.tc : Thread Cert.KMup.nD Cert.KMup.τ).loc Cert.KMup.main_arg2)
      ∧ r.2.mem ((c.tc : Thread Cert.KMup.nD Cert.KMup.τ).loc Cert.KMup.main_arg3) = m ((c.tc : Thread Cert.KMup.nD Cert.KMup.τ).loc Cert.KMup.main_arg3)
      ∧ r.2.mem ((c.tc : Thread Cert.KMup.nD Cert.KMup.τ).loc Cert.KMup.main_arg4) = m ((c.tc : Thread Cert.KMup.nD Cert.KMup.τ).loc Cert.KMup.main_arg4)
      ∧ r.2.mem ((c.tc : Thread Cert.KMup.nD Cert.KMup.τ).loc Cert.KMup.main_arg5) = m ((c.tc : Thread Cert.KMup.nD Cert.KMup.τ).loc Cert.KMup.main_arg5))
      ∧ r.2.sem = fun _ => 0)

def quiescent_KMupIdeal [hKMupIdeal : Cert.KMupIdeal.Facts] : Prop :=
  ∀ (m : (ℓ : Loc Cert.KMupIdeal.nD Cert.KMupIdeal.τ Cert.KMupIdeal.sig) → Buf (Elt Ideal) ℓ) (g : Dev Cert.KMupIdeal.nD → PrngReg), Pre_KMupIdeal m →
    θ_run (Cert.KMupIdeal.defs (F := Ideal)) (onTc (τ := Cert.KMupIdeal.τ) (Cert.KMupIdeal.main (F := Ideal))) ⟨m, fun _ => 0, g⟩ (fun r => (∀ c : Dev Cert.KMupIdeal.nD,
      r.2.mem ((c.tc : Thread Cert.KMupIdeal.nD Cert.KMupIdeal.τ).loc Cert.KMupIdeal.main_arg0) = m ((c.tc : Thread Cert.KMupIdeal.nD Cert.KMupIdeal.τ).loc Cert.KMupIdeal.main_arg0)
      ∧ r.2.mem ((c.tc : Thread Cert.KMupIdeal.nD Cert.KMupIdeal.τ).loc Cert.KMupIdeal.main_arg1) = m ((c.tc : Thread Cert.KMupIdeal.nD Cert.KMupIdeal.τ).loc Cert.KMupIdeal.main_arg1)
      ∧ r.2.mem ((c.tc : Thread Cert.KMupIdeal.nD Cert.KMupIdeal.τ).loc Cert.KMupIdeal.main_arg2) = m ((c.tc : Thread Cert.KMupIdeal.nD Cert.KMupIdeal.τ).loc Cert.KMupIdeal.main_arg2)
      ∧ r.2.mem ((c.tc : Thread Cert.KMupIdeal.nD Cert.KMupIdeal.τ).loc Cert.KMupIdeal.main_arg3) = m ((c.tc : Thread Cert.KMupIdeal.nD Cert.KMupIdeal.τ).loc Cert.KMupIdeal.main_arg3)
      ∧ r.2.mem ((c.tc : Thread Cert.KMupIdeal.nD Cert.KMupIdeal.τ).loc Cert.KMupIdeal.main_arg4) = m ((c.tc : Thread Cert.KMupIdeal.nD Cert.KMupIdeal.τ).loc Cert.KMupIdeal.main_arg4)
      ∧ r.2.mem ((c.tc : Thread Cert.KMupIdeal.nD Cert.KMupIdeal.τ).loc Cert.KMupIdeal.main_arg5) = m ((c.tc : Thread Cert.KMupIdeal.nD Cert.KMupIdeal.τ).loc Cert.KMupIdeal.main_arg5))
      ∧ r.2.sem = fun _ => 0)

def quiescent_RMupIdeal [hRMupIdeal : Cert.RMupIdeal.Facts] : Prop :=
  ∀ (m : (ℓ : Loc Cert.RMupIdeal.nD Cert.RMupIdeal.τ Cert.RMupIdeal.sig) → Buf (Elt Ideal) ℓ) (g : Dev Cert.RMupIdeal.nD → PrngReg), Pre_RMupIdeal m →
    θ_run (Cert.RMupIdeal.defs (F := Ideal)) (onTc (τ := Cert.RMupIdeal.τ) (Cert.RMupIdeal.main (F := Ideal))) ⟨m, fun _ => 0, g⟩ (fun r => (∀ c : Dev Cert.RMupIdeal.nD,
      r.2.mem ((c.tc : Thread Cert.RMupIdeal.nD Cert.RMupIdeal.τ).loc Cert.RMupIdeal.main_arg0) = m ((c.tc : Thread Cert.RMupIdeal.nD Cert.RMupIdeal.τ).loc Cert.RMupIdeal.main_arg0)
      ∧ r.2.mem ((c.tc : Thread Cert.RMupIdeal.nD Cert.RMupIdeal.τ).loc Cert.RMupIdeal.main_arg1) = m ((c.tc : Thread Cert.RMupIdeal.nD Cert.RMupIdeal.τ).loc Cert.RMupIdeal.main_arg1)
      ∧ r.2.mem ((c.tc : Thread Cert.RMupIdeal.nD Cert.RMupIdeal.τ).loc Cert.RMupIdeal.main_arg2) = m ((c.tc : Thread Cert.RMupIdeal.nD Cert.RMupIdeal.τ).loc Cert.RMupIdeal.main_arg2)
      ∧ r.2.mem ((c.tc : Thread Cert.RMupIdeal.nD Cert.RMupIdeal.τ).loc Cert.RMupIdeal.main_arg3) = m ((c.tc : Thread Cert.RMupIdeal.nD Cert.RMupIdeal.τ).loc Cert.RMupIdeal.main_arg3)
      ∧ r.2.mem ((c.tc : Thread Cert.RMupIdeal.nD Cert.RMupIdeal.τ).loc Cert.RMupIdeal.main_arg4) = m ((c.tc : Thread Cert.RMupIdeal.nD Cert.RMupIdeal.τ).loc Cert.RMupIdeal.main_arg4)
      ∧ r.2.mem ((c.tc : Thread Cert.RMupIdeal.nD Cert.RMupIdeal.τ).loc Cert.RMupIdeal.main_arg5) = m ((c.tc : Thread Cert.RMupIdeal.nD Cert.RMupIdeal.τ).loc Cert.RMupIdeal.main_arg5))
      ∧ r.2.sem = fun _ => 0)

def quiescent_KNrm [hKNrm : Cert.KNrm.Facts] : Prop :=
  ∀ (m : (ℓ : Loc Cert.KNrm.nD Cert.KNrm.τ Cert.KNrm.sig) → Buf (Elt Bits) ℓ) (g : Dev Cert.KNrm.nD → PrngReg), Pre_KNrm m →
    θ_run (Cert.KNrm.defs (F := Bits)) (onTc (τ := Cert.KNrm.τ) (Cert.KNrm.main (F := Bits))) ⟨m, fun _ => 0, g⟩ (fun r => (∀ c : Dev Cert.KNrm.nD,
      r.2.mem ((c.tc : Thread Cert.KNrm.nD Cert.KNrm.τ).loc Cert.KNrm.main_arg0) = m ((c.tc : Thread Cert.KNrm.nD Cert.KNrm.τ).loc Cert.KNrm.main_arg0)
      ∧ r.2.mem ((c.tc : Thread Cert.KNrm.nD Cert.KNrm.τ).loc Cert.KNrm.main_arg1) = m ((c.tc : Thread Cert.KNrm.nD Cert.KNrm.τ).loc Cert.KNrm.main_arg1)
      ∧ r.2.mem ((c.tc : Thread Cert.KNrm.nD Cert.KNrm.τ).loc Cert.KNrm.main_arg2) = m ((c.tc : Thread Cert.KNrm.nD Cert.KNrm.τ).loc Cert.KNrm.main_arg2)
      ∧ r.2.mem ((c.tc : Thread Cert.KNrm.nD Cert.KNrm.τ).loc Cert.KNrm.main_arg3) = m ((c.tc : Thread Cert.KNrm.nD Cert.KNrm.τ).loc Cert.KNrm.main_arg3))
      ∧ r.2.sem = fun _ => 0)

def quiescent_KNrmIdeal [hKNrmIdeal : Cert.KNrmIdeal.Facts] : Prop :=
  ∀ (m : (ℓ : Loc Cert.KNrmIdeal.nD Cert.KNrmIdeal.τ Cert.KNrmIdeal.sig) → Buf (Elt Ideal) ℓ) (g : Dev Cert.KNrmIdeal.nD → PrngReg), Pre_KNrmIdeal m →
    θ_run (Cert.KNrmIdeal.defs (F := Ideal)) (onTc (τ := Cert.KNrmIdeal.τ) (Cert.KNrmIdeal.main (F := Ideal))) ⟨m, fun _ => 0, g⟩ (fun r => (∀ c : Dev Cert.KNrmIdeal.nD,
      r.2.mem ((c.tc : Thread Cert.KNrmIdeal.nD Cert.KNrmIdeal.τ).loc Cert.KNrmIdeal.main_arg0) = m ((c.tc : Thread Cert.KNrmIdeal.nD Cert.KNrmIdeal.τ).loc Cert.KNrmIdeal.main_arg0)
      ∧ r.2.mem ((c.tc : Thread Cert.KNrmIdeal.nD Cert.KNrmIdeal.τ).loc Cert.KNrmIdeal.main_arg1) = m ((c.tc : Thread Cert.KNrmIdeal.nD Cert.KNrmIdeal.τ).loc Cert.KNrmIdeal.main_arg1)
      ∧ r.2.mem ((c.tc : Thread Cert.KNrmIdeal.nD Cert.KNrmIdeal.τ).loc Cert.KNrmIdeal.main_arg2) = m ((c.tc : Thread Cert.KNrmIdeal.nD Cert.KNrmIdeal.τ).loc Cert.KNrmIdeal.main_arg2)
      ∧ r.2.mem ((c.tc : Thread Cert.KNrmIdeal.nD Cert.KNrmIdeal.τ).loc Cert.KNrmIdeal.main_arg3) = m ((c.tc : Thread Cert.KNrmIdeal.nD Cert.KNrmIdeal.τ).loc Cert.KNrmIdeal.main_arg3))
      ∧ r.2.sem = fun _ => 0)

def quiescent_RNrmIdeal [hRNrmIdeal : Cert.RNrmIdeal.Facts] : Prop :=
  ∀ (m : (ℓ : Loc Cert.RNrmIdeal.nD Cert.RNrmIdeal.τ Cert.RNrmIdeal.sig) → Buf (Elt Ideal) ℓ) (g : Dev Cert.RNrmIdeal.nD → PrngReg), Pre_RNrmIdeal m →
    θ_run (Cert.RNrmIdeal.defs (F := Ideal)) (onTc (τ := Cert.RNrmIdeal.τ) (Cert.RNrmIdeal.main (F := Ideal))) ⟨m, fun _ => 0, g⟩ (fun r => (∀ c : Dev Cert.RNrmIdeal.nD,
      r.2.mem ((c.tc : Thread Cert.RNrmIdeal.nD Cert.RNrmIdeal.τ).loc Cert.RNrmIdeal.main_arg0) = m ((c.tc : Thread Cert.RNrmIdeal.nD Cert.RNrmIdeal.τ).loc Cert.RNrmIdeal.main_arg0)
      ∧ r.2.mem ((c.tc : Thread Cert.RNrmIdeal.nD Cert.RNrmIdeal.τ).loc Cert.RNrmIdeal.main_arg1) = m ((c.tc : Thread Cert.RNrmIdeal.nD Cert.RNrmIdeal.τ).loc Cert.RNrmIdeal.main_arg1)
      ∧ r.2.mem ((c.tc : Thread Cert.RNrmIdeal.nD Cert.RNrmIdeal.τ).loc Cert.RNrmIdeal.main_arg2) = m ((c.tc : Thread Cert.RNrmIdeal.nD Cert.RNrmIdeal.τ).loc Cert.RNrmIdeal.main_arg2)
      ∧ r.2.mem ((c.tc : Thread Cert.RNrmIdeal.nD Cert.RNrmIdeal.τ).loc Cert.RNrmIdeal.main_arg3) = m ((c.tc : Thread Cert.RNrmIdeal.nD Cert.RNrmIdeal.τ).loc Cert.RNrmIdeal.main_arg3))
      ∧ r.2.sem = fun _ => 0)

def quiescent_KNbw [hKNbw : Cert.KNbw.Facts] : Prop :=
  ∀ (m : (ℓ : Loc Cert.KNbw.nD Cert.KNbw.τ Cert.KNbw.sig) → Buf (Elt Bits) ℓ) (g : Dev Cert.KNbw.nD → PrngReg), Pre_KNbw m →
    θ_run (Cert.KNbw.defs (F := Bits)) (onTc (τ := Cert.KNbw.τ) (Cert.KNbw.main (F := Bits))) ⟨m, fun _ => 0, g⟩ (fun r => (∀ c : Dev Cert.KNbw.nD,
      r.2.mem ((c.tc : Thread Cert.KNbw.nD Cert.KNbw.τ).loc Cert.KNbw.main_arg0) = m ((c.tc : Thread Cert.KNbw.nD Cert.KNbw.τ).loc Cert.KNbw.main_arg0)
      ∧ r.2.mem ((c.tc : Thread Cert.KNbw.nD Cert.KNbw.τ).loc Cert.KNbw.main_arg1) = m ((c.tc : Thread Cert.KNbw.nD Cert.KNbw.τ).loc Cert.KNbw.main_arg1)
      ∧ r.2.mem ((c.tc : Thread Cert.KNbw.nD Cert.KNbw.τ).loc Cert.KNbw.main_arg2) = m ((c.tc : Thread Cert.KNbw.nD Cert.KNbw.τ).loc Cert.KNbw.main_arg2)
      ∧ r.2.mem ((c.tc : Thread Cert.KNbw.nD Cert.KNbw.τ).loc Cert.KNbw.main_arg3) = m ((c.tc : Thread Cert.KNbw.nD Cert.KNbw.τ).loc Cert.KNbw.main_arg3)
      ∧ r.2.mem ((c.tc : Thread Cert.KNbw.nD Cert.KNbw.τ).loc Cert.KNbw.main_arg4) = m ((c.tc : Thread Cert.KNbw.nD Cert.KNbw.τ).loc Cert.KNbw.main_arg4)
      ∧ r.2.mem ((c.tc : Thread Cert.KNbw.nD Cert.KNbw.τ).loc Cert.KNbw.main_arg5) = m ((c.tc : Thread Cert.KNbw.nD Cert.KNbw.τ).loc Cert.KNbw.main_arg5)
      ∧ r.2.mem ((c.tc : Thread Cert.KNbw.nD Cert.KNbw.τ).loc Cert.KNbw.main_arg6) = m ((c.tc : Thread Cert.KNbw.nD Cert.KNbw.τ).loc Cert.KNbw.main_arg6))
      ∧ r.2.sem = fun _ => 0)

def quiescent_KNbwIdeal [hKNbwIdeal : Cert.KNbwIdeal.Facts] : Prop :=
  ∀ (m : (ℓ : Loc Cert.KNbwIdeal.nD Cert.KNbwIdeal.τ Cert.KNbwIdeal.sig) → Buf (Elt Ideal) ℓ) (g : Dev Cert.KNbwIdeal.nD → PrngReg), Pre_KNbwIdeal m →
    θ_run (Cert.KNbwIdeal.defs (F := Ideal)) (onTc (τ := Cert.KNbwIdeal.τ) (Cert.KNbwIdeal.main (F := Ideal))) ⟨m, fun _ => 0, g⟩ (fun r => (∀ c : Dev Cert.KNbwIdeal.nD,
      r.2.mem ((c.tc : Thread Cert.KNbwIdeal.nD Cert.KNbwIdeal.τ).loc Cert.KNbwIdeal.main_arg0) = m ((c.tc : Thread Cert.KNbwIdeal.nD Cert.KNbwIdeal.τ).loc Cert.KNbwIdeal.main_arg0)
      ∧ r.2.mem ((c.tc : Thread Cert.KNbwIdeal.nD Cert.KNbwIdeal.τ).loc Cert.KNbwIdeal.main_arg1) = m ((c.tc : Thread Cert.KNbwIdeal.nD Cert.KNbwIdeal.τ).loc Cert.KNbwIdeal.main_arg1)
      ∧ r.2.mem ((c.tc : Thread Cert.KNbwIdeal.nD Cert.KNbwIdeal.τ).loc Cert.KNbwIdeal.main_arg2) = m ((c.tc : Thread Cert.KNbwIdeal.nD Cert.KNbwIdeal.τ).loc Cert.KNbwIdeal.main_arg2)
      ∧ r.2.mem ((c.tc : Thread Cert.KNbwIdeal.nD Cert.KNbwIdeal.τ).loc Cert.KNbwIdeal.main_arg3) = m ((c.tc : Thread Cert.KNbwIdeal.nD Cert.KNbwIdeal.τ).loc Cert.KNbwIdeal.main_arg3)
      ∧ r.2.mem ((c.tc : Thread Cert.KNbwIdeal.nD Cert.KNbwIdeal.τ).loc Cert.KNbwIdeal.main_arg4) = m ((c.tc : Thread Cert.KNbwIdeal.nD Cert.KNbwIdeal.τ).loc Cert.KNbwIdeal.main_arg4)
      ∧ r.2.mem ((c.tc : Thread Cert.KNbwIdeal.nD Cert.KNbwIdeal.τ).loc Cert.KNbwIdeal.main_arg5) = m ((c.tc : Thread Cert.KNbwIdeal.nD Cert.KNbwIdeal.τ).loc Cert.KNbwIdeal.main_arg5)
      ∧ r.2.mem ((c.tc : Thread Cert.KNbwIdeal.nD Cert.KNbwIdeal.τ).loc Cert.KNbwIdeal.main_arg6) = m ((c.tc : Thread Cert.KNbwIdeal.nD Cert.KNbwIdeal.τ).loc Cert.KNbwIdeal.main_arg6))
      ∧ r.2.sem = fun _ => 0)

def quiescent_KNbwIdeal_pre_finite_nbw [hKNbwIdeal : Cert.KNbwIdeal.Facts] [hPre_finite_nbw : Cert.Pre_finite_nbw.Facts] : Prop :=
  ∀ (m : (ℓ : Loc Cert.KNbwIdeal.nD Cert.KNbwIdeal.τ Cert.KNbwIdeal.sig) → Buf (Elt Ideal) ℓ) (g : Dev Cert.KNbwIdeal.nD → PrngReg), Pre_KNbwIdeal_finite_nbw m →
    θ_run (Cert.KNbwIdeal.defs (F := Ideal)) (onTc (τ := Cert.KNbwIdeal.τ) (Cert.KNbwIdeal.main (F := Ideal))) ⟨m, fun _ => 0, g⟩ (fun r => (∀ c : Dev Cert.KNbwIdeal.nD,
      r.2.mem ((c.tc : Thread Cert.KNbwIdeal.nD Cert.KNbwIdeal.τ).loc Cert.KNbwIdeal.main_arg0) = m ((c.tc : Thread Cert.KNbwIdeal.nD Cert.KNbwIdeal.τ).loc Cert.KNbwIdeal.main_arg0)
      ∧ r.2.mem ((c.tc : Thread Cert.KNbwIdeal.nD Cert.KNbwIdeal.τ).loc Cert.KNbwIdeal.main_arg1) = m ((c.tc : Thread Cert.KNbwIdeal.nD Cert.KNbwIdeal.τ).loc Cert.KNbwIdeal.main_arg1)
      ∧ r.2.mem ((c.tc : Thread Cert.KNbwIdeal.nD Cert.KNbwIdeal.τ).loc Cert.KNbwIdeal.main_arg2) = m ((c.tc : Thread Cert.KNbwIdeal.nD Cert.KNbwIdeal.τ).loc Cert.KNbwIdeal.main_arg2)
      ∧ r.2.mem ((c.tc : Thread Cert.KNbwIdeal.nD Cert.KNbwIdeal.τ).loc Cert.KNbwIdeal.main_arg3) = m ((c.tc : Thread Cert.KNbwIdeal.nD Cert.KNbwIdeal.τ).loc Cert.KNbwIdeal.main_arg3)
      ∧ r.2.mem ((c.tc : Thread Cert.KNbwIdeal.nD Cert.KNbwIdeal.τ).loc Cert.KNbwIdeal.main_arg4) = m ((c.tc : Thread Cert.KNbwIdeal.nD Cert.KNbwIdeal.τ).loc Cert.KNbwIdeal.main_arg4)
      ∧ r.2.mem ((c.tc : Thread Cert.KNbwIdeal.nD Cert.KNbwIdeal.τ).loc Cert.KNbwIdeal.main_arg5) = m ((c.tc : Thread Cert.KNbwIdeal.nD Cert.KNbwIdeal.τ).loc Cert.KNbwIdeal.main_arg5)
      ∧ r.2.mem ((c.tc : Thread Cert.KNbwIdeal.nD Cert.KNbwIdeal.τ).loc Cert.KNbwIdeal.main_arg6) = m ((c.tc : Thread Cert.KNbwIdeal.nD Cert.KNbwIdeal.τ).loc Cert.KNbwIdeal.main_arg6))
      ∧ r.2.sem = fun _ => 0)

def quiescent_RNbwIdeal [hRNbwIdeal : Cert.RNbwIdeal.Facts] : Prop :=
  ∀ (m : (ℓ : Loc Cert.RNbwIdeal.nD Cert.RNbwIdeal.τ Cert.RNbwIdeal.sig) → Buf (Elt Ideal) ℓ) (g : Dev Cert.RNbwIdeal.nD → PrngReg), Pre_RNbwIdeal m →
    θ_run (Cert.RNbwIdeal.defs (F := Ideal)) (onTc (τ := Cert.RNbwIdeal.τ) (Cert.RNbwIdeal.main (F := Ideal))) ⟨m, fun _ => 0, g⟩ (fun r => (∀ c : Dev Cert.RNbwIdeal.nD,
      r.2.mem ((c.tc : Thread Cert.RNbwIdeal.nD Cert.RNbwIdeal.τ).loc Cert.RNbwIdeal.main_arg0) = m ((c.tc : Thread Cert.RNbwIdeal.nD Cert.RNbwIdeal.τ).loc Cert.RNbwIdeal.main_arg0)
      ∧ r.2.mem ((c.tc : Thread Cert.RNbwIdeal.nD Cert.RNbwIdeal.τ).loc Cert.RNbwIdeal.main_arg1) = m ((c.tc : Thread Cert.RNbwIdeal.nD Cert.RNbwIdeal.τ).loc Cert.RNbwIdeal.main_arg1)
      ∧ r.2.mem ((c.tc : Thread Cert.RNbwIdeal.nD Cert.RNbwIdeal.τ).loc Cert.RNbwIdeal.main_arg2) = m ((c.tc : Thread Cert.RNbwIdeal.nD Cert.RNbwIdeal.τ).loc Cert.RNbwIdeal.main_arg2)
      ∧ r.2.mem ((c.tc : Thread Cert.RNbwIdeal.nD Cert.RNbwIdeal.τ).loc Cert.RNbwIdeal.main_arg3) = m ((c.tc : Thread Cert.RNbwIdeal.nD Cert.RNbwIdeal.τ).loc Cert.RNbwIdeal.main_arg3)
      ∧ r.2.mem ((c.tc : Thread Cert.RNbwIdeal.nD Cert.RNbwIdeal.τ).loc Cert.RNbwIdeal.main_arg4) = m ((c.tc : Thread Cert.RNbwIdeal.nD Cert.RNbwIdeal.τ).loc Cert.RNbwIdeal.main_arg4)
      ∧ r.2.mem ((c.tc : Thread Cert.RNbwIdeal.nD Cert.RNbwIdeal.τ).loc Cert.RNbwIdeal.main_arg5) = m ((c.tc : Thread Cert.RNbwIdeal.nD Cert.RNbwIdeal.τ).loc Cert.RNbwIdeal.main_arg5)
      ∧ r.2.mem ((c.tc : Thread Cert.RNbwIdeal.nD Cert.RNbwIdeal.τ).loc Cert.RNbwIdeal.main_arg6) = m ((c.tc : Thread Cert.RNbwIdeal.nD Cert.RNbwIdeal.τ).loc Cert.RNbwIdeal.main_arg6))
      ∧ r.2.sem = fun _ => 0)

def quiescent_RNbwIdeal_pre_finite_nbw [hRNbwIdeal : Cert.RNbwIdeal.Facts] [hPre_finite_nbw : Cert.Pre_finite_nbw.Facts] : Prop :=
  ∀ (m : (ℓ : Loc Cert.RNbwIdeal.nD Cert.RNbwIdeal.τ Cert.RNbwIdeal.sig) → Buf (Elt Ideal) ℓ) (g : Dev Cert.RNbwIdeal.nD → PrngReg), Pre_RNbwIdeal_finite_nbw m →
    θ_run (Cert.RNbwIdeal.defs (F := Ideal)) (onTc (τ := Cert.RNbwIdeal.τ) (Cert.RNbwIdeal.main (F := Ideal))) ⟨m, fun _ => 0, g⟩ (fun r => (∀ c : Dev Cert.RNbwIdeal.nD,
      r.2.mem ((c.tc : Thread Cert.RNbwIdeal.nD Cert.RNbwIdeal.τ).loc Cert.RNbwIdeal.main_arg0) = m ((c.tc : Thread Cert.RNbwIdeal.nD Cert.RNbwIdeal.τ).loc Cert.RNbwIdeal.main_arg0)
      ∧ r.2.mem ((c.tc : Thread Cert.RNbwIdeal.nD Cert.RNbwIdeal.τ).loc Cert.RNbwIdeal.main_arg1) = m ((c.tc : Thread Cert.RNbwIdeal.nD Cert.RNbwIdeal.τ).loc Cert.RNbwIdeal.main_arg1)
      ∧ r.2.mem ((c.tc : Thread Cert.RNbwIdeal.nD Cert.RNbwIdeal.τ).loc Cert.RNbwIdeal.main_arg2) = m ((c.tc : Thread Cert.RNbwIdeal.nD Cert.RNbwIdeal.τ).loc Cert.RNbwIdeal.main_arg2)
      ∧ r.2.mem ((c.tc : Thread Cert.RNbwIdeal.nD Cert.RNbwIdeal.τ).loc Cert.RNbwIdeal.main_arg3) = m ((c.tc : Thread Cert.RNbwIdeal.nD Cert.RNbwIdeal.τ).loc Cert.RNbwIdeal.main_arg3)
      ∧ r.2.mem ((c.tc : Thread Cert.RNbwIdeal.nD Cert.RNbwIdeal.τ).loc Cert.RNbwIdeal.main_arg4) = m ((c.tc : Thread Cert.RNbwIdeal.nD Cert.RNbwIdeal.τ).loc Cert.RNbwIdeal.main_arg4)
      ∧ r.2.mem ((c.tc : Thread Cert.RNbwIdeal.nD Cert.RNbwIdeal.τ).loc Cert.RNbwIdeal.main_arg5) = m ((c.tc : Thread Cert.RNbwIdeal.nD Cert.RNbwIdeal.τ).loc Cert.RNbwIdeal.main_arg5)
      ∧ r.2.mem ((c.tc : Thread Cert.RNbwIdeal.nD Cert.RNbwIdeal.τ).loc Cert.RNbwIdeal.main_arg6) = m ((c.tc : Thread Cert.RNbwIdeal.nD Cert.RNbwIdeal.τ).loc Cert.RNbwIdeal.main_arg6))
      ∧ r.2.sem = fun _ => 0)

def quiescent_KAda [hKAda : Cert.KAda.Facts] : Prop :=
  ∀ (m : (ℓ : Loc Cert.KAda.nD Cert.KAda.τ Cert.KAda.sig) → Buf (Elt Bits) ℓ) (g : Dev Cert.KAda.nD → PrngReg), Pre_KAda m →
    θ_run (Cert.KAda.defs (F := Bits)) (onTc (τ := Cert.KAda.τ) (Cert.KAda.main (F := Bits))) ⟨m, fun _ => 0, g⟩ (fun r => (∀ c : Dev Cert.KAda.nD,
      r.2.mem ((c.tc : Thread Cert.KAda.nD Cert.KAda.τ).loc Cert.KAda.main_arg0) = m ((c.tc : Thread Cert.KAda.nD Cert.KAda.τ).loc Cert.KAda.main_arg0)
      ∧ r.2.mem ((c.tc : Thread Cert.KAda.nD Cert.KAda.τ).loc Cert.KAda.main_arg1) = m ((c.tc : Thread Cert.KAda.nD Cert.KAda.τ).loc Cert.KAda.main_arg1)
      ∧ r.2.mem ((c.tc : Thread Cert.KAda.nD Cert.KAda.τ).loc Cert.KAda.main_arg2) = m ((c.tc : Thread Cert.KAda.nD Cert.KAda.τ).loc Cert.KAda.main_arg2))
      ∧ r.2.sem = fun _ => 0)

def quiescent_KAdaIdeal [hKAdaIdeal : Cert.KAdaIdeal.Facts] : Prop :=
  ∀ (m : (ℓ : Loc Cert.KAdaIdeal.nD Cert.KAdaIdeal.τ Cert.KAdaIdeal.sig) → Buf (Elt Ideal) ℓ) (g : Dev Cert.KAdaIdeal.nD → PrngReg), Pre_KAdaIdeal m →
    θ_run (Cert.KAdaIdeal.defs (F := Ideal)) (onTc (τ := Cert.KAdaIdeal.τ) (Cert.KAdaIdeal.main (F := Ideal))) ⟨m, fun _ => 0, g⟩ (fun r => (∀ c : Dev Cert.KAdaIdeal.nD,
      r.2.mem ((c.tc : Thread Cert.KAdaIdeal.nD Cert.KAdaIdeal.τ).loc Cert.KAdaIdeal.main_arg0) = m ((c.tc : Thread Cert.KAdaIdeal.nD Cert.KAdaIdeal.τ).loc Cert.KAdaIdeal.main_arg0)
      ∧ r.2.mem ((c.tc : Thread Cert.KAdaIdeal.nD Cert.KAdaIdeal.τ).loc Cert.KAdaIdeal.main_arg1) = m ((c.tc : Thread Cert.KAdaIdeal.nD Cert.KAdaIdeal.τ).loc Cert.KAdaIdeal.main_arg1)
      ∧ r.2.mem ((c.tc : Thread Cert.KAdaIdeal.nD Cert.KAdaIdeal.τ).loc Cert.KAdaIdeal.main_arg2) = m ((c.tc : Thread Cert.KAdaIdeal.nD Cert.KAdaIdeal.τ).loc Cert.KAdaIdeal.main_arg2))
      ∧ r.2.sem = fun _ => 0)

def quiescent_RAdaIdeal [hRAdaIdeal : Cert.RAdaIdeal.Facts] : Prop :=
  ∀ (m : (ℓ : Loc Cert.RAdaIdeal.nD Cert.RAdaIdeal.τ Cert.RAdaIdeal.sig) → Buf (Elt Ideal) ℓ) (g : Dev Cert.RAdaIdeal.nD → PrngReg), Pre_RAdaIdeal m →
    θ_run (Cert.RAdaIdeal.defs (F := Ideal)) (onTc (τ := Cert.RAdaIdeal.τ) (Cert.RAdaIdeal.main (F := Ideal))) ⟨m, fun _ => 0, g⟩ (fun r => (∀ c : Dev Cert.RAdaIdeal.nD,
      r.2.mem ((c.tc : Thread Cert.RAdaIdeal.nD Cert.RAdaIdeal.τ).loc Cert.RAdaIdeal.main_arg0) = m ((c.tc : Thread Cert.RAdaIdeal.nD Cert.RAdaIdeal.τ).loc Cert.RAdaIdeal.main_arg0)
      ∧ r.2.mem ((c.tc : Thread Cert.RAdaIdeal.nD Cert.RAdaIdeal.τ).loc Cert.RAdaIdeal.main_arg1) = m ((c.tc : Thread Cert.RAdaIdeal.nD Cert.RAdaIdeal.τ).loc Cert.RAdaIdeal.main_arg1)
      ∧ r.2.mem ((c.tc : Thread Cert.RAdaIdeal.nD Cert.RAdaIdeal.τ).loc Cert.RAdaIdeal.main_arg2) = m ((c.tc : Thread Cert.RAdaIdeal.nD Cert.RAdaIdeal.τ).loc Cert.RAdaIdeal.main_arg2))
      ∧ r.2.sem = fun _ => 0)

def quiescent_KAdab [hKAdab : Cert.KAdab.Facts] : Prop :=
  ∀ (m : (ℓ : Loc Cert.KAdab.nD Cert.KAdab.τ Cert.KAdab.sig) → Buf (Elt Bits) ℓ) (g : Dev Cert.KAdab.nD → PrngReg), Pre_KAdab m →
    θ_run (Cert.KAdab.defs (F := Bits)) (onTc (τ := Cert.KAdab.τ) (Cert.KAdab.main (F := Bits))) ⟨m, fun _ => 0, g⟩ (fun r => (∀ c : Dev Cert.KAdab.nD,
      r.2.mem ((c.tc : Thread Cert.KAdab.nD Cert.KAdab.τ).loc Cert.KAdab.main_arg0) = m ((c.tc : Thread Cert.KAdab.nD Cert.KAdab.τ).loc Cert.KAdab.main_arg0)
      ∧ r.2.mem ((c.tc : Thread Cert.KAdab.nD Cert.KAdab.τ).loc Cert.KAdab.main_arg1) = m ((c.tc : Thread Cert.KAdab.nD Cert.KAdab.τ).loc Cert.KAdab.main_arg1)
      ∧ r.2.mem ((c.tc : Thread Cert.KAdab.nD Cert.KAdab.τ).loc Cert.KAdab.main_arg2) = m ((c.tc : Thread Cert.KAdab.nD Cert.KAdab.τ).loc Cert.KAdab.main_arg2)
      ∧ r.2.mem ((c.tc : Thread Cert.KAdab.nD Cert.KAdab.τ).loc Cert.KAdab.main_arg3) = m ((c.tc : Thread Cert.KAdab.nD Cert.KAdab.τ).loc Cert.KAdab.main_arg3)
      ∧ r.2.mem ((c.tc : Thread Cert.KAdab.nD Cert.KAdab.τ).loc Cert.KAdab.main_arg4) = m ((c.tc : Thread Cert.KAdab.nD Cert.KAdab.τ).loc Cert.KAdab.main_arg4))
      ∧ r.2.sem = fun _ => 0)

def quiescent_KAdabIdeal [hKAdabIdeal : Cert.KAdabIdeal.Facts] : Prop :=
  ∀ (m : (ℓ : Loc Cert.KAdabIdeal.nD Cert.KAdabIdeal.τ Cert.KAdabIdeal.sig) → Buf (Elt Ideal) ℓ) (g : Dev Cert.KAdabIdeal.nD → PrngReg), Pre_KAdabIdeal m →
    θ_run (Cert.KAdabIdeal.defs (F := Ideal)) (onTc (τ := Cert.KAdabIdeal.τ) (Cert.KAdabIdeal.main (F := Ideal))) ⟨m, fun _ => 0, g⟩ (fun r => (∀ c : Dev Cert.KAdabIdeal.nD,
      r.2.mem ((c.tc : Thread Cert.KAdabIdeal.nD Cert.KAdabIdeal.τ).loc Cert.KAdabIdeal.main_arg0) = m ((c.tc : Thread Cert.KAdabIdeal.nD Cert.KAdabIdeal.τ).loc Cert.KAdabIdeal.main_arg0)
      ∧ r.2.mem ((c.tc : Thread Cert.KAdabIdeal.nD Cert.KAdabIdeal.τ).loc Cert.KAdabIdeal.main_arg1) = m ((c.tc : Thread Cert.KAdabIdeal.nD Cert.KAdabIdeal.τ).loc Cert.KAdabIdeal.main_arg1)
      ∧ r.2.mem ((c.tc : Thread Cert.KAdabIdeal.nD Cert.KAdabIdeal.τ).loc Cert.KAdabIdeal.main_arg2) = m ((c.tc : Thread Cert.KAdabIdeal.nD Cert.KAdabIdeal.τ).loc Cert.KAdabIdeal.main_arg2)
      ∧ r.2.mem ((c.tc : Thread Cert.KAdabIdeal.nD Cert.KAdabIdeal.τ).loc Cert.KAdabIdeal.main_arg3) = m ((c.tc : Thread Cert.KAdabIdeal.nD Cert.KAdabIdeal.τ).loc Cert.KAdabIdeal.main_arg3)
      ∧ r.2.mem ((c.tc : Thread Cert.KAdabIdeal.nD Cert.KAdabIdeal.τ).loc Cert.KAdabIdeal.main_arg4) = m ((c.tc : Thread Cert.KAdabIdeal.nD Cert.KAdabIdeal.τ).loc Cert.KAdabIdeal.main_arg4))
      ∧ r.2.sem = fun _ => 0)

def quiescent_RAdabIdeal [hRAdabIdeal : Cert.RAdabIdeal.Facts] : Prop :=
  ∀ (m : (ℓ : Loc Cert.RAdabIdeal.nD Cert.RAdabIdeal.τ Cert.RAdabIdeal.sig) → Buf (Elt Ideal) ℓ) (g : Dev Cert.RAdabIdeal.nD → PrngReg), Pre_RAdabIdeal m →
    θ_run (Cert.RAdabIdeal.defs (F := Ideal)) (onTc (τ := Cert.RAdabIdeal.τ) (Cert.RAdabIdeal.main (F := Ideal))) ⟨m, fun _ => 0, g⟩ (fun r => (∀ c : Dev Cert.RAdabIdeal.nD,
      r.2.mem ((c.tc : Thread Cert.RAdabIdeal.nD Cert.RAdabIdeal.τ).loc Cert.RAdabIdeal.main_arg0) = m ((c.tc : Thread Cert.RAdabIdeal.nD Cert.RAdabIdeal.τ).loc Cert.RAdabIdeal.main_arg0)
      ∧ r.2.mem ((c.tc : Thread Cert.RAdabIdeal.nD Cert.RAdabIdeal.τ).loc Cert.RAdabIdeal.main_arg1) = m ((c.tc : Thread Cert.RAdabIdeal.nD Cert.RAdabIdeal.τ).loc Cert.RAdabIdeal.main_arg1)
      ∧ r.2.mem ((c.tc : Thread Cert.RAdabIdeal.nD Cert.RAdabIdeal.τ).loc Cert.RAdabIdeal.main_arg2) = m ((c.tc : Thread Cert.RAdabIdeal.nD Cert.RAdabIdeal.τ).loc Cert.RAdabIdeal.main_arg2)
      ∧ r.2.mem ((c.tc : Thread Cert.RAdabIdeal.nD Cert.RAdabIdeal.τ).loc Cert.RAdabIdeal.main_arg3) = m ((c.tc : Thread Cert.RAdabIdeal.nD Cert.RAdabIdeal.τ).loc Cert.RAdabIdeal.main_arg3)
      ∧ r.2.mem ((c.tc : Thread Cert.RAdabIdeal.nD Cert.RAdabIdeal.τ).loc Cert.RAdabIdeal.main_arg4) = m ((c.tc : Thread Cert.RAdabIdeal.nD Cert.RAdabIdeal.τ).loc Cert.RAdabIdeal.main_arg4))
      ∧ r.2.sem = fun _ => 0)

def quiescent_KAdam [hKAdam : Cert.KAdam.Facts] : Prop :=
  ∀ (m : (ℓ : Loc Cert.KAdam.nD Cert.KAdam.τ Cert.KAdam.sig) → Buf (Elt Bits) ℓ) (g : Dev Cert.KAdam.nD → PrngReg), Pre_KAdam m →
    θ_run (Cert.KAdam.defs (F := Bits)) (onTc (τ := Cert.KAdam.τ) (Cert.KAdam.main (F := Bits))) ⟨m, fun _ => 0, g⟩ (fun r => (∀ c : Dev Cert.KAdam.nD,
      r.2.mem ((c.tc : Thread Cert.KAdam.nD Cert.KAdam.τ).loc Cert.KAdam.main_arg0) = m ((c.tc : Thread Cert.KAdam.nD Cert.KAdam.τ).loc Cert.KAdam.main_arg0)
      ∧ r.2.mem ((c.tc : Thread Cert.KAdam.nD Cert.KAdam.τ).loc Cert.KAdam.main_arg1) = m ((c.tc : Thread Cert.KAdam.nD Cert.KAdam.τ).loc Cert.KAdam.main_arg1)
      ∧ r.2.mem ((c.tc : Thread Cert.KAdam.nD Cert.KAdam.τ).loc Cert.KAdam.main_arg2) = m ((c.tc : Thread Cert.KAdam.nD Cert.KAdam.τ).loc Cert.KAdam.main_arg2)
      ∧ r.2.mem ((c.tc : Thread Cert.KAdam.nD Cert.KAdam.τ).loc Cert.KAdam.main_arg3) = m ((c.tc : Thread Cert.KAdam.nD Cert.KAdam.τ).loc Cert.KAdam.main_arg3))
      ∧ r.2.sem = fun _ => 0)

def quiescent_KAdamIdeal [hKAdamIdeal : Cert.KAdamIdeal.Facts] : Prop :=
  ∀ (m : (ℓ : Loc Cert.KAdamIdeal.nD Cert.KAdamIdeal.τ Cert.KAdamIdeal.sig) → Buf (Elt Ideal) ℓ) (g : Dev Cert.KAdamIdeal.nD → PrngReg), Pre_KAdamIdeal m →
    θ_run (Cert.KAdamIdeal.defs (F := Ideal)) (onTc (τ := Cert.KAdamIdeal.τ) (Cert.KAdamIdeal.main (F := Ideal))) ⟨m, fun _ => 0, g⟩ (fun r => (∀ c : Dev Cert.KAdamIdeal.nD,
      r.2.mem ((c.tc : Thread Cert.KAdamIdeal.nD Cert.KAdamIdeal.τ).loc Cert.KAdamIdeal.main_arg0) = m ((c.tc : Thread Cert.KAdamIdeal.nD Cert.KAdamIdeal.τ).loc Cert.KAdamIdeal.main_arg0)
      ∧ r.2.mem ((c.tc : Thread Cert.KAdamIdeal.nD Cert.KAdamIdeal.τ).loc Cert.KAdamIdeal.main_arg1) = m ((c.tc : Thread Cert.KAdamIdeal.nD Cert.KAdamIdeal.τ).loc Cert.KAdamIdeal.main_arg1)
      ∧ r.2.mem ((c.tc : Thread Cert.KAdamIdeal.nD Cert.KAdamIdeal.τ).loc Cert.KAdamIdeal.main_arg2) = m ((c.tc : Thread Cert.KAdamIdeal.nD Cert.KAdamIdeal.τ).loc Cert.KAdamIdeal.main_arg2)
      ∧ r.2.mem ((c.tc : Thread Cert.KAdamIdeal.nD Cert.KAdamIdeal.τ).loc Cert.KAdamIdeal.main_arg3) = m ((c.tc : Thread Cert.KAdamIdeal.nD Cert.KAdamIdeal.τ).loc Cert.KAdamIdeal.main_arg3))
      ∧ r.2.sem = fun _ => 0)

def quiescent_RAdamIdeal [hRAdamIdeal : Cert.RAdamIdeal.Facts] : Prop :=
  ∀ (m : (ℓ : Loc Cert.RAdamIdeal.nD Cert.RAdamIdeal.τ Cert.RAdamIdeal.sig) → Buf (Elt Ideal) ℓ) (g : Dev Cert.RAdamIdeal.nD → PrngReg), Pre_RAdamIdeal m →
    θ_run (Cert.RAdamIdeal.defs (F := Ideal)) (onTc (τ := Cert.RAdamIdeal.τ) (Cert.RAdamIdeal.main (F := Ideal))) ⟨m, fun _ => 0, g⟩ (fun r => (∀ c : Dev Cert.RAdamIdeal.nD,
      r.2.mem ((c.tc : Thread Cert.RAdamIdeal.nD Cert.RAdamIdeal.τ).loc Cert.RAdamIdeal.main_arg0) = m ((c.tc : Thread Cert.RAdamIdeal.nD Cert.RAdamIdeal.τ).loc Cert.RAdamIdeal.main_arg0)
      ∧ r.2.mem ((c.tc : Thread Cert.RAdamIdeal.nD Cert.RAdamIdeal.τ).loc Cert.RAdamIdeal.main_arg1) = m ((c.tc : Thread Cert.RAdamIdeal.nD Cert.RAdamIdeal.τ).loc Cert.RAdamIdeal.main_arg1)
      ∧ r.2.mem ((c.tc : Thread Cert.RAdamIdeal.nD Cert.RAdamIdeal.τ).loc Cert.RAdamIdeal.main_arg2) = m ((c.tc : Thread Cert.RAdamIdeal.nD Cert.RAdamIdeal.τ).loc Cert.RAdamIdeal.main_arg2)
      ∧ r.2.mem ((c.tc : Thread Cert.RAdamIdeal.nD Cert.RAdamIdeal.τ).loc Cert.RAdamIdeal.main_arg3) = m ((c.tc : Thread Cert.RAdamIdeal.nD Cert.RAdamIdeal.τ).loc Cert.RAdamIdeal.main_arg3))
      ∧ r.2.sem = fun _ => 0)

def quiescent_KAdamt [hKAdamt : Cert.KAdamt.Facts] : Prop :=
  ∀ (m : (ℓ : Loc Cert.KAdamt.nD Cert.KAdamt.τ Cert.KAdamt.sig) → Buf (Elt Bits) ℓ) (g : Dev Cert.KAdamt.nD → PrngReg), Pre_KAdamt m →
    θ_run (Cert.KAdamt.defs (F := Bits)) (onTc (τ := Cert.KAdamt.τ) (Cert.KAdamt.main (F := Bits))) ⟨m, fun _ => 0, g⟩ (fun r => (∀ c : Dev Cert.KAdamt.nD,
      r.2.mem ((c.tc : Thread Cert.KAdamt.nD Cert.KAdamt.τ).loc Cert.KAdamt.main_arg0) = m ((c.tc : Thread Cert.KAdamt.nD Cert.KAdamt.τ).loc Cert.KAdamt.main_arg0)
      ∧ r.2.mem ((c.tc : Thread Cert.KAdamt.nD Cert.KAdamt.τ).loc Cert.KAdamt.main_arg1) = m ((c.tc : Thread Cert.KAdamt.nD Cert.KAdamt.τ).loc Cert.KAdamt.main_arg1)
      ∧ r.2.mem ((c.tc : Thread Cert.KAdamt.nD Cert.KAdamt.τ).loc Cert.KAdamt.main_arg2) = m ((c.tc : Thread Cert.KAdamt.nD Cert.KAdamt.τ).loc Cert.KAdamt.main_arg2)
      ∧ r.2.mem ((c.tc : Thread Cert.KAdamt.nD Cert.KAdamt.τ).loc Cert.KAdamt.main_arg3) = m ((c.tc : Thread Cert.KAdamt.nD Cert.KAdamt.τ).loc Cert.KAdamt.main_arg3))
      ∧ r.2.sem = fun _ => 0)

def quiescent_KAdamtIdeal [hKAdamtIdeal : Cert.KAdamtIdeal.Facts] : Prop :=
  ∀ (m : (ℓ : Loc Cert.KAdamtIdeal.nD Cert.KAdamtIdeal.τ Cert.KAdamtIdeal.sig) → Buf (Elt Ideal) ℓ) (g : Dev Cert.KAdamtIdeal.nD → PrngReg), Pre_KAdamtIdeal m →
    θ_run (Cert.KAdamtIdeal.defs (F := Ideal)) (onTc (τ := Cert.KAdamtIdeal.τ) (Cert.KAdamtIdeal.main (F := Ideal))) ⟨m, fun _ => 0, g⟩ (fun r => (∀ c : Dev Cert.KAdamtIdeal.nD,
      r.2.mem ((c.tc : Thread Cert.KAdamtIdeal.nD Cert.KAdamtIdeal.τ).loc Cert.KAdamtIdeal.main_arg0) = m ((c.tc : Thread Cert.KAdamtIdeal.nD Cert.KAdamtIdeal.τ).loc Cert.KAdamtIdeal.main_arg0)
      ∧ r.2.mem ((c.tc : Thread Cert.KAdamtIdeal.nD Cert.KAdamtIdeal.τ).loc Cert.KAdamtIdeal.main_arg1) = m ((c.tc : Thread Cert.KAdamtIdeal.nD Cert.KAdamtIdeal.τ).loc Cert.KAdamtIdeal.main_arg1)
      ∧ r.2.mem ((c.tc : Thread Cert.KAdamtIdeal.nD Cert.KAdamtIdeal.τ).loc Cert.KAdamtIdeal.main_arg2) = m ((c.tc : Thread Cert.KAdamtIdeal.nD Cert.KAdamtIdeal.τ).loc Cert.KAdamtIdeal.main_arg2)
      ∧ r.2.mem ((c.tc : Thread Cert.KAdamtIdeal.nD Cert.KAdamtIdeal.τ).loc Cert.KAdamtIdeal.main_arg3) = m ((c.tc : Thread Cert.KAdamtIdeal.nD Cert.KAdamtIdeal.τ).loc Cert.KAdamtIdeal.main_arg3))
      ∧ r.2.sem = fun _ => 0)

def quiescent_RAdamtIdeal [hRAdamtIdeal : Cert.RAdamtIdeal.Facts] : Prop :=
  ∀ (m : (ℓ : Loc Cert.RAdamtIdeal.nD Cert.RAdamtIdeal.τ Cert.RAdamtIdeal.sig) → Buf (Elt Ideal) ℓ) (g : Dev Cert.RAdamtIdeal.nD → PrngReg), Pre_RAdamtIdeal m →
    θ_run (Cert.RAdamtIdeal.defs (F := Ideal)) (onTc (τ := Cert.RAdamtIdeal.τ) (Cert.RAdamtIdeal.main (F := Ideal))) ⟨m, fun _ => 0, g⟩ (fun r => (∀ c : Dev Cert.RAdamtIdeal.nD,
      r.2.mem ((c.tc : Thread Cert.RAdamtIdeal.nD Cert.RAdamtIdeal.τ).loc Cert.RAdamtIdeal.main_arg0) = m ((c.tc : Thread Cert.RAdamtIdeal.nD Cert.RAdamtIdeal.τ).loc Cert.RAdamtIdeal.main_arg0)
      ∧ r.2.mem ((c.tc : Thread Cert.RAdamtIdeal.nD Cert.RAdamtIdeal.τ).loc Cert.RAdamtIdeal.main_arg1) = m ((c.tc : Thread Cert.RAdamtIdeal.nD Cert.RAdamtIdeal.τ).loc Cert.RAdamtIdeal.main_arg1)
      ∧ r.2.mem ((c.tc : Thread Cert.RAdamtIdeal.nD Cert.RAdamtIdeal.τ).loc Cert.RAdamtIdeal.main_arg2) = m ((c.tc : Thread Cert.RAdamtIdeal.nD Cert.RAdamtIdeal.τ).loc Cert.RAdamtIdeal.main_arg2)
      ∧ r.2.mem ((c.tc : Thread Cert.RAdamtIdeal.nD Cert.RAdamtIdeal.τ).loc Cert.RAdamtIdeal.main_arg3) = m ((c.tc : Thread Cert.RAdamtIdeal.nD Cert.RAdamtIdeal.τ).loc Cert.RAdamtIdeal.main_arg3))
      ∧ r.2.sem = fun _ => 0)

def quiescent_KBias [hKBias : Cert.KBias.Facts] : Prop :=
  ∀ (m : (ℓ : Loc Cert.KBias.nD Cert.KBias.τ Cert.KBias.sig) → Buf (Elt Bits) ℓ) (g : Dev Cert.KBias.nD → PrngReg), Pre_KBias m →
    θ_run (Cert.KBias.defs (F := Bits)) (onTc (τ := Cert.KBias.τ) (Cert.KBias.main (F := Bits))) ⟨m, fun _ => 0, g⟩ (fun r => (∀ c : Dev Cert.KBias.nD,
      r.2.mem ((c.tc : Thread Cert.KBias.nD Cert.KBias.τ).loc Cert.KBias.main_arg0) = m ((c.tc : Thread Cert.KBias.nD Cert.KBias.τ).loc Cert.KBias.main_arg0)
      ∧ r.2.mem ((c.tc : Thread Cert.KBias.nD Cert.KBias.τ).loc Cert.KBias.main_arg1) = m ((c.tc : Thread Cert.KBias.nD Cert.KBias.τ).loc Cert.KBias.main_arg1))
      ∧ r.2.sem = fun _ => 0)

def quiescent_KBiasIdeal [hKBiasIdeal : Cert.KBiasIdeal.Facts] : Prop :=
  ∀ (m : (ℓ : Loc Cert.KBiasIdeal.nD Cert.KBiasIdeal.τ Cert.KBiasIdeal.sig) → Buf (Elt Ideal) ℓ) (g : Dev Cert.KBiasIdeal.nD → PrngReg), Pre_KBiasIdeal m →
    θ_run (Cert.KBiasIdeal.defs (F := Ideal)) (onTc (τ := Cert.KBiasIdeal.τ) (Cert.KBiasIdeal.main (F := Ideal))) ⟨m, fun _ => 0, g⟩ (fun r => (∀ c : Dev Cert.KBiasIdeal.nD,
      r.2.mem ((c.tc : Thread Cert.KBiasIdeal.nD Cert.KBiasIdeal.τ).loc Cert.KBiasIdeal.main_arg0) = m ((c.tc : Thread Cert.KBiasIdeal.nD Cert.KBiasIdeal.τ).loc Cert.KBiasIdeal.main_arg0)
      ∧ r.2.mem ((c.tc : Thread Cert.KBiasIdeal.nD Cert.KBiasIdeal.τ).loc Cert.KBiasIdeal.main_arg1) = m ((c.tc : Thread Cert.KBiasIdeal.nD Cert.KBiasIdeal.τ).loc Cert.KBiasIdeal.main_arg1))
      ∧ r.2.sem = fun _ => 0)

def quiescent_KBiasIdeal_pre_is_bucket [hKBiasIdeal : Cert.KBiasIdeal.Facts] [hPre_is_bucket : Cert.Pre_is_bucket.Facts] : Prop :=
  ∀ (m : (ℓ : Loc Cert.KBiasIdeal.nD Cert.KBiasIdeal.τ Cert.KBiasIdeal.sig) → Buf (Elt Ideal) ℓ) (g : Dev Cert.KBiasIdeal.nD → PrngReg), Pre_KBiasIdeal_is_bucket m →
    θ_run (Cert.KBiasIdeal.defs (F := Ideal)) (onTc (τ := Cert.KBiasIdeal.τ) (Cert.KBiasIdeal.main (F := Ideal))) ⟨m, fun _ => 0, g⟩ (fun r => (∀ c : Dev Cert.KBiasIdeal.nD,
      r.2.mem ((c.tc : Thread Cert.KBiasIdeal.nD Cert.KBiasIdeal.τ).loc Cert.KBiasIdeal.main_arg0) = m ((c.tc : Thread Cert.KBiasIdeal.nD Cert.KBiasIdeal.τ).loc Cert.KBiasIdeal.main_arg0)
      ∧ r.2.mem ((c.tc : Thread Cert.KBiasIdeal.nD Cert.KBiasIdeal.τ).loc Cert.KBiasIdeal.main_arg1) = m ((c.tc : Thread Cert.KBiasIdeal.nD Cert.KBiasIdeal.τ).loc Cert.KBiasIdeal.main_arg1))
      ∧ r.2.sem = fun _ => 0)

def quiescent_RBiasIdeal [hRBiasIdeal : Cert.RBiasIdeal.Facts] : Prop :=
  ∀ (m : (ℓ : Loc Cert.RBiasIdeal.nD Cert.RBiasIdeal.τ Cert.RBiasIdeal.sig) → Buf (Elt Ideal) ℓ) (g : Dev Cert.RBiasIdeal.nD → PrngReg), Pre_RBiasIdeal m →
    θ_run (Cert.RBiasIdeal.defs (F := Ideal)) (onTc (τ := Cert.RBiasIdeal.τ) (Cert.RBiasIdeal.main (F := Ideal))) ⟨m, fun _ => 0, g⟩ (fun r => (∀ c : Dev Cert.RBiasIdeal.nD,
      r.2.mem ((c.tc : Thread Cert.RBiasIdeal.nD Cert.RBiasIdeal.τ).loc Cert.RBiasIdeal.main_arg0) = m ((c.tc : Thread Cert.RBiasIdeal.nD Cert.RBiasIdeal.τ).loc Cert.RBiasIdeal.main_arg0)
      ∧ r.2.mem ((c.tc : Thread Cert.RBiasIdeal.nD Cert.RBiasIdeal.τ).loc Cert.RBiasIdeal.main_arg1) = m ((c.tc : Thread Cert.RBiasIdeal.nD Cert.RBiasIdeal.τ).loc Cert.RBiasIdeal.main_arg1))
      ∧ r.2.sem = fun _ => 0)

def quiescent_RBiasIdeal_pre_is_bucket [hRBiasIdeal : Cert.RBiasIdeal.Facts] [hPre_is_bucket : Cert.Pre_is_bucket.Facts] : Prop :=
  ∀ (m : (ℓ : Loc Cert.RBiasIdeal.nD Cert.RBiasIdeal.τ Cert.RBiasIdeal.sig) → Buf (Elt Ideal) ℓ) (g : Dev Cert.RBiasIdeal.nD → PrngReg), Pre_RBiasIdeal_is_bucket m →
    θ_run (Cert.RBiasIdeal.defs (F := Ideal)) (onTc (τ := Cert.RBiasIdeal.τ) (Cert.RBiasIdeal.main (F := Ideal))) ⟨m, fun _ => 0, g⟩ (fun r => (∀ c : Dev Cert.RBiasIdeal.nD,
      r.2.mem ((c.tc : Thread Cert.RBiasIdeal.nD Cert.RBiasIdeal.τ).loc Cert.RBiasIdeal.main_arg0) = m ((c.tc : Thread Cert.RBiasIdeal.nD Cert.RBiasIdeal.τ).loc Cert.RBiasIdeal.main_arg0)
      ∧ r.2.mem ((c.tc : Thread Cert.RBiasIdeal.nD Cert.RBiasIdeal.τ).loc Cert.RBiasIdeal.main_arg1) = m ((c.tc : Thread Cert.RBiasIdeal.nD Cert.RBiasIdeal.τ).loc Cert.RBiasIdeal.main_arg1))
      ∧ r.2.sem = fun _ => 0)

def quiescent_KBiasb [hKBiasb : Cert.KBiasb.Facts] : Prop :=
  ∀ (m : (ℓ : Loc Cert.KBiasb.nD Cert.KBiasb.τ Cert.KBiasb.sig) → Buf (Elt Bits) ℓ) (g : Dev Cert.KBiasb.nD → PrngReg), Pre_KBiasb m →
    θ_run (Cert.KBiasb.defs (F := Bits)) (onTc (τ := Cert.KBiasb.τ) (Cert.KBiasb.main (F := Bits))) ⟨m, fun _ => 0, g⟩ (fun r => (∀ c : Dev Cert.KBiasb.nD,
      r.2.mem ((c.tc : Thread Cert.KBiasb.nD Cert.KBiasb.τ).loc Cert.KBiasb.main_arg0) = m ((c.tc : Thread Cert.KBiasb.nD Cert.KBiasb.τ).loc Cert.KBiasb.main_arg0)
      ∧ r.2.mem ((c.tc : Thread Cert.KBiasb.nD Cert.KBiasb.τ).loc Cert.KBiasb.main_arg1) = m ((c.tc : Thread Cert.KBiasb.nD Cert.KBiasb.τ).loc Cert.KBiasb.main_arg1))
      ∧ r.2.sem = fun _ => 0)

def quiescent_KBiasbIdeal [hKBiasbIdeal : Cert.KBiasbIdeal.Facts] : Prop :=
  ∀ (m : (ℓ : Loc Cert.KBiasbIdeal.nD Cert.KBiasbIdeal.τ Cert.KBiasbIdeal.sig) → Buf (Elt Ideal) ℓ) (g : Dev Cert.KBiasbIdeal.nD → PrngReg), Pre_KBiasbIdeal m →
    θ_run (Cert.KBiasbIdeal.defs (F := Ideal)) (onTc (τ := Cert.KBiasbIdeal.τ) (Cert.KBiasbIdeal.main (F := Ideal))) ⟨m, fun _ => 0, g⟩ (fun r => (∀ c : Dev Cert.KBiasbIdeal.nD,
      r.2.mem ((c.tc : Thread Cert.KBiasbIdeal.nD Cert.KBiasbIdeal.τ).loc Cert.KBiasbIdeal.main_arg0) = m ((c.tc : Thread Cert.KBiasbIdeal.nD Cert.KBiasbIdeal.τ).loc Cert.KBiasbIdeal.main_arg0)
      ∧ r.2.mem ((c.tc : Thread Cert.KBiasbIdeal.nD Cert.KBiasbIdeal.τ).loc Cert.KBiasbIdeal.main_arg1) = m ((c.tc : Thread Cert.KBiasbIdeal.nD Cert.KBiasbIdeal.τ).loc Cert.KBiasbIdeal.main_arg1))
      ∧ r.2.sem = fun _ => 0)

def quiescent_KBiasbIdeal_pre_is_bucket_b [hKBiasbIdeal : Cert.KBiasbIdeal.Facts] [hPre_is_bucket_b : Cert.Pre_is_bucket_b.Facts] : Prop :=
  ∀ (m : (ℓ : Loc Cert.KBiasbIdeal.nD Cert.KBiasbIdeal.τ Cert.KBiasbIdeal.sig) → Buf (Elt Ideal) ℓ) (g : Dev Cert.KBiasbIdeal.nD → PrngReg), Pre_KBiasbIdeal_is_bucket_b m →
    θ_run (Cert.KBiasbIdeal.defs (F := Ideal)) (onTc (τ := Cert.KBiasbIdeal.τ) (Cert.KBiasbIdeal.main (F := Ideal))) ⟨m, fun _ => 0, g⟩ (fun r => (∀ c : Dev Cert.KBiasbIdeal.nD,
      r.2.mem ((c.tc : Thread Cert.KBiasbIdeal.nD Cert.KBiasbIdeal.τ).loc Cert.KBiasbIdeal.main_arg0) = m ((c.tc : Thread Cert.KBiasbIdeal.nD Cert.KBiasbIdeal.τ).loc Cert.KBiasbIdeal.main_arg0)
      ∧ r.2.mem ((c.tc : Thread Cert.KBiasbIdeal.nD Cert.KBiasbIdeal.τ).loc Cert.KBiasbIdeal.main_arg1) = m ((c.tc : Thread Cert.KBiasbIdeal.nD Cert.KBiasbIdeal.τ).loc Cert.KBiasbIdeal.main_arg1))
      ∧ r.2.sem = fun _ => 0)

def quiescent_RBiasbIdeal [hRBiasbIdeal : Cert.RBiasbIdeal.Facts] : Prop :=
  ∀ (m : (ℓ : Loc Cert.RBiasbIdeal.nD Cert.RBiasbIdeal.τ Cert.RBiasbIdeal.sig) → Buf (Elt Ideal) ℓ) (g : Dev Cert.RBiasbIdeal.nD → PrngReg), Pre_RBiasbIdeal m →
    θ_run (Cert.RBiasbIdeal.defs (F := Ideal)) (onTc (τ := Cert.RBiasbIdeal.τ) (Cert.RBiasbIdeal.main (F := Ideal))) ⟨m, fun _ => 0, g⟩ (fun r => (∀ c : Dev Cert.RBiasbIdeal.nD,
      r.2.mem ((c.tc : Thread Cert.RBiasbIdeal.nD Cert.RBiasbIdeal.τ).loc Cert.RBiasbIdeal.main_arg0) = m ((c.tc : Thread Cert.RBiasbIdeal.nD Cert.RBiasbIdeal.τ).loc Cert.RBiasbIdeal.main_arg0)
      ∧ r.2.mem ((c.tc : Thread Cert.RBiasbIdeal.nD Cert.RBiasbIdeal.τ).loc Cert.RBiasbIdeal.main_arg1) = m ((c.tc : Thread Cert.RBiasbIdeal.nD Cert.RBiasbIdeal.τ).loc Cert.RBiasbIdeal.main_arg1))
      ∧ r.2.sem = fun _ => 0)

def quiescent_RBiasbIdeal_pre_is_bucket_b [hRBiasbIdeal : Cert.RBiasbIdeal.Facts] [hPre_is_bucket_b : Cert.Pre_is_bucket_b.Facts] : Prop :=
  ∀ (m : (ℓ : Loc Cert.RBiasbIdeal.nD Cert.RBiasbIdeal.τ Cert.RBiasbIdeal.sig) → Buf (Elt Ideal) ℓ) (g : Dev Cert.RBiasbIdeal.nD → PrngReg), Pre_RBiasbIdeal_is_bucket_b m →
    θ_run (Cert.RBiasbIdeal.defs (F := Ideal)) (onTc (τ := Cert.RBiasbIdeal.τ) (Cert.RBiasbIdeal.main (F := Ideal))) ⟨m, fun _ => 0, g⟩ (fun r => (∀ c : Dev Cert.RBiasbIdeal.nD,
      r.2.mem ((c.tc : Thread Cert.RBiasbIdeal.nD Cert.RBiasbIdeal.τ).loc Cert.RBiasbIdeal.main_arg0) = m ((c.tc : Thread Cert.RBiasbIdeal.nD Cert.RBiasbIdeal.τ).loc Cert.RBiasbIdeal.main_arg0)
      ∧ r.2.mem ((c.tc : Thread Cert.RBiasbIdeal.nD Cert.RBiasbIdeal.τ).loc Cert.RBiasbIdeal.main_arg1) = m ((c.tc : Thread Cert.RBiasbIdeal.nD Cert.RBiasbIdeal.τ).loc Cert.RBiasbIdeal.main_arg1))
      ∧ r.2.sem = fun _ => 0)

def quiescent_KPoolb [hKPoolb : Cert.KPoolb.Facts] : Prop :=
  ∀ (m : (ℓ : Loc Cert.KPoolb.nD Cert.KPoolb.τ Cert.KPoolb.sig) → Buf (Elt Bits) ℓ) (g : Dev Cert.KPoolb.nD → PrngReg), Pre_KPoolb m →
    θ_run (Cert.KPoolb.defs (F := Bits)) (onTc (τ := Cert.KPoolb.τ) (Cert.KPoolb.main (F := Bits))) ⟨m, fun _ => 0, g⟩ (fun r => (∀ c : Dev Cert.KPoolb.nD,
      r.2.mem ((c.tc : Thread Cert.KPoolb.nD Cert.KPoolb.τ).loc Cert.KPoolb.main_arg0) = m ((c.tc : Thread Cert.KPoolb.nD Cert.KPoolb.τ).loc Cert.KPoolb.main_arg0)
      ∧ r.2.mem ((c.tc : Thread Cert.KPoolb.nD Cert.KPoolb.τ).loc Cert.KPoolb.main_arg1) = m ((c.tc : Thread Cert.KPoolb.nD Cert.KPoolb.τ).loc Cert.KPoolb.main_arg1)
      ∧ r.2.mem ((c.tc : Thread Cert.KPoolb.nD Cert.KPoolb.τ).loc Cert.KPoolb.main_arg2) = m ((c.tc : Thread Cert.KPoolb.nD Cert.KPoolb.τ).loc Cert.KPoolb.main_arg2)
      ∧ r.2.mem ((c.tc : Thread Cert.KPoolb.nD Cert.KPoolb.τ).loc Cert.KPoolb.main_arg3) = m ((c.tc : Thread Cert.KPoolb.nD Cert.KPoolb.τ).loc Cert.KPoolb.main_arg3)
      ∧ r.2.mem ((c.tc : Thread Cert.KPoolb.nD Cert.KPoolb.τ).loc Cert.KPoolb.main_arg4) = m ((c.tc : Thread Cert.KPoolb.nD Cert.KPoolb.τ).loc Cert.KPoolb.main_arg4))
      ∧ r.2.sem = fun _ => 0)

def quiescent_KPoolbIdeal [hKPoolbIdeal : Cert.KPoolbIdeal.Facts] : Prop :=
  ∀ (m : (ℓ : Loc Cert.KPoolbIdeal.nD Cert.KPoolbIdeal.τ Cert.KPoolbIdeal.sig) → Buf (Elt Ideal) ℓ) (g : Dev Cert.KPoolbIdeal.nD → PrngReg), Pre_KPoolbIdeal m →
    θ_run (Cert.KPoolbIdeal.defs (F := Ideal)) (onTc (τ := Cert.KPoolbIdeal.τ) (Cert.KPoolbIdeal.main (F := Ideal))) ⟨m, fun _ => 0, g⟩ (fun r => (∀ c : Dev Cert.KPoolbIdeal.nD,
      r.2.mem ((c.tc : Thread Cert.KPoolbIdeal.nD Cert.KPoolbIdeal.τ).loc Cert.KPoolbIdeal.main_arg0) = m ((c.tc : Thread Cert.KPoolbIdeal.nD Cert.KPoolbIdeal.τ).loc Cert.KPoolbIdeal.main_arg0)
      ∧ r.2.mem ((c.tc : Thread Cert.KPoolbIdeal.nD Cert.KPoolbIdeal.τ).loc Cert.KPoolbIdeal.main_arg1) = m ((c.tc : Thread Cert.KPoolbIdeal.nD Cert.KPoolbIdeal.τ).loc Cert.KPoolbIdeal.main_arg1)
      ∧ r.2.mem ((c.tc : Thread Cert.KPoolbIdeal.nD Cert.KPoolbIdeal.τ).loc Cert.KPoolbIdeal.main_arg2) = m ((c.tc : Thread Cert.KPoolbIdeal.nD Cert.KPoolbIdeal.τ).loc Cert.KPoolbIdeal.main_arg2)
      ∧ r.2.mem ((c.tc : Thread Cert.KPoolbIdeal.nD Cert.KPoolbIdeal.τ).loc Cert.KPoolbIdeal.main_arg3) = m ((c.tc : Thread Cert.KPoolbIdeal.nD Cert.KPoolbIdeal.τ).loc Cert.KPoolbIdeal.main_arg3)
      ∧ r.2.mem ((c.tc : Thread Cert.KPoolbIdeal.nD Cert.KPoolbIdeal.τ).loc Cert.KPoolbIdeal.main_arg4) = m ((c.tc : Thread Cert.KPoolbIdeal.nD Cert.KPoolbIdeal.τ).loc Cert.KPoolbIdeal.main_arg4))
      ∧ r.2.sem = fun _ => 0)

def quiescent_KPoolbIdeal_pre_finite_poolb [hKPoolbIdeal : Cert.KPoolbIdeal.Facts] [hPre_finite_poolb : Cert.Pre_finite_poolb.Facts] : Prop :=
  ∀ (m : (ℓ : Loc Cert.KPoolbIdeal.nD Cert.KPoolbIdeal.τ Cert.KPoolbIdeal.sig) → Buf (Elt Ideal) ℓ) (g : Dev Cert.KPoolbIdeal.nD → PrngReg), Pre_KPoolbIdeal_finite_poolb m →
    θ_run (Cert.KPoolbIdeal.defs (F := Ideal)) (onTc (τ := Cert.KPoolbIdeal.τ) (Cert.KPoolbIdeal.main (F := Ideal))) ⟨m, fun _ => 0, g⟩ (fun r => (∀ c : Dev Cert.KPoolbIdeal.nD,
      r.2.mem ((c.tc : Thread Cert.KPoolbIdeal.nD Cert.KPoolbIdeal.τ).loc Cert.KPoolbIdeal.main_arg0) = m ((c.tc : Thread Cert.KPoolbIdeal.nD Cert.KPoolbIdeal.τ).loc Cert.KPoolbIdeal.main_arg0)
      ∧ r.2.mem ((c.tc : Thread Cert.KPoolbIdeal.nD Cert.KPoolbIdeal.τ).loc Cert.KPoolbIdeal.main_arg1) = m ((c.tc : Thread Cert.KPoolbIdeal.nD Cert.KPoolbIdeal.τ).loc Cert.KPoolbIdeal.main_arg1)
      ∧ r.2.mem ((c.tc : Thread Cert.KPoolbIdeal.nD Cert.KPoolbIdeal.τ).loc Cert.KPoolbIdeal.main_arg2) = m ((c.tc : Thread Cert.KPoolbIdeal.nD Cert.KPoolbIdeal.τ).loc Cert.KPoolbIdeal.main_arg2)
      ∧ r.2.mem ((c.tc : Thread Cert.KPoolbIdeal.nD Cert.KPoolbIdeal.τ).loc Cert.KPoolbIdeal.main_arg3) = m ((c.tc : Thread Cert.KPoolbIdeal.nD Cert.KPoolbIdeal.τ).loc Cert.KPoolbIdeal.main_arg3)
      ∧ r.2.mem ((c.tc : Thread Cert.KPoolbIdeal.nD Cert.KPoolbIdeal.τ).loc Cert.KPoolbIdeal.main_arg4) = m ((c.tc : Thread Cert.KPoolbIdeal.nD Cert.KPoolbIdeal.τ).loc Cert.KPoolbIdeal.main_arg4))
      ∧ r.2.sem = fun _ => 0)

def quiescent_RPoolbIdeal [hRPoolbIdeal : Cert.RPoolbIdeal.Facts] : Prop :=
  ∀ (m : (ℓ : Loc Cert.RPoolbIdeal.nD Cert.RPoolbIdeal.τ Cert.RPoolbIdeal.sig) → Buf (Elt Ideal) ℓ) (g : Dev Cert.RPoolbIdeal.nD → PrngReg), Pre_RPoolbIdeal m →
    θ_run (Cert.RPoolbIdeal.defs (F := Ideal)) (onTc (τ := Cert.RPoolbIdeal.τ) (Cert.RPoolbIdeal.main (F := Ideal))) ⟨m, fun _ => 0, g⟩ (fun r => (∀ c : Dev Cert.RPoolbIdeal.nD,
      r.2.mem ((c.tc : Thread Cert.RPoolbIdeal.nD Cert.RPoolbIdeal.τ).loc Cert.RPoolbIdeal.main_arg0) = m ((c.tc : Thread Cert.RPoolbIdeal.nD Cert.RPoolbIdeal.τ).loc Cert.RPoolbIdeal.main_arg0)
      ∧ r.2.mem ((c.tc : Thread Cert.RPoolbIdeal.nD Cert.RPoolbIdeal.τ).loc Cert.RPoolbIdeal.main_arg1) = m ((c.tc : Thread Cert.RPoolbIdeal.nD Cert.RPoolbIdeal.τ).loc Cert.RPoolbIdeal.main_arg1)
      ∧ r.2.mem ((c.tc : Thread Cert.RPoolbIdeal.nD Cert.RPoolbIdeal.τ).loc Cert.RPoolbIdeal.main_arg2) = m ((c.tc : Thread Cert.RPoolbIdeal.nD Cert.RPoolbIdeal.τ).loc Cert.RPoolbIdeal.main_arg2)
      ∧ r.2.mem ((c.tc : Thread Cert.RPoolbIdeal.nD Cert.RPoolbIdeal.τ).loc Cert.RPoolbIdeal.main_arg3) = m ((c.tc : Thread Cert.RPoolbIdeal.nD Cert.RPoolbIdeal.τ).loc Cert.RPoolbIdeal.main_arg3)
      ∧ r.2.mem ((c.tc : Thread Cert.RPoolbIdeal.nD Cert.RPoolbIdeal.τ).loc Cert.RPoolbIdeal.main_arg4) = m ((c.tc : Thread Cert.RPoolbIdeal.nD Cert.RPoolbIdeal.τ).loc Cert.RPoolbIdeal.main_arg4))
      ∧ r.2.sem = fun _ => 0)

def quiescent_RPoolbIdeal_pre_finite_poolb [hRPoolbIdeal : Cert.RPoolbIdeal.Facts] [hPre_finite_poolb : Cert.Pre_finite_poolb.Facts] : Prop :=
  ∀ (m : (ℓ : Loc Cert.RPoolbIdeal.nD Cert.RPoolbIdeal.τ Cert.RPoolbIdeal.sig) → Buf (Elt Ideal) ℓ) (g : Dev Cert.RPoolbIdeal.nD → PrngReg), Pre_RPoolbIdeal_finite_poolb m →
    θ_run (Cert.RPoolbIdeal.defs (F := Ideal)) (onTc (τ := Cert.RPoolbIdeal.τ) (Cert.RPoolbIdeal.main (F := Ideal))) ⟨m, fun _ => 0, g⟩ (fun r => (∀ c : Dev Cert.RPoolbIdeal.nD,
      r.2.mem ((c.tc : Thread Cert.RPoolbIdeal.nD Cert.RPoolbIdeal.τ).loc Cert.RPoolbIdeal.main_arg0) = m ((c.tc : Thread Cert.RPoolbIdeal.nD Cert.RPoolbIdeal.τ).loc Cert.RPoolbIdeal.main_arg0)
      ∧ r.2.mem ((c.tc : Thread Cert.RPoolbIdeal.nD Cert.RPoolbIdeal.τ).loc Cert.RPoolbIdeal.main_arg1) = m ((c.tc : Thread Cert.RPoolbIdeal.nD Cert.RPoolbIdeal.τ).loc Cert.RPoolbIdeal.main_arg1)
      ∧ r.2.mem ((c.tc : Thread Cert.RPoolbIdeal.nD Cert.RPoolbIdeal.τ).loc Cert.RPoolbIdeal.main_arg2) = m ((c.tc : Thread Cert.RPoolbIdeal.nD Cert.RPoolbIdeal.τ).loc Cert.RPoolbIdeal.main_arg2)
      ∧ r.2.mem ((c.tc : Thread Cert.RPoolbIdeal.nD Cert.RPoolbIdeal.τ).loc Cert.RPoolbIdeal.main_arg3) = m ((c.tc : Thread Cert.RPoolbIdeal.nD Cert.RPoolbIdeal.τ).loc Cert.RPoolbIdeal.main_arg3)
      ∧ r.2.mem ((c.tc : Thread Cert.RPoolbIdeal.nD Cert.RPoolbIdeal.τ).loc Cert.RPoolbIdeal.main_arg4) = m ((c.tc : Thread Cert.RPoolbIdeal.nD Cert.RPoolbIdeal.τ).loc Cert.RPoolbIdeal.main_arg4))
      ∧ r.2.sem = fun _ => 0)

def quiescent_KPoolf [hKPoolf : Cert.KPoolf.Facts] : Prop :=
  ∀ (m : (ℓ : Loc Cert.KPoolf.nD Cert.KPoolf.τ Cert.KPoolf.sig) → Buf (Elt Bits) ℓ) (g : Dev Cert.KPoolf.nD → PrngReg), Pre_KPoolf m →
    θ_run (Cert.KPoolf.defs (F := Bits)) (onTc (τ := Cert.KPoolf.τ) (Cert.KPoolf.main (F := Bits))) ⟨m, fun _ => 0, g⟩ (fun r => (∀ c : Dev Cert.KPoolf.nD,
      r.2.mem ((c.tc : Thread Cert.KPoolf.nD Cert.KPoolf.τ).loc Cert.KPoolf.main_arg0) = m ((c.tc : Thread Cert.KPoolf.nD Cert.KPoolf.τ).loc Cert.KPoolf.main_arg0)
      ∧ r.2.mem ((c.tc : Thread Cert.KPoolf.nD Cert.KPoolf.τ).loc Cert.KPoolf.main_arg1) = m ((c.tc : Thread Cert.KPoolf.nD Cert.KPoolf.τ).loc Cert.KPoolf.main_arg1)
      ∧ r.2.mem ((c.tc : Thread Cert.KPoolf.nD Cert.KPoolf.τ).loc Cert.KPoolf.main_arg2) = m ((c.tc : Thread Cert.KPoolf.nD Cert.KPoolf.τ).loc Cert.KPoolf.main_arg2))
      ∧ r.2.sem = fun _ => 0)

def quiescent_KPoolfIdeal [hKPoolfIdeal : Cert.KPoolfIdeal.Facts] : Prop :=
  ∀ (m : (ℓ : Loc Cert.KPoolfIdeal.nD Cert.KPoolfIdeal.τ Cert.KPoolfIdeal.sig) → Buf (Elt Ideal) ℓ) (g : Dev Cert.KPoolfIdeal.nD → PrngReg), Pre_KPoolfIdeal m →
    θ_run (Cert.KPoolfIdeal.defs (F := Ideal)) (onTc (τ := Cert.KPoolfIdeal.τ) (Cert.KPoolfIdeal.main (F := Ideal))) ⟨m, fun _ => 0, g⟩ (fun r => (∀ c : Dev Cert.KPoolfIdeal.nD,
      r.2.mem ((c.tc : Thread Cert.KPoolfIdeal.nD Cert.KPoolfIdeal.τ).loc Cert.KPoolfIdeal.main_arg0) = m ((c.tc : Thread Cert.KPoolfIdeal.nD Cert.KPoolfIdeal.τ).loc Cert.KPoolfIdeal.main_arg0)
      ∧ r.2.mem ((c.tc : Thread Cert.KPoolfIdeal.nD Cert.KPoolfIdeal.τ).loc Cert.KPoolfIdeal.main_arg1) = m ((c.tc : Thread Cert.KPoolfIdeal.nD Cert.KPoolfIdeal.τ).loc Cert.KPoolfIdeal.main_arg1)
      ∧ r.2.mem ((c.tc : Thread Cert.KPoolfIdeal.nD Cert.KPoolfIdeal.τ).loc Cert.KPoolfIdeal.main_arg2) = m ((c.tc : Thread Cert.KPoolfIdeal.nD Cert.KPoolfIdeal.τ).loc Cert.KPoolfIdeal.main_arg2))
      ∧ r.2.sem = fun _ => 0)

def quiescent_KPoolfIdeal_pre_finite_poolf [hKPoolfIdeal : Cert.KPoolfIdeal.Facts] [hPre_finite_poolf : Cert.Pre_finite_poolf.Facts] : Prop :=
  ∀ (m : (ℓ : Loc Cert.KPoolfIdeal.nD Cert.KPoolfIdeal.τ Cert.KPoolfIdeal.sig) → Buf (Elt Ideal) ℓ) (g : Dev Cert.KPoolfIdeal.nD → PrngReg), Pre_KPoolfIdeal_finite_poolf m →
    θ_run (Cert.KPoolfIdeal.defs (F := Ideal)) (onTc (τ := Cert.KPoolfIdeal.τ) (Cert.KPoolfIdeal.main (F := Ideal))) ⟨m, fun _ => 0, g⟩ (fun r => (∀ c : Dev Cert.KPoolfIdeal.nD,
      r.2.mem ((c.tc : Thread Cert.KPoolfIdeal.nD Cert.KPoolfIdeal.τ).loc Cert.KPoolfIdeal.main_arg0) = m ((c.tc : Thread Cert.KPoolfIdeal.nD Cert.KPoolfIdeal.τ).loc Cert.KPoolfIdeal.main_arg0)
      ∧ r.2.mem ((c.tc : Thread Cert.KPoolfIdeal.nD Cert.KPoolfIdeal.τ).loc Cert.KPoolfIdeal.main_arg1) = m ((c.tc : Thread Cert.KPoolfIdeal.nD Cert.KPoolfIdeal.τ).loc Cert.KPoolfIdeal.main_arg1)
      ∧ r.2.mem ((c.tc : Thread Cert.KPoolfIdeal.nD Cert.KPoolfIdeal.τ).loc Cert.KPoolfIdeal.main_arg2) = m ((c.tc : Thread Cert.KPoolfIdeal.nD Cert.KPoolfIdeal.τ).loc Cert.KPoolfIdeal.main_arg2))
      ∧ r.2.sem = fun _ => 0)

def quiescent_RPoolfIdeal [hRPoolfIdeal : Cert.RPoolfIdeal.Facts] : Prop :=
  ∀ (m : (ℓ : Loc Cert.RPoolfIdeal.nD Cert.RPoolfIdeal.τ Cert.RPoolfIdeal.sig) → Buf (Elt Ideal) ℓ) (g : Dev Cert.RPoolfIdeal.nD → PrngReg), Pre_RPoolfIdeal m →
    θ_run (Cert.RPoolfIdeal.defs (F := Ideal)) (onTc (τ := Cert.RPoolfIdeal.τ) (Cert.RPoolfIdeal.main (F := Ideal))) ⟨m, fun _ => 0, g⟩ (fun r => (∀ c : Dev Cert.RPoolfIdeal.nD,
      r.2.mem ((c.tc : Thread Cert.RPoolfIdeal.nD Cert.RPoolfIdeal.τ).loc Cert.RPoolfIdeal.main_arg0) = m ((c.tc : Thread Cert.RPoolfIdeal.nD Cert.RPoolfIdeal.τ).loc Cert.RPoolfIdeal.main_arg0)
      ∧ r.2.mem ((c.tc : Thread Cert.RPoolfIdeal.nD Cert.RPoolfIdeal.τ).loc Cert.RPoolfIdeal.main_arg1) = m ((c.tc : Thread Cert.RPoolfIdeal.nD Cert.RPoolfIdeal.τ).loc Cert.RPoolfIdeal.main_arg1)
      ∧ r.2.mem ((c.tc : Thread Cert.RPoolfIdeal.nD Cert.RPoolfIdeal.τ).loc Cert.RPoolfIdeal.main_arg2) = m ((c.tc : Thread Cert.RPoolfIdeal.nD Cert.RPoolfIdeal.τ).loc Cert.RPoolfIdeal.main_arg2))
      ∧ r.2.sem = fun _ => 0)

def quiescent_RPoolfIdeal_pre_finite_poolf [hRPoolfIdeal : Cert.RPoolfIdeal.Facts] [hPre_finite_poolf : Cert.Pre_finite_poolf.Facts] : Prop :=
  ∀ (m : (ℓ : Loc Cert.RPoolfIdeal.nD Cert.RPoolfIdeal.τ Cert.RPoolfIdeal.sig) → Buf (Elt Ideal) ℓ) (g : Dev Cert.RPoolfIdeal.nD → PrngReg), Pre_RPoolfIdeal_finite_poolf m →
    θ_run (Cert.RPoolfIdeal.defs (F := Ideal)) (onTc (τ := Cert.RPoolfIdeal.τ) (Cert.RPoolfIdeal.main (F := Ideal))) ⟨m, fun _ => 0, g⟩ (fun r => (∀ c : Dev Cert.RPoolfIdeal.nD,
      r.2.mem ((c.tc : Thread Cert.RPoolfIdeal.nD Cert.RPoolfIdeal.τ).loc Cert.RPoolfIdeal.main_arg0) = m ((c.tc : Thread Cert.RPoolfIdeal.nD Cert.RPoolfIdeal.τ).loc Cert.RPoolfIdeal.main_arg0)
      ∧ r.2.mem ((c.tc : Thread Cert.RPoolfIdeal.nD Cert.RPoolfIdeal.τ).loc Cert.RPoolfIdeal.main_arg1) = m ((c.tc : Thread Cert.RPoolfIdeal.nD Cert.RPoolfIdeal.τ).loc Cert.RPoolfIdeal.main_arg1)
      ∧ r.2.mem ((c.tc : Thread Cert.RPoolfIdeal.nD Cert.RPoolfIdeal.τ).loc Cert.RPoolfIdeal.main_arg2) = m ((c.tc : Thread Cert.RPoolfIdeal.nD Cert.RPoolfIdeal.τ).loc Cert.RPoolfIdeal.main_arg2))
      ∧ r.2.sem = fun _ => 0)

def quiescent_KAttnf [hKAttnf : Cert.KAttnf.Facts] : Prop :=
  ∀ (m : (ℓ : Loc Cert.KAttnf.nD Cert.KAttnf.τ Cert.KAttnf.sig) → Buf (Elt Bits) ℓ) (g : Dev Cert.KAttnf.nD → PrngReg), Pre_KAttnf m →
    θ_run (Cert.KAttnf.defs (F := Bits)) (onTc (τ := Cert.KAttnf.τ) (Cert.KAttnf.main (F := Bits))) ⟨m, fun _ => 0, g⟩ (fun r => (∀ c : Dev Cert.KAttnf.nD,
      r.2.mem ((c.tc : Thread Cert.KAttnf.nD Cert.KAttnf.τ).loc Cert.KAttnf.main_arg0) = m ((c.tc : Thread Cert.KAttnf.nD Cert.KAttnf.τ).loc Cert.KAttnf.main_arg0)
      ∧ r.2.mem ((c.tc : Thread Cert.KAttnf.nD Cert.KAttnf.τ).loc Cert.KAttnf.main_arg1) = m ((c.tc : Thread Cert.KAttnf.nD Cert.KAttnf.τ).loc Cert.KAttnf.main_arg1)
      ∧ r.2.mem ((c.tc : Thread Cert.KAttnf.nD Cert.KAttnf.τ).loc Cert.KAttnf.main_arg2) = m ((c.tc : Thread Cert.KAttnf.nD Cert.KAttnf.τ).loc Cert.KAttnf.main_arg2)
      ∧ r.2.mem ((c.tc : Thread Cert.KAttnf.nD Cert.KAttnf.τ).loc Cert.KAttnf.main_arg3) = m ((c.tc : Thread Cert.KAttnf.nD Cert.KAttnf.τ).loc Cert.KAttnf.main_arg3)
      ∧ r.2.mem ((c.tc : Thread Cert.KAttnf.nD Cert.KAttnf.τ).loc Cert.KAttnf.main_arg4) = m ((c.tc : Thread Cert.KAttnf.nD Cert.KAttnf.τ).loc Cert.KAttnf.main_arg4))
      ∧ r.2.sem = fun _ => 0)

def quiescent_KAttnfIdeal [hKAttnfIdeal : Cert.KAttnfIdeal.Facts] : Prop :=
  ∀ (m : (ℓ : Loc Cert.KAttnfIdeal.nD Cert.KAttnfIdeal.τ Cert.KAttnfIdeal.sig) → Buf (Elt Ideal) ℓ) (g : Dev Cert.KAttnfIdeal.nD → PrngReg), Pre_KAttnfIdeal m →
    θ_run (Cert.KAttnfIdeal.defs (F := Ideal)) (onTc (τ := Cert.KAttnfIdeal.τ) (Cert.KAttnfIdeal.main (F := Ideal))) ⟨m, fun _ => 0, g⟩ (fun r => (∀ c : Dev Cert.KAttnfIdeal.nD,
      r.2.mem ((c.tc : Thread Cert.KAttnfIdeal.nD Cert.KAttnfIdeal.τ).loc Cert.KAttnfIdeal.main_arg0) = m ((c.tc : Thread Cert.KAttnfIdeal.nD Cert.KAttnfIdeal.τ).loc Cert.KAttnfIdeal.main_arg0)
      ∧ r.2.mem ((c.tc : Thread Cert.KAttnfIdeal.nD Cert.KAttnfIdeal.τ).loc Cert.KAttnfIdeal.main_arg1) = m ((c.tc : Thread Cert.KAttnfIdeal.nD Cert.KAttnfIdeal.τ).loc Cert.KAttnfIdeal.main_arg1)
      ∧ r.2.mem ((c.tc : Thread Cert.KAttnfIdeal.nD Cert.KAttnfIdeal.τ).loc Cert.KAttnfIdeal.main_arg2) = m ((c.tc : Thread Cert.KAttnfIdeal.nD Cert.KAttnfIdeal.τ).loc Cert.KAttnfIdeal.main_arg2)
      ∧ r.2.mem ((c.tc : Thread Cert.KAttnfIdeal.nD Cert.KAttnfIdeal.τ).loc Cert.KAttnfIdeal.main_arg3) = m ((c.tc : Thread Cert.KAttnfIdeal.nD Cert.KAttnfIdeal.τ).loc Cert.KAttnfIdeal.main_arg3)
      ∧ r.2.mem ((c.tc : Thread Cert.KAttnfIdeal.nD Cert.KAttnfIdeal.τ).loc Cert.KAttnfIdeal.main_arg4) = m ((c.tc : Thread Cert.KAttnfIdeal.nD Cert.KAttnfIdeal.τ).loc Cert.KAttnfIdeal.main_arg4))
      ∧ r.2.sem = fun _ => 0)

def quiescent_RAttnfIdeal [hRAttnfIdeal : Cert.RAttnfIdeal.Facts] : Prop :=
  ∀ (m : (ℓ : Loc Cert.RAttnfIdeal.nD Cert.RAttnfIdeal.τ Cert.RAttnfIdeal.sig) → Buf (Elt Ideal) ℓ) (g : Dev Cert.RAttnfIdeal.nD → PrngReg), Pre_RAttnfIdeal m →
    θ_run (Cert.RAttnfIdeal.defs (F := Ideal)) (onTc (τ := Cert.RAttnfIdeal.τ) (Cert.RAttnfIdeal.main (F := Ideal))) ⟨m, fun _ => 0, g⟩ (fun r => (∀ c : Dev Cert.RAttnfIdeal.nD,
      r.2.mem ((c.tc : Thread Cert.RAttnfIdeal.nD Cert.RAttnfIdeal.τ).loc Cert.RAttnfIdeal.main_arg0) = m ((c.tc : Thread Cert.RAttnfIdeal.nD Cert.RAttnfIdeal.τ).loc Cert.RAttnfIdeal.main_arg0)
      ∧ r.2.mem ((c.tc : Thread Cert.RAttnfIdeal.nD Cert.RAttnfIdeal.τ).loc Cert.RAttnfIdeal.main_arg1) = m ((c.tc : Thread Cert.RAttnfIdeal.nD Cert.RAttnfIdeal.τ).loc Cert.RAttnfIdeal.main_arg1)
      ∧ r.2.mem ((c.tc : Thread Cert.RAttnfIdeal.nD Cert.RAttnfIdeal.τ).loc Cert.RAttnfIdeal.main_arg2) = m ((c.tc : Thread Cert.RAttnfIdeal.nD Cert.RAttnfIdeal.τ).loc Cert.RAttnfIdeal.main_arg2)
      ∧ r.2.mem ((c.tc : Thread Cert.RAttnfIdeal.nD Cert.RAttnfIdeal.τ).loc Cert.RAttnfIdeal.main_arg3) = m ((c.tc : Thread Cert.RAttnfIdeal.nD Cert.RAttnfIdeal.τ).loc Cert.RAttnfIdeal.main_arg3)
      ∧ r.2.mem ((c.tc : Thread Cert.RAttnfIdeal.nD Cert.RAttnfIdeal.τ).loc Cert.RAttnfIdeal.main_arg4) = m ((c.tc : Thread Cert.RAttnfIdeal.nD Cert.RAttnfIdeal.τ).loc Cert.RAttnfIdeal.main_arg4))
      ∧ r.2.sem = fun _ => 0)

def preserves_KDgu_KDguIdeal : Prop :=
  True

def algebraic_KDguIdeal_RDguIdeal_pre_finite_dgu [hKDguIdeal : Cert.KDguIdeal.Facts] [hRDguIdeal : Cert.RDguIdeal.Facts] [hPre_finite_dgu : Cert.Pre_finite_dgu.Facts] : Prop :=
  ∀ (m : (ℓ : Loc Cert.KDguIdeal.nD Cert.KDguIdeal.τ Cert.KDguIdeal.sig) → Buf (Elt Ideal) ℓ) (g : Dev Cert.KDguIdeal.nD → PrngReg)
    (m' : (ℓ : Loc Cert.RDguIdeal.nD Cert.RDguIdeal.τ Cert.RDguIdeal.sig) → Buf (Elt Ideal) ℓ) (g' : Dev Cert.RDguIdeal.nD → PrngReg), Pre_KDguIdeal_finite_dgu m →
    (∀ c : Dev Cert.KDguIdeal.nD,
      m' ((c.tc : Thread Cert.RDguIdeal.nD Cert.RDguIdeal.τ).loc Cert.RDguIdeal.main_arg0) = m ((c.tc : Thread Cert.KDguIdeal.nD Cert.KDguIdeal.τ).loc Cert.KDguIdeal.main_arg0)
      ∧ m' ((c.tc : Thread Cert.RDguIdeal.nD Cert.RDguIdeal.τ).loc Cert.RDguIdeal.main_arg1) = m ((c.tc : Thread Cert.KDguIdeal.nD Cert.KDguIdeal.τ).loc Cert.KDguIdeal.main_arg1)
      ∧ m' ((c.tc : Thread Cert.RDguIdeal.nD Cert.RDguIdeal.τ).loc Cert.RDguIdeal.main_arg2) = m ((c.tc : Thread Cert.KDguIdeal.nD Cert.KDguIdeal.τ).loc Cert.KDguIdeal.main_arg2)
      ∧ m' ((c.tc : Thread Cert.RDguIdeal.nD Cert.RDguIdeal.τ).loc Cert.RDguIdeal.main_arg3) = m ((c.tc : Thread Cert.KDguIdeal.nD Cert.KDguIdeal.τ).loc Cert.KDguIdeal.main_arg3)) →
    ∃ (v0 : (c : Dev Cert.KDguIdeal.nD) → Buf (Elt Ideal) ((c.tc : Thread Cert.KDguIdeal.nD Cert.KDguIdeal.τ).loc Cert.KDguIdeal.main_v1_0)) (v1 : (c : Dev Cert.KDguIdeal.nD) → Buf (Elt Ideal) ((c.tc : Thread Cert.KDguIdeal.nD Cert.KDguIdeal.τ).loc Cert.KDguIdeal.main_v1_1)),
      θ_run (Cert.KDguIdeal.defs (F := Ideal)) (onTc (τ := Cert.KDguIdeal.τ) (Cert.KDguIdeal.main (F := Ideal))) ⟨m, fun _ => 0, g⟩ (fun r => ∀ c : Dev Cert.KDguIdeal.nD,
          r.2.mem ((c.tc : Thread Cert.KDguIdeal.nD Cert.KDguIdeal.τ).loc Cert.KDguIdeal.main_v1_0) = v0 c
          ∧ r.2.mem ((c.tc : Thread Cert.KDguIdeal.nD Cert.KDguIdeal.τ).loc Cert.KDguIdeal.main_v1_1) = v1 c
          ∧ r.2.mem ((c.tc : Thread Cert.KDguIdeal.nD Cert.KDguIdeal.τ).loc Cert.KDguIdeal.main_arg0) = m ((c.tc : Thread Cert.KDguIdeal.nD Cert.KDguIdeal.τ).loc Cert.KDguIdeal.main_arg0)
          ∧ r.2.mem ((c.tc : Thread Cert.KDguIdeal.nD Cert.KDguIdeal.τ).loc Cert.KDguIdeal.main_arg1) = m ((c.tc : Thread Cert.KDguIdeal.nD Cert.KDguIdeal.τ).loc Cert.KDguIdeal.main_arg1)
          ∧ r.2.mem ((c.tc : Thread Cert.KDguIdeal.nD Cert.KDguIdeal.τ).loc Cert.KDguIdeal.main_arg2) = m ((c.tc : Thread Cert.KDguIdeal.nD Cert.KDguIdeal.τ).loc Cert.KDguIdeal.main_arg2)
          ∧ r.2.mem ((c.tc : Thread Cert.KDguIdeal.nD Cert.KDguIdeal.τ).loc Cert.KDguIdeal.main_arg3) = m ((c.tc : Thread Cert.KDguIdeal.nD Cert.KDguIdeal.τ).loc Cert.KDguIdeal.main_arg3))
      ∧ θ_run (Cert.RDguIdeal.defs (F := Ideal)) (onTc (τ := Cert.RDguIdeal.τ) (Cert.RDguIdeal.main (F := Ideal))) ⟨m', fun _ => 0, g'⟩ (fun r => ∀ c : Dev Cert.RDguIdeal.nD,
          r.2.mem ((c.tc : Thread Cert.RDguIdeal.nD Cert.RDguIdeal.τ).loc Cert.RDguIdeal.main_v11) = v0 c
          ∧ r.2.mem ((c.tc : Thread Cert.RDguIdeal.nD Cert.RDguIdeal.τ).loc Cert.RDguIdeal.main_v12) = v1 c
          ∧ r.2.mem ((c.tc : Thread Cert.RDguIdeal.nD Cert.RDguIdeal.τ).loc Cert.RDguIdeal.main_arg0) = m' ((c.tc : Thread Cert.RDguIdeal.nD Cert.RDguIdeal.τ).loc Cert.RDguIdeal.main_arg0)
          ∧ r.2.mem ((c.tc : Thread Cert.RDguIdeal.nD Cert.RDguIdeal.τ).loc Cert.RDguIdeal.main_arg1) = m' ((c.tc : Thread Cert.RDguIdeal.nD Cert.RDguIdeal.τ).loc Cert.RDguIdeal.main_arg1)
          ∧ r.2.mem ((c.tc : Thread Cert.RDguIdeal.nD Cert.RDguIdeal.τ).loc Cert.RDguIdeal.main_arg2) = m' ((c.tc : Thread Cert.RDguIdeal.nD Cert.RDguIdeal.τ).loc Cert.RDguIdeal.main_arg2)
          ∧ r.2.mem ((c.tc : Thread Cert.RDguIdeal.nD Cert.RDguIdeal.τ).loc Cert.RDguIdeal.main_arg3) = m' ((c.tc : Thread Cert.RDguIdeal.nD Cert.RDguIdeal.τ).loc Cert.RDguIdeal.main_arg3))

def preserves_KDwgu_KDwguIdeal : Prop :=
  True

def algebraic_KDwguIdeal_RDwguIdeal [hKDwguIdeal : Cert.KDwguIdeal.Facts] [hRDwguIdeal : Cert.RDwguIdeal.Facts] : Prop :=
  ∀ (m : (ℓ : Loc Cert.KDwguIdeal.nD Cert.KDwguIdeal.τ Cert.KDwguIdeal.sig) → Buf (Elt Ideal) ℓ) (g : Dev Cert.KDwguIdeal.nD → PrngReg)
    (m' : (ℓ : Loc Cert.RDwguIdeal.nD Cert.RDwguIdeal.τ Cert.RDwguIdeal.sig) → Buf (Elt Ideal) ℓ) (g' : Dev Cert.RDwguIdeal.nD → PrngReg), Pre_KDwguIdeal m →
    (∀ c : Dev Cert.KDwguIdeal.nD,
      m' ((c.tc : Thread Cert.RDwguIdeal.nD Cert.RDwguIdeal.τ).loc Cert.RDwguIdeal.main_arg0) = m ((c.tc : Thread Cert.KDwguIdeal.nD Cert.KDwguIdeal.τ).loc Cert.KDwguIdeal.main_arg0)
      ∧ m' ((c.tc : Thread Cert.RDwguIdeal.nD Cert.RDwguIdeal.τ).loc Cert.RDwguIdeal.main_arg1) = m ((c.tc : Thread Cert.KDwguIdeal.nD Cert.KDwguIdeal.τ).loc Cert.KDwguIdeal.main_arg1)
      ∧ m' ((c.tc : Thread Cert.RDwguIdeal.nD Cert.RDwguIdeal.τ).loc Cert.RDwguIdeal.main_arg2) = m ((c.tc : Thread Cert.KDwguIdeal.nD Cert.KDwguIdeal.τ).loc Cert.KDwguIdeal.main_arg2)) →
    ∃ (v0 : (c : Dev Cert.KDwguIdeal.nD) → Buf (Elt Ideal) ((c.tc : Thread Cert.KDwguIdeal.nD Cert.KDwguIdeal.τ).loc Cert.KDwguIdeal.main_v0)),
      θ_run (Cert.KDwguIdeal.defs (F := Ideal)) (onTc (τ := Cert.KDwguIdeal.τ) (Cert.KDwguIdeal.main (F := Ideal))) ⟨m, fun _ => 0, g⟩ (fun r => ∀ c : Dev Cert.KDwguIdeal.nD,
          r.2.mem ((c.tc : Thread Cert.KDwguIdeal.nD Cert.KDwguIdeal.τ).loc Cert.KDwguIdeal.main_v0) = v0 c
          ∧ r.2.mem ((c.tc : Thread Cert.KDwguIdeal.nD Cert.KDwguIdeal.τ).loc Cert.KDwguIdeal.main_arg0) = m ((c.tc : Thread Cert.KDwguIdeal.nD Cert.KDwguIdeal.τ).loc Cert.KDwguIdeal.main_arg0)
          ∧ r.2.mem ((c.tc : Thread Cert.KDwguIdeal.nD Cert.KDwguIdeal.τ).loc Cert.KDwguIdeal.main_arg1) = m ((c.tc : Thread Cert.KDwguIdeal.nD Cert.KDwguIdeal.τ).loc Cert.KDwguIdeal.main_arg1)
          ∧ r.2.mem ((c.tc : Thread Cert.KDwguIdeal.nD Cert.KDwguIdeal.τ).loc Cert.KDwguIdeal.main_arg2) = m ((c.tc : Thread Cert.KDwguIdeal.nD Cert.KDwguIdeal.τ).loc Cert.KDwguIdeal.main_arg2))
      ∧ θ_run (Cert.RDwguIdeal.defs (F := Ideal)) (onTc (τ := Cert.RDwguIdeal.τ) (Cert.RDwguIdeal.main (F := Ideal))) ⟨m', fun _ => 0, g'⟩ (fun r => ∀ c : Dev Cert.RDwguIdeal.nD,
          r.2.mem ((c.tc : Thread Cert.RDwguIdeal.nD Cert.RDwguIdeal.τ).loc Cert.RDwguIdeal.main_v12) = v0 c
          ∧ r.2.mem ((c.tc : Thread Cert.RDwguIdeal.nD Cert.RDwguIdeal.τ).loc Cert.RDwguIdeal.main_arg0) = m' ((c.tc : Thread Cert.RDwguIdeal.nD Cert.RDwguIdeal.τ).loc Cert.RDwguIdeal.main_arg0)
          ∧ r.2.mem ((c.tc : Thread Cert.RDwguIdeal.nD Cert.RDwguIdeal.τ).loc Cert.RDwguIdeal.main_arg1) = m' ((c.tc : Thread Cert.RDwguIdeal.nD Cert.RDwguIdeal.τ).loc Cert.RDwguIdeal.main_arg1)
          ∧ r.2.mem ((c.tc : Thread Cert.RDwguIdeal.nD Cert.RDwguIdeal.τ).loc Cert.RDwguIdeal.main_arg2) = m' ((c.tc : Thread Cert.RDwguIdeal.nD Cert.RDwguIdeal.τ).loc Cert.RDwguIdeal.main_arg2))

def preserves_KDh_KDhIdeal : Prop :=
  True

def algebraic_KDhIdeal_RDhIdeal [hKDhIdeal : Cert.KDhIdeal.Facts] [hRDhIdeal : Cert.RDhIdeal.Facts] : Prop :=
  ∀ (m : (ℓ : Loc Cert.KDhIdeal.nD Cert.KDhIdeal.τ Cert.KDhIdeal.sig) → Buf (Elt Ideal) ℓ) (g : Dev Cert.KDhIdeal.nD → PrngReg)
    (m' : (ℓ : Loc Cert.RDhIdeal.nD Cert.RDhIdeal.τ Cert.RDhIdeal.sig) → Buf (Elt Ideal) ℓ) (g' : Dev Cert.RDhIdeal.nD → PrngReg), Pre_KDhIdeal m →
    (∀ c : Dev Cert.KDhIdeal.nD,
      m' ((c.tc : Thread Cert.RDhIdeal.nD Cert.RDhIdeal.τ).loc Cert.RDhIdeal.main_arg0) = m ((c.tc : Thread Cert.KDhIdeal.nD Cert.KDhIdeal.τ).loc Cert.KDhIdeal.main_arg0)
      ∧ m' ((c.tc : Thread Cert.RDhIdeal.nD Cert.RDhIdeal.τ).loc Cert.RDhIdeal.main_arg1) = m ((c.tc : Thread Cert.KDhIdeal.nD Cert.KDhIdeal.τ).loc Cert.KDhIdeal.main_arg1)
      ∧ m' ((c.tc : Thread Cert.RDhIdeal.nD Cert.RDhIdeal.τ).loc Cert.RDhIdeal.main_arg2) = m ((c.tc : Thread Cert.KDhIdeal.nD Cert.KDhIdeal.τ).loc Cert.KDhIdeal.main_arg2)) →
    ∃ (v0 : (c : Dev Cert.KDhIdeal.nD) → Buf (Elt Ideal) ((c.tc : Thread Cert.KDhIdeal.nD Cert.KDhIdeal.τ).loc Cert.KDhIdeal.main_v3)),
      θ_run (Cert.KDhIdeal.defs (F := Ideal)) (onTc (τ := Cert.KDhIdeal.τ) (Cert.KDhIdeal.main (F := Ideal))) ⟨m, fun _ => 0, g⟩ (fun r => ∀ c : Dev Cert.KDhIdeal.nD,
          r.2.mem ((c.tc : Thread Cert.KDhIdeal.nD Cert.KDhIdeal.τ).loc Cert.KDhIdeal.main_v3) = v0 c
          ∧ r.2.mem ((c.tc : Thread Cert.KDhIdeal.nD Cert.KDhIdeal.τ).loc Cert.KDhIdeal.main_arg0) = m ((c.tc : Thread Cert.KDhIdeal.nD Cert.KDhIdeal.τ).loc Cert.KDhIdeal.main_arg0)
          ∧ r.2.mem ((c.tc : Thread Cert.KDhIdeal.nD Cert.KDhIdeal.τ).loc Cert.KDhIdeal.main_arg1) = m ((c.tc : Thread Cert.KDhIdeal.nD Cert.KDhIdeal.τ).loc Cert.KDhIdeal.main_arg1)
          ∧ r.2.mem ((c.tc : Thread Cert.KDhIdeal.nD Cert.KDhIdeal.τ).loc Cert.KDhIdeal.main_arg2) = m ((c.tc : Thread Cert.KDhIdeal.nD Cert.KDhIdeal.τ).loc Cert.KDhIdeal.main_arg2))
      ∧ θ_run (Cert.RDhIdeal.defs (F := Ideal)) (onTc (τ := Cert.RDhIdeal.τ) (Cert.RDhIdeal.main (F := Ideal))) ⟨m', fun _ => 0, g'⟩ (fun r => ∀ c : Dev Cert.RDhIdeal.nD,
          r.2.mem ((c.tc : Thread Cert.RDhIdeal.nD Cert.RDhIdeal.τ).loc Cert.RDhIdeal.main_v8) = v0 c
          ∧ r.2.mem ((c.tc : Thread Cert.RDhIdeal.nD Cert.RDhIdeal.τ).loc Cert.RDhIdeal.main_arg0) = m' ((c.tc : Thread Cert.RDhIdeal.nD Cert.RDhIdeal.τ).loc Cert.RDhIdeal.main_arg0)
          ∧ r.2.mem ((c.tc : Thread Cert.RDhIdeal.nD Cert.RDhIdeal.τ).loc Cert.RDhIdeal.main_arg1) = m' ((c.tc : Thread Cert.RDhIdeal.nD Cert.RDhIdeal.τ).loc Cert.RDhIdeal.main_arg1)
          ∧ r.2.mem ((c.tc : Thread Cert.RDhIdeal.nD Cert.RDhIdeal.τ).loc Cert.RDhIdeal.main_arg2) = m' ((c.tc : Thread Cert.RDhIdeal.nD Cert.RDhIdeal.τ).loc Cert.RDhIdeal.main_arg2))

def preserves_KDwd_KDwdIdeal : Prop :=
  True

def algebraic_KDwdIdeal_RDwdIdeal [hKDwdIdeal : Cert.KDwdIdeal.Facts] [hRDwdIdeal : Cert.RDwdIdeal.Facts] : Prop :=
  ∀ (m : (ℓ : Loc Cert.KDwdIdeal.nD Cert.KDwdIdeal.τ Cert.KDwdIdeal.sig) → Buf (Elt Ideal) ℓ) (g : Dev Cert.KDwdIdeal.nD → PrngReg)
    (m' : (ℓ : Loc Cert.RDwdIdeal.nD Cert.RDwdIdeal.τ Cert.RDwdIdeal.sig) → Buf (Elt Ideal) ℓ) (g' : Dev Cert.RDwdIdeal.nD → PrngReg), Pre_KDwdIdeal m →
    (∀ c : Dev Cert.KDwdIdeal.nD,
      m' ((c.tc : Thread Cert.RDwdIdeal.nD Cert.RDwdIdeal.τ).loc Cert.RDwdIdeal.main_arg0) = m ((c.tc : Thread Cert.KDwdIdeal.nD Cert.KDwdIdeal.τ).loc Cert.KDwdIdeal.main_arg0)
      ∧ m' ((c.tc : Thread Cert.RDwdIdeal.nD Cert.RDwdIdeal.τ).loc Cert.RDwdIdeal.main_arg1) = m ((c.tc : Thread Cert.KDwdIdeal.nD Cert.KDwdIdeal.τ).loc Cert.KDwdIdeal.main_arg1)) →
    ∃ (v0 : (c : Dev Cert.KDwdIdeal.nD) → Buf (Elt Ideal) ((c.tc : Thread Cert.KDwdIdeal.nD Cert.KDwdIdeal.τ).loc Cert.KDwdIdeal.main_v0)),
      θ_run (Cert.KDwdIdeal.defs (F := Ideal)) (onTc (τ := Cert.KDwdIdeal.τ) (Cert.KDwdIdeal.main (F := Ideal))) ⟨m, fun _ => 0, g⟩ (fun r => ∀ c : Dev Cert.KDwdIdeal.nD,
          r.2.mem ((c.tc : Thread Cert.KDwdIdeal.nD Cert.KDwdIdeal.τ).loc Cert.KDwdIdeal.main_v0) = v0 c
          ∧ r.2.mem ((c.tc : Thread Cert.KDwdIdeal.nD Cert.KDwdIdeal.τ).loc Cert.KDwdIdeal.main_arg0) = m ((c.tc : Thread Cert.KDwdIdeal.nD Cert.KDwdIdeal.τ).loc Cert.KDwdIdeal.main_arg0)
          ∧ r.2.mem ((c.tc : Thread Cert.KDwdIdeal.nD Cert.KDwdIdeal.τ).loc Cert.KDwdIdeal.main_arg1) = m ((c.tc : Thread Cert.KDwdIdeal.nD Cert.KDwdIdeal.τ).loc Cert.KDwdIdeal.main_arg1))
      ∧ θ_run (Cert.RDwdIdeal.defs (F := Ideal)) (onTc (τ := Cert.RDwdIdeal.τ) (Cert.RDwdIdeal.main (F := Ideal))) ⟨m', fun _ => 0, g'⟩ (fun r => ∀ c : Dev Cert.RDwdIdeal.nD,
          r.2.mem ((c.tc : Thread Cert.RDwdIdeal.nD Cert.RDwdIdeal.τ).loc Cert.RDwdIdeal.main_v6) = v0 c
          ∧ r.2.mem ((c.tc : Thread Cert.RDwdIdeal.nD Cert.RDwdIdeal.τ).loc Cert.RDwdIdeal.main_arg0) = m' ((c.tc : Thread Cert.RDwdIdeal.nD Cert.RDwdIdeal.τ).loc Cert.RDwdIdeal.main_arg0)
          ∧ r.2.mem ((c.tc : Thread Cert.RDwdIdeal.nD Cert.RDwdIdeal.τ).loc Cert.RDwdIdeal.main_arg1) = m' ((c.tc : Thread Cert.RDwdIdeal.nD Cert.RDwdIdeal.τ).loc Cert.RDwdIdeal.main_arg1))

def preserves_KMerge_KMergeIdeal : Prop :=
  True

def algebraic_KMergeIdeal_RMergeIdeal [hKMergeIdeal : Cert.KMergeIdeal.Facts] [hRMergeIdeal : Cert.RMergeIdeal.Facts] : Prop :=
  ∀ (m : (ℓ : Loc Cert.KMergeIdeal.nD Cert.KMergeIdeal.τ Cert.KMergeIdeal.sig) → Buf (Elt Ideal) ℓ) (g : Dev Cert.KMergeIdeal.nD → PrngReg)
    (m' : (ℓ : Loc Cert.RMergeIdeal.nD Cert.RMergeIdeal.τ Cert.RMergeIdeal.sig) → Buf (Elt Ideal) ℓ) (g' : Dev Cert.RMergeIdeal.nD → PrngReg), Pre_KMergeIdeal m →
    (∀ c : Dev Cert.KMergeIdeal.nD,
      m' ((c.tc : Thread Cert.RMergeIdeal.nD Cert.RMergeIdeal.τ).loc Cert.RMergeIdeal.main_arg0) = m ((c.tc : Thread Cert.KMergeIdeal.nD Cert.KMergeIdeal.τ).loc Cert.KMergeIdeal.main_arg0)
      ∧ m' ((c.tc : Thread Cert.RMergeIdeal.nD Cert.RMergeIdeal.τ).loc Cert.RMergeIdeal.main_arg1) = m ((c.tc : Thread Cert.KMergeIdeal.nD Cert.KMergeIdeal.τ).loc Cert.KMergeIdeal.main_arg1)
      ∧ m' ((c.tc : Thread Cert.RMergeIdeal.nD Cert.RMergeIdeal.τ).loc Cert.RMergeIdeal.main_arg2) = m ((c.tc : Thread Cert.KMergeIdeal.nD Cert.KMergeIdeal.τ).loc Cert.KMergeIdeal.main_arg2)
      ∧ m' ((c.tc : Thread Cert.RMergeIdeal.nD Cert.RMergeIdeal.τ).loc Cert.RMergeIdeal.main_arg3) = m ((c.tc : Thread Cert.KMergeIdeal.nD Cert.KMergeIdeal.τ).loc Cert.KMergeIdeal.main_arg3)
      ∧ m' ((c.tc : Thread Cert.RMergeIdeal.nD Cert.RMergeIdeal.τ).loc Cert.RMergeIdeal.main_arg4) = m ((c.tc : Thread Cert.KMergeIdeal.nD Cert.KMergeIdeal.τ).loc Cert.KMergeIdeal.main_arg4)
      ∧ m' ((c.tc : Thread Cert.RMergeIdeal.nD Cert.RMergeIdeal.τ).loc Cert.RMergeIdeal.main_arg5) = m ((c.tc : Thread Cert.KMergeIdeal.nD Cert.KMergeIdeal.τ).loc Cert.KMergeIdeal.main_arg5)) →
    ∃ (v0 : (c : Dev Cert.KMergeIdeal.nD) → Buf (Elt Ideal) ((c.tc : Thread Cert.KMergeIdeal.nD Cert.KMergeIdeal.τ).loc Cert.KMergeIdeal.main_v7_0)) (v1 : (c : Dev Cert.KMergeIdeal.nD) → Buf (Elt Ideal) ((c.tc : Thread Cert.KMergeIdeal.nD Cert.KMergeIdeal.τ).loc Cert.KMergeIdeal.main_v7_1)) (v2 : (c : Dev Cert.KMergeIdeal.nD) → Buf (Elt Ideal) ((c.tc : Thread Cert.KMergeIdeal.nD Cert.KMergeIdeal.τ).loc Cert.KMergeIdeal.main_v7_2)),
      θ_run (Cert.KMergeIdeal.defs (F := Ideal)) (onTc (τ := Cert.KMergeIdeal.τ) (Cert.KMergeIdeal.main (F := Ideal))) ⟨m, fun _ => 0, g⟩ (fun r => ∀ c : Dev Cert.KMergeIdeal.nD,
          r.2.mem ((c.tc : Thread Cert.KMergeIdeal.nD Cert.KMergeIdeal.τ).loc Cert.KMergeIdeal.main_v7_0) = v0 c
          ∧ r.2.mem ((c.tc : Thread Cert.KMergeIdeal.nD Cert.KMergeIdeal.τ).loc Cert.KMergeIdeal.main_v7_1) = v1 c
          ∧ r.2.mem ((c.tc : Thread Cert.KMergeIdeal.nD Cert.KMergeIdeal.τ).loc Cert.KMergeIdeal.main_v7_2) = v2 c
          ∧ r.2.mem ((c.tc : Thread Cert.KMergeIdeal.nD Cert.KMergeIdeal.τ).loc Cert.KMergeIdeal.main_arg0) = m ((c.tc : Thread Cert.KMergeIdeal.nD Cert.KMergeIdeal.τ).loc Cert.KMergeIdeal.main_arg0)
          ∧ r.2.mem ((c.tc : Thread Cert.KMergeIdeal.nD Cert.KMergeIdeal.τ).loc Cert.KMergeIdeal.main_arg1) = m ((c.tc : Thread Cert.KMergeIdeal.nD Cert.KMergeIdeal.τ).loc Cert.KMergeIdeal.main_arg1)
          ∧ r.2.mem ((c.tc : Thread Cert.KMergeIdeal.nD Cert.KMergeIdeal.τ).loc Cert.KMergeIdeal.main_arg2) = m ((c.tc : Thread Cert.KMergeIdeal.nD Cert.KMergeIdeal.τ).loc Cert.KMergeIdeal.main_arg2)
          ∧ r.2.mem ((c.tc : Thread Cert.KMergeIdeal.nD Cert.KMergeIdeal.τ).loc Cert.KMergeIdeal.main_arg3) = m ((c.tc : Thread Cert.KMergeIdeal.nD Cert.KMergeIdeal.τ).loc Cert.KMergeIdeal.main_arg3)
          ∧ r.2.mem ((c.tc : Thread Cert.KMergeIdeal.nD Cert.KMergeIdeal.τ).loc Cert.KMergeIdeal.main_arg4) = m ((c.tc : Thread Cert.KMergeIdeal.nD Cert.KMergeIdeal.τ).loc Cert.KMergeIdeal.main_arg4)
          ∧ r.2.mem ((c.tc : Thread Cert.KMergeIdeal.nD Cert.KMergeIdeal.τ).loc Cert.KMergeIdeal.main_arg5) = m ((c.tc : Thread Cert.KMergeIdeal.nD Cert.KMergeIdeal.τ).loc Cert.KMergeIdeal.main_arg5))
      ∧ θ_run (Cert.RMergeIdeal.defs (F := Ideal)) (onTc (τ := Cert.RMergeIdeal.τ) (Cert.RMergeIdeal.main (F := Ideal))) ⟨m', fun _ => 0, g'⟩ (fun r => ∀ c : Dev Cert.RMergeIdeal.nD,
          r.2.mem ((c.tc : Thread Cert.RMergeIdeal.nD Cert.RMergeIdeal.τ).loc Cert.RMergeIdeal.main_v41) = v0 c
          ∧ r.2.mem ((c.tc : Thread Cert.RMergeIdeal.nD Cert.RMergeIdeal.τ).loc Cert.RMergeIdeal.main_v42) = v1 c
          ∧ r.2.mem ((c.tc : Thread Cert.RMergeIdeal.nD Cert.RMergeIdeal.τ).loc Cert.RMergeIdeal.main_v43) = v2 c
          ∧ r.2.mem ((c.tc : Thread Cert.RMergeIdeal.nD Cert.RMergeIdeal.τ).loc Cert.RMergeIdeal.main_arg0) = m' ((c.tc : Thread Cert.RMergeIdeal.nD Cert.RMergeIdeal.τ).loc Cert.RMergeIdeal.main_arg0)
          ∧ r.2.mem ((c.tc : Thread Cert.RMergeIdeal.nD Cert.RMergeIdeal.τ).loc Cert.RMergeIdeal.main_arg1) = m' ((c.tc : Thread Cert.RMergeIdeal.nD Cert.RMergeIdeal.τ).loc Cert.RMergeIdeal.main_arg1)
          ∧ r.2.mem ((c.tc : Thread Cert.RMergeIdeal.nD Cert.RMergeIdeal.τ).loc Cert.RMergeIdeal.main_arg2) = m' ((c.tc : Thread Cert.RMergeIdeal.nD Cert.RMergeIdeal.τ).loc Cert.RMergeIdeal.main_arg2)
          ∧ r.2.mem ((c.tc : Thread Cert.RMergeIdeal.nD Cert.RMergeIdeal.τ).loc Cert.RMergeIdeal.main_arg3) = m' ((c.tc : Thread Cert.RMergeIdeal.nD Cert.RMergeIdeal.τ).loc Cert.RMergeIdeal.main_arg3)
          ∧ r.2.mem ((c.tc : Thread Cert.RMergeIdeal.nD Cert.RMergeIdeal.τ).loc Cert.RMergeIdeal.main_arg4) = m' ((c.tc : Thread Cert.RMergeIdeal.nD Cert.RMergeIdeal.τ).loc Cert.RMergeIdeal.main_arg4)
          ∧ r.2.mem ((c.tc : Thread Cert.RMergeIdeal.nD Cert.RMergeIdeal.τ).loc Cert.RMergeIdeal.main_arg5) = m' ((c.tc : Thread Cert.RMergeIdeal.nD Cert.RMergeIdeal.τ).loc Cert.RMergeIdeal.main_arg5))

def preserves_KDwin_KDwinIdeal : Prop :=
  True

def algebraic_KDwinIdeal_RDwinIdeal [hKDwinIdeal : Cert.KDwinIdeal.Facts] [hRDwinIdeal : Cert.RDwinIdeal.Facts] : Prop :=
  ∀ (m : (ℓ : Loc Cert.KDwinIdeal.nD Cert.KDwinIdeal.τ Cert.KDwinIdeal.sig) → Buf (Elt Ideal) ℓ) (g : Dev Cert.KDwinIdeal.nD → PrngReg)
    (m' : (ℓ : Loc Cert.RDwinIdeal.nD Cert.RDwinIdeal.τ Cert.RDwinIdeal.sig) → Buf (Elt Ideal) ℓ) (g' : Dev Cert.RDwinIdeal.nD → PrngReg), Pre_KDwinIdeal m →
    (∀ c : Dev Cert.KDwinIdeal.nD,
      m' ((c.tc : Thread Cert.RDwinIdeal.nD Cert.RDwinIdeal.τ).loc Cert.RDwinIdeal.main_arg0) = m ((c.tc : Thread Cert.KDwinIdeal.nD Cert.KDwinIdeal.τ).loc Cert.KDwinIdeal.main_arg0)
      ∧ m' ((c.tc : Thread Cert.RDwinIdeal.nD Cert.RDwinIdeal.τ).loc Cert.RDwinIdeal.main_arg1) = m ((c.tc : Thread Cert.KDwinIdeal.nD Cert.KDwinIdeal.τ).loc Cert.KDwinIdeal.main_arg1)) →
    ∃ (v0 : (c : Dev Cert.KDwinIdeal.nD) → Buf (Elt Ideal) ((c.tc : Thread Cert.KDwinIdeal.nD Cert.KDwinIdeal.τ).loc Cert.KDwinIdeal.main_v0)),
      θ_run (Cert.KDwinIdeal.defs (F := Ideal)) (onTc (τ := Cert.KDwinIdeal.τ) (Cert.KDwinIdeal.main (F := Ideal))) ⟨m, fun _ => 0, g⟩ (fun r => ∀ c : Dev Cert.KDwinIdeal.nD,
          r.2.mem ((c.tc : Thread Cert.KDwinIdeal.nD Cert.KDwinIdeal.τ).loc Cert.KDwinIdeal.main_v0) = v0 c
          ∧ r.2.mem ((c.tc : Thread Cert.KDwinIdeal.nD Cert.KDwinIdeal.τ).loc Cert.KDwinIdeal.main_arg0) = m ((c.tc : Thread Cert.KDwinIdeal.nD Cert.KDwinIdeal.τ).loc Cert.KDwinIdeal.main_arg0)
          ∧ r.2.mem ((c.tc : Thread Cert.KDwinIdeal.nD Cert.KDwinIdeal.τ).loc Cert.KDwinIdeal.main_arg1) = m ((c.tc : Thread Cert.KDwinIdeal.nD Cert.KDwinIdeal.τ).loc Cert.KDwinIdeal.main_arg1))
      ∧ θ_run (Cert.RDwinIdeal.defs (F := Ideal)) (onTc (τ := Cert.RDwinIdeal.τ) (Cert.RDwinIdeal.main (F := Ideal))) ⟨m', fun _ => 0, g'⟩ (fun r => ∀ c : Dev Cert.RDwinIdeal.nD,
          r.2.mem ((c.tc : Thread Cert.RDwinIdeal.nD Cert.RDwinIdeal.τ).loc Cert.RDwinIdeal.main_v6) = v0 c
          ∧ r.2.mem ((c.tc : Thread Cert.RDwinIdeal.nD Cert.RDwinIdeal.τ).loc Cert.RDwinIdeal.main_arg0) = m' ((c.tc : Thread Cert.RDwinIdeal.nD Cert.RDwinIdeal.τ).loc Cert.RDwinIdeal.main_arg0)
          ∧ r.2.mem ((c.tc : Thread Cert.RDwinIdeal.nD Cert.RDwinIdeal.τ).loc Cert.RDwinIdeal.main_arg1) = m' ((c.tc : Thread Cert.RDwinIdeal.nD Cert.RDwinIdeal.τ).loc Cert.RDwinIdeal.main_arg1))

def preserves_KDwo_KDwoIdeal : Prop :=
  True

def algebraic_KDwoIdeal_RDwoIdeal [hKDwoIdeal : Cert.KDwoIdeal.Facts] [hRDwoIdeal : Cert.RDwoIdeal.Facts] : Prop :=
  ∀ (m : (ℓ : Loc Cert.KDwoIdeal.nD Cert.KDwoIdeal.τ Cert.KDwoIdeal.sig) → Buf (Elt Ideal) ℓ) (g : Dev Cert.KDwoIdeal.nD → PrngReg)
    (m' : (ℓ : Loc Cert.RDwoIdeal.nD Cert.RDwoIdeal.τ Cert.RDwoIdeal.sig) → Buf (Elt Ideal) ℓ) (g' : Dev Cert.RDwoIdeal.nD → PrngReg), Pre_KDwoIdeal m →
    (∀ c : Dev Cert.KDwoIdeal.nD,
      m' ((c.tc : Thread Cert.RDwoIdeal.nD Cert.RDwoIdeal.τ).loc Cert.RDwoIdeal.main_arg0) = m ((c.tc : Thread Cert.KDwoIdeal.nD Cert.KDwoIdeal.τ).loc Cert.KDwoIdeal.main_arg0)
      ∧ m' ((c.tc : Thread Cert.RDwoIdeal.nD Cert.RDwoIdeal.τ).loc Cert.RDwoIdeal.main_arg1) = m ((c.tc : Thread Cert.KDwoIdeal.nD Cert.KDwoIdeal.τ).loc Cert.KDwoIdeal.main_arg1)) →
    ∃ (v0 : (c : Dev Cert.KDwoIdeal.nD) → Buf (Elt Ideal) ((c.tc : Thread Cert.KDwoIdeal.nD Cert.KDwoIdeal.τ).loc Cert.KDwoIdeal.main_v0)),
      θ_run (Cert.KDwoIdeal.defs (F := Ideal)) (onTc (τ := Cert.KDwoIdeal.τ) (Cert.KDwoIdeal.main (F := Ideal))) ⟨m, fun _ => 0, g⟩ (fun r => ∀ c : Dev Cert.KDwoIdeal.nD,
          r.2.mem ((c.tc : Thread Cert.KDwoIdeal.nD Cert.KDwoIdeal.τ).loc Cert.KDwoIdeal.main_v0) = v0 c
          ∧ r.2.mem ((c.tc : Thread Cert.KDwoIdeal.nD Cert.KDwoIdeal.τ).loc Cert.KDwoIdeal.main_arg0) = m ((c.tc : Thread Cert.KDwoIdeal.nD Cert.KDwoIdeal.τ).loc Cert.KDwoIdeal.main_arg0)
          ∧ r.2.mem ((c.tc : Thread Cert.KDwoIdeal.nD Cert.KDwoIdeal.τ).loc Cert.KDwoIdeal.main_arg1) = m ((c.tc : Thread Cert.KDwoIdeal.nD Cert.KDwoIdeal.τ).loc Cert.KDwoIdeal.main_arg1))
      ∧ θ_run (Cert.RDwoIdeal.defs (F := Ideal)) (onTc (τ := Cert.RDwoIdeal.τ) (Cert.RDwoIdeal.main (F := Ideal))) ⟨m', fun _ => 0, g'⟩ (fun r => ∀ c : Dev Cert.RDwoIdeal.nD,
          r.2.mem ((c.tc : Thread Cert.RDwoIdeal.nD Cert.RDwoIdeal.τ).loc Cert.RDwoIdeal.main_v6) = v0 c
          ∧ r.2.mem ((c.tc : Thread Cert.RDwoIdeal.nD Cert.RDwoIdeal.τ).loc Cert.RDwoIdeal.main_arg0) = m' ((c.tc : Thread Cert.RDwoIdeal.nD Cert.RDwoIdeal.τ).loc Cert.RDwoIdeal.main_arg0)
          ∧ r.2.mem ((c.tc : Thread Cert.RDwoIdeal.nD Cert.RDwoIdeal.τ).loc Cert.RDwoIdeal.main_arg1) = m' ((c.tc : Thread Cert.RDwoIdeal.nD Cert.RDwoIdeal.τ).loc Cert.RDwoIdeal.main_arg1))

def preserves_KDwup_KDwupIdeal : Prop :=
  True

def algebraic_KDwupIdeal_RDwupIdeal [hKDwupIdeal : Cert.KDwupIdeal.Facts] [hRDwupIdeal : Cert.RDwupIdeal.Facts] : Prop :=
  ∀ (m : (ℓ : Loc Cert.KDwupIdeal.nD Cert.KDwupIdeal.τ Cert.KDwupIdeal.sig) → Buf (Elt Ideal) ℓ) (g : Dev Cert.KDwupIdeal.nD → PrngReg)
    (m' : (ℓ : Loc Cert.RDwupIdeal.nD Cert.RDwupIdeal.τ Cert.RDwupIdeal.sig) → Buf (Elt Ideal) ℓ) (g' : Dev Cert.RDwupIdeal.nD → PrngReg), Pre_KDwupIdeal m →
    (∀ c : Dev Cert.KDwupIdeal.nD,
      m' ((c.tc : Thread Cert.RDwupIdeal.nD Cert.RDwupIdeal.τ).loc Cert.RDwupIdeal.main_arg0) = m ((c.tc : Thread Cert.KDwupIdeal.nD Cert.KDwupIdeal.τ).loc Cert.KDwupIdeal.main_arg0)
      ∧ m' ((c.tc : Thread Cert.RDwupIdeal.nD Cert.RDwupIdeal.τ).loc Cert.RDwupIdeal.main_arg1) = m ((c.tc : Thread Cert.KDwupIdeal.nD Cert.KDwupIdeal.τ).loc Cert.KDwupIdeal.main_arg1)) →
    ∃ (v0 : (c : Dev Cert.KDwupIdeal.nD) → Buf (Elt Ideal) ((c.tc : Thread Cert.KDwupIdeal.nD Cert.KDwupIdeal.τ).loc Cert.KDwupIdeal.main_v0)),
      θ_run (Cert.KDwupIdeal.defs (F := Ideal)) (onTc (τ := Cert.KDwupIdeal.τ) (Cert.KDwupIdeal.main (F := Ideal))) ⟨m, fun _ => 0, g⟩ (fun r => ∀ c : Dev Cert.KDwupIdeal.nD,
          r.2.mem ((c.tc : Thread Cert.KDwupIdeal.nD Cert.KDwupIdeal.τ).loc Cert.KDwupIdeal.main_v0) = v0 c
          ∧ r.2.mem ((c.tc : Thread Cert.KDwupIdeal.nD Cert.KDwupIdeal.τ).loc Cert.KDwupIdeal.main_arg0) = m ((c.tc : Thread Cert.KDwupIdeal.nD Cert.KDwupIdeal.τ).loc Cert.KDwupIdeal.main_arg0)
          ∧ r.2.mem ((c.tc : Thread Cert.KDwupIdeal.nD Cert.KDwupIdeal.τ).loc Cert.KDwupIdeal.main_arg1) = m ((c.tc : Thread Cert.KDwupIdeal.nD Cert.KDwupIdeal.τ).loc Cert.KDwupIdeal.main_arg1))
      ∧ θ_run (Cert.RDwupIdeal.defs (F := Ideal)) (onTc (τ := Cert.RDwupIdeal.τ) (Cert.RDwupIdeal.main (F := Ideal))) ⟨m', fun _ => 0, g'⟩ (fun r => ∀ c : Dev Cert.RDwupIdeal.nD,
          r.2.mem ((c.tc : Thread Cert.RDwupIdeal.nD Cert.RDwupIdeal.τ).loc Cert.RDwupIdeal.main_v6) = v0 c
          ∧ r.2.mem ((c.tc : Thread Cert.RDwupIdeal.nD Cert.RDwupIdeal.τ).loc Cert.RDwupIdeal.main_arg0) = m' ((c.tc : Thread Cert.RDwupIdeal.nD Cert.RDwupIdeal.τ).loc Cert.RDwupIdeal.main_arg0)
          ∧ r.2.mem ((c.tc : Thread Cert.RDwupIdeal.nD Cert.RDwupIdeal.τ).loc Cert.RDwupIdeal.main_arg1) = m' ((c.tc : Thread Cert.RDwupIdeal.nD Cert.RDwupIdeal.τ).loc Cert.RDwupIdeal.main_arg1))

def preserves_KDhm_KDhmIdeal : Prop :=
  True

def algebraic_KDhmIdeal_RDhmIdeal [hKDhmIdeal : Cert.KDhmIdeal.Facts] [hRDhmIdeal : Cert.RDhmIdeal.Facts] : Prop :=
  ∀ (m : (ℓ : Loc Cert.KDhmIdeal.nD Cert.KDhmIdeal.τ Cert.KDhmIdeal.sig) → Buf (Elt Ideal) ℓ) (g : Dev Cert.KDhmIdeal.nD → PrngReg)
    (m' : (ℓ : Loc Cert.RDhmIdeal.nD Cert.RDhmIdeal.τ Cert.RDhmIdeal.sig) → Buf (Elt Ideal) ℓ) (g' : Dev Cert.RDhmIdeal.nD → PrngReg), Pre_KDhmIdeal m →
    (∀ c : Dev Cert.KDhmIdeal.nD,
      m' ((c.tc : Thread Cert.RDhmIdeal.nD Cert.RDhmIdeal.τ).loc Cert.RDhmIdeal.main_arg0) = m ((c.tc : Thread Cert.KDhmIdeal.nD Cert.KDhmIdeal.τ).loc Cert.KDhmIdeal.main_arg0)
      ∧ m' ((c.tc : Thread Cert.RDhmIdeal.nD Cert.RDhmIdeal.τ).loc Cert.RDhmIdeal.main_arg1) = m ((c.tc : Thread Cert.KDhmIdeal.nD Cert.KDhmIdeal.τ).loc Cert.KDhmIdeal.main_arg1)) →
    ∃ (v0 : (c : Dev Cert.KDhmIdeal.nD) → Buf (Elt Ideal) ((c.tc : Thread Cert.KDhmIdeal.nD Cert.KDhmIdeal.τ).loc Cert.KDhmIdeal.main_v1)),
      θ_run (Cert.KDhmIdeal.defs (F := Ideal)) (onTc (τ := Cert.KDhmIdeal.τ) (Cert.KDhmIdeal.main (F := Ideal))) ⟨m, fun _ => 0, g⟩ (fun r => ∀ c : Dev Cert.KDhmIdeal.nD,
          r.2.mem ((c.tc : Thread Cert.KDhmIdeal.nD Cert.KDhmIdeal.τ).loc Cert.KDhmIdeal.main_v1) = v0 c
          ∧ r.2.mem ((c.tc : Thread Cert.KDhmIdeal.nD Cert.KDhmIdeal.τ).loc Cert.KDhmIdeal.main_arg0) = m ((c.tc : Thread Cert.KDhmIdeal.nD Cert.KDhmIdeal.τ).loc Cert.KDhmIdeal.main_arg0)
          ∧ r.2.mem ((c.tc : Thread Cert.KDhmIdeal.nD Cert.KDhmIdeal.τ).loc Cert.KDhmIdeal.main_arg1) = m ((c.tc : Thread Cert.KDhmIdeal.nD Cert.KDhmIdeal.τ).loc Cert.KDhmIdeal.main_arg1))
      ∧ θ_run (Cert.RDhmIdeal.defs (F := Ideal)) (onTc (τ := Cert.RDhmIdeal.τ) (Cert.RDhmIdeal.main (F := Ideal))) ⟨m', fun _ => 0, g'⟩ (fun r => ∀ c : Dev Cert.RDhmIdeal.nD,
          r.2.mem ((c.tc : Thread Cert.RDhmIdeal.nD Cert.RDhmIdeal.τ).loc Cert.RDhmIdeal.main_v5) = v0 c
          ∧ r.2.mem ((c.tc : Thread Cert.RDhmIdeal.nD Cert.RDhmIdeal.τ).loc Cert.RDhmIdeal.main_arg0) = m' ((c.tc : Thread Cert.RDhmIdeal.nD Cert.RDhmIdeal.τ).loc Cert.RDhmIdeal.main_arg0)
          ∧ r.2.mem ((c.tc : Thread Cert.RDhmIdeal.nD Cert.RDhmIdeal.τ).loc Cert.RDhmIdeal.main_arg1) = m' ((c.tc : Thread Cert.RDhmIdeal.nD Cert.RDhmIdeal.τ).loc Cert.RDhmIdeal.main_arg1))

def preserves_KDpre_KDpreIdeal : Prop :=
  True

def algebraic_KDpreIdeal_RDpreIdeal [hKDpreIdeal : Cert.KDpreIdeal.Facts] [hRDpreIdeal : Cert.RDpreIdeal.Facts] : Prop :=
  ∀ (m : (ℓ : Loc Cert.KDpreIdeal.nD Cert.KDpreIdeal.τ Cert.KDpreIdeal.sig) → Buf (Elt Ideal) ℓ) (g : Dev Cert.KDpreIdeal.nD → PrngReg)
    (m' : (ℓ : Loc Cert.RDpreIdeal.nD Cert.RDpreIdeal.τ Cert.RDpreIdeal.sig) → Buf (Elt Ideal) ℓ) (g' : Dev Cert.RDpreIdeal.nD → PrngReg), Pre_KDpreIdeal m →
    (∀ c : Dev Cert.KDpreIdeal.nD,
      m' ((c.tc : Thread Cert.RDpreIdeal.nD Cert.RDpreIdeal.τ).loc Cert.RDpreIdeal.main_arg0) = m ((c.tc : Thread Cert.KDpreIdeal.nD Cert.KDpreIdeal.τ).loc Cert.KDpreIdeal.main_arg0)
      ∧ m' ((c.tc : Thread Cert.RDpreIdeal.nD Cert.RDpreIdeal.τ).loc Cert.RDpreIdeal.main_arg1) = m ((c.tc : Thread Cert.KDpreIdeal.nD Cert.KDpreIdeal.τ).loc Cert.KDpreIdeal.main_arg1)) →
    ∃ (v0 : (c : Dev Cert.KDpreIdeal.nD) → Buf (Elt Ideal) ((c.tc : Thread Cert.KDpreIdeal.nD Cert.KDpreIdeal.τ).loc Cert.KDpreIdeal.main_v1)),
      θ_run (Cert.KDpreIdeal.defs (F := Ideal)) (onTc (τ := Cert.KDpreIdeal.τ) (Cert.KDpreIdeal.main (F := Ideal))) ⟨m, fun _ => 0, g⟩ (fun r => ∀ c : Dev Cert.KDpreIdeal.nD,
          r.2.mem ((c.tc : Thread Cert.KDpreIdeal.nD Cert.KDpreIdeal.τ).loc Cert.KDpreIdeal.main_v1) = v0 c
          ∧ r.2.mem ((c.tc : Thread Cert.KDpreIdeal.nD Cert.KDpreIdeal.τ).loc Cert.KDpreIdeal.main_arg0) = m ((c.tc : Thread Cert.KDpreIdeal.nD Cert.KDpreIdeal.τ).loc Cert.KDpreIdeal.main_arg0)
          ∧ r.2.mem ((c.tc : Thread Cert.KDpreIdeal.nD Cert.KDpreIdeal.τ).loc Cert.KDpreIdeal.main_arg1) = m ((c.tc : Thread Cert.KDpreIdeal.nD Cert.KDpreIdeal.τ).loc Cert.KDpreIdeal.main_arg1))
      ∧ θ_run (Cert.RDpreIdeal.defs (F := Ideal)) (onTc (τ := Cert.RDpreIdeal.τ) (Cert.RDpreIdeal.main (F := Ideal))) ⟨m', fun _ => 0, g'⟩ (fun r => ∀ c : Dev Cert.RDpreIdeal.nD,
          r.2.mem ((c.tc : Thread Cert.RDpreIdeal.nD Cert.RDpreIdeal.τ).loc Cert.RDpreIdeal.main_v5) = v0 c
          ∧ r.2.mem ((c.tc : Thread Cert.RDpreIdeal.nD Cert.RDpreIdeal.τ).loc Cert.RDpreIdeal.main_arg0) = m' ((c.tc : Thread Cert.RDpreIdeal.nD Cert.RDpreIdeal.τ).loc Cert.RDpreIdeal.main_arg0)
          ∧ r.2.mem ((c.tc : Thread Cert.RDpreIdeal.nD Cert.RDpreIdeal.τ).loc Cert.RDpreIdeal.main_arg1) = m' ((c.tc : Thread Cert.RDpreIdeal.nD Cert.RDpreIdeal.τ).loc Cert.RDpreIdeal.main_arg1))

def preserves_KUp_KUpIdeal : Prop :=
  True

def algebraic_KUpIdeal_RUpIdeal [hKUpIdeal : Cert.KUpIdeal.Facts] [hRUpIdeal : Cert.RUpIdeal.Facts] : Prop :=
  ∀ (m : (ℓ : Loc Cert.KUpIdeal.nD Cert.KUpIdeal.τ Cert.KUpIdeal.sig) → Buf (Elt Ideal) ℓ) (g : Dev Cert.KUpIdeal.nD → PrngReg)
    (m' : (ℓ : Loc Cert.RUpIdeal.nD Cert.RUpIdeal.τ Cert.RUpIdeal.sig) → Buf (Elt Ideal) ℓ) (g' : Dev Cert.RUpIdeal.nD → PrngReg), Pre_KUpIdeal m →
    (∀ c : Dev Cert.KUpIdeal.nD,
      m' ((c.tc : Thread Cert.RUpIdeal.nD Cert.RUpIdeal.τ).loc Cert.RUpIdeal.main_arg0) = m ((c.tc : Thread Cert.KUpIdeal.nD Cert.KUpIdeal.τ).loc Cert.KUpIdeal.main_arg0)
      ∧ m' ((c.tc : Thread Cert.RUpIdeal.nD Cert.RUpIdeal.τ).loc Cert.RUpIdeal.main_arg1) = m ((c.tc : Thread Cert.KUpIdeal.nD Cert.KUpIdeal.τ).loc Cert.KUpIdeal.main_arg1)) →
    ∃ (v0 : (c : Dev Cert.KUpIdeal.nD) → Buf (Elt Ideal) ((c.tc : Thread Cert.KUpIdeal.nD Cert.KUpIdeal.τ).loc Cert.KUpIdeal.main_v2_0)) (v1 : (c : Dev Cert.KUpIdeal.nD) → Buf (Elt Ideal) ((c.tc : Thread Cert.KUpIdeal.nD Cert.KUpIdeal.τ).loc Cert.KUpIdeal.main_v2_1)) (v2 : (c : Dev Cert.KUpIdeal.nD) → Buf (Elt Ideal) ((c.tc : Thread Cert.KUpIdeal.nD Cert.KUpIdeal.τ).loc Cert.KUpIdeal.main_v2_2)),
      θ_run (Cert.KUpIdeal.defs (F := Ideal)) (onTc (τ := Cert.KUpIdeal.τ) (Cert.KUpIdeal.main (F := Ideal))) ⟨m, fun _ => 0, g⟩ (fun r => ∀ c : Dev Cert.KUpIdeal.nD,
          r.2.mem ((c.tc : Thread Cert.KUpIdeal.nD Cert.KUpIdeal.τ).loc Cert.KUpIdeal.main_v2_0) = v0 c
          ∧ r.2.mem ((c.tc : Thread Cert.KUpIdeal.nD Cert.KUpIdeal.τ).loc Cert.KUpIdeal.main_v2_1) = v1 c
          ∧ r.2.mem ((c.tc : Thread Cert.KUpIdeal.nD Cert.KUpIdeal.τ).loc Cert.KUpIdeal.main_v2_2) = v2 c
          ∧ r.2.mem ((c.tc : Thread Cert.KUpIdeal.nD Cert.KUpIdeal.τ).loc Cert.KUpIdeal.main_arg0) = m ((c.tc : Thread Cert.KUpIdeal.nD Cert.KUpIdeal.τ).loc Cert.KUpIdeal.main_arg0)
          ∧ r.2.mem ((c.tc : Thread Cert.KUpIdeal.nD Cert.KUpIdeal.τ).loc Cert.KUpIdeal.main_arg1) = m ((c.tc : Thread Cert.KUpIdeal.nD Cert.KUpIdeal.τ).loc Cert.KUpIdeal.main_arg1))
      ∧ θ_run (Cert.RUpIdeal.defs (F := Ideal)) (onTc (τ := Cert.RUpIdeal.τ) (Cert.RUpIdeal.main (F := Ideal))) ⟨m', fun _ => 0, g'⟩ (fun r => ∀ c : Dev Cert.RUpIdeal.nD,
          r.2.mem ((c.tc : Thread Cert.RUpIdeal.nD Cert.RUpIdeal.τ).loc Cert.RUpIdeal.main_v5) = v0 c
          ∧ r.2.mem ((c.tc : Thread Cert.RUpIdeal.nD Cert.RUpIdeal.τ).loc Cert.RUpIdeal.main_v6) = v1 c
          ∧ r.2.mem ((c.tc : Thread Cert.RUpIdeal.nD Cert.RUpIdeal.τ).loc Cert.RUpIdeal.main_v9) = v2 c
          ∧ r.2.mem ((c.tc : Thread Cert.RUpIdeal.nD Cert.RUpIdeal.τ).loc Cert.RUpIdeal.main_arg0) = m' ((c.tc : Thread Cert.RUpIdeal.nD Cert.RUpIdeal.τ).loc Cert.RUpIdeal.main_arg0)
          ∧ r.2.mem ((c.tc : Thread Cert.RUpIdeal.nD Cert.RUpIdeal.τ).loc Cert.RUpIdeal.main_arg1) = m' ((c.tc : Thread Cert.RUpIdeal.nD Cert.RUpIdeal.τ).loc Cert.RUpIdeal.main_arg1))

def preserves_KDown_KDownIdeal : Prop :=
  True

def algebraic_KDownIdeal_RDownIdeal [hKDownIdeal : Cert.KDownIdeal.Facts] [hRDownIdeal : Cert.RDownIdeal.Facts] : Prop :=
  ∀ (m : (ℓ : Loc Cert.KDownIdeal.nD Cert.KDownIdeal.τ Cert.KDownIdeal.sig) → Buf (Elt Ideal) ℓ) (g : Dev Cert.KDownIdeal.nD → PrngReg)
    (m' : (ℓ : Loc Cert.RDownIdeal.nD Cert.RDownIdeal.τ Cert.RDownIdeal.sig) → Buf (Elt Ideal) ℓ) (g' : Dev Cert.RDownIdeal.nD → PrngReg), Pre_KDownIdeal m →
    (∀ c : Dev Cert.KDownIdeal.nD,
      m' ((c.tc : Thread Cert.RDownIdeal.nD Cert.RDownIdeal.τ).loc Cert.RDownIdeal.main_arg0) = m ((c.tc : Thread Cert.KDownIdeal.nD Cert.KDownIdeal.τ).loc Cert.KDownIdeal.main_arg0)
      ∧ m' ((c.tc : Thread Cert.RDownIdeal.nD Cert.RDownIdeal.τ).loc Cert.RDownIdeal.main_arg1) = m ((c.tc : Thread Cert.KDownIdeal.nD Cert.KDownIdeal.τ).loc Cert.KDownIdeal.main_arg1)
      ∧ m' ((c.tc : Thread Cert.RDownIdeal.nD Cert.RDownIdeal.τ).loc Cert.RDownIdeal.main_arg2) = m ((c.tc : Thread Cert.KDownIdeal.nD Cert.KDownIdeal.τ).loc Cert.KDownIdeal.main_arg2)
      ∧ m' ((c.tc : Thread Cert.RDownIdeal.nD Cert.RDownIdeal.τ).loc Cert.RDownIdeal.main_arg3) = m ((c.tc : Thread Cert.KDownIdeal.nD Cert.KDownIdeal.τ).loc Cert.KDownIdeal.main_arg3)) →
    ∃ (v0 : (c : Dev Cert.KDownIdeal.nD) → Buf (Elt Ideal) ((c.tc : Thread Cert.KDownIdeal.nD Cert.KDownIdeal.τ).loc Cert.KDownIdeal.main_v0_0)) (v1 : (c : Dev Cert.KDownIdeal.nD) → Buf (Elt Ideal) ((c.tc : Thread Cert.KDownIdeal.nD Cert.KDownIdeal.τ).loc Cert.KDownIdeal.main_v0_1)),
      θ_run (Cert.KDownIdeal.defs (F := Ideal)) (onTc (τ := Cert.KDownIdeal.τ) (Cert.KDownIdeal.main (F := Ideal))) ⟨m, fun _ => 0, g⟩ (fun r => ∀ c : Dev Cert.KDownIdeal.nD,
          r.2.mem ((c.tc : Thread Cert.KDownIdeal.nD Cert.KDownIdeal.τ).loc Cert.KDownIdeal.main_v0_0) = v0 c
          ∧ r.2.mem ((c.tc : Thread Cert.KDownIdeal.nD Cert.KDownIdeal.τ).loc Cert.KDownIdeal.main_v0_1) = v1 c
          ∧ r.2.mem ((c.tc : Thread Cert.KDownIdeal.nD Cert.KDownIdeal.τ).loc Cert.KDownIdeal.main_arg0) = m ((c.tc : Thread Cert.KDownIdeal.nD Cert.KDownIdeal.τ).loc Cert.KDownIdeal.main_arg0)
          ∧ r.2.mem ((c.tc : Thread Cert.KDownIdeal.nD Cert.KDownIdeal.τ).loc Cert.KDownIdeal.main_arg1) = m ((c.tc : Thread Cert.KDownIdeal.nD Cert.KDownIdeal.τ).loc Cert.KDownIdeal.main_arg1)
          ∧ r.2.mem ((c.tc : Thread Cert.KDownIdeal.nD Cert.KDownIdeal.τ).loc Cert.KDownIdeal.main_arg2) = m ((c.tc : Thread Cert.KDownIdeal.nD Cert.KDownIdeal.τ).loc Cert.KDownIdeal.main_arg2)
          ∧ r.2.mem ((c.tc : Thread Cert.KDownIdeal.nD Cert.KDownIdeal.τ).loc Cert.KDownIdeal.main_arg3) = m ((c.tc : Thread Cert.KDownIdeal.nD Cert.KDownIdeal.τ).loc Cert.KDownIdeal.main_arg3))
      ∧ θ_run (Cert.RDownIdeal.defs (F := Ideal)) (onTc (τ := Cert.RDownIdeal.τ) (Cert.RDownIdeal.main (F := Ideal))) ⟨m', fun _ => 0, g'⟩ (fun r => ∀ c : Dev Cert.RDownIdeal.nD,
          r.2.mem ((c.tc : Thread Cert.RDownIdeal.nD Cert.RDownIdeal.τ).loc Cert.RDownIdeal.main_v7) = v0 c
          ∧ r.2.mem ((c.tc : Thread Cert.RDownIdeal.nD Cert.RDownIdeal.τ).loc Cert.RDownIdeal.main_v8) = v1 c
          ∧ r.2.mem ((c.tc : Thread Cert.RDownIdeal.nD Cert.RDownIdeal.τ).loc Cert.RDownIdeal.main_arg0) = m' ((c.tc : Thread Cert.RDownIdeal.nD Cert.RDownIdeal.τ).loc Cert.RDownIdeal.main_arg0)
          ∧ r.2.mem ((c.tc : Thread Cert.RDownIdeal.nD Cert.RDownIdeal.τ).loc Cert.RDownIdeal.main_arg1) = m' ((c.tc : Thread Cert.RDownIdeal.nD Cert.RDownIdeal.τ).loc Cert.RDownIdeal.main_arg1)
          ∧ r.2.mem ((c.tc : Thread Cert.RDownIdeal.nD Cert.RDownIdeal.τ).loc Cert.RDownIdeal.main_arg2) = m' ((c.tc : Thread Cert.RDownIdeal.nD Cert.RDownIdeal.τ).loc Cert.RDownIdeal.main_arg2)
          ∧ r.2.mem ((c.tc : Thread Cert.RDownIdeal.nD Cert.RDownIdeal.τ).loc Cert.RDownIdeal.main_arg3) = m' ((c.tc : Thread Cert.RDownIdeal.nD Cert.RDownIdeal.τ).loc Cert.RDownIdeal.main_arg3))

def preserves_KLoss_KLossIdeal : Prop :=
  True

def algebraic_KLossIdeal_RLossIdeal [hKLossIdeal : Cert.KLossIdeal.Facts] [hRLossIdeal : Cert.RLossIdeal.Facts] : Prop :=
  ∀ (m : (ℓ : Loc Cert.KLossIdeal.nD Cert.KLossIdeal.τ Cert.KLossIdeal.sig) → Buf (Elt Ideal) ℓ) (g : Dev Cert.KLossIdeal.nD → PrngReg)
    (m' : (ℓ : Loc Cert.RLossIdeal.nD Cert.RLossIdeal.τ Cert.RLossIdeal.sig) → Buf (Elt Ideal) ℓ) (g' : Dev Cert.RLossIdeal.nD → PrngReg), Pre_KLossIdeal m →
    (∀ c : Dev Cert.KLossIdeal.nD,
      m' ((c.tc : Thread Cert.RLossIdeal.nD Cert.RLossIdeal.τ).loc Cert.RLossIdeal.main_arg0) = m ((c.tc : Thread Cert.KLossIdeal.nD Cert.KLossIdeal.τ).loc Cert.KLossIdeal.main_arg0)
      ∧ m' ((c.tc : Thread Cert.RLossIdeal.nD Cert.RLossIdeal.τ).loc Cert.RLossIdeal.main_arg1) = m ((c.tc : Thread Cert.KLossIdeal.nD Cert.KLossIdeal.τ).loc Cert.KLossIdeal.main_arg1)
      ∧ m' ((c.tc : Thread Cert.RLossIdeal.nD Cert.RLossIdeal.τ).loc Cert.RLossIdeal.main_arg2) = m ((c.tc : Thread Cert.KLossIdeal.nD Cert.KLossIdeal.τ).loc Cert.KLossIdeal.main_arg2)
      ∧ m' ((c.tc : Thread Cert.RLossIdeal.nD Cert.RLossIdeal.τ).loc Cert.RLossIdeal.main_arg3) = m ((c.tc : Thread Cert.KLossIdeal.nD Cert.KLossIdeal.τ).loc Cert.KLossIdeal.main_arg3)
      ∧ m' ((c.tc : Thread Cert.RLossIdeal.nD Cert.RLossIdeal.τ).loc Cert.RLossIdeal.main_arg4) = m ((c.tc : Thread Cert.KLossIdeal.nD Cert.KLossIdeal.τ).loc Cert.KLossIdeal.main_arg4)) →
    ∃ (v0 : (c : Dev Cert.KLossIdeal.nD) → Buf (Elt Ideal) ((c.tc : Thread Cert.KLossIdeal.nD Cert.KLossIdeal.τ).loc Cert.KLossIdeal.main_v0_0)) (v1 : (c : Dev Cert.KLossIdeal.nD) → Buf (Elt Ideal) ((c.tc : Thread Cert.KLossIdeal.nD Cert.KLossIdeal.τ).loc Cert.KLossIdeal.main_v0_1)) (v2 : (c : Dev Cert.KLossIdeal.nD) → Buf (Elt Ideal) ((c.tc : Thread Cert.KLossIdeal.nD Cert.KLossIdeal.τ).loc Cert.KLossIdeal.main_v0_2)) (v3 : (c : Dev Cert.KLossIdeal.nD) → Buf (Elt Ideal) ((c.tc : Thread Cert.KLossIdeal.nD Cert.KLossIdeal.τ).loc Cert.KLossIdeal.main_v0_3)),
      θ_run (Cert.KLossIdeal.defs (F := Ideal)) (onTc (τ := Cert.KLossIdeal.τ) (Cert.KLossIdeal.main (F := Ideal))) ⟨m, fun _ => 0, g⟩ (fun r => ∀ c : Dev Cert.KLossIdeal.nD,
          r.2.mem ((c.tc : Thread Cert.KLossIdeal.nD Cert.KLossIdeal.τ).loc Cert.KLossIdeal.main_v0_0) = v0 c
          ∧ r.2.mem ((c.tc : Thread Cert.KLossIdeal.nD Cert.KLossIdeal.τ).loc Cert.KLossIdeal.main_v0_1) = v1 c
          ∧ r.2.mem ((c.tc : Thread Cert.KLossIdeal.nD Cert.KLossIdeal.τ).loc Cert.KLossIdeal.main_v0_2) = v2 c
          ∧ r.2.mem ((c.tc : Thread Cert.KLossIdeal.nD Cert.KLossIdeal.τ).loc Cert.KLossIdeal.main_v0_3) = v3 c
          ∧ r.2.mem ((c.tc : Thread Cert.KLossIdeal.nD Cert.KLossIdeal.τ).loc Cert.KLossIdeal.main_arg0) = m ((c.tc : Thread Cert.KLossIdeal.nD Cert.KLossIdeal.τ).loc Cert.KLossIdeal.main_arg0)
          ∧ r.2.mem ((c.tc : Thread Cert.KLossIdeal.nD Cert.KLossIdeal.τ).loc Cert.KLossIdeal.main_arg1) = m ((c.tc : Thread Cert.KLossIdeal.nD Cert.KLossIdeal.τ).loc Cert.KLossIdeal.main_arg1)
          ∧ r.2.mem ((c.tc : Thread Cert.KLossIdeal.nD Cert.KLossIdeal.τ).loc Cert.KLossIdeal.main_arg2) = m ((c.tc : Thread Cert.KLossIdeal.nD Cert.KLossIdeal.τ).loc Cert.KLossIdeal.main_arg2)
          ∧ r.2.mem ((c.tc : Thread Cert.KLossIdeal.nD Cert.KLossIdeal.τ).loc Cert.KLossIdeal.main_arg3) = m ((c.tc : Thread Cert.KLossIdeal.nD Cert.KLossIdeal.τ).loc Cert.KLossIdeal.main_arg3)
          ∧ r.2.mem ((c.tc : Thread Cert.KLossIdeal.nD Cert.KLossIdeal.τ).loc Cert.KLossIdeal.main_arg4) = m ((c.tc : Thread Cert.KLossIdeal.nD Cert.KLossIdeal.τ).loc Cert.KLossIdeal.main_arg4))
      ∧ θ_run (Cert.RLossIdeal.defs (F := Ideal)) (onTc (τ := Cert.RLossIdeal.τ) (Cert.RLossIdeal.main (F := Ideal))) ⟨m', fun _ => 0, g'⟩ (fun r => ∀ c : Dev Cert.RLossIdeal.nD,
          r.2.mem ((c.tc : Thread Cert.RLossIdeal.nD Cert.RLossIdeal.τ).loc Cert.RLossIdeal.main_v22) = v0 c
          ∧ r.2.mem ((c.tc : Thread Cert.RLossIdeal.nD Cert.RLossIdeal.τ).loc Cert.RLossIdeal.main_v30) = v1 c
          ∧ r.2.mem ((c.tc : Thread Cert.RLossIdeal.nD Cert.RLossIdeal.τ).loc Cert.RLossIdeal.main_v29) = v2 c
          ∧ r.2.mem ((c.tc : Thread Cert.RLossIdeal.nD Cert.RLossIdeal.τ).loc Cert.RLossIdeal.main_v31) = v3 c
          ∧ r.2.mem ((c.tc : Thread Cert.RLossIdeal.nD Cert.RLossIdeal.τ).loc Cert.RLossIdeal.main_arg0) = m' ((c.tc : Thread Cert.RLossIdeal.nD Cert.RLossIdeal.τ).loc Cert.RLossIdeal.main_arg0)
          ∧ r.2.mem ((c.tc : Thread Cert.RLossIdeal.nD Cert.RLossIdeal.τ).loc Cert.RLossIdeal.main_arg1) = m' ((c.tc : Thread Cert.RLossIdeal.nD Cert.RLossIdeal.τ).loc Cert.RLossIdeal.main_arg1)
          ∧ r.2.mem ((c.tc : Thread Cert.RLossIdeal.nD Cert.RLossIdeal.τ).loc Cert.RLossIdeal.main_arg2) = m' ((c.tc : Thread Cert.RLossIdeal.nD Cert.RLossIdeal.τ).loc Cert.RLossIdeal.main_arg2)
          ∧ r.2.mem ((c.tc : Thread Cert.RLossIdeal.nD Cert.RLossIdeal.τ).loc Cert.RLossIdeal.main_arg3) = m' ((c.tc : Thread Cert.RLossIdeal.nD Cert.RLossIdeal.τ).loc Cert.RLossIdeal.main_arg3)
          ∧ r.2.mem ((c.tc : Thread Cert.RLossIdeal.nD Cert.RLossIdeal.τ).loc Cert.RLossIdeal.main_arg4) = m' ((c.tc : Thread Cert.RLossIdeal.nD Cert.RLossIdeal.τ).loc Cert.RLossIdeal.main_arg4))

def preserves_KOut_KOutIdeal : Prop :=
  True

def algebraic_KOutIdeal_ROutIdeal [hKOutIdeal : Cert.KOutIdeal.Facts] [hROutIdeal : Cert.ROutIdeal.Facts] : Prop :=
  ∀ (m : (ℓ : Loc Cert.KOutIdeal.nD Cert.KOutIdeal.τ Cert.KOutIdeal.sig) → Buf (Elt Ideal) ℓ) (g : Dev Cert.KOutIdeal.nD → PrngReg)
    (m' : (ℓ : Loc Cert.ROutIdeal.nD Cert.ROutIdeal.τ Cert.ROutIdeal.sig) → Buf (Elt Ideal) ℓ) (g' : Dev Cert.ROutIdeal.nD → PrngReg), Pre_KOutIdeal m →
    (∀ c : Dev Cert.KOutIdeal.nD,
      m' ((c.tc : Thread Cert.ROutIdeal.nD Cert.ROutIdeal.τ).loc Cert.ROutIdeal.main_arg0) = m ((c.tc : Thread Cert.KOutIdeal.nD Cert.KOutIdeal.τ).loc Cert.KOutIdeal.main_arg0)
      ∧ m' ((c.tc : Thread Cert.ROutIdeal.nD Cert.ROutIdeal.τ).loc Cert.ROutIdeal.main_arg1) = m ((c.tc : Thread Cert.KOutIdeal.nD Cert.KOutIdeal.τ).loc Cert.KOutIdeal.main_arg1)
      ∧ m' ((c.tc : Thread Cert.ROutIdeal.nD Cert.ROutIdeal.τ).loc Cert.ROutIdeal.main_arg2) = m ((c.tc : Thread Cert.KOutIdeal.nD Cert.KOutIdeal.τ).loc Cert.KOutIdeal.main_arg2)
      ∧ m' ((c.tc : Thread Cert.ROutIdeal.nD Cert.ROutIdeal.τ).loc Cert.ROutIdeal.main_arg3) = m ((c.tc : Thread Cert.KOutIdeal.nD Cert.KOutIdeal.τ).loc Cert.KOutIdeal.main_arg3)) →
    ∃ (v0 : (c : Dev Cert.KOutIdeal.nD) → Buf (Elt Ideal) ((c.tc : Thread Cert.KOutIdeal.nD Cert.KOutIdeal.τ).loc Cert.KOutIdeal.main_v0_0)) (v1 : (c : Dev Cert.KOutIdeal.nD) → Buf (Elt Ideal) ((c.tc : Thread Cert.KOutIdeal.nD Cert.KOutIdeal.τ).loc Cert.KOutIdeal.main_v0_1)),
      θ_run (Cert.KOutIdeal.defs (F := Ideal)) (onTc (τ := Cert.KOutIdeal.τ) (Cert.KOutIdeal.main (F := Ideal))) ⟨m, fun _ => 0, g⟩ (fun r => ∀ c : Dev Cert.KOutIdeal.nD,
          r.2.mem ((c.tc : Thread Cert.KOutIdeal.nD Cert.KOutIdeal.τ).loc Cert.KOutIdeal.main_v0_0) = v0 c
          ∧ r.2.mem ((c.tc : Thread Cert.KOutIdeal.nD Cert.KOutIdeal.τ).loc Cert.KOutIdeal.main_v0_1) = v1 c
          ∧ r.2.mem ((c.tc : Thread Cert.KOutIdeal.nD Cert.KOutIdeal.τ).loc Cert.KOutIdeal.main_arg0) = m ((c.tc : Thread Cert.KOutIdeal.nD Cert.KOutIdeal.τ).loc Cert.KOutIdeal.main_arg0)
          ∧ r.2.mem ((c.tc : Thread Cert.KOutIdeal.nD Cert.KOutIdeal.τ).loc Cert.KOutIdeal.main_arg1) = m ((c.tc : Thread Cert.KOutIdeal.nD Cert.KOutIdeal.τ).loc Cert.KOutIdeal.main_arg1)
          ∧ r.2.mem ((c.tc : Thread Cert.KOutIdeal.nD Cert.KOutIdeal.τ).loc Cert.KOutIdeal.main_arg2) = m ((c.tc : Thread Cert.KOutIdeal.nD Cert.KOutIdeal.τ).loc Cert.KOutIdeal.main_arg2)
          ∧ r.2.mem ((c.tc : Thread Cert.KOutIdeal.nD Cert.KOutIdeal.τ).loc Cert.KOutIdeal.main_arg3) = m ((c.tc : Thread Cert.KOutIdeal.nD Cert.KOutIdeal.τ).loc Cert.KOutIdeal.main_arg3))
      ∧ θ_run (Cert.ROutIdeal.defs (F := Ideal)) (onTc (τ := Cert.ROutIdeal.τ) (Cert.ROutIdeal.main (F := Ideal))) ⟨m', fun _ => 0, g'⟩ (fun r => ∀ c : Dev Cert.ROutIdeal.nD,
          r.2.mem ((c.tc : Thread Cert.ROutIdeal.nD Cert.ROutIdeal.τ).loc Cert.ROutIdeal.main_v5) = v0 c
          ∧ r.2.mem ((c.tc : Thread Cert.ROutIdeal.nD Cert.ROutIdeal.τ).loc Cert.ROutIdeal.main_v6) = v1 c
          ∧ r.2.mem ((c.tc : Thread Cert.ROutIdeal.nD Cert.ROutIdeal.τ).loc Cert.ROutIdeal.main_arg0) = m' ((c.tc : Thread Cert.ROutIdeal.nD Cert.ROutIdeal.τ).loc Cert.ROutIdeal.main_arg0)
          ∧ r.2.mem ((c.tc : Thread Cert.ROutIdeal.nD Cert.ROutIdeal.τ).loc Cert.ROutIdeal.main_arg1) = m' ((c.tc : Thread Cert.ROutIdeal.nD Cert.ROutIdeal.τ).loc Cert.ROutIdeal.main_arg1)
          ∧ r.2.mem ((c.tc : Thread Cert.ROutIdeal.nD Cert.ROutIdeal.τ).loc Cert.ROutIdeal.main_arg2) = m' ((c.tc : Thread Cert.ROutIdeal.nD Cert.ROutIdeal.τ).loc Cert.ROutIdeal.main_arg2)
          ∧ r.2.mem ((c.tc : Thread Cert.ROutIdeal.nD Cert.ROutIdeal.τ).loc Cert.ROutIdeal.main_arg3) = m' ((c.tc : Thread Cert.ROutIdeal.nD Cert.ROutIdeal.τ).loc Cert.ROutIdeal.main_arg3))

def preserves_KIn_KInIdeal : Prop :=
  True

def algebraic_KInIdeal_RInIdeal [hKInIdeal : Cert.KInIdeal.Facts] [hRInIdeal : Cert.RInIdeal.Facts] : Prop :=
  ∀ (m : (ℓ : Loc Cert.KInIdeal.nD Cert.KInIdeal.τ Cert.KInIdeal.sig) → Buf (Elt Ideal) ℓ) (g : Dev Cert.KInIdeal.nD → PrngReg)
    (m' : (ℓ : Loc Cert.RInIdeal.nD Cert.RInIdeal.τ Cert.RInIdeal.sig) → Buf (Elt Ideal) ℓ) (g' : Dev Cert.RInIdeal.nD → PrngReg), Pre_KInIdeal m →
    (∀ c : Dev Cert.KInIdeal.nD,
      m' ((c.tc : Thread Cert.RInIdeal.nD Cert.RInIdeal.τ).loc Cert.RInIdeal.main_arg0) = m ((c.tc : Thread Cert.KInIdeal.nD Cert.KInIdeal.τ).loc Cert.KInIdeal.main_arg0)
      ∧ m' ((c.tc : Thread Cert.RInIdeal.nD Cert.RInIdeal.τ).loc Cert.RInIdeal.main_arg1) = m ((c.tc : Thread Cert.KInIdeal.nD Cert.KInIdeal.τ).loc Cert.KInIdeal.main_arg1)) →
    ∃ (v0 : (c : Dev Cert.KInIdeal.nD) → Buf (Elt Ideal) ((c.tc : Thread Cert.KInIdeal.nD Cert.KInIdeal.τ).loc Cert.KInIdeal.main_v0)),
      θ_run (Cert.KInIdeal.defs (F := Ideal)) (onTc (τ := Cert.KInIdeal.τ) (Cert.KInIdeal.main (F := Ideal))) ⟨m, fun _ => 0, g⟩ (fun r => ∀ c : Dev Cert.KInIdeal.nD,
          r.2.mem ((c.tc : Thread Cert.KInIdeal.nD Cert.KInIdeal.τ).loc Cert.KInIdeal.main_v0) = v0 c
          ∧ r.2.mem ((c.tc : Thread Cert.KInIdeal.nD Cert.KInIdeal.τ).loc Cert.KInIdeal.main_arg0) = m ((c.tc : Thread Cert.KInIdeal.nD Cert.KInIdeal.τ).loc Cert.KInIdeal.main_arg0)
          ∧ r.2.mem ((c.tc : Thread Cert.KInIdeal.nD Cert.KInIdeal.τ).loc Cert.KInIdeal.main_arg1) = m ((c.tc : Thread Cert.KInIdeal.nD Cert.KInIdeal.τ).loc Cert.KInIdeal.main_arg1))
      ∧ θ_run (Cert.RInIdeal.defs (F := Ideal)) (onTc (τ := Cert.RInIdeal.τ) (Cert.RInIdeal.main (F := Ideal))) ⟨m', fun _ => 0, g'⟩ (fun r => ∀ c : Dev Cert.RInIdeal.nD,
          r.2.mem ((c.tc : Thread Cert.RInIdeal.nD Cert.RInIdeal.τ).loc Cert.RInIdeal.main_v3) = v0 c
          ∧ r.2.mem ((c.tc : Thread Cert.RInIdeal.nD Cert.RInIdeal.τ).loc Cert.RInIdeal.main_arg0) = m' ((c.tc : Thread Cert.RInIdeal.nD Cert.RInIdeal.τ).loc Cert.RInIdeal.main_arg0)
          ∧ r.2.mem ((c.tc : Thread Cert.RInIdeal.nD Cert.RInIdeal.τ).loc Cert.RInIdeal.main_arg1) = m' ((c.tc : Thread Cert.RInIdeal.nD Cert.RInIdeal.τ).loc Cert.RInIdeal.main_arg1))

def preserves_KMup_KMupIdeal : Prop :=
  True

def algebraic_KMupIdeal_RMupIdeal [hKMupIdeal : Cert.KMupIdeal.Facts] [hRMupIdeal : Cert.RMupIdeal.Facts] : Prop :=
  ∀ (m : (ℓ : Loc Cert.KMupIdeal.nD Cert.KMupIdeal.τ Cert.KMupIdeal.sig) → Buf (Elt Ideal) ℓ) (g : Dev Cert.KMupIdeal.nD → PrngReg)
    (m' : (ℓ : Loc Cert.RMupIdeal.nD Cert.RMupIdeal.τ Cert.RMupIdeal.sig) → Buf (Elt Ideal) ℓ) (g' : Dev Cert.RMupIdeal.nD → PrngReg), Pre_KMupIdeal m →
    (∀ c : Dev Cert.KMupIdeal.nD,
      m' ((c.tc : Thread Cert.RMupIdeal.nD Cert.RMupIdeal.τ).loc Cert.RMupIdeal.main_arg0) = m ((c.tc : Thread Cert.KMupIdeal.nD Cert.KMupIdeal.τ).loc Cert.KMupIdeal.main_arg0)
      ∧ m' ((c.tc : Thread Cert.RMupIdeal.nD Cert.RMupIdeal.τ).loc Cert.RMupIdeal.main_arg1) = m ((c.tc : Thread Cert.KMupIdeal.nD Cert.KMupIdeal.τ).loc Cert.KMupIdeal.main_arg1)
      ∧ m' ((c.tc : Thread Cert.RMupIdeal.nD Cert.RMupIdeal.τ).loc Cert.RMupIdeal.main_arg2) = m ((c.tc : Thread Cert.KMupIdeal.nD Cert.KMupIdeal.τ).loc Cert.KMupIdeal.main_arg2)
      ∧ m' ((c.tc : Thread Cert.RMupIdeal.nD Cert.RMupIdeal.τ).loc Cert.RMupIdeal.main_arg3) = m ((c.tc : Thread Cert.KMupIdeal.nD Cert.KMupIdeal.τ).loc Cert.KMupIdeal.main_arg3)
      ∧ m' ((c.tc : Thread Cert.RMupIdeal.nD Cert.RMupIdeal.τ).loc Cert.RMupIdeal.main_arg4) = m ((c.tc : Thread Cert.KMupIdeal.nD Cert.KMupIdeal.τ).loc Cert.KMupIdeal.main_arg4)
      ∧ m' ((c.tc : Thread Cert.RMupIdeal.nD Cert.RMupIdeal.τ).loc Cert.RMupIdeal.main_arg5) = m ((c.tc : Thread Cert.KMupIdeal.nD Cert.KMupIdeal.τ).loc Cert.KMupIdeal.main_arg5)) →
    ∃ (v0 : (c : Dev Cert.KMupIdeal.nD) → Buf (Elt Ideal) ((c.tc : Thread Cert.KMupIdeal.nD Cert.KMupIdeal.τ).loc Cert.KMupIdeal.main_v6_0)) (v1 : (c : Dev Cert.KMupIdeal.nD) → Buf (Elt Ideal) ((c.tc : Thread Cert.KMupIdeal.nD Cert.KMupIdeal.τ).loc Cert.KMupIdeal.main_v6_1)) (v2 : (c : Dev Cert.KMupIdeal.nD) → Buf (Elt Ideal) ((c.tc : Thread Cert.KMupIdeal.nD Cert.KMupIdeal.τ).loc Cert.KMupIdeal.main_v6_2)),
      θ_run (Cert.KMupIdeal.defs (F := Ideal)) (onTc (τ := Cert.KMupIdeal.τ) (Cert.KMupIdeal.main (F := Ideal))) ⟨m, fun _ => 0, g⟩ (fun r => ∀ c : Dev Cert.KMupIdeal.nD,
          r.2.mem ((c.tc : Thread Cert.KMupIdeal.nD Cert.KMupIdeal.τ).loc Cert.KMupIdeal.main_v6_0) = v0 c
          ∧ r.2.mem ((c.tc : Thread Cert.KMupIdeal.nD Cert.KMupIdeal.τ).loc Cert.KMupIdeal.main_v6_1) = v1 c
          ∧ r.2.mem ((c.tc : Thread Cert.KMupIdeal.nD Cert.KMupIdeal.τ).loc Cert.KMupIdeal.main_v6_2) = v2 c
          ∧ r.2.mem ((c.tc : Thread Cert.KMupIdeal.nD Cert.KMupIdeal.τ).loc Cert.KMupIdeal.main_arg0) = m ((c.tc : Thread Cert.KMupIdeal.nD Cert.KMupIdeal.τ).loc Cert.KMupIdeal.main_arg0)
          ∧ r.2.mem ((c.tc : Thread Cert.KMupIdeal.nD Cert.KMupIdeal.τ).loc Cert.KMupIdeal.main_arg1) = m ((c.tc : Thread Cert.KMupIdeal.nD Cert.KMupIdeal.τ).loc Cert.KMupIdeal.main_arg1)
          ∧ r.2.mem ((c.tc : Thread Cert.KMupIdeal.nD Cert.KMupIdeal.τ).loc Cert.KMupIdeal.main_arg2) = m ((c.tc : Thread Cert.KMupIdeal.nD Cert.KMupIdeal.τ).loc Cert.KMupIdeal.main_arg2)
          ∧ r.2.mem ((c.tc : Thread Cert.KMupIdeal.nD Cert.KMupIdeal.τ).loc Cert.KMupIdeal.main_arg3) = m ((c.tc : Thread Cert.KMupIdeal.nD Cert.KMupIdeal.τ).loc Cert.KMupIdeal.main_arg3)
          ∧ r.2.mem ((c.tc : Thread Cert.KMupIdeal.nD Cert.KMupIdeal.τ).loc Cert.KMupIdeal.main_arg4) = m ((c.tc : Thread Cert.KMupIdeal.nD Cert.KMupIdeal.τ).loc Cert.KMupIdeal.main_arg4)
          ∧ r.2.mem ((c.tc : Thread Cert.KMupIdeal.nD Cert.KMupIdeal.τ).loc Cert.KMupIdeal.main_arg5) = m ((c.tc : Thread Cert.KMupIdeal.nD Cert.KMupIdeal.τ).loc Cert.KMupIdeal.main_arg5))
      ∧ θ_run (Cert.RMupIdeal.defs (F := Ideal)) (onTc (τ := Cert.RMupIdeal.τ) (Cert.RMupIdeal.main (F := Ideal))) ⟨m', fun _ => 0, g'⟩ (fun r => ∀ c : Dev Cert.RMupIdeal.nD,
          r.2.mem ((c.tc : Thread Cert.RMupIdeal.nD Cert.RMupIdeal.τ).loc Cert.RMupIdeal.main_v23) = v0 c
          ∧ r.2.mem ((c.tc : Thread Cert.RMupIdeal.nD Cert.RMupIdeal.τ).loc Cert.RMupIdeal.main_v24) = v1 c
          ∧ r.2.mem ((c.tc : Thread Cert.RMupIdeal.nD Cert.RMupIdeal.τ).loc Cert.RMupIdeal.main_v25) = v2 c
          ∧ r.2.mem ((c.tc : Thread Cert.RMupIdeal.nD Cert.RMupIdeal.τ).loc Cert.RMupIdeal.main_arg0) = m' ((c.tc : Thread Cert.RMupIdeal.nD Cert.RMupIdeal.τ).loc Cert.RMupIdeal.main_arg0)
          ∧ r.2.mem ((c.tc : Thread Cert.RMupIdeal.nD Cert.RMupIdeal.τ).loc Cert.RMupIdeal.main_arg1) = m' ((c.tc : Thread Cert.RMupIdeal.nD Cert.RMupIdeal.τ).loc Cert.RMupIdeal.main_arg1)
          ∧ r.2.mem ((c.tc : Thread Cert.RMupIdeal.nD Cert.RMupIdeal.τ).loc Cert.RMupIdeal.main_arg2) = m' ((c.tc : Thread Cert.RMupIdeal.nD Cert.RMupIdeal.τ).loc Cert.RMupIdeal.main_arg2)
          ∧ r.2.mem ((c.tc : Thread Cert.RMupIdeal.nD Cert.RMupIdeal.τ).loc Cert.RMupIdeal.main_arg3) = m' ((c.tc : Thread Cert.RMupIdeal.nD Cert.RMupIdeal.τ).loc Cert.RMupIdeal.main_arg3)
          ∧ r.2.mem ((c.tc : Thread Cert.RMupIdeal.nD Cert.RMupIdeal.τ).loc Cert.RMupIdeal.main_arg4) = m' ((c.tc : Thread Cert.RMupIdeal.nD Cert.RMupIdeal.τ).loc Cert.RMupIdeal.main_arg4)
          ∧ r.2.mem ((c.tc : Thread Cert.RMupIdeal.nD Cert.RMupIdeal.τ).loc Cert.RMupIdeal.main_arg5) = m' ((c.tc : Thread Cert.RMupIdeal.nD Cert.RMupIdeal.τ).loc Cert.RMupIdeal.main_arg5))

def preserves_KNrm_KNrmIdeal : Prop :=
  True

def algebraic_KNrmIdeal_RNrmIdeal [hKNrmIdeal : Cert.KNrmIdeal.Facts] [hRNrmIdeal : Cert.RNrmIdeal.Facts] : Prop :=
  ∀ (m : (ℓ : Loc Cert.KNrmIdeal.nD Cert.KNrmIdeal.τ Cert.KNrmIdeal.sig) → Buf (Elt Ideal) ℓ) (g : Dev Cert.KNrmIdeal.nD → PrngReg)
    (m' : (ℓ : Loc Cert.RNrmIdeal.nD Cert.RNrmIdeal.τ Cert.RNrmIdeal.sig) → Buf (Elt Ideal) ℓ) (g' : Dev Cert.RNrmIdeal.nD → PrngReg), Pre_KNrmIdeal m →
    (∀ c : Dev Cert.KNrmIdeal.nD,
      m' ((c.tc : Thread Cert.RNrmIdeal.nD Cert.RNrmIdeal.τ).loc Cert.RNrmIdeal.main_arg0) = m ((c.tc : Thread Cert.KNrmIdeal.nD Cert.KNrmIdeal.τ).loc Cert.KNrmIdeal.main_arg0)
      ∧ m' ((c.tc : Thread Cert.RNrmIdeal.nD Cert.RNrmIdeal.τ).loc Cert.RNrmIdeal.main_arg1) = m ((c.tc : Thread Cert.KNrmIdeal.nD Cert.KNrmIdeal.τ).loc Cert.KNrmIdeal.main_arg1)
      ∧ m' ((c.tc : Thread Cert.RNrmIdeal.nD Cert.RNrmIdeal.τ).loc Cert.RNrmIdeal.main_arg2) = m ((c.tc : Thread Cert.KNrmIdeal.nD Cert.KNrmIdeal.τ).loc Cert.KNrmIdeal.main_arg2)
      ∧ m' ((c.tc : Thread Cert.RNrmIdeal.nD Cert.RNrmIdeal.τ).loc Cert.RNrmIdeal.main_arg3) = m ((c.tc : Thread Cert.KNrmIdeal.nD Cert.KNrmIdeal.τ).loc Cert.KNrmIdeal.main_arg3)) →
    ∃ (v0 : (c : Dev Cert.KNrmIdeal.nD) → Buf (Elt Ideal) ((c.tc : Thread Cert.KNrmIdeal.nD Cert.KNrmIdeal.τ).loc Cert.KNrmIdeal.main_v1)),
      θ_run (Cert.KNrmIdeal.defs (F := Ideal)) (onTc (τ := Cert.KNrmIdeal.τ) (Cert.KNrmIdeal.main (F := Ideal))) ⟨m, fun _ => 0, g⟩ (fun r => ∀ c : Dev Cert.KNrmIdeal.nD,
          r.2.mem ((c.tc : Thread Cert.KNrmIdeal.nD Cert.KNrmIdeal.τ).loc Cert.KNrmIdeal.main_v1) = v0 c
          ∧ r.2.mem ((c.tc : Thread Cert.KNrmIdeal.nD Cert.KNrmIdeal.τ).loc Cert.KNrmIdeal.main_arg0) = m ((c.tc : Thread Cert.KNrmIdeal.nD Cert.KNrmIdeal.τ).loc Cert.KNrmIdeal.main_arg0)
          ∧ r.2.mem ((c.tc : Thread Cert.KNrmIdeal.nD Cert.KNrmIdeal.τ).loc Cert.KNrmIdeal.main_arg1) = m ((c.tc : Thread Cert.KNrmIdeal.nD Cert.KNrmIdeal.τ).loc Cert.KNrmIdeal.main_arg1)
          ∧ r.2.mem ((c.tc : Thread Cert.KNrmIdeal.nD Cert.KNrmIdeal.τ).loc Cert.KNrmIdeal.main_arg2) = m ((c.tc : Thread Cert.KNrmIdeal.nD Cert.KNrmIdeal.τ).loc Cert.KNrmIdeal.main_arg2)
          ∧ r.2.mem ((c.tc : Thread Cert.KNrmIdeal.nD Cert.KNrmIdeal.τ).loc Cert.KNrmIdeal.main_arg3) = m ((c.tc : Thread Cert.KNrmIdeal.nD Cert.KNrmIdeal.τ).loc Cert.KNrmIdeal.main_arg3))
      ∧ θ_run (Cert.RNrmIdeal.defs (F := Ideal)) (onTc (τ := Cert.RNrmIdeal.τ) (Cert.RNrmIdeal.main (F := Ideal))) ⟨m', fun _ => 0, g'⟩ (fun r => ∀ c : Dev Cert.RNrmIdeal.nD,
          r.2.mem ((c.tc : Thread Cert.RNrmIdeal.nD Cert.RNrmIdeal.τ).loc Cert.RNrmIdeal.main_v18) = v0 c
          ∧ r.2.mem ((c.tc : Thread Cert.RNrmIdeal.nD Cert.RNrmIdeal.τ).loc Cert.RNrmIdeal.main_arg0) = m' ((c.tc : Thread Cert.RNrmIdeal.nD Cert.RNrmIdeal.τ).loc Cert.RNrmIdeal.main_arg0)
          ∧ r.2.mem ((c.tc : Thread Cert.RNrmIdeal.nD Cert.RNrmIdeal.τ).loc Cert.RNrmIdeal.main_arg1) = m' ((c.tc : Thread Cert.RNrmIdeal.nD Cert.RNrmIdeal.τ).loc Cert.RNrmIdeal.main_arg1)
          ∧ r.2.mem ((c.tc : Thread Cert.RNrmIdeal.nD Cert.RNrmIdeal.τ).loc Cert.RNrmIdeal.main_arg2) = m' ((c.tc : Thread Cert.RNrmIdeal.nD Cert.RNrmIdeal.τ).loc Cert.RNrmIdeal.main_arg2)
          ∧ r.2.mem ((c.tc : Thread Cert.RNrmIdeal.nD Cert.RNrmIdeal.τ).loc Cert.RNrmIdeal.main_arg3) = m' ((c.tc : Thread Cert.RNrmIdeal.nD Cert.RNrmIdeal.τ).loc Cert.RNrmIdeal.main_arg3))

def preserves_KNbw_KNbwIdeal : Prop :=
  True

def algebraic_KNbwIdeal_RNbwIdeal_pre_finite_nbw [hKNbwIdeal : Cert.KNbwIdeal.Facts] [hRNbwIdeal : Cert.RNbwIdeal.Facts] [hPre_finite_nbw : Cert.Pre_finite_nbw.Facts] : Prop :=
  ∀ (m : (ℓ : Loc Cert.KNbwIdeal.nD Cert.KNbwIdeal.τ Cert.KNbwIdeal.sig) → Buf (Elt Ideal) ℓ) (g : Dev Cert.KNbwIdeal.nD → PrngReg)
    (m' : (ℓ : Loc Cert.RNbwIdeal.nD Cert.RNbwIdeal.τ Cert.RNbwIdeal.sig) → Buf (Elt Ideal) ℓ) (g' : Dev Cert.RNbwIdeal.nD → PrngReg), Pre_KNbwIdeal_finite_nbw m →
    (∀ c : Dev Cert.KNbwIdeal.nD,
      m' ((c.tc : Thread Cert.RNbwIdeal.nD Cert.RNbwIdeal.τ).loc Cert.RNbwIdeal.main_arg0) = m ((c.tc : Thread Cert.KNbwIdeal.nD Cert.KNbwIdeal.τ).loc Cert.KNbwIdeal.main_arg0)
      ∧ m' ((c.tc : Thread Cert.RNbwIdeal.nD Cert.RNbwIdeal.τ).loc Cert.RNbwIdeal.main_arg1) = m ((c.tc : Thread Cert.KNbwIdeal.nD Cert.KNbwIdeal.τ).loc Cert.KNbwIdeal.main_arg1)
      ∧ m' ((c.tc : Thread Cert.RNbwIdeal.nD Cert.RNbwIdeal.τ).loc Cert.RNbwIdeal.main_arg2) = m ((c.tc : Thread Cert.KNbwIdeal.nD Cert.KNbwIdeal.τ).loc Cert.KNbwIdeal.main_arg2)
      ∧ m' ((c.tc : Thread Cert.RNbwIdeal.nD Cert.RNbwIdeal.τ).loc Cert.RNbwIdeal.main_arg3) = m ((c.tc : Thread Cert.KNbwIdeal.nD Cert.KNbwIdeal.τ).loc Cert.KNbwIdeal.main_arg3)
      ∧ m' ((c.tc : Thread Cert.RNbwIdeal.nD Cert.RNbwIdeal.τ).loc Cert.RNbwIdeal.main_arg4) = m ((c.tc : Thread Cert.KNbwIdeal.nD Cert.KNbwIdeal.τ).loc Cert.KNbwIdeal.main_arg4)
      ∧ m' ((c.tc : Thread Cert.RNbwIdeal.nD Cert.RNbwIdeal.τ).loc Cert.RNbwIdeal.main_arg5) = m ((c.tc : Thread Cert.KNbwIdeal.nD Cert.KNbwIdeal.τ).loc Cert.KNbwIdeal.main_arg5)
      ∧ m' ((c.tc : Thread Cert.RNbwIdeal.nD Cert.RNbwIdeal.τ).loc Cert.RNbwIdeal.main_arg6) = m ((c.tc : Thread Cert.KNbwIdeal.nD Cert.KNbwIdeal.τ).loc Cert.KNbwIdeal.main_arg6)) →
    ∃ (v0 : (c : Dev Cert.KNbwIdeal.nD) → Buf (Elt Ideal) ((c.tc : Thread Cert.KNbwIdeal.nD Cert.KNbwIdeal.τ).loc Cert.KNbwIdeal.main_v0_0)) (v1 : (c : Dev Cert.KNbwIdeal.nD) → Buf (Elt Ideal) ((c.tc : Thread Cert.KNbwIdeal.nD Cert.KNbwIdeal.τ).loc Cert.KNbwIdeal.main_v0_1)) (v2 : (c : Dev Cert.KNbwIdeal.nD) → Buf (Elt Ideal) ((c.tc : Thread Cert.KNbwIdeal.nD Cert.KNbwIdeal.τ).loc Cert.KNbwIdeal.main_v0_2)) (v3 : (c : Dev Cert.KNbwIdeal.nD) → Buf (Elt Ideal) ((c.tc : Thread Cert.KNbwIdeal.nD Cert.KNbwIdeal.τ).loc Cert.KNbwIdeal.main_v0_3)) (v4 : (c : Dev Cert.KNbwIdeal.nD) → Buf (Elt Ideal) ((c.tc : Thread Cert.KNbwIdeal.nD Cert.KNbwIdeal.τ).loc Cert.KNbwIdeal.main_v0_4)) (v5 : (c : Dev Cert.KNbwIdeal.nD) → Buf (Elt Ideal) ((c.tc : Thread Cert.KNbwIdeal.nD Cert.KNbwIdeal.τ).loc Cert.KNbwIdeal.main_v0_5)),
      θ_run (Cert.KNbwIdeal.defs (F := Ideal)) (onTc (τ := Cert.KNbwIdeal.τ) (Cert.KNbwIdeal.main (F := Ideal))) ⟨m, fun _ => 0, g⟩ (fun r => ∀ c : Dev Cert.KNbwIdeal.nD,
          r.2.mem ((c.tc : Thread Cert.KNbwIdeal.nD Cert.KNbwIdeal.τ).loc Cert.KNbwIdeal.main_v0_0) = v0 c
          ∧ r.2.mem ((c.tc : Thread Cert.KNbwIdeal.nD Cert.KNbwIdeal.τ).loc Cert.KNbwIdeal.main_v0_1) = v1 c
          ∧ r.2.mem ((c.tc : Thread Cert.KNbwIdeal.nD Cert.KNbwIdeal.τ).loc Cert.KNbwIdeal.main_v0_2) = v2 c
          ∧ r.2.mem ((c.tc : Thread Cert.KNbwIdeal.nD Cert.KNbwIdeal.τ).loc Cert.KNbwIdeal.main_v0_3) = v3 c
          ∧ r.2.mem ((c.tc : Thread Cert.KNbwIdeal.nD Cert.KNbwIdeal.τ).loc Cert.KNbwIdeal.main_v0_4) = v4 c
          ∧ r.2.mem ((c.tc : Thread Cert.KNbwIdeal.nD Cert.KNbwIdeal.τ).loc Cert.KNbwIdeal.main_v0_5) = v5 c
          ∧ r.2.mem ((c.tc : Thread Cert.KNbwIdeal.nD Cert.KNbwIdeal.τ).loc Cert.KNbwIdeal.main_arg0) = m ((c.tc : Thread Cert.KNbwIdeal.nD Cert.KNbwIdeal.τ).loc Cert.KNbwIdeal.main_arg0)
          ∧ r.2.mem ((c.tc : Thread Cert.KNbwIdeal.nD Cert.KNbwIdeal.τ).loc Cert.KNbwIdeal.main_arg1) = m ((c.tc : Thread Cert.KNbwIdeal.nD Cert.KNbwIdeal.τ).loc Cert.KNbwIdeal.main_arg1)
          ∧ r.2.mem ((c.tc : Thread Cert.KNbwIdeal.nD Cert.KNbwIdeal.τ).loc Cert.KNbwIdeal.main_arg2) = m ((c.tc : Thread Cert.KNbwIdeal.nD Cert.KNbwIdeal.τ).loc Cert.KNbwIdeal.main_arg2)
          ∧ r.2.mem ((c.tc : Thread Cert.KNbwIdeal.nD Cert.KNbwIdeal.τ).loc Cert.KNbwIdeal.main_arg3) = m ((c.tc : Thread Cert.KNbwIdeal.nD Cert.KNbwIdeal.τ).loc Cert.KNbwIdeal.main_arg3)
          ∧ r.2.mem ((c.tc : Thread Cert.KNbwIdeal.nD Cert.KNbwIdeal.τ).loc Cert.KNbwIdeal.main_arg4) = m ((c.tc : Thread Cert.KNbwIdeal.nD Cert.KNbwIdeal.τ).loc Cert.KNbwIdeal.main_arg4)
          ∧ r.2.mem ((c.tc : Thread Cert.KNbwIdeal.nD Cert.KNbwIdeal.τ).loc Cert.KNbwIdeal.main_arg5) = m ((c.tc : Thread Cert.KNbwIdeal.nD Cert.KNbwIdeal.τ).loc Cert.KNbwIdeal.main_arg5)
          ∧ r.2.mem ((c.tc : Thread Cert.KNbwIdeal.nD Cert.KNbwIdeal.τ).loc Cert.KNbwIdeal.main_arg6) = m ((c.tc : Thread Cert.KNbwIdeal.nD Cert.KNbwIdeal.τ).loc Cert.KNbwIdeal.main_arg6))
      ∧ θ_run (Cert.RNbwIdeal.defs (F := Ideal)) (onTc (τ := Cert.RNbwIdeal.τ) (Cert.RNbwIdeal.main (F := Ideal))) ⟨m', fun _ => 0, g'⟩ (fun r => ∀ c : Dev Cert.RNbwIdeal.nD,
          r.2.mem ((c.tc : Thread Cert.RNbwIdeal.nD Cert.RNbwIdeal.τ).loc Cert.RNbwIdeal.main_v49) = v0 c
          ∧ r.2.mem ((c.tc : Thread Cert.RNbwIdeal.nD Cert.RNbwIdeal.τ).loc Cert.RNbwIdeal.main_v24) = v1 c
          ∧ r.2.mem ((c.tc : Thread Cert.RNbwIdeal.nD Cert.RNbwIdeal.τ).loc Cert.RNbwIdeal.main_v27) = v2 c
          ∧ r.2.mem ((c.tc : Thread Cert.RNbwIdeal.nD Cert.RNbwIdeal.τ).loc Cert.RNbwIdeal.main_v32) = v3 c
          ∧ r.2.mem ((c.tc : Thread Cert.RNbwIdeal.nD Cert.RNbwIdeal.τ).loc Cert.RNbwIdeal.main_v62) = v4 c
          ∧ r.2.mem ((c.tc : Thread Cert.RNbwIdeal.nD Cert.RNbwIdeal.τ).loc Cert.RNbwIdeal.main_v61) = v5 c
          ∧ r.2.mem ((c.tc : Thread Cert.RNbwIdeal.nD Cert.RNbwIdeal.τ).loc Cert.RNbwIdeal.main_arg0) = m' ((c.tc : Thread Cert.RNbwIdeal.nD Cert.RNbwIdeal.τ).loc Cert.RNbwIdeal.main_arg0)
          ∧ r.2.mem ((c.tc : Thread Cert.RNbwIdeal.nD Cert.RNbwIdeal.τ).loc Cert.RNbwIdeal.main_arg1) = m' ((c.tc : Thread Cert.RNbwIdeal.nD Cert.RNbwIdeal.τ).loc Cert.RNbwIdeal.main_arg1)
          ∧ r.2.mem ((c.tc : Thread Cert.RNbwIdeal.nD Cert.RNbwIdeal.τ).loc Cert.RNbwIdeal.main_arg2) = m' ((c.tc : Thread Cert.RNbwIdeal.nD Cert.RNbwIdeal.τ).loc Cert.RNbwIdeal.main_arg2)
          ∧ r.2.mem ((c.tc : Thread Cert.RNbwIdeal.nD Cert.RNbwIdeal.τ).loc Cert.RNbwIdeal.main_arg3) = m' ((c.tc : Thread Cert.RNbwIdeal.nD Cert.RNbwIdeal.τ).loc Cert.RNbwIdeal.main_arg3)
          ∧ r.2.mem ((c.tc : Thread Cert.RNbwIdeal.nD Cert.RNbwIdeal.τ).loc Cert.RNbwIdeal.main_arg4) = m' ((c.tc : Thread Cert.RNbwIdeal.nD Cert.RNbwIdeal.τ).loc Cert.RNbwIdeal.main_arg4)
          ∧ r.2.mem ((c.tc : Thread Cert.RNbwIdeal.nD Cert.RNbwIdeal.τ).loc Cert.RNbwIdeal.main_arg5) = m' ((c.tc : Thread Cert.RNbwIdeal.nD Cert.RNbwIdeal.τ).loc Cert.RNbwIdeal.main_arg5)
          ∧ r.2.mem ((c.tc : Thread Cert.RNbwIdeal.nD Cert.RNbwIdeal.τ).loc Cert.RNbwIdeal.main_arg6) = m' ((c.tc : Thread Cert.RNbwIdeal.nD Cert.RNbwIdeal.τ).loc Cert.RNbwIdeal.main_arg6))

def preserves_KAda_KAdaIdeal : Prop :=
  True

def algebraic_KAdaIdeal_RAdaIdeal [hKAdaIdeal : Cert.KAdaIdeal.Facts] [hRAdaIdeal : Cert.RAdaIdeal.Facts] : Prop :=
  ∀ (m : (ℓ : Loc Cert.KAdaIdeal.nD Cert.KAdaIdeal.τ Cert.KAdaIdeal.sig) → Buf (Elt Ideal) ℓ) (g : Dev Cert.KAdaIdeal.nD → PrngReg)
    (m' : (ℓ : Loc Cert.RAdaIdeal.nD Cert.RAdaIdeal.τ Cert.RAdaIdeal.sig) → Buf (Elt Ideal) ℓ) (g' : Dev Cert.RAdaIdeal.nD → PrngReg), Pre_KAdaIdeal m →
    (∀ c : Dev Cert.KAdaIdeal.nD,
      m' ((c.tc : Thread Cert.RAdaIdeal.nD Cert.RAdaIdeal.τ).loc Cert.RAdaIdeal.main_arg0) = m ((c.tc : Thread Cert.KAdaIdeal.nD Cert.KAdaIdeal.τ).loc Cert.KAdaIdeal.main_arg0)
      ∧ m' ((c.tc : Thread Cert.RAdaIdeal.nD Cert.RAdaIdeal.τ).loc Cert.RAdaIdeal.main_arg1) = m ((c.tc : Thread Cert.KAdaIdeal.nD Cert.KAdaIdeal.τ).loc Cert.KAdaIdeal.main_arg1)
      ∧ m' ((c.tc : Thread Cert.RAdaIdeal.nD Cert.RAdaIdeal.τ).loc Cert.RAdaIdeal.main_arg2) = m ((c.tc : Thread Cert.KAdaIdeal.nD Cert.KAdaIdeal.τ).loc Cert.KAdaIdeal.main_arg2)) →
    ∃ (v0 : (c : Dev Cert.KAdaIdeal.nD) → Buf (Elt Ideal) ((c.tc : Thread Cert.KAdaIdeal.nD Cert.KAdaIdeal.τ).loc Cert.KAdaIdeal.main_v0)),
      θ_run (Cert.KAdaIdeal.defs (F := Ideal)) (onTc (τ := Cert.KAdaIdeal.τ) (Cert.KAdaIdeal.main (F := Ideal))) ⟨m, fun _ => 0, g⟩ (fun r => ∀ c : Dev Cert.KAdaIdeal.nD,
          r.2.mem ((c.tc : Thread Cert.KAdaIdeal.nD Cert.KAdaIdeal.τ).loc Cert.KAdaIdeal.main_v0) = v0 c
          ∧ r.2.mem ((c.tc : Thread Cert.KAdaIdeal.nD Cert.KAdaIdeal.τ).loc Cert.KAdaIdeal.main_arg0) = m ((c.tc : Thread Cert.KAdaIdeal.nD Cert.KAdaIdeal.τ).loc Cert.KAdaIdeal.main_arg0)
          ∧ r.2.mem ((c.tc : Thread Cert.KAdaIdeal.nD Cert.KAdaIdeal.τ).loc Cert.KAdaIdeal.main_arg1) = m ((c.tc : Thread Cert.KAdaIdeal.nD Cert.KAdaIdeal.τ).loc Cert.KAdaIdeal.main_arg1)
          ∧ r.2.mem ((c.tc : Thread Cert.KAdaIdeal.nD Cert.KAdaIdeal.τ).loc Cert.KAdaIdeal.main_arg2) = m ((c.tc : Thread Cert.KAdaIdeal.nD Cert.KAdaIdeal.τ).loc Cert.KAdaIdeal.main_arg2))
      ∧ θ_run (Cert.RAdaIdeal.defs (F := Ideal)) (onTc (τ := Cert.RAdaIdeal.τ) (Cert.RAdaIdeal.main (F := Ideal))) ⟨m', fun _ => 0, g'⟩ (fun r => ∀ c : Dev Cert.RAdaIdeal.nD,
          r.2.mem ((c.tc : Thread Cert.RAdaIdeal.nD Cert.RAdaIdeal.τ).loc Cert.RAdaIdeal.main_v3) = v0 c
          ∧ r.2.mem ((c.tc : Thread Cert.RAdaIdeal.nD Cert.RAdaIdeal.τ).loc Cert.RAdaIdeal.main_arg0) = m' ((c.tc : Thread Cert.RAdaIdeal.nD Cert.RAdaIdeal.τ).loc Cert.RAdaIdeal.main_arg0)
          ∧ r.2.mem ((c.tc : Thread Cert.RAdaIdeal.nD Cert.RAdaIdeal.τ).loc Cert.RAdaIdeal.main_arg1) = m' ((c.tc : Thread Cert.RAdaIdeal.nD Cert.RAdaIdeal.τ).loc Cert.RAdaIdeal.main_arg1)
          ∧ r.2.mem ((c.tc : Thread Cert.RAdaIdeal.nD Cert.RAdaIdeal.τ).loc Cert.RAdaIdeal.main_arg2) = m' ((c.tc : Thread Cert.RAdaIdeal.nD Cert.RAdaIdeal.τ).loc Cert.RAdaIdeal.main_arg2))

def preserves_KAdab_KAdabIdeal : Prop :=
  True

def algebraic_KAdabIdeal_RAdabIdeal [hKAdabIdeal : Cert.KAdabIdeal.Facts] [hRAdabIdeal : Cert.RAdabIdeal.Facts] : Prop :=
  ∀ (m : (ℓ : Loc Cert.KAdabIdeal.nD Cert.KAdabIdeal.τ Cert.KAdabIdeal.sig) → Buf (Elt Ideal) ℓ) (g : Dev Cert.KAdabIdeal.nD → PrngReg)
    (m' : (ℓ : Loc Cert.RAdabIdeal.nD Cert.RAdabIdeal.τ Cert.RAdabIdeal.sig) → Buf (Elt Ideal) ℓ) (g' : Dev Cert.RAdabIdeal.nD → PrngReg), Pre_KAdabIdeal m →
    (∀ c : Dev Cert.KAdabIdeal.nD,
      m' ((c.tc : Thread Cert.RAdabIdeal.nD Cert.RAdabIdeal.τ).loc Cert.RAdabIdeal.main_arg0) = m ((c.tc : Thread Cert.KAdabIdeal.nD Cert.KAdabIdeal.τ).loc Cert.KAdabIdeal.main_arg0)
      ∧ m' ((c.tc : Thread Cert.RAdabIdeal.nD Cert.RAdabIdeal.τ).loc Cert.RAdabIdeal.main_arg1) = m ((c.tc : Thread Cert.KAdabIdeal.nD Cert.KAdabIdeal.τ).loc Cert.KAdabIdeal.main_arg1)
      ∧ m' ((c.tc : Thread Cert.RAdabIdeal.nD Cert.RAdabIdeal.τ).loc Cert.RAdabIdeal.main_arg2) = m ((c.tc : Thread Cert.KAdabIdeal.nD Cert.KAdabIdeal.τ).loc Cert.KAdabIdeal.main_arg2)
      ∧ m' ((c.tc : Thread Cert.RAdabIdeal.nD Cert.RAdabIdeal.τ).loc Cert.RAdabIdeal.main_arg3) = m ((c.tc : Thread Cert.KAdabIdeal.nD Cert.KAdabIdeal.τ).loc Cert.KAdabIdeal.main_arg3)
      ∧ m' ((c.tc : Thread Cert.RAdabIdeal.nD Cert.RAdabIdeal.τ).loc Cert.RAdabIdeal.main_arg4) = m ((c.tc : Thread Cert.KAdabIdeal.nD Cert.KAdabIdeal.τ).loc Cert.KAdabIdeal.main_arg4)) →
    ∃ (v0 : (c : Dev Cert.KAdabIdeal.nD) → Buf (Elt Ideal) ((c.tc : Thread Cert.KAdabIdeal.nD Cert.KAdabIdeal.τ).loc Cert.KAdabIdeal.main_v1_0)) (v1 : (c : Dev Cert.KAdabIdeal.nD) → Buf (Elt Ideal) ((c.tc : Thread Cert.KAdabIdeal.nD Cert.KAdabIdeal.τ).loc Cert.KAdabIdeal.main_v1_1)) (v2 : (c : Dev Cert.KAdabIdeal.nD) → Buf (Elt Ideal) ((c.tc : Thread Cert.KAdabIdeal.nD Cert.KAdabIdeal.τ).loc Cert.KAdabIdeal.main_v1_2)) (v3 : (c : Dev Cert.KAdabIdeal.nD) → Buf (Elt Ideal) ((c.tc : Thread Cert.KAdabIdeal.nD Cert.KAdabIdeal.τ).loc Cert.KAdabIdeal.main_v1_3)),
      θ_run (Cert.KAdabIdeal.defs (F := Ideal)) (onTc (τ := Cert.KAdabIdeal.τ) (Cert.KAdabIdeal.main (F := Ideal))) ⟨m, fun _ => 0, g⟩ (fun r => ∀ c : Dev Cert.KAdabIdeal.nD,
          r.2.mem ((c.tc : Thread Cert.KAdabIdeal.nD Cert.KAdabIdeal.τ).loc Cert.KAdabIdeal.main_v1_0) = v0 c
          ∧ r.2.mem ((c.tc : Thread Cert.KAdabIdeal.nD Cert.KAdabIdeal.τ).loc Cert.KAdabIdeal.main_v1_1) = v1 c
          ∧ r.2.mem ((c.tc : Thread Cert.KAdabIdeal.nD Cert.KAdabIdeal.τ).loc Cert.KAdabIdeal.main_v1_2) = v2 c
          ∧ r.2.mem ((c.tc : Thread Cert.KAdabIdeal.nD Cert.KAdabIdeal.τ).loc Cert.KAdabIdeal.main_v1_3) = v3 c
          ∧ r.2.mem ((c.tc : Thread Cert.KAdabIdeal.nD Cert.KAdabIdeal.τ).loc Cert.KAdabIdeal.main_arg0) = m ((c.tc : Thread Cert.KAdabIdeal.nD Cert.KAdabIdeal.τ).loc Cert.KAdabIdeal.main_arg0)
          ∧ r.2.mem ((c.tc : Thread Cert.KAdabIdeal.nD Cert.KAdabIdeal.τ).loc Cert.KAdabIdeal.main_arg1) = m ((c.tc : Thread Cert.KAdabIdeal.nD Cert.KAdabIdeal.τ).loc Cert.KAdabIdeal.main_arg1)
          ∧ r.2.mem ((c.tc : Thread Cert.KAdabIdeal.nD Cert.KAdabIdeal.τ).loc Cert.KAdabIdeal.main_arg2) = m ((c.tc : Thread Cert.KAdabIdeal.nD Cert.KAdabIdeal.τ).loc Cert.KAdabIdeal.main_arg2)
          ∧ r.2.mem ((c.tc : Thread Cert.KAdabIdeal.nD Cert.KAdabIdeal.τ).loc Cert.KAdabIdeal.main_arg3) = m ((c.tc : Thread Cert.KAdabIdeal.nD Cert.KAdabIdeal.τ).loc Cert.KAdabIdeal.main_arg3)
          ∧ r.2.mem ((c.tc : Thread Cert.KAdabIdeal.nD Cert.KAdabIdeal.τ).loc Cert.KAdabIdeal.main_arg4) = m ((c.tc : Thread Cert.KAdabIdeal.nD Cert.KAdabIdeal.τ).loc Cert.KAdabIdeal.main_arg4))
      ∧ θ_run (Cert.RAdabIdeal.defs (F := Ideal)) (onTc (τ := Cert.RAdabIdeal.τ) (Cert.RAdabIdeal.main (F := Ideal))) ⟨m', fun _ => 0, g'⟩ (fun r => ∀ c : Dev Cert.RAdabIdeal.nD,
          r.2.mem ((c.tc : Thread Cert.RAdabIdeal.nD Cert.RAdabIdeal.τ).loc Cert.RAdabIdeal.main_v3) = v0 c
          ∧ r.2.mem ((c.tc : Thread Cert.RAdabIdeal.nD Cert.RAdabIdeal.τ).loc Cert.RAdabIdeal.main_v27) = v1 c
          ∧ r.2.mem ((c.tc : Thread Cert.RAdabIdeal.nD Cert.RAdabIdeal.τ).loc Cert.RAdabIdeal.main_v8) = v2 c
          ∧ r.2.mem ((c.tc : Thread Cert.RAdabIdeal.nD Cert.RAdabIdeal.τ).loc Cert.RAdabIdeal.main_v14) = v3 c
          ∧ r.2.mem ((c.tc : Thread Cert.RAdabIdeal.nD Cert.RAdabIdeal.τ).loc Cert.RAdabIdeal.main_arg0) = m' ((c.tc : Thread Cert.RAdabIdeal.nD Cert.RAdabIdeal.τ).loc Cert.RAdabIdeal.main_arg0)
          ∧ r.2.mem ((c.tc : Thread Cert.RAdabIdeal.nD Cert.RAdabIdeal.τ).loc Cert.RAdabIdeal.main_arg1) = m' ((c.tc : Thread Cert.RAdabIdeal.nD Cert.RAdabIdeal.τ).loc Cert.RAdabIdeal.main_arg1)
          ∧ r.2.mem ((c.tc : Thread Cert.RAdabIdeal.nD Cert.RAdabIdeal.τ).loc Cert.RAdabIdeal.main_arg2) = m' ((c.tc : Thread Cert.RAdabIdeal.nD Cert.RAdabIdeal.τ).loc Cert.RAdabIdeal.main_arg2)
          ∧ r.2.mem ((c.tc : Thread Cert.RAdabIdeal.nD Cert.RAdabIdeal.τ).loc Cert.RAdabIdeal.main_arg3) = m' ((c.tc : Thread Cert.RAdabIdeal.nD Cert.RAdabIdeal.τ).loc Cert.RAdabIdeal.main_arg3)
          ∧ r.2.mem ((c.tc : Thread Cert.RAdabIdeal.nD Cert.RAdabIdeal.τ).loc Cert.RAdabIdeal.main_arg4) = m' ((c.tc : Thread Cert.RAdabIdeal.nD Cert.RAdabIdeal.τ).loc Cert.RAdabIdeal.main_arg4))

def preserves_KAdam_KAdamIdeal : Prop :=
  True

def algebraic_KAdamIdeal_RAdamIdeal [hKAdamIdeal : Cert.KAdamIdeal.Facts] [hRAdamIdeal : Cert.RAdamIdeal.Facts] : Prop :=
  ∀ (m : (ℓ : Loc Cert.KAdamIdeal.nD Cert.KAdamIdeal.τ Cert.KAdamIdeal.sig) → Buf (Elt Ideal) ℓ) (g : Dev Cert.KAdamIdeal.nD → PrngReg)
    (m' : (ℓ : Loc Cert.RAdamIdeal.nD Cert.RAdamIdeal.τ Cert.RAdamIdeal.sig) → Buf (Elt Ideal) ℓ) (g' : Dev Cert.RAdamIdeal.nD → PrngReg), Pre_KAdamIdeal m →
    (∀ c : Dev Cert.KAdamIdeal.nD,
      m' ((c.tc : Thread Cert.RAdamIdeal.nD Cert.RAdamIdeal.τ).loc Cert.RAdamIdeal.main_arg0) = m ((c.tc : Thread Cert.KAdamIdeal.nD Cert.KAdamIdeal.τ).loc Cert.KAdamIdeal.main_arg0)
      ∧ m' ((c.tc : Thread Cert.RAdamIdeal.nD Cert.RAdamIdeal.τ).loc Cert.RAdamIdeal.main_arg1) = m ((c.tc : Thread Cert.KAdamIdeal.nD Cert.KAdamIdeal.τ).loc Cert.KAdamIdeal.main_arg1)
      ∧ m' ((c.tc : Thread Cert.RAdamIdeal.nD Cert.RAdamIdeal.τ).loc Cert.RAdamIdeal.main_arg2) = m ((c.tc : Thread Cert.KAdamIdeal.nD Cert.KAdamIdeal.τ).loc Cert.KAdamIdeal.main_arg2)
      ∧ m' ((c.tc : Thread Cert.RAdamIdeal.nD Cert.RAdamIdeal.τ).loc Cert.RAdamIdeal.main_arg3) = m ((c.tc : Thread Cert.KAdamIdeal.nD Cert.KAdamIdeal.τ).loc Cert.KAdamIdeal.main_arg3)) →
    ∃ (v0 : (c : Dev Cert.KAdamIdeal.nD) → Buf (Elt Ideal) ((c.tc : Thread Cert.KAdamIdeal.nD Cert.KAdamIdeal.τ).loc Cert.KAdamIdeal.main_v0_0)) (v1 : (c : Dev Cert.KAdamIdeal.nD) → Buf (Elt Ideal) ((c.tc : Thread Cert.KAdamIdeal.nD Cert.KAdamIdeal.τ).loc Cert.KAdamIdeal.main_v0_1)) (v2 : (c : Dev Cert.KAdamIdeal.nD) → Buf (Elt Ideal) ((c.tc : Thread Cert.KAdamIdeal.nD Cert.KAdamIdeal.τ).loc Cert.KAdamIdeal.main_v0_2)) (v3 : (c : Dev Cert.KAdamIdeal.nD) → Buf (Elt Ideal) ((c.tc : Thread Cert.KAdamIdeal.nD Cert.KAdamIdeal.τ).loc Cert.KAdamIdeal.main_v0_3)),
      θ_run (Cert.KAdamIdeal.defs (F := Ideal)) (onTc (τ := Cert.KAdamIdeal.τ) (Cert.KAdamIdeal.main (F := Ideal))) ⟨m, fun _ => 0, g⟩ (fun r => ∀ c : Dev Cert.KAdamIdeal.nD,
          r.2.mem ((c.tc : Thread Cert.KAdamIdeal.nD Cert.KAdamIdeal.τ).loc Cert.KAdamIdeal.main_v0_0) = v0 c
          ∧ r.2.mem ((c.tc : Thread Cert.KAdamIdeal.nD Cert.KAdamIdeal.τ).loc Cert.KAdamIdeal.main_v0_1) = v1 c
          ∧ r.2.mem ((c.tc : Thread Cert.KAdamIdeal.nD Cert.KAdamIdeal.τ).loc Cert.KAdamIdeal.main_v0_2) = v2 c
          ∧ r.2.mem ((c.tc : Thread Cert.KAdamIdeal.nD Cert.KAdamIdeal.τ).loc Cert.KAdamIdeal.main_v0_3) = v3 c
          ∧ r.2.mem ((c.tc : Thread Cert.KAdamIdeal.nD Cert.KAdamIdeal.τ).loc Cert.KAdamIdeal.main_arg0) = m ((c.tc : Thread Cert.KAdamIdeal.nD Cert.KAdamIdeal.τ).loc Cert.KAdamIdeal.main_arg0)
          ∧ r.2.mem ((c.tc : Thread Cert.KAdamIdeal.nD Cert.KAdamIdeal.τ).loc Cert.KAdamIdeal.main_arg1) = m ((c.tc : Thread Cert.KAdamIdeal.nD Cert.KAdamIdeal.τ).loc Cert.KAdamIdeal.main_arg1)
          ∧ r.2.mem ((c.tc : Thread Cert.KAdamIdeal.nD Cert.KAdamIdeal.τ).loc Cert.KAdamIdeal.main_arg2) = m ((c.tc : Thread Cert.KAdamIdeal.nD Cert.KAdamIdeal.τ).loc Cert.KAdamIdeal.main_arg2)
          ∧ r.2.mem ((c.tc : Thread Cert.KAdamIdeal.nD Cert.KAdamIdeal.τ).loc Cert.KAdamIdeal.main_arg3) = m ((c.tc : Thread Cert.KAdamIdeal.nD Cert.KAdamIdeal.τ).loc Cert.KAdamIdeal.main_arg3))
      ∧ θ_run (Cert.RAdamIdeal.defs (F := Ideal)) (onTc (τ := Cert.RAdamIdeal.τ) (Cert.RAdamIdeal.main (F := Ideal))) ⟨m', fun _ => 0, g'⟩ (fun r => ∀ c : Dev Cert.RAdamIdeal.nD,
          r.2.mem ((c.tc : Thread Cert.RAdamIdeal.nD Cert.RAdamIdeal.τ).loc Cert.RAdamIdeal.main_v1) = v0 c
          ∧ r.2.mem ((c.tc : Thread Cert.RAdamIdeal.nD Cert.RAdamIdeal.τ).loc Cert.RAdamIdeal.main_v25) = v1 c
          ∧ r.2.mem ((c.tc : Thread Cert.RAdamIdeal.nD Cert.RAdamIdeal.τ).loc Cert.RAdamIdeal.main_v6) = v2 c
          ∧ r.2.mem ((c.tc : Thread Cert.RAdamIdeal.nD Cert.RAdamIdeal.τ).loc Cert.RAdamIdeal.main_v12) = v3 c
          ∧ r.2.mem ((c.tc : Thread Cert.RAdamIdeal.nD Cert.RAdamIdeal.τ).loc Cert.RAdamIdeal.main_arg0) = m' ((c.tc : Thread Cert.RAdamIdeal.nD Cert.RAdamIdeal.τ).loc Cert.RAdamIdeal.main_arg0)
          ∧ r.2.mem ((c.tc : Thread Cert.RAdamIdeal.nD Cert.RAdamIdeal.τ).loc Cert.RAdamIdeal.main_arg1) = m' ((c.tc : Thread Cert.RAdamIdeal.nD Cert.RAdamIdeal.τ).loc Cert.RAdamIdeal.main_arg1)
          ∧ r.2.mem ((c.tc : Thread Cert.RAdamIdeal.nD Cert.RAdamIdeal.τ).loc Cert.RAdamIdeal.main_arg2) = m' ((c.tc : Thread Cert.RAdamIdeal.nD Cert.RAdamIdeal.τ).loc Cert.RAdamIdeal.main_arg2)
          ∧ r.2.mem ((c.tc : Thread Cert.RAdamIdeal.nD Cert.RAdamIdeal.τ).loc Cert.RAdamIdeal.main_arg3) = m' ((c.tc : Thread Cert.RAdamIdeal.nD Cert.RAdamIdeal.τ).loc Cert.RAdamIdeal.main_arg3))

def preserves_KAdamt_KAdamtIdeal : Prop :=
  True

def algebraic_KAdamtIdeal_RAdamtIdeal [hKAdamtIdeal : Cert.KAdamtIdeal.Facts] [hRAdamtIdeal : Cert.RAdamtIdeal.Facts] : Prop :=
  ∀ (m : (ℓ : Loc Cert.KAdamtIdeal.nD Cert.KAdamtIdeal.τ Cert.KAdamtIdeal.sig) → Buf (Elt Ideal) ℓ) (g : Dev Cert.KAdamtIdeal.nD → PrngReg)
    (m' : (ℓ : Loc Cert.RAdamtIdeal.nD Cert.RAdamtIdeal.τ Cert.RAdamtIdeal.sig) → Buf (Elt Ideal) ℓ) (g' : Dev Cert.RAdamtIdeal.nD → PrngReg), Pre_KAdamtIdeal m →
    (∀ c : Dev Cert.KAdamtIdeal.nD,
      m' ((c.tc : Thread Cert.RAdamtIdeal.nD Cert.RAdamtIdeal.τ).loc Cert.RAdamtIdeal.main_arg0) = m ((c.tc : Thread Cert.KAdamtIdeal.nD Cert.KAdamtIdeal.τ).loc Cert.KAdamtIdeal.main_arg0)
      ∧ m' ((c.tc : Thread Cert.RAdamtIdeal.nD Cert.RAdamtIdeal.τ).loc Cert.RAdamtIdeal.main_arg1) = m ((c.tc : Thread Cert.KAdamtIdeal.nD Cert.KAdamtIdeal.τ).loc Cert.KAdamtIdeal.main_arg1)
      ∧ m' ((c.tc : Thread Cert.RAdamtIdeal.nD Cert.RAdamtIdeal.τ).loc Cert.RAdamtIdeal.main_arg2) = m ((c.tc : Thread Cert.KAdamtIdeal.nD Cert.KAdamtIdeal.τ).loc Cert.KAdamtIdeal.main_arg2)
      ∧ m' ((c.tc : Thread Cert.RAdamtIdeal.nD Cert.RAdamtIdeal.τ).loc Cert.RAdamtIdeal.main_arg3) = m ((c.tc : Thread Cert.KAdamtIdeal.nD Cert.KAdamtIdeal.τ).loc Cert.KAdamtIdeal.main_arg3)) →
    ∃ (v0 : (c : Dev Cert.KAdamtIdeal.nD) → Buf (Elt Ideal) ((c.tc : Thread Cert.KAdamtIdeal.nD Cert.KAdamtIdeal.τ).loc Cert.KAdamtIdeal.main_v0_0)) (v1 : (c : Dev Cert.KAdamtIdeal.nD) → Buf (Elt Ideal) ((c.tc : Thread Cert.KAdamtIdeal.nD Cert.KAdamtIdeal.τ).loc Cert.KAdamtIdeal.main_v0_1)) (v2 : (c : Dev Cert.KAdamtIdeal.nD) → Buf (Elt Ideal) ((c.tc : Thread Cert.KAdamtIdeal.nD Cert.KAdamtIdeal.τ).loc Cert.KAdamtIdeal.main_v0_2)) (v3 : (c : Dev Cert.KAdamtIdeal.nD) → Buf (Elt Ideal) ((c.tc : Thread Cert.KAdamtIdeal.nD Cert.KAdamtIdeal.τ).loc Cert.KAdamtIdeal.main_v0_3)),
      θ_run (Cert.KAdamtIdeal.defs (F := Ideal)) (onTc (τ := Cert.KAdamtIdeal.τ) (Cert.KAdamtIdeal.main (F := Ideal))) ⟨m, fun _ => 0, g⟩ (fun r => ∀ c : Dev Cert.KAdamtIdeal.nD,
          r.2.mem ((c.tc : Thread Cert.KAdamtIdeal.nD Cert.KAdamtIdeal.τ).loc Cert.KAdamtIdeal.main_v0_0) = v0 c
          ∧ r.2.mem ((c.tc : Thread Cert.KAdamtIdeal.nD Cert.KAdamtIdeal.τ).loc Cert.KAdamtIdeal.main_v0_1) = v1 c
          ∧ r.2.mem ((c.tc : Thread Cert.KAdamtIdeal.nD Cert.KAdamtIdeal.τ).loc Cert.KAdamtIdeal.main_v0_2) = v2 c
          ∧ r.2.mem ((c.tc : Thread Cert.KAdamtIdeal.nD Cert.KAdamtIdeal.τ).loc Cert.KAdamtIdeal.main_v0_3) = v3 c
          ∧ r.2.mem ((c.tc : Thread Cert.KAdamtIdeal.nD Cert.KAdamtIdeal.τ).loc Cert.KAdamtIdeal.main_arg0) = m ((c.tc : Thread Cert.KAdamtIdeal.nD Cert.KAdamtIdeal.τ).loc Cert.KAdamtIdeal.main_arg0)
          ∧ r.2.mem ((c.tc : Thread Cert.KAdamtIdeal.nD Cert.KAdamtIdeal.τ).loc Cert.KAdamtIdeal.main_arg1) = m ((c.tc : Thread Cert.KAdamtIdeal.nD Cert.KAdamtIdeal.τ).loc Cert.KAdamtIdeal.main_arg1)
          ∧ r.2.mem ((c.tc : Thread Cert.KAdamtIdeal.nD Cert.KAdamtIdeal.τ).loc Cert.KAdamtIdeal.main_arg2) = m ((c.tc : Thread Cert.KAdamtIdeal.nD Cert.KAdamtIdeal.τ).loc Cert.KAdamtIdeal.main_arg2)
          ∧ r.2.mem ((c.tc : Thread Cert.KAdamtIdeal.nD Cert.KAdamtIdeal.τ).loc Cert.KAdamtIdeal.main_arg3) = m ((c.tc : Thread Cert.KAdamtIdeal.nD Cert.KAdamtIdeal.τ).loc Cert.KAdamtIdeal.main_arg3))
      ∧ θ_run (Cert.RAdamtIdeal.defs (F := Ideal)) (onTc (τ := Cert.RAdamtIdeal.τ) (Cert.RAdamtIdeal.main (F := Ideal))) ⟨m', fun _ => 0, g'⟩ (fun r => ∀ c : Dev Cert.RAdamtIdeal.nD,
          r.2.mem ((c.tc : Thread Cert.RAdamtIdeal.nD Cert.RAdamtIdeal.τ).loc Cert.RAdamtIdeal.main_v2) = v0 c
          ∧ r.2.mem ((c.tc : Thread Cert.RAdamtIdeal.nD Cert.RAdamtIdeal.τ).loc Cert.RAdamtIdeal.main_v26) = v1 c
          ∧ r.2.mem ((c.tc : Thread Cert.RAdamtIdeal.nD Cert.RAdamtIdeal.τ).loc Cert.RAdamtIdeal.main_v7) = v2 c
          ∧ r.2.mem ((c.tc : Thread Cert.RAdamtIdeal.nD Cert.RAdamtIdeal.τ).loc Cert.RAdamtIdeal.main_v13) = v3 c
          ∧ r.2.mem ((c.tc : Thread Cert.RAdamtIdeal.nD Cert.RAdamtIdeal.τ).loc Cert.RAdamtIdeal.main_arg0) = m' ((c.tc : Thread Cert.RAdamtIdeal.nD Cert.RAdamtIdeal.τ).loc Cert.RAdamtIdeal.main_arg0)
          ∧ r.2.mem ((c.tc : Thread Cert.RAdamtIdeal.nD Cert.RAdamtIdeal.τ).loc Cert.RAdamtIdeal.main_arg1) = m' ((c.tc : Thread Cert.RAdamtIdeal.nD Cert.RAdamtIdeal.τ).loc Cert.RAdamtIdeal.main_arg1)
          ∧ r.2.mem ((c.tc : Thread Cert.RAdamtIdeal.nD Cert.RAdamtIdeal.τ).loc Cert.RAdamtIdeal.main_arg2) = m' ((c.tc : Thread Cert.RAdamtIdeal.nD Cert.RAdamtIdeal.τ).loc Cert.RAdamtIdeal.main_arg2)
          ∧ r.2.mem ((c.tc : Thread Cert.RAdamtIdeal.nD Cert.RAdamtIdeal.τ).loc Cert.RAdamtIdeal.main_arg3) = m' ((c.tc : Thread Cert.RAdamtIdeal.nD Cert.RAdamtIdeal.τ).loc Cert.RAdamtIdeal.main_arg3))

def preserves_KBias_KBiasIdeal : Prop :=
  True

def algebraic_KBiasIdeal_RBiasIdeal_pre_is_bucket [hKBiasIdeal : Cert.KBiasIdeal.Facts] [hRBiasIdeal : Cert.RBiasIdeal.Facts] [hPre_is_bucket : Cert.Pre_is_bucket.Facts] : Prop :=
  ∀ (m : (ℓ : Loc Cert.KBiasIdeal.nD Cert.KBiasIdeal.τ Cert.KBiasIdeal.sig) → Buf (Elt Ideal) ℓ) (g : Dev Cert.KBiasIdeal.nD → PrngReg)
    (m' : (ℓ : Loc Cert.RBiasIdeal.nD Cert.RBiasIdeal.τ Cert.RBiasIdeal.sig) → Buf (Elt Ideal) ℓ) (g' : Dev Cert.RBiasIdeal.nD → PrngReg), Pre_KBiasIdeal_is_bucket m →
    (∀ c : Dev Cert.KBiasIdeal.nD,
      m' ((c.tc : Thread Cert.RBiasIdeal.nD Cert.RBiasIdeal.τ).loc Cert.RBiasIdeal.main_arg0) = m ((c.tc : Thread Cert.KBiasIdeal.nD Cert.KBiasIdeal.τ).loc Cert.KBiasIdeal.main_arg0)
      ∧ m' ((c.tc : Thread Cert.RBiasIdeal.nD Cert.RBiasIdeal.τ).loc Cert.RBiasIdeal.main_arg1) = m ((c.tc : Thread Cert.KBiasIdeal.nD Cert.KBiasIdeal.τ).loc Cert.KBiasIdeal.main_arg1)) →
    ∃ (v0 : (c : Dev Cert.KBiasIdeal.nD) → Buf (Elt Ideal) ((c.tc : Thread Cert.KBiasIdeal.nD Cert.KBiasIdeal.τ).loc Cert.KBiasIdeal.main_v8)),
      θ_run (Cert.KBiasIdeal.defs (F := Ideal)) (onTc (τ := Cert.KBiasIdeal.τ) (Cert.KBiasIdeal.main (F := Ideal))) ⟨m, fun _ => 0, g⟩ (fun r => ∀ c : Dev Cert.KBiasIdeal.nD,
          r.2.mem ((c.tc : Thread Cert.KBiasIdeal.nD Cert.KBiasIdeal.τ).loc Cert.KBiasIdeal.main_v8) = v0 c
          ∧ r.2.mem ((c.tc : Thread Cert.KBiasIdeal.nD Cert.KBiasIdeal.τ).loc Cert.KBiasIdeal.main_arg0) = m ((c.tc : Thread Cert.KBiasIdeal.nD Cert.KBiasIdeal.τ).loc Cert.KBiasIdeal.main_arg0)
          ∧ r.2.mem ((c.tc : Thread Cert.KBiasIdeal.nD Cert.KBiasIdeal.τ).loc Cert.KBiasIdeal.main_arg1) = m ((c.tc : Thread Cert.KBiasIdeal.nD Cert.KBiasIdeal.τ).loc Cert.KBiasIdeal.main_arg1))
      ∧ θ_run (Cert.RBiasIdeal.defs (F := Ideal)) (onTc (τ := Cert.RBiasIdeal.τ) (Cert.RBiasIdeal.main (F := Ideal))) ⟨m', fun _ => 0, g'⟩ (fun r => ∀ c : Dev Cert.RBiasIdeal.nD,
          r.2.mem ((c.tc : Thread Cert.RBiasIdeal.nD Cert.RBiasIdeal.τ).loc Cert.RBiasIdeal.main_v7) = v0 c
          ∧ r.2.mem ((c.tc : Thread Cert.RBiasIdeal.nD Cert.RBiasIdeal.τ).loc Cert.RBiasIdeal.main_arg0) = m' ((c.tc : Thread Cert.RBiasIdeal.nD Cert.RBiasIdeal.τ).loc Cert.RBiasIdeal.main_arg0)
          ∧ r.2.mem ((c.tc : Thread Cert.RBiasIdeal.nD Cert.RBiasIdeal.τ).loc Cert.RBiasIdeal.main_arg1) = m' ((c.tc : Thread Cert.RBiasIdeal.nD Cert.RBiasIdeal.τ).loc Cert.RBiasIdeal.main_arg1))

def preserves_KBiasb_KBiasbIdeal : Prop :=
  True

def algebraic_KBiasbIdeal_RBiasbIdeal_pre_is_bucket_b [hKBiasbIdeal : Cert.KBiasbIdeal.Facts] [hRBiasbIdeal : Cert.RBiasbIdeal.Facts] [hPre_is_bucket_b : Cert.Pre_is_bucket_b.Facts] : Prop :=
  ∀ (m : (ℓ : Loc Cert.KBiasbIdeal.nD Cert.KBiasbIdeal.τ Cert.KBiasbIdeal.sig) → Buf (Elt Ideal) ℓ) (g : Dev Cert.KBiasbIdeal.nD → PrngReg)
    (m' : (ℓ : Loc Cert.RBiasbIdeal.nD Cert.RBiasbIdeal.τ Cert.RBiasbIdeal.sig) → Buf (Elt Ideal) ℓ) (g' : Dev Cert.RBiasbIdeal.nD → PrngReg), Pre_KBiasbIdeal_is_bucket_b m →
    (∀ c : Dev Cert.KBiasbIdeal.nD,
      m' ((c.tc : Thread Cert.RBiasbIdeal.nD Cert.RBiasbIdeal.τ).loc Cert.RBiasbIdeal.main_arg0) = m ((c.tc : Thread Cert.KBiasbIdeal.nD Cert.KBiasbIdeal.τ).loc Cert.KBiasbIdeal.main_arg0)
      ∧ m' ((c.tc : Thread Cert.RBiasbIdeal.nD Cert.RBiasbIdeal.τ).loc Cert.RBiasbIdeal.main_arg1) = m ((c.tc : Thread Cert.KBiasbIdeal.nD Cert.KBiasbIdeal.τ).loc Cert.KBiasbIdeal.main_arg1)) →
    ∃ (v0 : (c : Dev Cert.KBiasbIdeal.nD) → Buf (Elt Ideal) ((c.tc : Thread Cert.KBiasbIdeal.nD Cert.KBiasbIdeal.τ).loc Cert.KBiasbIdeal.main_v7)),
      θ_run (Cert.KBiasbIdeal.defs (F := Ideal)) (onTc (τ := Cert.KBiasbIdeal.τ) (Cert.KBiasbIdeal.main (F := Ideal))) ⟨m, fun _ => 0, g⟩ (fun r => ∀ c : Dev Cert.KBiasbIdeal.nD,
          r.2.mem ((c.tc : Thread Cert.KBiasbIdeal.nD Cert.KBiasbIdeal.τ).loc Cert.KBiasbIdeal.main_v7) = v0 c
          ∧ r.2.mem ((c.tc : Thread Cert.KBiasbIdeal.nD Cert.KBiasbIdeal.τ).loc Cert.KBiasbIdeal.main_arg0) = m ((c.tc : Thread Cert.KBiasbIdeal.nD Cert.KBiasbIdeal.τ).loc Cert.KBiasbIdeal.main_arg0)
          ∧ r.2.mem ((c.tc : Thread Cert.KBiasbIdeal.nD Cert.KBiasbIdeal.τ).loc Cert.KBiasbIdeal.main_arg1) = m ((c.tc : Thread Cert.KBiasbIdeal.nD Cert.KBiasbIdeal.τ).loc Cert.KBiasbIdeal.main_arg1))
      ∧ θ_run (Cert.RBiasbIdeal.defs (F := Ideal)) (onTc (τ := Cert.RBiasbIdeal.τ) (Cert.RBiasbIdeal.main (F := Ideal))) ⟨m', fun _ => 0, g'⟩ (fun r => ∀ c : Dev Cert.RBiasbIdeal.nD,
          r.2.mem ((c.tc : Thread Cert.RBiasbIdeal.nD Cert.RBiasbIdeal.τ).loc Cert.RBiasbIdeal.main_v12) = v0 c
          ∧ r.2.mem ((c.tc : Thread Cert.RBiasbIdeal.nD Cert.RBiasbIdeal.τ).loc Cert.RBiasbIdeal.main_arg0) = m' ((c.tc : Thread Cert.RBiasbIdeal.nD Cert.RBiasbIdeal.τ).loc Cert.RBiasbIdeal.main_arg0)
          ∧ r.2.mem ((c.tc : Thread Cert.RBiasbIdeal.nD Cert.RBiasbIdeal.τ).loc Cert.RBiasbIdeal.main_arg1) = m' ((c.tc : Thread Cert.RBiasbIdeal.nD Cert.RBiasbIdeal.τ).loc Cert.RBiasbIdeal.main_arg1))

def preserves_KPoolb_KPoolbIdeal : Prop :=
  True

def algebraic_KPoolbIdeal_RPoolbIdeal_pre_finite_poolb [hKPoolbIdeal : Cert.KPoolbIdeal.Facts] [hRPoolbIdeal : Cert.RPoolbIdeal.Facts] [hPre_finite_poolb : Cert.Pre_finite_poolb.Facts] : Prop :=
  ∀ (m : (ℓ : Loc Cert.KPoolbIdeal.nD Cert.KPoolbIdeal.τ Cert.KPoolbIdeal.sig) → Buf (Elt Ideal) ℓ) (g : Dev Cert.KPoolbIdeal.nD → PrngReg)
    (m' : (ℓ : Loc Cert.RPoolbIdeal.nD Cert.RPoolbIdeal.τ Cert.RPoolbIdeal.sig) → Buf (Elt Ideal) ℓ) (g' : Dev Cert.RPoolbIdeal.nD → PrngReg), Pre_KPoolbIdeal_finite_poolb m →
    (∀ c : Dev Cert.KPoolbIdeal.nD,
      m' ((c.tc : Thread Cert.RPoolbIdeal.nD Cert.RPoolbIdeal.τ).loc Cert.RPoolbIdeal.main_arg0) = m ((c.tc : Thread Cert.KPoolbIdeal.nD Cert.KPoolbIdeal.τ).loc Cert.KPoolbIdeal.main_arg0)
      ∧ m' ((c.tc : Thread Cert.RPoolbIdeal.nD Cert.RPoolbIdeal.τ).loc Cert.RPoolbIdeal.main_arg1) = m ((c.tc : Thread Cert.KPoolbIdeal.nD Cert.KPoolbIdeal.τ).loc Cert.KPoolbIdeal.main_arg1)
      ∧ m' ((c.tc : Thread Cert.RPoolbIdeal.nD Cert.RPoolbIdeal.τ).loc Cert.RPoolbIdeal.main_arg2) = m ((c.tc : Thread Cert.KPoolbIdeal.nD Cert.KPoolbIdeal.τ).loc Cert.KPoolbIdeal.main_arg2)
      ∧ m' ((c.tc : Thread Cert.RPoolbIdeal.nD Cert.RPoolbIdeal.τ).loc Cert.RPoolbIdeal.main_arg3) = m ((c.tc : Thread Cert.KPoolbIdeal.nD Cert.KPoolbIdeal.τ).loc Cert.KPoolbIdeal.main_arg3)
      ∧ m' ((c.tc : Thread Cert.RPoolbIdeal.nD Cert.RPoolbIdeal.τ).loc Cert.RPoolbIdeal.main_arg4) = m ((c.tc : Thread Cert.KPoolbIdeal.nD Cert.KPoolbIdeal.τ).loc Cert.KPoolbIdeal.main_arg4)) →
    ∃ (v0 : (c : Dev Cert.KPoolbIdeal.nD) → Buf (Elt Ideal) ((c.tc : Thread Cert.KPoolbIdeal.nD Cert.KPoolbIdeal.τ).loc Cert.KPoolbIdeal.main_v129_0)) (v1 : (c : Dev Cert.KPoolbIdeal.nD) → Buf (Elt Ideal) ((c.tc : Thread Cert.KPoolbIdeal.nD Cert.KPoolbIdeal.τ).loc Cert.KPoolbIdeal.main_v129_1)) (v2 : (c : Dev Cert.KPoolbIdeal.nD) → Buf (Elt Ideal) ((c.tc : Thread Cert.KPoolbIdeal.nD Cert.KPoolbIdeal.τ).loc Cert.KPoolbIdeal.main_v129_2)),
      θ_run (Cert.KPoolbIdeal.defs (F := Ideal)) (onTc (τ := Cert.KPoolbIdeal.τ) (Cert.KPoolbIdeal.main (F := Ideal))) ⟨m, fun _ => 0, g⟩ (fun r => ∀ c : Dev Cert.KPoolbIdeal.nD,
          r.2.mem ((c.tc : Thread Cert.KPoolbIdeal.nD Cert.KPoolbIdeal.τ).loc Cert.KPoolbIdeal.main_v129_0) = v0 c
          ∧ r.2.mem ((c.tc : Thread Cert.KPoolbIdeal.nD Cert.KPoolbIdeal.τ).loc Cert.KPoolbIdeal.main_v129_1) = v1 c
          ∧ r.2.mem ((c.tc : Thread Cert.KPoolbIdeal.nD Cert.KPoolbIdeal.τ).loc Cert.KPoolbIdeal.main_v129_2) = v2 c
          ∧ r.2.mem ((c.tc : Thread Cert.KPoolbIdeal.nD Cert.KPoolbIdeal.τ).loc Cert.KPoolbIdeal.main_arg0) = m ((c.tc : Thread Cert.KPoolbIdeal.nD Cert.KPoolbIdeal.τ).loc Cert.KPoolbIdeal.main_arg0)
          ∧ r.2.mem ((c.tc : Thread Cert.KPoolbIdeal.nD Cert.KPoolbIdeal.τ).loc Cert.KPoolbIdeal.main_arg1) = m ((c.tc : Thread Cert.KPoolbIdeal.nD Cert.KPoolbIdeal.τ).loc Cert.KPoolbIdeal.main_arg1)
          ∧ r.2.mem ((c.tc : Thread Cert.KPoolbIdeal.nD Cert.KPoolbIdeal.τ).loc Cert.KPoolbIdeal.main_arg2) = m ((c.tc : Thread Cert.KPoolbIdeal.nD Cert.KPoolbIdeal.τ).loc Cert.KPoolbIdeal.main_arg2)
          ∧ r.2.mem ((c.tc : Thread Cert.KPoolbIdeal.nD Cert.KPoolbIdeal.τ).loc Cert.KPoolbIdeal.main_arg3) = m ((c.tc : Thread Cert.KPoolbIdeal.nD Cert.KPoolbIdeal.τ).loc Cert.KPoolbIdeal.main_arg3)
          ∧ r.2.mem ((c.tc : Thread Cert.KPoolbIdeal.nD Cert.KPoolbIdeal.τ).loc Cert.KPoolbIdeal.main_arg4) = m ((c.tc : Thread Cert.KPoolbIdeal.nD Cert.KPoolbIdeal.τ).loc Cert.KPoolbIdeal.main_arg4))
      ∧ θ_run (Cert.RPoolbIdeal.defs (F := Ideal)) (onTc (τ := Cert.RPoolbIdeal.τ) (Cert.RPoolbIdeal.main (F := Ideal))) ⟨m', fun _ => 0, g'⟩ (fun r => ∀ c : Dev Cert.RPoolbIdeal.nD,
          r.2.mem ((c.tc : Thread Cert.RPoolbIdeal.nD Cert.RPoolbIdeal.τ).loc Cert.RPoolbIdeal.main_v205) = v0 c
          ∧ r.2.mem ((c.tc : Thread Cert.RPoolbIdeal.nD Cert.RPoolbIdeal.τ).loc Cert.RPoolbIdeal.main_v132) = v1 c
          ∧ r.2.mem ((c.tc : Thread Cert.RPoolbIdeal.nD Cert.RPoolbIdeal.τ).loc Cert.RPoolbIdeal.main_v140) = v2 c
          ∧ r.2.mem ((c.tc : Thread Cert.RPoolbIdeal.nD Cert.RPoolbIdeal.τ).loc Cert.RPoolbIdeal.main_arg0) = m' ((c.tc : Thread Cert.RPoolbIdeal.nD Cert.RPoolbIdeal.τ).loc Cert.RPoolbIdeal.main_arg0)
          ∧ r.2.mem ((c.tc : Thread Cert.RPoolbIdeal.nD Cert.RPoolbIdeal.τ).loc Cert.RPoolbIdeal.main_arg1) = m' ((c.tc : Thread Cert.RPoolbIdeal.nD Cert.RPoolbIdeal.τ).loc Cert.RPoolbIdeal.main_arg1)
          ∧ r.2.mem ((c.tc : Thread Cert.RPoolbIdeal.nD Cert.RPoolbIdeal.τ).loc Cert.RPoolbIdeal.main_arg2) = m' ((c.tc : Thread Cert.RPoolbIdeal.nD Cert.RPoolbIdeal.τ).loc Cert.RPoolbIdeal.main_arg2)
          ∧ r.2.mem ((c.tc : Thread Cert.RPoolbIdeal.nD Cert.RPoolbIdeal.τ).loc Cert.RPoolbIdeal.main_arg3) = m' ((c.tc : Thread Cert.RPoolbIdeal.nD Cert.RPoolbIdeal.τ).loc Cert.RPoolbIdeal.main_arg3)
          ∧ r.2.mem ((c.tc : Thread Cert.RPoolbIdeal.nD Cert.RPoolbIdeal.τ).loc Cert.RPoolbIdeal.main_arg4) = m' ((c.tc : Thread Cert.RPoolbIdeal.nD Cert.RPoolbIdeal.τ).loc Cert.RPoolbIdeal.main_arg4))

def preserves_KPoolf_KPoolfIdeal : Prop :=
  True

def algebraic_KPoolfIdeal_RPoolfIdeal_pre_finite_poolf [hKPoolfIdeal : Cert.KPoolfIdeal.Facts] [hRPoolfIdeal : Cert.RPoolfIdeal.Facts] [hPre_finite_poolf : Cert.Pre_finite_poolf.Facts] : Prop :=
  ∀ (m : (ℓ : Loc Cert.KPoolfIdeal.nD Cert.KPoolfIdeal.τ Cert.KPoolfIdeal.sig) → Buf (Elt Ideal) ℓ) (g : Dev Cert.KPoolfIdeal.nD → PrngReg)
    (m' : (ℓ : Loc Cert.RPoolfIdeal.nD Cert.RPoolfIdeal.τ Cert.RPoolfIdeal.sig) → Buf (Elt Ideal) ℓ) (g' : Dev Cert.RPoolfIdeal.nD → PrngReg), Pre_KPoolfIdeal_finite_poolf m →
    (∀ c : Dev Cert.KPoolfIdeal.nD,
      m' ((c.tc : Thread Cert.RPoolfIdeal.nD Cert.RPoolfIdeal.τ).loc Cert.RPoolfIdeal.main_arg0) = m ((c.tc : Thread Cert.KPoolfIdeal.nD Cert.KPoolfIdeal.τ).loc Cert.KPoolfIdeal.main_arg0)
      ∧ m' ((c.tc : Thread Cert.RPoolfIdeal.nD Cert.RPoolfIdeal.τ).loc Cert.RPoolfIdeal.main_arg1) = m ((c.tc : Thread Cert.KPoolfIdeal.nD Cert.KPoolfIdeal.τ).loc Cert.KPoolfIdeal.main_arg1)
      ∧ m' ((c.tc : Thread Cert.RPoolfIdeal.nD Cert.RPoolfIdeal.τ).loc Cert.RPoolfIdeal.main_arg2) = m ((c.tc : Thread Cert.KPoolfIdeal.nD Cert.KPoolfIdeal.τ).loc Cert.KPoolfIdeal.main_arg2)) →
    ∃ (v0 : (c : Dev Cert.KPoolfIdeal.nD) → Buf (Elt Ideal) ((c.tc : Thread Cert.KPoolfIdeal.nD Cert.KPoolfIdeal.τ).loc Cert.KPoolfIdeal.main_v0_0)) (v1 : (c : Dev Cert.KPoolfIdeal.nD) → Buf (Elt Ideal) ((c.tc : Thread Cert.KPoolfIdeal.nD Cert.KPoolfIdeal.τ).loc Cert.KPoolfIdeal.main_v0_1)),
      θ_run (Cert.KPoolfIdeal.defs (F := Ideal)) (onTc (τ := Cert.KPoolfIdeal.τ) (Cert.KPoolfIdeal.main (F := Ideal))) ⟨m, fun _ => 0, g⟩ (fun r => ∀ c : Dev Cert.KPoolfIdeal.nD,
          r.2.mem ((c.tc : Thread Cert.KPoolfIdeal.nD Cert.KPoolfIdeal.τ).loc Cert.KPoolfIdeal.main_v0_0) = v0 c
          ∧ r.2.mem ((c.tc : Thread Cert.KPoolfIdeal.nD Cert.KPoolfIdeal.τ).loc Cert.KPoolfIdeal.main_v0_1) = v1 c
          ∧ r.2.mem ((c.tc : Thread Cert.KPoolfIdeal.nD Cert.KPoolfIdeal.τ).loc Cert.KPoolfIdeal.main_arg0) = m ((c.tc : Thread Cert.KPoolfIdeal.nD Cert.KPoolfIdeal.τ).loc Cert.KPoolfIdeal.main_arg0)
          ∧ r.2.mem ((c.tc : Thread Cert.KPoolfIdeal.nD Cert.KPoolfIdeal.τ).loc Cert.KPoolfIdeal.main_arg1) = m ((c.tc : Thread Cert.KPoolfIdeal.nD Cert.KPoolfIdeal.τ).loc Cert.KPoolfIdeal.main_arg1)
          ∧ r.2.mem ((c.tc : Thread Cert.KPoolfIdeal.nD Cert.KPoolfIdeal.τ).loc Cert.KPoolfIdeal.main_arg2) = m ((c.tc : Thread Cert.KPoolfIdeal.nD Cert.KPoolfIdeal.τ).loc Cert.KPoolfIdeal.main_arg2))
      ∧ θ_run (Cert.RPoolfIdeal.defs (F := Ideal)) (onTc (τ := Cert.RPoolfIdeal.τ) (Cert.RPoolfIdeal.main (F := Ideal))) ⟨m', fun _ => 0, g'⟩ (fun r => ∀ c : Dev Cert.RPoolfIdeal.nD,
          r.2.mem ((c.tc : Thread Cert.RPoolfIdeal.nD Cert.RPoolfIdeal.τ).loc Cert.RPoolfIdeal.main_v129) = v0 c
          ∧ r.2.mem ((c.tc : Thread Cert.RPoolfIdeal.nD Cert.RPoolfIdeal.τ).loc Cert.RPoolfIdeal.main_v130) = v1 c
          ∧ r.2.mem ((c.tc : Thread Cert.RPoolfIdeal.nD Cert.RPoolfIdeal.τ).loc Cert.RPoolfIdeal.main_arg0) = m' ((c.tc : Thread Cert.RPoolfIdeal.nD Cert.RPoolfIdeal.τ).loc Cert.RPoolfIdeal.main_arg0)
          ∧ r.2.mem ((c.tc : Thread Cert.RPoolfIdeal.nD Cert.RPoolfIdeal.τ).loc Cert.RPoolfIdeal.main_arg1) = m' ((c.tc : Thread Cert.RPoolfIdeal.nD Cert.RPoolfIdeal.τ).loc Cert.RPoolfIdeal.main_arg1)
          ∧ r.2.mem ((c.tc : Thread Cert.RPoolfIdeal.nD Cert.RPoolfIdeal.τ).loc Cert.RPoolfIdeal.main_arg2) = m' ((c.tc : Thread Cert.RPoolfIdeal.nD Cert.RPoolfIdeal.τ).loc Cert.RPoolfIdeal.main_arg2))

def preserves_KAttnf_KAttnfIdeal : Prop :=
  IdealRules.named_const.Statement Cert.KAttnfIdeal.κ "mask" .f32 0xF149F2CA#32 ⊥

def algebraic_KAttnfIdeal_RAttnfIdeal [hKAttnfIdeal : Cert.KAttnfIdeal.Facts] [hRAttnfIdeal : Cert.RAttnfIdeal.Facts] : Prop :=
  ∀ (m : (ℓ : Loc Cert.KAttnfIdeal.nD Cert.KAttnfIdeal.τ Cert.KAttnfIdeal.sig) → Buf (Elt Ideal) ℓ) (g : Dev Cert.KAttnfIdeal.nD → PrngReg)
    (m' : (ℓ : Loc Cert.RAttnfIdeal.nD Cert.RAttnfIdeal.τ Cert.RAttnfIdeal.sig) → Buf (Elt Ideal) ℓ) (g' : Dev Cert.RAttnfIdeal.nD → PrngReg), Pre_KAttnfIdeal m →
    (∀ c : Dev Cert.KAttnfIdeal.nD,
      m' ((c.tc : Thread Cert.RAttnfIdeal.nD Cert.RAttnfIdeal.τ).loc Cert.RAttnfIdeal.main_arg0) = m ((c.tc : Thread Cert.KAttnfIdeal.nD Cert.KAttnfIdeal.τ).loc Cert.KAttnfIdeal.main_arg0)
      ∧ m' ((c.tc : Thread Cert.RAttnfIdeal.nD Cert.RAttnfIdeal.τ).loc Cert.RAttnfIdeal.main_arg1) = m ((c.tc : Thread Cert.KAttnfIdeal.nD Cert.KAttnfIdeal.τ).loc Cert.KAttnfIdeal.main_arg1)
      ∧ m' ((c.tc : Thread Cert.RAttnfIdeal.nD Cert.RAttnfIdeal.τ).loc Cert.RAttnfIdeal.main_arg2) = m ((c.tc : Thread Cert.KAttnfIdeal.nD Cert.KAttnfIdeal.τ).loc Cert.KAttnfIdeal.main_arg2)
      ∧ m' ((c.tc : Thread Cert.RAttnfIdeal.nD Cert.RAttnfIdeal.τ).loc Cert.RAttnfIdeal.main_arg3) = m ((c.tc : Thread Cert.KAttnfIdeal.nD Cert.KAttnfIdeal.τ).loc Cert.KAttnfIdeal.main_arg3)
      ∧ m' ((c.tc : Thread Cert.RAttnfIdeal.nD Cert.RAttnfIdeal.τ).loc Cert.RAttnfIdeal.main_arg4) = m ((c.tc : Thread Cert.KAttnfIdeal.nD Cert.KAttnfIdeal.τ).loc Cert.KAttnfIdeal.main_arg4)) →
    ∃ (v0 : (c : Dev Cert.KAttnfIdeal.nD) → Buf (Elt Ideal) ((c.tc : Thread Cert.KAttnfIdeal.nD Cert.KAttnfIdeal.τ).loc Cert.KAttnfIdeal.main_v10)),
      θ_run (Cert.KAttnfIdeal.defs (F := Ideal)) (onTc (τ := Cert.KAttnfIdeal.τ) (Cert.KAttnfIdeal.main (F := Ideal))) ⟨m, fun _ => 0, g⟩ (fun r => ∀ c : Dev Cert.KAttnfIdeal.nD,
          r.2.mem ((c.tc : Thread Cert.KAttnfIdeal.nD Cert.KAttnfIdeal.τ).loc Cert.KAttnfIdeal.main_v10) = v0 c
          ∧ r.2.mem ((c.tc : Thread Cert.KAttnfIdeal.nD Cert.KAttnfIdeal.τ).loc Cert.KAttnfIdeal.main_arg0) = m ((c.tc : Thread Cert.KAttnfIdeal.nD Cert.KAttnfIdeal.τ).loc Cert.KAttnfIdeal.main_arg0)
          ∧ r.2.mem ((c.tc : Thread Cert.KAttnfIdeal.nD Cert.KAttnfIdeal.τ).loc Cert.KAttnfIdeal.main_arg1) = m ((c.tc : Thread Cert.KAttnfIdeal.nD Cert.KAttnfIdeal.τ).loc Cert.KAttnfIdeal.main_arg1)
          ∧ r.2.mem ((c.tc : Thread Cert.KAttnfIdeal.nD Cert.KAttnfIdeal.τ).loc Cert.KAttnfIdeal.main_arg2) = m ((c.tc : Thread Cert.KAttnfIdeal.nD Cert.KAttnfIdeal.τ).loc Cert.KAttnfIdeal.main_arg2)
          ∧ r.2.mem ((c.tc : Thread Cert.KAttnfIdeal.nD Cert.KAttnfIdeal.τ).loc Cert.KAttnfIdeal.main_arg3) = m ((c.tc : Thread Cert.KAttnfIdeal.nD Cert.KAttnfIdeal.τ).loc Cert.KAttnfIdeal.main_arg3)
          ∧ r.2.mem ((c.tc : Thread Cert.KAttnfIdeal.nD Cert.KAttnfIdeal.τ).loc Cert.KAttnfIdeal.main_arg4) = m ((c.tc : Thread Cert.KAttnfIdeal.nD Cert.KAttnfIdeal.τ).loc Cert.KAttnfIdeal.main_arg4))
      ∧ θ_run (Cert.RAttnfIdeal.defs (F := Ideal)) (onTc (τ := Cert.RAttnfIdeal.τ) (Cert.RAttnfIdeal.main (F := Ideal))) ⟨m', fun _ => 0, g'⟩ (fun r => ∀ c : Dev Cert.RAttnfIdeal.nD,
          r.2.mem ((c.tc : Thread Cert.RAttnfIdeal.nD Cert.RAttnfIdeal.τ).loc Cert.RAttnfIdeal.main_v102) = v0 c
          ∧ r.2.mem ((c.tc : Thread Cert.RAttnfIdeal.nD Cert.RAttnfIdeal.τ).loc Cert.RAttnfIdeal.main_arg0) = m' ((c.tc : Thread Cert.RAttnfIdeal.nD Cert.RAttnfIdeal.τ).loc Cert.RAttnfIdeal.main_arg0)
          ∧ r.2.mem ((c.tc : Thread Cert.RAttnfIdeal.nD Cert.RAttnfIdeal.τ).loc Cert.RAttnfIdeal.main_arg1) = m' ((c.tc : Thread Cert.RAttnfIdeal.nD Cert.RAttnfIdeal.τ).loc Cert.RAttnfIdeal.main_arg1)
          ∧ r.2.mem ((c.tc : Thread Cert.RAttnfIdeal.nD Cert.RAttnfIdeal.τ).loc Cert.RAttnfIdeal.main_arg2) = m' ((c.tc : Thread Cert.RAttnfIdeal.nD Cert.RAttnfIdeal.τ).loc Cert.RAttnfIdeal.main_arg2)
          ∧ r.2.mem ((c.tc : Thread Cert.RAttnfIdeal.nD Cert.RAttnfIdeal.τ).loc Cert.RAttnfIdeal.main_arg3) = m' ((c.tc : Thread Cert.RAttnfIdeal.nD Cert.RAttnfIdeal.τ).loc Cert.RAttnfIdeal.main_arg3)
          ∧ r.2.mem ((c.tc : Thread Cert.RAttnfIdeal.nD Cert.RAttnfIdeal.τ).loc Cert.RAttnfIdeal.main_arg4) = m' ((c.tc : Thread Cert.RAttnfIdeal.nD Cert.RAttnfIdeal.τ).loc Cert.RAttnfIdeal.main_arg4))

def Claim : Prop :=
  ∃ (hKDgu : Cert.KDgu.Facts) (hKDguIdeal : Cert.KDguIdeal.Facts) (hRDguIdeal : Cert.RDguIdeal.Facts) (hKDwgu : Cert.KDwgu.Facts) (hKDwguIdeal : Cert.KDwguIdeal.Facts) (hRDwguIdeal : Cert.RDwguIdeal.Facts) (hKDh : Cert.KDh.Facts) (hKDhIdeal : Cert.KDhIdeal.Facts) (hRDhIdeal : Cert.RDhIdeal.Facts) (hKDwd : Cert.KDwd.Facts) (hKDwdIdeal : Cert.KDwdIdeal.Facts) (hRDwdIdeal : Cert.RDwdIdeal.Facts) (hKMerge : Cert.KMerge.Facts) (hKMergeIdeal : Cert.KMergeIdeal.Facts) (hRMergeIdeal : Cert.RMergeIdeal.Facts) (hKDwin : Cert.KDwin.Facts) (hKDwinIdeal : Cert.KDwinIdeal.Facts) (hRDwinIdeal : Cert.RDwinIdeal.Facts) (hKDwo : Cert.KDwo.Facts) (hKDwoIdeal : Cert.KDwoIdeal.Facts) (hRDwoIdeal : Cert.RDwoIdeal.Facts) (hKDwup : Cert.KDwup.Facts) (hKDwupIdeal : Cert.KDwupIdeal.Facts) (hRDwupIdeal : Cert.RDwupIdeal.Facts) (hKDhm : Cert.KDhm.Facts) (hKDhmIdeal : Cert.KDhmIdeal.Facts) (hRDhmIdeal : Cert.RDhmIdeal.Facts) (hKDpre : Cert.KDpre.Facts) (hKDpreIdeal : Cert.KDpreIdeal.Facts) (hRDpreIdeal : Cert.RDpreIdeal.Facts) (hKUp : Cert.KUp.Facts) (hKUpIdeal : Cert.KUpIdeal.Facts) (hRUpIdeal : Cert.RUpIdeal.Facts) (hKDown : Cert.KDown.Facts) (hKDownIdeal : Cert.KDownIdeal.Facts) (hRDownIdeal : Cert.RDownIdeal.Facts) (hKLoss : Cert.KLoss.Facts) (hKLossIdeal : Cert.KLossIdeal.Facts) (hRLossIdeal : Cert.RLossIdeal.Facts) (hKOut : Cert.KOut.Facts) (hKOutIdeal : Cert.KOutIdeal.Facts) (hROutIdeal : Cert.ROutIdeal.Facts) (hKIn : Cert.KIn.Facts) (hKInIdeal : Cert.KInIdeal.Facts) (hRInIdeal : Cert.RInIdeal.Facts) (hKMup : Cert.KMup.Facts) (hKMupIdeal : Cert.KMupIdeal.Facts) (hRMupIdeal : Cert.RMupIdeal.Facts) (hKNrm : Cert.KNrm.Facts) (hKNrmIdeal : Cert.KNrmIdeal.Facts) (hRNrmIdeal : Cert.RNrmIdeal.Facts) (hKNbw : Cert.KNbw.Facts) (hKNbwIdeal : Cert.KNbwIdeal.Facts) (hRNbwIdeal : Cert.RNbwIdeal.Facts) (hKAda : Cert.KAda.Facts) (hKAdaIdeal : Cert.KAdaIdeal.Facts) (hRAdaIdeal : Cert.RAdaIdeal.Facts) (hKAdab : Cert.KAdab.Facts) (hKAdabIdeal : Cert.KAdabIdeal.Facts) (hRAdabIdeal : Cert.RAdabIdeal.Facts) (hKAdam : Cert.KAdam.Facts) (hKAdamIdeal : Cert.KAdamIdeal.Facts) (hRAdamIdeal : Cert.RAdamIdeal.Facts) (hKAdamt : Cert.KAdamt.Facts) (hKAdamtIdeal : Cert.KAdamtIdeal.Facts) (hRAdamtIdeal : Cert.RAdamtIdeal.Facts) (hKBias : Cert.KBias.Facts) (hKBiasIdeal : Cert.KBiasIdeal.Facts) (hRBiasIdeal : Cert.RBiasIdeal.Facts) (hKBiasb : Cert.KBiasb.Facts) (hKBiasbIdeal : Cert.KBiasbIdeal.Facts) (hRBiasbIdeal : Cert.RBiasbIdeal.Facts) (hKPoolb : Cert.KPoolb.Facts) (hKPoolbIdeal : Cert.KPoolbIdeal.Facts) (hRPoolbIdeal : Cert.RPoolbIdeal.Facts) (hKPoolf : Cert.KPoolf.Facts) (hKPoolfIdeal : Cert.KPoolfIdeal.Facts) (hRPoolfIdeal : Cert.RPoolfIdeal.Facts) (hKAttnf : Cert.KAttnf.Facts) (hKAttnfIdeal : Cert.KAttnfIdeal.Facts) (hRAttnfIdeal : Cert.RAttnfIdeal.Facts) (hPre_finite_dgu : Cert.Pre_finite_dgu.Facts) (hPre_finite_nbw : Cert.Pre_finite_nbw.Facts) (hPre_is_bucket : Cert.Pre_is_bucket.Facts) (hPre_is_bucket_b : Cert.Pre_is_bucket_b.Facts) (hPre_finite_poolb : Cert.Pre_finite_poolb.Facts) (hPre_finite_poolf : Cert.Pre_finite_poolf.Facts),
    quiescent_KDgu (hKDgu := hKDgu)
    ∧ quiescent_KDguIdeal (hKDguIdeal := hKDguIdeal)
    ∧ quiescent_KDguIdeal_pre_finite_dgu (hKDguIdeal := hKDguIdeal) (hPre_finite_dgu := hPre_finite_dgu)
    ∧ quiescent_RDguIdeal (hRDguIdeal := hRDguIdeal)
    ∧ quiescent_RDguIdeal_pre_finite_dgu (hRDguIdeal := hRDguIdeal) (hPre_finite_dgu := hPre_finite_dgu)
    ∧ quiescent_KDwgu (hKDwgu := hKDwgu)
    ∧ quiescent_KDwguIdeal (hKDwguIdeal := hKDwguIdeal)
    ∧ quiescent_RDwguIdeal (hRDwguIdeal := hRDwguIdeal)
    ∧ quiescent_KDh (hKDh := hKDh)
    ∧ quiescent_KDhIdeal (hKDhIdeal := hKDhIdeal)
    ∧ quiescent_RDhIdeal (hRDhIdeal := hRDhIdeal)
    ∧ quiescent_KDwd (hKDwd := hKDwd)
    ∧ quiescent_KDwdIdeal (hKDwdIdeal := hKDwdIdeal)
    ∧ quiescent_RDwdIdeal (hRDwdIdeal := hRDwdIdeal)
    ∧ quiescent_KMerge (hKMerge := hKMerge)
    ∧ quiescent_KMergeIdeal (hKMergeIdeal := hKMergeIdeal)
    ∧ quiescent_RMergeIdeal (hRMergeIdeal := hRMergeIdeal)
    ∧ quiescent_KDwin (hKDwin := hKDwin)
    ∧ quiescent_KDwinIdeal (hKDwinIdeal := hKDwinIdeal)
    ∧ quiescent_RDwinIdeal (hRDwinIdeal := hRDwinIdeal)
    ∧ quiescent_KDwo (hKDwo := hKDwo)
    ∧ quiescent_KDwoIdeal (hKDwoIdeal := hKDwoIdeal)
    ∧ quiescent_RDwoIdeal (hRDwoIdeal := hRDwoIdeal)
    ∧ quiescent_KDwup (hKDwup := hKDwup)
    ∧ quiescent_KDwupIdeal (hKDwupIdeal := hKDwupIdeal)
    ∧ quiescent_RDwupIdeal (hRDwupIdeal := hRDwupIdeal)
    ∧ quiescent_KDhm (hKDhm := hKDhm)
    ∧ quiescent_KDhmIdeal (hKDhmIdeal := hKDhmIdeal)
    ∧ quiescent_RDhmIdeal (hRDhmIdeal := hRDhmIdeal)
    ∧ quiescent_KDpre (hKDpre := hKDpre)
    ∧ quiescent_KDpreIdeal (hKDpreIdeal := hKDpreIdeal)
    ∧ quiescent_RDpreIdeal (hRDpreIdeal := hRDpreIdeal)
    ∧ quiescent_KUp (hKUp := hKUp)
    ∧ quiescent_KUpIdeal (hKUpIdeal := hKUpIdeal)
    ∧ quiescent_RUpIdeal (hRUpIdeal := hRUpIdeal)
    ∧ quiescent_KDown (hKDown := hKDown)
    ∧ quiescent_KDownIdeal (hKDownIdeal := hKDownIdeal)
    ∧ quiescent_RDownIdeal (hRDownIdeal := hRDownIdeal)
    ∧ quiescent_KLoss (hKLoss := hKLoss)
    ∧ quiescent_KLossIdeal (hKLossIdeal := hKLossIdeal)
    ∧ quiescent_RLossIdeal (hRLossIdeal := hRLossIdeal)
    ∧ quiescent_KOut (hKOut := hKOut)
    ∧ quiescent_KOutIdeal (hKOutIdeal := hKOutIdeal)
    ∧ quiescent_ROutIdeal (hROutIdeal := hROutIdeal)
    ∧ quiescent_KIn (hKIn := hKIn)
    ∧ quiescent_KInIdeal (hKInIdeal := hKInIdeal)
    ∧ quiescent_RInIdeal (hRInIdeal := hRInIdeal)
    ∧ quiescent_KMup (hKMup := hKMup)
    ∧ quiescent_KMupIdeal (hKMupIdeal := hKMupIdeal)
    ∧ quiescent_RMupIdeal (hRMupIdeal := hRMupIdeal)
    ∧ quiescent_KNrm (hKNrm := hKNrm)
    ∧ quiescent_KNrmIdeal (hKNrmIdeal := hKNrmIdeal)
    ∧ quiescent_RNrmIdeal (hRNrmIdeal := hRNrmIdeal)
    ∧ quiescent_KNbw (hKNbw := hKNbw)
    ∧ quiescent_KNbwIdeal (hKNbwIdeal := hKNbwIdeal)
    ∧ quiescent_KNbwIdeal_pre_finite_nbw (hKNbwIdeal := hKNbwIdeal) (hPre_finite_nbw := hPre_finite_nbw)
    ∧ quiescent_RNbwIdeal (hRNbwIdeal := hRNbwIdeal)
    ∧ quiescent_RNbwIdeal_pre_finite_nbw (hRNbwIdeal := hRNbwIdeal) (hPre_finite_nbw := hPre_finite_nbw)
    ∧ quiescent_KAda (hKAda := hKAda)
    ∧ quiescent_KAdaIdeal (hKAdaIdeal := hKAdaIdeal)
    ∧ quiescent_RAdaIdeal (hRAdaIdeal := hRAdaIdeal)
    ∧ quiescent_KAdab (hKAdab := hKAdab)
    ∧ quiescent_KAdabIdeal (hKAdabIdeal := hKAdabIdeal)
    ∧ quiescent_RAdabIdeal (hRAdabIdeal := hRAdabIdeal)
    ∧ quiescent_KAdam (hKAdam := hKAdam)
    ∧ quiescent_KAdamIdeal (hKAdamIdeal := hKAdamIdeal)
    ∧ quiescent_RAdamIdeal (hRAdamIdeal := hRAdamIdeal)
    ∧ quiescent_KAdamt (hKAdamt := hKAdamt)
    ∧ quiescent_KAdamtIdeal (hKAdamtIdeal := hKAdamtIdeal)
    ∧ quiescent_RAdamtIdeal (hRAdamtIdeal := hRAdamtIdeal)
    ∧ quiescent_KBias (hKBias := hKBias)
    ∧ quiescent_KBiasIdeal (hKBiasIdeal := hKBiasIdeal)
    ∧ quiescent_KBiasIdeal_pre_is_bucket (hKBiasIdeal := hKBiasIdeal) (hPre_is_bucket := hPre_is_bucket)
    ∧ quiescent_RBiasIdeal (hRBiasIdeal := hRBiasIdeal)
    ∧ quiescent_RBiasIdeal_pre_is_bucket (hRBiasIdeal := hRBiasIdeal) (hPre_is_bucket := hPre_is_bucket)
    ∧ quiescent_KBiasb (hKBiasb := hKBiasb)
    ∧ quiescent_KBiasbIdeal (hKBiasbIdeal := hKBiasbIdeal)
    ∧ quiescent_KBiasbIdeal_pre_is_bucket_b (hKBiasbIdeal := hKBiasbIdeal) (hPre_is_bucket_b := hPre_is_bucket_b)
    ∧ quiescent_RBiasbIdeal (hRBiasbIdeal := hRBiasbIdeal)
    ∧ quiescent_RBiasbIdeal_pre_is_bucket_b (hRBiasbIdeal := hRBiasbIdeal) (hPre_is_bucket_b := hPre_is_bucket_b)
    ∧ quiescent_KPoolb (hKPoolb := hKPoolb)
    ∧ quiescent_KPoolbIdeal (hKPoolbIdeal := hKPoolbIdeal)
    ∧ quiescent_KPoolbIdeal_pre_finite_poolb (hKPoolbIdeal := hKPoolbIdeal) (hPre_finite_poolb := hPre_finite_poolb)
    ∧ quiescent_RPoolbIdeal (hRPoolbIdeal := hRPoolbIdeal)
    ∧ quiescent_RPoolbIdeal_pre_finite_poolb (hRPoolbIdeal := hRPoolbIdeal) (hPre_finite_poolb := hPre_finite_poolb)
    ∧ quiescent_KPoolf (hKPoolf := hKPoolf)
    ∧ quiescent_KPoolfIdeal (hKPoolfIdeal := hKPoolfIdeal)
    ∧ quiescent_KPoolfIdeal_pre_finite_poolf (hKPoolfIdeal := hKPoolfIdeal) (hPre_finite_poolf := hPre_finite_poolf)
    ∧ quiescent_RPoolfIdeal (hRPoolfIdeal := hRPoolfIdeal)
    ∧ quiescent_RPoolfIdeal_pre_finite_poolf (hRPoolfIdeal := hRPoolfIdeal) (hPre_finite_poolf := hPre_finite_poolf)
    ∧ quiescent_KAttnf (hKAttnf := hKAttnf)
    ∧ quiescent_KAttnfIdeal (hKAttnfIdeal := hKAttnfIdeal)
    ∧ quiescent_RAttnfIdeal (hRAttnfIdeal := hRAttnfIdeal)
    ∧ preserves_KDgu_KDguIdeal
    ∧ algebraic_KDguIdeal_RDguIdeal_pre_finite_dgu (hKDguIdeal := hKDguIdeal) (hRDguIdeal := hRDguIdeal) (hPre_finite_dgu := hPre_finite_dgu)
    ∧ preserves_KDwgu_KDwguIdeal
    ∧ algebraic_KDwguIdeal_RDwguIdeal (hKDwguIdeal := hKDwguIdeal) (hRDwguIdeal := hRDwguIdeal)
    ∧ preserves_KDh_KDhIdeal
    ∧ algebraic_KDhIdeal_RDhIdeal (hKDhIdeal := hKDhIdeal) (hRDhIdeal := hRDhIdeal)
    ∧ preserves_KDwd_KDwdIdeal
    ∧ algebraic_KDwdIdeal_RDwdIdeal (hKDwdIdeal := hKDwdIdeal) (hRDwdIdeal := hRDwdIdeal)
    ∧ preserves_KMerge_KMergeIdeal
    ∧ algebraic_KMergeIdeal_RMergeIdeal (hKMergeIdeal := hKMergeIdeal) (hRMergeIdeal := hRMergeIdeal)
    ∧ preserves_KDwin_KDwinIdeal
    ∧ algebraic_KDwinIdeal_RDwinIdeal (hKDwinIdeal := hKDwinIdeal) (hRDwinIdeal := hRDwinIdeal)
    ∧ preserves_KDwo_KDwoIdeal
    ∧ algebraic_KDwoIdeal_RDwoIdeal (hKDwoIdeal := hKDwoIdeal) (hRDwoIdeal := hRDwoIdeal)
    ∧ preserves_KDwup_KDwupIdeal
    ∧ algebraic_KDwupIdeal_RDwupIdeal (hKDwupIdeal := hKDwupIdeal) (hRDwupIdeal := hRDwupIdeal)
    ∧ preserves_KDhm_KDhmIdeal
    ∧ algebraic_KDhmIdeal_RDhmIdeal (hKDhmIdeal := hKDhmIdeal) (hRDhmIdeal := hRDhmIdeal)
    ∧ preserves_KDpre_KDpreIdeal
    ∧ algebraic_KDpreIdeal_RDpreIdeal (hKDpreIdeal := hKDpreIdeal) (hRDpreIdeal := hRDpreIdeal)
    ∧ preserves_KUp_KUpIdeal
    ∧ algebraic_KUpIdeal_RUpIdeal (hKUpIdeal := hKUpIdeal) (hRUpIdeal := hRUpIdeal)
    ∧ preserves_KDown_KDownIdeal
    ∧ algebraic_KDownIdeal_RDownIdeal (hKDownIdeal := hKDownIdeal) (hRDownIdeal := hRDownIdeal)
    ∧ preserves_KLoss_KLossIdeal
    ∧ algebraic_KLossIdeal_RLossIdeal (hKLossIdeal := hKLossIdeal) (hRLossIdeal := hRLossIdeal)
    ∧ preserves_KOut_KOutIdeal
    ∧ algebraic_KOutIdeal_ROutIdeal (hKOutIdeal := hKOutIdeal) (hROutIdeal := hROutIdeal)
    ∧ preserves_KIn_KInIdeal
    ∧ algebraic_KInIdeal_RInIdeal (hKInIdeal := hKInIdeal) (hRInIdeal := hRInIdeal)
    ∧ preserves_KMup_KMupIdeal
    ∧ algebraic_KMupIdeal_RMupIdeal (hKMupIdeal := hKMupIdeal) (hRMupIdeal := hRMupIdeal)
    ∧ preserves_KNrm_KNrmIdeal
    ∧ algebraic_KNrmIdeal_RNrmIdeal (hKNrmIdeal := hKNrmIdeal) (hRNrmIdeal := hRNrmIdeal)
    ∧ preserves_KNbw_KNbwIdeal
    ∧ algebraic_KNbwIdeal_RNbwIdeal_pre_finite_nbw (hKNbwIdeal := hKNbwIdeal) (hRNbwIdeal := hRNbwIdeal) (hPre_finite_nbw := hPre_finite_nbw)
    ∧ preserves_KAda_KAdaIdeal
    ∧ algebraic_KAdaIdeal_RAdaIdeal (hKAdaIdeal := hKAdaIdeal) (hRAdaIdeal := hRAdaIdeal)
    ∧ preserves_KAdab_KAdabIdeal
    ∧ algebraic_KAdabIdeal_RAdabIdeal (hKAdabIdeal := hKAdabIdeal) (hRAdabIdeal := hRAdabIdeal)
    ∧ preserves_KAdam_KAdamIdeal
    ∧ algebraic_KAdamIdeal_RAdamIdeal (hKAdamIdeal := hKAdamIdeal) (hRAdamIdeal := hRAdamIdeal)
    ∧ preserves_KAdamt_KAdamtIdeal
    ∧ algebraic_KAdamtIdeal_RAdamtIdeal (hKAdamtIdeal := hKAdamtIdeal) (hRAdamtIdeal := hRAdamtIdeal)
    ∧ preserves_KBias_KBiasIdeal
    ∧ algebraic_KBiasIdeal_RBiasIdeal_pre_is_bucket (hKBiasIdeal := hKBiasIdeal) (hRBiasIdeal := hRBiasIdeal) (hPre_is_bucket := hPre_is_bucket)
    ∧ preserves_KBiasb_KBiasbIdeal
    ∧ algebraic_KBiasbIdeal_RBiasbIdeal_pre_is_bucket_b (hKBiasbIdeal := hKBiasbIdeal) (hRBiasbIdeal := hRBiasbIdeal) (hPre_is_bucket_b := hPre_is_bucket_b)
    ∧ preserves_KPoolb_KPoolbIdeal
    ∧ algebraic_KPoolbIdeal_RPoolbIdeal_pre_finite_poolb (hKPoolbIdeal := hKPoolbIdeal) (hRPoolbIdeal := hRPoolbIdeal) (hPre_finite_poolb := hPre_finite_poolb)
    ∧ preserves_KPoolf_KPoolfIdeal
    ∧ algebraic_KPoolfIdeal_RPoolfIdeal_pre_finite_poolf (hKPoolfIdeal := hKPoolfIdeal) (hRPoolfIdeal := hRPoolfIdeal) (hPre_finite_poolf := hPre_finite_poolf)
    ∧ preserves_KAttnf_KAttnfIdeal
    ∧ algebraic_KAttnfIdeal_RAttnfIdeal (hKAttnfIdeal := hKAttnfIdeal) (hRAttnfIdeal := hRAttnfIdeal)
-- ==== Pre_finite_dgu.lean ====
abbrev S8192x2048 : Shape := ⟨2, ![8192, 2048]⟩
abbrev S5632x2048 : Shape := ⟨2, ![5632, 2048]⟩
abbrev S8192x5632 : Shape := ⟨2, ![8192, 5632]⟩
abbrev S_ : Shape := ⟨0, ![]⟩

class Facts : Prop where
  bitsLt_bf16_f32 : FTy.bits .bf16 < FTy.bits .f32
  bcast_S_S8192x2048 : S_.BroadcastsInDim S8192x2048 (![] : Fin 0 → Fin S8192x2048.rank)
  reducesTo_S8192x2048_S_d0_1 : S8192x2048.ReducesTo [0, 1] S_
  h_S_ : 0 < S_.numel
  bcast_S_S5632x2048 : S_.BroadcastsInDim S5632x2048 (![] : Fin 0 → Fin S5632x2048.rank)
  reducesTo_S5632x2048_S_d0_1 : S5632x2048.ReducesTo [0, 1] S_
  bcast_S_S8192x5632 : S_.BroadcastsInDim S8192x5632 (![] : Fin 0 → Fin S8192x5632.rank)
  reducesTo_S8192x5632_S_d0_1 : S8192x5632.ReducesTo [0, 1] S_

variable [Facts]

def fn {F : FTy → Type} [FloatOps F] (main_arg0 : FVec F S8192x2048 .bf16) (main_arg1 : FVec F S5632x2048 .bf16) (main_arg2 : FVec F S8192x5632 .bf16) (main_arg3 : FVec F S8192x5632 .bf16) : IVec S_ 1 :=
  let main_v0 : FVec F S8192x2048 .f32 := (extf .f32 · bitsLt_bf16_f32) main_arg0
  let main_v1 : FVec F S8192x2048 .f32 := Host.absf main_v0
  let main_cst : FVec F S_ .f32 := constant S_ .f32 0x7F800000#32
  let main_v2 : FVec F S8192x2048 .f32 := broadcastInDim S8192x2048 ![] bcast_S_S8192x2048 main_cst
  let main_v3 : IVec S8192x2048 1 := cmpf .olt main_v1 main_v2
  let main_c : IVec S_ 1 := constantI S_ 1 1#1
  let main_v4 : IVec S_ 1 := (fun x v => Host.reduce IntOp.andi x v reducesTo_S8192x2048_S_d0_1 h_S_) main_v3 main_c
  let main_v5 : FVec F S5632x2048 .f32 := (extf .f32 · bitsLt_bf16_f32) main_arg1
  let main_v6 : FVec F S5632x2048 .f32 := Host.absf main_v5
  let main_cst_0 : FVec F S_ .f32 := constant S_ .f32 0x7F800000#32
  let main_v7 : FVec F S5632x2048 .f32 := broadcastInDim S5632x2048 ![] bcast_S_S5632x2048 main_cst_0
  let main_v8 : IVec S5632x2048 1 := cmpf .olt main_v6 main_v7
  let main_c_1 : IVec S_ 1 := constantI S_ 1 1#1
  let main_v9 : IVec S_ 1 := (fun x v => Host.reduce IntOp.andi x v reducesTo_S5632x2048_S_d0_1 h_S_) main_v8 main_c_1
  let main_v10 : IVec S_ 1 := andi main_v4 main_v9
  let main_v11 : FVec F S8192x5632 .f32 := (extf .f32 · bitsLt_bf16_f32) main_arg3
  let main_v12 : FVec F S8192x5632 .f32 := Host.absf main_v11
  let main_cst_2 : FVec F S_ .f32 := constant S_ .f32 0x7F800000#32
  let main_v13 : FVec F S8192x5632 .f32 := broadcastInDim S8192x5632 ![] bcast_S_S8192x5632 main_cst_2
  let main_v14 : IVec S8192x5632 1 := cmpf .olt main_v12 main_v13
  let main_c_3 : IVec S_ 1 := constantI S_ 1 1#1
  let main_v15 : IVec S_ 1 := (fun x v => Host.reduce IntOp.andi x v reducesTo_S8192x5632_S_d0_1 h_S_) main_v14 main_c_3
  let main_v16 : IVec S_ 1 := andi main_v10 main_v15
  main_v16
-- ==== Pre_finite_nbw.lean ====
abbrev S8192x2048 : Shape := ⟨2, ![8192, 2048]⟩
abbrev S1x2048 : Shape := ⟨2, ![1, 2048]⟩
abbrev S_ : Shape := ⟨0, ![]⟩

class Facts : Prop where
  bcast_S_S8192x2048 : S_.BroadcastsInDim S8192x2048 (![] : Fin 0 → Fin S8192x2048.rank)
  reducesTo_S8192x2048_S_d0_1 : S8192x2048.ReducesTo [0, 1] S_
  h_S_ : 0 < S_.numel
  bcast_S_S1x2048 : S_.BroadcastsInDim S1x2048 (![] : Fin 0 → Fin S1x2048.rank)
  reducesTo_S1x2048_S_d0_1 : S1x2048.ReducesTo [0, 1] S_
  bitsLt_bf16_f32 : FTy.bits .bf16 < FTy.bits .f32

variable [Facts]

def fn_part1 {F : FTy → Type} [FloatOps F] (main_v13 : IVec S_ 1) (main_v15 : FVec F S8192x2048 .f32) (main_v16 : FVec F S8192x2048 .f32) : IVec S_ 1 :=
  let main_v17 : IVec S8192x2048 1 := cmpf .olt main_v15 main_v16
  let main_c_5 : IVec S_ 1 := constantI S_ 1 1#1
  let main_v18 : IVec S_ 1 := (fun x v => Host.reduce IntOp.andi x v reducesTo_S8192x2048_S_d0_1 h_S_) main_v17 main_c_5
  let main_v19 : IVec S_ 1 := andi main_v13 main_v18
  main_v19

def fn {F : FTy → Type} [FloatOps F] (main_arg0 : FVec F S8192x2048 .f32) (main_arg1 : FVec F S1x2048 .f32) (main_arg2 : FVec F S1x2048 .f32) (main_arg3 : FVec F S8192x2048 .bf16) (main_arg4 : FVec F S8192x2048 .f32) (main_arg5 : FVec F S8192x2048 .bf16) (main_arg6 : FVec F S1x2048 .f32) : IVec S_ 1 :=
  let main_v0 : FVec F S8192x2048 .f32 := Host.absf main_arg0
  let main_cst : FVec F S_ .f32 := constant S_ .f32 0x7F800000#32
  let main_v1 : FVec F S8192x2048 .f32 := broadcastInDim S8192x2048 ![] bcast_S_S8192x2048 main_cst
  let main_v2 : IVec S8192x2048 1 := cmpf .olt main_v0 main_v1
  let main_c : IVec S_ 1 := constantI S_ 1 1#1
  let main_v3 : IVec S_ 1 := (fun x v => Host.reduce IntOp.andi x v reducesTo_S8192x2048_S_d0_1 h_S_) main_v2 main_c
  let main_v4 : FVec F S1x2048 .f32 := Host.absf main_arg1
  let main_cst_0 : FVec F S_ .f32 := constant S_ .f32 0x7F800000#32
  let main_v5 : FVec F S1x2048 .f32 := broadcastInDim S1x2048 ![] bcast_S_S1x2048 main_cst_0
  let main_v6 : IVec S1x2048 1 := cmpf .olt main_v4 main_v5
  let main_c_1 : IVec S_ 1 := constantI S_ 1 1#1
  let main_v7 : IVec S_ 1 := (fun x v => Host.reduce IntOp.andi x v reducesTo_S1x2048_S_d0_1 h_S_) main_v6 main_c_1
  let main_v8 : IVec S_ 1 := andi main_v3 main_v7
  let main_v9 : FVec F S1x2048 .f32 := Host.absf main_arg2
  let main_cst_2 : FVec F S_ .f32 := constant S_ .f32 0x7F800000#32
  let main_v10 : FVec F S1x2048 .f32 := broadcastInDim S1x2048 ![] bcast_S_S1x2048 main_cst_2
  let main_v11 : IVec S1x2048 1 := cmpf .olt main_v9 main_v10
  let main_c_3 : IVec S_ 1 := constantI S_ 1 1#1
  let main_v12 : IVec S_ 1 := (fun x v => Host.reduce IntOp.andi x v reducesTo_S1x2048_S_d0_1 h_S_) main_v11 main_c_3
  let main_v13 : IVec S_ 1 := andi main_v8 main_v12
  let main_v14 : FVec F S8192x2048 .f32 := (extf .f32 · bitsLt_bf16_f32) main_arg3
  let main_v15 : FVec F S8192x2048 .f32 := Host.absf main_v14
  let main_cst_4 : FVec F S_ .f32 := constant S_ .f32 0x7F800000#32
  let main_v16 : FVec F S8192x2048 .f32 := broadcastInDim S8192x2048 ![] bcast_S_S8192x2048 main_cst_4
  fn_part1 (F := F) main_v13 main_v15 main_v16
-- ==== Pre_finite_poolb.lean ====
abbrev S8192x1024 : Shape := ⟨2, ![8192, 1024]⟩
abbrev S4x256x256 : Shape := ⟨3, ![4, 256, 256]⟩
abbrev S1x1024 : Shape := ⟨2, ![1, 1024]⟩
abbrev S8192x6400 : Shape := ⟨2, ![8192, 6400]⟩
abbrev S_ : Shape := ⟨0, ![]⟩

class Facts : Prop where
  bitsLt_bf16_f32 : FTy.bits .bf16 < FTy.bits .f32
  bcast_S_S4x256x256 : S_.BroadcastsInDim S4x256x256 (![] : Fin 0 → Fin S4x256x256.rank)
  reducesTo_S4x256x256_S_d0_1_2 : S4x256x256.ReducesTo [0, 1, 2] S_
  h_S_ : 0 < S_.numel
  bcast_S_S1x1024 : S_.BroadcastsInDim S1x1024 (![] : Fin 0 → Fin S1x1024.rank)
  reducesTo_S1x1024_S_d0_1 : S1x1024.ReducesTo [0, 1] S_
  bcast_S_S8192x1024 : S_.BroadcastsInDim S8192x1024 (![] : Fin 0 → Fin S8192x1024.rank)
  reducesTo_S8192x1024_S_d0_1 : S8192x1024.ReducesTo [0, 1] S_

variable [Facts]

def fn {F : FTy → Type} [FloatOps F] (main_arg0 : FVec F S8192x1024 .bf16) (main_arg1 : FVec F S4x256x256 .bf16) (main_arg2 : FVec F S1x1024 .f32) (main_arg3 : FVec F S8192x1024 .bf16) (main_arg4 : FVec F S8192x6400 .bf16) : IVec S_ 1 :=
  let main_v0 : FVec F S4x256x256 .f32 := (extf .f32 · bitsLt_bf16_f32) main_arg1
  let main_v1 : FVec F S4x256x256 .f32 := Host.absf main_v0
  let main_cst : FVec F S_ .f32 := constant S_ .f32 0x7F800000#32
  let main_v2 : FVec F S4x256x256 .f32 := broadcastInDim S4x256x256 ![] bcast_S_S4x256x256 main_cst
  let main_v3 : IVec S4x256x256 1 := cmpf .olt main_v1 main_v2
  let main_c : IVec S_ 1 := constantI S_ 1 1#1
  let main_v4 : IVec S_ 1 := (fun x v => Host.reduce IntOp.andi x v reducesTo_S4x256x256_S_d0_1_2 h_S_) main_v3 main_c
  let main_v5 : FVec F S1x1024 .f32 := Host.absf main_arg2
  let main_cst_0 : FVec F S_ .f32 := constant S_ .f32 0x7F800000#32
  let main_v6 : FVec F S1x1024 .f32 := broadcastInDim S1x1024 ![] bcast_S_S1x1024 main_cst_0
  let main_v7 : IVec S1x1024 1 := cmpf .olt main_v5 main_v6
  let main_c_1 : IVec S_ 1 := constantI S_ 1 1#1
  let main_v8 : IVec S_ 1 := (fun x v => Host.reduce IntOp.andi x v reducesTo_S1x1024_S_d0_1 h_S_) main_v7 main_c_1
  let main_v9 : IVec S_ 1 := andi main_v4 main_v8
  let main_v10 : FVec F S8192x1024 .f32 := (extf .f32 · bitsLt_bf16_f32) main_arg3
  let main_v11 : FVec F S8192x1024 .f32 := Host.absf main_v10
  let main_cst_2 : FVec F S_ .f32 := constant S_ .f32 0x7F800000#32
  let main_v12 : FVec F S8192x1024 .f32 := broadcastInDim S8192x1024 ![] bcast_S_S8192x1024 main_cst_2
  let main_v13 : IVec S8192x1024 1 := cmpf .olt main_v11 main_v12
  let main_c_3 : IVec S_ 1 := constantI S_ 1 1#1
  let main_v14 : IVec S_ 1 := (fun x v => Host.reduce IntOp.andi x v reducesTo_S8192x1024_S_d0_1 h_S_) main_v13 main_c_3
  let main_v15 : IVec S_ 1 := andi main_v9 main_v14
  main_v15
-- ==== Pre_finite_poolf.lean ====
abbrev S8192x6400 : Shape := ⟨2, ![8192, 6400]⟩
abbrev S4x256x256 : Shape := ⟨3, ![4, 256, 256]⟩
abbrev S1x1024 : Shape := ⟨2, ![1, 1024]⟩
abbrev S8192x1024 : Shape := ⟨2, ![8192, 1024]⟩
abbrev S_ : Shape := ⟨0, ![]⟩

class Facts : Prop where
  bitsLt_bf16_f32 : FTy.bits .bf16 < FTy.bits .f32
  slices_S8192x6400_S8192x1024_0_4096 : S8192x6400.Slices ![0, 4096] S8192x1024
  bcast_S_S8192x1024 : S_.BroadcastsInDim S8192x1024 (![] : Fin 0 → Fin S8192x1024.rank)
  reducesTo_S8192x1024_S_d0_1 : S8192x1024.ReducesTo [0, 1] S_
  h_S_ : 0 < S_.numel

variable [Facts]

def fn {F : FTy → Type} [FloatOps F] (main_arg0 : FVec F S8192x6400 .bf16) (main_arg1 : FVec F S4x256x256 .bf16) (main_arg2 : FVec F S1x1024 .f32) : IVec S_ 1 :=
  let main_v0 : FVec F S8192x6400 .f32 := (extf .f32 · bitsLt_bf16_f32) main_arg0
  let main_v1 : FVec F S8192x1024 .f32 := (extractStridedSlice S8192x1024 ![0, 4096] · slices_S8192x6400_S8192x1024_0_4096) main_v0
  let main_v2 : FVec F S8192x1024 .f32 := Host.absf main_v1
  let main_cst : FVec F S_ .f32 := constant S_ .f32 0x7F800000#32
  let main_v3 : FVec F S8192x1024 .f32 := broadcastInDim S8192x1024 ![] bcast_S_S8192x1024 main_cst
  let main_v4 : IVec S8192x1024 1 := cmpf .olt main_v2 main_v3
  let main_c : IVec S_ 1 := constantI S_ 1 1#1
  let main_v5 : IVec S_ 1 := (fun x v => Host.reduce IntOp.andi x v reducesTo_S8192x1024_S_d0_1 h_S_) main_v4 main_c
  main_v5
-- ==== Pre_is_bucket.lean ====
abbrev S32x16 : Shape := ⟨2, ![32, 16]⟩
abbrev S32768 : Shape := ⟨1, ![32768]⟩
abbrev S_ : Shape := ⟨0, ![]⟩

class Facts : Prop where
  bcast_S_S32768 : S_.BroadcastsInDim S32768 (![] : Fin 0 → Fin S32768.rank)
  reducesTo_S32768_S_d0 : S32768.ReducesTo [0] S_
  h_S_ : 0 < S_.numel

variable [Facts]

def fn {F : FTy → Type} [FloatOps F] (main_arg0 : FVec F S32x16 .f32) (main_arg1 : IVec S32768 32) : IVec S_ 1 :=
  let main_c : IVec S_ 32 := constantI S_ 32 0#32
  let main_v0 : IVec S32768 32 := broadcastInDim S32768 ![] bcast_S_S32768 main_c
  let main_v1 : IVec S32768 1 := cmpi .sge main_arg1 main_v0
  let main_c_0 : IVec S_ 32 := constantI S_ 32 32#32
  let main_v2 : IVec S32768 32 := broadcastInDim S32768 ![] bcast_S_S32768 main_c_0
  let main_v3 : IVec S32768 1 := cmpi .slt main_arg1 main_v2
  let main_v4 : IVec S32768 1 := andi main_v1 main_v3
  let main_c_1 : IVec S_ 1 := constantI S_ 1 1#1
  let main_v5 : IVec S_ 1 := (fun x v => Host.reduce IntOp.andi x v reducesTo_S32768_S_d0 h_S_) main_v4 main_c_1
  main_v5
-- ==== Pre_is_bucket_b.lean ====
abbrev S16x32768 : Shape := ⟨2, ![16, 32768]⟩
abbrev S32768 : Shape := ⟨1, ![32768]⟩
abbrev S_ : Shape := ⟨0, ![]⟩

class Facts : Prop where
  bcast_S_S32768 : S_.BroadcastsInDim S32768 (![] : Fin 0 → Fin S32768.rank)
  reducesTo_S32768_S_d0 : S32768.ReducesTo [0] S_
  h_S_ : 0 < S_.numel

variable [Facts]

def fn {F : FTy → Type} [FloatOps F] (main_arg0 : FVec F S16x32768 .f32) (main_arg1 : IVec S32768 32) : IVec S_ 1 :=
  let main_c : IVec S_ 32 := constantI S_ 32 0#32
  let main_v0 : IVec S32768 32 := broadcastInDim S32768 ![] bcast_S_S32768 main_c
  let main_v1 : IVec S32768 1 := cmpi .sge main_arg1 main_v0
  let main_c_0 : IVec S_ 32 := constantI S_ 32 32#32
  let main_v2 : IVec S32768 32 := broadcastInDim S32768 ![] bcast_S_S32768 main_c_0
  let main_v3 : IVec S32768 1 := cmpi .slt main_arg1 main_v2
  let main_v4 : IVec S32768 1 := andi main_v1 main_v3
  let main_c_1 : IVec S_ 1 := constantI S_ 1 1#1
  let main_v5 : IVec S_ 1 := (fun x v => Host.reduce IntOp.andi x v reducesTo_S32768_S_d0 h_S_) main_v4 main_c_1
  main_v5
-- ==== KDgu.lean ====
abbrev S8192x2048 : Shape := ⟨2, ![8192, 2048]⟩
abbrev S5632x2048 : Shape := ⟨2, ![5632, 2048]⟩
abbrev S8192x5632 : Shape := ⟨2, ![8192, 5632]⟩
abbrev S_ : Shape := ⟨0, ![]⟩
abbrev S8x128 : Shape := ⟨2, ![8, 128]⟩
abbrev S1024x2048 : Shape := ⟨2, ![1024, 2048]⟩
abbrev S1408x2048 : Shape := ⟨2, ![1408, 2048]⟩
abbrev S1024x1408 : Shape := ⟨2, ![1024, 1408]⟩

abbrev nBuf : Space → Nat
  | .hbm => 8
  | .vmem => 13
  | .smem => 0
  | _ => 0

abbrev bufTy : (tb : Table) → Fin (tcTables nBuf tb) → BufTy
  | .hbm, ⟨0, _⟩ => ⟨S8192x2048, .bf16⟩
  | .hbm, ⟨1, _⟩ => ⟨S5632x2048, .bf16⟩
  | .hbm, ⟨2, _⟩ => ⟨S8192x5632, .bf16⟩
  | .hbm, ⟨3, _⟩ => ⟨S8192x5632, .bf16⟩
  | .hbm, ⟨4, _⟩ => ⟨S_, .f32⟩
  | .hbm, ⟨5, _⟩ => ⟨S8x128, .f32⟩
  | .hbm, ⟨6, _⟩ => ⟨S8192x5632, .bf16⟩
  | .hbm, ⟨7, _⟩ => ⟨S8192x5632, .bf16⟩
  | .local _ .vmem, ⟨0, _⟩ => ⟨S1024x2048, .bf16⟩
  | .local _ .vmem, ⟨1, _⟩ => ⟨S1024x2048, .bf16⟩
  | .local _ .vmem, ⟨2, _⟩ => ⟨S1408x2048, .bf16⟩
  | .local _ .vmem, ⟨3, _⟩ => ⟨S1408x2048, .bf16⟩
  | .local _ .vmem, ⟨4, _⟩ => ⟨S1024x1408, .bf16⟩
  | .local _ .vmem, ⟨5, _⟩ => ⟨S1024x1408, .bf16⟩
  | .local _ .vmem, ⟨6, _⟩ => ⟨S1024x1408, .bf16⟩
  | .local _ .vmem, ⟨7, _⟩ => ⟨S1024x1408, .bf16⟩
  | .local _ .vmem, ⟨8, _⟩ => ⟨S8x128, .f32⟩
  | .local _ .vmem, ⟨9, _⟩ => ⟨S1024x1408, .bf16⟩
  | .local _ .vmem, ⟨10, _⟩ => ⟨S1024x1408, .bf16⟩
  | .local _ .vmem, ⟨11, _⟩ => ⟨S1024x1408, .bf16⟩
  | .local _ .vmem, ⟨12, _⟩ => ⟨S1024x1408, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1408x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S8x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1024x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x1408 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== RDguIdeal.lean ====
abbrev S8192x2048 : Shape := ⟨2, ![8192, 2048]⟩
abbrev S5632x2048 : Shape := ⟨2, ![5632, 2048]⟩
abbrev S8192x5632 : Shape := ⟨2, ![8192, 5632]⟩
abbrev S_ : Shape := ⟨0, ![]⟩

abbrev nBuf : Space → Nat
  | .hbm => 32
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S5632x2048, .bf16⟩
  | .hbm, ⟨2, _⟩ => ⟨S8192x5632, .bf16⟩
  | .hbm, ⟨3, _⟩ => ⟨S8192x5632, .bf16⟩
  | .hbm, ⟨4, _⟩ => ⟨S8192x5632, .f32⟩
  | .hbm, ⟨5, _⟩ => ⟨S8192x5632, .f32⟩
  | .hbm, ⟨6, _⟩ => ⟨S8192x5632, .f32⟩
  | .hbm, ⟨7, _⟩ => ⟨S8192x5632, .f32⟩
  | .hbm, ⟨8, _⟩ => ⟨S_, .f32⟩
  | .hbm, ⟨9, _⟩ => ⟨S8192x5632, .f32⟩
  | .hbm, ⟨10, _⟩ => ⟨S8192x5632, .f32⟩
  | .hbm, ⟨11, _⟩ => ⟨S_, .f32⟩
  | .hbm, ⟨12, _⟩ => ⟨S8192x5632, .f32⟩
  | .hbm, ⟨13, _⟩ => ⟨S8192x5632, .f32⟩
  | .hbm, ⟨14, _⟩ => ⟨S_, .f32⟩
  | .hbm, ⟨15, _⟩ => ⟨S8192x5632, .f32⟩
  | .hbm, ⟨16, _⟩ => ⟨S8192x5632, .f32⟩
  | .hbm, ⟨17, _⟩ => ⟨S8192x5632, .f32⟩
  | .hbm, ⟨18, _⟩ => ⟨S8192x5632, .f32⟩
  | .hbm, ⟨19, _⟩ => ⟨S8192x5632, .f32⟩
  | .hbm, ⟨20, _⟩ => ⟨S5632x2048, .f32⟩
  | .hbm, ⟨21, _⟩ => ⟨S8192x2048, .f32⟩
  | .hbm, ⟨22, _⟩ => ⟨S8192x2048, .f32⟩
  | .hbm, ⟨23, _⟩ => ⟨S8192x5632, .f32⟩
  | .hbm, ⟨24, _⟩ => ⟨S8192x5632, .f32⟩
  | .hbm, ⟨25, _⟩ => ⟨S8192x5632, .f32⟩
  | .hbm, ⟨26, _⟩ => ⟨S8192x5632, .f32⟩
  | .hbm, ⟨27, _⟩ => ⟨S8192x5632, .f32⟩
  | .hbm, ⟨28, _⟩ => ⟨S8192x5632, .f32⟩
  | .hbm, ⟨29, _⟩ => ⟨S8192x5632, .f32⟩
  | .hbm, ⟨30, _⟩ => ⟨S8192x5632, .bf16⟩
  | .hbm, ⟨31, _⟩ => ⟨S8192x5632, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_v2_2 : Ref sig .tc := ⟨.hbm, 13, rfl⟩
abbrev main_call0_cst_1 : Ref sig .tc := ⟨.hbm, 14, rfl⟩
abbrev main_call0_v6 : Ref sig .tc := ⟨.hbm, 15, rfl⟩
abbrev main_call0_v7 : Ref sig .tc := ⟨.hbm, 16, rfl⟩
abbrev main_v2_1 : Ref sig .tc := ⟨.hbm, 17, rfl⟩
abbrev main_v2_0 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_call1_v0 : Ref sig .tc := ⟨.hbm, 26, rfl⟩
abbrev main_call1_v1 : Ref sig .tc := ⟨.hbm, 27, rfl⟩
abbrev main_call1_v2 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩

abbrev nD : Nat := 1
abbrev τ : Topo := Topo.v7x

variable {F : FTy → Type} [FloatOps F]
-- ==== KDwgu.lean ====
abbrev S8192x2048 : Shape := ⟨2, ![8192, 2048]⟩
abbrev S8192x5632 : Shape := ⟨2, ![8192, 5632]⟩
abbrev S8x1408x2048 : Shape := ⟨3, ![8, 1408, 2048]⟩
abbrev S1024x2048 : Shape := ⟨2, ![1024, 2048]⟩
abbrev S1024x1408 : Shape := ⟨2, ![1024, 1408]⟩
abbrev S1x1408x2048 : Shape := ⟨3, ![1, 1408, 2048]⟩
abbrev S1408x2048 : Shape := ⟨2, ![1408, 2048]⟩

abbrev nBuf : Space → Nat
  | .hbm => 4
  | .vmem => 9
  | .smem => 0
  | _ => 0

abbrev bufTy : (tb : Table) → Fin (tcTables nBuf tb) → BufTy
  | .hbm, ⟨0, _⟩ => ⟨S8192x2048, .bf16⟩
  | .hbm, ⟨1, _⟩ => ⟨S8192x5632, .bf16⟩
  | .hbm, ⟨2, _⟩ => ⟨S8192x5632, .bf16⟩
  | .hbm, ⟨3, _⟩ => ⟨S8x1408x2048, .bf16⟩
  | .local _ .vmem, ⟨0, _⟩ => ⟨S1024x2048, .bf16⟩
  | .local _ .vmem, ⟨1, _⟩ => ⟨S1024x2048, .bf16⟩
  | .local _ .vmem, ⟨2, _⟩ => ⟨S1024x1408, .bf16⟩
  | .local _ .vmem, ⟨3, _⟩ => ⟨S1024x1408, .bf16⟩
  | .local _ .vmem, ⟨4, _⟩ => ⟨S1024x1408, .bf16⟩
  | .local _ .vmem, ⟨5, _⟩ => ⟨S1024x1408, .bf16⟩
  | .local _ .vmem, ⟨6, _⟩ => ⟨S1x1408x2048, .bf16⟩
  | .local _ .vmem, ⟨7, _⟩ => ⟨S1x1408x2048, .bf16⟩
  | .local _ .vmem, ⟨8, _⟩ => ⟨S1408x2048, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 8], ![false, false]⟩

def k0_cond4 (i : grid0.Coords) : BitVec 1 :=
  let arg1 : BitVec 32 := BitVec.ofNat 32 (i 1).val
  let c7_i32 : BitVec 32 := 7#32
  let v9 : BitVec 1 := Scalar.cmpi .eq arg1 c7_i32
  let v10 : BitVec 32 := Scalar.extui v9
  let c0_i32_4 : BitVec 32 := 0#32
  let v11 : BitVec 1 := Scalar.cmpi .ne v10 c0_i32_4
  v11

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 1 := Scalar.cmpi .slt arg0 c4_i32
  let c7_i32 : BitVec 32 := 7#32
  let v1 : BitVec 32 := Scalar.select v0 arg1 c7_i32
  let c3_i32 : BitVec 32 := 3#32
  let v2 : BitVec 32 := Scalar.minsi arg0 c3_i32
  let c0_i32 : BitVec 32 := 0#32
  ![v1.toNat, v2.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 1 := Scalar.cmpi .slt arg0 c4_i32
  let c0_i32 : BitVec 32 := 0#32
  let v1 : BitVec 32 := Scalar.select v0 c0_i32 arg1
  let c4_i32_0 : BitVec 32 := 4#32
  let v2 : BitVec 32 := Scalar.subi arg0 c4_i32_0
  let c0_i32_1 : BitVec 32 := 0#32
  let v3 : BitVec 32 := Scalar.maxsi v2 c0_i32_1
  let c0_i32_2 : BitVec 32 := 0#32
  ![v1.toNat, v3.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1408x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]
-- ==== RDwguIdeal.lean ====
abbrev S8192x2048 : Shape := ⟨2, ![8192, 2048]⟩
abbrev S8192x5632 : Shape := ⟨2, ![8192, 5632]⟩
abbrev S_ : Shape := ⟨0, ![]⟩
abbrev S2048x11264 : Shape := ⟨2, ![2048, 11264]⟩
abbrev S8192x11264 : Shape := ⟨2, ![8192, 11264]⟩
abbrev S11264x2048 : Shape := ⟨2, ![11264, 2048]⟩
abbrev S8x1408x2048 : Shape := ⟨3, ![8, 1408, 2048]⟩

abbrev nBuf : Space → Nat
  | .hbm => 17
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x5632, .bf16⟩
  | .hbm, ⟨2, _⟩ => ⟨S8192x5632, .bf16⟩
  | .hbm, ⟨3, _⟩ => ⟨S_, .f32⟩
  | .hbm, ⟨4, _⟩ => ⟨S2048x11264, .f32⟩
  | .hbm, ⟨5, _⟩ => ⟨S8192x2048, .f32⟩
  | .hbm, ⟨6, _⟩ => ⟨S8192x11264, .f32⟩
  | .hbm, ⟨7, _⟩ => ⟨S8192x5632, .f32⟩
  | .hbm, ⟨8, _⟩ => ⟨S8192x5632, .f32⟩
  | .hbm, ⟨9, _⟩ => ⟨S8192x5632, .f32⟩
  | .hbm, ⟨10, _⟩ => ⟨S8192x5632, .f32⟩
  | .hbm, ⟨11, _⟩ => ⟨S8192x11264, .f32⟩
  | .hbm, ⟨12, _⟩ => ⟨S11264x2048, .f32⟩
  | .hbm, ⟨13, _⟩ => ⟨S2048x11264, .f32⟩
  | .hbm, ⟨14, _⟩ => ⟨S11264x2048, .f32⟩
  | .hbm, ⟨15, _⟩ => ⟨S8x1408x2048, .f32⟩
  | .hbm, ⟨16, _⟩ => ⟨S8x1408x2048, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩

abbrev nD : Nat := 1
abbrev τ : Topo := Topo.v7x

variable {F : FTy → Type} [FloatOps F]
-- ==== KDh.lean ====
abbrev S2048x11264 : Shape := ⟨2, ![2048, 11264]⟩
abbrev S8192x5632 : Shape := ⟨2, ![8192, 5632]⟩
abbrev S2048x8x1408 : Shape := ⟨3, ![2048, 8, 1408]⟩
abbrev S8x2048x1408 : Shape := ⟨3, ![8, 2048, 1408]⟩
abbrev S_ : Shape := ⟨0, ![]⟩
abbrev S8x128 : Shape := ⟨2, ![8, 128]⟩
abbrev S8192x2048 : Shape := ⟨2, ![8192, 2048]⟩
abbrev S1024x1408 : Shape := ⟨2, ![1024, 1408]⟩
abbrev S1024x128 : Shape := ⟨2, ![1024, 128]⟩
abbrev S1x2048x1408 : Shape := ⟨3, ![1, 2048, 1408]⟩
abbrev S1x2048x128 : Shape := ⟨3, ![1, 2048, 128]⟩
abbrev S1024x2048 : Shape := ⟨2, ![1024, 2048]⟩
abbrev S1024x1280 : Shape := ⟨2, ![1024, 1280]⟩
abbrev S1x2048x1280 : Shape := ⟨3, ![1, 2048, 1280]⟩
abbrev S2048x1280 : Shape := ⟨2, ![2048, 1280]⟩
abbrev S1024x256 : Shape := ⟨2, ![1024, 256]⟩
abbrev S2048x128 : Shape := ⟨2, ![2048, 128]⟩
abbrev S2048x256 : Shape := ⟨2, ![2048, 256]⟩

abbrev nBuf : Space → Nat
  | .hbm => 8
  | .vmem => 15
  | .smem => 0
  | _ => 0

abbrev bufTy : (tb : Table) → Fin (tcTables nBuf tb) → BufTy
  | .hbm, ⟨0, _⟩ => ⟨S2048x11264, .bf16⟩
  | .hbm, ⟨1, _⟩ => ⟨S8192x5632, .bf16⟩
  | .hbm, ⟨2, _⟩ => ⟨S8192x5632, .bf16⟩
  | .hbm, ⟨3, _⟩ => ⟨S2048x8x1408, .bf16⟩
  | .hbm, ⟨4, _⟩ => ⟨S8x2048x1408, .bf16⟩
  | .hbm, ⟨5, _⟩ => ⟨S_, .f32⟩
  | .hbm, ⟨6, _⟩ => ⟨S8x128, .f32⟩
  | .hbm, ⟨7, _⟩ => ⟨S8192x2048, .f32⟩
  | .local _ .vmem, ⟨0, _⟩ => ⟨S1024x1408, .bf16⟩
  | .local _ .vmem, ⟨1, _⟩ => ⟨S1024x1408, .bf16⟩
  | .local _ .vmem, ⟨2, _⟩ => ⟨S1024x1408, .bf16⟩
  | .local _ .vmem, ⟨3, _⟩ => ⟨S1024x1408, .bf16⟩
  | .local _ .vmem, ⟨4, _⟩ => ⟨S1024x128, .bf16⟩
  | .local _ .vmem, ⟨5, _⟩ => ⟨S1024x128, .bf16⟩
  | .local _ .vmem, ⟨6, _⟩ => ⟨S1024x128, .bf16⟩
  | .local _ .vmem, ⟨7, _⟩ => ⟨S1024x128, .bf16⟩
  | .local _ .vmem, ⟨8, _⟩ => ⟨S1x2048x1408, .bf16⟩
  | .local _ .vmem, ⟨9, _⟩ => ⟨S1x2048x1408, .bf16⟩
  | .local _ .vmem, ⟨10, _⟩ => ⟨S1x2048x128, .bf16⟩
  | .local _ .vmem, ⟨11, _⟩ => ⟨S1x2048x128, .bf16⟩
  | .local _ .vmem, ⟨12, _⟩ => ⟨S8x128, .f32⟩
  | .local _ .vmem, ⟨13, _⟩ => ⟨S1024x2048, .f32⟩
  | .local _ .vmem, ⟨14, _⟩ => ⟨S1024x2048, .f32⟩
  | _, _ => ⟨S2048x11264, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg7_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨2, ![8, 8], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg1 : BitVec 32 := BitVec.ofNat 32 (i 1).val
  let c4_i32 : BitVec 32 := 4#32
  let v3 : BitVec 1 := Scalar.cmpi .slt arg1 c4_i32
  let v4 : BitVec 32 := Scalar.extui v3
  let c0_i32_1 : BitVec 32 := 0#32
  let v5 : BitVec 1 := Scalar.cmpi .ne v4 c0_i32_1
  v5

def k0_cond3 (i : grid0.Coords) : BitVec 1 :=
  let arg1 : BitVec 32 := BitVec.ofNat 32 (i 1).val
  let c2_i32 : BitVec 32 := 2#32
  let c0_i32_12 : BitVec 32 := 0#32
  let v17 : BitVec 1 := Scalar.cmpi .eq c2_i32 c0_i32_12
  let c1_i32 : BitVec 32 := 1#32
  let v18 : BitVec 32 := Scalar.select v17 c1_i32 c2_i32
  let v19 : BitVec 32 := Scalar.remsi arg1 v18
  let c0_i32_14 : BitVec 32 := 0#32
  let v21 : BitVec 1 := Scalar.cmpi .slt v19 c0_i32_14
  let c0_i32_15 : BitVec 32 := 0#32
  let v22 : BitVec 1 := Scalar.cmpi .slt v18 c0_i32_15
  let v23 : BitVec 1 := Scalar.xori v21 v22
  let c0_i32_13 : BitVec 32 := 0#32
  let v20 : BitVec 1 := Scalar.cmpi .ne v19 c0_i32_13
  let v24 : BitVec 1 := Scalar.andi v23 v20
  let v25 : BitVec 32 := Scalar.addi v19 v18
  let v26 : BitVec 32 := Scalar.select v24 v25 v19
  let c1_i32_16 : BitVec 32 := 1#32
  let v27 : BitVec 1 := Scalar.cmpi .eq v26 c1_i32_16
  let v28 : BitVec 32 := Scalar.extui v27
  let c0_i32_17 : BitVec 32 := 0#32
  let v29 : BitVec 1 := Scalar.cmpi .ne v28 c0_i32_17
  v29

def k0_cond4 (i : grid0.Coords) : BitVec 1 :=
  let arg1 : BitVec 32 := BitVec.ofNat 32 (i 1).val
  let c4_i32_2 : BitVec 32 := 4#32
  let v6 : BitVec 1 := Scalar.cmpi .sge arg1 c4_i32_2
  let v7 : BitVec 32 := Scalar.extui v6
  let c0_i32_3 : BitVec 32 := 0#32
  let v8 : BitVec 1 := Scalar.cmpi .ne v7 c0_i32_3
  v8

def k0_cond5 (i : grid0.Coords) : BitVec 1 :=
  let arg1 : BitVec 32 := BitVec.ofNat 32 (i 1).val
  let c2_i32 : BitVec 32 := 2#32
  let c0_i32_12 : BitVec 32 := 0#32
  let v17 : BitVec 1 := Scalar.cmpi .eq c2_i32 c0_i32_12
  let c1_i32 : BitVec 32 := 1#32
  let v18 : BitVec 32 := Scalar.select v17 c1_i32 c2_i32
  let v19 : BitVec 32 := Scalar.remsi arg1 v18
  let c0_i32_14 : BitVec 32 := 0#32
  let v21 : BitVec 1 := Scalar.cmpi .slt v19 c0_i32_14
  let c0_i32_15 : BitVec 32 := 0#32
  let v22 : BitVec 1 := Scalar.cmpi .slt v18 c0_i32_15
  let v23 : BitVec 1 := Scalar.xori v21 v22
  let c0_i32_13 : BitVec 32 := 0#32
  let v20 : BitVec 1 := Scalar.cmpi .ne v19 c0_i32_13
  let v24 : BitVec 1 := Scalar.andi v23 v20
  let v25 : BitVec 32 := Scalar.addi v19 v18
  let v26 : BitVec 32 := Scalar.select v24 v25 v19
  let c1_i32_16 : BitVec 32 := 1#32
  let v27 : BitVec 1 := Scalar.cmpi .eq v26 c1_i32_16
  let v28 : BitVec 32 := Scalar.extui v27
  let c0_i32_17 : BitVec 32 := 0#32
  let v29 : BitVec 1 := Scalar.cmpi .ne v28 c0_i32_17
  v29

def cc0_transform_0 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.minsi arg1 c3_i32
  let c0_i32 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.subi arg1 c4_i32
  let c0_i32 : BitVec 32 := 0#32
  let v1 : BitVec 32 := Scalar.maxsi v0 c0_i32
  let c0_i32_0 : BitVec 32 := 0#32
  ![arg0.toNat, v1.toNat]

def cc0_transform_2 (i : grid0.Coords) : Fin 2 → Nat :=
  let arg0 : BitVec 32 := BitVec.ofNat 32 (i 0).val
  let arg1 : BitVec 32 := BitVec.ofNat 32 (i 1).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg1 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let v10 : BitVec 32 := Scalar.subi arg1 v9
  let c2_i32_3 : BitVec 32 := 2#32
  let v11 : BitVec 32 := Scalar.minsi v10 c2_i32_3
  let c11_i32 : BitVec 32 := 11#32
  let v12 : BitVec 32 := Scalar.muli v11 c11_i32
  let c11_i32_4 : BitVec 32 := 11#32
  let v13 : BitVec 32 := Scalar.addi v12 c11_i32_4
  let c1_i32_5 : BitVec 32 := 1#32
  let v14 : BitVec 32 := Scalar.subi v13 c1_i32_5
  let c0_i32_6 : BitVec 32 := 0#32
  ![arg0.toNat, v14.toNat]

def cc0_transform_3 (i : grid0.Coords) : Fin 2 → Nat :=
  let arg0 : BitVec 32 := BitVec.ofNat 32 (i 0).val
  let arg1 : BitVec 32 := BitVec.ofNat 32 (i 1).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg1 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let v10 : BitVec 32 := Scalar.subi arg1 v9
  let c4_i32 : BitVec 32 := 4#32
  let v11 : BitVec 32 := Scalar.subi v10 c4_i32
  let c0_i32_3 : BitVec 32 := 0#32
  let v12 : BitVec 32 := Scalar.maxsi v11 c0_i32_3
  let c11_i32 : BitVec 32 := 11#32
  let v13 : BitVec 32 := Scalar.muli v12 c11_i32
  let c11_i32_4 : BitVec 32 := 11#32
  let v14 : BitVec 32 := Scalar.addi v13 c11_i32_4
  let c1_i32_5 : BitVec 32 := 1#32
  let v15 : BitVec 32 := Scalar.subi v14 c1_i32_5
  let c0_i32_6 : BitVec 32 := 0#32
  ![arg0.toNat, v15.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg1 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let v10 : BitVec 32 := Scalar.subi arg1 v9
  let c0_i32_3 : BitVec 32 := 0#32
  let c10_i32 : BitVec 32 := 10#32
  let c0_i32_4 : BitVec 32 := 0#32
  ![v10.toNat, c0_i32_3.toNat, c10_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x2048x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x2048x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 1 → Memref sig .tc .vmem S8x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1024x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== RDhIdeal.lean ====
abbrev S2048x11264 : Shape := ⟨2, ![2048, 11264]⟩
abbrev S8192x5632 : Shape := ⟨2, ![8192, 5632]⟩
abbrev S_ : Shape := ⟨0, ![]⟩
abbrev S8192x2048 : Shape := ⟨2, ![8192, 2048]⟩
abbrev S8192x11264 : Shape := ⟨2, ![8192, 11264]⟩

abbrev nBuf : Space → Nat
  | .hbm => 13
  | .vmem => 0
  | .smem => 0
  | _ => 0

abbrev bufTy : (tb : Table) → Fin (tcTables nBuf tb) → BufTy
  | .hbm, ⟨0, _⟩ => ⟨S2048x11264, .bf16⟩
  | .hbm, ⟨1, _⟩ => ⟨S8192x5632, .bf16⟩
  | .hbm, ⟨2, _⟩ => ⟨S8192x5632, .bf16⟩
  | .hbm, ⟨3, _⟩ => ⟨S_, .f32⟩
  | .hbm, ⟨4, _⟩ => ⟨S8192x2048, .f32⟩
  | .hbm, ⟨5, _⟩ => ⟨S2048x11264, .f32⟩
  | .hbm, ⟨6, _⟩ => ⟨S8192x11264, .f32⟩
  | .hbm, ⟨7, _⟩ => ⟨S8192x5632, .f32⟩
  | .hbm, ⟨8, _⟩ => ⟨S8192x5632, .f32⟩
  | .hbm, ⟨9, _⟩ => ⟨S8192x5632, .f32⟩
  | .hbm, ⟨10, _⟩ => ⟨S8192x5632, .f32⟩
  | .hbm, ⟨11, _⟩ => ⟨S8192x11264, .f32⟩
  | .hbm, ⟨12, _⟩ => ⟨S8192x2048, .f32⟩
  | _, _ => ⟨S2048x11264, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩

abbrev nD : Nat := 1
abbrev τ : Topo := Topo.v7x

variable {F : FTy → Type} [FloatOps F]
-- ==== KDwd.lean ====
abbrev S8192x5632 : Shape := ⟨2, ![8192, 5632]⟩
abbrev S8192x2048 : Shape := ⟨2, ![8192, 2048]⟩
abbrev S5632x2048 : Shape := ⟨2, ![5632, 2048]⟩
abbrev S1024x1408 : Shape := ⟨2, ![1024, 1408]⟩
abbrev S1024x2048 : Shape := ⟨2, ![1024, 2048]⟩
abbrev S1408x2048 : Shape := ⟨2, ![1408, 2048]⟩

abbrev nBuf : Space → Nat
  | .hbm => 3
  | .vmem => 7
  | .smem => 0
  | _ => 0

abbrev bufTy : (tb : Table) → Fin (tcTables nBuf tb) → BufTy
  | .hbm, ⟨0, _⟩ => ⟨S8192x5632, .bf16⟩
  | .hbm, ⟨1, _⟩ => ⟨S8192x2048, .bf16⟩
  | .hbm, ⟨2, _⟩ => ⟨S5632x2048, .bf16⟩
  | .local _ .vmem, ⟨0, _⟩ => ⟨S1024x1408, .bf16⟩
  | .local _ .vmem, ⟨1, _⟩ => ⟨S1024x1408, .bf16⟩
  | .local _ .vmem, ⟨2, _⟩ => ⟨S1024x2048, .bf16⟩
  | .local _ .vmem, ⟨3, _⟩ => ⟨S1024x2048, .bf16⟩
  | .local _ .vmem, ⟨4, _⟩ => ⟨S1408x2048, .bf16⟩
  | .local _ .vmem, ⟨5, _⟩ => ⟨S1408x2048, .bf16⟩
  | .local _ .vmem, ⟨6, _⟩ => ⟨S1408x2048, .f32⟩
  | _, _ => ⟨S8192x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 8], ![false, false, false]⟩

def k0_cond2 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RDwdIdeal.lean ====
abbrev S8192x5632 : Shape := ⟨2, ![8192, 5632]⟩
abbrev S8192x2048 : Shape := ⟨2, ![8192, 2048]⟩
abbrev S_ : Shape := ⟨0, ![]⟩
abbrev S5632x2048 : Shape := ⟨2, ![5632, 2048]⟩
abbrev S2048x5632 : Shape := ⟨2, ![2048, 5632]⟩

abbrev nBuf : Space → Nat
  | .hbm => 10
  | .vmem => 0
  | .smem => 0
  | _ => 0

abbrev bufTy : (tb : Table) → Fin (tcTables nBuf tb) → BufTy
  | .hbm, ⟨0, _⟩ => ⟨S8192x5632, .bf16⟩
  | .hbm, ⟨1, _⟩ => ⟨S8192x2048, .bf16⟩
  | .hbm, ⟨2, _⟩ => ⟨S_, .f32⟩
  | .hbm, ⟨3, _⟩ => ⟨S5632x2048, .f32⟩
  | .hbm, ⟨4, _⟩ => ⟨S8192x5632, .f32⟩
  | .hbm, ⟨5, _⟩ => ⟨S8192x2048, .f32⟩
  | .hbm, ⟨6, _⟩ => ⟨S8192x2048, .f32⟩
  | .hbm, ⟨7, _⟩ => ⟨S2048x5632, .f32⟩
  | .hbm, ⟨8, _⟩ => ⟨S5632x2048, .f32⟩
  | .hbm, ⟨9, _⟩ => ⟨S5632x2048, .bf16⟩
  | _, _ => ⟨S8192x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== KMerge.lean ====
abbrev S8192x2048 : Shape := ⟨2, ![8192, 2048]⟩
abbrev S2048x2048 : Shape := ⟨2, ![2048, 2048]⟩
abbrev S8192x4x512 : Shape := ⟨3, ![8192, 4, 512]⟩
abbrev S8192x4x1x512 : Shape := ⟨4, ![8192, 4, 1, 512]⟩
abbrev S8192x4x2x512 : Shape := ⟨4, ![8192, 4, 2, 512]⟩
abbrev S8192x4096 : Shape := ⟨2, ![8192, 4096]⟩
abbrev S_ : Shape := ⟨0, ![]⟩
abbrev S8x128 : Shape := ⟨2, ![8, 128]⟩
abbrev S1024x2048 : Shape := ⟨2, ![1024, 2048]⟩
abbrev S512x2048 : Shape := ⟨2, ![512, 2048]⟩
abbrev S1024x1024 : Shape := ⟨2, ![1024, 1024]⟩
abbrev S1024x512 : Shape := ⟨2, ![1024, 512]⟩

abbrev nBuf : Space → Nat
  | .hbm => 17
  | .vmem => 17
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .bf16⟩
  | .hbm, ⟨2, _⟩ => ⟨S8192x2048, .bf16⟩
  | .hbm, ⟨3, _⟩ => ⟨S8192x2048, .bf16⟩
  | .hbm, ⟨4, _⟩ => ⟨S8192x2048, .bf16⟩
  | .hbm, ⟨5, _⟩ => ⟨S8192x2048, .bf16⟩
  | .hbm, ⟨6, _⟩ => ⟨S8192x4x512, .bf16⟩
  | .hbm, ⟨7, _⟩ => ⟨S8192x4x512, .bf16⟩
  | .hbm, ⟨8, _⟩ => ⟨S8192x4x1x512, .bf16⟩
  | .hbm, ⟨9, _⟩ => ⟨S8192x4x1x512, .bf16⟩
  | .hbm, ⟨10, _⟩ => ⟨S8192x4x2x512, .bf16⟩
  | .hbm, ⟨11, _⟩ => ⟨S8192x4096, .bf16⟩
  | .hbm, ⟨12, _⟩ => ⟨S_, .f32⟩
  | .hbm, ⟨13, _⟩ => ⟨S8x128, .f32⟩
  | .hbm, ⟨14, _⟩ => ⟨S8192x2048, .bf16⟩
  | .hbm, ⟨15, _⟩ => ⟨S8192x2048, .bf16⟩
  | .hbm, ⟨16, _⟩ => ⟨S8192x4096, .bf16⟩
  | .local _ .vmem, ⟨0, _⟩ => ⟨S1024x2048, .bf16⟩
  | .local _ .vmem, ⟨1, _⟩ => ⟨S1024x2048, .bf16⟩
  | .local _ .vmem, ⟨2, _⟩ => ⟨S512x2048, .bf16⟩
  | .local _ .vmem, ⟨3, _⟩ => ⟨S512x2048, .bf16⟩
  | .local _ .vmem, ⟨4, _⟩ => ⟨S1024x1024, .bf16⟩
  | .local _ .vmem, ⟨5, _⟩ => ⟨S1024x1024, .bf16⟩
  | .local _ .vmem, ⟨6, _⟩ => ⟨S1024x512, .bf16⟩
  | .local _ .vmem, ⟨7, _⟩ => ⟨S1024x512, .bf16⟩
  | .local _ .vmem, ⟨8, _⟩ => ⟨S1024x512, .bf16⟩
  | .local _ .vmem, ⟨9, _⟩ => ⟨S1024x512, .bf16⟩
  | .local _ .vmem, ⟨10, _⟩ => ⟨S8x128, .f32⟩
  | .local _ .vmem, ⟨11, _⟩ => ⟨S1024x512, .bf16⟩
  | .local _ .vmem, ⟨12, _⟩ => ⟨S1024x512, .bf16⟩
  | .local _ .vmem, ⟨13, _⟩ => ⟨S1024x512, .bf16⟩
  | .local _ .vmem, ⟨14, _⟩ => ⟨S1024x512, .bf16⟩
  | .local _ .vmem, ⟨15, _⟩ => ⟨S1024x1024, .bf16⟩
  | .local _ .vmem, ⟨16, _⟩ => ⟨S1024x1024, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_v7_0 : Ref sig .tc := ⟨.hbm, 14, rfl⟩
abbrev main_v7_1 : Ref sig .tc := ⟨.hbm, 15, rfl⟩
abbrev main_v7_2 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S8x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1024x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1024x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== RMergeIdeal.lean ====
abbrev S8192x2048 : Shape := ⟨2, ![8192, 2048]⟩
abbrev S2048x2048 : Shape := ⟨2, ![2048, 2048]⟩
abbrev S_ : Shape := ⟨0, ![]⟩
abbrev S8192x4x512 : Shape := ⟨3, ![8192, 4, 512]⟩
abbrev S8192x4x1x512 : Shape := ⟨4, ![8192, 4, 1, 512]⟩
abbrev S8192x4x2x512 : Shape := ⟨4, ![8192, 4, 2, 512]⟩
abbrev S8192x4096 : Shape := ⟨2, ![8192, 4096]⟩

abbrev nBuf : Space → Nat
  | .hbm => 56
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .bf16⟩
  | .hbm, ⟨2, _⟩ => ⟨S8192x2048, .bf16⟩
  | .hbm, ⟨3, _⟩ => ⟨S8192x2048, .bf16⟩
  | .hbm, ⟨4, _⟩ => ⟨S8192x2048, .bf16⟩
  | .hbm, ⟨5, _⟩ => ⟨S8192x2048, .bf16⟩
  | .hbm, ⟨6, _⟩ => ⟨S8192x2048, .f32⟩
  | .hbm, ⟨7, _⟩ => ⟨S8192x2048, .f32⟩
  | .hbm, ⟨8, _⟩ => ⟨S8192x2048, .f32⟩
  | .hbm, ⟨9, _⟩ => ⟨S8192x2048, .f32⟩
  | .hbm, ⟨10, _⟩ => ⟨S8192x2048, .f32⟩
  | .hbm, ⟨11, _⟩ => ⟨S8192x2048, .f32⟩
  | .hbm, ⟨12, _⟩ => ⟨S_, .f32⟩
  | .hbm, ⟨13, _⟩ => ⟨S8192x2048, .f32⟩
  | .hbm, ⟨14, _⟩ => ⟨S8192x2048, .f32⟩
  | .hbm, ⟨15, _⟩ => ⟨S_, .f32⟩
  | .hbm, ⟨16, _⟩ => ⟨S8192x2048, .f32⟩
  | .hbm, ⟨17, _⟩ => ⟨S8192x2048, .f32⟩
  | .hbm, ⟨18, _⟩ => ⟨S_, .f32⟩
  | .hbm, ⟨19, _⟩ => ⟨S8192x2048, .f32⟩
  | .hbm, ⟨20, _⟩ => ⟨S8192x2048, .f32⟩
  | .hbm, ⟨21, _⟩ => ⟨S8192x2048, .f32⟩
  | .hbm, ⟨22, _⟩ => ⟨S8192x2048, .f32⟩
  | .hbm, ⟨23, _⟩ => ⟨S8192x2048, .f32⟩
  | .hbm, ⟨24, _⟩ => ⟨S8192x2048, .f32⟩
  | .hbm, ⟨25, _⟩ => ⟨S_, .f32⟩
  | .hbm, ⟨26, _⟩ => ⟨S8192x2048, .f32⟩
  | .hbm, ⟨27, _⟩ => ⟨S8192x2048, .f32⟩
  | .hbm, ⟨28, _⟩ => ⟨S_, .f32⟩
  | .hbm, ⟨29, _⟩ => ⟨S8192x2048, .f32⟩
  | .hbm, ⟨30, _⟩ => ⟨S8192x2048, .f32⟩
  | .hbm, ⟨31, _⟩ => ⟨S_, .f32⟩
  | .hbm, ⟨32, _⟩ => ⟨S8192x2048, .f32⟩
  | .hbm, ⟨33, _⟩ => ⟨S8192x2048, .f32⟩
  | .hbm, ⟨34, _⟩ => ⟨S8192x2048, .f32⟩
  | .hbm, ⟨35, _⟩ => ⟨S8192x2048, .f32⟩
  | .hbm, ⟨36, _⟩ => ⟨S8192x2048, .f32⟩
  | .hbm, ⟨37, _⟩ => ⟨S2048x2048, .f32⟩
  | .hbm, ⟨38, _⟩ => ⟨S8192x2048, .f32⟩
  | .hbm, ⟨39, _⟩ => ⟨S8192x2048, .f32⟩
  | .hbm, ⟨40, _⟩ => ⟨S8192x2048, .f32⟩
  | .hbm, ⟨41, _⟩ => ⟨S8192x2048, .f32⟩
  | .hbm, ⟨42, _⟩ => ⟨S8192x2048, .f32⟩
  | .hbm, ⟨43, _⟩ => ⟨S8192x2048, .f32⟩
  | .hbm, ⟨44, _⟩ => ⟨S8192x2048, .f32⟩
  | .hbm, ⟨45, _⟩ => ⟨S8192x2048, .f32⟩
  | .hbm, ⟨46, _⟩ => ⟨S8192x2048, .f32⟩
  | .hbm, ⟨47, _⟩ => ⟨S8192x4x512, .f32⟩
  | .hbm, ⟨48, _⟩ => ⟨S8192x4x512, .f32⟩
  | .hbm, ⟨49, _⟩ => ⟨S8192x4x1x512, .f32⟩
  | .hbm, ⟨50, _⟩ => ⟨S8192x4x1x512, .f32⟩
  | .hbm, ⟨51, _⟩ => ⟨S8192x4x2x512, .f32⟩
  | .hbm, ⟨52, _⟩ => ⟨S8192x4096, .f32⟩
  | .hbm, ⟨53, _⟩ => ⟨S8192x2048, .bf16⟩
  | .hbm, ⟨54, _⟩ => ⟨S8192x2048, .bf16⟩
  | .hbm, ⟨55, _⟩ => ⟨S8192x4096, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_2 : Ref sig .tc := ⟨.hbm, 25, rfl⟩
abbrev main_v16 : Ref sig .tc := ⟨.hbm, 26, rfl⟩
abbrev main_v17 : Ref sig .tc := ⟨.hbm, 27, rfl⟩
abbrev main_cst_3 : Ref sig .tc := ⟨.hbm, 28, rfl⟩
abbrev main_v18 : Ref sig .tc := ⟨.hbm, 29, rfl⟩
abbrev main_v19 : Ref sig .tc := ⟨.hbm, 30, rfl⟩
abbrev main_cst_4 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩

abbrev nD : Nat := 1
abbrev τ : Topo := Topo.v7x

variable {F : FTy → Type} [FloatOps F]
-- ==== KDwin.lean ====
abbrev S8192x2048 : Shape := ⟨2, ![8192, 2048]⟩
abbrev S8192x6400 : Shape := ⟨2, ![8192, 6400]⟩
abbrev S2048x6400 : Shape := ⟨2, ![2048, 6400]⟩
abbrev S1024x2048 : Shape := ⟨2, ![1024, 2048]⟩
abbrev S1024x1280 : Shape := ⟨2, ![1024, 1280]⟩
abbrev S2048x1280 : Shape := ⟨2, ![2048, 1280]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S8192x6400, .bf16⟩
  | .hbm, ⟨2, _⟩ => ⟨S2048x6400, .bf16⟩
  | .local _ .vmem, ⟨0, _⟩ => ⟨S1024x2048, .bf16⟩
  | .local _ .vmem, ⟨1, _⟩ => ⟨S1024x2048, .bf16⟩
  | .local _ .vmem, ⟨2, _⟩ => ⟨S1024x1280, .bf16⟩
  | .local _ .vmem, ⟨3, _⟩ => ⟨S1024x1280, .bf16⟩
  | .local _ .vmem, ⟨4, _⟩ => ⟨S2048x1280, .bf16⟩
  | .local _ .vmem, ⟨5, _⟩ => ⟨S2048x1280, .bf16⟩
  | .local _ .vmem, ⟨6, _⟩ => ⟨S2048x1280, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 5, 8], ![false, false, false]⟩

def k0_cond2 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1280 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1280 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RDwinIdeal.lean ====
abbrev S8192x2048 : Shape := ⟨2, ![8192, 2048]⟩
abbrev S8192x6400 : Shape := ⟨2, ![8192, 6400]⟩
abbrev S_ : Shape := ⟨0, ![]⟩
abbrev S2048x6400 : Shape := ⟨2, ![2048, 6400]⟩
abbrev S6400x2048 : Shape := ⟨2, ![6400, 2048]⟩

abbrev nBuf : Space → Nat
  | .hbm => 10
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x6400, .bf16⟩
  | .hbm, ⟨2, _⟩ => ⟨S_, .f32⟩
  | .hbm, ⟨3, _⟩ => ⟨S2048x6400, .f32⟩
  | .hbm, ⟨4, _⟩ => ⟨S8192x2048, .f32⟩
  | .hbm, ⟨5, _⟩ => ⟨S8192x6400, .f32⟩
  | .hbm, ⟨6, _⟩ => ⟨S8192x6400, .f32⟩
  | .hbm, ⟨7, _⟩ => ⟨S6400x2048, .f32⟩
  | .hbm, ⟨8, _⟩ => ⟨S2048x6400, .f32⟩
  | .hbm, ⟨9, _⟩ => ⟨S2048x6400, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== KDwo.lean ====
abbrev S8192x2048 : Shape := ⟨2, ![8192, 2048]⟩
abbrev S2048x2048 : Shape := ⟨2, ![2048, 2048]⟩
abbrev S1024x2048 : Shape := ⟨2, ![1024, 2048]⟩
abbrev S1024x1024 : Shape := ⟨2, ![1024, 1024]⟩
abbrev S2048x1024 : Shape := ⟨2, ![2048, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S2048x2048, .bf16⟩
  | .local _ .vmem, ⟨0, _⟩ => ⟨S1024x2048, .bf16⟩
  | .local _ .vmem, ⟨1, _⟩ => ⟨S1024x2048, .bf16⟩
  | .local _ .vmem, ⟨2, _⟩ => ⟨S1024x1024, .bf16⟩
  | .local _ .vmem, ⟨3, _⟩ => ⟨S1024x1024, .bf16⟩
  | .local _ .vmem, ⟨4, _⟩ => ⟨S2048x1024, .bf16⟩
  | .local _ .vmem, ⟨5, _⟩ => ⟨S2048x1024, .bf16⟩
  | .local _ .vmem, ⟨6, _⟩ => ⟨S2048x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 8], ![false, false, false]⟩

def k0_cond2 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RDwoIdeal.lean ====
abbrev S8192x2048 : Shape := ⟨2, ![8192, 2048]⟩
abbrev S_ : Shape := ⟨0, ![]⟩
abbrev S2048x2048 : Shape := ⟨2, ![2048, 2048]⟩

abbrev nBuf : Space → Nat
  | .hbm => 10
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S_, .f32⟩
  | .hbm, ⟨3, _⟩ => ⟨S2048x2048, .f32⟩
  | .hbm, ⟨4, _⟩ => ⟨S8192x2048, .f32⟩
  | .hbm, ⟨5, _⟩ => ⟨S8192x2048, .f32⟩
  | .hbm, ⟨6, _⟩ => ⟨S8192x2048, .f32⟩
  | .hbm, ⟨7, _⟩ => ⟨S2048x2048, .f32⟩
  | .hbm, ⟨8, _⟩ => ⟨S2048x2048, .f32⟩
  | .hbm, ⟨9, _⟩ => ⟨S2048x2048, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== KDwup.lean ====
abbrev S8192x1024 : Shape := ⟨2, ![8192, 1024]⟩
abbrev S8192x2048 : Shape := ⟨2, ![8192, 2048]⟩
abbrev S1024x2048 : Shape := ⟨2, ![1024, 2048]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x2048, .bf16⟩
  | .hbm, ⟨2, _⟩ => ⟨S1024x2048, .bf16⟩
  | .local _ .vmem, ⟨0, _⟩ => ⟨S1024x1024, .bf16⟩
  | .local _ .vmem, ⟨1, _⟩ => ⟨S1024x1024, .bf16⟩
  | .local _ .vmem, ⟨2, _⟩ => ⟨S1024x2048, .bf16⟩
  | .local _ .vmem, ⟨3, _⟩ => ⟨S1024x2048, .bf16⟩
  | .local _ .vmem, ⟨4, _⟩ => ⟨S1024x2048, .bf16⟩
  | .local _ .vmem, ⟨5, _⟩ => ⟨S1024x2048, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def k0_cond2 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== RDwupIdeal.lean ====
abbrev S8192x1024 : Shape := ⟨2, ![8192, 1024]⟩
abbrev S8192x2048 : Shape := ⟨2, ![8192, 2048]⟩
abbrev S_ : Shape := ⟨0, ![]⟩
abbrev S1024x2048 : Shape := ⟨2, ![1024, 2048]⟩
abbrev S2048x1024 : Shape := ⟨2, ![2048, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x2048, .bf16⟩
  | .hbm, ⟨2, _⟩ => ⟨S_, .f32⟩
  | .hbm, ⟨3, _⟩ => ⟨S1024x2048, .f32⟩
  | .hbm, ⟨4, _⟩ => ⟨S8192x1024, .f32⟩
  | .hbm, ⟨5, _⟩ => ⟨S8192x2048, .f32⟩
  | .hbm, ⟨6, _⟩ => ⟨S8192x2048, .f32⟩
  | .hbm, ⟨7, _⟩ => ⟨S2048x1024, .f32⟩
  | .hbm, ⟨8, _⟩ => ⟨S1024x2048, .f32⟩
  | .hbm, ⟨9, _⟩ => ⟨S1024x2048, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== KDhm.lean ====
abbrev S8192x6400 : Shape := ⟨2, ![8192, 6400]⟩
abbrev S2048x6400 : Shape := ⟨2, ![2048, 6400]⟩
abbrev S_ : Shape := ⟨0, ![]⟩
abbrev S8x128 : Shape := ⟨2, ![8, 128]⟩
abbrev S8192x2048 : Shape := ⟨2, ![8192, 2048]⟩
abbrev S1024x6400 : Shape := ⟨2, ![1024, 6400]⟩
abbrev S512x6400 : Shape := ⟨2, ![512, 6400]⟩
abbrev S1024x512 : Shape := ⟨2, ![1024, 512]⟩

abbrev nBuf : Space → Nat
  | .hbm => 5
  | .vmem => 7
  | .smem => 0
  | _ => 0

abbrev bufTy : (tb : Table) → Fin (tcTables nBuf tb) → BufTy
  | .hbm, ⟨0, _⟩ => ⟨S8192x6400, .bf16⟩
  | .hbm, ⟨1, _⟩ => ⟨S2048x6400, .bf16⟩
  | .hbm, ⟨2, _⟩ => ⟨S_, .f32⟩
  | .hbm, ⟨3, _⟩ => ⟨S8x128, .f32⟩
  | .hbm, ⟨4, _⟩ => ⟨S8192x2048, .bf16⟩
  | .local _ .vmem, ⟨0, _⟩ => ⟨S1024x6400, .bf16⟩
  | .local _ .vmem, ⟨1, _⟩ => ⟨S1024x6400, .bf16⟩
  | .local _ .vmem, ⟨2, _⟩ => ⟨S512x6400, .bf16⟩
  | .local _ .vmem, ⟨3, _⟩ => ⟨S512x6400, .bf16⟩
  | .local _ .vmem, ⟨4, _⟩ => ⟨S8x128, .f32⟩
  | .local _ .vmem, ⟨5, _⟩ => ⟨S1024x512, .bf16⟩
  | .local _ .vmem, ⟨6, _⟩ => ⟨S1024x512, .bf16⟩
  | _, _ => ⟨S8192x6400, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x6400 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x6400 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S8x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== RDhmIdeal.lean ====
abbrev S8192x6400 : Shape := ⟨2, ![8192, 6400]⟩
abbrev S2048x6400 : Shape := ⟨2, ![2048, 6400]⟩
abbrev S_ : Shape := ⟨0, ![]⟩
abbrev S8192x2048 : Shape := ⟨2, ![8192, 2048]⟩

abbrev nBuf : Space → Nat
  | .hbm => 9
  | .vmem => 0
  | .smem => 0
  | _ => 0

abbrev bufTy : (tb : Table) → Fin (tcTables nBuf tb) → BufTy
  | .hbm, ⟨0, _⟩ => ⟨S8192x6400, .bf16⟩
  | .hbm, ⟨1, _⟩ => ⟨S2048x6400, .bf16⟩
  | .hbm, ⟨2, _⟩ => ⟨S_, .f32⟩
  | .hbm, ⟨3, _⟩ => ⟨S8192x2048, .f32⟩
  | .hbm, ⟨4, _⟩ => ⟨S2048x6400, .f32⟩
  | .hbm, ⟨5, _⟩ => ⟨S8192x6400, .f32⟩
  | .hbm, ⟨6, _⟩ => ⟨S8192x6400, .f32⟩
  | .hbm, ⟨7, _⟩ => ⟨S8192x2048, .f32⟩
  | .hbm, ⟨8, _⟩ => ⟨S8192x2048, .bf16⟩
  | _, _ => ⟨S8192x6400, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== KDpre.lean ====
abbrev S8192x2048 : Shape := ⟨2, ![8192, 2048]⟩
abbrev S1024x2048 : Shape := ⟨2, ![1024, 2048]⟩
abbrev S_ : Shape := ⟨0, ![]⟩
abbrev S8x128 : Shape := ⟨2, ![8, 128]⟩
abbrev S8192x1024 : Shape := ⟨2, ![8192, 1024]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S8192x2048, .bf16⟩
  | .hbm, ⟨1, _⟩ => ⟨S1024x2048, .bf16⟩
  | .hbm, ⟨2, _⟩ => ⟨S_, .f32⟩
  | .hbm, ⟨3, _⟩ => ⟨S8x128, .f32⟩
  | .hbm, ⟨4, _⟩ => ⟨S8192x1024, .bf16⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S8x128, .f32⟩
  | .local _ .vmem, ⟨4, _⟩ => ⟨S1024x1024, .bf16⟩
  | .local _ .vmem, ⟨5, _⟩ => ⟨S1024x1024, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![1, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1024x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S8x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== RDpreIdeal.lean ====
abbrev S8192x2048 : Shape := ⟨2, ![8192, 2048]⟩
abbrev S1024x2048 : Shape := ⟨2, ![1024, 2048]⟩
abbrev S_ : Shape := ⟨0, ![]⟩
abbrev S8192x1024 : Shape := ⟨2, ![8192, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S1024x2048, .bf16⟩
  | .hbm, ⟨2, _⟩ => ⟨S_, .f32⟩
  | .hbm, ⟨3, _⟩ => ⟨S8192x1024, .f32⟩
  | .hbm, ⟨4, _⟩ => ⟨S1024x2048, .f32⟩
  | .hbm, ⟨5, _⟩ => ⟨S8192x2048, .f32⟩
  | .hbm, ⟨6, _⟩ => ⟨S8192x2048, .f32⟩
  | .hbm, ⟨7, _⟩ => ⟨S8192x1024, .f32⟩
  | .hbm, ⟨8, _⟩ => ⟨S8192x1024, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== KUp.lean ====
abbrev S8192x2048 : Shape := ⟨2, ![8192, 2048]⟩
abbrev S2048x11264 : Shape := ⟨2, ![2048, 11264]⟩
abbrev S2048x8x1408 : Shape := ⟨3, ![2048, 8, 1408]⟩
abbrev S8x2048x1408 : Shape := ⟨3, ![8, 2048, 1408]⟩
abbrev S8192x5632 : Shape := ⟨2, ![8192, 5632]⟩
abbrev S512x2048 : Shape := ⟨2, ![512, 2048]⟩
abbrev S1x2048x1408 : Shape := ⟨3, ![1, 2048, 1408]⟩
abbrev S512x1408 : Shape := ⟨2, ![512, 1408]⟩
abbrev S2048x2816 : Shape := ⟨2, ![2048, 2816]⟩
abbrev S2048x1408 : Shape := ⟨2, ![2048, 1408]⟩
abbrev S512x2816 : Shape := ⟨2, ![512, 2816]⟩

abbrev nBuf : Space → Nat
  | .hbm => 7
  | .vmem => 13
  | .smem => 0
  | _ => 0

abbrev bufTy : (tb : Table) → Fin (tcTables nBuf tb) → BufTy
  | .hbm, ⟨0, _⟩ => ⟨S8192x2048, .bf16⟩
  | .hbm, ⟨1, _⟩ => ⟨S2048x11264, .bf16⟩
  | .hbm, ⟨2, _⟩ => ⟨S2048x8x1408, .bf16⟩
  | .hbm, ⟨3, _⟩ => ⟨S8x2048x1408, .bf16⟩
  | .hbm, ⟨4, _⟩ => ⟨S8192x5632, .bf16⟩
  | .hbm, ⟨5, _⟩ => ⟨S8192x5632, .bf16⟩
  | .hbm, ⟨6, _⟩ => ⟨S8192x5632, .bf16⟩
  | .local _ .vmem, ⟨0, _⟩ => ⟨S512x2048, .bf16⟩
  | .local _ .vmem, ⟨1, _⟩ => ⟨S512x2048, .bf16⟩
  | .local _ .vmem, ⟨2, _⟩ => ⟨S1x2048x1408, .bf16⟩
  | .local _ .vmem, ⟨3, _⟩ => ⟨S1x2048x1408, .bf16⟩
  | .local _ .vmem, ⟨4, _⟩ => ⟨S1x2048x1408, .bf16⟩
  | .local _ .vmem, ⟨5, _⟩ => ⟨S1x2048x1408, .bf16⟩
  | .local _ .vmem, ⟨6, _⟩ => ⟨S512x1408, .bf16⟩
  | .local _ .vmem, ⟨7, _⟩ => ⟨S512x1408, .bf16⟩
  | .local _ .vmem, ⟨8, _⟩ => ⟨S512x1408, .bf16⟩
  | .local _ .vmem, ⟨9, _⟩ => ⟨S512x1408, .bf16⟩
  | .local _ .vmem, ⟨10, _⟩ => ⟨S512x1408, .bf16⟩
  | .local _ .vmem, ⟨11, _⟩ => ⟨S512x1408, .bf16⟩
  | .local _ .vmem, ⟨12, _⟩ => ⟨S2048x2816, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev main_v2_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![4, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.addi arg0 c4_i32
  let c0_i32 : BitVec 32 := 0#32
  let c0_i32_0 : BitVec 32 := 0#32
  let c0_i32_1 : BitVec 32 := 0#32
  ![v0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== RUpIdeal.lean ====
abbrev S8192x2048 : Shape := ⟨2, ![8192, 2048]⟩
abbrev S2048x11264 : Shape := ⟨2, ![2048, 11264]⟩
abbrev S8192x11264 : Shape := ⟨2, ![8192, 11264]⟩
abbrev S8192x5632 : Shape := ⟨2, ![8192, 5632]⟩
abbrev S_ : Shape := ⟨0, ![]⟩

abbrev nBuf : Space → Nat
  | .hbm => 20
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x11264, .bf16⟩
  | .hbm, ⟨2, _⟩ => ⟨S8192x2048, .f32⟩
  | .hbm, ⟨3, _⟩ => ⟨S2048x11264, .f32⟩
  | .hbm, ⟨4, _⟩ => ⟨S8192x11264, .f32⟩
  | .hbm, ⟨5, _⟩ => ⟨S8192x5632, .f32⟩
  | .hbm, ⟨6, _⟩ => ⟨S8192x5632, .f32⟩
  | .hbm, ⟨7, _⟩ => ⟨S8192x5632, .bf16⟩
  | .hbm, ⟨8, _⟩ => ⟨S8192x5632, .bf16⟩
  | .hbm, ⟨9, _⟩ => ⟨S8192x5632, .f32⟩
  | .hbm, ⟨10, _⟩ => ⟨S8192x5632, .f32⟩
  | .hbm, ⟨11, _⟩ => ⟨S_, .f32⟩
  | .hbm, ⟨12, _⟩ => ⟨S8192x5632, .f32⟩
  | .hbm, ⟨13, _⟩ => ⟨S8192x5632, .f32⟩
  | .hbm, ⟨14, _⟩ => ⟨S_, .f32⟩
  | .hbm, ⟨15, _⟩ => ⟨S8192x5632, .f32⟩
  | .hbm, ⟨16, _⟩ => ⟨S8192x5632, .f32⟩
  | .hbm, ⟨17, _⟩ => ⟨S8192x5632, .f32⟩
  | .hbm, ⟨18, _⟩ => ⟨S8192x5632, .f32⟩
  | .hbm, ⟨19, _⟩ => ⟨S8192x5632, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_call0_v0 : Ref sig .tc := ⟨.hbm, 9, rfl⟩
abbrev main_call0_v1 : Ref sig .tc := ⟨.hbm, 10, rfl⟩
abbrev main_call0_cst : Ref sig .tc := ⟨.hbm, 11, rfl⟩
abbrev main_call0_v2 : Ref sig .tc := ⟨.hbm, 12, rfl⟩
abbrev main_call0_v3 : Ref sig .tc := ⟨.hbm, 13, rfl⟩
abbrev main_call0_cst_0 : Ref sig .tc := ⟨.hbm, 14, rfl⟩
abbrev main_call0_v4 : Ref sig .tc := ⟨.hbm, 15, rfl⟩
abbrev main_call0_v5 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩

abbrev nD : Nat := 1
abbrev τ : Topo := Topo.v7x

variable {F : FTy → Type} [FloatOps F]
-- ==== KDown.lean ====
abbrev S8192x5632 : Shape := ⟨2, ![8192, 5632]⟩
abbrev S5632x2048 : Shape := ⟨2, ![5632, 2048]⟩
abbrev S8192x2048 : Shape := ⟨2, ![8192, 2048]⟩
abbrev S1x2048 : Shape := ⟨2, ![1, 2048]⟩
abbrev S1024x5632 : Shape := ⟨2, ![1024, 5632]⟩
abbrev S5632x512 : Shape := ⟨2, ![5632, 512]⟩
abbrev S1024x512 : Shape := ⟨2, ![1024, 512]⟩
abbrev S1x512 : Shape := ⟨2, ![1, 512]⟩

abbrev nBuf : Space → Nat
  | .hbm => 6
  | .vmem => 12
  | .smem => 0
  | _ => 0

abbrev bufTy : (tb : Table) → Fin (tcTables nBuf tb) → BufTy
  | .hbm, ⟨0, _⟩ => ⟨S8192x5632, .bf16⟩
  | .hbm, ⟨1, _⟩ => ⟨S5632x2048, .bf16⟩
  | .hbm, ⟨2, _⟩ => ⟨S8192x2048, .f32⟩
  | .hbm, ⟨3, _⟩ => ⟨S1x2048, .f32⟩
  | .hbm, ⟨4, _⟩ => ⟨S8192x2048, .f32⟩
  | .hbm, ⟨5, _⟩ => ⟨S8192x2048, .bf16⟩
  | .local _ .vmem, ⟨0, _⟩ => ⟨S1024x5632, .bf16⟩
  | .local _ .vmem, ⟨1, _⟩ => ⟨S1024x5632, .bf16⟩
  | .local _ .vmem, ⟨2, _⟩ => ⟨S5632x512, .bf16⟩
  | .local _ .vmem, ⟨3, _⟩ => ⟨S5632x512, .bf16⟩
  | .local _ .vmem, ⟨4, _⟩ => ⟨S1024x512, .f32⟩
  | .local _ .vmem, ⟨5, _⟩ => ⟨S1024x512, .f32⟩
  | .local _ .vmem, ⟨6, _⟩ => ⟨S1x512, .f32⟩
  | .local _ .vmem, ⟨7, _⟩ => ⟨S1x512, .f32⟩
  | .local _ .vmem, ⟨8, _⟩ => ⟨S1024x512, .f32⟩
  | .local _ .vmem, ⟨9, _⟩ => ⟨S1024x512, .f32⟩
  | .local _ .vmem, ⟨10, _⟩ => ⟨S1024x512, .bf16⟩
  | .local _ .vmem, ⟨11, _⟩ => ⟨S1024x512, .bf16⟩
  | _, _ => ⟨S8192x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S5632x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== RDownIdeal.lean ====
abbrev S8192x5632 : Shape := ⟨2, ![8192, 5632]⟩
abbrev S5632x2048 : Shape := ⟨2, ![5632, 2048]⟩
abbrev S8192x2048 : Shape := ⟨2, ![8192, 2048]⟩
abbrev S1x2048 : Shape := ⟨2, ![1, 2048]⟩
abbrev S_ : Shape := ⟨0, ![]⟩

abbrev nBuf : Space → Nat
  | .hbm => 14
  | .vmem => 0
  | .smem => 0
  | _ => 0

abbrev bufTy : (tb : Table) → Fin (tcTables nBuf tb) → BufTy
  | .hbm, ⟨0, _⟩ => ⟨S8192x5632, .bf16⟩
  | .hbm, ⟨1, _⟩ => ⟨S5632x2048, .bf16⟩
  | .hbm, ⟨2, _⟩ => ⟨S8192x2048, .f32⟩
  | .hbm, ⟨3, _⟩ => ⟨S1x2048, .f32⟩
  | .hbm, ⟨4, _⟩ => ⟨S8192x5632, .f32⟩
  | .hbm, ⟨5, _⟩ => ⟨S5632x2048, .f32⟩
  | .hbm, ⟨6, _⟩ => ⟨S8192x2048, .f32⟩
  | .hbm, ⟨7, _⟩ => ⟨S_, .f32⟩
  | .hbm, ⟨8, _⟩ => ⟨S1x2048, .f32⟩
  | .hbm, ⟨9, _⟩ => ⟨S1x2048, .f32⟩
  | .hbm, ⟨10, _⟩ => ⟨S8192x2048, .f32⟩
  | .hbm, ⟨11, _⟩ => ⟨S8192x2048, .f32⟩
  | .hbm, ⟨12, _⟩ => ⟨S8192x2048, .f32⟩
  | .hbm, ⟨13, _⟩ => ⟨S8192x2048, .bf16⟩
  | _, _ => ⟨S8192x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩

abbrev nD : Nat := 1
abbrev τ : Topo := Topo.v7x

variable {F : FTy → Type} [FloatOps F]
-- ==== KLoss.lean ====
abbrev S8192x5632 : Shape := ⟨2, ![8192, 5632]⟩
abbrev S5632x2048 : Shape := ⟨2, ![5632, 2048]⟩
abbrev S8192x2048 : Shape := ⟨2, ![8192, 2048]⟩
abbrev S1x2048 : Shape := ⟨2, ![1, 2048]⟩
abbrev S1x128 : Shape := ⟨2, ![1, 128]⟩
abbrev S512x5632 : Shape := ⟨2, ![512, 5632]⟩
abbrev S5632x512 : Shape := ⟨2, ![5632, 512]⟩
abbrev S512x512 : Shape := ⟨2, ![512, 512]⟩
abbrev S1x512 : Shape := ⟨2, ![1, 512]⟩
abbrev S512 : Shape := ⟨1, ![512]⟩
abbrev S1 : Shape := ⟨1, ![1]⟩
abbrev S1x1 : Shape := ⟨2, ![1, 1]⟩

abbrev nBuf : Space → Nat
  | .hbm => 9
  | .vmem => 17
  | .smem => 0
  | _ => 0

abbrev bufTy : (tb : Table) → Fin (tcTables nBuf tb) → BufTy
  | .hbm, ⟨0, _⟩ => ⟨S8192x5632, .bf16⟩
  | .hbm, ⟨1, _⟩ => ⟨S5632x2048, .bf16⟩
  | .hbm, ⟨2, _⟩ => ⟨S8192x2048, .f32⟩
  | .hbm, ⟨3, _⟩ => ⟨S1x2048, .f32⟩
  | .hbm, ⟨4, _⟩ => ⟨S8192x2048, .f32⟩
  | .hbm, ⟨5, _⟩ => ⟨S8192x2048, .f32⟩
  | .hbm, ⟨6, _⟩ => ⟨S8192x2048, .bf16⟩
  | .hbm, ⟨7, _⟩ => ⟨S1x2048, .f32⟩
  | .hbm, ⟨8, _⟩ => ⟨S1x128, .f32⟩
  | .local _ .vmem, ⟨0, _⟩ => ⟨S512x5632, .bf16⟩
  | .local _ .vmem, ⟨1, _⟩ => ⟨S512x5632, .bf16⟩
  | .local _ .vmem, ⟨2, _⟩ => ⟨S5632x512, .bf16⟩
  | .local _ .vmem, ⟨3, _⟩ => ⟨S5632x512, .bf16⟩
  | .local _ .vmem, ⟨4, _⟩ => ⟨S512x512, .f32⟩
  | .local _ .vmem, ⟨5, _⟩ => ⟨S512x512, .f32⟩
  | .local _ .vmem, ⟨6, _⟩ => ⟨S1x512, .f32⟩
  | .local _ .vmem, ⟨7, _⟩ => ⟨S1x512, .f32⟩
  | .local _ .vmem, ⟨8, _⟩ => ⟨S512x512, .f32⟩
  | .local _ .vmem, ⟨9, _⟩ => ⟨S512x512, .f32⟩
  | .local _ .vmem, ⟨10, _⟩ => ⟨S512x512, .f32⟩
  | .local _ .vmem, ⟨11, _⟩ => ⟨S512x512, .f32⟩
  | .local _ .vmem, ⟨12, _⟩ => ⟨S512x512, .bf16⟩
  | .local _ .vmem, ⟨13, _⟩ => ⟨S512x512, .bf16⟩
  | .local _ .vmem, ⟨14, _⟩ => ⟨S1x512, .f32⟩
  | .local _ .vmem, ⟨15, _⟩ => ⟨S1x512, .f32⟩
  | .local _ .vmem, ⟨16, _⟩ => ⟨S1x128, .f32⟩
  | _, _ => ⟨S8192x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16

abbrev nD : Nat := 1
abbrev τ : Topo := Topo.v7x

variable {F : FTy → Type} [FloatOps F]

abbrev grid0 : Pipeline.Grid := ⟨2, ![4, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S5632x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]
-- ==== RLossIdeal.lean ====
abbrev S8192x5632 : Shape := ⟨2, ![8192, 5632]⟩
abbrev S5632x2048 : Shape := ⟨2, ![5632, 2048]⟩
abbrev S8192x2048 : Shape := ⟨2, ![8192, 2048]⟩
abbrev S1x2048 : Shape := ⟨2, ![1, 2048]⟩
abbrev S_ : Shape := ⟨0, ![]⟩
abbrev S8192 : Shape := ⟨1, ![8192]⟩
abbrev S2048 : Shape := ⟨1, ![2048]⟩
abbrev S1x128 : Shape := ⟨2, ![1, 128]⟩

abbrev nBuf : Space → Nat
  | .hbm => 48
  | .vmem => 0
  | .smem => 0
  | _ => 0

abbrev bufTy : (tb : Table) → Fin (tcTables nBuf tb) → BufTy
  | .hbm, ⟨0, _⟩ => ⟨S8192x5632, .bf16⟩
  | .hbm, ⟨1, _⟩ => ⟨S5632x2048, .bf16⟩
  | .hbm, ⟨2, _⟩ => ⟨S8192x2048, .f32⟩
  | .hbm, ⟨3, _⟩ => ⟨S1x2048, .f32⟩
  | .hbm, ⟨4, _⟩ => ⟨S8192x2048, .f32⟩
  | .hbm, ⟨5, _⟩ => ⟨S8192x5632, .f32⟩
  | .hbm, ⟨6, _⟩ => ⟨S5632x2048, .f32⟩
  | .hbm, ⟨7, _⟩ => ⟨S8192x2048, .f32⟩
  | .hbm, ⟨8, _⟩ => ⟨S_, .f32⟩
  | .hbm, ⟨9, _⟩ => ⟨S1x2048, .f32⟩
  | .hbm, ⟨10, _⟩ => ⟨S1x2048, .f32⟩
  | .hbm, ⟨11, _⟩ => ⟨S8192x2048, .f32⟩
  | .hbm, ⟨12, _⟩ => ⟨S8192x2048, .f32⟩
  | .hbm, ⟨13, _⟩ => ⟨S8192x2048, .f32⟩
  | .hbm, ⟨14, _⟩ => ⟨S8192x2048, .f32⟩
  | .hbm, ⟨15, _⟩ => ⟨S8192x2048, .f32⟩
  | .hbm, ⟨16, _⟩ => ⟨S_, .f32⟩
  | .hbm, ⟨17, _⟩ => ⟨S8192x2048, .f32⟩
  | .hbm, ⟨18, _⟩ => ⟨S8192x2048, .f32⟩
  | .hbm, ⟨19, _⟩ => ⟨S_, .f32⟩
  | .hbm, ⟨20, _⟩ => ⟨S8192, .f32⟩
  | .hbm, ⟨21, _⟩ => ⟨S_, .f32⟩
  | .hbm, ⟨22, _⟩ => ⟨S8192, .f32⟩
  | .hbm, ⟨23, _⟩ => ⟨S8192, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S8192, .f32⟩
  | .hbm, ⟨32, _⟩ => ⟨S_, .f32⟩
  | .hbm, ⟨33, _⟩ => ⟨S8192, .f32⟩
  | .hbm, ⟨34, _⟩ => ⟨S8192, .f32⟩
  | .hbm, ⟨35, _⟩ => ⟨S8192x2048, .f32⟩
  | .hbm, ⟨36, _⟩ => ⟨S8192x2048, .f32⟩
  | .hbm, ⟨37, _⟩ => ⟨S8192x2048, .f32⟩
  | .hbm, ⟨38, _⟩ => ⟨S8192x2048, .f32⟩
  | .hbm, ⟨39, _⟩ => ⟨S8192x2048, .f32⟩
  | .hbm, ⟨40, _⟩ => ⟨S_, .f32⟩
  | .hbm, ⟨41, _⟩ => ⟨S2048, .f32⟩
  | .hbm, ⟨42, _⟩ => ⟨S1x2048, .f32⟩
  | .hbm, ⟨43, _⟩ => ⟨S_, .f32⟩
  | .hbm, ⟨44, _⟩ => ⟨S1x2048, .f32⟩
  | .hbm, ⟨45, _⟩ => ⟨S1x2048, .f32⟩
  | .hbm, ⟨46, _⟩ => ⟨S8192x2048, .bf16⟩
  | .hbm, ⟨47, _⟩ => ⟨S1x128, .f32⟩
  | _, _ => ⟨S8192x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_0 : Ref sig .tc := ⟨.hbm, 16, rfl⟩
abbrev main_v10 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_cst_3 : Ref sig .tc := ⟨.hbm, 24, rfl⟩
abbrev main_v15 : Ref sig .tc := ⟨.hbm, 25, rfl⟩
abbrev main_cst_4 : Ref sig .tc := ⟨.hbm, 26, rfl⟩
abbrev main_v16 : Ref sig .tc := ⟨.hbm, 27, rfl⟩
abbrev main_cst_5 : Ref sig .tc := ⟨.hbm, 28, rfl⟩
abbrev main_cst_6 : Ref sig .tc := ⟨.hbm, 29, rfl⟩
abbrev main_v17 : Ref sig .tc := ⟨.hbm, 30, rfl⟩
abbrev main_v18 : Ref sig .tc := ⟨.hbm, 31, rfl⟩
abbrev main_cst_7 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_8 : Ref sig .tc := ⟨.hbm, 40, rfl⟩
abbrev main_v26 : Ref sig .tc := ⟨.hbm, 41, rfl⟩
abbrev main_v27 : Ref sig .tc := ⟨.hbm, 42, rfl⟩
abbrev main_cst_9 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩

abbrev nD : Nat := 1
abbrev τ : Topo := Topo.v7x

variable {F : FTy → Type} [FloatOps F]
-- ==== KOut.lean ====
abbrev S8192x2048 : Shape := ⟨2, ![8192, 2048]⟩
abbrev S2048x2048 : Shape := ⟨2, ![2048, 2048]⟩
abbrev S1x2048 : Shape := ⟨2, ![1, 2048]⟩
abbrev S1024x2048 : Shape := ⟨2, ![1024, 2048]⟩
abbrev S2048x1024 : Shape := ⟨2, ![2048, 1024]⟩
abbrev S1024x1024 : Shape := ⟨2, ![1024, 1024]⟩
abbrev S1x1024 : Shape := ⟨2, ![1, 1024]⟩

abbrev nBuf : Space → Nat
  | .hbm => 6
  | .vmem => 12
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .bf16⟩
  | .hbm, ⟨2, _⟩ => ⟨S8192x2048, .f32⟩
  | .hbm, ⟨3, _⟩ => ⟨S1x2048, .f32⟩
  | .hbm, ⟨4, _⟩ => ⟨S8192x2048, .f32⟩
  | .hbm, ⟨5, _⟩ => ⟨S8192x2048, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1x1024, .f32⟩
  | .local _ .vmem, ⟨7, _⟩ => ⟨S1x1024, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .bf16⟩
  | .local _ .vmem, ⟨11, _⟩ => ⟨S1024x1024, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== ROutIdeal.lean ====
abbrev S8192x2048 : Shape := ⟨2, ![8192, 2048]⟩
abbrev S2048x2048 : Shape := ⟨2, ![2048, 2048]⟩
abbrev S1x2048 : Shape := ⟨2, ![1, 2048]⟩

abbrev nBuf : Space → Nat
  | .hbm => 11
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .bf16⟩
  | .hbm, ⟨2, _⟩ => ⟨S8192x2048, .f32⟩
  | .hbm, ⟨3, _⟩ => ⟨S1x2048, .f32⟩
  | .hbm, ⟨4, _⟩ => ⟨S8192x2048, .f32⟩
  | .hbm, ⟨5, _⟩ => ⟨S2048x2048, .f32⟩
  | .hbm, ⟨6, _⟩ => ⟨S8192x2048, .f32⟩
  | .hbm, ⟨7, _⟩ => ⟨S8192x2048, .f32⟩
  | .hbm, ⟨8, _⟩ => ⟨S8192x2048, .f32⟩
  | .hbm, ⟨9, _⟩ => ⟨S8192x2048, .f32⟩
  | .hbm, ⟨10, _⟩ => ⟨S8192x2048, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== KIn.lean ====
abbrev S8192x2048 : Shape := ⟨2, ![8192, 2048]⟩
abbrev S2048x6400 : Shape := ⟨2, ![2048, 6400]⟩
abbrev S8192x6400 : Shape := ⟨2, ![8192, 6400]⟩
abbrev S1024x2048 : Shape := ⟨2, ![1024, 2048]⟩
abbrev S2048x1280 : Shape := ⟨2, ![2048, 1280]⟩
abbrev S1024x1280 : Shape := ⟨2, ![1024, 1280]⟩

abbrev nBuf : Space → Nat
  | .hbm => 3
  | .vmem => 6
  | .smem => 0
  | _ => 0

abbrev bufTy : (tb : Table) → Fin (tcTables nBuf tb) → BufTy
  | .hbm, ⟨0, _⟩ => ⟨S8192x2048, .bf16⟩
  | .hbm, ⟨1, _⟩ => ⟨S2048x6400, .bf16⟩
  | .hbm, ⟨2, _⟩ => ⟨S8192x6400, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1280, .bf16⟩
  | .local _ .vmem, ⟨3, _⟩ => ⟨S2048x1280, .bf16⟩
  | .local _ .vmem, ⟨4, _⟩ => ⟨S1024x1280, .bf16⟩
  | .local _ .vmem, ⟨5, _⟩ => ⟨S1024x1280, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![5, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1280 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1280 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== RInIdeal.lean ====
abbrev S8192x2048 : Shape := ⟨2, ![8192, 2048]⟩
abbrev S2048x6400 : Shape := ⟨2, ![2048, 6400]⟩
abbrev S8192x6400 : Shape := ⟨2, ![8192, 6400]⟩

abbrev nBuf : Space → Nat
  | .hbm => 6
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x6400, .bf16⟩
  | .hbm, ⟨2, _⟩ => ⟨S8192x2048, .f32⟩
  | .hbm, ⟨3, _⟩ => ⟨S2048x6400, .f32⟩
  | .hbm, ⟨4, _⟩ => ⟨S8192x6400, .f32⟩
  | .hbm, ⟨5, _⟩ => ⟨S8192x6400, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== KMup.lean ====
abbrev S8192x1024 : Shape := ⟨2, ![8192, 1024]⟩
abbrev S1024x2048 : Shape := ⟨2, ![1024, 2048]⟩
abbrev S8192x2048 : Shape := ⟨2, ![8192, 2048]⟩
abbrev S8192x4x512 : Shape := ⟨3, ![8192, 4, 512]⟩
abbrev S8192x4x1x512 : Shape := ⟨4, ![8192, 4, 1, 512]⟩
abbrev S8192x4x2x512 : Shape := ⟨4, ![8192, 4, 2, 512]⟩
abbrev S8192x4096 : Shape := ⟨2, ![8192, 4096]⟩
abbrev S1024x1024 : Shape := ⟨2, ![1024, 1024]⟩
abbrev S1024x512 : Shape := ⟨2, ![1024, 512]⟩

abbrev nBuf : Space → Nat
  | .hbm => 15
  | .vmem => 16
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S1024x2048, .bf16⟩
  | .hbm, ⟨3, _⟩ => ⟨S1024x2048, .bf16⟩
  | .hbm, ⟨4, _⟩ => ⟨S8192x2048, .bf16⟩
  | .hbm, ⟨5, _⟩ => ⟨S8192x2048, .bf16⟩
  | .hbm, ⟨6, _⟩ => ⟨S8192x4x512, .bf16⟩
  | .hbm, ⟨7, _⟩ => ⟨S8192x4x512, .bf16⟩
  | .hbm, ⟨8, _⟩ => ⟨S8192x4x1x512, .bf16⟩
  | .hbm, ⟨9, _⟩ => ⟨S8192x4x1x512, .bf16⟩
  | .hbm, ⟨10, _⟩ => ⟨S8192x4x2x512, .bf16⟩
  | .hbm, ⟨11, _⟩ => ⟨S8192x4096, .bf16⟩
  | .hbm, ⟨12, _⟩ => ⟨S8192x2048, .bf16⟩
  | .hbm, ⟨13, _⟩ => ⟨S8192x2048, .bf16⟩
  | .hbm, ⟨14, _⟩ => ⟨S8192x2048, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x512, .bf16⟩
  | .local _ .vmem, ⟨5, _⟩ => ⟨S1024x512, .bf16⟩
  | .local _ .vmem, ⟨6, _⟩ => ⟨S1024x512, .bf16⟩
  | .local _ .vmem, ⟨7, _⟩ => ⟨S1024x512, .bf16⟩
  | .local _ .vmem, ⟨8, _⟩ => ⟨S1024x1024, .bf16⟩
  | .local _ .vmem, ⟨9, _⟩ => ⟨S1024x1024, .bf16⟩
  | .local _ .vmem, ⟨10, _⟩ => ⟨S1024x512, .bf16⟩
  | .local _ .vmem, ⟨11, _⟩ => ⟨S1024x512, .bf16⟩
  | .local _ .vmem, ⟨12, _⟩ => ⟨S1024x512, .bf16⟩
  | .local _ .vmem, ⟨13, _⟩ => ⟨S1024x512, .bf16⟩
  | .local _ .vmem, ⟨14, _⟩ => ⟨S1024x512, .bf16⟩
  | .local _ .vmem, ⟨15, _⟩ => ⟨S1024x512, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6_0 : Ref sig .tc := ⟨.hbm, 12, rfl⟩
abbrev main_v6_1 : Ref sig .tc := ⟨.hbm, 13, rfl⟩
abbrev main_v6_2 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1024x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== RMupIdeal.lean ====
abbrev S8192x1024 : Shape := ⟨2, ![8192, 1024]⟩
abbrev S1024x2048 : Shape := ⟨2, ![1024, 2048]⟩
abbrev S8192x2048 : Shape := ⟨2, ![8192, 2048]⟩
abbrev S_ : Shape := ⟨0, ![]⟩

abbrev nBuf : Space → Nat
  | .hbm => 36
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S1024x2048, .bf16⟩
  | .hbm, ⟨3, _⟩ => ⟨S1024x2048, .bf16⟩
  | .hbm, ⟨4, _⟩ => ⟨S8192x2048, .bf16⟩
  | .hbm, ⟨5, _⟩ => ⟨S8192x2048, .bf16⟩
  | .hbm, ⟨6, _⟩ => ⟨S8192x1024, .f32⟩
  | .hbm, ⟨7, _⟩ => ⟨S1024x2048, .f32⟩
  | .hbm, ⟨8, _⟩ => ⟨S8192x2048, .f32⟩
  | .hbm, ⟨9, _⟩ => ⟨S8192x1024, .f32⟩
  | .hbm, ⟨10, _⟩ => ⟨S1024x2048, .f32⟩
  | .hbm, ⟨11, _⟩ => ⟨S8192x2048, .f32⟩
  | .hbm, ⟨12, _⟩ => ⟨S8192x2048, .f32⟩
  | .hbm, ⟨13, _⟩ => ⟨S8192x2048, .f32⟩
  | .hbm, ⟨14, _⟩ => ⟨S8192x2048, .f32⟩
  | .hbm, ⟨15, _⟩ => ⟨S_, .f32⟩
  | .hbm, ⟨16, _⟩ => ⟨S8192x2048, .f32⟩
  | .hbm, ⟨17, _⟩ => ⟨S8192x2048, .f32⟩
  | .hbm, ⟨18, _⟩ => ⟨S_, .f32⟩
  | .hbm, ⟨19, _⟩ => ⟨S8192x2048, .f32⟩
  | .hbm, ⟨20, _⟩ => ⟨S8192x2048, .f32⟩
  | .hbm, ⟨21, _⟩ => ⟨S8192x2048, .f32⟩
  | .hbm, ⟨22, _⟩ => ⟨S8192x2048, .f32⟩
  | .hbm, ⟨23, _⟩ => ⟨S8192x2048, .f32⟩
  | .hbm, ⟨24, _⟩ => ⟨S8192x2048, .f32⟩
  | .hbm, ⟨25, _⟩ => ⟨S_, .f32⟩
  | .hbm, ⟨26, _⟩ => ⟨S8192x2048, .f32⟩
  | .hbm, ⟨27, _⟩ => ⟨S8192x2048, .f32⟩
  | .hbm, ⟨28, _⟩ => ⟨S_, .f32⟩
  | .hbm, ⟨29, _⟩ => ⟨S8192x2048, .f32⟩
  | .hbm, ⟨30, _⟩ => ⟨S8192x2048, .f32⟩
  | .hbm, ⟨31, _⟩ => ⟨S8192x2048, .f32⟩
  | .hbm, ⟨32, _⟩ => ⟨S8192x2048, .f32⟩
  | .hbm, ⟨33, _⟩ => ⟨S8192x2048, .bf16⟩
  | .hbm, ⟨34, _⟩ => ⟨S8192x2048, .bf16⟩
  | .hbm, ⟨35, _⟩ => ⟨S8192x2048, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst : Ref sig .tc := ⟨.hbm, 15, rfl⟩
abbrev main_v9 : Ref sig .tc := ⟨.hbm, 16, rfl⟩
abbrev main_v10 : Ref sig .tc := ⟨.hbm, 17, rfl⟩
abbrev main_cst_0 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_1 : Ref sig .tc := ⟨.hbm, 25, rfl⟩
abbrev main_v17 : Ref sig .tc := ⟨.hbm, 26, rfl⟩
abbrev main_v18 : Ref sig .tc := ⟨.hbm, 27, rfl⟩
abbrev main_cst_2 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩

abbrev nD : Nat := 1
abbrev τ : Topo := Topo.v7x

variable {F : FTy → Type} [FloatOps F]
-- ==== KNrm.lean ====
abbrev S8192x2048 : Shape := ⟨2, ![8192, 2048]⟩
abbrev S1x2048 : Shape := ⟨2, ![1, 2048]⟩
abbrev S_ : Shape := ⟨0, ![]⟩
abbrev S8x128 : Shape := ⟨2, ![8, 128]⟩
abbrev S512x2048 : Shape := ⟨2, ![512, 2048]⟩
abbrev S512 : Shape := ⟨1, ![512]⟩
abbrev S512x1 : Shape := ⟨2, ![512, 1]⟩

abbrev nBuf : Space → Nat
  | .hbm => 7
  | .vmem => 8
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S1x2048, .f32⟩
  | .hbm, ⟨3, _⟩ => ⟨S1x2048, .f32⟩
  | .hbm, ⟨4, _⟩ => ⟨S_, .f32⟩
  | .hbm, ⟨5, _⟩ => ⟨S8x128, .f32⟩
  | .hbm, ⟨6, _⟩ => ⟨S8192x2048, .bf16⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S1x2048, .f32⟩
  | .local _ .vmem, ⟨4, _⟩ => ⟨S1x2048, .f32⟩
  | .local _ .vmem, ⟨5, _⟩ => ⟨S8x128, .f32⟩
  | .local _ .vmem, ⟨6, _⟩ => ⟨S512x2048, .bf16⟩
  | .local _ .vmem, ⟨7, _⟩ => ⟨S512x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== RNrmIdeal.lean ====
abbrev S8192x2048 : Shape := ⟨2, ![8192, 2048]⟩
abbrev S1x2048 : Shape := ⟨2, ![1, 2048]⟩
abbrev S_ : Shape := ⟨0, ![]⟩
abbrev S8192 : Shape := ⟨1, ![8192]⟩
abbrev S8192x1 : Shape := ⟨2, ![8192, 1]⟩

abbrev nBuf : Space → Nat
  | .hbm => 27
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S1x2048, .f32⟩
  | .hbm, ⟨3, _⟩ => ⟨S1x2048, .f32⟩
  | .hbm, ⟨4, _⟩ => ⟨S8192x2048, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x2048, .f32⟩
  | .hbm, ⟨16, _⟩ => ⟨S8192x2048, .f32⟩
  | .hbm, ⟨17, _⟩ => ⟨S8192x2048, .f32⟩
  | .hbm, ⟨18, _⟩ => ⟨S8192x2048, .f32⟩
  | .hbm, ⟨19, _⟩ => ⟨S_, .f32⟩
  | .hbm, ⟨20, _⟩ => ⟨S1x2048, .f32⟩
  | .hbm, ⟨21, _⟩ => ⟨S1x2048, .f32⟩
  | .hbm, ⟨22, _⟩ => ⟨S8192x2048, .f32⟩
  | .hbm, ⟨23, _⟩ => ⟨S8192x2048, .f32⟩
  | .hbm, ⟨24, _⟩ => ⟨S8192x2048, .f32⟩
  | .hbm, ⟨25, _⟩ => ⟨S8192x2048, .f32⟩
  | .hbm, ⟨26, _⟩ => ⟨S8192x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩

abbrev nD : Nat := 1
abbrev τ : Topo := Topo.v7x

variable {F : FTy → Type} [FloatOps F]
-- ==== KNbw.lean ====
abbrev S8192x2048 : Shape := ⟨2, ![8192, 2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩
abbrev S2048 : Shape := ⟨1, ![2048]⟩

abbrev nBuf : Space → Nat
  | .hbm => 13
  | .vmem => 19
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S1x2048, .f32⟩
  | .hbm, ⟨3, _⟩ => ⟨S8192x2048, .bf16⟩
  | .hbm, ⟨4, _⟩ => ⟨S8192x2048, .f32⟩
  | .hbm, ⟨5, _⟩ => ⟨S8192x2048, .bf16⟩
  | .hbm, ⟨6, _⟩ => ⟨S1x2048, .f32⟩
  | .hbm, ⟨7, _⟩ => ⟨S8192x2048, .f32⟩
  | .hbm, ⟨8, _⟩ => ⟨S1x2048, .f32⟩
  | .hbm, ⟨9, _⟩ => ⟨S1x2048, .f32⟩
  | .hbm, ⟨10, _⟩ => ⟨S1x2048, .f32⟩
  | .hbm, ⟨11, _⟩ => ⟨S8192x2048, .bf16⟩
  | .hbm, ⟨12, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S1x2048, .f32⟩
  | .local _ .vmem, ⟨4, _⟩ => ⟨S256x2048, .bf16⟩
  | .local _ .vmem, ⟨5, _⟩ => ⟨S256x2048, .bf16⟩
  | .local _ .vmem, ⟨6, _⟩ => ⟨S256x2048, .f32⟩
  | .local _ .vmem, ⟨7, _⟩ => ⟨S256x2048, .f32⟩
  | .local _ .vmem, ⟨8, _⟩ => ⟨S256x2048, .bf16⟩
  | .local _ .vmem, ⟨9, _⟩ => ⟨S256x2048, .bf16⟩
  | .local _ .vmem, ⟨10, _⟩ => ⟨S1x2048, .f32⟩
  | .local _ .vmem, ⟨11, _⟩ => ⟨S256x2048, .f32⟩
  | .local _ .vmem, ⟨12, _⟩ => ⟨S256x2048, .f32⟩
  | .local _ .vmem, ⟨13, _⟩ => ⟨S1x2048, .f32⟩
  | .local _ .vmem, ⟨14, _⟩ => ⟨S1x2048, .f32⟩
  | .local _ .vmem, ⟨15, _⟩ => ⟨S1x2048, .f32⟩
  | .local _ .vmem, ⟨16, _⟩ => ⟨S256x2048, .bf16⟩
  | .local _ .vmem, ⟨17, _⟩ => ⟨S256x2048, .bf16⟩
  | .local _ .vmem, ⟨18, _⟩ => ⟨S1x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev main_v0_4 : Ref sig .tc := ⟨.hbm, 11, rfl⟩
abbrev main_v0_5 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem11_1 : DmaSem sig := 17
abbrev cc0_sem12_0 : DmaSem sig := 18

abbrev nD : Nat := 1
abbrev τ : Topo := Topo.v7x

variable {F : FTy → Type} [FloatOps F]

abbrev grid0 : Pipeline.Grid := ⟨1, ![32], ![false]⟩

def k0_cond1 (i : grid0.Coords) : BitVec 1 :=
  let arg0 : BitVec 32 := BitVec.ofNat 32 (i 0).val
  let c0_i32 : BitVec 32 := 0#32
  let v36 : BitVec 1 := Scalar.cmpi .eq arg0 c0_i32
  let v37 : BitVec 32 := Scalar.extui v36
  let c0_i32_17 : BitVec 32 := 0#32
  let v38 : BitVec 1 := Scalar.cmpi .ne v37 c0_i32_17
  v38

def k0_cond2 (i : grid0.Coords) : BitVec 1 :=
  let arg0 : BitVec 32 := BitVec.ofNat 32 (i 0).val
  let c0_i32_18 : BitVec 32 := 0#32
  let v39 : BitVec 1 := Scalar.cmpi .sgt arg0 c0_i32_18
  let v40 : BitVec 32 := Scalar.extui v39
  let c0_i32_19 : BitVec 32 := 0#32
  let v41 : BitVec 1 := Scalar.cmpi .ne v40 c0_i32_19
  v41

def k0_cond3 (i : grid0.Coords) : BitVec 1 :=
  let arg0 : BitVec 32 := BitVec.ofNat 32 (i 0).val
  let c0_i32_23 : BitVec 32 := 0#32
  let v48 : BitVec 1 := Scalar.cmpi .eq arg0 c0_i32_23
  let v49 : BitVec 32 := Scalar.extui v48
  let c0_i32_24 : BitVec 32 := 0#32
  let v50 : BitVec 1 := Scalar.cmpi .ne v49 c0_i32_24
  v50

def k0_cond4 (i : grid0.Coords) : BitVec 1 :=
  let arg0 : BitVec 32 := BitVec.ofNat 32 (i 0).val
  let c0_i32_25 : BitVec 32 := 0#32
  let v51 : BitVec 1 := Scalar.cmpi .sgt arg0 c0_i32_25
  let v52 : BitVec 32 := Scalar.extui v51
  let c0_i32_26 : BitVec 32 := 0#32
  let v53 : BitVec 1 := Scalar.cmpi .ne v52 c0_i32_26
  v53

def k0_cond5 (i : grid0.Coords) : BitVec 1 :=
  let arg0 : BitVec 32 := BitVec.ofNat 32 (i 0).val
  let c0_i32_28 : BitVec 32 := 0#32
  let v57 : BitVec 1 := Scalar.cmpi .eq arg0 c0_i32_28
  let v58 : BitVec 32 := Scalar.extui v57
  let c0_i32_29 : BitVec 32 := 0#32
  let v59 : BitVec 1 := Scalar.cmpi .ne v58 c0_i32_29
  v59

def k0_cond6 (i : grid0.Coords) : BitVec 1 :=
  let arg0 : BitVec 32 := BitVec.ofNat 32 (i 0).val
  let c0_i32_30 : BitVec 32 := 0#32
  let v60 : BitVec 1 := Scalar.cmpi .sgt arg0 c0_i32_30
  let v61 : BitVec 32 := Scalar.extui v60
  let c0_i32_31 : BitVec 32 := 0#32
  let v62 : BitVec 1 := Scalar.cmpi .ne v61 c0_i32_31
  v62

def k0_cond7 (i : grid0.Coords) : BitVec 1 :=
  let arg0 : BitVec 32 := BitVec.ofNat 32 (i 0).val
  let c0_i32_41 : BitVec 32 := 0#32
  let v77 : BitVec 1 := Scalar.cmpi .eq arg0 c0_i32_41
  let v78 : BitVec 32 := Scalar.extui v77
  let c0_i32_42 : BitVec 32 := 0#32
  let v79 : BitVec 1 := Scalar.cmpi .ne v78 c0_i32_42
  v79

def k0_cond8 (i : grid0.Coords) : BitVec 1 :=
  let arg0 : BitVec 32 := BitVec.ofNat 32 (i 0).val
  let c0_i32_43 : BitVec 32 := 0#32
  let v80 : BitVec 1 := Scalar.cmpi .sgt arg0 c0_i32_43
  let v81 : BitVec 32 := Scalar.extui v80
  let c0_i32_44 : BitVec 32 := 0#32
  let v82 : BitVec 1 := Scalar.cmpi .ne v81 c0_i32_44
  v82

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S256x2048 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S1x2048 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== RNbwIdeal.lean ====
abbrev S8192x2048 : Shape := ⟨2, ![8192, 2048]⟩
abbrev S1x2048 : Shape := ⟨2, ![1, 2048]⟩
abbrev S_ : Shape := ⟨0, ![]⟩
abbrev S8192 : Shape := ⟨1, ![8192]⟩
abbrev S8192x1 : Shape := ⟨2, ![8192, 1]⟩
abbrev S2048 : Shape := ⟨1, ![2048]⟩

abbrev nBuf : Space → Nat
  | .hbm => 85
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S1x2048, .f32⟩
  | .hbm, ⟨3, _⟩ => ⟨S8192x2048, .bf16⟩
  | .hbm, ⟨4, _⟩ => ⟨S8192x2048, .f32⟩
  | .hbm, ⟨5, _⟩ => ⟨S8192x2048, .bf16⟩
  | .hbm, ⟨6, _⟩ => ⟨S1x2048, .f32⟩
  | .hbm, ⟨7, _⟩ => ⟨S_, .f32⟩
  | .hbm, ⟨8, _⟩ => ⟨S1x2048, .f32⟩
  | .hbm, ⟨9, _⟩ => ⟨S8192x2048, .f32⟩
  | .hbm, ⟨10, _⟩ => ⟨S_, .f32⟩
  | .hbm, ⟨11, _⟩ => ⟨S8192, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S8192x1, .f32⟩
  | .hbm, ⟨20, _⟩ => ⟨S8192x1, .f32⟩
  | .hbm, ⟨21, _⟩ => ⟨S_, .f32⟩
  | .hbm, ⟨22, _⟩ => ⟨S8192x1, .f32⟩
  | .hbm, ⟨23, _⟩ => ⟨S8192x1, .f32⟩
  | .hbm, ⟨24, _⟩ => ⟨S8192x2048, .f32⟩
  | .hbm, ⟨25, _⟩ => ⟨S8192x2048, .f32⟩
  | .hbm, ⟨26, _⟩ => ⟨S8192x2048, .f32⟩
  | .hbm, ⟨27, _⟩ => ⟨S8192x2048, .f32⟩
  | .hbm, ⟨28, _⟩ => ⟨S_, .f32⟩
  | .hbm, ⟨29, _⟩ => ⟨S1x2048, .f32⟩
  | .hbm, ⟨30, _⟩ => ⟨S1x2048, .f32⟩
  | .hbm, ⟨31, _⟩ => ⟨S8192x2048, .f32⟩
  | .hbm, ⟨32, _⟩ => ⟨S8192x2048, .f32⟩
  | .hbm, ⟨33, _⟩ => ⟨S8192x2048, .f32⟩
  | .hbm, ⟨34, _⟩ => ⟨S8192x2048, .f32⟩
  | .hbm, ⟨35, _⟩ => ⟨S8192x2048, .f32⟩
  | .hbm, ⟨36, _⟩ => ⟨S_, .f32⟩
  | .hbm, ⟨37, _⟩ => ⟨S2048, .f32⟩
  | .hbm, ⟨38, _⟩ => ⟨S1x2048, .f32⟩
  | .hbm, ⟨39, _⟩ => ⟨S8192x2048, .f32⟩
  | .hbm, ⟨40, _⟩ => ⟨S_, .f32⟩
  | .hbm, ⟨41, _⟩ => ⟨S2048, .f32⟩
  | .hbm, ⟨42, _⟩ => ⟨S1x2048, .f32⟩
  | .hbm, ⟨43, _⟩ => ⟨S8192x2048, .f32⟩
  | .hbm, ⟨44, _⟩ => ⟨S8192x2048, .f32⟩
  | .hbm, ⟨45, _⟩ => ⟨S8192x2048, .f32⟩
  | .hbm, ⟨46, _⟩ => ⟨S_, .f32⟩
  | .hbm, ⟨47, _⟩ => ⟨S2048, .f32⟩
  | .hbm, ⟨48, _⟩ => ⟨S1x2048, .f32⟩
  | .hbm, ⟨49, _⟩ => ⟨S8192x2048, .f32⟩
  | .hbm, ⟨50, _⟩ => ⟨S8192x2048, .f32⟩
  | .hbm, ⟨51, _⟩ => ⟨S8192x2048, .f32⟩
  | .hbm, ⟨52, _⟩ => ⟨S_, .f32⟩
  | .hbm, ⟨53, _⟩ => ⟨S8192, .f32⟩
  | .hbm, ⟨54, _⟩ => ⟨S8192x1, .f32⟩
  | .hbm, ⟨55, _⟩ => ⟨S8192x2048, .f32⟩
  | .hbm, ⟨56, _⟩ => ⟨S8192x2048, .f32⟩
  | .hbm, ⟨57, _⟩ => ⟨S8192x1, .f32⟩
  | .hbm, ⟨58, _⟩ => ⟨S_, .f32⟩
  | .hbm, ⟨59, _⟩ => ⟨S8192x1, .f32⟩
  | .hbm, ⟨60, _⟩ => ⟨S8192x1, .f32⟩
  | .hbm, ⟨61, _⟩ => ⟨S_, .f32⟩
  | .hbm, ⟨62, _⟩ => ⟨S8192, .f32⟩
  | .hbm, ⟨63, _⟩ => ⟨S8192x2048, .f32⟩
  | .hbm, ⟨64, _⟩ => ⟨S8192x2048, .f32⟩
  | .hbm, ⟨65, _⟩ => ⟨S8192x2048, .f32⟩
  | .hbm, ⟨66, _⟩ => ⟨S8192x2048, .f32⟩
  | .hbm, ⟨67, _⟩ => ⟨S8192x2048, .f32⟩
  | .hbm, ⟨68, _⟩ => ⟨S8192x2048, .f32⟩
  | .hbm, ⟨69, _⟩ => ⟨S8192x2048, .f32⟩
  | .hbm, ⟨70, _⟩ => ⟨S_, .f32⟩
  | .hbm, ⟨71, _⟩ => ⟨S1x2048, .f32⟩
  | .hbm, ⟨72, _⟩ => ⟨S1x2048, .f32⟩
  | .hbm, ⟨73, _⟩ => ⟨S8192x2048, .f32⟩
  | .hbm, ⟨74, _⟩ => ⟨S8192x2048, .f32⟩
  | .hbm, ⟨75, _⟩ => ⟨S8192x2048, .f32⟩
  | .hbm, ⟨76, _⟩ => ⟨S8192x2048, .f32⟩
  | .hbm, ⟨77, _⟩ => ⟨S8192x2048, .f32⟩
  | .hbm, ⟨78, _⟩ => ⟨S_, .f32⟩
  | .hbm, ⟨79, _⟩ => ⟨S2048, .f32⟩
  | .hbm, ⟨80, _⟩ => ⟨S1x2048, .f32⟩
  | .hbm, ⟨81, _⟩ => ⟨S_, .f32⟩
  | .hbm, ⟨82, _⟩ => ⟨S1x2048, .f32⟩
  | .hbm, ⟨83, _⟩ => ⟨S1x2048, .f32⟩
  | .hbm, ⟨84, _⟩ => ⟨S8192x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_cst_0 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_v4 : Ref sig .tc := ⟨.hbm, 14, rfl⟩
abbrev main_v5 : Ref sig .tc := ⟨.hbm, 15, rfl⟩
abbrev main_cst_2 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_cst_3 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_4 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_5 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_6 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_7 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_8 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_cst_9 : Ref sig .tc := ⟨.hbm, 58, rfl⟩
abbrev main_v41 : Ref sig .tc := ⟨.hbm, 59, rfl⟩
abbrev main_v42 : Ref sig .tc := ⟨.hbm, 60, rfl⟩
abbrev main_cst_10 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_cst_11 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_cst_12 : Ref sig .tc := ⟨.hbm, 78, rfl⟩
abbrev main_v58 : Ref sig .tc := ⟨.hbm, 79, rfl⟩
abbrev main_v59 : Ref sig .tc := ⟨.hbm, 80, rfl⟩
abbrev main_cst_13 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩

abbrev nD : Nat := 1
abbrev τ : Topo := Topo.v7x

variable {F : FTy → Type} [FloatOps F]
-- ==== KAda.lean ====
abbrev S16x2048 : Shape := ⟨2, ![16, 2048]⟩
abbrev S2048x2304 : Shape := ⟨2, ![2048, 2304]⟩
abbrev S1x2304 : Shape := ⟨2, ![1, 2304]⟩
abbrev S16x2304 : Shape := ⟨2, ![16, 2304]⟩
abbrev S2048x768 : Shape := ⟨2, ![2048, 768]⟩
abbrev S1x768 : Shape := ⟨2, ![1, 768]⟩
abbrev S16x768 : Shape := ⟨2, ![16, 768]⟩

abbrev nBuf : Space → Nat
  | .hbm => 4
  | .vmem => 7
  | .smem => 0
  | _ => 0

abbrev bufTy : (tb : Table) → Fin (tcTables nBuf tb) → BufTy
  | .hbm, ⟨0, _⟩ => ⟨S16x2048, .f32⟩
  | .hbm, ⟨1, _⟩ => ⟨S2048x2304, .f32⟩
  | .hbm, ⟨2, _⟩ => ⟨S1x2304, .f32⟩
  | .hbm, ⟨3, _⟩ => ⟨S16x2304, .f32⟩
  | .local _ .vmem, ⟨0, _⟩ => ⟨S16x2048, .f32⟩
  | .local _ .vmem, ⟨1, _⟩ => ⟨S2048x768, .f32⟩
  | .local _ .vmem, ⟨2, _⟩ => ⟨S2048x768, .f32⟩
  | .local _ .vmem, ⟨3, _⟩ => ⟨S1x768, .f32⟩
  | .local _ .vmem, ⟨4, _⟩ => ⟨S1x768, .f32⟩
  | .local _ .vmem, ⟨5, _⟩ => ⟨S16x768, .f32⟩
  | .local _ .vmem, ⟨6, _⟩ => ⟨S16x768, .f32⟩
  | _, _ => ⟨S16x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![3], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S16x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S2048x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S16x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== RAdaIdeal.lean ====
abbrev S16x2048 : Shape := ⟨2, ![16, 2048]⟩
abbrev S2048x2304 : Shape := ⟨2, ![2048, 2304]⟩
abbrev S1x2304 : Shape := ⟨2, ![1, 2304]⟩
abbrev S_ : Shape := ⟨0, ![]⟩
abbrev S16x2304 : Shape := ⟨2, ![16, 2304]⟩

abbrev nBuf : Space → Nat
  | .hbm => 15
  | .vmem => 0
  | .smem => 0
  | _ => 0

abbrev bufTy : (tb : Table) → Fin (tcTables nBuf tb) → BufTy
  | .hbm, ⟨0, _⟩ => ⟨S16x2048, .f32⟩
  | .hbm, ⟨1, _⟩ => ⟨S2048x2304, .f32⟩
  | .hbm, ⟨2, _⟩ => ⟨S1x2304, .f32⟩
  | .hbm, ⟨3, _⟩ => ⟨S16x2048, .f32⟩
  | .hbm, ⟨4, _⟩ => ⟨S16x2048, .f32⟩
  | .hbm, ⟨5, _⟩ => ⟨S_, .f32⟩
  | .hbm, ⟨6, _⟩ => ⟨S16x2048, .f32⟩
  | .hbm, ⟨7, _⟩ => ⟨S16x2048, .f32⟩
  | .hbm, ⟨8, _⟩ => ⟨S_, .f32⟩
  | .hbm, ⟨9, _⟩ => ⟨S16x2048, .f32⟩
  | .hbm, ⟨10, _⟩ => ⟨S16x2048, .f32⟩
  | .hbm, ⟨11, _⟩ => ⟨S16x2048, .f32⟩
  | .hbm, ⟨12, _⟩ => ⟨S16x2304, .f32⟩
  | .hbm, ⟨13, _⟩ => ⟨S16x2304, .f32⟩
  | .hbm, ⟨14, _⟩ => ⟨S16x2304, .f32⟩
  | _, _ => ⟨S16x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩

abbrev nD : Nat := 1
abbrev τ : Topo := Topo.v7x

variable {F : FTy → Type} [FloatOps F]
-- ==== KAdab.lean ====
abbrev S128x2048 : Shape := ⟨2, ![128, 2048]⟩
abbrev S128x2304 : Shape := ⟨2, ![128, 2304]⟩
abbrev S2048x2304 : Shape := ⟨2, ![2048, 2304]⟩
abbrev S2048x128 : Shape := ⟨2, ![2048, 128]⟩
abbrev S128x256 : Shape := ⟨2, ![128, 256]⟩
abbrev S2048x256 : Shape := ⟨2, ![2048, 256]⟩

abbrev nBuf : Space → Nat
  | .hbm => 10
  | .vmem => 17
  | .smem => 0
  | _ => 0

abbrev bufTy : (tb : Table) → Fin (tcTables nBuf tb) → BufTy
  | .hbm, ⟨0, _⟩ => ⟨S128x2048, .f32⟩
  | .hbm, ⟨1, _⟩ => ⟨S128x2304, .f32⟩
  | .hbm, ⟨2, _⟩ => ⟨S2048x2304, .f32⟩
  | .hbm, ⟨3, _⟩ => ⟨S2048x2304, .f32⟩
  | .hbm, ⟨4, _⟩ => ⟨S2048x2304, .f32⟩
  | .hbm, ⟨5, _⟩ => ⟨S2048x128, .f32⟩
  | .hbm, ⟨6, _⟩ => ⟨S2048x2304, .f32⟩
  | .hbm, ⟨7, _⟩ => ⟨S2048x2304, .f32⟩
  | .hbm, ⟨8, _⟩ => ⟨S2048x2304, .f32⟩
  | .hbm, ⟨9, _⟩ => ⟨S2048x2304, .f32⟩
  | .local _ .vmem, ⟨0, _⟩ => ⟨S2048x128, .f32⟩
  | .local _ .vmem, ⟨1, _⟩ => ⟨S128x256, .f32⟩
  | .local _ .vmem, ⟨2, _⟩ => ⟨S128x256, .f32⟩
  | .local _ .vmem, ⟨3, _⟩ => ⟨S2048x256, .f32⟩
  | .local _ .vmem, ⟨4, _⟩ => ⟨S2048x256, .f32⟩
  | .local _ .vmem, ⟨5, _⟩ => ⟨S2048x256, .f32⟩
  | .local _ .vmem, ⟨6, _⟩ => ⟨S2048x256, .f32⟩
  | .local _ .vmem, ⟨7, _⟩ => ⟨S2048x256, .f32⟩
  | .local _ .vmem, ⟨8, _⟩ => ⟨S2048x256, .f32⟩
  | .local _ .vmem, ⟨9, _⟩ => ⟨S2048x256, .f32⟩
  | .local _ .vmem, ⟨10, _⟩ => ⟨S2048x256, .f32⟩
  | .local _ .vmem, ⟨11, _⟩ => ⟨S2048x256, .f32⟩
  | .local _ .vmem, ⟨12, _⟩ => ⟨S2048x256, .f32⟩
  | .local _ .vmem, ⟨13, _⟩ => ⟨S2048x256, .f32⟩
  | .local _ .vmem, ⟨14, _⟩ => ⟨S2048x256, .f32⟩
  | .local _ .vmem, ⟨15, _⟩ => ⟨S2048x256, .f32⟩
  | .local _ .vmem, ⟨16, _⟩ => ⟨S2048x256, .f32⟩
  | _, _ => ⟨S128x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev main_v1_3 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨1, ![9], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S2048x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S128x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2048x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2048x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2048x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S2048x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S2048x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== RAdabIdeal.lean ====
abbrev S128x2048 : Shape := ⟨2, ![128, 2048]⟩
abbrev S128x2304 : Shape := ⟨2, ![128, 2304]⟩
abbrev S2048x2304 : Shape := ⟨2, ![2048, 2304]⟩
abbrev S_ : Shape := ⟨0, ![]⟩
abbrev S2304x2048 : Shape := ⟨2, ![2304, 2048]⟩

abbrev nBuf : Space → Nat
  | .hbm => 50
  | .vmem => 0
  | .smem => 0
  | _ => 0

abbrev bufTy : (tb : Table) → Fin (tcTables nBuf tb) → BufTy
  | .hbm, ⟨0, _⟩ => ⟨S128x2048, .f32⟩
  | .hbm, ⟨1, _⟩ => ⟨S128x2304, .f32⟩
  | .hbm, ⟨2, _⟩ => ⟨S2048x2304, .f32⟩
  | .hbm, ⟨3, _⟩ => ⟨S2048x2304, .f32⟩
  | .hbm, ⟨4, _⟩ => ⟨S2048x2304, .f32⟩
  | .hbm, ⟨5, _⟩ => ⟨S128x2048, .f32⟩
  | .hbm, ⟨6, _⟩ => ⟨S128x2048, .f32⟩
  | .hbm, ⟨7, _⟩ => ⟨S_, .f32⟩
  | .hbm, ⟨8, _⟩ => ⟨S128x2048, .f32⟩
  | .hbm, ⟨9, _⟩ => ⟨S128x2048, .f32⟩
  | .hbm, ⟨10, _⟩ => ⟨S_, .f32⟩
  | .hbm, ⟨11, _⟩ => ⟨S128x2048, .f32⟩
  | .hbm, ⟨12, _⟩ => ⟨S128x2048, .f32⟩
  | .hbm, ⟨13, _⟩ => ⟨S128x2048, .f32⟩
  | .hbm, ⟨14, _⟩ => ⟨S128x2304, .f32⟩
  | .hbm, ⟨15, _⟩ => ⟨S2304x2048, .f32⟩
  | .hbm, ⟨16, _⟩ => ⟨S2048x2304, .f32⟩
  | .hbm, ⟨17, _⟩ => ⟨S_, .f32⟩
  | .hbm, ⟨18, _⟩ => ⟨S2048x2304, .f32⟩
  | .hbm, ⟨19, _⟩ => ⟨S2048x2304, .f32⟩
  | .hbm, ⟨20, _⟩ => ⟨S_, .f32⟩
  | .hbm, ⟨21, _⟩ => ⟨S2048x2304, .f32⟩
  | .hbm, ⟨22, _⟩ => ⟨S2048x2304, .f32⟩
  | .hbm, ⟨23, _⟩ => ⟨S2048x2304, .f32⟩
  | .hbm, ⟨24, _⟩ => ⟨S_, .f32⟩
  | .hbm, ⟨25, _⟩ => ⟨S2048x2304, .f32⟩
  | .hbm, ⟨26, _⟩ => ⟨S2048x2304, .f32⟩
  | .hbm, ⟨27, _⟩ => ⟨S2048x2304, .f32⟩
  | .hbm, ⟨28, _⟩ => ⟨S_, .f32⟩
  | .hbm, ⟨29, _⟩ => ⟨S2048x2304, .f32⟩
  | .hbm, ⟨30, _⟩ => ⟨S2048x2304, .f32⟩
  | .hbm, ⟨31, _⟩ => ⟨S2048x2304, .f32⟩
  | .hbm, ⟨32, _⟩ => ⟨S_, .f32⟩
  | .hbm, ⟨33, _⟩ => ⟨S2048x2304, .f32⟩
  | .hbm, ⟨34, _⟩ => ⟨S2048x2304, .f32⟩
  | .hbm, ⟨35, _⟩ => ⟨S_, .f32⟩
  | .hbm, ⟨36, _⟩ => ⟨S2048x2304, .f32⟩
  | .hbm, ⟨37, _⟩ => ⟨S2048x2304, .f32⟩
  | .hbm, ⟨38, _⟩ => ⟨S2048x2304, .f32⟩
  | .hbm, ⟨39, _⟩ => ⟨S_, .f32⟩
  | .hbm, ⟨40, _⟩ => ⟨S2048x2304, .f32⟩
  | .hbm, ⟨41, _⟩ => ⟨S2048x2304, .f32⟩
  | .hbm, ⟨42, _⟩ => ⟨S2048x2304, .f32⟩
  | .hbm, ⟨43, _⟩ => ⟨S_, .f32⟩
  | .hbm, ⟨44, _⟩ => ⟨S2048x2304, .f32⟩
  | .hbm, ⟨45, _⟩ => ⟨S2048x2304, .f32⟩
  | .hbm, ⟨46, _⟩ => ⟨S2048x2304, .f32⟩
  | .hbm, ⟨47, _⟩ => ⟨S_, .f32⟩
  | .hbm, ⟨48, _⟩ => ⟨S2048x2304, .f32⟩
  | .hbm, ⟨49, _⟩ => ⟨S2048x2304, .f32⟩
  | _, _ => ⟨S128x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_call0_v5 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_cst : Ref sig .tc := ⟨.hbm, 17, rfl⟩
abbrev main_v4 : Ref sig .tc := ⟨.hbm, 18, rfl⟩
abbrev main_v5 : Ref sig .tc := ⟨.hbm, 19, rfl⟩
abbrev main_cst_0 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_cst_1 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_cst_2 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_cst_3 : Ref sig .tc := ⟨.hbm, 32, rfl⟩
abbrev main_v15 : Ref sig .tc := ⟨.hbm, 33, rfl⟩
abbrev main_v16 : Ref sig .tc := ⟨.hbm, 34, rfl⟩
abbrev main_cst_4 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_cst_5 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_cst_6 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_cst_7 : Ref sig .tc := ⟨.hbm, 47, rfl⟩
abbrev main_v26 : Ref sig .tc := ⟨.hbm, 48, rfl⟩
abbrev main_v27 : Ref sig .tc := ⟨.hbm, 49, rfl⟩

abbrev nD : Nat := 1
abbrev τ : Topo := Topo.v7x

variable {F : FTy → Type} [FloatOps F]
-- ==== KAdam.lean ====
abbrev S8x704x2048 : Shape := ⟨3, ![8, 704, 2048]⟩
abbrev S704x2048 : Shape := ⟨2, ![704, 2048]⟩
abbrev S8x64x2048 : Shape := ⟨3, ![8, 64, 2048]⟩
abbrev S64x2048 : Shape := ⟨2, ![64, 2048]⟩
abbrev S1x64x2048 : Shape := ⟨3, ![1, 64, 2048]⟩

abbrev nBuf : Space → Nat
  | .hbm => 8
  | .vmem => 16
  | .smem => 0
  | _ => 0

abbrev bufTy : (tb : Table) → Fin (tcTables nBuf tb) → BufTy
  | .hbm, ⟨0, _⟩ => ⟨S8x704x2048, .bf16⟩
  | .hbm, ⟨1, _⟩ => ⟨S704x2048, .f32⟩
  | .hbm, ⟨2, _⟩ => ⟨S704x2048, .f32⟩
  | .hbm, ⟨3, _⟩ => ⟨S704x2048, .f32⟩
  | .hbm, ⟨4, _⟩ => ⟨S704x2048, .f32⟩
  | .hbm, ⟨5, _⟩ => ⟨S704x2048, .f32⟩
  | .hbm, ⟨6, _⟩ => ⟨S704x2048, .f32⟩
  | .hbm, ⟨7, _⟩ => ⟨S704x2048, .f32⟩
  | .local _ .vmem, ⟨0, _⟩ => ⟨S8x64x2048, .bf16⟩
  | .local _ .vmem, ⟨1, _⟩ => ⟨S8x64x2048, .bf16⟩
  | .local _ .vmem, ⟨2, _⟩ => ⟨S64x2048, .f32⟩
  | .local _ .vmem, ⟨3, _⟩ => ⟨S64x2048, .f32⟩
  | .local _ .vmem, ⟨4, _⟩ => ⟨S64x2048, .f32⟩
  | .local _ .vmem, ⟨5, _⟩ => ⟨S64x2048, .f32⟩
  | .local _ .vmem, ⟨6, _⟩ => ⟨S64x2048, .f32⟩
  | .local _ .vmem, ⟨7, _⟩ => ⟨S64x2048, .f32⟩
  | .local _ .vmem, ⟨8, _⟩ => ⟨S64x2048, .f32⟩
  | .local _ .vmem, ⟨9, _⟩ => ⟨S64x2048, .f32⟩
  | .local _ .vmem, ⟨10, _⟩ => ⟨S64x2048, .f32⟩
  | .local _ .vmem, ⟨11, _⟩ => ⟨S64x2048, .f32⟩
  | .local _ .vmem, ⟨12, _⟩ => ⟨S64x2048, .f32⟩
  | .local _ .vmem, ⟨13, _⟩ => ⟨S64x2048, .f32⟩
  | .local _ .vmem, ⟨14, _⟩ => ⟨S64x2048, .f32⟩
  | .local _ .vmem, ⟨15, _⟩ => ⟨S64x2048, .f32⟩
  | _, _ => ⟨S8x704x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![11], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x64x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S64x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S64x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S64x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== RAdamIdeal.lean ====
abbrev S8x704x2048 : Shape := ⟨3, ![8, 704, 2048]⟩
abbrev S704x2048 : Shape := ⟨2, ![704, 2048]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S8x704x2048, .bf16⟩
  | .hbm, ⟨1, _⟩ => ⟨S704x2048, .f32⟩
  | .hbm, ⟨2, _⟩ => ⟨S704x2048, .f32⟩
  | .hbm, ⟨3, _⟩ => ⟨S704x2048, .f32⟩
  | .hbm, ⟨4, _⟩ => ⟨S8x704x2048, .f32⟩
  | .hbm, ⟨5, _⟩ => ⟨S_, .f32⟩
  | .hbm, ⟨6, _⟩ => ⟨S704x2048, .f32⟩
  | .hbm, ⟨7, _⟩ => ⟨S_, .f32⟩
  | .hbm, ⟨8, _⟩ => ⟨S704x2048, .f32⟩
  | .hbm, ⟨9, _⟩ => ⟨S704x2048, .f32⟩
  | .hbm, ⟨10, _⟩ => ⟨S_, .f32⟩
  | .hbm, ⟨11, _⟩ => ⟨S704x2048, .f32⟩
  | .hbm, ⟨12, _⟩ => ⟨S704x2048, .f32⟩
  | .hbm, ⟨13, _⟩ => ⟨S704x2048, .f32⟩
  | .hbm, ⟨14, _⟩ => ⟨S_, .f32⟩
  | .hbm, ⟨15, _⟩ => ⟨S704x2048, .f32⟩
  | .hbm, ⟨16, _⟩ => ⟨S704x2048, .f32⟩
  | .hbm, ⟨17, _⟩ => ⟨S704x2048, .f32⟩
  | .hbm, ⟨18, _⟩ => ⟨S_, .f32⟩
  | .hbm, ⟨19, _⟩ => ⟨S704x2048, .f32⟩
  | .hbm, ⟨20, _⟩ => ⟨S704x2048, .f32⟩
  | .hbm, ⟨21, _⟩ => ⟨S704x2048, .f32⟩
  | .hbm, ⟨22, _⟩ => ⟨S_, .f32⟩
  | .hbm, ⟨23, _⟩ => ⟨S704x2048, .f32⟩
  | .hbm, ⟨24, _⟩ => ⟨S704x2048, .f32⟩
  | .hbm, ⟨25, _⟩ => ⟨S_, .f32⟩
  | .hbm, ⟨26, _⟩ => ⟨S704x2048, .f32⟩
  | .hbm, ⟨27, _⟩ => ⟨S704x2048, .f32⟩
  | .hbm, ⟨28, _⟩ => ⟨S704x2048, .f32⟩
  | .hbm, ⟨29, _⟩ => ⟨S_, .f32⟩
  | .hbm, ⟨30, _⟩ => ⟨S704x2048, .f32⟩
  | .hbm, ⟨31, _⟩ => ⟨S704x2048, .f32⟩
  | .hbm, ⟨32, _⟩ => ⟨S704x2048, .f32⟩
  | .hbm, ⟨33, _⟩ => ⟨S_, .f32⟩
  | .hbm, ⟨34, _⟩ => ⟨S704x2048, .f32⟩
  | .hbm, ⟨35, _⟩ => ⟨S704x2048, .f32⟩
  | .hbm, ⟨36, _⟩ => ⟨S704x2048, .f32⟩
  | .hbm, ⟨37, _⟩ => ⟨S_, .f32⟩
  | .hbm, ⟨38, _⟩ => ⟨S704x2048, .f32⟩
  | .hbm, ⟨39, _⟩ => ⟨S704x2048, .f32⟩
  | _, _ => ⟨S8x704x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== KAdamt.lean ====
abbrev S8x1408x2048 : Shape := ⟨3, ![8, 1408, 2048]⟩
abbrev S2048x1408 : Shape := ⟨2, ![2048, 1408]⟩
abbrev S8x128x2048 : Shape := ⟨3, ![8, 128, 2048]⟩
abbrev S2048x128 : Shape := ⟨2, ![2048, 128]⟩
abbrev S1x128x2048 : Shape := ⟨3, ![1, 128, 2048]⟩
abbrev S128x2048 : Shape := ⟨2, ![128, 2048]⟩

abbrev nBuf : Space → Nat
  | .hbm => 8
  | .vmem => 16
  | .smem => 0
  | _ => 0

abbrev bufTy : (tb : Table) → Fin (tcTables nBuf tb) → BufTy
  | .hbm, ⟨0, _⟩ => ⟨S8x1408x2048, .bf16⟩
  | .hbm, ⟨1, _⟩ => ⟨S2048x1408, .f32⟩
  | .hbm, ⟨2, _⟩ => ⟨S2048x1408, .f32⟩
  | .hbm, ⟨3, _⟩ => ⟨S2048x1408, .f32⟩
  | .hbm, ⟨4, _⟩ => ⟨S2048x1408, .f32⟩
  | .hbm, ⟨5, _⟩ => ⟨S2048x1408, .f32⟩
  | .hbm, ⟨6, _⟩ => ⟨S2048x1408, .f32⟩
  | .hbm, ⟨7, _⟩ => ⟨S2048x1408, .f32⟩
  | .local _ .vmem, ⟨0, _⟩ => ⟨S8x128x2048, .bf16⟩
  | .local _ .vmem, ⟨1, _⟩ => ⟨S8x128x2048, .bf16⟩
  | .local _ .vmem, ⟨2, _⟩ => ⟨S2048x128, .f32⟩
  | .local _ .vmem, ⟨3, _⟩ => ⟨S2048x128, .f32⟩
  | .local _ .vmem, ⟨4, _⟩ => ⟨S2048x128, .f32⟩
  | .local _ .vmem, ⟨5, _⟩ => ⟨S2048x128, .f32⟩
  | .local _ .vmem, ⟨6, _⟩ => ⟨S2048x128, .f32⟩
  | .local _ .vmem, ⟨7, _⟩ => ⟨S2048x128, .f32⟩
  | .local _ .vmem, ⟨8, _⟩ => ⟨S2048x128, .f32⟩
  | .local _ .vmem, ⟨9, _⟩ => ⟨S2048x128, .f32⟩
  | .local _ .vmem, ⟨10, _⟩ => ⟨S2048x128, .f32⟩
  | .local _ .vmem, ⟨11, _⟩ => ⟨S2048x128, .f32⟩
  | .local _ .vmem, ⟨12, _⟩ => ⟨S2048x128, .f32⟩
  | .local _ .vmem, ⟨13, _⟩ => ⟨S2048x128, .f32⟩
  | .local _ .vmem, ⟨14, _⟩ => ⟨S2048x128, .f32⟩
  | .local _ .vmem, ⟨15, _⟩ => ⟨S2048x128, .f32⟩
  | _, _ => ⟨S8x1408x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![11], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S8x128x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2048x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2048x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2048x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S2048x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== RAdamtIdeal.lean ====
abbrev S8x1408x2048 : Shape := ⟨3, ![8, 1408, 2048]⟩
abbrev S2048x1408 : Shape := ⟨2, ![2048, 1408]⟩
abbrev S_ : Shape := ⟨0, ![]⟩
abbrev S1408x2048 : Shape := ⟨2, ![1408, 2048]⟩

abbrev nBuf : Space → Nat
  | .hbm => 41
  | .vmem => 0
  | .smem => 0
  | _ => 0

abbrev bufTy : (tb : Table) → Fin (tcTables nBuf tb) → BufTy
  | .hbm, ⟨0, _⟩ => ⟨S8x1408x2048, .bf16⟩
  | .hbm, ⟨1, _⟩ => ⟨S2048x1408, .f32⟩
  | .hbm, ⟨2, _⟩ => ⟨S2048x1408, .f32⟩
  | .hbm, ⟨3, _⟩ => ⟨S2048x1408, .f32⟩
  | .hbm, ⟨4, _⟩ => ⟨S8x1408x2048, .f32⟩
  | .hbm, ⟨5, _⟩ => ⟨S_, .f32⟩
  | .hbm, ⟨6, _⟩ => ⟨S1408x2048, .f32⟩
  | .hbm, ⟨7, _⟩ => ⟨S2048x1408, .f32⟩
  | .hbm, ⟨8, _⟩ => ⟨S_, .f32⟩
  | .hbm, ⟨9, _⟩ => ⟨S2048x1408, .f32⟩
  | .hbm, ⟨10, _⟩ => ⟨S2048x1408, .f32⟩
  | .hbm, ⟨11, _⟩ => ⟨S_, .f32⟩
  | .hbm, ⟨12, _⟩ => ⟨S2048x1408, .f32⟩
  | .hbm, ⟨13, _⟩ => ⟨S2048x1408, .f32⟩
  | .hbm, ⟨14, _⟩ => ⟨S2048x1408, .f32⟩
  | .hbm, ⟨15, _⟩ => ⟨S_, .f32⟩
  | .hbm, ⟨16, _⟩ => ⟨S2048x1408, .f32⟩
  | .hbm, ⟨17, _⟩ => ⟨S2048x1408, .f32⟩
  | .hbm, ⟨18, _⟩ => ⟨S2048x1408, .f32⟩
  | .hbm, ⟨19, _⟩ => ⟨S_, .f32⟩
  | .hbm, ⟨20, _⟩ => ⟨S2048x1408, .f32⟩
  | .hbm, ⟨21, _⟩ => ⟨S2048x1408, .f32⟩
  | .hbm, ⟨22, _⟩ => ⟨S2048x1408, .f32⟩
  | .hbm, ⟨23, _⟩ => ⟨S_, .f32⟩
  | .hbm, ⟨24, _⟩ => ⟨S2048x1408, .f32⟩
  | .hbm, ⟨25, _⟩ => ⟨S2048x1408, .f32⟩
  | .hbm, ⟨26, _⟩ => ⟨S_, .f32⟩
  | .hbm, ⟨27, _⟩ => ⟨S2048x1408, .f32⟩
  | .hbm, ⟨28, _⟩ => ⟨S2048x1408, .f32⟩
  | .hbm, ⟨29, _⟩ => ⟨S2048x1408, .f32⟩
  | .hbm, ⟨30, _⟩ => ⟨S_, .f32⟩
  | .hbm, ⟨31, _⟩ => ⟨S2048x1408, .f32⟩
  | .hbm, ⟨32, _⟩ => ⟨S2048x1408, .f32⟩
  | .hbm, ⟨33, _⟩ => ⟨S2048x1408, .f32⟩
  | .hbm, ⟨34, _⟩ => ⟨S_, .f32⟩
  | .hbm, ⟨35, _⟩ => ⟨S2048x1408, .f32⟩
  | .hbm, ⟨36, _⟩ => ⟨S2048x1408, .f32⟩
  | .hbm, ⟨37, _⟩ => ⟨S2048x1408, .f32⟩
  | .hbm, ⟨38, _⟩ => ⟨S_, .f32⟩
  | .hbm, ⟨39, _⟩ => ⟨S2048x1408, .f32⟩
  | .hbm, ⟨40, _⟩ => ⟨S2048x1408, .f32⟩
  | _, _ => ⟨S8x1408x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_8 : Ref sig .tc := ⟨.hbm, 38, rfl⟩
abbrev main_v25 : Ref sig .tc := ⟨.hbm, 39, rfl⟩
abbrev main_v26 : Ref sig .tc := ⟨.hbm, 40, rfl⟩

abbrev nD : Nat := 1
abbrev τ : Topo := Topo.v7x

variable {F : FTy → Type} [FloatOps F]
-- ==== KBias.lean ====
abbrev S32x16 : Shape := ⟨2, ![32, 16]⟩
abbrev S32768 : Shape := ⟨1, ![32768]⟩
abbrev S16x32 : Shape := ⟨2, ![16, 32]⟩
abbrev S32 : Shape := ⟨1, ![32]⟩
abbrev S32x1 : Shape := ⟨2, ![32, 1]⟩
abbrev S1x32768 : Shape := ⟨2, ![1, 32768]⟩
abbrev S32x32768 : Shape := ⟨2, ![32, 32768]⟩
abbrev S16x32768 : Shape := ⟨2, ![16, 32768]⟩
abbrev S32x4096 : Shape := ⟨2, ![32, 4096]⟩
abbrev S16x4096 : Shape := ⟨2, ![16, 4096]⟩

abbrev nBuf : Space → Nat
  | .hbm => 11
  | .vmem => 5
  | .smem => 0
  | _ => 0

abbrev bufTy : (tb : Table) → Fin (tcTables nBuf tb) → BufTy
  | .hbm, ⟨0, _⟩ => ⟨S32x16, .f32⟩
  | .hbm, ⟨1, _⟩ => ⟨S32768, .i32⟩
  | .hbm, ⟨2, _⟩ => ⟨S16x32, .f32⟩
  | .hbm, ⟨3, _⟩ => ⟨S32, .i32⟩
  | .hbm, ⟨4, _⟩ => ⟨S32x1, .i32⟩
  | .hbm, ⟨5, _⟩ => ⟨S1x32768, .i32⟩
  | .hbm, ⟨6, _⟩ => ⟨S32x32768, .i32⟩
  | .hbm, ⟨7, _⟩ => ⟨S32x32768, .i32⟩
  | .hbm, ⟨8, _⟩ => ⟨S32x32768, .i1⟩
  | .hbm, ⟨9, _⟩ => ⟨S32x32768, .f32⟩
  | .hbm, ⟨10, _⟩ => ⟨S16x32768, .f32⟩
  | .local _ .vmem, ⟨0, _⟩ => ⟨S16x32, .f32⟩
  | .local _ .vmem, ⟨1, _⟩ => ⟨S32x4096, .f32⟩
  | .local _ .vmem, ⟨2, _⟩ => ⟨S32x4096, .f32⟩
  | .local _ .vmem, ⟨3, _⟩ => ⟨S16x4096, .f32⟩
  | .local _ .vmem, ⟨4, _⟩ => ⟨S16x4096, .f32⟩
  | _, _ => ⟨S32x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S16x32 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S32x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== RBiasIdeal.lean ====
abbrev S32x16 : Shape := ⟨2, ![32, 16]⟩
abbrev S32768 : Shape := ⟨1, ![32768]⟩
abbrev S_ : Shape := ⟨0, ![]⟩
abbrev S32768x1 : Shape := ⟨2, ![32768, 1]⟩
abbrev S32768x16 : Shape := ⟨2, ![32768, 16]⟩
abbrev S16x32768 : Shape := ⟨2, ![16, 32768]⟩

abbrev nBuf : Space → Nat
  | .hbm => 12
  | .vmem => 0
  | .smem => 0
  | _ => 0

abbrev bufTy : (tb : Table) → Fin (tcTables nBuf tb) → BufTy
  | .hbm, ⟨0, _⟩ => ⟨S32x16, .f32⟩
  | .hbm, ⟨1, _⟩ => ⟨S32768, .i32⟩
  | .hbm, ⟨2, _⟩ => ⟨S_, .i32⟩
  | .hbm, ⟨3, _⟩ => ⟨S32768, .i32⟩
  | .hbm, ⟨4, _⟩ => ⟨S32768, .i1⟩
  | .hbm, ⟨5, _⟩ => ⟨S_, .i32⟩
  | .hbm, ⟨6, _⟩ => ⟨S32768, .i32⟩
  | .hbm, ⟨7, _⟩ => ⟨S32768, .i32⟩
  | .hbm, ⟨8, _⟩ => ⟨S32768, .i32⟩
  | .hbm, ⟨9, _⟩ => ⟨S32768x1, .i32⟩
  | .hbm, ⟨10, _⟩ => ⟨S32768x16, .f32⟩
  | .hbm, ⟨11, _⟩ => ⟨S16x32768, .f32⟩
  | _, _ => ⟨S32x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_v1 : Ref sig .tc := ⟨.hbm, 4, rfl⟩
abbrev main_c_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]
-- ==== KBiasb.lean ====
abbrev S16x32768 : Shape := ⟨2, ![16, 32768]⟩
abbrev S32768 : Shape := ⟨1, ![32768]⟩
abbrev S32 : Shape := ⟨1, ![32]⟩
abbrev S32x1 : Shape := ⟨2, ![32, 1]⟩
abbrev S1x32768 : Shape := ⟨2, ![1, 32768]⟩
abbrev S32x32768 : Shape := ⟨2, ![32, 32768]⟩
abbrev S16x32 : Shape := ⟨2, ![16, 32]⟩
abbrev S16x4096 : Shape := ⟨2, ![16, 4096]⟩
abbrev S32x4096 : Shape := ⟨2, ![32, 4096]⟩

abbrev nBuf : Space → Nat
  | .hbm => 10
  | .vmem => 5
  | .smem => 0
  | _ => 0

abbrev bufTy : (tb : Table) → Fin (tcTables nBuf tb) → BufTy
  | .hbm, ⟨0, _⟩ => ⟨S16x32768, .f32⟩
  | .hbm, ⟨1, _⟩ => ⟨S32768, .i32⟩
  | .hbm, ⟨2, _⟩ => ⟨S32, .i32⟩
  | .hbm, ⟨3, _⟩ => ⟨S32x1, .i32⟩
  | .hbm, ⟨4, _⟩ => ⟨S1x32768, .i32⟩
  | .hbm, ⟨5, _⟩ => ⟨S32x32768, .i32⟩
  | .hbm, ⟨6, _⟩ => ⟨S32x32768, .i32⟩
  | .hbm, ⟨7, _⟩ => ⟨S32x32768, .i1⟩
  | .hbm, ⟨8, _⟩ => ⟨S32x32768, .f32⟩
  | .hbm, ⟨9, _⟩ => ⟨S16x32, .f32⟩
  | .local _ .vmem, ⟨0, _⟩ => ⟨S16x4096, .f32⟩
  | .local _ .vmem, ⟨1, _⟩ => ⟨S16x4096, .f32⟩
  | .local _ .vmem, ⟨2, _⟩ => ⟨S32x4096, .f32⟩
  | .local _ .vmem, ⟨3, _⟩ => ⟨S32x4096, .f32⟩
  | .local _ .vmem, ⟨4, _⟩ => ⟨S16x32, .f32⟩
  | _, _ => ⟨S16x32768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v4 : BitVec 1 := Scalar.cmpi .eq arg0 c0_i32
  let v5 : BitVec 32 := Scalar.extui v4
  let c0_i32_3 : BitVec 32 := 0#32
  let v6 : BitVec 1 := Scalar.cmpi .ne v5 c0_i32_3
  v6

def k0_cond2 (i : grid0.Coords) : BitVec 1 :=
  let arg0 : BitVec 32 := BitVec.ofNat 32 (i 0).val
  let c0_i32_4 : BitVec 32 := 0#32
  let v7 : BitVec 1 := Scalar.cmpi .sgt arg0 c0_i32_4
  let v8 : BitVec 32 := Scalar.extui v7
  let c0_i32_5 : BitVec 32 := 0#32
  let v9 : BitVec 1 := Scalar.cmpi .ne v8 c0_i32_5
  v9

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S16x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S16x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== RBiasbIdeal.lean ====
abbrev S16x32768 : Shape := ⟨2, ![16, 32768]⟩
abbrev S32768 : Shape := ⟨1, ![32768]⟩
abbrev S_ : Shape := ⟨0, ![]⟩
abbrev S32x16 : Shape := ⟨2, ![32, 16]⟩
abbrev S32768x1 : Shape := ⟨2, ![32768, 1]⟩
abbrev S32768x16 : Shape := ⟨2, ![32768, 16]⟩
abbrev S16x32 : Shape := ⟨2, ![16, 32]⟩

abbrev nBuf : Space → Nat
  | .hbm => 19
  | .vmem => 0
  | .smem => 0
  | _ => 0

abbrev bufTy : (tb : Table) → Fin (tcTables nBuf tb) → BufTy
  | .hbm, ⟨0, _⟩ => ⟨S16x32768, .f32⟩
  | .hbm, ⟨1, _⟩ => ⟨S32768, .i32⟩
  | .hbm, ⟨2, _⟩ => ⟨S_, .f32⟩
  | .hbm, ⟨3, _⟩ => ⟨S32x16, .f32⟩
  | .hbm, ⟨4, _⟩ => ⟨S_, .i32⟩
  | .hbm, ⟨5, _⟩ => ⟨S32768, .i32⟩
  | .hbm, ⟨6, _⟩ => ⟨S32768, .i1⟩
  | .hbm, ⟨7, _⟩ => ⟨S_, .i32⟩
  | .hbm, ⟨8, _⟩ => ⟨S32768, .i32⟩
  | .hbm, ⟨9, _⟩ => ⟨S32768, .i32⟩
  | .hbm, ⟨10, _⟩ => ⟨S32768, .i32⟩
  | .hbm, ⟨11, _⟩ => ⟨S32768x1, .i32⟩
  | .hbm, ⟨12, _⟩ => ⟨S32768x16, .f32⟩
  | .hbm, ⟨13, _⟩ => ⟨S16x32768, .f32⟩
  | .hbm, ⟨14, _⟩ => ⟨S32768x16, .f32⟩
  | .hbm, ⟨15, _⟩ => ⟨S_, .f32⟩
  | .hbm, ⟨16, _⟩ => ⟨S32x16, .f32⟩
  | .hbm, ⟨17, _⟩ => ⟨S32x16, .f32⟩
  | .hbm, ⟨18, _⟩ => ⟨S16x32, .f32⟩
  | _, _ => ⟨S16x32768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_v2 : Ref sig .tc := ⟨.hbm, 6, rfl⟩
abbrev main_c_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩

abbrev nD : Nat := 1
abbrev τ : Topo := Topo.v7x

variable {F : FTy → Type} [FloatOps F]
-- ==== KPoolb.lean ====
abbrev S8192x1024 : Shape := ⟨2, ![8192, 1024]⟩
abbrev S4x256x256 : Shape := ⟨3, ![4, 256, 256]⟩
abbrev S1x1024 : Shape := ⟨2, ![1, 1024]⟩
abbrev S8192x6400 : Shape := ⟨2, ![8192, 6400]⟩
abbrev S8192x4x256 : Shape := ⟨3, ![8192, 4, 256]⟩
abbrev S_ : Shape := ⟨0, ![]⟩
abbrev S1x4x256 : Shape := ⟨3, ![1, 4, 256]⟩
abbrev S8193x4x256 : Shape := ⟨3, ![8193, 4, 256]⟩
abbrev S8192 : Shape := ⟨1, ![8192]⟩
abbrev S8192x1 : Shape := ⟨2, ![8192, 1]⟩
abbrev S8192x1x256 : Shape := ⟨3, ![8192, 1, 256]⟩
abbrev S8192x256 : Shape := ⟨2, ![8192, 256]⟩
abbrev S8192x2 : Shape := ⟨2, ![8192, 2]⟩
abbrev S4x256x8192 : Shape := ⟨3, ![4, 256, 8192]⟩
abbrev S256x1024 : Shape := ⟨2, ![256, 1024]⟩
abbrev S16x1024 : Shape := ⟨2, ![16, 1024]⟩
abbrev S272x1024 : Shape := ⟨2, ![272, 1024]⟩
abbrev S272x1 : Shape := ⟨2, ![272, 1]⟩
abbrev S272x256 : Shape := ⟨2, ![272, 256]⟩
abbrev S256x256 : Shape := ⟨2, ![256, 256]⟩
abbrev S1x256x256 : Shape := ⟨3, ![1, 256, 256]⟩
abbrev S256 : Shape := ⟨1, ![256]⟩
abbrev S1x256 : Shape := ⟨2, ![1, 256]⟩

abbrev nBuf : Space → Nat
  | .hbm => 165
  | .vmem => 12
  | .smem => 0
  | _ => 0

abbrev hbmTy0_0 (i : Nat) : BufTy := match i % 128 with
  | 0 => ⟨S8192x1024, .bf16⟩
  | 1 => ⟨S4x256x256, .bf16⟩
  | 2 => ⟨S1x1024, .f32⟩
  | 3 => ⟨S8192x1024, .bf16⟩
  | 4 => ⟨S8192x6400, .bf16⟩
  | 5 => ⟨S8192x1024, .f32⟩
  | 6 => ⟨S4x256x256, .f32⟩
  | 7 => ⟨S8192x4x256, .f32⟩
  | 8 => ⟨S_, .f32⟩
  | 9 => ⟨S1x4x256, .f32⟩
  | 10 => ⟨S_, .f32⟩
  | 11 => ⟨S_, .f32⟩
  | 12 => ⟨S8192x4x256, .f32⟩
  | 13 => ⟨S8193x4x256, .f32⟩
  | 14 => ⟨S8192, .i32⟩
  | 15 => ⟨S_, .i32⟩
  | 16 => ⟨S8192, .i32⟩
  | 17 => ⟨S8192, .i32⟩
  | 18 => ⟨S_, .i32⟩
  | 19 => ⟨S8192, .i32⟩
  | 20 => ⟨S8192, .i32⟩
  | 21 => ⟨S_, .i32⟩
  | 22 => ⟨S8192, .i32⟩
  | 23 => ⟨S8192, .i32⟩
  | 24 => ⟨S_, .i32⟩
  | 25 => ⟨S8192, .i32⟩
  | 26 => ⟨S8192, .i32⟩
  | 27 => ⟨S8192, .f32⟩
  | 28 => ⟨S8192x1, .f32⟩
  | 29 => ⟨S8192x1x256, .f32⟩
  | 30 => ⟨S8192x256, .f32⟩
  | 31 => ⟨S_, .i32⟩
  | 32 => ⟨S8192, .i32⟩
  | 33 => ⟨S8192, .i1⟩
  | 34 => ⟨S_, .i32⟩
  | 35 => ⟨S8192, .i32⟩
  | 36 => ⟨S8192, .i32⟩
  | 37 => ⟨S8192, .i32⟩
  | 38 => ⟨S_, .i32⟩
  | 39 => ⟨S8192, .i32⟩
  | 40 => ⟨S8192, .i32⟩
  | 41 => ⟨S8192x1, .i32⟩
  | 42 => ⟨S8192x1, .i32⟩
  | 43 => ⟨S8192x2, .i32⟩
  | 44 => ⟨S8192x256, .f32⟩
  | 45 => ⟨S8192x256, .f32⟩
  | 46 => ⟨S8192x256, .f32⟩
  | 47 => ⟨S8192x256, .f32⟩
  | 48 => ⟨S8192x1x256, .f32⟩
  | 49 => ⟨S8192x256, .f32⟩
  | 50 => ⟨S8192x256, .f32⟩
  | 51 => ⟨S_, .i32⟩
  | 52 => ⟨S8192, .i32⟩
  | 53 => ⟨S8192, .i32⟩
  | 54 => ⟨S_, .i32⟩
  | 55 => ⟨S8192, .i32⟩
  | 56 => ⟨S8192, .i32⟩
  | 57 => ⟨S_, .i32⟩
  | 58 => ⟨S8192, .i32⟩
  | 59 => ⟨S8192, .i32⟩
  | 60 => ⟨S8192, .f32⟩
  | 61 => ⟨S8192x1, .f32⟩
  | 62 => ⟨S8192x1x256, .f32⟩
  | 63 => ⟨S8192x256, .f32⟩
  | 64 => ⟨S_, .i32⟩
  | 65 => ⟨S8192, .i32⟩
  | 66 => ⟨S8192, .i1⟩
  | 67 => ⟨S_, .i32⟩
  | 68 => ⟨S8192, .i32⟩
  | 69 => ⟨S8192, .i32⟩
  | 70 => ⟨S8192, .i32⟩
  | 71 => ⟨S_, .i32⟩
  | 72 => ⟨S8192, .i32⟩
  | 73 => ⟨S8192, .i32⟩
  | 74 => ⟨S8192x1, .i32⟩
  | 75 => ⟨S8192x1, .i32⟩
  | 76 => ⟨S8192x2, .i32⟩
  | 77 => ⟨S8192x256, .f32⟩
  | 78 => ⟨S8192x256, .f32⟩
  | 79 => ⟨S8192x256, .f32⟩
  | 80 => ⟨S8192x256, .f32⟩
  | 81 => ⟨S8192x1x256, .f32⟩
  | 82 => ⟨S8192x256, .f32⟩
  | 83 => ⟨S8192x256, .f32⟩
  | 84 => ⟨S_, .i32⟩
  | 85 => ⟨S8192, .i32⟩
  | 86 => ⟨S8192, .i32⟩
  | 87 => ⟨S_, .i32⟩
  | 88 => ⟨S8192, .i32⟩
  | 89 => ⟨S8192, .i32⟩
  | 90 => ⟨S_, .i32⟩
  | 91 => ⟨S8192, .i32⟩
  | 92 => ⟨S8192, .i32⟩
  | 93 => ⟨S8192, .f32⟩
  | 94 => ⟨S8192x1, .f32⟩
  | 95 => ⟨S8192x1x256, .f32⟩
  | 96 => ⟨S8192x256, .f32⟩
  | 97 => ⟨S_, .i32⟩
  | 98 => ⟨S8192, .i32⟩
  | 99 => ⟨S8192, .i1⟩
  | 100 => ⟨S_, .i32⟩
  | 101 => ⟨S8192, .i32⟩
  | 102 => ⟨S8192, .i32⟩
  | 103 => ⟨S8192, .i32⟩
  | 104 => ⟨S_, .i32⟩
  | 105 => ⟨S8192, .i32⟩
  | 106 => ⟨S8192, .i32⟩
  | 107 => ⟨S8192x1, .i32⟩
  | 108 => ⟨S8192x1, .i32⟩
  | 109 => ⟨S8192x2, .i32⟩
  | 110 => ⟨S8192x256, .f32⟩
  | 111 => ⟨S8192x256, .f32⟩
  | 112 => ⟨S8192x256, .f32⟩
  | 113 => ⟨S8192x256, .f32⟩
  | 114 => ⟨S8192x1x256, .f32⟩
  | 115 => ⟨S8192x256, .f32⟩
  | 116 => ⟨S8192x256, .f32⟩
  | 117 => ⟨S_, .i32⟩
  | 118 => ⟨S8192, .i32⟩
  | 119 => ⟨S8192, .i32⟩
  | 120 => ⟨S_, .i32⟩
  | 121 => ⟨S8192, .i32⟩
  | 122 => ⟨S8192, .i32⟩
  | 123 => ⟨S_, .i32⟩
  | 124 => ⟨S8192, .i32⟩
  | 125 => ⟨S8192, .i32⟩
  | 126 => ⟨S8192, .f32⟩
  | 127 => ⟨S8192x1, .f32⟩
  | _ => ⟨S8192x1024, .bf16⟩

abbrev hbmTy0_1 (i : Nat) : BufTy := match i % 128 with
  | 0 => ⟨S8192x1x256, .f32⟩
  | 1 => ⟨S8192x256, .f32⟩
  | 2 => ⟨S_, .i32⟩
  | 3 => ⟨S8192, .i32⟩
  | 4 => ⟨S8192, .i1⟩
  | 5 => ⟨S_, .i32⟩
  | 6 => ⟨S8192, .i32⟩
  | 7 => ⟨S8192, .i32⟩
  | 8 => ⟨S8192, .i32⟩
  | 9 => ⟨S_, .i32⟩
  | 10 => ⟨S8192, .i32⟩
  | 11 => ⟨S8192, .i32⟩
  | 12 => ⟨S8192x1, .i32⟩
  | 13 => ⟨S8192x1, .i32⟩
  | 14 => ⟨S8192x2, .i32⟩
  | 15 => ⟨S8192x256, .f32⟩
  | 16 => ⟨S8192x256, .f32⟩
  | 17 => ⟨S8192x256, .f32⟩
  | 18 => ⟨S8192x256, .f32⟩
  | 19 => ⟨S8192x1x256, .f32⟩
  | 20 => ⟨S8192x256, .f32⟩
  | 21 => ⟨S8192x256, .f32⟩
  | 22 => ⟨S8192x1x256, .f32⟩
  | 23 => ⟨S8192x1x256, .f32⟩
  | 24 => ⟨S8192x1x256, .f32⟩
  | 25 => ⟨S8192x1x256, .f32⟩
  | 26 => ⟨S8192x4x256, .f32⟩
  | 27 => ⟨S4x256x8192, .f32⟩
  | 28 => ⟨S8192x4x256, .f32⟩
  | 29 => ⟨S8192x1024, .f32⟩
  | 30 => ⟨S8192x1024, .f32⟩
  | 31 => ⟨S8192x1024, .f32⟩
  | 32 => ⟨S8192x1024, .f32⟩
  | 33 => ⟨S8192x1024, .bf16⟩
  | 34 => ⟨S8192x6400, .bf16⟩
  | 35 => ⟨S1x1024, .f32⟩
  | 36 => ⟨S4x256x256, .f32⟩
  | _ => ⟨S8192x1024, .bf16⟩

abbrev hbmTy (i : Nat) : BufTy := match i / 128 with
  | 0 => hbmTy0_0 i
  | 1 => hbmTy0_1 i
  | _ => ⟨S8192x1024, .bf16⟩

abbrev bufTy : (tb : Table) → Fin (tcTables nBuf tb) → BufTy
  | .hbm, ⟨i, _⟩ => hbmTy i
  | .local _ .vmem, ⟨0, _⟩ => ⟨S256x1024, .bf16⟩
  | .local _ .vmem, ⟨1, _⟩ => ⟨S256x1024, .bf16⟩
  | .local _ .vmem, ⟨2, _⟩ => ⟨S16x1024, .bf16⟩
  | .local _ .vmem, ⟨3, _⟩ => ⟨S16x1024, .bf16⟩
  | .local _ .vmem, ⟨4, _⟩ => ⟨S256x1024, .bf16⟩
  | .local _ .vmem, ⟨5, _⟩ => ⟨S256x1024, .bf16⟩
  | .local _ .vmem, ⟨6, _⟩ => ⟨S4x256x256, .bf16⟩
  | .local _ .vmem, ⟨7, _⟩ => ⟨S1x1024, .f32⟩
  | .local _ .vmem, ⟨8, _⟩ => ⟨S256x1024, .bf16⟩
  | .local _ .vmem, ⟨9, _⟩ => ⟨S256x1024, .bf16⟩
  | .local _ .vmem, ⟨10, _⟩ => ⟨S1x1024, .f32⟩
  | .local _ .vmem, ⟨11, _⟩ => ⟨S4x256x256, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_call0_call0_cst : Ref sig .tc := ⟨.hbm, 10, rfl⟩
abbrev main_call0_call0_v0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_c : Ref sig .tc := ⟨.hbm, 15, rfl⟩
abbrev main_v7 : Ref sig .tc := ⟨.hbm, 16, rfl⟩
abbrev main_v8 : Ref sig .tc := ⟨.hbm, 17, rfl⟩
abbrev main_c_0 : Ref sig .tc := ⟨.hbm, 18, rfl⟩
abbrev main_v9 : Ref sig .tc := ⟨.hbm, 19, rfl⟩
abbrev main_v10 : Ref sig .tc := ⟨.hbm, 20, rfl⟩
abbrev main_c_1 : Ref sig .tc := ⟨.hbm, 21, rfl⟩
abbrev main_v11 : Ref sig .tc := ⟨.hbm, 22, rfl⟩
abbrev main_v12 : Ref sig .tc := ⟨.hbm, 23, rfl⟩
abbrev main_c_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_c_3 : Ref sig .tc := ⟨.hbm, 31, rfl⟩
abbrev main_v19 : Ref sig .tc := ⟨.hbm, 32, rfl⟩
abbrev main_v20 : Ref sig .tc := ⟨.hbm, 33, rfl⟩
abbrev main_c_4 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_c_5 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_c_6 : Ref sig .tc := ⟨.hbm, 51, rfl⟩
abbrev main_v36 : Ref sig .tc := ⟨.hbm, 52, rfl⟩
abbrev main_v37 : Ref sig .tc := ⟨.hbm, 53, rfl⟩
abbrev main_c_7 : Ref sig .tc := ⟨.hbm, 54, rfl⟩
abbrev main_v38 : Ref sig .tc := ⟨.hbm, 55, rfl⟩
abbrev main_v39 : Ref sig .tc := ⟨.hbm, 56, rfl⟩
abbrev main_c_8 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_c_9 : Ref sig .tc := ⟨.hbm, 64, rfl⟩
abbrev main_v46 : Ref sig .tc := ⟨.hbm, 65, rfl⟩
abbrev main_v47 : Ref sig .tc := ⟨.hbm, 66, rfl⟩
abbrev main_c_10 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_c_11 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_c_12 : Ref sig .tc := ⟨.hbm, 84, rfl⟩
abbrev main_v63 : Ref sig .tc := ⟨.hbm, 85, rfl⟩
abbrev main_v64 : Ref sig .tc := ⟨.hbm, 86, rfl⟩
abbrev main_c_13 : Ref sig .tc := ⟨.hbm, 87, rfl⟩
abbrev main_v65 : Ref sig .tc := ⟨.hbm, 88, rfl⟩
abbrev main_v66 : Ref sig .tc := ⟨.hbm, 89, rfl⟩
abbrev main_c_14 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_c_15 : Ref sig .tc := ⟨.hbm, 97, rfl⟩
abbrev main_v73 : Ref sig .tc := ⟨.hbm, 98, rfl⟩
abbrev main_v74 : Ref sig .tc := ⟨.hbm, 99, rfl⟩
abbrev main_c_16 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_c_17 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩
abbrev main_v89 : Ref sig .tc := ⟨.hbm, 116, rfl⟩
abbrev main_c_18 : Ref sig .tc := ⟨.hbm, 117, rfl⟩
abbrev main_v90 : Ref sig .tc := ⟨.hbm, 118, rfl⟩
abbrev main_v91 : Ref sig .tc := ⟨.hbm, 119, rfl⟩
abbrev main_c_19 : Ref sig .tc := ⟨.hbm, 120, rfl⟩
abbrev main_v92 : Ref sig .tc := ⟨.hbm, 121, rfl⟩
abbrev main_v93 : Ref sig .tc := ⟨.hbm, 122, rfl⟩
abbrev main_c_20 : Ref sig .tc := ⟨.hbm, 123, rfl⟩
abbrev main_v94 : Ref sig .tc := ⟨.hbm, 124, rfl⟩
abbrev main_v95 : Ref sig .tc := ⟨.hbm, 125, rfl⟩
abbrev main_v96 : Ref sig .tc := ⟨.hbm, 126, rfl⟩
abbrev main_v97 : Ref sig .tc := ⟨.hbm, 127, rfl⟩
abbrev main_v98 : Ref sig .tc := ⟨.hbm, 128, rfl⟩
abbrev main_v99 : Ref sig .tc := ⟨.hbm, 129, rfl⟩
abbrev main_c_21 : Ref sig .tc := ⟨.hbm, 130, rfl⟩
abbrev main_v100 : Ref sig .tc := ⟨.hbm, 131, rfl⟩
abbrev main_v101 : Ref sig .tc := ⟨.hbm, 132, rfl⟩
abbrev main_c_22 : Ref sig .tc := ⟨.hbm, 133, rfl⟩
abbrev main_v102 : Ref sig .tc := ⟨.hbm, 134, rfl⟩
abbrev main_v103 : Ref sig .tc := ⟨.hbm, 135, rfl⟩
abbrev main_v104 : Ref sig .tc := ⟨.hbm, 136, rfl⟩
abbrev main_c_23 : Ref sig .tc := ⟨.hbm, 137, rfl⟩
abbrev main_v105 : Ref sig .tc := ⟨.hbm, 138, rfl⟩
abbrev main_v106 : Ref sig .tc := ⟨.hbm, 139, rfl⟩
abbrev main_v107 : Ref sig .tc := ⟨.hbm, 140, rfl⟩
abbrev main_v108 : Ref sig .tc := ⟨.hbm, 141, rfl⟩
abbrev main_v109 : Ref sig .tc := ⟨.hbm, 142, rfl⟩
abbrev main_v110 : Ref sig .tc := ⟨.hbm, 143, rfl⟩
abbrev main_v111 : Ref sig .tc := ⟨.hbm, 144, rfl⟩
abbrev main_v112 : Ref sig .tc := ⟨.hbm, 145, rfl⟩
abbrev main_v113 : Ref sig .tc := ⟨.hbm, 146, rfl⟩
abbrev main_v114 : Ref sig .tc := ⟨.hbm, 147, rfl⟩
abbrev main_v115 : Ref sig .tc := ⟨.hbm, 148, rfl⟩
abbrev main_v116 : Ref sig .tc := ⟨.hbm, 149, rfl⟩
abbrev main_v117 : Ref sig .tc := ⟨.hbm, 150, rfl⟩
abbrev main_v118 : Ref sig .tc := ⟨.hbm, 151, rfl⟩
abbrev main_v119 : Ref sig .tc := ⟨.hbm, 152, rfl⟩
abbrev main_v120 : Ref sig .tc := ⟨.hbm, 153, rfl⟩
abbrev main_v121 : Ref sig .tc := ⟨.hbm, 154, rfl⟩
abbrev main_v122 : Ref sig .tc := ⟨.hbm, 155, rfl⟩
abbrev main_v123 : Ref sig .tc := ⟨.hbm, 156, rfl⟩
abbrev main_v124 : Ref sig .tc := ⟨.hbm, 157, rfl⟩
abbrev main_v125 : Ref sig .tc := ⟨.hbm, 158, rfl⟩
abbrev main_v126 : Ref sig .tc := ⟨.hbm, 159, rfl⟩
abbrev main_v127 : Ref sig .tc := ⟨.hbm, 160, rfl⟩
abbrev main_v128 : Ref sig .tc := ⟨.hbm, 161, rfl⟩
abbrev main_v129_0 : Ref sig .tc := ⟨.hbm, 162, rfl⟩
abbrev main_v129_1 : Ref sig .tc := ⟨.hbm, 163, rfl⟩
abbrev main_v129_2 : Ref sig .tc := ⟨.hbm, 164, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem7_0 : DmaSem sig := 11

abbrev nD : Nat := 1
abbrev τ : Topo := Topo.v7x

variable {F : FTy → Type} [FloatOps F]

abbrev grid0 : Pipeline.Grid := ⟨1, ![32], ![false]⟩

def k0_cond9 (i : grid0.Coords) : BitVec 1 :=
  let arg0 : BitVec 32 := BitVec.ofNat 32 (i 0).val
  let c0_i32_80 : BitVec 32 := 0#32
  let v166 : BitVec 1 := Scalar.cmpi .eq arg0 c0_i32_80
  let v167 : BitVec 32 := Scalar.extui v166
  let c0_i32_81 : BitVec 32 := 0#32
  let v168 : BitVec 1 := Scalar.cmpi .ne v167 c0_i32_81
  v168

def k0_cond10 (i : grid0.Coords) : BitVec 1 :=
  let arg0 : BitVec 32 := BitVec.ofNat 32 (i 0).val
  let c0_i32_82 : BitVec 32 := 0#32
  let v169 : BitVec 1 := Scalar.cmpi .sgt arg0 c0_i32_82
  let v170 : BitVec 32 := Scalar.extui v169
  let c0_i32_83 : BitVec 32 := 0#32
  let v171 : BitVec 1 := Scalar.cmpi .ne v170 c0_i32_83
  v171

def k0_cond1 (i : grid0.Coords) : BitVec 1 :=
  let arg0 : BitVec 32 := BitVec.ofNat 32 (i 0).val
  let c0_i32 : BitVec 32 := 0#32
  let v39 : BitVec 1 := Scalar.cmpi .eq arg0 c0_i32
  let v40 : BitVec 32 := Scalar.extui v39
  let c0_i32_17 : BitVec 32 := 0#32
  let v41 : BitVec 1 := Scalar.cmpi .ne v40 c0_i32_17
  v41

def k0_cond2 (i : grid0.Coords) : BitVec 1 :=
  let arg0 : BitVec 32 := BitVec.ofNat 32 (i 0).val
  let c0_i32_18 : BitVec 32 := 0#32
  let v42 : BitVec 1 := Scalar.cmpi .sgt arg0 c0_i32_18
  let v43 : BitVec 32 := Scalar.extui v42
  let c0_i32_19 : BitVec 32 := 0#32
  let v44 : BitVec 1 := Scalar.cmpi .ne v43 c0_i32_19
  v44

def k0_cond3 (i : grid0.Coords) : BitVec 1 :=
  let arg0 : BitVec 32 := BitVec.ofNat 32 (i 0).val
  let c0_i32_32 : BitVec 32 := 0#32
  let v71 : BitVec 1 := Scalar.cmpi .eq arg0 c0_i32_32
  let v72 : BitVec 32 := Scalar.extui v71
  let c0_i32_33 : BitVec 32 := 0#32
  let v73 : BitVec 1 := Scalar.cmpi .ne v72 c0_i32_33
  v73

def k0_cond4 (i : grid0.Coords) : BitVec 1 :=
  let arg0 : BitVec 32 := BitVec.ofNat 32 (i 0).val
  let c0_i32_34 : BitVec 32 := 0#32
  let v74 : BitVec 1 := Scalar.cmpi .sgt arg0 c0_i32_34
  let v75 : BitVec 32 := Scalar.extui v74
  let c0_i32_35 : BitVec 32 := 0#32
  let v76 : BitVec 1 := Scalar.cmpi .ne v75 c0_i32_35
  v76

def k0_cond5 (i : grid0.Coords) : BitVec 1 :=
  let arg0 : BitVec 32 := BitVec.ofNat 32 (i 0).val
  let c0_i32_49 : BitVec 32 := 0#32
  let v105 : BitVec 1 := Scalar.cmpi .eq arg0 c0_i32_49
  let v106 : BitVec 32 := Scalar.extui v105
  let c0_i32_50 : BitVec 32 := 0#32
  let v107 : BitVec 1 := Scalar.cmpi .ne v106 c0_i32_50
  v107

def k0_cond6 (i : grid0.Coords) : BitVec 1 :=
  let arg0 : BitVec 32 := BitVec.ofNat 32 (i 0).val
  let c0_i32_51 : BitVec 32 := 0#32
  let v108 : BitVec 1 := Scalar.cmpi .sgt arg0 c0_i32_51
  let v109 : BitVec 32 := Scalar.extui v108
  let c0_i32_52 : BitVec 32 := 0#32
  let v110 : BitVec 1 := Scalar.cmpi .ne v109 c0_i32_52
  v110

def k0_cond7 (i : grid0.Coords) : BitVec 1 :=
  let arg0 : BitVec 32 := BitVec.ofNat 32 (i 0).val
  let c0_i32_67 : BitVec 32 := 0#32
  let v141 : BitVec 1 := Scalar.cmpi .eq arg0 c0_i32_67
  let v142 : BitVec 32 := Scalar.extui v141
  let c0_i32_68 : BitVec 32 := 0#32
  let v143 : BitVec 1 := Scalar.cmpi .ne v142 c0_i32_68
  v143

def k0_cond8 (i : grid0.Coords) : BitVec 1 :=
  let arg0 : BitVec 32 := BitVec.ofNat 32 (i 0).val
  let c0_i32_69 : BitVec 32 := 0#32
  let v144 : BitVec 1 := Scalar.cmpi .sgt arg0 c0_i32_69
  let v145 : BitVec 32 := Scalar.extui v144
  let c0_i32_70 : BitVec 32 := 0#32
  let v146 : BitVec 1 := Scalar.cmpi .ne v145 c0_i32_70
  v146

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let v0 : BitVec 32 := Scalar.addi arg0 c1_i32
  let c16_i32 : BitVec 32 := 16#32
  let v1 : BitVec 32 := Scalar.muli v0 c16_i32
  let c511_i32 : BitVec 32 := 511#32
  let v2 : BitVec 32 := Scalar.minsi v1 c511_i32
  let c0_i32 : BitVec 32 := 0#32
  let c0_i32_0 : BitVec 32 := 0#32
  ![v2.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S4x256x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S4x256x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== RPoolbIdeal.lean ====
abbrev S8192x1024 : Shape := ⟨2, ![8192, 1024]⟩
abbrev S4x256x256 : Shape := ⟨3, ![4, 256, 256]⟩
abbrev S1x1024 : Shape := ⟨2, ![1, 1024]⟩
abbrev S8192x6400 : Shape := ⟨2, ![8192, 6400]⟩
abbrev S8192x4x256 : Shape := ⟨3, ![8192, 4, 256]⟩
abbrev S_ : Shape := ⟨0, ![]⟩
abbrev S1x4x256 : Shape := ⟨3, ![1, 4, 256]⟩
abbrev S8193x4x256 : Shape := ⟨3, ![8193, 4, 256]⟩
abbrev S8192 : Shape := ⟨1, ![8192]⟩
abbrev S8192x1 : Shape := ⟨2, ![8192, 1]⟩
abbrev S8192x1x256 : Shape := ⟨3, ![8192, 1, 256]⟩
abbrev S8192x256 : Shape := ⟨2, ![8192, 256]⟩
abbrev S8192x2 : Shape := ⟨2, ![8192, 2]⟩
abbrev S4x256x8192 : Shape := ⟨3, ![4, 256, 8192]⟩
abbrev S1024 : Shape := ⟨1, ![1024]⟩
abbrev S4x8192x256 : Shape := ⟨3, ![4, 8192, 256]⟩

abbrev nBuf : Space → Nat
  | .hbm => 257
  | .vmem => 0
  | .smem => 0
  | _ => 0

abbrev hbmTy0_0 (i : Nat) : BufTy := match i % 128 with
  | 0 => ⟨S8192x1024, .bf16⟩
  | 1 => ⟨S4x256x256, .bf16⟩
  | 2 => ⟨S1x1024, .f32⟩
  | 3 => ⟨S8192x1024, .bf16⟩
  | 4 => ⟨S8192x6400, .bf16⟩
  | 5 => ⟨S8192x1024, .f32⟩
  | 6 => ⟨S4x256x256, .f32⟩
  | 7 => ⟨S8192x4x256, .f32⟩
  | 8 => ⟨S_, .f32⟩
  | 9 => ⟨S1x4x256, .f32⟩
  | 10 => ⟨S_, .f32⟩
  | 11 => ⟨S_, .f32⟩
  | 12 => ⟨S8192x4x256, .f32⟩
  | 13 => ⟨S8193x4x256, .f32⟩
  | 14 => ⟨S_, .f32⟩
  | 15 => ⟨S1x4x256, .f32⟩
  | 16 => ⟨S8192, .i32⟩
  | 17 => ⟨S_, .i32⟩
  | 18 => ⟨S8192, .i32⟩
  | 19 => ⟨S8192, .i32⟩
  | 20 => ⟨S_, .i32⟩
  | 21 => ⟨S8192, .i32⟩
  | 22 => ⟨S8192, .i32⟩
  | 23 => ⟨S_, .i32⟩
  | 24 => ⟨S8192, .i32⟩
  | 25 => ⟨S8192, .i32⟩
  | 26 => ⟨S_, .i32⟩
  | 27 => ⟨S8192, .i32⟩
  | 28 => ⟨S8192, .i32⟩
  | 29 => ⟨S8192, .f32⟩
  | 30 => ⟨S8192x1, .f32⟩
  | 31 => ⟨S8192x1x256, .f32⟩
  | 32 => ⟨S8192x256, .f32⟩
  | 33 => ⟨S_, .i32⟩
  | 34 => ⟨S8192, .i32⟩
  | 35 => ⟨S8192, .i1⟩
  | 36 => ⟨S_, .i32⟩
  | 37 => ⟨S8192, .i32⟩
  | 38 => ⟨S8192, .i32⟩
  | 39 => ⟨S8192, .i32⟩
  | 40 => ⟨S_, .i32⟩
  | 41 => ⟨S8192, .i32⟩
  | 42 => ⟨S8192, .i32⟩
  | 43 => ⟨S8192x1, .i32⟩
  | 44 => ⟨S8192x1, .i32⟩
  | 45 => ⟨S8192x2, .i32⟩
  | 46 => ⟨S8192x256, .f32⟩
  | 47 => ⟨S8192x256, .f32⟩
  | 48 => ⟨S8192x256, .f32⟩
  | 49 => ⟨S8192x256, .f32⟩
  | 50 => ⟨S8192x1x256, .f32⟩
  | 51 => ⟨S8192x256, .f32⟩
  | 52 => ⟨S8192x256, .f32⟩
  | 53 => ⟨S_, .i32⟩
  | 54 => ⟨S8192, .i32⟩
  | 55 => ⟨S8192, .i32⟩
  | 56 => ⟨S_, .i32⟩
  | 57 => ⟨S8192, .i32⟩
  | 58 => ⟨S8192, .i32⟩
  | 59 => ⟨S_, .i32⟩
  | 60 => ⟨S8192, .i32⟩
  | 61 => ⟨S8192, .i32⟩
  | 62 => ⟨S8192, .f32⟩
  | 63 => ⟨S8192x1, .f32⟩
  | 64 => ⟨S8192x1x256, .f32⟩
  | 65 => ⟨S8192x256, .f32⟩
  | 66 => ⟨S_, .i32⟩
  | 67 => ⟨S8192, .i32⟩
  | 68 => ⟨S8192, .i1⟩
  | 69 => ⟨S_, .i32⟩
  | 70 => ⟨S8192, .i32⟩
  | 71 => ⟨S8192, .i32⟩
  | 72 => ⟨S8192, .i32⟩
  | 73 => ⟨S_, .i32⟩
  | 74 => ⟨S8192, .i32⟩
  | 75 => ⟨S8192, .i32⟩
  | 76 => ⟨S8192x1, .i32⟩
  | 77 => ⟨S8192x1, .i32⟩
  | 78 => ⟨S8192x2, .i32⟩
  | 79 => ⟨S8192x256, .f32⟩
  | 80 => ⟨S8192x256, .f32⟩
  | 81 => ⟨S8192x256, .f32⟩
  | 82 => ⟨S8192x256, .f32⟩
  | 83 => ⟨S8192x1x256, .f32⟩
  | 84 => ⟨S8192x256, .f32⟩
  | 85 => ⟨S8192x256, .f32⟩
  | 86 => ⟨S_, .i32⟩
  | 87 => ⟨S8192, .i32⟩
  | 88 => ⟨S8192, .i32⟩
  | 89 => ⟨S_, .i32⟩
  | 90 => ⟨S8192, .i32⟩
  | 91 => ⟨S8192, .i32⟩
  | 92 => ⟨S_, .i32⟩
  | 93 => ⟨S8192, .i32⟩
  | 94 => ⟨S8192, .i32⟩
  | 95 => ⟨S8192, .f32⟩
  | 96 => ⟨S8192x1, .f32⟩
  | 97 => ⟨S8192x1x256, .f32⟩
  | 98 => ⟨S8192x256, .f32⟩
  | 99 => ⟨S_, .i32⟩
  | 100 => ⟨S8192, .i32⟩
  | 101 => ⟨S8192, .i1⟩
  | 102 => ⟨S_, .i32⟩
  | 103 => ⟨S8192, .i32⟩
  | 104 => ⟨S8192, .i32⟩
  | 105 => ⟨S8192, .i32⟩
  | 106 => ⟨S_, .i32⟩
  | 107 => ⟨S8192, .i32⟩
  | 108 => ⟨S8192, .i32⟩
  | 109 => ⟨S8192x1, .i32⟩
  | 110 => ⟨S8192x1, .i32⟩
  | 111 => ⟨S8192x2, .i32⟩
  | 112 => ⟨S8192x256, .f32⟩
  | 113 => ⟨S8192x256, .f32⟩
  | 114 => ⟨S8192x256, .f32⟩
  | 115 => ⟨S8192x256, .f32⟩
  | 116 => ⟨S8192x1x256, .f32⟩
  | 117 => ⟨S8192x256, .f32⟩
  | 118 => ⟨S8192x256, .f32⟩
  | 119 => ⟨S_, .i32⟩
  | 120 => ⟨S8192, .i32⟩
  | 121 => ⟨S8192, .i32⟩
  | 122 => ⟨S_, .i32⟩
  | 123 => ⟨S8192, .i32⟩
  | 124 => ⟨S8192, .i32⟩
  | 125 => ⟨S_, .i32⟩
  | 126 => ⟨S8192, .i32⟩
  | 127 => ⟨S8192, .i32⟩
  | _ => ⟨S8192x1024, .bf16⟩

abbrev hbmTy0_1 (i : Nat) : BufTy := match i % 128 with
  | 0 => ⟨S8192, .f32⟩
  | 1 => ⟨S8192x1, .f32⟩
  | 2 => ⟨S8192x1x256, .f32⟩
  | 3 => ⟨S8192x256, .f32⟩
  | 4 => ⟨S_, .i32⟩
  | 5 => ⟨S8192, .i32⟩
  | 6 => ⟨S8192, .i1⟩
  | 7 => ⟨S_, .i32⟩
  | 8 => ⟨S8192, .i32⟩
  | 9 => ⟨S8192, .i32⟩
  | 10 => ⟨S8192, .i32⟩
  | 11 => ⟨S_, .i32⟩
  | 12 => ⟨S8192, .i32⟩
  | 13 => ⟨S8192, .i32⟩
  | 14 => ⟨S8192x1, .i32⟩
  | 15 => ⟨S8192x1, .i32⟩
  | 16 => ⟨S8192x2, .i32⟩
  | 17 => ⟨S8192x256, .f32⟩
  | 18 => ⟨S8192x256, .f32⟩
  | 19 => ⟨S8192x256, .f32⟩
  | 20 => ⟨S8192x256, .f32⟩
  | 21 => ⟨S8192x1x256, .f32⟩
  | 22 => ⟨S8192x256, .f32⟩
  | 23 => ⟨S8192x256, .f32⟩
  | 24 => ⟨S8192x1x256, .f32⟩
  | 25 => ⟨S8192x1x256, .f32⟩
  | 26 => ⟨S8192x1x256, .f32⟩
  | 27 => ⟨S8192x1x256, .f32⟩
  | 28 => ⟨S8192x4x256, .f32⟩
  | 29 => ⟨S4x256x8192, .f32⟩
  | 30 => ⟨S8192x4x256, .f32⟩
  | 31 => ⟨S8192x1024, .f32⟩
  | 32 => ⟨S8192x1024, .f32⟩
  | 33 => ⟨S8192x1024, .f32⟩
  | 34 => ⟨S8192x1024, .f32⟩
  | 35 => ⟨S8192x1024, .f32⟩
  | 36 => ⟨S8192x1024, .f32⟩
  | 37 => ⟨S_, .f32⟩
  | 38 => ⟨S1024, .f32⟩
  | 39 => ⟨S1x1024, .f32⟩
  | 40 => ⟨S8192x1024, .f32⟩
  | 41 => ⟨S8192x1024, .f32⟩
  | 42 => ⟨S8192x4x256, .f32⟩
  | 43 => ⟨S4x256x8192, .f32⟩
  | 44 => ⟨S4x8192x256, .f32⟩
  | 45 => ⟨S8192x4x256, .f32⟩
  | 46 => ⟨S4x256x256, .f32⟩
  | 47 => ⟨S4x256x256, .f32⟩
  | 48 => ⟨S8192x1x256, .f32⟩
  | 49 => ⟨S8192x256, .f32⟩
  | 50 => ⟨S8192x1x256, .f32⟩
  | 51 => ⟨S8192x256, .f32⟩
  | 52 => ⟨S8192x1x256, .f32⟩
  | 53 => ⟨S8192x256, .f32⟩
  | 54 => ⟨S8192x1x256, .f32⟩
  | 55 => ⟨S8192x256, .f32⟩
  | 56 => ⟨S8192x256, .f32⟩
  | 57 => ⟨S8192x1x256, .f32⟩
  | 58 => ⟨S_, .f32⟩
  | 59 => ⟨S8192x4x256, .f32⟩
  | 60 => ⟨S8192x256, .f32⟩
  | 61 => ⟨S8192x256, .f32⟩
  | 62 => ⟨S8192x256, .f32⟩
  | 63 => ⟨S_, .f32⟩
  | 64 => ⟨S8193x4x256, .f32⟩
  | 65 => ⟨S8193x4x256, .f32⟩
  | 66 => ⟨S8192x1x256, .f32⟩
  | 67 => ⟨S_, .f32⟩
  | 68 => ⟨S8193x4x256, .f32⟩
  | 69 => ⟨S8193x4x256, .f32⟩
  | 70 => ⟨S8192x256, .f32⟩
  | 71 => ⟨S8192x1x256, .f32⟩
  | 72 => ⟨S_, .f32⟩
  | 73 => ⟨S8192x4x256, .f32⟩
  | 74 => ⟨S8192x4x256, .f32⟩
  | 75 => ⟨S8192x256, .f32⟩
  | 76 => ⟨S8192x256, .f32⟩
  | 77 => ⟨S8192x256, .f32⟩
  | 78 => ⟨S_, .f32⟩
  | 79 => ⟨S8193x4x256, .f32⟩
  | 80 => ⟨S8193x4x256, .f32⟩
  | 81 => ⟨S8193x4x256, .f32⟩
  | 82 => ⟨S8192x1x256, .f32⟩
  | 83 => ⟨S_, .f32⟩
  | 84 => ⟨S8193x4x256, .f32⟩
  | 85 => ⟨S8193x4x256, .f32⟩
  | 86 => ⟨S8192x256, .f32⟩
  | 87 => ⟨S8192x1x256, .f32⟩
  | 88 => ⟨S_, .f32⟩
  | 89 => ⟨S8192x4x256, .f32⟩
  | 90 => ⟨S8192x4x256, .f32⟩
  | 91 => ⟨S8192x256, .f32⟩
  | 92 => ⟨S8192x256, .f32⟩
  | 93 => ⟨S8192x256, .f32⟩
  | 94 => ⟨S_, .f32⟩
  | 95 => ⟨S8193x4x256, .f32⟩
  | 96 => ⟨S8193x4x256, .f32⟩
  | 97 => ⟨S8193x4x256, .f32⟩
  | 98 => ⟨S8192x1x256, .f32⟩
  | 99 => ⟨S_, .f32⟩
  | 100 => ⟨S8193x4x256, .f32⟩
  | 101 => ⟨S8193x4x256, .f32⟩
  | 102 => ⟨S8192x256, .f32⟩
  | 103 => ⟨S8192x1x256, .f32⟩
  | 104 => ⟨S_, .f32⟩
  | 105 => ⟨S8192x4x256, .f32⟩
  | 106 => ⟨S8192x4x256, .f32⟩
  | 107 => ⟨S8192x256, .f32⟩
  | 108 => ⟨S8192x256, .f32⟩
  | 109 => ⟨S8192x256, .f32⟩
  | 110 => ⟨S_, .f32⟩
  | 111 => ⟨S8193x4x256, .f32⟩
  | 112 => ⟨S8193x4x256, .f32⟩
  | 113 => ⟨S8193x4x256, .f32⟩
  | 114 => ⟨S8192x1x256, .f32⟩
  | 115 => ⟨S_, .f32⟩
  | 116 => ⟨S8193x4x256, .f32⟩
  | 117 => ⟨S8193x4x256, .f32⟩
  | 118 => ⟨S1x4x256, .f32⟩
  | 119 => ⟨S8192x4x256, .f32⟩
  | 120 => ⟨S_, .f32⟩
  | 121 => ⟨S_, .f32⟩
  | 122 => ⟨S8192x4x256, .f32⟩
  | 123 => ⟨S8192x4x256, .f32⟩
  | 124 => ⟨S8192x1024, .f32⟩
  | 125 => ⟨S8192x1024, .bf16⟩
  | 126 => ⟨S_, .i32⟩
  | 127 => ⟨S_, .i32⟩
  | _ => ⟨S8192x1024, .bf16⟩

abbrev hbmTy0_2 (i : Nat) : BufTy := match i % 128 with
  | 0 => ⟨S8192x6400, .bf16⟩
  | _ => ⟨S8192x1024, .bf16⟩

abbrev hbmTy (i : Nat) : BufTy := match i / 128 with
  | 0 => hbmTy0_0 i
  | 1 => hbmTy0_1 i
  | 2 => hbmTy0_2 i
  | _ => ⟨S8192x1024, .bf16⟩

abbrev bufTy : (tb : Table) → Fin (tcTables nBuf tb) → BufTy
  | .hbm, ⟨i, _⟩ => hbmTy i
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_call0_call0_cst : Ref sig .tc := ⟨.hbm, 10, rfl⟩
abbrev main_call0_call0_v0 : Ref sig .tc := ⟨.hbm, 11, rfl⟩
abbrev main_v4 : Ref sig .tc := ⟨.hbm, 12, rfl⟩
abbrev main_v5 : Ref sig .tc := ⟨.hbm, 13, rfl⟩
abbrev main_cst_0 : Ref sig .tc := ⟨.hbm, 14, rfl⟩
abbrev main_v6 : Ref sig .tc := ⟨.hbm, 15, rfl⟩
abbrev main_v7 : Ref sig .tc := ⟨.hbm, 16, rfl⟩
abbrev main_c : Ref sig .tc := ⟨.hbm, 17, rfl⟩
abbrev main_v8 : Ref sig .tc := ⟨.hbm, 18, rfl⟩
abbrev main_v9 : Ref sig .tc := ⟨.hbm, 19, rfl⟩
abbrev main_c_1 : Ref sig .tc := ⟨.hbm, 20, rfl⟩
abbrev main_v10 : Ref sig .tc := ⟨.hbm, 21, rfl⟩
abbrev main_v11 : Ref sig .tc := ⟨.hbm, 22, rfl⟩
abbrev main_c_2 : Ref sig .tc := ⟨.hbm, 23, rfl⟩
abbrev main_v12 : Ref sig .tc := ⟨.hbm, 24, rfl⟩
abbrev main_v13 : Ref sig .tc := ⟨.hbm, 25, rfl⟩
abbrev main_c_3 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_c_4 : Ref sig .tc := ⟨.hbm, 33, rfl⟩
abbrev main_v20 : Ref sig .tc := ⟨.hbm, 34, rfl⟩
abbrev main_v21 : Ref sig .tc := ⟨.hbm, 35, rfl⟩
abbrev main_c_5 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_c_6 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_c_7 : Ref sig .tc := ⟨.hbm, 53, rfl⟩
abbrev main_v37 : Ref sig .tc := ⟨.hbm, 54, rfl⟩
abbrev main_v38 : Ref sig .tc := ⟨.hbm, 55, rfl⟩
abbrev main_c_8 : Ref sig .tc := ⟨.hbm, 56, rfl⟩
abbrev main_v39 : Ref sig .tc := ⟨.hbm, 57, rfl⟩
abbrev main_v40 : Ref sig .tc := ⟨.hbm, 58, rfl⟩
abbrev main_c_9 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_c_10 : Ref sig .tc := ⟨.hbm, 66, rfl⟩
abbrev main_v47 : Ref sig .tc := ⟨.hbm, 67, rfl⟩
abbrev main_v48 : Ref sig .tc := ⟨.hbm, 68, rfl⟩
abbrev main_c_11 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_c_12 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_c_13 : Ref sig .tc := ⟨.hbm, 86, rfl⟩
abbrev main_v64 : Ref sig .tc := ⟨.hbm, 87, rfl⟩
abbrev main_v65 : Ref sig .tc := ⟨.hbm, 88, rfl⟩
abbrev main_c_14 : Ref sig .tc := ⟨.hbm, 89, rfl⟩
abbrev main_v66 : Ref sig .tc := ⟨.hbm, 90, rfl⟩
abbrev main_v67 : Ref sig .tc := ⟨.hbm, 91, rfl⟩
abbrev main_c_15 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_c_16 : Ref sig .tc := ⟨.hbm, 99, rfl⟩
abbrev main_v74 : Ref sig .tc := ⟨.hbm, 100, rfl⟩
abbrev main_v75 : Ref sig .tc := ⟨.hbm, 101, rfl⟩
abbrev main_c_17 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_c_18 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_c_19 : Ref sig .tc := ⟨.hbm, 119, rfl⟩
abbrev main_v91 : Ref sig .tc := ⟨.hbm, 120, rfl⟩
abbrev main_v92 : Ref sig .tc := ⟨.hbm, 121, rfl⟩
abbrev main_c_20 : Ref sig .tc := ⟨.hbm, 122, rfl⟩
abbrev main_v93 : Ref sig .tc := ⟨.hbm, 123, rfl⟩
abbrev main_v94 : Ref sig .tc := ⟨.hbm, 124, rfl⟩
abbrev main_c_21 : Ref sig .tc := ⟨.hbm, 125, rfl⟩
abbrev main_v95 : Ref sig .tc := ⟨.hbm, 126, rfl⟩
abbrev main_v96 : Ref sig .tc := ⟨.hbm, 127, rfl⟩
abbrev main_v97 : Ref sig .tc := ⟨.hbm, 128, rfl⟩
abbrev main_v98 : Ref sig .tc := ⟨.hbm, 129, rfl⟩
abbrev main_v99 : Ref sig .tc := ⟨.hbm, 130, rfl⟩
abbrev main_v100 : Ref sig .tc := ⟨.hbm, 131, rfl⟩
abbrev main_c_22 : Ref sig .tc := ⟨.hbm, 132, rfl⟩
abbrev main_v101 : Ref sig .tc := ⟨.hbm, 133, rfl⟩
abbrev main_v102 : Ref sig .tc := ⟨.hbm, 134, rfl⟩
abbrev main_c_23 : Ref sig .tc := ⟨.hbm, 135, rfl⟩
abbrev main_v103 : Ref sig .tc := ⟨.hbm, 136, rfl⟩
abbrev main_v104 : Ref sig .tc := ⟨.hbm, 137, rfl⟩
abbrev main_v105 : Ref sig .tc := ⟨.hbm, 138, rfl⟩
abbrev main_c_24 : Ref sig .tc := ⟨.hbm, 139, rfl⟩
abbrev main_v106 : Ref sig .tc := ⟨.hbm, 140, rfl⟩
abbrev main_v107 : Ref sig .tc := ⟨.hbm, 141, rfl⟩
abbrev main_v108 : Ref sig .tc := ⟨.hbm, 142, rfl⟩
abbrev main_v109 : Ref sig .tc := ⟨.hbm, 143, rfl⟩
abbrev main_v110 : Ref sig .tc := ⟨.hbm, 144, rfl⟩
abbrev main_v111 : Ref sig .tc := ⟨.hbm, 145, rfl⟩
abbrev main_v112 : Ref sig .tc := ⟨.hbm, 146, rfl⟩
abbrev main_v113 : Ref sig .tc := ⟨.hbm, 147, rfl⟩
abbrev main_v114 : Ref sig .tc := ⟨.hbm, 148, rfl⟩
abbrev main_v115 : Ref sig .tc := ⟨.hbm, 149, rfl⟩
abbrev main_v116 : Ref sig .tc := ⟨.hbm, 150, rfl⟩
abbrev main_v117 : Ref sig .tc := ⟨.hbm, 151, rfl⟩
abbrev main_v118 : Ref sig .tc := ⟨.hbm, 152, rfl⟩
abbrev main_v119 : Ref sig .tc := ⟨.hbm, 153, rfl⟩
abbrev main_v120 : Ref sig .tc := ⟨.hbm, 154, rfl⟩
abbrev main_v121 : Ref sig .tc := ⟨.hbm, 155, rfl⟩
abbrev main_v122 : Ref sig .tc := ⟨.hbm, 156, rfl⟩
abbrev main_v123 : Ref sig .tc := ⟨.hbm, 157, rfl⟩
abbrev main_v124 : Ref sig .tc := ⟨.hbm, 158, rfl⟩
abbrev main_v125 : Ref sig .tc := ⟨.hbm, 159, rfl⟩
abbrev main_v126 : Ref sig .tc := ⟨.hbm, 160, rfl⟩
abbrev main_v127 : Ref sig .tc := ⟨.hbm, 161, rfl⟩
abbrev main_v128 : Ref sig .tc := ⟨.hbm, 162, rfl⟩
abbrev main_v129 : Ref sig .tc := ⟨.hbm, 163, rfl⟩
abbrev main_v130 : Ref sig .tc := ⟨.hbm, 164, rfl⟩
abbrev main_cst_25 : Ref sig .tc := ⟨.hbm, 165, rfl⟩
abbrev main_v131 : Ref sig .tc := ⟨.hbm, 166, rfl⟩
abbrev main_v132 : Ref sig .tc := ⟨.hbm, 167, rfl⟩
abbrev main_v133 : Ref sig .tc := ⟨.hbm, 168, rfl⟩
abbrev main_v134 : Ref sig .tc := ⟨.hbm, 169, rfl⟩
abbrev main_v135 : Ref sig .tc := ⟨.hbm, 170, rfl⟩
abbrev main_v136 : Ref sig .tc := ⟨.hbm, 171, rfl⟩
abbrev main_v137 : Ref sig .tc := ⟨.hbm, 172, rfl⟩
abbrev main_v138 : Ref sig .tc := ⟨.hbm, 173, rfl⟩
abbrev main_v139 : Ref sig .tc := ⟨.hbm, 174, rfl⟩
abbrev main_v140 : Ref sig .tc := ⟨.hbm, 175, rfl⟩
abbrev main_v141 : Ref sig .tc := ⟨.hbm, 176, rfl⟩
abbrev main_v142 : Ref sig .tc := ⟨.hbm, 177, rfl⟩
abbrev main_v143 : Ref sig .tc := ⟨.hbm, 178, rfl⟩
abbrev main_v144 : Ref sig .tc := ⟨.hbm, 179, rfl⟩
abbrev main_v145 : Ref sig .tc := ⟨.hbm, 180, rfl⟩
abbrev main_v146 : Ref sig .tc := ⟨.hbm, 181, rfl⟩
abbrev main_v147 : Ref sig .tc := ⟨.hbm, 182, rfl⟩
abbrev main_v148 : Ref sig .tc := ⟨.hbm, 183, rfl⟩
abbrev main_v149 : Ref sig .tc := ⟨.hbm, 184, rfl⟩
abbrev main_v150 : Ref sig .tc := ⟨.hbm, 185, rfl⟩
abbrev main_cst_26 : Ref sig .tc := ⟨.hbm, 186, rfl⟩
abbrev main_v151 : Ref sig .tc := ⟨.hbm, 187, rfl⟩
abbrev main_v152 : Ref sig .tc := ⟨.hbm, 188, rfl⟩
abbrev main_v153 : Ref sig .tc := ⟨.hbm, 189, rfl⟩
abbrev main_v154 : Ref sig .tc := ⟨.hbm, 190, rfl⟩
abbrev main_cst_27 : Ref sig .tc := ⟨.hbm, 191, rfl⟩
abbrev main_v155 : Ref sig .tc := ⟨.hbm, 192, rfl⟩
abbrev main_v156 : Ref sig .tc := ⟨.hbm, 193, rfl⟩
abbrev main_v157 : Ref sig .tc := ⟨.hbm, 194, rfl⟩
abbrev main_cst_28 : Ref sig .tc := ⟨.hbm, 195, rfl⟩
abbrev main_v158 : Ref sig .tc := ⟨.hbm, 196, rfl⟩
abbrev main_v159 : Ref sig .tc := ⟨.hbm, 197, rfl⟩
abbrev main_v160 : Ref sig .tc := ⟨.hbm, 198, rfl⟩
abbrev main_v161 : Ref sig .tc := ⟨.hbm, 199, rfl⟩
abbrev main_cst_29 : Ref sig .tc := ⟨.hbm, 200, rfl⟩
abbrev main_v162 : Ref sig .tc := ⟨.hbm, 201, rfl⟩
abbrev main_v163 : Ref sig .tc := ⟨.hbm, 202, rfl⟩
abbrev main_v164 : Ref sig .tc := ⟨.hbm, 203, rfl⟩
abbrev main_v165 : Ref sig .tc := ⟨.hbm, 204, rfl⟩
abbrev main_v166 : Ref sig .tc := ⟨.hbm, 205, rfl⟩
abbrev main_cst_30 : Ref sig .tc := ⟨.hbm, 206, rfl⟩
abbrev main_v167 : Ref sig .tc := ⟨.hbm, 207, rfl⟩
abbrev main_v168 : Ref sig .tc := ⟨.hbm, 208, rfl⟩
abbrev main_v169 : Ref sig .tc := ⟨.hbm, 209, rfl⟩
abbrev main_v170 : Ref sig .tc := ⟨.hbm, 210, rfl⟩
abbrev main_cst_31 : Ref sig .tc := ⟨.hbm, 211, rfl⟩
abbrev main_v171 : Ref sig .tc := ⟨.hbm, 212, rfl⟩
abbrev main_v172 : Ref sig .tc := ⟨.hbm, 213, rfl⟩
abbrev main_v173 : Ref sig .tc := ⟨.hbm, 214, rfl⟩
abbrev main_v174 : Ref sig .tc := ⟨.hbm, 215, rfl⟩
abbrev main_cst_32 : Ref sig .tc := ⟨.hbm, 216, rfl⟩
abbrev main_v175 : Ref sig .tc := ⟨.hbm, 217, rfl⟩
abbrev main_v176 : Ref sig .tc := ⟨.hbm, 218, rfl⟩
abbrev main_v177 : Ref sig .tc := ⟨.hbm, 219, rfl⟩
abbrev main_v178 : Ref sig .tc := ⟨.hbm, 220, rfl⟩
abbrev main_v179 : Ref sig .tc := ⟨.hbm, 221, rfl⟩
abbrev main_cst_33 : Ref sig .tc := ⟨.hbm, 222, rfl⟩
abbrev main_v180 : Ref sig .tc := ⟨.hbm, 223, rfl⟩
abbrev main_v181 : Ref sig .tc := ⟨.hbm, 224, rfl⟩
abbrev main_v182 : Ref sig .tc := ⟨.hbm, 225, rfl⟩
abbrev main_v183 : Ref sig .tc := ⟨.hbm, 226, rfl⟩
abbrev main_cst_34 : Ref sig .tc := ⟨.hbm, 227, rfl⟩
abbrev main_v184 : Ref sig .tc := ⟨.hbm, 228, rfl⟩
abbrev main_v185 : Ref sig .tc := ⟨.hbm, 229, rfl⟩
abbrev main_v186 : Ref sig .tc := ⟨.hbm, 230, rfl⟩
abbrev main_v187 : Ref sig .tc := ⟨.hbm, 231, rfl⟩
abbrev main_cst_35 : Ref sig .tc := ⟨.hbm, 232, rfl⟩
abbrev main_v188 : Ref sig .tc := ⟨.hbm, 233, rfl⟩
abbrev main_v189 : Ref sig .tc := ⟨.hbm, 234, rfl⟩
abbrev main_v190 : Ref sig .tc := ⟨.hbm, 235, rfl⟩
abbrev main_v191 : Ref sig .tc := ⟨.hbm, 236, rfl⟩
abbrev main_v192 : Ref sig .tc := ⟨.hbm, 237, rfl⟩
abbrev main_cst_36 : Ref sig .tc := ⟨.hbm, 238, rfl⟩
abbrev main_v193 : Ref sig .tc := ⟨.hbm, 239, rfl⟩
abbrev main_v194 : Ref sig .tc := ⟨.hbm, 240, rfl⟩
abbrev main_v195 : Ref sig .tc := ⟨.hbm, 241, rfl⟩
abbrev main_v196 : Ref sig .tc := ⟨.hbm, 242, rfl⟩
abbrev main_cst_37 : Ref sig .tc := ⟨.hbm, 243, rfl⟩
abbrev main_v197 : Ref sig .tc := ⟨.hbm, 244, rfl⟩
abbrev main_v198 : Ref sig .tc := ⟨.hbm, 245, rfl⟩
abbrev main_v199 : Ref sig .tc := ⟨.hbm, 246, rfl⟩
abbrev main_v200 : Ref sig .tc := ⟨.hbm, 247, rfl⟩
abbrev main_call1_call0_cst : Ref sig .tc := ⟨.hbm, 248, rfl⟩
abbrev main_call1_call0_v0 : Ref sig .tc := ⟨.hbm, 249, rfl⟩
abbrev main_v201 : Ref sig .tc := ⟨.hbm, 250, rfl⟩
abbrev main_v202 : Ref sig .tc := ⟨.hbm, 251, rfl⟩
abbrev main_v203 : Ref sig .tc := ⟨.hbm, 252, rfl⟩
abbrev main_v204 : Ref sig .tc := ⟨.hbm, 253, rfl⟩
abbrev main_c_38 : Ref sig .tc := ⟨.hbm, 254, rfl⟩
abbrev main_c_39 : Ref sig .tc := ⟨.hbm, 255, rfl⟩
abbrev main_v205 : Ref sig .tc := ⟨.hbm, 256, rfl⟩

abbrev nD : Nat := 1
abbrev τ : Topo := Topo.v7x

variable {F : FTy → Type} [FloatOps F]
-- ==== KPoolf.lean ====
abbrev S8192x6400 : Shape := ⟨2, ![8192, 6400]⟩
abbrev S4x256x256 : Shape := ⟨3, ![4, 256, 256]⟩
abbrev S1x1024 : Shape := ⟨2, ![1, 1024]⟩
abbrev S8192x1024 : Shape := ⟨2, ![8192, 1024]⟩
abbrev S256x1024 : Shape := ⟨2, ![256, 1024]⟩
abbrev S16x1024 : Shape := ⟨2, ![16, 1024]⟩
abbrev S272x1024 : Shape := ⟨2, ![272, 1024]⟩
abbrev S256x1 : Shape := ⟨2, ![256, 1]⟩
abbrev S256x256 : Shape := ⟨2, ![256, 256]⟩
abbrev S1x256x256 : Shape := ⟨3, ![1, 256, 256]⟩
abbrev S1x256 : Shape := ⟨2, ![1, 256]⟩

abbrev nBuf : Space → Nat
  | .hbm => 5
  | .vmem => 10
  | .smem => 0
  | _ => 0

abbrev bufTy : (tb : Table) → Fin (tcTables nBuf tb) → BufTy
  | .hbm, ⟨0, _⟩ => ⟨S8192x6400, .bf16⟩
  | .hbm, ⟨1, _⟩ => ⟨S4x256x256, .bf16⟩
  | .hbm, ⟨2, _⟩ => ⟨S1x1024, .f32⟩
  | .hbm, ⟨3, _⟩ => ⟨S8192x1024, .bf16⟩
  | .hbm, ⟨4, _⟩ => ⟨S8192x1024, .bf16⟩
  | .local _ .vmem, ⟨0, _⟩ => ⟨S256x1024, .bf16⟩
  | .local _ .vmem, ⟨1, _⟩ => ⟨S256x1024, .bf16⟩
  | .local _ .vmem, ⟨2, _⟩ => ⟨S16x1024, .bf16⟩
  | .local _ .vmem, ⟨3, _⟩ => ⟨S16x1024, .bf16⟩
  | .local _ .vmem, ⟨4, _⟩ => ⟨S4x256x256, .bf16⟩
  | .local _ .vmem, ⟨5, _⟩ => ⟨S1x1024, .f32⟩
  | .local _ .vmem, ⟨6, _⟩ => ⟨S256x1024, .bf16⟩
  | .local _ .vmem, ⟨7, _⟩ => ⟨S256x1024, .bf16⟩
  | .local _ .vmem, ⟨8, _⟩ => ⟨S256x1024, .bf16⟩
  | .local _ .vmem, ⟨9, _⟩ => ⟨S256x1024, .bf16⟩
  | _, _ => ⟨S8192x6400, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_1 (i : grid0.Coords) : Fin 2 → Nat :=
  let arg0 : BitVec 32 := BitVec.ofNat 32 (i 0).val
  let c16_i32 : BitVec 32 := 16#32
  let v0 : BitVec 32 := Scalar.muli arg0 c16_i32
  let c1_i32 : BitVec 32 := 1#32
  let v1 : BitVec 32 := Scalar.subi v0 c1_i32
  let c0_i32 : BitVec 32 := 0#32
  let v2 : BitVec 32 := Scalar.maxsi v1 c0_i32
  let c4_i32 : BitVec 32 := 4#32
  let c0_i32_0 : BitVec 32 := 0#32
  ![v2.toNat, c4_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4x256x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== RPoolfIdeal.lean ====
abbrev S8192x6400 : Shape := ⟨2, ![8192, 6400]⟩
abbrev S4x256x256 : Shape := ⟨3, ![4, 256, 256]⟩
abbrev S1x1024 : Shape := ⟨2, ![1, 1024]⟩
abbrev S8192x1024 : Shape := ⟨2, ![8192, 1024]⟩
abbrev S8192x4x256 : Shape := ⟨3, ![8192, 4, 256]⟩
abbrev S_ : Shape := ⟨0, ![]⟩
abbrev S1x4x256 : Shape := ⟨3, ![1, 4, 256]⟩
abbrev S8193x4x256 : Shape := ⟨3, ![8193, 4, 256]⟩
abbrev S8192 : Shape := ⟨1, ![8192]⟩
abbrev S8192x1 : Shape := ⟨2, ![8192, 1]⟩
abbrev S8192x1x256 : Shape := ⟨3, ![8192, 1, 256]⟩
abbrev S8192x256 : Shape := ⟨2, ![8192, 256]⟩
abbrev S8192x2 : Shape := ⟨2, ![8192, 2]⟩
abbrev S4x256x8192 : Shape := ⟨3, ![4, 256, 8192]⟩

abbrev nBuf : Space → Nat
  | .hbm => 162
  | .vmem => 0
  | .smem => 0
  | _ => 0

abbrev hbmTy0_0 (i : Nat) : BufTy := match i % 128 with
  | 0 => ⟨S8192x6400, .bf16⟩
  | 1 => ⟨S4x256x256, .bf16⟩
  | 2 => ⟨S1x1024, .f32⟩
  | 3 => ⟨S8192x6400, .f32⟩
  | 4 => ⟨S8192x1024, .f32⟩
  | 5 => ⟨S4x256x256, .f32⟩
  | 6 => ⟨S8192x4x256, .f32⟩
  | 7 => ⟨S_, .f32⟩
  | 8 => ⟨S1x4x256, .f32⟩
  | 9 => ⟨S_, .f32⟩
  | 10 => ⟨S_, .f32⟩
  | 11 => ⟨S8192x4x256, .f32⟩
  | 12 => ⟨S8193x4x256, .f32⟩
  | 13 => ⟨S8192, .i32⟩
  | 14 => ⟨S_, .i32⟩
  | 15 => ⟨S8192, .i32⟩
  | 16 => ⟨S8192, .i32⟩
  | 17 => ⟨S_, .i32⟩
  | 18 => ⟨S8192, .i32⟩
  | 19 => ⟨S8192, .i32⟩
  | 20 => ⟨S_, .i32⟩
  | 21 => ⟨S8192, .i32⟩
  | 22 => ⟨S8192, .i32⟩
  | 23 => ⟨S_, .i32⟩
  | 24 => ⟨S8192, .i32⟩
  | 25 => ⟨S8192, .i32⟩
  | 26 => ⟨S8192, .f32⟩
  | 27 => ⟨S8192x1, .f32⟩
  | 28 => ⟨S8192x1x256, .f32⟩
  | 29 => ⟨S8192x256, .f32⟩
  | 30 => ⟨S_, .i32⟩
  | 31 => ⟨S8192, .i32⟩
  | 32 => ⟨S8192, .i1⟩
  | 33 => ⟨S_, .i32⟩
  | 34 => ⟨S8192, .i32⟩
  | 35 => ⟨S8192, .i32⟩
  | 36 => ⟨S8192, .i32⟩
  | 37 => ⟨S_, .i32⟩
  | 38 => ⟨S8192, .i32⟩
  | 39 => ⟨S8192, .i32⟩
  | 40 => ⟨S8192x1, .i32⟩
  | 41 => ⟨S8192x1, .i32⟩
  | 42 => ⟨S8192x2, .i32⟩
  | 43 => ⟨S8192x256, .f32⟩
  | 44 => ⟨S8192x256, .f32⟩
  | 45 => ⟨S8192x256, .f32⟩
  | 46 => ⟨S8192x256, .f32⟩
  | 47 => ⟨S8192x1x256, .f32⟩
  | 48 => ⟨S8192x256, .f32⟩
  | 49 => ⟨S8192x256, .f32⟩
  | 50 => ⟨S_, .i32⟩
  | 51 => ⟨S8192, .i32⟩
  | 52 => ⟨S8192, .i32⟩
  | 53 => ⟨S_, .i32⟩
  | 54 => ⟨S8192, .i32⟩
  | 55 => ⟨S8192, .i32⟩
  | 56 => ⟨S_, .i32⟩
  | 57 => ⟨S8192, .i32⟩
  | 58 => ⟨S8192, .i32⟩
  | 59 => ⟨S8192, .f32⟩
  | 60 => ⟨S8192x1, .f32⟩
  | 61 => ⟨S8192x1x256, .f32⟩
  | 62 => ⟨S8192x256, .f32⟩
  | 63 => ⟨S_, .i32⟩
  | 64 => ⟨S8192, .i32⟩
  | 65 => ⟨S8192, .i1⟩
  | 66 => ⟨S_, .i32⟩
  | 67 => ⟨S8192, .i32⟩
  | 68 => ⟨S8192, .i32⟩
  | 69 => ⟨S8192, .i32⟩
  | 70 => ⟨S_, .i32⟩
  | 71 => ⟨S8192, .i32⟩
  | 72 => ⟨S8192, .i32⟩
  | 73 => ⟨S8192x1, .i32⟩
  | 74 => ⟨S8192x1, .i32⟩
  | 75 => ⟨S8192x2, .i32⟩
  | 76 => ⟨S8192x256, .f32⟩
  | 77 => ⟨S8192x256, .f32⟩
  | 78 => ⟨S8192x256, .f32⟩
  | 79 => ⟨S8192x256, .f32⟩
  | 80 => ⟨S8192x1x256, .f32⟩
  | 81 => ⟨S8192x256, .f32⟩
  | 82 => ⟨S8192x256, .f32⟩
  | 83 => ⟨S_, .i32⟩
  | 84 => ⟨S8192, .i32⟩
  | 85 => ⟨S8192, .i32⟩
  | 86 => ⟨S_, .i32⟩
  | 87 => ⟨S8192, .i32⟩
  | 88 => ⟨S8192, .i32⟩
  | 89 => ⟨S_, .i32⟩
  | 90 => ⟨S8192, .i32⟩
  | 91 => ⟨S8192, .i32⟩
  | 92 => ⟨S8192, .f32⟩
  | 93 => ⟨S8192x1, .f32⟩
  | 94 => ⟨S8192x1x256, .f32⟩
  | 95 => ⟨S8192x256, .f32⟩
  | 96 => ⟨S_, .i32⟩
  | 97 => ⟨S8192, .i32⟩
  | 98 => ⟨S8192, .i1⟩
  | 99 => ⟨S_, .i32⟩
  | 100 => ⟨S8192, .i32⟩
  | 101 => ⟨S8192, .i32⟩
  | 102 => ⟨S8192, .i32⟩
  | 103 => ⟨S_, .i32⟩
  | 104 => ⟨S8192, .i32⟩
  | 105 => ⟨S8192, .i32⟩
  | 106 => ⟨S8192x1, .i32⟩
  | 107 => ⟨S8192x1, .i32⟩
  | 108 => ⟨S8192x2, .i32⟩
  | 109 => ⟨S8192x256, .f32⟩
  | 110 => ⟨S8192x256, .f32⟩
  | 111 => ⟨S8192x256, .f32⟩
  | 112 => ⟨S8192x256, .f32⟩
  | 113 => ⟨S8192x1x256, .f32⟩
  | 114 => ⟨S8192x256, .f32⟩
  | 115 => ⟨S8192x256, .f32⟩
  | 116 => ⟨S_, .i32⟩
  | 117 => ⟨S8192, .i32⟩
  | 118 => ⟨S8192, .i32⟩
  | 119 => ⟨S_, .i32⟩
  | 120 => ⟨S8192, .i32⟩
  | 121 => ⟨S8192, .i32⟩
  | 122 => ⟨S_, .i32⟩
  | 123 => ⟨S8192, .i32⟩
  | 124 => ⟨S8192, .i32⟩
  | 125 => ⟨S8192, .f32⟩
  | 126 => ⟨S8192x1, .f32⟩
  | 127 => ⟨S8192x1x256, .f32⟩
  | _ => ⟨S8192x6400, .bf16⟩

abbrev hbmTy0_1 (i : Nat) : BufTy := match i % 128 with
  | 0 => ⟨S8192x256, .f32⟩
  | 1 => ⟨S_, .i32⟩
  | 2 => ⟨S8192, .i32⟩
  | 3 => ⟨S8192, .i1⟩
  | 4 => ⟨S_, .i32⟩
  | 5 => ⟨S8192, .i32⟩
  | 6 => ⟨S8192, .i32⟩
  | 7 => ⟨S8192, .i32⟩
  | 8 => ⟨S_, .i32⟩
  | 9 => ⟨S8192, .i32⟩
  | 10 => ⟨S8192, .i32⟩
  | 11 => ⟨S8192x1, .i32⟩
  | 12 => ⟨S8192x1, .i32⟩
  | 13 => ⟨S8192x2, .i32⟩
  | 14 => ⟨S8192x256, .f32⟩
  | 15 => ⟨S8192x256, .f32⟩
  | 16 => ⟨S8192x256, .f32⟩
  | 17 => ⟨S8192x256, .f32⟩
  | 18 => ⟨S8192x1x256, .f32⟩
  | 19 => ⟨S8192x256, .f32⟩
  | 20 => ⟨S8192x256, .f32⟩
  | 21 => ⟨S8192x1x256, .f32⟩
  | 22 => ⟨S8192x1x256, .f32⟩
  | 23 => ⟨S8192x1x256, .f32⟩
  | 24 => ⟨S8192x1x256, .f32⟩
  | 25 => ⟨S8192x4x256, .f32⟩
  | 26 => ⟨S4x256x8192, .f32⟩
  | 27 => ⟨S8192x4x256, .f32⟩
  | 28 => ⟨S8192x1024, .f32⟩
  | 29 => ⟨S8192x1024, .f32⟩
  | 30 => ⟨S8192x1024, .f32⟩
  | 31 => ⟨S8192x1024, .f32⟩
  | 32 => ⟨S8192x1024, .bf16⟩
  | 33 => ⟨S8192x1024, .bf16⟩
  | _ => ⟨S8192x6400, .bf16⟩

abbrev hbmTy (i : Nat) : BufTy := match i / 128 with
  | 0 => hbmTy0_0 i
  | 1 => hbmTy0_1 i
  | _ => ⟨S8192x6400, .bf16⟩

abbrev bufTy : (tb : Table) → Fin (tcTables nBuf tb) → BufTy
  | .hbm, ⟨i, _⟩ => hbmTy i
  | _, _ => ⟨S8192x6400, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_call0_call0_cst : Ref sig .tc := ⟨.hbm, 9, rfl⟩
abbrev main_call0_call0_v0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_c : Ref sig .tc := ⟨.hbm, 14, rfl⟩
abbrev main_v8 : Ref sig .tc := ⟨.hbm, 15, rfl⟩
abbrev main_v9 : Ref sig .tc := ⟨.hbm, 16, rfl⟩
abbrev main_c_0 : Ref sig .tc := ⟨.hbm, 17, rfl⟩
abbrev main_v10 : Ref sig .tc := ⟨.hbm, 18, rfl⟩
abbrev main_v11 : Ref sig .tc := ⟨.hbm, 19, rfl⟩
abbrev main_c_1 : Ref sig .tc := ⟨.hbm, 20, rfl⟩
abbrev main_v12 : Ref sig .tc := ⟨.hbm, 21, rfl⟩
abbrev main_v13 : Ref sig .tc := ⟨.hbm, 22, rfl⟩
abbrev main_c_2 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_c_3 : Ref sig .tc := ⟨.hbm, 30, rfl⟩
abbrev main_v20 : Ref sig .tc := ⟨.hbm, 31, rfl⟩
abbrev main_v21 : Ref sig .tc := ⟨.hbm, 32, rfl⟩
abbrev main_c_4 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_c_5 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_c_6 : Ref sig .tc := ⟨.hbm, 50, rfl⟩
abbrev main_v37 : Ref sig .tc := ⟨.hbm, 51, rfl⟩
abbrev main_v38 : Ref sig .tc := ⟨.hbm, 52, rfl⟩
abbrev main_c_7 : Ref sig .tc := ⟨.hbm, 53, rfl⟩
abbrev main_v39 : Ref sig .tc := ⟨.hbm, 54, rfl⟩
abbrev main_v40 : Ref sig .tc := ⟨.hbm, 55, rfl⟩
abbrev main_c_8 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_c_9 : Ref sig .tc := ⟨.hbm, 63, rfl⟩
abbrev main_v47 : Ref sig .tc := ⟨.hbm, 64, rfl⟩
abbrev main_v48 : Ref sig .tc := ⟨.hbm, 65, rfl⟩
abbrev main_c_10 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_c_11 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_c_12 : Ref sig .tc := ⟨.hbm, 83, rfl⟩
abbrev main_v64 : Ref sig .tc := ⟨.hbm, 84, rfl⟩
abbrev main_v65 : Ref sig .tc := ⟨.hbm, 85, rfl⟩
abbrev main_c_13 : Ref sig .tc := ⟨.hbm, 86, rfl⟩
abbrev main_v66 : Ref sig .tc := ⟨.hbm, 87, rfl⟩
abbrev main_v67 : Ref sig .tc := ⟨.hbm, 88, rfl⟩
abbrev main_c_14 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_c_15 : Ref sig .tc := ⟨.hbm, 96, rfl⟩
abbrev main_v74 : Ref sig .tc := ⟨.hbm, 97, rfl⟩
abbrev main_v75 : Ref sig .tc := ⟨.hbm, 98, rfl⟩
abbrev main_c_16 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_c_17 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩
abbrev main_v85 : Ref sig .tc := ⟨.hbm, 110, rfl⟩
abbrev main_v86 : Ref sig .tc := ⟨.hbm, 111, rfl⟩
abbrev main_v87 : Ref sig .tc := ⟨.hbm, 112, rfl⟩
abbrev main_v88 : Ref sig .tc := ⟨.hbm, 113, rfl⟩
abbrev main_v89 : Ref sig .tc := ⟨.hbm, 114, rfl⟩
abbrev main_v90 : Ref sig .tc := ⟨.hbm, 115, rfl⟩
abbrev main_c_18 : Ref sig .tc := ⟨.hbm, 116, rfl⟩
abbrev main_v91 : Ref sig .tc := ⟨.hbm, 117, rfl⟩
abbrev main_v92 : Ref sig .tc := ⟨.hbm, 118, rfl⟩
abbrev main_c_19 : Ref sig .tc := ⟨.hbm, 119, rfl⟩
abbrev main_v93 : Ref sig .tc := ⟨.hbm, 120, rfl⟩
abbrev main_v94 : Ref sig .tc := ⟨.hbm, 121, rfl⟩
abbrev main_c_20 : Ref sig .tc := ⟨.hbm, 122, rfl⟩
abbrev main_v95 : Ref sig .tc := ⟨.hbm, 123, rfl⟩
abbrev main_v96 : Ref sig .tc := ⟨.hbm, 124, rfl⟩
abbrev main_v97 : Ref sig .tc := ⟨.hbm, 125, rfl⟩
abbrev main_v98 : Ref sig .tc := ⟨.hbm, 126, rfl⟩
abbrev main_v99 : Ref sig .tc := ⟨.hbm, 127, rfl⟩
abbrev main_v100 : Ref sig .tc := ⟨.hbm, 128, rfl⟩
abbrev main_c_21 : Ref sig .tc := ⟨.hbm, 129, rfl⟩
abbrev main_v101 : Ref sig .tc := ⟨.hbm, 130, rfl⟩
abbrev main_v102 : Ref sig .tc := ⟨.hbm, 131, rfl⟩
abbrev main_c_22 : Ref sig .tc := ⟨.hbm, 132, rfl⟩
abbrev main_v103 : Ref sig .tc := ⟨.hbm, 133, rfl⟩
abbrev main_v104 : Ref sig .tc := ⟨.hbm, 134, rfl⟩
abbrev main_v105 : Ref sig .tc := ⟨.hbm, 135, rfl⟩
abbrev main_c_23 : Ref sig .tc := ⟨.hbm, 136, rfl⟩
abbrev main_v106 : Ref sig .tc := ⟨.hbm, 137, rfl⟩
abbrev main_v107 : Ref sig .tc := ⟨.hbm, 138, rfl⟩
abbrev main_v108 : Ref sig .tc := ⟨.hbm, 139, rfl⟩
abbrev main_v109 : Ref sig .tc := ⟨.hbm, 140, rfl⟩
abbrev main_v110 : Ref sig .tc := ⟨.hbm, 141, rfl⟩
abbrev main_v111 : Ref sig .tc := ⟨.hbm, 142, rfl⟩
abbrev main_v112 : Ref sig .tc := ⟨.hbm, 143, rfl⟩
abbrev main_v113 : Ref sig .tc := ⟨.hbm, 144, rfl⟩
abbrev main_v114 : Ref sig .tc := ⟨.hbm, 145, rfl⟩
abbrev main_v115 : Ref sig .tc := ⟨.hbm, 146, rfl⟩
abbrev main_v116 : Ref sig .tc := ⟨.hbm, 147, rfl⟩
abbrev main_v117 : Ref sig .tc := ⟨.hbm, 148, rfl⟩
abbrev main_v118 : Ref sig .tc := ⟨.hbm, 149, rfl⟩
abbrev main_v119 : Ref sig .tc := ⟨.hbm, 150, rfl⟩
abbrev main_v120 : Ref sig .tc := ⟨.hbm, 151, rfl⟩
abbrev main_v121 : Ref sig .tc := ⟨.hbm, 152, rfl⟩
abbrev main_v122 : Ref sig .tc := ⟨.hbm, 153, rfl⟩
abbrev main_v123 : Ref sig .tc := ⟨.hbm, 154, rfl⟩
abbrev main_v124 : Ref sig .tc := ⟨.hbm, 155, rfl⟩
abbrev main_v125 : Ref sig .tc := ⟨.hbm, 156, rfl⟩
abbrev main_v126 : Ref sig .tc := ⟨.hbm, 157, rfl⟩
abbrev main_v127 : Ref sig .tc := ⟨.hbm, 158, rfl⟩
abbrev main_v128 : Ref sig .tc := ⟨.hbm, 159, rfl⟩
abbrev main_v129 : Ref sig .tc := ⟨.hbm, 160, rfl⟩
abbrev main_v130 : Ref sig .tc := ⟨.hbm, 161, rfl⟩

abbrev nD : Nat := 1
abbrev τ : Topo := Topo.v7x

variable {F : FTy → Type} [FloatOps F]
-- ==== KAttnf.lean ====
abbrev S8192x6400 : Shape := ⟨2, ![8192, 6400]⟩
abbrev S1x64 : Shape := ⟨2, ![1, 64]⟩
abbrev S1x16 : Shape := ⟨2, ![1, 16]⟩
abbrev S16x128x256 : Shape := ⟨3, ![16, 128, 256]⟩
abbrev S1x1x1x64 : Shape := ⟨4, ![1, 1, 1, 64]⟩
abbrev S1x1x2x64 : Shape := ⟨4, ![1, 1, 2, 64]⟩
abbrev S1x128 : Shape := ⟨2, ![1, 128]⟩
abbrev S16 : Shape := ⟨1, ![16]⟩
abbrev S16x128 : Shape := ⟨2, ![16, 128]⟩
abbrev S2048 : Shape := ⟨1, ![2048]⟩
abbrev S2048x1 : Shape := ⟨2, ![2048, 1]⟩
abbrev S8192x1024 : Shape := ⟨2, ![8192, 1024]⟩
abbrev S128x1024 : Shape := ⟨2, ![128, 1024]⟩
abbrev S128x128 : Shape := ⟨2, ![128, 128]⟩
abbrev S2048x256 : Shape := ⟨2, ![2048, 256]⟩
abbrev S256x128 : Shape := ⟨2, ![256, 128]⟩
abbrev S256 : Shape := ⟨1, ![256]⟩
abbrev S256x1 : Shape := ⟨2, ![256, 1]⟩
abbrev S2048x128 : Shape := ⟨2, ![2048, 128]⟩

abbrev nBuf : Space → Nat
  | .hbm => 16
  | .vmem => 16
  | .smem => 0
  | _ => 0

abbrev bufTy : (tb : Table) → Fin (tcTables nBuf tb) → BufTy
  | .hbm, ⟨0, _⟩ => ⟨S8192x6400, .bf16⟩
  | .hbm, ⟨1, _⟩ => ⟨S1x64, .f32⟩
  | .hbm, ⟨2, _⟩ => ⟨S1x64, .f32⟩
  | .hbm, ⟨3, _⟩ => ⟨S1x16, .f32⟩
  | .hbm, ⟨4, _⟩ => ⟨S16x128x256, .f32⟩
  | .hbm, ⟨5, _⟩ => ⟨S1x1x1x64, .f32⟩
  | .hbm, ⟨6, _⟩ => ⟨S1x1x2x64, .f32⟩
  | .hbm, ⟨7, _⟩ => ⟨S1x128, .f32⟩
  | .hbm, ⟨8, _⟩ => ⟨S1x1x1x64, .f32⟩
  | .hbm, ⟨9, _⟩ => ⟨S1x1x2x64, .f32⟩
  | .hbm, ⟨10, _⟩ => ⟨S1x128, .f32⟩
  | .hbm, ⟨11, _⟩ => ⟨S16, .f32⟩
  | .hbm, ⟨12, _⟩ => ⟨S16x128, .f32⟩
  | .hbm, ⟨13, _⟩ => ⟨S2048, .f32⟩
  | .hbm, ⟨14, _⟩ => ⟨S2048x1, .f32⟩
  | .hbm, ⟨15, _⟩ => ⟨S8192x1024, .bf16⟩
  | .local _ .vmem, ⟨0, _⟩ => ⟨S128x1024, .bf16⟩
  | .local _ .vmem, ⟨1, _⟩ => ⟨S128x1024, .bf16⟩
  | .local _ .vmem, ⟨2, _⟩ => ⟨S128x128, .bf16⟩
  | .local _ .vmem, ⟨3, _⟩ => ⟨S128x128, .bf16⟩
  | .local _ .vmem, ⟨4, _⟩ => ⟨S128x128, .bf16⟩
  | .local _ .vmem, ⟨5, _⟩ => ⟨S128x128, .bf16⟩
  | .local _ .vmem, ⟨6, _⟩ => ⟨S128x128, .bf16⟩
  | .local _ .vmem, ⟨7, _⟩ => ⟨S128x128, .bf16⟩
  | .local _ .vmem, ⟨8, _⟩ => ⟨S128x128, .bf16⟩
  | .local _ .vmem, ⟨9, _⟩ => ⟨S128x128, .bf16⟩
  | .local _ .vmem, ⟨10, _⟩ => ⟨S1x128, .f32⟩
  | .local _ .vmem, ⟨11, _⟩ => ⟨S1x128, .f32⟩
  | .local _ .vmem, ⟨12, _⟩ => ⟨S2048x1, .f32⟩
  | .local _ .vmem, ⟨13, _⟩ => ⟨S16x128x256, .f32⟩
  | .local _ .vmem, ⟨14, _⟩ => ⟨S128x1024, .bf16⟩
  | .local _ .vmem, ⟨15, _⟩ => ⟨S128x1024, .bf16⟩
  | _, _ => ⟨S8192x6400, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c63_i32 : BitVec 32 := 63#32
  let v0 : BitVec 32 := Scalar.minsi arg0 c63_i32
  let c5_i32 : BitVec 32 := 5#32
  let c0_i32 : BitVec 32 := 0#32
  ![v0.toNat, c5_i32.toNat]

def cc0_transform_1 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c63_i32 : BitVec 32 := 63#32
  let v2 : BitVec 32 := Scalar.minsi v1 c63_i32
  let c48_i32 : BitVec 32 := 48#32
  let c0_i32_0 : BitVec 32 := 0#32
  ![v2.toNat, c48_i32.toNat]

def cc0_transform_2 (i : grid0.Coords) : Fin 2 → Nat :=
  let arg0 : BitVec 32 := BitVec.ofNat 32 (i 0).val
  let c63_i32 : BitVec 32 := 63#32
  let v0 : BitVec 32 := Scalar.minsi arg0 c63_i32
  let c48_i32 : BitVec 32 := 48#32
  let c0_i32 : BitVec 32 := 0#32
  ![v0.toNat, c48_i32.toNat]

def cc0_transform_3 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c63_i32 : BitVec 32 := 63#32
  let v2 : BitVec 32 := Scalar.minsi v1 c63_i32
  let c49_i32 : BitVec 32 := 49#32
  let c0_i32_0 : BitVec 32 := 0#32
  ![v2.toNat, c49_i32.toNat]

def cc0_transform_4 (i : grid0.Coords) : Fin 2 → Nat :=
  let arg0 : BitVec 32 := BitVec.ofNat 32 (i 0).val
  let c63_i32 : BitVec 32 := 63#32
  let v0 : BitVec 32 := Scalar.minsi arg0 c63_i32
  let c49_i32 : BitVec 32 := 49#32
  let c0_i32 : BitVec 32 := 0#32
  ![v0.toNat, c49_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2048x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S16x128x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S128x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== KAttnfIdeal.lean ====
variable {F : FTy → Type} [FloatOps F] [Named F]
def κ : String → Option EReal := fun
  | "mask" => some ⊥
  | _ => none
-- ==== RAttnfIdeal.lean ====
abbrev S8192x6400 : Shape := ⟨2, ![8192, 6400]⟩
abbrev S1x64 : Shape := ⟨2, ![1, 64]⟩
abbrev S1x16 : Shape := ⟨2, ![1, 16]⟩
abbrev S16x128x256 : Shape := ⟨3, ![16, 128, 256]⟩
abbrev S8192x1024 : Shape := ⟨2, ![8192, 1024]⟩
abbrev S8192x128 : Shape := ⟨2, ![8192, 128]⟩
abbrev S8192x16x64 : Shape := ⟨3, ![8192, 16, 64]⟩
abbrev S_ : Shape := ⟨0, ![]⟩
abbrev S8192x16 : Shape := ⟨2, ![8192, 16]⟩
abbrev S8192x16x1 : Shape := ⟨3, ![8192, 16, 1]⟩
abbrev S1x1x64 : Shape := ⟨3, ![1, 1, 64]⟩
abbrev S64x128x2x8x64 : Shape := ⟨5, ![64, 128, 2, 8, 64]⟩
abbrev S8192x2x64 : Shape := ⟨3, ![8192, 2, 64]⟩
abbrev S8192x2 : Shape := ⟨2, ![8192, 2]⟩
abbrev S8192x2x1 : Shape := ⟨3, ![8192, 2, 1]⟩
abbrev S64x128x2x64 : Shape := ⟨4, ![64, 128, 2, 64]⟩
abbrev S65x128x2x64 : Shape := ⟨4, ![65, 128, 2, 64]⟩
abbrev S64x256x2x64 : Shape := ⟨4, ![64, 256, 2, 64]⟩
abbrev S64x2x256x128x8 : Shape := ⟨5, ![64, 2, 256, 128, 8]⟩
abbrev S64x2x8x128x256 : Shape := ⟨5, ![64, 2, 8, 128, 256]⟩
abbrev S2x8x128x256 : Shape := ⟨4, ![2, 8, 128, 256]⟩
abbrev S1x2x8x128x256 : Shape := ⟨5, ![1, 2, 8, 128, 256]⟩
abbrev S64 : Shape := ⟨1, ![64]⟩
abbrev S64x1x1 : Shape := ⟨3, ![64, 1, 1]⟩
abbrev S256 : Shape := ⟨1, ![256]⟩
abbrev S1x1x256 : Shape := ⟨3, ![1, 1, 256]⟩
abbrev S64x1x256 : Shape := ⟨3, ![64, 1, 256]⟩
abbrev S128 : Shape := ⟨1, ![128]⟩
abbrev S1x128x1 : Shape := ⟨3, ![1, 128, 1]⟩
abbrev S64x128x1 : Shape := ⟨3, ![64, 128, 1]⟩
abbrev S64x128x256 : Shape := ⟨3, ![64, 128, 256]⟩
abbrev S64x1x1x128x256 : Shape := ⟨5, ![64, 1, 1, 128, 256]⟩
abbrev S1x2x8x1x1 : Shape := ⟨5, ![1, 2, 8, 1, 1]⟩
abbrev S64x2x8x128x1 : Shape := ⟨5, ![64, 2, 8, 128, 1]⟩
abbrev S64x2x8x128x257 : Shape := ⟨5, ![64, 2, 8, 128, 257]⟩
abbrev S64x2x8x128 : Shape := ⟨4, ![64, 2, 8, 128]⟩
abbrev S64x2x64x8x128 : Shape := ⟨5, ![64, 2, 64, 8, 128]⟩

abbrev nBuf : Space → Nat
  | .hbm => 132
  | .vmem => 0
  | .smem => 0
  | _ => 0

abbrev hbmTy0_0 (i : Nat) : BufTy := match i % 128 with
  | 0 => ⟨S8192x6400, .bf16⟩
  | 1 => ⟨S1x64, .f32⟩
  | 2 => ⟨S1x64, .f32⟩
  | 3 => ⟨S1x16, .f32⟩
  | 4 => ⟨S16x128x256, .f32⟩
  | 5 => ⟨S8192x6400, .f32⟩
  | 6 => ⟨S8192x1024, .f32⟩
  | 7 => ⟨S8192x6400, .f32⟩
  | 8 => ⟨S8192x128, .f32⟩
  | 9 => ⟨S8192x6400, .f32⟩
  | 10 => ⟨S8192x128, .f32⟩
  | 11 => ⟨S8192x16x64, .f32⟩
  | 12 => ⟨S8192x16x64, .f32⟩
  | 13 => ⟨S_, .f32⟩
  | 14 => ⟨S8192x16, .f32⟩
  | 15 => ⟨S8192x16x1, .f32⟩
  | 16 => ⟨S_, .f32⟩
  | 17 => ⟨S8192x16x1, .f32⟩
  | 18 => ⟨S8192x16x1, .f32⟩
  | 19 => ⟨S_, .f32⟩
  | 20 => ⟨S8192x16x1, .f32⟩
  | 21 => ⟨S8192x16x1, .f32⟩
  | 22 => ⟨S8192x16x1, .f32⟩
  | 23 => ⟨S8192x16x64, .f32⟩
  | 24 => ⟨S8192x16x64, .f32⟩
  | 25 => ⟨S1x1x64, .f32⟩
  | 26 => ⟨S8192x16x64, .f32⟩
  | 27 => ⟨S8192x16x64, .f32⟩
  | 28 => ⟨S64x128x2x8x64, .f32⟩
  | 29 => ⟨S8192x2x64, .f32⟩
  | 30 => ⟨S8192x2x64, .f32⟩
  | 31 => ⟨S_, .f32⟩
  | 32 => ⟨S8192x2, .f32⟩
  | 33 => ⟨S8192x2x1, .f32⟩
  | 34 => ⟨S_, .f32⟩
  | 35 => ⟨S8192x2x1, .f32⟩
  | 36 => ⟨S8192x2x1, .f32⟩
  | 37 => ⟨S_, .f32⟩
  | 38 => ⟨S8192x2x1, .f32⟩
  | 39 => ⟨S8192x2x1, .f32⟩
  | 40 => ⟨S8192x2x1, .f32⟩
  | 41 => ⟨S8192x2x64, .f32⟩
  | 42 => ⟨S8192x2x64, .f32⟩
  | 43 => ⟨S1x1x64, .f32⟩
  | 44 => ⟨S8192x2x64, .f32⟩
  | 45 => ⟨S8192x2x64, .f32⟩
  | 46 => ⟨S64x128x2x64, .f32⟩
  | 47 => ⟨S_, .i32⟩
  | 48 => ⟨S_, .f32⟩
  | 49 => ⟨S65x128x2x64, .f32⟩
  | 50 => ⟨S64x128x2x64, .f32⟩
  | 51 => ⟨S64x256x2x64, .f32⟩
  | 52 => ⟨S8192x2x64, .f32⟩
  | 53 => ⟨S64x128x2x64, .f32⟩
  | 54 => ⟨S_, .i32⟩
  | 55 => ⟨S_, .f32⟩
  | 56 => ⟨S65x128x2x64, .f32⟩
  | 57 => ⟨S64x128x2x64, .f32⟩
  | 58 => ⟨S64x256x2x64, .f32⟩
  | 59 => ⟨S64x2x256x128x8, .f32⟩
  | 60 => ⟨S64x2x8x128x256, .f32⟩
  | 61 => ⟨S_, .f32⟩
  | 62 => ⟨S64x2x8x128x256, .f32⟩
  | 63 => ⟨S64x2x8x128x256, .f32⟩
  | 64 => ⟨S2x8x128x256, .f32⟩
  | 65 => ⟨S1x2x8x128x256, .f32⟩
  | 66 => ⟨S64x2x8x128x256, .f32⟩
  | 67 => ⟨S64x2x8x128x256, .f32⟩
  | 68 => ⟨S64, .i32⟩
  | 69 => ⟨S64x1x1, .i32⟩
  | 70 => ⟨S_, .i32⟩
  | 71 => ⟨S64x1x1, .i32⟩
  | 72 => ⟨S64x1x1, .i32⟩
  | 73 => ⟨S_, .i32⟩
  | 74 => ⟨S64x1x1, .i32⟩
  | 75 => ⟨S64x1x1, .i32⟩
  | 76 => ⟨S256, .i32⟩
  | 77 => ⟨S1x1x256, .i32⟩
  | 78 => ⟨S64x1x256, .i32⟩
  | 79 => ⟨S64x1x256, .i32⟩
  | 80 => ⟨S64x1x256, .i32⟩
  | 81 => ⟨S_, .i32⟩
  | 82 => ⟨S64x1x1, .i32⟩
  | 83 => ⟨S64x1x1, .i32⟩
  | 84 => ⟨S128, .i32⟩
  | 85 => ⟨S1x128x1, .i32⟩
  | 86 => ⟨S64x128x1, .i32⟩
  | 87 => ⟨S64x128x1, .i32⟩
  | 88 => ⟨S64x128x1, .i32⟩
  | 89 => ⟨S64x128x256, .i32⟩
  | 90 => ⟨S64x128x256, .i32⟩
  | 91 => ⟨S64x128x256, .i32⟩
  | 92 => ⟨S_, .i32⟩
  | 93 => ⟨S64x128x256, .i32⟩
  | 94 => ⟨S64x128x256, .i1⟩
  | 95 => ⟨S_, .i32⟩
  | 96 => ⟨S64x128x256, .i32⟩
  | 97 => ⟨S64x128x256, .i1⟩
  | 98 => ⟨S64x128x256, .i1⟩
  | 99 => ⟨S_, .i32⟩
  | 100 => ⟨S64x1x256, .i32⟩
  | 101 => ⟨S64x1x256, .i1⟩
  | 102 => ⟨S64x128x256, .i1⟩
  | 103 => ⟨S64x128x256, .i1⟩
  | 104 => ⟨S64x1x1x128x256, .i1⟩
  | 105 => ⟨S_, .f32⟩
  | 106 => ⟨S_, .f32⟩
  | 107 => ⟨S64x2x8x128x256, .i1⟩
  | 108 => ⟨S64x2x8x128x256, .f32⟩
  | 109 => ⟨S64x2x8x128x256, .f32⟩
  | 110 => ⟨S1x2x8x1x1, .f32⟩
  | 111 => ⟨S64x2x8x128x1, .f32⟩
  | 112 => ⟨S64x2x8x128x257, .f32⟩
  | 113 => ⟨S_, .f32⟩
  | 114 => ⟨S64x2x8x128, .f32⟩
  | 115 => ⟨S_, .f32⟩
  | 116 => ⟨S64x2x8x128, .f32⟩
  | 117 => ⟨S64x2x8x128, .f32⟩
  | 118 => ⟨S64x2x8x128x1, .f32⟩
  | 119 => ⟨S64x2x8x128x257, .f32⟩
  | 120 => ⟨S64x2x8x128x257, .f32⟩
  | 121 => ⟨S64x2x8x128x257, .f32⟩
  | 122 => ⟨S_, .f32⟩
  | 123 => ⟨S64x2x8x128, .f32⟩
  | 124 => ⟨S64x2x8x128x1, .f32⟩
  | 125 => ⟨S64x2x8x128x257, .f32⟩
  | 126 => ⟨S64x2x8x128x257, .f32⟩
  | 127 => ⟨S64x2x8x128x256, .f32⟩
  | _ => ⟨S8192x6400, .bf16⟩

abbrev hbmTy0_1 (i : Nat) : BufTy := match i % 128 with
  | 0 => ⟨S64x2x64x8x128, .f32⟩
  | 1 => ⟨S64x128x2x8x64, .f32⟩
  | 2 => ⟨S8192x1024, .f32⟩
  | 3 => ⟨S8192x1024, .bf16⟩
  | _ => ⟨S8192x6400, .bf16⟩

abbrev hbmTy (i : Nat) : BufTy := match i / 128 with
  | 0 => hbmTy0_0 i
  | 1 => hbmTy0_1 i
  | _ => ⟨S8192x6400, .bf16⟩

abbrev bufTy : (tb : Table) → Fin (tcTables nBuf tb) → BufTy
  | .hbm, ⟨i, _⟩ => hbmTy i
  | _, _ => ⟨S8192x6400, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_v9 : Ref sig .tc := ⟨.hbm, 15, rfl⟩
abbrev main_cst_0 : Ref sig .tc := ⟨.hbm, 16, rfl⟩
abbrev main_v10 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_cst_2 : Ref sig .tc := ⟨.hbm, 31, rfl⟩
abbrev main_v23 : Ref sig .tc := ⟨.hbm, 32, rfl⟩
abbrev main_v24 : Ref sig .tc := ⟨.hbm, 33, rfl⟩
abbrev main_cst_3 : Ref sig .tc := ⟨.hbm, 34, rfl⟩
abbrev main_v25 : Ref sig .tc := ⟨.hbm, 35, rfl⟩
abbrev main_v26 : Ref sig .tc := ⟨.hbm, 36, rfl⟩
abbrev main_cst_4 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_c : Ref sig .tc := ⟨.hbm, 47, rfl⟩
abbrev main_call0_v0 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_c_5 : Ref sig .tc := ⟨.hbm, 54, rfl⟩
abbrev main_call1_v0 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_cst_6 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_c_7 : Ref sig .tc := ⟨.hbm, 70, rfl⟩
abbrev main_v54 : Ref sig .tc := ⟨.hbm, 71, rfl⟩
abbrev main_v55 : Ref sig .tc := ⟨.hbm, 72, rfl⟩
abbrev main_c_8 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_c_9 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_c_10 : Ref sig .tc := ⟨.hbm, 92, rfl⟩
abbrev main_v73 : Ref sig .tc := ⟨.hbm, 93, rfl⟩
abbrev main_v74 : Ref sig .tc := ⟨.hbm, 94, rfl⟩
abbrev main_c_11 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_c_12 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩
abbrev main_v81 : Ref sig .tc := ⟨.hbm, 103, rfl⟩
abbrev main_v82 : Ref sig .tc := ⟨.hbm, 104, rfl⟩
abbrev main_cst_13 : Ref sig .tc := ⟨.hbm, 105, rfl⟩
abbrev main_call2_v0 : Ref sig .tc := ⟨.hbm, 106, rfl⟩
abbrev main_call2_v1 : Ref sig .tc := ⟨.hbm, 107, rfl⟩
abbrev main_call2_v2 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_cst_14 : Ref sig .tc := ⟨.hbm, 113, rfl⟩
abbrev main_v87 : Ref sig .tc := ⟨.hbm, 114, rfl⟩
abbrev main_cst_15 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_v91 : Ref sig .tc := ⟨.hbm, 119, rfl⟩
abbrev main_v92 : Ref sig .tc := ⟨.hbm, 120, rfl⟩
abbrev main_v93 : Ref sig .tc := ⟨.hbm, 121, rfl⟩
abbrev main_cst_16 : Ref sig .tc := ⟨.hbm, 122, rfl⟩
abbrev main_v94 : Ref sig .tc := ⟨.hbm, 123, rfl⟩
abbrev main_v95 : Ref sig .tc := ⟨.hbm, 124, rfl⟩
abbrev main_v96 : Ref sig .tc := ⟨.hbm, 125, rfl⟩
abbrev main_v97 : Ref sig .tc := ⟨.hbm, 126, rfl⟩
abbrev main_v98 : Ref sig .tc := ⟨.hbm, 127, rfl⟩
abbrev main_v99 : Ref sig .tc := ⟨.hbm, 128, rfl⟩
abbrev main_v100 : Ref sig .tc := ⟨.hbm, 129, rfl⟩
abbrev main_v101 : Ref sig .tc := ⟨.hbm, 130, rfl⟩
abbrev main_v102 : Ref sig .tc := ⟨.hbm, 131, rfl⟩

abbrev nD : Nat := 1
abbrev τ : Topo := Topo.v7x

variable {F : FTy → Type} [FloatOps F]
-- ==== Proof.Finite.lean ====
/-
  Real values among the extended reals: what a finiteness precondition says of an array, and what stays real.
-/
module

public import Idealize.ShloMosaic.Lib.Pipeline.ValueKit
public import Idealize.ShloMosaic.Lib.Pointwise
public import Idealize.ShloMosaic.Lib.ReduceAll

@[expose] public section

noncomputable section

namespace Cert.Proof

open Idealize.ShloMosaic
open scoped BigOperators

/-- The extended real is a real number. -/
def IsReal (x : EReal) : Prop := ∃ r : ℝ, x = (r : EReal)

theorem IsReal.coe (r : ℝ) : IsReal (r : EReal) := ⟨r, rfl⟩

theorem IsReal.zero : IsReal 0 := ⟨0, rfl⟩

theorem IsReal.one : IsReal 1 := ⟨1, rfl⟩

theorem IsReal.add {x y : EReal} (hx : IsReal x) (hy : IsReal y) : IsReal (x + y) := by
  obtain ⟨a, rfl⟩ := hx
  obtain ⟨b, rfl⟩ := hy
  exact ⟨a + b, (EReal.coe_add a b).symm⟩

theorem IsReal.sub {x y : EReal} (hx : IsReal x) (hy : IsReal y) : IsReal (x - y) := by
  obtain ⟨a, rfl⟩ := hx
  obtain ⟨b, rfl⟩ := hy
  exact ⟨a - b, (EReal.coe_sub a b).symm⟩

theorem IsReal.mul {x y : EReal} (hx : IsReal x) (hy : IsReal y) : IsReal (x * y) := by
  obtain ⟨a, rfl⟩ := hx
  obtain ⟨b, rfl⟩ := hy
  exact ⟨a * b, (EReal.coe_mul a b).symm⟩

theorem IsReal.sum {ι : Type} (s : Finset ι) {f : ι → EReal} (h : ∀ i ∈ s, IsReal (f i)) : IsReal (∑ i ∈ s, f i) :=
  Finset.sum_induction f IsReal (fun _ _ => IsReal.add) IsReal.zero h

/-- A value whose magnitude is less than `⊤` is real. -/
theorem IsReal.of_abs_lt {x : EReal} (h : max x (-x) < ⊤) : IsReal x := by
  induction x using EReal.rec with
  | bot => simp at h
  | coe r => exact ⟨r, rfl⟩
  | top => simp at h

/-- `jnp.all(jnp.abs(x) < jnp.inf)`: every element of `x` is real. -/
theorem IsReal.of_all {s t u : Shape} {axes : List (Fin s.rank)} [Subsingleton t.Idx] (x y : FVec Ideal s .f32)
    (hy : ∀ i, y i = (⊤ : EReal)) (init : u.Idx → BitVec 1) (h : s.ReducesTo axes t) (hu : 0 < u.numel) (j : t.Idx)
    (e : Host.reduce IntOp.andi (cmpf .olt (Host.absf x) y) init h hu j = 1#1) (i : s.Idx) : IsReal (x i) := by
  have h1 := Host.reduce_andi_all _ init h hu j e i
  refine IsReal.of_abs_lt ?_
  have h2 : Ideal.cmp .olt (max (x i) (-(x i))) (y i) = 1#1 := h1
  rw [hy i] at h2
  by_contra hn
  simp [Ideal.cmp, hn] at h2

/-- The pattern of `jnp.inf` denotes `⊤`. -/
theorem ofBits_inf : Ideal.ofBits .f32 0x7F800000#32 = (⊤ : EReal) := by
  simp [Ideal.ofBits, Ideal.ieee]

/-- The logistic function at a real is real. -/
theorem IsReal.sigmoid {x : EReal} (hx : IsReal x) : IsReal (Ideal.div 1 (1 + Ideal.exp (-x))) := by
  obtain ⟨r, rfl⟩ := hx
  have hp : (1 + Real.exp (-r)) ≠ 0 := by positivity
  have h1 : (1 : EReal) + Ideal.exp (-(r : EReal)) = ((1 + Real.exp (-r) : ℝ) : EReal) := by
    rw [← EReal.coe_neg]; exact (EReal.coe_add 1 _).symm
  rw [h1, Ideal.div_coe hp, one_mul]
  exact ⟨_, rfl⟩

/-- Two flags hold where their conjunction does. -/
theorem and_eq_one (a b : BitVec 1) (h : IntOp.andi a b = 1#1) : a = 1#1 ∧ b = 1#1 := by
  revert a b
  decide

end Cert.Proof

end
-- ==== Proof.Dgu.lean ====
/-
  The gradient of the SwiGLU's gate and value through the down projection (`ffn_dgu`): each point computes one tile of
  the down projection's cotangent and multiplies it by the gate's and the value's derivatives.
-/
module

public import proofs.«01_k».proof.Proof.Finite
public import proofs.«01_k».proof.Pre_finite_dgu
public import proofs.«01_k».proof.Proof.Gen.KDguIdeal.Value
public import proofs.«01_k».proof.Proof.Gen.RDguIdeal.Read

@[expose] public section

noncomputable section

namespace Cert.Proof.Dgu

open Cert.KDguIdeal Cert.KDguIdeal.Gen Idealize.ShloMosaic Idealize.ShloMosaic.TcCoe Idealize.SL.Sem
open Idealize.ShloMosaic.Pipeline (Dat Cfg Window)
open scoped BigOperators

variable (m : (ℓ : Loc nD τ sig) → Buf (Elt Ideal) ℓ)

/-- The logistic function. -/
def sg (g : EReal) : EReal := Ideal.div 1 (1 + Ideal.exp (-g))

theorem sg_top : sg ⊤ = 1 := by
  have h : Ideal.exp (-⊤) = 0 := by rw [EReal.neg_top]; rfl
  rw [sg, h, add_zero, show (1 : EReal) = ((1 : ℝ) : EReal) from rfl, Ideal.div_coe one_ne_zero]
  norm_num

theorem sg_bot : sg ⊥ = 0 := by
  have h : Ideal.exp (-⊥) = ⊤ := by rw [EReal.neg_bot]; rfl
  rw [sg, h, EReal.add_top_of_ne_bot (by decide)]
  simp [Ideal.div]

/-- The two spellings of the gate's derivative agree where the factor before it is real. -/
theorem silu_bwd {b : EReal} (hb : IsReal b) (g : EReal) :
    b * (sg g * (1 + g * (1 - sg g))) = b * sg g + g * b * (sg g * (1 - sg g)) := by
  obtain ⟨b, rfl⟩ := hb
  induction g using EReal.rec with
  | bot => simp [sg_bot]
  | coe r =>
    obtain ⟨s, hs⟩ := IsReal.sigmoid (IsReal.coe r)
    rw [show sg (r : EReal) = (s : EReal) from hs, show (1 : EReal) = ((1 : ℝ) : EReal) from rfl]
    simp only [← EReal.coe_sub, ← EReal.coe_mul, ← EReal.coe_add]
    congr 1
    ring
  | top =>
    have h : (1 : EReal) - 1 = 0 := by
      rw [show (1 : EReal) = ((1 : ℝ) : EReal) from rfl, ← EReal.coe_sub, sub_self]; rfl
    simp [sg_top, h]

theorem idx0 : ∀ t : Fin cfg0.N, win0_0.index t = ![t.val % 8, 0] := (by decide +kernel : ∀ t : Fin grid0.N, _)
theorem idx1 : ∀ t : Fin cfg0.N, win0_1.index t = ![t.val / 8, 0] := (by decide +kernel : ∀ t : Fin grid0.N, _)
theorem idx2 : ∀ t : Fin cfg0.N, win0_2.index t = ![t.val % 8, t.val / 8] := (by decide +kernel : ∀ t : Fin grid0.N, _)
theorem idx3 : ∀ t : Fin cfg0.N, win0_3.index t = ![t.val % 8, t.val / 8] := (by decide +kernel : ∀ t : Fin grid0.N, _)
theorem idx5 : ∀ t : Fin cfg0.N, win0_5.index t = ![t.val % 8, t.val / 8] := (by decide +kernel : ∀ t : Fin grid0.N, _)
theorem idx6 : ∀ t : Fin cfg0.N, win0_6.index t = ![t.val % 8, t.val / 8] := (by decide +kernel : ∀ t : Fin grid0.N, _)

/-- A tile of the down projection's cotangent. -/
def down (x : FVec Ideal S1024x2048 .bf16) (w : FVec Ideal S1408x2048 .bf16) (j : S1024x1408.Idx) : EReal :=
  ∑ k : Fin 2048, x (ix2 (j 0) k) * w (ix2 (j 1) k)

theorem pay1_apply (x : Vec Ideal S1024x2048 .bf16) (w : Vec Ideal S1408x2048 .bf16) (j : S1024x1408.Idx) :
    k0_pay1 x w j = down x w j := by
  pointwise [k0_pay1, down]

theorem pay3_apply (g : FVec Ideal S1024x1408 .bf16) (j : S1024x1408.Idx) : k0_pay3 (F := Ideal) g j = sg (g j) := by
  pointwise [k0_pay3, k0_pay2, sg]
  rw [zero_sub]

theorem pay4_apply (x : Vec Ideal S1024x2048 .bf16) (w : Vec Ideal S1408x2048 .bf16) (g u : FVec Ideal S1024x1408 .bf16)
    (j : S1024x1408.Idx) :
    k0_pay4 (F := Ideal) x w g u j = down x w j * u j * (sg (g j) * (1 + g j * (1 - sg (g j)))) := by
  rw [← pay1_apply, ← pay3_apply]
  pointwise [k0_pay4, k0_pay2]

theorem pay5_apply (x : Vec Ideal S1024x2048 .bf16) (w : Vec Ideal S1408x2048 .bf16) (g : FVec Ideal S1024x1408 .bf16)
    (j : S1024x1408.Idx) : k0_pay5 (F := Ideal) x w g j = down x w j * (g j * sg (g j)) := by
  rw [← pay1_apply, ← pay3_apply]
  pointwise [k0_pay5, k0_pay2]

section Reference

open Cert.RDguIdeal.Read

variable (x : FVec Ideal Cert.RDguIdeal.S8192x2048 .bf16) (w : FVec Ideal Cert.RDguIdeal.S5632x2048 .bf16)
  (g u : FVec Ideal Cert.RDguIdeal.S8192x5632 .bf16)

/-- The down projection's cotangent, whole. -/
def whole (i : Cert.RDguIdeal.S8192x5632.Idx) : EReal := ∑ k : Fin 2048, x (ix2 (i 0) k) * w (ix2 (i 1) k)

theorem v7_apply (i : Cert.RDguIdeal.S8192x5632.Idx) : val_main_v7 (F := Ideal) x w i = whole x w i := by
  pointwise [val_main_v7, val_main_v4, val_main_v6, whole]

theorem sigmoid_apply (i : Cert.RDguIdeal.S8192x5632.Idx) : val_main_v2_2 (F := Ideal) g i = sg (g i) := by
  pointwise [val_main_v2_2, val_main_call0_v4, val_main_call0_cst_0, val_main_call0_v3, val_main_call0_v2, val_main_call0_cst,
    val_main_call0_v1, val_main_call0_v0, val_main_v0, sg]

theorem ref_du (i : Cert.RDguIdeal.S8192x5632.Idx) :
    val_main_v12 (F := Ideal) x w g i = g i * sg (g i) * whole x w i := by
  rw [← v7_apply, ← sigmoid_apply]
  pointwise [val_main_v12, val_main_v8, val_main_v2_0, val_main_v0]

theorem ref_dg (i : Cert.RDguIdeal.S8192x5632.Idx) :
    val_main_v11 (F := Ideal) x w g u i
      = whole x w i * u i * sg (g i) + g i * (whole x w i * u i) * (sg (g i) * (1 - sg (g i))) := by
  rw [← v7_apply, ← sigmoid_apply]
  pointwise [val_main_v11, val_main_v10, val_main_call1_v2, val_main_call1_v1, val_main_call1_v0, val_main_v9,
    val_main_v2_1, val_main_call0_v7, val_main_call0_v6, val_main_call0_cst_1, val_main_v1, val_main_v0]

theorem ref_dg_of_real (hx : ∀ i, IsReal (x i)) (hw : ∀ i, IsReal (w i)) (hu : ∀ i, IsReal (u i))
    (i : Cert.RDguIdeal.S8192x5632.Idx) :
    val_main_v11 (F := Ideal) x w g u i = whole x w i * u i * (sg (g i) * (1 + g i * (1 - sg (g i)))) := by
  have hb : IsReal (whole x w i * u i) := .mul (.sum _ fun k _ => .mul (hx _) (hw _)) (hu _)
  rw [ref_dg, silu_bwd hb]

end Reference

/-- THE VALUE'S COTANGENT: the array the kernel leaves is the reference's. -/
theorem final6 (c : Dev nD) :
    (dats m 0 c).arrAt 6 cfg0.N
      = Cert.RDguIdeal.Read.val_main_v12 (F := Ideal) (m ((c : Thread nD τ).loc main_arg0))
          (m ((c : Thread nD τ).loc main_arg1)) (m ((c : Thread nD τ).loc main_arg2)) := by
  refine (dats m 0 c).arrAt_eq_of_covers 6 _ (by decide +kernel) fun t hf y => ?_
  blk_simp
  rw [after0_6, ref_du]
  frame_out
  refine (pay5_apply _ _ _ _).trans ((mul_comm _ _).trans ?_)
  unfold down whole
  blk_point [iblk, V, idx0, idx1, idx2, idx6]

/-- THE PRECONDITION READ: the cotangent, the projection and the value are real at every index. -/
theorem real_of_pre [Cert.Pre_finite_dgu.Facts] (x : FVec Ideal Cert.Pre_finite_dgu.S8192x2048 .bf16)
    (w : FVec Ideal Cert.Pre_finite_dgu.S5632x2048 .bf16) (g u : FVec Ideal Cert.Pre_finite_dgu.S8192x5632 .bf16)
    (h : Cert.Pre_finite_dgu.fn (F := Ideal) x w g u = fun _ => 1#1) :
    (∀ i, IsReal (x i)) ∧ (∀ i, IsReal (w i)) ∧ ∀ i, IsReal (u i) := by
  have e := congrFun h (fun k => k.elim0)
  have : Subsingleton Cert.Pre_finite_dgu.S_.Idx := ⟨fun a b => funext fun k => k.elim0⟩
  obtain ⟨e1, e3⟩ := and_eq_one _ _ e
  obtain ⟨e1, e2⟩ := and_eq_one _ _ e1
  exact ⟨fun i => IsReal.of_all _ _ (fun _ => ofBits_inf) _ _ _ _ e1 i, fun i => IsReal.of_all _ _ (fun _ => ofBits_inf) _ _ _ _ e2 i,
    fun i => IsReal.of_all _ _ (fun _ => ofBits_inf) _ _ _ _ e3 i⟩

/-- THE GATE'S COTANGENT: the array the kernel leaves is the reference's where the other arrays are real. -/
theorem final5 (c : Dev nD) (hx : ∀ i, IsReal ((m ((c : Thread nD τ).loc main_arg0) : FVec Ideal S8192x2048 .bf16) i))
    (hw : ∀ i, IsReal ((m ((c : Thread nD τ).loc main_arg1) : FVec Ideal S5632x2048 .bf16) i))
    (hu : ∀ i, IsReal ((m ((c : Thread nD τ).loc main_arg3) : FVec Ideal S8192x5632 .bf16) i)) :
    (dats m 0 c).arrAt 5 cfg0.N
      = Cert.RDguIdeal.Read.val_main_v11 (F := Ideal) (m ((c : Thread nD τ).loc main_arg0))
          (m ((c : Thread nD τ).loc main_arg1)) (m ((c : Thread nD τ).loc main_arg2))
          (m ((c : Thread nD τ).loc main_arg3)) := by
  refine (dats m 0 c).arrAt_eq_of_covers 5 _ (by decide +kernel) fun t hf y => ?_
  blk_simp
  rw [after0_5, ref_dg_of_real _ _ _ _ hx hw hu]
  frame_out
  refine (pay4_apply _ _ _ _ _).trans ?_
  unfold down whole
  blk_point [iblk, V, idx0, idx1, idx2, idx3, idx5]

end Cert.Proof.Dgu

end
-- ==== Proof.Dwgu.lean ====
/-
  The gradient of the two up projections (`ffn_dwgu`): eight blocks of rows of the gradient, the first four from the
  gate's cotangent and the last four from the value's, each accumulated over eight blocks of tokens.
-/
module

public import proofs.«01_k».proof.Proof.Gen.KDwguIdeal.Frame
public import proofs.«01_k».proof.Proof.Gen.RDwguIdeal.Read
public import Idealize.ShloMosaic.Lib.Pipeline.ValueKit
public import Idealize.ShloMosaic.Lib.Pipeline.ReadBack
public import Idealize.ShloMosaic.Lib.Pointwise

@[expose] public section

noncomputable section

namespace Cert.Proof.Dwgu

open Cert.KDwguIdeal Cert.KDwguIdeal.Gen Idealize.ShloMosaic Idealize.ShloMosaic.TcCoe Idealize.SL.Sem
open Idealize.ShloMosaic.Pipeline (Dat Cfg Window)
open scoped BigOperators

variable (m : (ℓ : Loc nD τ sig) → Buf (Elt Ideal) ℓ)

/-- The tokens' block at point `t` is block `t % 8`. -/
theorem idx0 : ∀ t : Fin cfg0.N, win0_0.index t = ![t.val % 8, 0] :=
  (by decide +kernel : ∀ t : Fin grid0.N, _)
/-- The gate's cotangent at the points of the first half. -/
theorem idx1 : ∀ t : Fin cfg0.N, t.val < 32 → win0_1.index t = ![t.val % 8, t.val / 8] :=
  (by decide +kernel : ∀ t : Fin grid0.N, _)
/-- The value's cotangent at the points of the second half. -/
theorem idx2 : ∀ t : Fin cfg0.N, 32 ≤ t.val → win0_2.index t = ![t.val % 8, t.val / 8 - 4] :=
  (by decide +kernel : ∀ t : Fin grid0.N, _)
/-- The result's block at point `t` is block `t / 8`. -/
theorem idx3 : ∀ t : Fin cfg0.N, win0_3.index t = ![t.val / 8, 0, 0] :=
  (by decide +kernel : ∀ t : Fin grid0.N, _)

/-- What a point adds to the accumulator: a block of the product. -/
def part (x : FVec Ideal S1024x1408 .bf16) (y : FVec Ideal S1024x2048 .bf16) (j : S1408x2048.Idx) : EReal :=
  ∑ k : Fin 1024, x (ix2 k (j 0)) * y (ix2 k (j 1))

theorem pay1_apply (j : S1408x2048.Idx) : k0_pay1 (F := Ideal) j = 0 := by
  pointwise [k0_pay1]

theorem pay2_apply (a : Vec Ideal S1408x2048 .f32) (x : Vec Ideal S1024x1408 .bf16) (y : Vec Ideal S1024x2048 .bf16)
    (j : S1408x2048.Idx) : k0_pay2 a x y j = a j + part x y j := by
  pointwise [k0_pay2, part]

theorem pay3_apply (a : Vec Ideal S1408x2048 .f32) (x : Vec Ideal S1024x1408 .bf16) (y : Vec Ideal S1024x2048 .bf16)
    (j : S1408x2048.Idx) : k0_pay3 a x y j = a j + part x y j := by
  pointwise [k0_pay3, part]

theorem pay4_apply (a : Vec Ideal S1408x2048 .f32) (j : S1x1408x2048.Idx) : k0_pay4 a j = a (ix2 (j 1) (j 2)) := by
  pointwise [k0_pay4]

/-- Point `t`'s block product: of the gate's cotangent in the first half, of the value's in the second. -/
def term (c : Dev nD) (t : Fin cfg0.N) (j : S1408x2048.Idx) : EReal :=
  if t.val < 32 then part (iblk m c 1 t) (iblk m c 0 t) j else part (iblk m c 2 t) (iblk m c 0 t) j

/-- The accumulator at the last point of a run is the sum of the run's eight block products. -/
theorem acc_eq (c : Dev nD) (t : Fin cfg0.N) (h : t.val % 8 = 7) (j : S1408x2048.Idx) :
    (outsAt0 m c t.val t.isLt).2 j
      = 0 + ∑ s : Fin 8, term m c ⟨8 * (t.val / 8) + s.val, Pipeline.run_point_lt_of_flush t h s⟩ j := by
  refine Pipeline.eq_sum_fin_of_reset_step_apply_of_flush (fun n h => (outsAt0 m c n h).2) 8 (fun _ => (0 : EReal))
    (term m c) ?_ ?_ t h j
  · intro t h0 j
    have h3 : ¬t.val % 8 = 7 := by omega
    by_cases h1 : t.val < 32
    · have h2 : ¬32 ≤ t.val := by omega
      rw [outsAt0_A m c t h0 h1 h2 h3]; frame_out
      rw [pay2_apply, pay1_apply, term, if_pos h1]
    · have h2 : 32 ≤ t.val := by omega
      rw [outsAt0_D m c t h0 h1 h2 h3]; frame_out
      rw [pay3_apply, pay1_apply, term, if_neg h1]
  · intro t h0 j
    by_cases h3 : t.val % 8 = 7 <;> by_cases h1 : t.val < 32
    · have h2 : ¬32 ≤ t.val := by omega
      rw [outsAt0_C m c t h0 h1 h2 h3]; frame_out
      rw [pay2_apply, read_unread_whole, term, if_pos h1]
    · have h2 : 32 ≤ t.val := by omega
      rw [outsAt0_F m c t h0 h1 h2 h3]; frame_out
      rw [pay3_apply, read_unread_whole, term, if_neg h1]
    · have h2 : ¬32 ≤ t.val := by omega
      rw [outsAt0_B m c t h0 h1 h2 h3]; frame_out
      rw [pay2_apply, read_unread_whole, term, if_pos h1]
    · have h2 : 32 ≤ t.val := by omega
      rw [outsAt0_E m c t h0 h1 h2 h3]; frame_out
      rw [pay3_apply, read_unread_whole, term, if_neg h1]

/-- What is written back is the accumulator. -/
theorem out_eq (c : Dev nD) (t : Fin cfg0.N) (h : t.val % 8 = 7) (y : S1x1408x2048.Idx) :
    (outsAt0 m c t.val t.isLt).1 y = (outsAt0 m c t.val t.isLt).2 (ix2 (y 1) (y 2)) := by
  have h0 : ¬t.val % 8 = 0 := by omega
  by_cases h1 : t.val < 32
  · have h2 : ¬32 ≤ t.val := by omega
    rw [outsAt0_C m c t h0 h1 h2 h]; frame_out
    rw [pay4_apply]
  · have h2 : 32 ≤ t.val := by omega
    rw [outsAt0_F m c t h0 h1 h2 h]; frame_out
    rw [pay4_apply]

open Cert.RDwguIdeal.Read in
/-- The joined cotangent's left half is the gate's. -/
theorem joined_left (x y : FVec Ideal Cert.RDwguIdeal.S8192x5632 .bf16) (i : Cert.RDwguIdeal.S8192x11264.Idx) (h : (i 1).val < 5632) :
    val_main_v7 (F := Ideal) x y i = x (ix2 (i 0) ⟨(i 1).val, h⟩) := by
  pointwise [val_main_v7, val_main_v5, val_main_v6]
  rw [dif_pos h]

open Cert.RDwguIdeal.Read in
/-- The joined cotangent's right half is the value's. -/
theorem joined_right (x y : FVec Ideal Cert.RDwguIdeal.S8192x5632 .bf16) (i : Cert.RDwguIdeal.S8192x11264.Idx) (q : Fin 5632)
    (h : (i 1).val = q.val + 5632) :
    val_main_v7 (F := Ideal) x y i = y (ix2 (i 0) q) := by
  have hq : (⟨(i 1).val - 5632, by have h1 : (i 1).val < 11264 := (i 1).isLt; omega⟩ : Fin 5632) = q :=
    Fin.ext (by simp only [h, Nat.add_sub_cancel])
  rw [← hq]
  have hn : ¬(i 1).val < 5632 := by omega
  pointwise [val_main_v7, val_main_v5, val_main_v6]
  rw [dif_neg hn]

section Reference

open Cert.RDwguIdeal.Read

variable (x : FVec Ideal Cert.RDwguIdeal.S8192x2048 .bf16) (g u : FVec Ideal Cert.RDwguIdeal.S8192x5632 .bf16)

/-- The reference at a row of the gate's half. -/
theorem ref_left (i : Cert.RDwguIdeal.S8x1408x2048.Idx) (h : (i 0).val < 4) :
    val_main_v12 (F := Ideal) x g u i
      = ∑ k : Fin 8192, g (ix2 k ⟨(i 0).val * 1408 + (i 1).val, by have h1 : (i 1).val < 1408 := (i 1).isLt; omega⟩) * x (ix2 k (i 2)) := by
  simp only [val_main_v12_apply, val_main_v11_apply, val_main_v10_apply, val_main_v9_apply, val_main_v8_apply,
    val_main_v1_apply, Ideal.truncf_def, Ideal.extf_def]
  have h1 : (i 1).val < 1408 := (i 1).isLt
  have h2 : (i 2).val < 2048 := (i 2).isLt
  refine Finset.sum_congr rfl fun k _ => ?_
  have hb : ((lidx_main_v8 (idx_main_v9 (idx_main_v10 (idx_main_v11 i))) k) 1).val < 5632 := by
    show (((i 0).val * 1408 + (i 1).val) * 2048 + (i 2).val) / 2048 < 5632
    omega
  rw [joined_left _ _ _ hb]
  refine congrArg₂ (fun a b : EReal => a * b) (congrArg g (funext (Fin.forall_fin_two.mpr ⟨Fin.ext ?_, Fin.ext ?_⟩))) (congrArg x (funext (Fin.forall_fin_two.mpr ⟨Fin.ext ?_, Fin.ext ?_⟩)))
  · rfl
  · show (((i 0).val * 1408 + (i 1).val) * 2048 + (i 2).val) / 2048 = _
    simp only [ix2]; omega
  · rfl
  · show (((i 0).val * 1408 + (i 1).val) * 2048 + (i 2).val) % 2048 = _
    simp only [ix2]; omega

/-- The reference at a row of the value's half. -/
theorem ref_right (i : Cert.RDwguIdeal.S8x1408x2048.Idx) (q : Fin 5632) (h : (i 0).val * 1408 + (i 1).val = q.val + 5632) :
    val_main_v12 (F := Ideal) x g u i = ∑ k : Fin 8192, u (ix2 k q) * x (ix2 k (i 2)) := by
  simp only [val_main_v12_apply, val_main_v11_apply, val_main_v10_apply, val_main_v9_apply, val_main_v8_apply,
    val_main_v1_apply, Ideal.truncf_def, Ideal.extf_def]
  have h2 : (i 2).val < 2048 := (i 2).isLt
  refine Finset.sum_congr rfl fun k _ => ?_
  have hv : ((lidx_main_v8 (idx_main_v9 (idx_main_v10 (idx_main_v11 i))) k) 1).val = q.val + 5632 := by
    show (((i 0).val * 1408 + (i 1).val) * 2048 + (i 2).val) / 2048 = _
    omega
  rw [joined_right _ _ _ q hv]
  refine congrArg₂ (fun a b : EReal => a * b) rfl (congrArg x (funext (Fin.forall_fin_two.mpr ⟨Fin.ext ?_, Fin.ext ?_⟩)))
  · rfl
  · show (((i 0).val * 1408 + (i 1).val) * 2048 + (i 2).val) % 2048 = _
    simp only [ix2]; omega

end Reference

/-- THE RESULT: the array the kernel leaves is the reference's gradient. -/
theorem final (c : Dev nD) :
    (dats m 0 c).arrAt 3 cfg0.N
      = Cert.RDwguIdeal.Read.val_main_v12 (F := Ideal) (m ((c : Thread nD τ).loc main_arg0))
          (m ((c : Thread nD τ).loc main_arg1)) (m ((c : Thread nD τ).loc main_arg2)) := by
  refine (dats m 0 c).arrAt_eq_of_covers 3 _ (by decide +kernel) fun t hf y => ?_
  have h7 := (flush0_3 t).mp hf
  have hN : t.val < 64 := lt_of_lt_of_eq t.isLt N_0
  blk_simp
  rw [after0_3]
  refine (out_eq m c t h7 y).trans ?_
  rw [acc_eq m c t h7, zero_add]
  have hy : (y 0).val < 1 := (y 0).isLt
  have hi : ((((View.whole main_v0).slice (win0_3.rect t)).emb y) 0).val = t.val / 8 := by
    blk_simp [idx3]
  by_cases h1 : t.val < 32
  · have hs : ∀ s : Fin 8, 8 * (t.val / 8) + s.val < 32 := fun s => by omega
    simp only [term, hs, if_true]
    rw [ref_left _ _ _ _ (by rw [hi]; omega)]
    unfold part
    refine Fin.sum_mul_add_congr fun s k hl => ?_
    have := idx1 ⟨8 * (t.val / 8) + s.val, Pipeline.run_point_lt_of_flush t h7 s⟩ (hs s)
    blk_point [iblk, V, this, idx0, idx3]
  · have hs : ∀ s : Fin 8, ¬8 * (t.val / 8) + s.val < 32 := fun s => by omega
    simp only [term, hs, if_false]
    have h1y : (y 1).val < 1408 := (y 1).isLt
    have hi1 : ((((View.whole main_v0).slice (win0_3.rect t)).emb y) 1).val = (y 1).val := by
      blk_simp [idx3]
    rw [ref_right _ _ _ _ ⟨(t.val / 8 - 4) * 1408 + (y 1).val, by omega⟩ (by rw [hi, hi1]; dsimp only; omega)]
    unfold part
    refine Fin.sum_mul_add_congr fun s k hl => ?_
    have := idx2 ⟨8 * (t.val / 8) + s.val, Pipeline.run_point_lt_of_flush t h7 s⟩ (not_lt.mp (hs s))
    blk_point [iblk, V, this, idx0, idx3]

/-- THE RUN: the output array is what the pipeline leaves in its window, and the arguments stay. -/
theorem run (ρ : Dev nD → PrngReg) :
    θ_run defs (onTc (τ := τ) (main (F := Ideal))) ⟨m, fun _ => 0, ρ⟩ fun r => ∀ c : Dev nD,
      r.2.mem ((c : Thread nD τ).loc main_v0) = (dats m 0 c).arrAt 3 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h c).1 3,
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c)))⟩)
    (run_main m ρ)

end Cert.Proof.Dwgu

end
-- ==== Proof.Dh.lean ====
/-
  The cotangent of the feed-forward block's input (`ffn_dh`): eight slabs of the up projections, each slab's first 1280
  columns contracted at its own point and its last 128 columns together with those of the slab beside it.
-/
module

public import proofs.«01_k».proof.Proof.Gen.KDhIdeal.Value
public import proofs.«01_k».proof.Proof.Gen.RDhIdeal.Read
public import Idealize.ShloMosaic.Lib.Pipeline.ValueKit
public import Idealize.ShloMosaic.Lib.Pipeline.ReadBack
public import Idealize.ShloMosaic.Lib.Pointwise

@[expose] public section

noncomputable section

namespace Cert.Proof.Dh

open Cert.KDhIdeal Cert.KDhIdeal.Gen Idealize.ShloMosaic Idealize.ShloMosaic.TcCoe Idealize.SL.Sem
open Idealize.ShloMosaic.Pipeline (Dat Cfg Window)
open scoped BigOperators

variable (m : (ℓ : Loc nD τ sig) → Buf (Elt Ideal) ℓ)

theorem idx0 : ∀ t : Fin cfg0.N, t.val % 8 < 4 → win0_0.index t = ![t.val / 8, t.val % 8] :=
  (by decide +kernel : ∀ t : Fin grid0.N, _)
theorem idx1 : ∀ t : Fin cfg0.N, 4 ≤ t.val % 8 → win0_1.index t = ![t.val / 8, t.val % 8 - 4] :=
  (by decide +kernel : ∀ t : Fin grid0.N, _)
theorem idx2 : ∀ t : Fin cfg0.N, t.val % 8 < 4 → t.val % 2 = 1 → win0_2.index t = ![t.val / 8, (t.val % 8 - 1) * 11 + 10] :=
  (by decide +kernel : ∀ t : Fin grid0.N, _)
theorem idx3 : ∀ t : Fin cfg0.N, 4 ≤ t.val % 8 → t.val % 2 = 1 → win0_3.index t = ![t.val / 8, (t.val % 8 - 5) * 11 + 10] :=
  (by decide +kernel : ∀ t : Fin grid0.N, _)
theorem idx4 : ∀ t : Fin cfg0.N, win0_4.index t = ![t.val % 8, 0, 0] := (by decide +kernel : ∀ t : Fin grid0.N, _)
theorem idx5 : ∀ t : Fin cfg0.N, t.val % 2 = 1 → win0_5.index t = ![t.val % 8 - 1, 0, 10] :=
  (by decide +kernel : ∀ t : Fin grid0.N, _)
theorem idx7 : ∀ t : Fin cfg0.N, win0_7.index t = ![t.val / 8, 0] := (by decide +kernel : ∀ t : Fin grid0.N, _)

/-- The first 1280 columns of a slab. -/
def deep (x : FVec Ideal S1024x1408 .bf16) (w : FVec Ideal S1x2048x1408 .bf16) (j : S1024x2048.Idx) : EReal :=
  ∑ k : Fin 1280, x (ix2 (j 0) ⟨k.val, by omega⟩) * w (ix3 0 (j 1) ⟨k.val, by omega⟩)

/-- The last 128 columns of a slab. -/
def tail (x : FVec Ideal S1024x1408 .bf16) (w : FVec Ideal S1x2048x1408 .bf16) (j : S1024x2048.Idx) : EReal :=
  ∑ k : Fin 128, x (ix2 (j 0) ⟨1280 + k.val, by omega⟩) * w (ix3 0 (j 1) ⟨1280 + k.val, by omega⟩)

/-- The last 128 columns of the slab before. -/
def before (x : FVec Ideal S1024x128 .bf16) (w : FVec Ideal S1x2048x128 .bf16) (j : S1024x2048.Idx) : EReal :=
  ∑ k : Fin 128, x (ix2 (j 0) k) * w (ix3 0 (j 1) k)

theorem pay1_apply (j : S1024x2048.Idx) : k0_pay1 (F := Ideal) j = 0 := by
  pointwise [k0_pay1]

theorem pay2_apply (a : Vec Ideal S1024x2048 .f32) (x : FVec Ideal S1024x1280 .bf16) (w : FVec Ideal S1x2048x1280 .bf16)
    (j : S1024x2048.Idx) : k0_pay2 (F := Ideal) a x w j = a j + ∑ k : Fin 1280, x (ix2 (j 0) k) * w (ix3 0 (j 1) k) := by
  pointwise [k0_pay2]

theorem pay3_apply (x0 x1 : FVec Ideal S1024x128 .bf16) (w0 w1 : FVec Ideal S1x2048x128 .bf16) (a : Vec Ideal S1024x2048 .f32)
    (j : S1024x2048.Idx) : k0_pay3 (F := Ideal) x0 x1 w0 w1 a j = a j + (before x0 w0 j + before x1 w1 j) := by
  unfold before
  rw [show k0_pay3 (F := Ideal) x0 x1 w0 w1 a j
      = a j + ∑ k : Fin (128 + 128), (concatenate S1024x256 1 [⟨S1024x128, x0⟩, ⟨S1024x128, x1⟩] concatenates_S1024x128_S1024x128_S1024x256_d1 : FVec Ideal S1024x256 .bf16) (ix2 (j 0) k)
        * (concatenate S2048x256 1 [⟨S2048x128, shapeCast S2048x128 w0 shapeCasts_S1x2048x128_S2048x128⟩,
            ⟨S2048x128, shapeCast S2048x128 w1 shapeCasts_S1x2048x128_S2048x128⟩] concatenates_S2048x128_S2048x128_S2048x256_d1 : FVec Ideal S2048x256 .bf16) (ix2 (j 1) k) from by
    pointwise [k0_pay3]]
  rw [Fin.sum_univ_add]
  congr 2
  · refine Finset.sum_congr rfl fun k _ => ?_
    have hk : (Fin.castAdd 128 k).val < 128 := k.isLt
    pointwise
    rw [dif_pos hk, dif_pos hk]
    rfl
  · refine Finset.sum_congr rfl fun k _ => ?_
    have hk : ¬(Fin.natAdd 128 k).val < 128 := Nat.not_lt.mpr (Nat.le_add_right _ _)
    have hv : (⟨(Fin.natAdd 128 k).val - 128, by simp⟩ : Fin 128) = k := Fin.ext (Nat.add_sub_cancel_left _ _)
    pointwise
    rw [dif_neg hk, dif_neg hk, hv]

theorem pay4_apply (a : Vec Ideal S1024x2048 .f32) (x : FVec Ideal S1024x1280 .bf16) (w : FVec Ideal S1x2048x1280 .bf16)
    (j : S1024x2048.Idx) : k0_pay4 (F := Ideal) a x w j = a j + ∑ k : Fin 1280, x (ix2 (j 0) k) * w (ix3 0 (j 1) k) :=
  pay2_apply a x w j

theorem pay5_apply (x0 x1 : FVec Ideal S1024x128 .bf16) (w0 w1 : FVec Ideal S1x2048x128 .bf16) (a : Vec Ideal S1024x2048 .f32)
    (j : S1024x2048.Idx) : k0_pay5 (F := Ideal) x0 x1 w0 w1 a j = a j + (before x0 w0 j + before x1 w1 j) :=
  pay3_apply x0 x1 w0 w1 a j

/-- A contraction over the first 1280 columns of the staged slab. -/
theorem deep_ld (x : FVec Ideal S1024x1408 .bf16) (w : FVec Ideal S1x2048x1408 .bf16) (j : S1024x2048.Idx) :
    (∑ k : Fin 1280, (View.ld (Val := Elt Ideal) (e' := .bf16) x (Rect.unit (s := S1024x1408) ![0, 0] ![1024, 1280] inb_S1024x1408_S1024x1280_0_0) : FVec Ideal S1024x1280 .bf16) (ix2 (j 0) k)
      * (View.ld (Val := Elt Ideal) (e' := .bf16) w (Rect.unit (s := S1x2048x1408) ![0, 0, 0] ![1, 2048, 1280] inb_S1x2048x1408_S1x2048x1280_0_0_0) : FVec Ideal S1x2048x1280 .bf16) (ix3 0 (j 1) k))
      = deep x w j := by
  refine Finset.sum_congr rfl fun k _ => ?_
  refine congrArg₂ (fun a b : EReal => a * b) (View.ld_unit_apply_of (S := S1024x1408) (Val := Elt Ideal) (e := .bf16) x _ _ _ _ _ fun a => ?_)
    (View.ld_unit_apply_of (S := S1x2048x1408) (Val := Elt Ideal) (e := .bf16) w _ _ _ _ _ fun a => ?_)
  · fin_cases a <;> simp [ix2]
  · fin_cases a <;> simp [ix3]

/-- A contraction over the last 128 columns of the staged slab. -/
theorem tail_ld (x : FVec Ideal S1024x1408 .bf16) (w : FVec Ideal S1x2048x1408 .bf16) (j : S1024x2048.Idx) :
    before (View.ld (Val := Elt Ideal) (e' := .bf16) x (Rect.unit (s := S1024x1408) ![0, 1280] ![1024, 128] inb_S1024x1408_S1024x128_0_1280))
      (View.ld (Val := Elt Ideal) (e' := .bf16) w (Rect.unit (s := S1x2048x1408) ![0, 0, 1280] ![1, 2048, 128] inb_S1x2048x1408_S1x2048x128_0_0_1280)) j = tail x w j := by
  refine Finset.sum_congr rfl fun k _ => ?_
  refine congrArg₂ (fun a b : EReal => a * b) (View.ld_unit_apply_of (S := S1024x1408) (Val := Elt Ideal) (e := .bf16) x _ _ _ _ _ fun a => ?_)
    (View.ld_unit_apply_of (S := S1x2048x1408) (Val := Elt Ideal) (e := .bf16) w _ _ _ _ _ fun a => ?_)
  · fin_cases a <;> simp [ix2]
  · fin_cases a <;> simp [ix3]

/-- What a point adds to the accumulator. -/
def term (c : Dev nD) (t : Fin cfg0.N) (j : S1024x2048.Idx) : EReal :=
  if t.val % 8 < 4 then
    deep (iblk m c 0 t) (iblk m c 4 t) j
      + if t.val % 2 = 1 then before (iblk m c 2 t) (iblk m c 5 t) j + tail (iblk m c 0 t) (iblk m c 4 t) j else 0
  else
    deep (iblk m c 1 t) (iblk m c 4 t) j
      + if t.val % 2 = 1 then before (iblk m c 3 t) (iblk m c 5 t) j + tail (iblk m c 1 t) (iblk m c 4 t) j else 0

theorem acc_eq (c : Dev nD) (t : Fin cfg0.N) (h : t.val % 8 = 7) (j : S1024x2048.Idx) :
    outsAt0 m c t.val t.isLt j
      = 0 + ∑ s : Fin 8, term m c ⟨8 * (t.val / 8) + s.val, Pipeline.run_point_lt_of_flush t h s⟩ j := by
  refine Pipeline.eq_sum_fin_of_reset_step_apply_of_flush (fun n h => outsAt0 m c n h) 8 (fun _ => (0 : EReal))
    (term m c) ?_ ?_ t h j
  · intro t h0 j
    have h1 : t.val % 8 ≤ 3 := by omega
    have h2 : ¬t.val % 2 = 1 := by omega
    have h3 : ¬4 ≤ t.val % 8 := by omega
    rw [outsAt0_A m c t h0 h1 h2 h3]; frame_out
    rw [pay2_apply, pay1_apply, term, if_pos (by omega), if_neg h2, add_zero]
    rw [deep_ld]
  · intro t h0 j
    by_cases h3 : 4 ≤ t.val % 8 <;> by_cases h2 : t.val % 2 = 1
    · rw [outsAt0_E m c t h0 (by omega) h3 h2]; frame_out
      rw [pay5_apply, pay4_apply, deep_ld, tail_ld, term, if_neg (by omega), if_pos h2]
      exact add_assoc (G := EReal) _ _ _
    · rw [outsAt0_D m c t h0 (by omega) h3 h2]; frame_out
      rw [pay4_apply, deep_ld, term, if_neg (by omega), if_neg h2, add_zero]
    · rw [outsAt0_B m c t h0 (by omega) h2 h3]; frame_out
      rw [pay3_apply, pay2_apply, deep_ld, tail_ld, term, if_pos (by omega), if_pos h2]
      exact add_assoc (G := EReal) _ _ _
    · rw [outsAt0_C m c t h0 (by omega) h2 h3]; frame_out
      rw [pay2_apply, deep_ld, term, if_pos (by omega), if_neg h2, add_zero]

section Reference

open Cert.RDhIdeal.Read

variable (w : FVec Ideal Cert.RDhIdeal.S2048x11264 .bf16) (g u : FVec Ideal Cert.RDhIdeal.S8192x5632 .bf16)

/-- One product of the reference's contraction: row `i 0` of the joined cotangent with row `i 1` of the projections. -/
def prod (i : Cert.RDhIdeal.S8192x2048.Idx) (l : Fin 11264) : EReal :=
  (if h : l.val < 5632 then g (ix2 (i 0) ⟨l.val, h⟩) else u (ix2 (i 0) ⟨l.val - 5632, by omega⟩)) * w (ix2 (i 1) l)

theorem ref_apply (i : Cert.RDhIdeal.S8192x2048.Idx) : val_main_v8 (F := Ideal) w g u i = ∑ l : Fin 11264, prod w g u i l := by
  pointwise [val_main_v8, val_main_v7, val_main_v5, val_main_v6, val_main_v1, prod]

/-- The same product by its slab and its column in the slab. -/
def slab (i : Cert.RDhIdeal.S8192x2048.Idx) (s : Fin 8) (k : Fin 1408) : EReal :=
  prod w g u i ⟨s.val * 1408 + k.val, by omega⟩

/-- A slab's first 1280 columns. -/
def slabDeep (i : Cert.RDhIdeal.S8192x2048.Idx) (s : Fin 8) : EReal :=
  ∑ k : Fin 1280, slab w g u i s ⟨k.val, by omega⟩

/-- A slab's last 128 columns. -/
def slabTail (i : Cert.RDhIdeal.S8192x2048.Idx) (s : Fin 8) : EReal :=
  ∑ k : Fin 128, slab w g u i s ⟨1280 + k.val, by omega⟩

/-- The reference by slabs: each its first 1280 columns and its last 128. -/
theorem ref_slabs (i : Cert.RDhIdeal.S8192x2048.Idx) :
    val_main_v8 (F := Ideal) w g u i = ∑ s : Fin 8, (slabDeep w g u i s + slabTail w g u i s) := by
  rw [ref_apply]
  have e : ∀ s : Fin 8, slabDeep w g u i s + slabTail w g u i s = ∑ k : Fin 1408, slab w g u i s k :=
    fun s => (Fin.sum_univ_add (a := 1280) (b := 128) (slab w g u i s)).symm
  simp only [e]
  exact (Fin.sum_mul_add_congr fun s k hl => rfl).symm

end Reference

section Points

variable (c : Dev nD) (t : Fin cfg0.N) (y : S1024x2048.Idx) (i : Cert.RDhIdeal.S8192x2048.Idx)
  (h0 : (i 0).val = t.val / 8 * 1024 + (y 0).val) (h1 : (i 1).val = (y 1).val)

/-- `slabDeep` of the launch's arrays. -/
abbrev deepOf (s : Fin 8) : EReal :=
  slabDeep (m ((c : Thread nD τ).loc main_arg0)) (m ((c : Thread nD τ).loc main_arg1)) (m ((c : Thread nD τ).loc main_arg2)) i s

/-- `slabTail` of the launch's arrays. -/
abbrev tailOf (s : Fin 8) : EReal :=
  slabTail (m ((c : Thread nD τ).loc main_arg0)) (m ((c : Thread nD τ).loc main_arg1)) (m ((c : Thread nD τ).loc main_arg2)) i s

include h0 h1 in
theorem deep_lo (s : Fin 8) (hs : t.val % 8 = s.val) (h : s.val < 4) :
    deep (iblk m c 0 t) (iblk m c 4 t) y = deepOf m c i s := by
  refine Finset.sum_congr rfl fun k _ => ?_
  have hk : k.val < 1280 := k.isLt
  have hb : s.val * 1408 + k.val < 5632 := by omega
  have e0 := idx0 t (by omega)
  rw [slab, prod, dif_pos (by exact hb)]
  blk_point [iblk, V, e0, idx4]

include h0 h1 in
theorem deep_hi (s : Fin 8) (hs : t.val % 8 = s.val) (h : 4 ≤ s.val) :
    deep (iblk m c 1 t) (iblk m c 4 t) y = deepOf m c i s := by
  refine Finset.sum_congr rfl fun k _ => ?_
  have hk : k.val < 1280 := k.isLt
  have hb : ¬s.val * 1408 + k.val < 5632 := by omega
  have e0 := idx1 t (by omega)
  rw [slab, prod, dif_neg (by exact hb)]
  blk_point [iblk, V, e0, idx4]

include h0 h1 in
theorem tail_lo (s : Fin 8) (hs : t.val % 8 = s.val) (h : s.val < 4) :
    tail (iblk m c 0 t) (iblk m c 4 t) y = tailOf m c i s := by
  refine Finset.sum_congr rfl fun k _ => ?_
  have hk : k.val < 128 := k.isLt
  have hb : s.val * 1408 + (1280 + k.val) < 5632 := by omega
  have e0 := idx0 t (by omega)
  rw [slab, prod, dif_pos (by exact hb)]
  blk_point [iblk, V, e0, idx4]

include h0 h1 in
theorem tail_hi (s : Fin 8) (hs : t.val % 8 = s.val) (h : 4 ≤ s.val) :
    tail (iblk m c 1 t) (iblk m c 4 t) y = tailOf m c i s := by
  refine Finset.sum_congr rfl fun k _ => ?_
  have hk : k.val < 128 := k.isLt
  have hb : ¬s.val * 1408 + (1280 + k.val) < 5632 := by omega
  have e0 := idx1 t (by omega)
  rw [slab, prod, dif_neg (by exact hb)]
  blk_point [iblk, V, e0, idx4]

include h0 h1 in
theorem before_lo (s : Fin 8) (hs : t.val % 8 = s.val + 1) (ho : t.val % 2 = 1) (h : s.val < 4) :
    before (iblk m c 2 t) (iblk m c 5 t) y = tailOf m c i s := by
  refine Finset.sum_congr rfl fun k _ => ?_
  have hk : k.val < 128 := k.isLt
  have hb : s.val * 1408 + (1280 + k.val) < 5632 := by omega
  have e0 := idx2 t (by omega) ho
  have e1 := idx5 t ho
  rw [slab, prod, dif_pos (by exact hb)]
  blk_point [iblk, V, e0, e1]

include h0 h1 in
theorem before_hi (s : Fin 8) (hs : t.val % 8 = s.val + 1) (ho : t.val % 2 = 1) (h : 4 ≤ s.val) :
    before (iblk m c 3 t) (iblk m c 5 t) y = tailOf m c i s := by
  refine Finset.sum_congr rfl fun k _ => ?_
  have hk : k.val < 128 := k.isLt
  have hb : ¬s.val * 1408 + (1280 + k.val) < 5632 := by omega
  have e0 := idx3 t (by omega) ho
  have e1 := idx5 t ho
  rw [slab, prod, dif_neg (by exact hb)]
  blk_point [iblk, V, e0, e1]

include h0 h1 in
/-- What an even point adds. -/
theorem term_even (s : Fin 8) (hs : t.val % 8 = s.val) (he : s.val % 2 = 0) : term m c t y = deepOf m c i s := by
  have h2 : ¬t.val % 2 = 1 := by omega
  by_cases h : s.val < 4
  · rw [term, if_pos (by omega), if_neg h2, add_zero, deep_lo m c t y i h0 h1 s hs h]
  · rw [term, if_neg (by omega), if_neg h2, add_zero, deep_hi m c t y i h0 h1 s hs (by omega)]

include h0 h1 in
/-- What an odd point adds: its first columns, and the last columns of both slabs. -/
theorem term_odd (s p : Fin 8) (hs : t.val % 8 = s.val) (hp : s.val = p.val + 1) (ho : s.val % 2 = 1) :
    term m c t y = deepOf m c i s + (tailOf m c i p + tailOf m c i s) := by
  have h2 : t.val % 2 = 1 := by omega
  by_cases h : s.val < 4
  · rw [term, if_pos (by omega), if_pos h2, deep_lo m c t y i h0 h1 s hs h,
      before_lo m c t y i h0 h1 p (by omega) h2 (by omega), tail_lo m c t y i h0 h1 s hs h]
  · rw [term, if_neg (by omega), if_pos h2, deep_hi m c t y i h0 h1 s hs (by omega),
      before_hi m c t y i h0 h1 p (by omega) h2 (by omega), tail_hi m c t y i h0 h1 s hs (by omega)]

end Points

/-- THE RESULT: the array the kernel leaves is the reference's cotangent. -/
theorem final (c : Dev nD) :
    (dats m 0 c).arrAt 7 cfg0.N
      = Cert.RDhIdeal.Read.val_main_v8 (F := Ideal) (m ((c : Thread nD τ).loc main_arg0))
          (m ((c : Thread nD τ).loc main_arg1)) (m ((c : Thread nD τ).loc main_arg2)) := by
  refine (dats m 0 c).arrAt_eq_of_covers 7 _ (by decide +kernel) fun t hf y => ?_
  have h7 := (flush0_7 t).mp hf
  have hN : t.val < 64 := lt_of_lt_of_eq t.isLt N_0
  blk_simp
  rw [after0_7, ref_slabs]
  refine (acc_eq m c t h7 y).trans ?_
  rw [zero_add, Fin.sum_univ_eight, Fin.sum_univ_eight]
  have hi0 : (((win0_7.blk t).view.emb y) 0).val = t.val / 8 * 1024 + (y 0).val := by
    blk_simp [idx7]
  have hi1 : (((win0_7.blk t).view.emb y) 1).val = (y 1).val := by
    blk_simp [idx7]
  have ev : ∀ (s : Fin 8) (hl : 8 * (t.val / 8) + s.val < cfg0.N), s.val % 2 = 0 → term m c ⟨8 * (t.val / 8) + s.val, hl⟩ y
      = deepOf m c _ s := fun s hl he => term_even m c _ y _ (by rw [hi0]; dsimp only; omega) hi1 s (by dsimp only; omega) he
  have od : ∀ (s p : Fin 8) (hl : 8 * (t.val / 8) + s.val < cfg0.N), s.val = p.val + 1 → s.val % 2 = 1 →
      term m c ⟨8 * (t.val / 8) + s.val, hl⟩ y = deepOf m c _ s + (tailOf m c _ p + tailOf m c _ s) := fun s p hl hp ho =>
    term_odd m c _ y _ (by rw [hi0]; dsimp only; omega) hi1 s p (by dsimp only; omega) hp ho
  rw [ev 0 _ rfl, od 1 0 _ rfl rfl, ev 2 _ rfl, od 3 2 _ rfl rfl, ev 4 _ rfl, od 5 4 _ rfl rfl, ev 6 _ rfl, od 7 6 _ rfl rfl]
  abel

end Cert.Proof.Dh

end
-- ==== Proof.Dwd.lean ====
/-
  The gradient of the down projection (`ffn_dwd`): the blocked, accumulated product of the kernel is the one product
  of the reference.
-/
module

public import proofs.«01_k».proof.Proof.Gen.KDwdIdeal.Value
public import proofs.«01_k».proof.Proof.Gen.RDwdIdeal.Read
public import Idealize.ShloMosaic.Lib.Pipeline.ValueKit
public import Idealize.ShloMosaic.Lib.Pipeline.ReadBack
public import Idealize.ShloMosaic.Lib.Pointwise

@[expose] public section

noncomputable section

namespace Cert.Proof.Dwd

open Cert.KDwdIdeal Cert.KDwdIdeal.Gen Idealize.ShloMosaic Idealize.ShloMosaic.TcCoe Idealize.SL.Sem
open Idealize.ShloMosaic.Pipeline (Dat Cfg Window)
open scoped BigOperators

variable (m : (ℓ : Loc nD τ sig) → Buf (Elt Ideal) ℓ)

/-- The block indices of the windows at point `t`: rows by `t % 8`, columns by `t / 8`. -/
theorem idx0 : ∀ t : Fin cfg0.N, win0_0.index t = ![t.val % 8, t.val / 8] :=
  (by decide +kernel : ∀ t : Fin grid0.N, _)
theorem idx1 : ∀ t : Fin cfg0.N, win0_1.index t = ![t.val % 8, 0] :=
  (by decide +kernel : ∀ t : Fin grid0.N, _)
theorem idx2 : ∀ t : Fin cfg0.N, win0_2.index t = ![t.val / 8, 0] :=
  (by decide +kernel : ∀ t : Fin grid0.N, _)

/-- What point `t` adds to the accumulator: its block of the product. -/
def part (x : FVec Ideal S1024x1408 .bf16) (y : FVec Ideal S1024x2048 .bf16) (j : S1408x2048.Idx) : EReal :=
  ∑ k : Fin 1024, x (ix2 k (j 0)) * y (ix2 k (j 1))

theorem pay2_apply (a : Vec Ideal S1408x2048 .f32) (x : Vec Ideal S1024x1408 .bf16) (y : Vec Ideal S1024x2048 .bf16)
    (j : S1408x2048.Idx) : k0_pay2 a x y j = a j + part x y j := by
  pointwise [k0_pay2, part]

theorem pay1_apply (j : S1408x2048.Idx) : k0_pay1 (F := Ideal) j = 0 := by
  pointwise [k0_pay1]

/-- The accumulator at the last point of a run is the sum of the run's eight block products. -/
theorem acc_eq (c : Dev nD) (t : Fin cfg0.N) (h : t.val % 8 = 7) (j : S1408x2048.Idx) :
    (outsAt0 m c t.val t.isLt).2 j = 0 + ∑ s : Fin 8,
      part (iblk m c 0 ⟨8 * (t.val / 8) + s.val, Pipeline.run_point_lt_of_flush t h s⟩)
        (iblk m c 1 ⟨8 * (t.val / 8) + s.val, Pipeline.run_point_lt_of_flush t h s⟩) j := by
  refine Pipeline.eq_sum_fin_of_reset_step_apply_of_flush (fun n h => (outsAt0 m c n h).2) 8 (fun _ => (0 : EReal))
    (fun t => part (iblk m c 0 t) (iblk m c 1 t)) ?_ ?_ t h j
  · intro t h0 j
    have h1 : ¬t.val % 8 = 7 := by omega
    rw [outsAt0_A m c t h0 h1]; frame_out
    rw [pay2_apply, pay1_apply]
  · intro t h0 j
    by_cases h1 : t.val % 8 = 7
    · rw [outsAt0_C m c t h0 h1]; frame_out
      rw [pay2_apply, read_unread_whole]
    · rw [outsAt0_B m c t h0 h1]; frame_out
      rw [pay2_apply, read_unread_whole]

/-- THE RESULT: the array the kernel leaves is the reference's gradient. -/
theorem final (c : Dev nD) :
    (dats m 0 c).arrAt 2 cfg0.N
      = Cert.RDwdIdeal.Read.val_main_v6 (F := Ideal) (m ((c : Thread nD τ).loc main_arg0)) (m ((c : Thread nD τ).loc main_arg1)) := by
  refine (dats m 0 c).arrAt_eq_of_covers 2 _ (by decide +kernel) fun t hf y => ?_
  have h7 := (flush0_2 t).mp hf
  blk_simp
  rw [after0_2]
  have e : (outsAt0 m c t.val t.isLt).1 y = (outsAt0 m c t.val t.isLt).2 y := by
    have h0 : ¬t.val % 8 = 0 := by omega
    rw [outsAt0_C m c t h0 h7]; frame_out
    pointwise [k0_pay3]
  rw [e, acc_eq m c t h7, zero_add]
  simp only [Cert.RDwdIdeal.Read.val_main_v6_apply, Cert.RDwdIdeal.Read.val_main_v5_apply, Cert.RDwdIdeal.Read.val_main_v4_apply,
    Cert.RDwdIdeal.Read.val_main_v3_apply, Cert.RDwdIdeal.Read.val_main_v1_apply, Ideal.truncf_def, Ideal.extf_def]
  unfold part
  refine Fin.sum_mul_add_congr fun s k hl => ?_
  refine (mul_comm (G := EReal) _ _).trans ?_
  blk_point [iblk, V, idx0, idx1, idx2]

end Cert.Proof.Dwd

end
-- ==== Proof.FfnClaims.lean ====
/-
  The claims about the four calls of the feed-forward block's backward pass: each call's run beside the run of the
  reference, which ends with the same arrays.
-/
module

public import proofs.«01_k».proof.Defs
public import proofs.«01_k».proof.Proof.Dgu
public import proofs.«01_k».proof.Proof.Dwgu
public import proofs.«01_k».proof.Proof.Dh
public import proofs.«01_k».proof.Proof.Dwd
public import proofs.«01_k».proof.Proof.Gen.Pre_finite_dgu
public import proofs.«01_k».proof.Proof.Gen.KDgu.Frame
public import proofs.«01_k».proof.Proof.Gen.KDwgu.Frame
public import proofs.«01_k».proof.Proof.Gen.KDh.Frame
public import proofs.«01_k».proof.Proof.Gen.KDwd.Frame
public import proofs.«01_k».proof.Proof.Gen.RDguIdeal.Run
public import proofs.«01_k».proof.Proof.Gen.RDwguIdeal.Run
public import proofs.«01_k».proof.Proof.Gen.RDhIdeal.Run
public import proofs.«01_k».proof.Proof.Gen.RDwdIdeal.Run

@[expose] public section

noncomputable section

namespace Cert.Proof.Ffn

open Idealize.ShloMosaic Idealize.ShloMosaic.TcCoe Idealize.SL.Sem

/-! ## The references end with their arguments unchanged and have no semaphore -/

/-- The gradient through the gate, as derived from the forward lines, runs and leaves its arguments. -/
theorem frame_rdgu : Cert.quiescent_RDguIdeal := fun m ρ _ =>
  (θ_run Cert.RDguIdeal.defs _ _).mono (fun r h => ⟨fun c => (h c).2.2, sem_eq_zero_of_no_sems (by decide) r.2⟩)
    (Cert.RDguIdeal.Value.run (F := Ideal) m ρ)

/-- The gradient of the joint projection's weights, as derived, runs and leaves its arguments. -/
theorem frame_rdwgu : Cert.quiescent_RDwguIdeal := fun m ρ _ =>
  (θ_run Cert.RDwguIdeal.defs _ _).mono (fun r h => ⟨fun c => (h c).2, sem_eq_zero_of_no_sems (by decide) r.2⟩)
    (Cert.RDwguIdeal.Value.run (F := Ideal) m ρ)

/-- The gradient of the joint projection's input, as derived, runs and leaves its arguments. -/
theorem frame_rdh : Cert.quiescent_RDhIdeal := fun m ρ _ =>
  (θ_run Cert.RDhIdeal.defs _ _).mono (fun r h => ⟨fun c => (h c).2, sem_eq_zero_of_no_sems (by decide) r.2⟩)
    (Cert.RDhIdeal.Value.run (F := Ideal) m ρ)

/-- The gradient of the down projection's weights, as derived, runs and leaves its arguments. -/
theorem frame_rdwd : Cert.quiescent_RDwdIdeal := fun m ρ _ =>
  (θ_run Cert.RDwdIdeal.defs _ _).mono (fun r h => ⟨fun c => (h c).2, sem_eq_zero_of_no_sems (by decide) r.2⟩)
    (Cert.RDwdIdeal.Value.run (F := Ideal) m ρ)

/-! ## The call and its reference end with equal arrays -/

/-- Through the gate: both cotangents, where the cotangent of the block, the projection and the value are real. -/
theorem algebraic_dgu : Cert.algebraic_KDguIdeal_RDguIdeal_pre_finite_dgu := by
  intro m g m' g' hp h
  refine ⟨fun c => Cert.RDguIdeal.Read.val_main_v11 (F := Ideal) (m ((c.tc : Thread Cert.KDguIdeal.nD Cert.KDguIdeal.τ).loc Cert.KDguIdeal.main_arg0))
      (m ((c.tc : Thread Cert.KDguIdeal.nD Cert.KDguIdeal.τ).loc Cert.KDguIdeal.main_arg1)) (m ((c.tc : Thread Cert.KDguIdeal.nD Cert.KDguIdeal.τ).loc Cert.KDguIdeal.main_arg2))
      (m ((c.tc : Thread Cert.KDguIdeal.nD Cert.KDguIdeal.τ).loc Cert.KDguIdeal.main_arg3)),
    fun c => Cert.RDguIdeal.Read.val_main_v12 (F := Ideal) (m ((c.tc : Thread Cert.KDguIdeal.nD Cert.KDguIdeal.τ).loc Cert.KDguIdeal.main_arg0))
      (m ((c.tc : Thread Cert.KDguIdeal.nD Cert.KDguIdeal.τ).loc Cert.KDguIdeal.main_arg1)) (m ((c.tc : Thread Cert.KDguIdeal.nD Cert.KDguIdeal.τ).loc Cert.KDguIdeal.main_arg2)), ?_, ?_⟩
  · refine (θ_run Cert.KDguIdeal.defs _ _).mono (fun r hr c => ?_) (Cert.KDguIdeal.Value.run_blocks (F := Ideal) m g)
    obtain ⟨hx, hw, hu⟩ := Dgu.real_of_pre _ _ _ _ (hp c)
    exact ⟨(hr c).1.trans (Dgu.final5 m c hx hw hu), (hr c).2.1.trans (Dgu.final6 m c), (hr c).2.2⟩
  · refine (θ_run Cert.RDguIdeal.defs _ _).mono (fun r hr c => ?_) (Cert.RDguIdeal.Value.run (F := Ideal) m' g')
    obtain ⟨h0, h1, h2, h3⟩ := h c
    refine ⟨(hr c).1.trans ?_, (hr c).2.1.trans ?_, (hr c).2.2⟩
    · exact (Cert.RDguIdeal.Read.val_main_v11_eq _ _ _ _).trans (congr (congr (congr (congrArg (Cert.RDguIdeal.Read.val_main_v11 (F := Ideal)) h0) h1) h2) h3)
    · exact (Cert.RDguIdeal.Read.val_main_v12_eq _ _ _).trans (congr (congr (congrArg (Cert.RDguIdeal.Read.val_main_v12 (F := Ideal)) h0) h1) h2)

/-- The joint projection's weights: the two halves' products are the derivative's one product. -/
theorem algebraic_dwgu : Cert.algebraic_KDwguIdeal_RDwguIdeal := by
  intro m g m' g' _ h
  refine ⟨fun c => Cert.RDwguIdeal.Read.val_main_v12 (F := Ideal) (m ((c.tc : Thread Cert.KDwguIdeal.nD Cert.KDwguIdeal.τ).loc Cert.KDwguIdeal.main_arg0))
      (m ((c.tc : Thread Cert.KDwguIdeal.nD Cert.KDwguIdeal.τ).loc Cert.KDwguIdeal.main_arg1)) (m ((c.tc : Thread Cert.KDwguIdeal.nD Cert.KDwguIdeal.τ).loc Cert.KDwguIdeal.main_arg2)), ?_, ?_⟩
  · exact (θ_run Cert.KDwguIdeal.defs _ _).mono (fun r hr c => ⟨(hr c).1.trans (Dwgu.final m c), (hr c).2⟩)
      (Dwgu.run m g)
  · refine (θ_run Cert.RDwguIdeal.defs _ _).mono (fun r hr c => ?_) (Cert.RDwguIdeal.Value.run (F := Ideal) m' g')
    obtain ⟨h0, h1, h2⟩ := h c
    refine ⟨(hr c).1.trans ?_, (hr c).2⟩
    exact (Cert.RDwguIdeal.Read.val_main_v12_eq _ _ _).trans (congr (congr (congrArg (Cert.RDwguIdeal.Read.val_main_v12 (F := Ideal)) h0) h1) h2)

/-- The joint projection's input: the halves' sum of products is the derivative's one product. -/
theorem algebraic_dh : Cert.algebraic_KDhIdeal_RDhIdeal := by
  intro m g m' g' _ h
  refine ⟨fun c => Cert.RDhIdeal.Read.val_main_v8 (F := Ideal) (m ((c.tc : Thread Cert.KDhIdeal.nD Cert.KDhIdeal.τ).loc Cert.KDhIdeal.main_arg0))
      (m ((c.tc : Thread Cert.KDhIdeal.nD Cert.KDhIdeal.τ).loc Cert.KDhIdeal.main_arg1)) (m ((c.tc : Thread Cert.KDhIdeal.nD Cert.KDhIdeal.τ).loc Cert.KDhIdeal.main_arg2)), ?_, ?_⟩
  · exact (θ_run Cert.KDhIdeal.defs _ _).mono (fun r hr c => ⟨(hr c).1.trans (Dh.final m c), (hr c).2⟩)
      (Cert.KDhIdeal.Value.run_blocks (F := Ideal) m g)
  · refine (θ_run Cert.RDhIdeal.defs _ _).mono (fun r hr c => ?_) (Cert.RDhIdeal.Value.run (F := Ideal) m' g')
    obtain ⟨h0, h1, h2⟩ := h c
    refine ⟨(hr c).1.trans ?_, (hr c).2⟩
    exact (Cert.RDhIdeal.Read.val_main_v8_eq _ _ _).trans (congr (congr (congrArg (Cert.RDhIdeal.Read.val_main_v8 (F := Ideal)) h0) h1) h2)

/-- The down projection's weights: the product summed over blocks of rows is the derivative's product. -/
theorem algebraic_dwd : Cert.algebraic_KDwdIdeal_RDwdIdeal := by
  intro m g m' g' _ h
  refine ⟨fun c => Cert.RDwdIdeal.Read.val_main_v6 (F := Ideal) (m ((c.tc : Thread Cert.KDwdIdeal.nD Cert.KDwdIdeal.τ).loc Cert.KDwdIdeal.main_arg0))
      (m ((c.tc : Thread Cert.KDwdIdeal.nD Cert.KDwdIdeal.τ).loc Cert.KDwdIdeal.main_arg1)), ?_, ?_⟩
  · exact (θ_run Cert.KDwdIdeal.defs _ _).mono (fun r hr c => ⟨(hr c).1.trans (Dwd.final m c), (hr c).2⟩)
      (Cert.KDwdIdeal.Value.run_blocks (F := Ideal) m g)
  · refine (θ_run Cert.RDwdIdeal.defs _ _).mono (fun r hr c => ?_) (Cert.RDwdIdeal.Value.run (F := Ideal) m' g')
    obtain ⟨h0, h1⟩ := h c
    refine ⟨(hr c).1.trans ?_, (hr c).2⟩
    exact (Cert.RDwdIdeal.Read.val_main_v6_eq _ _).trans (congr (congrArg (Cert.RDwdIdeal.Read.val_main_v6 (F := Ideal)) h0) h1)

end Cert.Proof.Ffn

end
-- ==== Proof.Merge.lean ====
/-
  The gradients through the merge of the two branches (`merge_bwd`): each point computes one tile of the output
  projection's cotangent and multiplies it by the gates, and by the branches' outputs and the gates' derivatives.
-/
module

public import proofs.«01_k».proof.Proof.Gen.KMergeIdeal.Value
public import proofs.«01_k».proof.Proof.Gen.RMergeIdeal.Read
public import Idealize.ShloMosaic.Lib.Pipeline.ValueKit
public import Idealize.ShloMosaic.Lib.Pointwise

@[expose] public section

noncomputable section

namespace Cert.Proof.Merge

open Cert.KMergeIdeal Cert.KMergeIdeal.Gen Idealize.ShloMosaic Idealize.ShloMosaic.TcCoe Idealize.SL.Sem
open Idealize.ShloMosaic.Pipeline (Dat Cfg Window)
open scoped BigOperators

variable (m : (ℓ : Loc nD τ sig) → Buf (Elt Ideal) ℓ)

/-- The logistic function. -/
def sg (g : EReal) : EReal := Ideal.div 1 (1 + Ideal.exp (-g))

theorem idx0 : ∀ t : Fin cfg0.N, win0_0.index t = ![t.val % 8, 0] := (by decide +kernel : ∀ t : Fin grid0.N, _)
theorem idx1 : ∀ t : Fin cfg0.N, win0_1.index t = ![t.val / 8, 0] := (by decide +kernel : ∀ t : Fin grid0.N, _)
theorem idx2 : ∀ t : Fin cfg0.N, win0_2.index t = ![t.val % 8, t.val / 8] := (by decide +kernel : ∀ t : Fin grid0.N, _)
theorem idx3 : ∀ t : Fin cfg0.N, win0_3.index t = ![t.val % 8, t.val / 8] := (by decide +kernel : ∀ t : Fin grid0.N, _)
theorem idx4 : ∀ t : Fin cfg0.N, win0_4.index t = ![t.val % 8, t.val / 8] := (by decide +kernel : ∀ t : Fin grid0.N, _)
theorem idx6 : ∀ t : Fin cfg0.N, win0_6.index t = ![t.val % 8, t.val / 8] := (by decide +kernel : ∀ t : Fin grid0.N, _)
theorem idx7 : ∀ t : Fin cfg0.N, win0_7.index t = ![t.val % 8, t.val / 8] := (by decide +kernel : ∀ t : Fin grid0.N, _)
theorem idx8 : ∀ t : Fin cfg0.N, win0_8.index t = ![t.val % 8, t.val / 8] := (by decide +kernel : ∀ t : Fin grid0.N, _)

/-- A tile of the merged branches' cotangent. -/
def up (x : FVec Ideal S1024x2048 .bf16) (w : FVec Ideal S512x2048 .bf16) (j : S1024x512.Idx) : EReal :=
  ∑ k : Fin 2048, x (ix2 (j 0) k) * w (ix2 (j 1) k)

theorem pay3_apply (x : FVec Ideal S1024x2048 .bf16) (w : FVec Ideal S512x2048 .bf16) (j : S1024x512.Idx) :
    k0_pay3 (F := Ideal) x w j = up x w j := by
  pointwise [k0_pay3, up]

theorem pay4_apply (g : FVec Ideal S1024x512 .bf16) (j : S1024x512.Idx) : k0_pay4 (F := Ideal) g j = sg (g j) := by
  pointwise [k0_pay4, sg]
  rw [zero_sub]

theorem pay5_apply (g : FVec Ideal S1024x512 .bf16) (j : S1024x512.Idx) : k0_pay5 (F := Ideal) g j = sg (g j) := by
  pointwise [k0_pay5, sg]
  rw [zero_sub]

theorem pay6_apply (x : FVec Ideal S1024x2048 .bf16) (w : FVec Ideal S512x2048 .bf16) (g : FVec Ideal S1024x512 .bf16)
    (j : S1024x512.Idx) : k0_pay6 (F := Ideal) x w g j = up x w j * sg (g j) := by
  rw [← pay3_apply, ← pay4_apply]
  pointwise [k0_pay6]

theorem pay7_apply (x : FVec Ideal S1024x2048 .bf16) (w : FVec Ideal S512x2048 .bf16) (g : FVec Ideal S1024x512 .bf16)
    (j : S1024x512.Idx) : k0_pay7 (F := Ideal) x w g j = up x w j * sg (g j) := by
  rw [← pay3_apply, ← pay5_apply]
  pointwise [k0_pay7]

theorem pay1_apply (x : FVec Ideal S1024x2048 .bf16) (w : FVec Ideal S512x2048 .bf16) (g y : FVec Ideal S1024x512 .bf16)
    (j : S1024x512.Idx) : k0_pay1 (F := Ideal) (k0_pay4 g) (k0_pay8 x w y) (k0_pay9 g) j
      = up x w j * y j * (sg (g j) * (1 - sg (g j))) := by
  rw [← pay3_apply, ← pay4_apply]
  pointwise [k0_pay1, k0_pay8, k0_pay9]

theorem pay2_apply (x : FVec Ideal S1024x2048 .bf16) (w : FVec Ideal S512x2048 .bf16) (g y : FVec Ideal S1024x512 .bf16)
    (j : S1024x512.Idx) : k0_pay2 (F := Ideal) (k0_pay3 x w) (k0_pay5 g) y j
      = up x w j * y j * (sg (g j) * (1 - sg (g j))) := by
  rw [← pay3_apply, ← pay5_apply]
  pointwise [k0_pay2]

section Reference

open Cert.RMergeIdeal.Read

variable (x : FVec Ideal Cert.RMergeIdeal.S8192x2048 .bf16) (w : FVec Ideal Cert.RMergeIdeal.S2048x2048 .bf16)
  (ga gb yp ya : FVec Ideal Cert.RMergeIdeal.S8192x2048 .bf16)

/-- The merged branches' cotangent, whole. -/
def whole (i : Cert.RMergeIdeal.S8192x2048.Idx) : EReal := ∑ k : Fin 2048, x (ix2 (i 0) k) * w (ix2 (i 1) k)

theorem v28_apply (i : Cert.RMergeIdeal.S8192x2048.Idx) : val_main_v28 (F := Ideal) x w i = whole x w i := by
  pointwise [val_main_v28, val_main_v27, val_main_v25, whole]

theorem v9_apply (i : Cert.RMergeIdeal.S8192x2048.Idx) : val_main_v9 (F := Ideal) ga i = sg (ga i) := by
  pointwise [val_main_v9, val_main_v8, val_main_cst_0, val_main_v7, val_main_v6, val_main_cst, val_main_v5, val_main_v4, val_main_v0, sg]

theorem v19_apply (i : Cert.RMergeIdeal.S8192x2048.Idx) : val_main_v19 (F := Ideal) gb i = sg (gb i) := by
  pointwise [val_main_v19, val_main_v18, val_main_cst_3, val_main_v17, val_main_v16, val_main_cst_2, val_main_v15, val_main_v14, val_main_v1, sg]

theorem ref_dyp (i : Cert.RMergeIdeal.S8192x2048.Idx) : val_main_v41 (F := Ideal) x w ga i = sg (ga i) * whole x w i := by
  rw [← v28_apply, ← v9_apply]
  pointwise [val_main_v41, val_main_v32]

theorem ref_dya (i : Cert.RMergeIdeal.S8192x2048.Idx) : val_main_v42 (F := Ideal) x w gb i = sg (gb i) * whole x w i := by
  rw [← v28_apply, ← v19_apply]
  pointwise [val_main_v42, val_main_v29]

theorem ref_dga (i : Cert.RMergeIdeal.S8192x2048.Idx) : val_main_v34 (F := Ideal) x w ga yp i
    = whole x w i * yp i * (sg (ga i) * (1 - sg (ga i))) := by
  rw [← v28_apply, ← v9_apply]
  pointwise [val_main_v34, val_main_v33, val_main_v12, val_main_v11, val_main_v10, val_main_cst_1, val_main_v2]

theorem ref_dgb (i : Cert.RMergeIdeal.S8192x2048.Idx) : val_main_v31 (F := Ideal) x w gb ya i
    = whole x w i * ya i * (sg (gb i) * (1 - sg (gb i))) := by
  rw [← v28_apply, ← v19_apply]
  pointwise [val_main_v31, val_main_v30, val_main_v22, val_main_v21, val_main_v20, val_main_cst_4, val_main_v3]

/-- The joined cotangents of the gates, at a column of a tile of the first gate. -/
theorem ref_gates_a (i : Cert.RMergeIdeal.S8192x4096.Idx) (i' : Cert.RMergeIdeal.S8192x2048.Idx) (h0 : (i' 0).val = (i 0).val)
    (h1 : (i' 1).val = (i 1).val / 1024 * 512 + (i 1).val % 512) (h : (i 1).val / 512 % 2 = 0) :
    val_main_v43 (F := Ideal) x w ga gb yp ya i = whole x w i' * yp i' * (sg (ga i') * (1 - sg (ga i'))) := by
  rw [← ref_dga]
  pointwise [val_main_v43, val_main_v40, val_main_v39, val_main_v38, val_main_v37, val_main_v36, val_main_v35]
  rw [dif_pos (by omega)]
  exact congrArg (val_main_v34 (F := Ideal) x w ga yp) (funext (Fin.forall_fin_two.mpr ⟨Fin.ext h0.symm, Fin.ext h1.symm⟩))

/-- The joined cotangents of the gates, at a column of a tile of the second gate. -/
theorem ref_gates_b (i : Cert.RMergeIdeal.S8192x4096.Idx) (i' : Cert.RMergeIdeal.S8192x2048.Idx) (h0 : (i' 0).val = (i 0).val)
    (h1 : (i' 1).val = (i 1).val / 1024 * 512 + (i 1).val % 512) (h : (i 1).val / 512 % 2 = 1) :
    val_main_v43 (F := Ideal) x w ga gb yp ya i = whole x w i' * ya i' * (sg (gb i') * (1 - sg (gb i'))) := by
  rw [← ref_dgb]
  pointwise [val_main_v43, val_main_v40, val_main_v39, val_main_v38, val_main_v37, val_main_v36, val_main_v35]
  rw [dif_neg (by omega)]
  exact congrArg (val_main_v31 (F := Ideal) x w gb ya) (funext (Fin.forall_fin_two.mpr ⟨Fin.ext h0.symm, Fin.ext h1.symm⟩))

end Reference

/-- The operand which holds the two gates' tiles in turn, at a column of a tile of the first gate. -/
theorem gates_a (c : Dev nD) (i : S8192x4096.Idx) (i' : S8192x2048.Idx) (h0 : (i' 0).val = (i 0).val)
    (h1 : (i' 1).val = (i 1).val / 1024 * 512 + (i 1).val % 512) (h : (i 1).val / 512 % 2 = 0) :
    (V m c main_v5 : FVec Ideal S8192x4096 .bf16) i = (m ((c : Thread nD τ).loc main_arg2) : FVec Ideal S8192x2048 .bf16) i' := by
  entry_read
  pointwise
  rw [dif_pos (by omega)]
  exact congrArg (m ((c : Thread nD τ).loc main_arg2) : FVec Ideal S8192x2048 .bf16)
    (funext (Fin.forall_fin_two.mpr ⟨Fin.ext h0.symm, Fin.ext h1.symm⟩))

/-- The same at a column of a tile of the second gate. -/
theorem gates_b (c : Dev nD) (i : S8192x4096.Idx) (i' : S8192x2048.Idx) (h0 : (i' 0).val = (i 0).val)
    (h1 : (i' 1).val = (i 1).val / 1024 * 512 + (i 1).val % 512) (h : (i 1).val / 512 % 2 = 1) :
    (V m c main_v5 : FVec Ideal S8192x4096 .bf16) i = (m ((c : Thread nD τ).loc main_arg3) : FVec Ideal S8192x2048 .bf16) i' := by
  entry_read
  pointwise
  rw [dif_neg (by omega)]
  exact congrArg (m ((c : Thread nD τ).loc main_arg3) : FVec Ideal S8192x2048 .bf16)
    (funext (Fin.forall_fin_two.mpr ⟨Fin.ext h0.symm, Fin.ext h1.symm⟩))

/-- The first gate's tile of a point. -/
theorem tile_a (c : Dev nD) (t : Fin cfg0.N) (j : S1024x512.Idx) (i : S8192x2048.Idx)
    (h0 : (i 0).val = t.val % 8 * 1024 + (j 0).val) (h1 : (i 1).val = t.val / 8 * 512 + (j 1).val) :
    (View.ld (Val := Elt Ideal) (e' := .bf16) (iblk m c 2 t) r0_2 : FVec Ideal S1024x512 .bf16) j
      = (m ((c : Thread nD τ).loc main_arg2) : FVec Ideal S8192x2048 .bf16) i := by
  have hj : (j 1).val < 512 := (j 1).isLt
  refine (View.ld_unit_apply_of (S := S1024x1024) (Val := Elt Ideal) (e := .bf16) _ _ _ _ j (ix2 (j 0) ⟨(j 1).val, by omega⟩)
    fun a => ?_).trans ?_
  · fin_cases a <;> simp [ix2]
  · refine gates_a m c _ i ?_ ?_ ?_
    · rw [h0]
      blk_simp [idx2]
    · rw [h1]
      blk_simp [idx2]
      dsimp only
      omega
    · blk_simp [idx2]
      dsimp only
      omega

/-- The second gate's tile of a point. -/
theorem tile_b (c : Dev nD) (t : Fin cfg0.N) (j : S1024x512.Idx) (i : S8192x2048.Idx)
    (h0 : (i 0).val = t.val % 8 * 1024 + (j 0).val) (h1 : (i 1).val = t.val / 8 * 512 + (j 1).val) :
    (View.ld (Val := Elt Ideal) (e' := .bf16) (iblk m c 2 t) r0_3 : FVec Ideal S1024x512 .bf16) j
      = (m ((c : Thread nD τ).loc main_arg3) : FVec Ideal S8192x2048 .bf16) i := by
  have hj : (j 1).val < 512 := (j 1).isLt
  refine (View.ld_unit_apply_of (S := S1024x1024) (Val := Elt Ideal) (e := .bf16) _ _ _ _ j (ix2 (j 0) ⟨512 + (j 1).val, by omega⟩)
    fun a => ?_).trans ?_
  · fin_cases a <;> simp [ix2]
  · refine gates_b m c _ i ?_ ?_ ?_
    · rw [h0]
      blk_simp [idx2]
    · rw [h1]
      blk_simp [idx2]
      dsimp only
      omega
    · blk_simp [idx2]
      dsimp only
      omega

/-- THE FIRST BRANCH'S COTANGENT. -/
theorem final6 (c : Dev nD) :
    (dats m 0 c).arrAt 6 cfg0.N
      = Cert.RMergeIdeal.Read.val_main_v41 (F := Ideal) (m ((c : Thread nD τ).loc main_arg0))
          (m ((c : Thread nD τ).loc main_arg1)) (m ((c : Thread nD τ).loc main_arg2)) := by
  refine (dats m 0 c).arrAt_eq_of_covers 6 _ (by decide +kernel) fun t hf y => ?_
  blk_simp
  rw [after0_6, ref_dyp]
  frame_out
  refine (pay6_apply _ _ _ _).trans ((mul_comm (G := EReal) _ _).trans ?_)
  refine congrArg₂ (fun a b : EReal => a * b) (congrArg sg (tile_a m c t y _ ?_ ?_)) ?_
  · blk_simp [idx6]
  · blk_simp [idx6]
  · unfold up whole
    blk_point [iblk, V, idx0, idx1, idx6]

/-- THE SECOND BRANCH'S COTANGENT. -/
theorem final7 (c : Dev nD) :
    (dats m 0 c).arrAt 7 cfg0.N
      = Cert.RMergeIdeal.Read.val_main_v42 (F := Ideal) (m ((c : Thread nD τ).loc main_arg0))
          (m ((c : Thread nD τ).loc main_arg1)) (m ((c : Thread nD τ).loc main_arg3)) := by
  refine (dats m 0 c).arrAt_eq_of_covers 7 _ (by decide +kernel) fun t hf y => ?_
  blk_simp
  rw [after0_7, ref_dya]
  frame_out
  refine (pay7_apply _ _ _ _).trans ((mul_comm (G := EReal) _ _).trans ?_)
  refine congrArg₂ (fun a b : EReal => a * b) (congrArg sg (tile_b m c t y _ ?_ ?_)) ?_
  · blk_simp [idx7]
  · blk_simp [idx7]
  · unfold up whole
    blk_point [iblk, V, idx0, idx1, idx7]

/-- THE GATES' COTANGENTS, their tiles in turn. -/
theorem final8 (c : Dev nD) :
    (dats m 0 c).arrAt 8 cfg0.N
      = Cert.RMergeIdeal.Read.val_main_v43 (F := Ideal) (m ((c : Thread nD τ).loc main_arg0))
          (m ((c : Thread nD τ).loc main_arg1)) (m ((c : Thread nD τ).loc main_arg2)) (m ((c : Thread nD τ).loc main_arg3))
          (m ((c : Thread nD τ).loc main_arg4)) (m ((c : Thread nD τ).loc main_arg5)) := by
  refine (dats m 0 c).arrAt_eq_of_covers 8 _ (by decide +kernel) fun t hf y => ?_
  have hN : t.val < 32 := lt_of_lt_of_eq t.isLt N_0
  have hi0 : (((win0_8.blk t).view.emb y) 0).val = t.val % 8 * 1024 + (y 0).val := by blk_simp [idx8]
  have hi1 : (((win0_8.blk t).view.emb y) 1).val = t.val / 8 * 1024 + (y 1).val := by blk_simp [idx8]
  blk_simp
  rw [after0_8]
  frame_out
  canon_tiles x h
  · refine (pay2_apply _ _ _ _ x).trans ?_
    refine Eq.trans ?_ (ref_gates_b _ _ _ _ _ _ _ (ix2 ⟨t.val % 8 * 1024 + (x 0).val, by omega⟩ ⟨t.val / 8 * 512 + (x 1).val, by omega⟩) ?_ ?_ ?_).symm
    · refine (congrArg₂ (fun a b : EReal => a * b) ?_ (congrArg (fun g => sg g * (1 - sg g)) (tile_b m c t x _ rfl rfl)))
      unfold up whole
      blk_point [iblk, V, idx0, idx1, idx4, idx8]
    · rw [hi0]; dsimp only [ix2]; omega
    · rw [hi1]; dsimp only [ix2]; omega
    · rw [hi1]; omega
  · refine (pay1_apply _ _ _ _ x).trans ?_
    refine Eq.trans ?_ (ref_gates_a _ _ _ _ _ _ _ (ix2 ⟨t.val % 8 * 1024 + (x 0).val, by omega⟩ ⟨t.val / 8 * 512 + (x 1).val, by omega⟩) ?_ ?_ ?_).symm
    · refine (congrArg₂ (fun a b : EReal => a * b) ?_ (congrArg (fun g => sg g * (1 - sg g)) (tile_a m c t x _ rfl rfl)))
      unfold up whole
      blk_point [iblk, V, idx0, idx1, idx3, idx8]
    · rw [hi0]; dsimp only [ix2]; omega
    · rw [hi1]; dsimp only [ix2]; omega
    · rw [hi1]; omega

end Cert.Proof.Merge

end
-- ==== Proof.Dwin.lean ====
/-
  The gradient of the mixer's input projection (`mix_dwin`): the blocked, accumulated product of the kernel is the one
  product of the reference.
-/
module

public import proofs.«01_k».proof.Proof.Gen.KDwinIdeal.Value
public import proofs.«01_k».proof.Proof.Gen.RDwinIdeal.Read
public import Idealize.ShloMosaic.Lib.Pipeline.ValueKit
public import Idealize.ShloMosaic.Lib.Pipeline.ReadBack
public import Idealize.ShloMosaic.Lib.Pointwise

@[expose] public section

noncomputable section

namespace Cert.Proof.Dwin

open Cert.KDwinIdeal Cert.KDwinIdeal.Gen Idealize.ShloMosaic Idealize.ShloMosaic.TcCoe Idealize.SL.Sem
open Idealize.ShloMosaic.Pipeline (Dat Cfg Window)
open scoped BigOperators

variable (m : (ℓ : Loc nD τ sig) → Buf (Elt Ideal) ℓ)

/-- The block indices of the windows at point `t`: the operands' rows by `t % 8`. -/
theorem idx0 : ∀ t : Fin cfg0.N, win0_0.index t = ![t.val % 8, 0] :=
  (by decide +kernel : ∀ t : Fin grid0.N, _)
theorem idx1 : ∀ t : Fin cfg0.N, win0_1.index t = ![t.val % 8, t.val / 8] :=
  (by decide +kernel : ∀ t : Fin grid0.N, _)
theorem idx2 : ∀ t : Fin cfg0.N, win0_2.index t = ![0, t.val / 8] :=
  (by decide +kernel : ∀ t : Fin grid0.N, _)

/-- What point `t` adds to the accumulator: its block of the product. -/
def part (x : FVec Ideal S1024x2048 .bf16) (y : FVec Ideal S1024x1280 .bf16) (j : S2048x1280.Idx) : EReal :=
  ∑ k : Fin 1024, x (ix2 k (j 0)) * y (ix2 k (j 1))

theorem pay2_apply (a : Vec Ideal S2048x1280 .f32) (x : Vec Ideal S1024x2048 .bf16) (y : Vec Ideal S1024x1280 .bf16)
    (j : S2048x1280.Idx) : k0_pay2 a x y j = a j + part x y j := by
  pointwise [k0_pay2, part]

theorem pay1_apply (j : S2048x1280.Idx) : k0_pay1 (F := Ideal) j = 0 := by
  pointwise [k0_pay1]

/-- The accumulator at the last point of a run is the sum of the run's eight block products. -/
theorem acc_eq (c : Dev nD) (t : Fin cfg0.N) (h : t.val % 8 = 7) (j : S2048x1280.Idx) :
    (outsAt0 m c t.val t.isLt).2 j = 0 + ∑ s : Fin 8,
      part (iblk m c 0 ⟨8 * (t.val / 8) + s.val, Pipeline.run_point_lt_of_flush t h s⟩)
        (iblk m c 1 ⟨8 * (t.val / 8) + s.val, Pipeline.run_point_lt_of_flush t h s⟩) j := by
  refine Pipeline.eq_sum_fin_of_reset_step_apply_of_flush (fun n h => (outsAt0 m c n h).2) 8 (fun _ => (0 : EReal))
    (fun t => part (iblk m c 0 t) (iblk m c 1 t)) ?_ ?_ t h j
  · intro t h0 j
    have h1 : ¬t.val % 8 = 7 := by omega
    rw [outsAt0_A m c t h0 h1]; frame_out
    rw [pay2_apply, pay1_apply]
  · intro t h0 j
    by_cases h1 : t.val % 8 = 7
    · rw [outsAt0_C m c t h0 h1]; frame_out
      rw [pay2_apply, read_unread_whole]
    · rw [outsAt0_B m c t h0 h1]; frame_out
      rw [pay2_apply, read_unread_whole]

/-- THE RESULT: the array the kernel leaves is the reference's gradient. -/
theorem final (c : Dev nD) :
    (dats m 0 c).arrAt 2 cfg0.N
      = Cert.RDwinIdeal.Read.val_main_v6 (F := Ideal) (m ((c : Thread nD τ).loc main_arg0)) (m ((c : Thread nD τ).loc main_arg1)) := by
  refine (dats m 0 c).arrAt_eq_of_covers 2 _ (by decide +kernel) fun t hf y => ?_
  have h7 := (flush0_2 t).mp hf
  blk_simp
  rw [after0_2]
  have e : (outsAt0 m c t.val t.isLt).1 y = (outsAt0 m c t.val t.isLt).2 y := by
    have h0 : ¬t.val % 8 = 0 := by omega
    rw [outsAt0_C m c t h0 h7]; frame_out
    pointwise [k0_pay3]
  rw [e, acc_eq m c t h7, zero_add]
  simp only [Cert.RDwinIdeal.Read.val_main_v6_apply, Cert.RDwinIdeal.Read.val_main_v5_apply, Cert.RDwinIdeal.Read.val_main_v4_apply,
    Cert.RDwinIdeal.Read.val_main_v3_apply, Cert.RDwinIdeal.Read.val_main_v1_apply, Ideal.truncf_def, Ideal.extf_def]
  unfold part
  refine Fin.sum_mul_add_congr fun s k hl => ?_
  refine (mul_comm (G := EReal) _ _).trans ?_
  blk_point [iblk, V, idx0, idx1, idx2]

end Cert.Proof.Dwin

end
-- ==== Proof.Dwo.lean ====
/-
  The gradient of the mixer's output projection (`mix_dwo`): the blocked, accumulated product of the kernel is the one
  product of the reference.
-/
module

public import proofs.«01_k».proof.Proof.Gen.KDwoIdeal.Value
public import proofs.«01_k».proof.Proof.Gen.RDwoIdeal.Read
public import Idealize.ShloMosaic.Lib.Pipeline.ValueKit
public import Idealize.ShloMosaic.Lib.Pipeline.ReadBack
public import Idealize.ShloMosaic.Lib.Pointwise

@[expose] public section

noncomputable section

namespace Cert.Proof.Dwo

open Cert.KDwoIdeal Cert.KDwoIdeal.Gen Idealize.ShloMosaic Idealize.ShloMosaic.TcCoe Idealize.SL.Sem
open Idealize.ShloMosaic.Pipeline (Dat Cfg Window)
open scoped BigOperators

variable (m : (ℓ : Loc nD τ sig) → Buf (Elt Ideal) ℓ)

/-- The block indices of the windows at point `t`: the operands' rows by `t % 8`. -/
theorem idx0 : ∀ t : Fin cfg0.N, win0_0.index t = ![t.val % 8, 0] :=
  (by decide +kernel : ∀ t : Fin grid0.N, _)
theorem idx1 : ∀ t : Fin cfg0.N, win0_1.index t = ![t.val % 8, t.val / 8] :=
  (by decide +kernel : ∀ t : Fin grid0.N, _)
theorem idx2 : ∀ t : Fin cfg0.N, win0_2.index t = ![0, t.val / 8] :=
  (by decide +kernel : ∀ t : Fin grid0.N, _)

/-- What point `t` adds to the accumulator: its block of the product. -/
def part (x : FVec Ideal S1024x2048 .bf16) (y : FVec Ideal S1024x1024 .bf16) (j : S2048x1024.Idx) : EReal :=
  ∑ k : Fin 1024, x (ix2 k (j 0)) * y (ix2 k (j 1))

theorem pay2_apply (a : Vec Ideal S2048x1024 .f32) (x : Vec Ideal S1024x2048 .bf16) (y : Vec Ideal S1024x1024 .bf16)
    (j : S2048x1024.Idx) : k0_pay2 a x y j = a j + part x y j := by
  pointwise [k0_pay2, part]

theorem pay1_apply (j : S2048x1024.Idx) : k0_pay1 (F := Ideal) j = 0 := by
  pointwise [k0_pay1]

/-- The accumulator at the last point of a run is the sum of the run's eight block products. -/
theorem acc_eq (c : Dev nD) (t : Fin cfg0.N) (h : t.val % 8 = 7) (j : S2048x1024.Idx) :
    (outsAt0 m c t.val t.isLt).2 j = 0 + ∑ s : Fin 8,
      part (iblk m c 0 ⟨8 * (t.val / 8) + s.val, Pipeline.run_point_lt_of_flush t h s⟩)
        (iblk m c 1 ⟨8 * (t.val / 8) + s.val, Pipeline.run_point_lt_of_flush t h s⟩) j := by
  refine Pipeline.eq_sum_fin_of_reset_step_apply_of_flush (fun n h => (outsAt0 m c n h).2) 8 (fun _ => (0 : EReal))
    (fun t => part (iblk m c 0 t) (iblk m c 1 t)) ?_ ?_ t h j
  · intro t h0 j
    have h1 : ¬t.val % 8 = 7 := by omega
    rw [outsAt0_A m c t h0 h1]; frame_out
    rw [pay2_apply, pay1_apply]
  · intro t h0 j
    by_cases h1 : t.val % 8 = 7
    · rw [outsAt0_C m c t h0 h1]; frame_out
      rw [pay2_apply, read_unread_whole]
    · rw [outsAt0_B m c t h0 h1]; frame_out
      rw [pay2_apply, read_unread_whole]

/-- THE RESULT: the array the kernel leaves is the reference's gradient. -/
theorem final (c : Dev nD) :
    (dats m 0 c).arrAt 2 cfg0.N
      = Cert.RDwoIdeal.Read.val_main_v6 (F := Ideal) (m ((c : Thread nD τ).loc main_arg0)) (m ((c : Thread nD τ).loc main_arg1)) := by
  refine (dats m 0 c).arrAt_eq_of_covers 2 _ (by decide +kernel) fun t hf y => ?_
  have h7 := (flush0_2 t).mp hf
  blk_simp
  rw [after0_2]
  have e : (outsAt0 m c t.val t.isLt).1 y = (outsAt0 m c t.val t.isLt).2 y := by
    have h0 : ¬t.val % 8 = 0 := by omega
    rw [outsAt0_C m c t h0 h7]; frame_out
    pointwise [k0_pay3]
  rw [e, acc_eq m c t h7, zero_add]
  simp only [Cert.RDwoIdeal.Read.val_main_v6_apply, Cert.RDwoIdeal.Read.val_main_v5_apply, Cert.RDwoIdeal.Read.val_main_v4_apply,
    Cert.RDwoIdeal.Read.val_main_v3_apply, Cert.RDwoIdeal.Read.val_main_v1_apply, Ideal.truncf_def, Ideal.extf_def]
  unfold part
  refine Fin.sum_mul_add_congr fun s k hl => ?_
  refine (mul_comm (G := EReal) _ _).trans ?_
  blk_point [iblk, V, idx0, idx1, idx2]

end Cert.Proof.Dwo

end
-- ==== Proof.Dwup.lean ====
/-
  The gradient of a branch's up projection (`pool_dwup`, `attn_dwup`): the accumulated product of the kernel is the one
  product of the reference.
-/
module

public import proofs.«01_k».proof.Proof.Gen.KDwupIdeal.Value
public import proofs.«01_k».proof.Proof.Gen.RDwupIdeal.Read
public import Idealize.ShloMosaic.Lib.Pipeline.ValueKit
public import Idealize.ShloMosaic.Lib.Pipeline.ReadBack
public import Idealize.ShloMosaic.Lib.Pointwise

@[expose] public section

noncomputable section

namespace Cert.Proof.Dwup

open Cert.KDwupIdeal Cert.KDwupIdeal.Gen Idealize.ShloMosaic Idealize.ShloMosaic.TcCoe Idealize.SL.Sem
open Idealize.ShloMosaic.Pipeline (Dat Cfg Window)
open scoped BigOperators

variable (m : (ℓ : Loc nD τ sig) → Buf (Elt Ideal) ℓ)

/-- The block indices of the windows at point `t`: the operands' rows by `t % 8`. -/
theorem idx0 : ∀ t : Fin cfg0.N, win0_0.index t = ![t.val % 8, 0] :=
  (by decide +kernel : ∀ t : Fin grid0.N, _)
theorem idx1 : ∀ t : Fin cfg0.N, win0_1.index t = ![t.val % 8, 0] :=
  (by decide +kernel : ∀ t : Fin grid0.N, _)
theorem idx2 : ∀ t : Fin cfg0.N, win0_2.index t = ![0, 0] :=
  (by decide +kernel : ∀ t : Fin grid0.N, _)

/-- What point `t` adds to the accumulator: its block of the product. -/
def part (x : FVec Ideal S1024x1024 .bf16) (y : FVec Ideal S1024x2048 .bf16) (j : S1024x2048.Idx) : EReal :=
  ∑ k : Fin 1024, x (ix2 k (j 0)) * y (ix2 k (j 1))

theorem pay2_apply (a : Vec Ideal S1024x2048 .f32) (x : Vec Ideal S1024x1024 .bf16) (y : Vec Ideal S1024x2048 .bf16)
    (j : S1024x2048.Idx) : k0_pay2 a x y j = a j + part x y j := by
  pointwise [k0_pay2, part]

theorem pay1_apply (j : S1024x2048.Idx) : k0_pay1 (F := Ideal) j = 0 := by
  pointwise [k0_pay1]

/-- The accumulator at the last point of a run is the sum of the run's eight block products. -/
theorem acc_eq (c : Dev nD) (t : Fin cfg0.N) (h : t.val % 8 = 7) (j : S1024x2048.Idx) :
    (outsAt0 m c t.val t.isLt).2 j = 0 + ∑ s : Fin 8,
      part (iblk m c 0 ⟨8 * (t.val / 8) + s.val, Pipeline.run_point_lt_of_flush t h s⟩)
        (iblk m c 1 ⟨8 * (t.val / 8) + s.val, Pipeline.run_point_lt_of_flush t h s⟩) j := by
  refine Pipeline.eq_sum_fin_of_reset_step_apply_of_flush (fun n h => (outsAt0 m c n h).2) 8 (fun _ => (0 : EReal))
    (fun t => part (iblk m c 0 t) (iblk m c 1 t)) ?_ ?_ t h j
  · intro t h0 j
    have h1 : ¬t.val % 8 = 7 := by omega
    rw [outsAt0_A m c t h0 h1]; frame_out
    rw [pay2_apply, pay1_apply]
  · intro t h0 j
    by_cases h1 : t.val % 8 = 7
    · rw [outsAt0_C m c t h0 h1]; frame_out
      rw [pay2_apply, read_unread_whole]
    · rw [outsAt0_B m c t h0 h1]; frame_out
      rw [pay2_apply, read_unread_whole]

/-- THE RESULT: the array the kernel leaves is the reference's gradient. -/
theorem final (c : Dev nD) :
    (dats m 0 c).arrAt 2 cfg0.N
      = Cert.RDwupIdeal.Read.val_main_v6 (F := Ideal) (m ((c : Thread nD τ).loc main_arg0)) (m ((c : Thread nD τ).loc main_arg1)) := by
  refine (dats m 0 c).arrAt_eq_of_covers 2 _ (by decide +kernel) fun t hf y => ?_
  have h7 := (flush0_2 t).mp hf
  blk_simp
  rw [after0_2]
  have e : (outsAt0 m c t.val t.isLt).1 y = (outsAt0 m c t.val t.isLt).2 y := by
    have h0 : ¬t.val % 8 = 0 := by omega
    rw [outsAt0_C m c t h0 h7]; frame_out
    pointwise [k0_pay3]
  rw [e, acc_eq m c t h7, zero_add]
  simp only [Cert.RDwupIdeal.Read.val_main_v6_apply, Cert.RDwupIdeal.Read.val_main_v5_apply, Cert.RDwupIdeal.Read.val_main_v4_apply,
    Cert.RDwupIdeal.Read.val_main_v3_apply, Cert.RDwupIdeal.Read.val_main_v1_apply, Ideal.truncf_def, Ideal.extf_def]
  unfold part
  refine Fin.sum_mul_add_congr fun s k hl => ?_
  refine (mul_comm (G := EReal) _ _).trans ?_
  blk_point [iblk, V, idx0, idx1, idx2]

end Cert.Proof.Dwup

end
-- ==== Proof.Dhm.lean ====
/-
  The cotangent of the mixer's input (`mix_dh`): the blocked product of the kernel is the one product of the reference.
-/
module

public import proofs.«01_k».proof.Proof.Gen.KDhmIdeal.Value
public import proofs.«01_k».proof.Proof.Gen.RDhmIdeal.Read
public import Idealize.ShloMosaic.Lib.Pipeline.ValueKit
public import Idealize.ShloMosaic.Lib.Pointwise

@[expose] public section

noncomputable section

namespace Cert.Proof.Dhm

open Cert.KDhmIdeal Cert.KDhmIdeal.Gen Idealize.ShloMosaic Idealize.ShloMosaic.TcCoe Idealize.SL.Sem
open Idealize.ShloMosaic.Pipeline (Dat Cfg Window)
open scoped BigOperators

variable (m : (ℓ : Loc nD τ sig) → Buf (Elt Ideal) ℓ)

theorem idx0 : ∀ t : Fin cfg0.N, win0_0.index t = ![t.val % 8, 0] := (by decide +kernel : ∀ t : Fin grid0.N, _)
theorem idx1 : ∀ t : Fin cfg0.N, win0_1.index t = ![t.val / 8, 0] := (by decide +kernel : ∀ t : Fin grid0.N, _)
theorem idx3 : ∀ t : Fin cfg0.N, win0_3.index t = ![t.val % 8, t.val / 8] := (by decide +kernel : ∀ t : Fin grid0.N, _)

/-- Rows of the cotangent with rows of the weights. -/
def prod (x : FVec Ideal S1024x6400 .bf16) (w : FVec Ideal S512x6400 .bf16) (j : S1024x512.Idx) : EReal :=
  ∑ k : Fin 6400, x (ix2 (j 0) k) * w (ix2 (j 1) k)

/-- What a point computes: rows of the cotangent with rows of the weights. -/
theorem pay1_apply (x : FVec Ideal S1024x6400 .bf16) (w : FVec Ideal S512x6400 .bf16) (j : S1024x512.Idx) :
    k0_pay1 (F := Ideal) x w j = prod x w j := by
  pointwise [k0_pay1, prod]

/-- THE RESULT: the array the kernel leaves is the reference's cotangent. -/
theorem final (c : Dev nD) :
    (dats m 0 c).arrAt 3 cfg0.N
      = Cert.RDhmIdeal.Read.val_main_v5 (F := Ideal) (m ((c : Thread nD τ).loc main_arg0)) (m ((c : Thread nD τ).loc main_arg1)) := by
  refine (dats m 0 c).arrAt_eq_of_covers 3 _ (by decide +kernel) fun t hf y => ?_
  blk_simp
  rw [after0_3]
  frame_out
  refine (pay1_apply _ _ _).trans ?_
  simp only [Cert.RDhmIdeal.Read.val_main_v5_apply, Cert.RDhmIdeal.Read.val_main_v4_apply, Cert.RDhmIdeal.Read.val_main_v3_apply,
    Cert.RDhmIdeal.Read.val_main_v1_apply, Ideal.truncf_def, Ideal.extf_def]
  unfold prod
  refine Finset.sum_congr rfl fun k _ => ?_
  blk_point [iblk, V, idx0, idx1, idx3]

end Cert.Proof.Dhm

end
-- ==== Proof.Dpre.lean ====
/-
  The cotangent of a branch's output before its up projection (`pool_dp`, `attn_dout`): the blocked product of the
  kernel is the one product of the reference.
-/
module

public import proofs.«01_k».proof.Proof.Gen.KDpreIdeal.Value
public import proofs.«01_k».proof.Proof.Gen.RDpreIdeal.Read
public import Idealize.ShloMosaic.Lib.Pipeline.ValueKit
public import Idealize.ShloMosaic.Lib.Pointwise

@[expose] public section

noncomputable section

namespace Cert.Proof.Dpre

open Cert.KDpreIdeal Cert.KDpreIdeal.Gen Idealize.ShloMosaic Idealize.ShloMosaic.TcCoe Idealize.SL.Sem
open Idealize.ShloMosaic.Pipeline (Dat Cfg Window)
open scoped BigOperators

variable (m : (ℓ : Loc nD τ sig) → Buf (Elt Ideal) ℓ)

theorem idx0 : ∀ t : Fin cfg0.N, win0_0.index t = ![t.val, 0] := (by decide +kernel : ∀ t : Fin grid0.N, _)
theorem idx1 : ∀ t : Fin cfg0.N, win0_1.index t = ![0, 0] := (by decide +kernel : ∀ t : Fin grid0.N, _)
theorem idx3 : ∀ t : Fin cfg0.N, win0_3.index t = ![t.val, 0] := (by decide +kernel : ∀ t : Fin grid0.N, _)

/-- Rows of the cotangent with rows of the weights. -/
def prod (x : FVec Ideal S1024x2048 .bf16) (w : FVec Ideal S1024x2048 .bf16) (j : S1024x1024.Idx) : EReal :=
  ∑ k : Fin 2048, x (ix2 (j 0) k) * w (ix2 (j 1) k)

/-- What a point computes: rows of the cotangent with rows of the weights. -/
theorem pay1_apply (x : FVec Ideal S1024x2048 .bf16) (w : FVec Ideal S1024x2048 .bf16) (j : S1024x1024.Idx) :
    k0_pay1 (F := Ideal) x w j = prod x w j := by
  pointwise [k0_pay1, prod]

/-- THE RESULT: the array the kernel leaves is the reference's cotangent. -/
theorem final (c : Dev nD) :
    (dats m 0 c).arrAt 3 cfg0.N
      = Cert.RDpreIdeal.Read.val_main_v5 (F := Ideal) (m ((c : Thread nD τ).loc main_arg0)) (m ((c : Thread nD τ).loc main_arg1)) := by
  refine (dats m 0 c).arrAt_eq_of_covers 3 _ (by decide +kernel) fun t hf y => ?_
  blk_simp
  rw [after0_3]
  frame_out
  refine (pay1_apply _ _ _).trans ?_
  simp only [Cert.RDpreIdeal.Read.val_main_v5_apply, Cert.RDpreIdeal.Read.val_main_v4_apply, Cert.RDpreIdeal.Read.val_main_v3_apply,
    Cert.RDpreIdeal.Read.val_main_v1_apply, Ideal.truncf_def, Ideal.extf_def]
  unfold prod
  refine Finset.sum_congr rfl fun k _ => ?_
  blk_point [iblk, V, idx0, idx1, idx3]

end Cert.Proof.Dpre

end
-- ==== Proof.MixClaims.lean ====
/-
  The claims about the mixer's backward products and its merge: each call's run beside the run of the reference, which
  ends with the same arrays.
-/
module

public import proofs.«01_k».proof.Defs
public import proofs.«01_k».proof.Proof.Merge
public import proofs.«01_k».proof.Proof.Dwin
public import proofs.«01_k».proof.Proof.Dwo
public import proofs.«01_k».proof.Proof.Dwup
public import proofs.«01_k».proof.Proof.Dhm
public import proofs.«01_k».proof.Proof.Dpre
public import proofs.«01_k».proof.Proof.Gen.KMerge.Frame
public import proofs.«01_k».proof.Proof.Gen.KDwin.Frame
public import proofs.«01_k».proof.Proof.Gen.KDwo.Frame
public import proofs.«01_k».proof.Proof.Gen.KDwup.Frame
public import proofs.«01_k».proof.Proof.Gen.KDhm.Frame
public import proofs.«01_k».proof.Proof.Gen.KDpre.Frame
public import proofs.«01_k».proof.Proof.Gen.RMergeIdeal.Run
public import proofs.«01_k».proof.Proof.Gen.RDwinIdeal.Run
public import proofs.«01_k».proof.Proof.Gen.RDwoIdeal.Run
public import proofs.«01_k».proof.Proof.Gen.RDwupIdeal.Run
public import proofs.«01_k».proof.Proof.Gen.RDhmIdeal.Run
public import proofs.«01_k».proof.Proof.Gen.RDpreIdeal.Run

@[expose] public section

noncomputable section

namespace Cert.Proof.Mix

open Idealize.ShloMosaic Idealize.ShloMosaic.TcCoe Idealize.SL.Sem

/-! ## The references end with their arguments unchanged and have no semaphore -/

/-- The gradients through the merge, as derived, run and leave their arguments. -/
theorem frame_merge : Cert.quiescent_RMergeIdeal := fun m ρ _ =>
  (θ_run Cert.RMergeIdeal.defs _ _).mono (fun r h => ⟨fun c => (h c).2.2.2, sem_eq_zero_of_no_sems (by decide) r.2⟩)
    (Cert.RMergeIdeal.Value.run (F := Ideal) m ρ)

/-- The gradient of the input projection, as derived, runs and leaves its arguments. -/
theorem frame_dwin : Cert.quiescent_RDwinIdeal := fun m ρ _ =>
  (θ_run Cert.RDwinIdeal.defs _ _).mono (fun r h => ⟨fun c => (h c).2, sem_eq_zero_of_no_sems (by decide) r.2⟩)
    (Cert.RDwinIdeal.Value.run (F := Ideal) m ρ)

/-- The gradient of the output projection, as derived, runs and leaves its arguments. -/
theorem frame_dwo : Cert.quiescent_RDwoIdeal := fun m ρ _ =>
  (θ_run Cert.RDwoIdeal.defs _ _).mono (fun r h => ⟨fun c => (h c).2, sem_eq_zero_of_no_sems (by decide) r.2⟩)
    (Cert.RDwoIdeal.Value.run (F := Ideal) m ρ)

/-- The gradient of a branch's up projection, as derived, runs and leaves its arguments. -/
theorem frame_dwup : Cert.quiescent_RDwupIdeal := fun m ρ _ =>
  (θ_run Cert.RDwupIdeal.defs _ _).mono (fun r h => ⟨fun c => (h c).2, sem_eq_zero_of_no_sems (by decide) r.2⟩)
    (Cert.RDwupIdeal.Value.run (F := Ideal) m ρ)

/-- The gradient of the mixer's input, as derived, runs and leaves its arguments. -/
theorem frame_dhm : Cert.quiescent_RDhmIdeal := fun m ρ _ =>
  (θ_run Cert.RDhmIdeal.defs _ _).mono (fun r h => ⟨fun c => (h c).2, sem_eq_zero_of_no_sems (by decide) r.2⟩)
    (Cert.RDhmIdeal.Value.run (F := Ideal) m ρ)

/-- The gradient of a branch's output, as derived, runs and leaves its arguments. -/
theorem frame_dpre : Cert.quiescent_RDpreIdeal := fun m ρ _ =>
  (θ_run Cert.RDpreIdeal.defs _ _).mono (fun r h => ⟨fun c => (h c).2, sem_eq_zero_of_no_sems (by decide) r.2⟩)
    (Cert.RDpreIdeal.Value.run (F := Ideal) m ρ)

/-! ## The call and its reference end with equal arrays -/

/-- Through the merge: the branches' cotangents and the gates', their tiles in turn. -/
theorem algebraic_merge : Cert.algebraic_KMergeIdeal_RMergeIdeal := by
  intro m g m' g' _ h
  refine ⟨fun c => Cert.RMergeIdeal.Read.val_main_v41 (F := Ideal) (m ((c.tc : Thread Cert.KMergeIdeal.nD Cert.KMergeIdeal.τ).loc Cert.KMergeIdeal.main_arg0)) (m ((c.tc : Thread Cert.KMergeIdeal.nD Cert.KMergeIdeal.τ).loc Cert.KMergeIdeal.main_arg1)) (m ((c.tc : Thread Cert.KMergeIdeal.nD Cert.KMergeIdeal.τ).loc Cert.KMergeIdeal.main_arg2)),
    fun c => Cert.RMergeIdeal.Read.val_main_v42 (F := Ideal) (m ((c.tc : Thread Cert.KMergeIdeal.nD Cert.KMergeIdeal.τ).loc Cert.KMergeIdeal.main_arg0)) (m ((c.tc : Thread Cert.KMergeIdeal.nD Cert.KMergeIdeal.τ).loc Cert.KMergeIdeal.main_arg1)) (m ((c.tc : Thread Cert.KMergeIdeal.nD Cert.KMergeIdeal.τ).loc Cert.KMergeIdeal.main_arg3)),
    fun c => Cert.RMergeIdeal.Read.val_main_v43 (F := Ideal) (m ((c.tc : Thread Cert.KMergeIdeal.nD Cert.KMergeIdeal.τ).loc Cert.KMergeIdeal.main_arg0)) (m ((c.tc : Thread Cert.KMergeIdeal.nD Cert.KMergeIdeal.τ).loc Cert.KMergeIdeal.main_arg1)) (m ((c.tc : Thread Cert.KMergeIdeal.nD Cert.KMergeIdeal.τ).loc Cert.KMergeIdeal.main_arg2)) (m ((c.tc : Thread Cert.KMergeIdeal.nD Cert.KMergeIdeal.τ).loc Cert.KMergeIdeal.main_arg3)) (m ((c.tc : Thread Cert.KMergeIdeal.nD Cert.KMergeIdeal.τ).loc Cert.KMergeIdeal.main_arg4)) (m ((c.tc : Thread Cert.KMergeIdeal.nD Cert.KMergeIdeal.τ).loc Cert.KMergeIdeal.main_arg5)), ?_, ?_⟩
  · exact (θ_run Cert.KMergeIdeal.defs _ _).mono (fun r hr c => ⟨(hr c).1.trans (Merge.final6 m c), (hr c).2.1.trans (Merge.final7 m c), (hr c).2.2.1.trans (Merge.final8 m c), (hr c).2.2.2⟩)
      (Cert.KMergeIdeal.Value.run_blocks (F := Ideal) m g)
  · refine (θ_run Cert.RMergeIdeal.defs _ _).mono (fun r hr c => ?_) (Cert.RMergeIdeal.Value.run (F := Ideal) m' g')
    obtain ⟨h0, h1, h2, h3, h4, h5⟩ := h c
    refine ⟨(hr c).1.trans ?_, (hr c).2.1.trans ?_, (hr c).2.2.1.trans ?_, (hr c).2.2.2⟩
    · exact (Cert.RMergeIdeal.Read.val_main_v41_eq _ _ _).trans (congr (congr (congrArg (Cert.RMergeIdeal.Read.val_main_v41 (F := Ideal)) h0) h1) h2)
    · exact (Cert.RMergeIdeal.Read.val_main_v42_eq _ _ _).trans (congr (congr (congrArg (Cert.RMergeIdeal.Read.val_main_v42 (F := Ideal)) h0) h1) h3)
    · exact (Cert.RMergeIdeal.Read.val_main_v43_eq _ _ _ _ _ _).trans (congr (congr (congr (congr (congr (congrArg (Cert.RMergeIdeal.Read.val_main_v43 (F := Ideal)) h0) h1) h2) h3) h4) h5)

/-- The input projection: the product summed over blocks of rows is the derivative's product. -/
theorem algebraic_dwin : Cert.algebraic_KDwinIdeal_RDwinIdeal := by
  intro m g m' g' _ h
  refine ⟨fun c => Cert.RDwinIdeal.Read.val_main_v6 (F := Ideal) (m ((c.tc : Thread Cert.KDwinIdeal.nD Cert.KDwinIdeal.τ).loc Cert.KDwinIdeal.main_arg0)) (m ((c.tc : Thread Cert.KDwinIdeal.nD Cert.KDwinIdeal.τ).loc Cert.KDwinIdeal.main_arg1)), ?_, ?_⟩
  · exact (θ_run Cert.KDwinIdeal.defs _ _).mono (fun r hr c => ⟨(hr c).1.trans (Dwin.final m c), (hr c).2⟩)
      (Cert.KDwinIdeal.Value.run_blocks (F := Ideal) m g)
  · refine (θ_run Cert.RDwinIdeal.defs _ _).mono (fun r hr c => ?_) (Cert.RDwinIdeal.Value.run (F := Ideal) m' g')
    obtain ⟨h0, h1⟩ := h c
    refine ⟨(hr c).1.trans ?_, (hr c).2⟩
    · exact (Cert.RDwinIdeal.Read.val_main_v6_eq _ _).trans (congr (congrArg (Cert.RDwinIdeal.Read.val_main_v6 (F := Ideal)) h0) h1)

/-- The output projection: the product summed over blocks of rows is the derivative's product. -/
theorem algebraic_dwo : Cert.algebraic_KDwoIdeal_RDwoIdeal := by
  intro m g m' g' _ h
  refine ⟨fun c => Cert.RDwoIdeal.Read.val_main_v6 (F := Ideal) (m ((c.tc : Thread Cert.KDwoIdeal.nD Cert.KDwoIdeal.τ).loc Cert.KDwoIdeal.main_arg0)) (m ((c.tc : Thread Cert.KDwoIdeal.nD Cert.KDwoIdeal.τ).loc Cert.KDwoIdeal.main_arg1)), ?_, ?_⟩
  · exact (θ_run Cert.KDwoIdeal.defs _ _).mono (fun r hr c => ⟨(hr c).1.trans (Dwo.final m c), (hr c).2⟩)
      (Cert.KDwoIdeal.Value.run_blocks (F := Ideal) m g)
  · refine (θ_run Cert.RDwoIdeal.defs _ _).mono (fun r hr c => ?_) (Cert.RDwoIdeal.Value.run (F := Ideal) m' g')
    obtain ⟨h0, h1⟩ := h c
    refine ⟨(hr c).1.trans ?_, (hr c).2⟩
    · exact (Cert.RDwoIdeal.Read.val_main_v6_eq _ _).trans (congr (congrArg (Cert.RDwoIdeal.Read.val_main_v6 (F := Ideal)) h0) h1)

/-- A branch's up projection: the product summed over blocks of rows is the derivative's product. -/
theorem algebraic_dwup : Cert.algebraic_KDwupIdeal_RDwupIdeal := by
  intro m g m' g' _ h
  refine ⟨fun c => Cert.RDwupIdeal.Read.val_main_v6 (F := Ideal) (m ((c.tc : Thread Cert.KDwupIdeal.nD Cert.KDwupIdeal.τ).loc Cert.KDwupIdeal.main_arg0)) (m ((c.tc : Thread Cert.KDwupIdeal.nD Cert.KDwupIdeal.τ).loc Cert.KDwupIdeal.main_arg1)), ?_, ?_⟩
  · exact (θ_run Cert.KDwupIdeal.defs _ _).mono (fun r hr c => ⟨(hr c).1.trans (Dwup.final m c), (hr c).2⟩)
      (Cert.KDwupIdeal.Value.run_blocks (F := Ideal) m g)
  · refine (θ_run Cert.RDwupIdeal.defs _ _).mono (fun r hr c => ?_) (Cert.RDwupIdeal.Value.run (F := Ideal) m' g')
    obtain ⟨h0, h1⟩ := h c
    refine ⟨(hr c).1.trans ?_, (hr c).2⟩
    · exact (Cert.RDwupIdeal.Read.val_main_v6_eq _ _).trans (congr (congrArg (Cert.RDwupIdeal.Read.val_main_v6 (F := Ideal)) h0) h1)

/-- The mixer's input: the blocks are those of the derivative's product. -/
theorem algebraic_dhm : Cert.algebraic_KDhmIdeal_RDhmIdeal := by
  intro m g m' g' _ h
  refine ⟨fun c => Cert.RDhmIdeal.Read.val_main_v5 (F := Ideal) (m ((c.tc : Thread Cert.KDhmIdeal.nD Cert.KDhmIdeal.τ).loc Cert.KDhmIdeal.main_arg0)) (m ((c.tc : Thread Cert.KDhmIdeal.nD Cert.KDhmIdeal.τ).loc Cert.KDhmIdeal.main_arg1)), ?_, ?_⟩
  · exact (θ_run Cert.KDhmIdeal.defs _ _).mono (fun r hr c => ⟨(hr c).1.trans (Dhm.final m c), (hr c).2⟩)
      (Cert.KDhmIdeal.Value.run_blocks (F := Ideal) m g)
  · refine (θ_run Cert.RDhmIdeal.defs _ _).mono (fun r hr c => ?_) (Cert.RDhmIdeal.Value.run (F := Ideal) m' g')
    obtain ⟨h0, h1⟩ := h c
    refine ⟨(hr c).1.trans ?_, (hr c).2⟩
    · exact (Cert.RDhmIdeal.Read.val_main_v5_eq _ _).trans (congr (congrArg (Cert.RDhmIdeal.Read.val_main_v5 (F := Ideal)) h0) h1)

/-- A branch's output: the blocks are those of the derivative's product. -/
theorem algebraic_dpre : Cert.algebraic_KDpreIdeal_RDpreIdeal := by
  intro m g m' g' _ h
  refine ⟨fun c => Cert.RDpreIdeal.Read.val_main_v5 (F := Ideal) (m ((c.tc : Thread Cert.KDpreIdeal.nD Cert.KDpreIdeal.τ).loc Cert.KDpreIdeal.main_arg0)) (m ((c.tc : Thread Cert.KDpreIdeal.nD Cert.KDpreIdeal.τ).loc Cert.KDpreIdeal.main_arg1)), ?_, ?_⟩
  · exact (θ_run Cert.KDpreIdeal.defs _ _).mono (fun r hr c => ⟨(hr c).1.trans (Dpre.final m c), (hr c).2⟩)
      (Cert.KDpreIdeal.Value.run_blocks (F := Ideal) m g)
  · refine (θ_run Cert.RDpreIdeal.defs _ _).mono (fun r hr c => ?_) (Cert.RDpreIdeal.Value.run (F := Ideal) m' g')
    obtain ⟨h0, h1⟩ := h c
    refine ⟨(hr c).1.trans ?_, (hr c).2⟩
    · exact (Cert.RDpreIdeal.Read.val_main_v5_eq _ _).trans (congr (congrArg (Cert.RDpreIdeal.Read.val_main_v5 (F := Ideal)) h0) h1)

end Cert.Proof.Mix

end
-- ==== Proof.Up.lean ====
/-
  The gate and value projection of the feed-forward block and its activation (`ffn_up`): the kernel keeps a block of the
  gate's and one of the value's weights beside each other while it goes over the rows.
-/
module

public import proofs.«01_k».proof.Proof.Gen.KUpIdeal.Value
public import proofs.«01_k».proof.Proof.Gen.RUpIdeal.Read
public import Idealize.ShloMosaic.Lib.Pipeline.ValueKit
public import Idealize.ShloMosaic.Lib.Pipeline.ReadBack
public import Idealize.ShloMosaic.Lib.Pointwise

@[expose] public section

noncomputable section

namespace Cert.Proof.Up

open Cert.KUpIdeal Cert.KUpIdeal.Gen Idealize.ShloMosaic Idealize.ShloMosaic.TcCoe Idealize.SL.Sem
open Idealize.ShloMosaic.Pipeline (Dat Cfg Window)
open scoped BigOperators

variable (m : (ℓ : Loc nD τ sig) → Buf (Elt Ideal) ℓ)

theorem idx0 : ∀ t : Fin cfg0.N, win0_0.index t = ![t.val % 16, 0] := (by decide +kernel : ∀ t : Fin grid0.N, _)
theorem idx1 : ∀ t : Fin cfg0.N, win0_1.index t = ![t.val / 16, 0, 0] := (by decide +kernel : ∀ t : Fin grid0.N, _)
theorem idx2 : ∀ t : Fin cfg0.N, win0_2.index t = ![t.val / 16 + 4, 0, 0] := (by decide +kernel : ∀ t : Fin grid0.N, _)
theorem idx3 : ∀ t : Fin cfg0.N, win0_3.index t = ![t.val % 16, t.val / 16] := (by decide +kernel : ∀ t : Fin grid0.N, _)
theorem idx4 : ∀ t : Fin cfg0.N, win0_4.index t = ![t.val % 16, t.val / 16] := (by decide +kernel : ∀ t : Fin grid0.N, _)
theorem idx5 : ∀ t : Fin cfg0.N, win0_5.index t = ![t.val % 16, t.val / 16] := (by decide +kernel : ∀ t : Fin grid0.N, _)

/-- A column of the product of a block of rows and the two blocks of weights. -/
def prod (x : FVec Ideal S512x2048 .bf16) (w : FVec Ideal S2048x2816 .bf16) (r : Fin 512) (q : Fin 2816) : EReal :=
  ∑ k : Fin 2048, x (ix2 r k) * w (ix2 k q)

/-- A column of the whole product. -/
def whole (x : FVec Ideal Cert.RUpIdeal.S8192x2048 .bf16) (w : FVec Ideal Cert.RUpIdeal.S2048x11264 .bf16) (r : Fin 8192) (q : Fin 11264) : EReal :=
  ∑ k : Fin 2048, x (ix2 r k) * w (ix2 k q)

theorem pay4_apply (x : FVec Ideal S512x2048 .bf16) (w : FVec Ideal S2048x2816 .bf16) (j : S512x1408.Idx) :
    k0_pay4 (F := Ideal) x w j = prod x w (j 0) ⟨(j 1).val, lt_trans (show (j 1).val < 1408 from (j 1).isLt) (by decide)⟩ := by
  pointwise [k0_pay4, k0_pay3, prod]

theorem pay5_apply (x : FVec Ideal S512x2048 .bf16) (w : FVec Ideal S2048x2816 .bf16) (j : S512x1408.Idx) :
    k0_pay5 (F := Ideal) x w j = prod x w (j 0) ⟨1408 + (j 1).val, Nat.add_lt_add_left (show (j 1).val < 1408 from (j 1).isLt) 1408⟩ := by
  pointwise [k0_pay5, k0_pay3, prod]

theorem pay6_apply (x : FVec Ideal S512x2048 .bf16) (w : FVec Ideal S2048x2816 .bf16) (j : S512x1408.Idx) :
    k0_pay6 (F := Ideal) x w j = k0_pay4 (F := Ideal) x w j := by
  pointwise [k0_pay6]

theorem pay7_apply (x : FVec Ideal S512x2048 .bf16) (w : FVec Ideal S2048x2816 .bf16) (j : S512x1408.Idx) :
    k0_pay7 (F := Ideal) x w j = k0_pay5 (F := Ideal) x w j := by
  pointwise [k0_pay7]

/-- The activation of a gate and a value. -/
def act (g u : EReal) : EReal :=
  g * Ideal.div 1 (1 + Ideal.exp (-g)) * u

theorem pay8_apply (x : FVec Ideal S512x2048 .bf16) (w : FVec Ideal S2048x2816 .bf16) (j : S512x1408.Idx) :
    k0_pay8 (F := Ideal) x w j = act (k0_pay4 (F := Ideal) x w j) (k0_pay5 (F := Ideal) x w j) := by
  pointwise [k0_pay8, act]
  rw [zero_sub]

section Reference

open Cert.RUpIdeal.Read

variable (x : FVec Ideal Cert.RUpIdeal.S8192x2048 .bf16) (w : FVec Ideal Cert.RUpIdeal.S2048x11264 .bf16)

theorem ref_g32 (i : Cert.RUpIdeal.S8192x5632.Idx) :
    val_main_v3 (F := Ideal) x w i = whole x w (i 0) ⟨(i 1).val, lt_trans (show (i 1).val < 5632 from (i 1).isLt) (by decide)⟩ := by
  pointwise [val_main_v3, val_main_v2, val_main_v1, val_main_v0, whole]

theorem ref_u32 (i : Cert.RUpIdeal.S8192x5632.Idx) :
    val_main_v4 (F := Ideal) x w i = whole x w (i 0) ⟨5632 + (i 1).val, Nat.add_lt_add_left (show (i 1).val < 5632 from (i 1).isLt) 5632⟩ := by
  pointwise [val_main_v4, val_main_v2, val_main_v1, val_main_v0, whole]

theorem ref_g (i : Cert.RUpIdeal.S8192x5632.Idx) : val_main_v5 (F := Ideal) x w i = val_main_v3 (F := Ideal) x w i := by
  pointwise [val_main_v5]

theorem ref_u (i : Cert.RUpIdeal.S8192x5632.Idx) : val_main_v6 (F := Ideal) x w i = val_main_v4 (F := Ideal) x w i := by
  pointwise [val_main_v6]

theorem ref_a (i : Cert.RUpIdeal.S8192x5632.Idx) : val_main_v9 (F := Ideal) x w i
    = act (val_main_v3 (F := Ideal) x w i) (val_main_v4 (F := Ideal) x w i) := by
  pointwise [val_main_v9, val_main_v8, val_main_v7, val_main_call0_v5, val_main_call0_v4, val_main_call0_v3, val_main_call0_v2, val_main_call0_v1, val_main_call0_v0, val_main_call0_cst, val_main_call0_cst_0, act]

end Reference

/-- The operand which holds the weights block by block. -/
theorem weights (c : Dev nD) (i : S8x2048x1408.Idx) (i' : S2048x11264.Idx) (h0 : (i' 0).val = (i 1).val)
    (h1 : (i' 1).val = (i 0).val * 1408 + (i 2).val) :
    (V m c main_v1 : FVec Ideal S8x2048x1408 .bf16) i = (m ((c : Thread nD τ).loc main_arg1) : FVec Ideal S2048x11264 .bf16) i' := by
  have hi : (i 2).val < 1408 := (i 2).isLt
  have hk : (i 1).val < 2048 := (i 1).isLt
  have hb : (i 0).val < 8 := (i 0).isLt
  entry_read
  pointwise
  exact congrArg (m ((c : Thread nD τ).loc main_arg1) : FVec Ideal S2048x11264 .bf16)
    (funext (Fin.forall_fin_two.mpr ⟨Fin.ext h0.symm, Fin.ext h1.symm⟩))

/-- What the scratch holds while the kernel is at block `b` of the columns. -/
def held (c : Dev nD) (b : Nat) (w : FVec Ideal S2048x2816 .bf16) : Prop :=
  ∀ (i : S2048x2816.Idx) (i' : S2048x11264.Idx), (i' 0).val = (i 0).val →
    (i' 1).val = (if (i 1).val < 1408 then b * 1408 + (i 1).val else 5632 + b * 1408 + ((i 1).val - 1408)) →
    w i = (m ((c : Thread nD τ).loc main_arg1) : FVec Ideal S2048x11264 .bf16) i'

theorem pay1_apply (w : FVec Ideal S1x2048x1408 .bf16) (x : S2048x1408.Idx) : k0_pay1 (F := Ideal) w x = w (ix3 0 (x 0) (x 1)) := by
  pointwise [k0_pay1]

theorem pay2_apply (w : FVec Ideal S1x2048x1408 .bf16) (x : S2048x1408.Idx) : k0_pay2 (F := Ideal) w x = w (ix3 0 (x 0) (x 1)) := by
  pointwise [k0_pay2]

/-- The scratch after the first point of a block of columns: the gate's block of weights and the value's beside it. -/
theorem scratch_A (c : Dev nD) (t : Fin cfg0.N) (h0 : t.val % 16 = 0) :
    held m c (t.val / 16) (outsAt0 m c t.val t.isLt).2.2.2 := by
  intro i i' e0 e1
  rw [outsAt0_A m c t h0]
  frame_out
  canon_tiles x h
  · refine (pay2_apply (iblk m c 2 t) x).trans (weights m c _ i' ?_ ?_)
    · rw [e0, h0]
      blk_simp [idx2]
    · rw [e1, h1]
      blk_simp [idx2]
      dsimp only [ix3]
      rw [if_neg (by omega)]
      omega
  · refine (pay1_apply (iblk m c 1 t) x).trans (weights m c _ i' ?_ ?_)
    · rw [e0, h0]
      blk_simp [idx1]
    · rw [e1, h1]
      blk_simp [idx1]
      dsimp only [ix3]
      rw [if_pos x1_lt]
      omega

/-- Between those the scratch stands. -/
theorem scratch_B (c : Dev nD) (t : Fin cfg0.N) (h0 : ¬t.val % 16 = 0) :
    (outsAt0 m c t.val t.isLt).2.2.2 = (outsAt0 m c (t.val - 1) (by omega)).2.2.2 := by
  rw [outsAt0_B m c t h0]
  rfl

/-- The scratch after any point. -/
theorem scratch (c : Dev nD) : ∀ (n : Nat) (h : n < cfg0.N), held m c (n / 16) (outsAt0 m c n h).2.2.2
  | 0, h => scratch_A m c ⟨0, h⟩ rfl
  | n + 1, h => by
    by_cases h0 : (n + 1) % 16 = 0
    · exact scratch_A m c ⟨n + 1, h⟩ h0
    · have e := scratch_B m c ⟨n + 1, h⟩ h0
      have r := scratch c n (by omega)
      rw [show (n + 1) / 16 = n / 16 by omega]
      simp only [Nat.add_sub_cancel] at e
      rw [e]
      exact r

theorem out3 (c : Dev nD) (t : Fin cfg0.N) :
    (outsAt0 m c t.val t.isLt).1 = k0_pay6 (iblk m c 0 t) ((outsAt0 m c t.val t.isLt).2.2.2) := by
  by_cases h0 : t.val % 16 = 0
  · rw [outsAt0_A m c t h0]
    frame_out
    exact congrArg (k0_pay6 (iblk m c 0 t)) ((View.readCov_eq_canon' _ _ _).trans (View.ld_unit_zero (by decide) _ _))
  · rw [outsAt0_B m c t h0]
    frame_out
    exact congrArg (k0_pay6 (iblk m c 0 t)) ((read_unread_whole _ _ _).trans rfl)

theorem out4 (c : Dev nD) (t : Fin cfg0.N) :
    (outsAt0 m c t.val t.isLt).2.1 = k0_pay7 (iblk m c 0 t) ((outsAt0 m c t.val t.isLt).2.2.2) := by
  by_cases h0 : t.val % 16 = 0
  · rw [outsAt0_A m c t h0]
    frame_out
    exact congrArg (k0_pay7 (iblk m c 0 t)) ((View.readCov_eq_canon' _ _ _).trans (View.ld_unit_zero (by decide) _ _))
  · rw [outsAt0_B m c t h0]
    frame_out
    exact congrArg (k0_pay7 (iblk m c 0 t)) ((read_unread_whole _ _ _).trans rfl)

theorem out5 (c : Dev nD) (t : Fin cfg0.N) :
    (outsAt0 m c t.val t.isLt).2.2.1 = k0_pay8 (iblk m c 0 t) ((outsAt0 m c t.val t.isLt).2.2.2) := by
  by_cases h0 : t.val % 16 = 0
  · rw [outsAt0_A m c t h0]
    frame_out
    exact congrArg (k0_pay8 (iblk m c 0 t)) ((View.readCov_eq_canon' _ _ _).trans (View.ld_unit_zero (by decide) _ _))
  · rw [outsAt0_B m c t h0]
    frame_out
    exact congrArg (k0_pay8 (iblk m c 0 t)) ((read_unread_whole _ _ _).trans rfl)

/-- The gate's columns at a point. -/
theorem block_g (c : Dev nD) (t : Fin cfg0.N) (j : S512x1408.Idx) (i : S8192x5632.Idx)
    (h0 : (i 0).val = t.val % 16 * 512 + (j 0).val) (h1 : (i 1).val = t.val / 16 * 1408 + (j 1).val) :
    k0_pay4 (F := Ideal) (iblk m c 0 t) ((outsAt0 m c t.val t.isLt).2.2.2) j
      = Cert.RUpIdeal.Read.val_main_v3 (F := Ideal) (m ((c : Thread nD τ).loc main_arg0)) (m ((c : Thread nD τ).loc main_arg1)) i := by
  have hj : (j 1).val < 1408 := (j 1).isLt
  rw [ref_g32]
  refine (pay4_apply ..).trans ?_
  unfold prod whole
  refine Finset.sum_congr rfl fun k _ => congrArg₂ (fun a b : EReal => a * b) ?_ (scratch m c t.val t.isLt _ _ ?_ ?_)
  · blk_point [iblk, V, idx0, h0]
  · rfl
  · dsimp only [ix2]
    exact h1.trans (if_pos hj).symm

/-- The value's columns at a point. -/
theorem block_u (c : Dev nD) (t : Fin cfg0.N) (j : S512x1408.Idx) (i : S8192x5632.Idx)
    (h0 : (i 0).val = t.val % 16 * 512 + (j 0).val) (h1 : (i 1).val = t.val / 16 * 1408 + (j 1).val) :
    k0_pay5 (F := Ideal) (iblk m c 0 t) ((outsAt0 m c t.val t.isLt).2.2.2) j
      = Cert.RUpIdeal.Read.val_main_v4 (F := Ideal) (m ((c : Thread nD τ).loc main_arg0)) (m ((c : Thread nD τ).loc main_arg1)) i := by
  have hj : (j 1).val < 1408 := (j 1).isLt
  rw [ref_u32]
  refine (pay5_apply ..).trans ?_
  unfold prod whole
  refine Finset.sum_congr rfl fun k _ => congrArg₂ (fun a b : EReal => a * b) ?_ (scratch m c t.val t.isLt _ _ ?_ ?_)
  · blk_point [iblk, V, idx0, h0]
  · rfl
  · dsimp only [ix2]
    have hn : ¬1408 + (j 1).val < 1408 := by omega
    exact (show 5632 + (i 1).val = 5632 + t.val / 16 * 1408 + (1408 + (j 1).val - 1408) by omega).trans (if_neg hn).symm

/-- THE GATE'S PROJECTION. -/
theorem final3 (c : Dev nD) :
    (dats m 0 c).arrAt 3 cfg0.N = Cert.RUpIdeal.Read.val_main_v5 (F := Ideal) (m ((c : Thread nD τ).loc main_arg0)) (m ((c : Thread nD τ).loc main_arg1)) := by
  refine (dats m 0 c).arrAt_eq_of_covers 3 _ (by decide +kernel) fun t hf y => ?_
  blk_simp [idx3]
  rw [after0_3, out3]
  refine (pay6_apply ..).trans ?_
  rw [ref_g]
  refine block_g m c t _ _ ?_ ?_
  all_goals blk_simp [idx3]

/-- THE VALUE'S PROJECTION. -/
theorem final4 (c : Dev nD) :
    (dats m 0 c).arrAt 4 cfg0.N = Cert.RUpIdeal.Read.val_main_v6 (F := Ideal) (m ((c : Thread nD τ).loc main_arg0)) (m ((c : Thread nD τ).loc main_arg1)) := by
  refine (dats m 0 c).arrAt_eq_of_covers 4 _ (by decide +kernel) fun t hf y => ?_
  blk_simp [idx4]
  rw [after0_4, out4]
  refine (pay7_apply ..).trans ?_
  rw [ref_u]
  refine block_u m c t _ _ ?_ ?_
  all_goals blk_simp [idx4]

/-- THE ACTIVATION. -/
theorem final5 (c : Dev nD) :
    (dats m 0 c).arrAt 5 cfg0.N = Cert.RUpIdeal.Read.val_main_v9 (F := Ideal) (m ((c : Thread nD τ).loc main_arg0)) (m ((c : Thread nD τ).loc main_arg1)) := by
  refine (dats m 0 c).arrAt_eq_of_covers 5 _ (by decide +kernel) fun t hf y => ?_
  blk_simp [idx5]
  rw [after0_5, out5]
  refine (pay8_apply ..).trans ?_
  rw [ref_a, block_g m c t _ _ ?_ ?_, block_u m c t _ _ ?_ ?_]
  all_goals blk_simp [idx5]

end Cert.Proof.Up

end
-- ==== Proof.Down.lean ====
/-
  The down projection of the feed-forward block (`ffn_down`): each point computes a tile of the product, and adds it to
  the block's input through half of the gate.
-/
module

public import proofs.«01_k».proof.Proof.Gen.KDownIdeal.Value
public import proofs.«01_k».proof.Proof.Gen.RDownIdeal.Read
public import Idealize.ShloMosaic.Lib.Pipeline.ValueKit
public import Idealize.ShloMosaic.Lib.Pointwise

@[expose] public section

noncomputable section

namespace Cert.Proof.Down

open Cert.KDownIdeal Cert.KDownIdeal.Gen Idealize.ShloMosaic Idealize.ShloMosaic.TcCoe Idealize.SL.Sem
open Idealize.ShloMosaic.Pipeline (Dat Cfg Window)
open scoped BigOperators

variable (m : (ℓ : Loc nD τ sig) → Buf (Elt Ideal) ℓ)

theorem idx0 : ∀ t : Fin cfg0.N, win0_0.index t = ![t.val % 8, 0] := (by decide +kernel : ∀ t : Fin grid0.N, _)
theorem idx1 : ∀ t : Fin cfg0.N, win0_1.index t = ![0, t.val / 8] := (by decide +kernel : ∀ t : Fin grid0.N, _)
theorem idx2 : ∀ t : Fin cfg0.N, win0_2.index t = ![t.val % 8, t.val / 8] := (by decide +kernel : ∀ t : Fin grid0.N, _)
theorem idx3 : ∀ t : Fin cfg0.N, win0_3.index t = ![0, t.val / 8] := (by decide +kernel : ∀ t : Fin grid0.N, _)
theorem idx4 : ∀ t : Fin cfg0.N, win0_4.index t = ![t.val % 8, t.val / 8] := (by decide +kernel : ∀ t : Fin grid0.N, _)
theorem idx5 : ∀ t : Fin cfg0.N, win0_5.index t = ![t.val % 8, t.val / 8] := (by decide +kernel : ∀ t : Fin grid0.N, _)

/-- A tile of the product. -/
def prod (x : FVec Ideal S1024x5632 .bf16) (w : FVec Ideal S5632x512 .bf16) (j : S1024x512.Idx) : EReal :=
  ∑ k : Fin 5632, x (ix2 (j 0) k) * w (ix2 k (j 1))

/-- The product, whole. -/
def whole (x : FVec Ideal Cert.RDownIdeal.S8192x5632 .bf16) (w : FVec Ideal Cert.RDownIdeal.S5632x2048 .bf16) (i : Cert.RDownIdeal.S8192x2048.Idx) : EReal :=
  ∑ k : Fin 5632, x (ix2 (i 0) k) * w (ix2 k (i 1))

theorem pay1_apply (x : FVec Ideal S1024x5632 .bf16) (w : FVec Ideal S5632x512 .bf16) (j : S1024x512.Idx) :
    k0_pay1 (F := Ideal) x w j = prod x w j := by
  pointwise [k0_pay1, prod]

theorem pay2_apply (x : FVec Ideal S1024x5632 .bf16) (w : FVec Ideal S5632x512 .bf16) (j : S1024x512.Idx) :
    k0_pay2 (F := Ideal) x w j = prod x w j := by
  rw [← pay1_apply]
  pointwise [k0_pay2]

theorem pay3_apply (x : FVec Ideal S1024x5632 .bf16) (w : FVec Ideal S5632x512 .bf16) (r : FVec Ideal S1024x512 .f32)
    (g : FVec Ideal S1x512 .f32) (j : S1024x512.Idx) :
    k0_pay3 (F := Ideal) x w r g j = r j + Ideal.ofBits .f32 0x3F000000#32 * g (ix2 0 (j 1)) * prod x w j := by
  rw [← pay1_apply]
  pointwise [k0_pay3]

section Reference

open Cert.RDownIdeal.Read

variable (x : FVec Ideal Cert.RDownIdeal.S8192x5632 .bf16) (w : FVec Ideal Cert.RDownIdeal.S5632x2048 .bf16)
  (r : FVec Ideal Cert.RDownIdeal.S8192x2048 .f32) (g : FVec Ideal Cert.RDownIdeal.S1x2048 .f32)

theorem v2_apply (i : Cert.RDownIdeal.S8192x2048.Idx) : val_main_v2 (F := Ideal) x w i = whole x w i := by
  pointwise [val_main_v2, val_main_v1, val_main_v0, whole]

theorem ref_f (i : Cert.RDownIdeal.S8192x2048.Idx) : val_main_v8 (F := Ideal) x w i = whole x w i := by
  rw [← v2_apply]
  pointwise [val_main_v8]

theorem ref_x (i : Cert.RDownIdeal.S8192x2048.Idx) : val_main_v7 (F := Ideal) x w r g i
    = r i + Ideal.ofBits .f32 0x3F000000#32 * g (ix2 0 (i 1)) * whole x w i := by
  rw [← v2_apply]
  pointwise [val_main_v7, val_main_v6, val_main_v5, val_main_v4, val_main_v3, val_main_cst]

end Reference

/-- THE BLOCK'S OUTPUT. -/
theorem final4 (c : Dev nD) :
    (dats m 0 c).arrAt 4 cfg0.N
      = Cert.RDownIdeal.Read.val_main_v7 (F := Ideal) (m ((c : Thread nD τ).loc main_arg0)) (m ((c : Thread nD τ).loc main_arg1))
          (m ((c : Thread nD τ).loc main_arg2)) (m ((c : Thread nD τ).loc main_arg3)) := by
  refine (dats m 0 c).arrAt_eq_of_covers 4 _ (by decide +kernel) fun t hf y => ?_
  blk_simp
  rw [after0_4, ref_x]
  frame_out
  refine (pay3_apply _ _ _ _ _).trans ?_
  unfold prod whole
  blk_point [iblk, V, idx0, idx1, idx2, idx3, idx4]

/-- THE PRODUCT. -/
theorem final5 (c : Dev nD) :
    (dats m 0 c).arrAt 5 cfg0.N
      = Cert.RDownIdeal.Read.val_main_v8 (F := Ideal) (m ((c : Thread nD τ).loc main_arg0)) (m ((c : Thread nD τ).loc main_arg1)) := by
  refine (dats m 0 c).arrAt_eq_of_covers 5 _ (by decide +kernel) fun t hf y => ?_
  blk_simp
  rw [after0_5, ref_f]
  frame_out
  refine (pay2_apply _ _ _).trans ?_
  unfold prod whole
  blk_point [iblk, V, idx0, idx1, idx5]

end Cert.Proof.Down

end
-- ==== Proof.Loss.lean ====
/-
  The last down projection with the loss (`ffn_down_loss`): the product with its residual, the loss's gradient there, the
  gate's gradient added up over the rows of a tile, and the loss added up over every tile.
-/
module

public import proofs.«01_k».proof.Proof.Gen.KLossIdeal.Value
public import proofs.«01_k».proof.Proof.Gen.RLossIdeal.Read
public import Idealize.ShloMosaic.Lib.Pipeline.ValueKit
public import Idealize.ShloMosaic.Lib.Pipeline.ReadBack
public import Idealize.ShloMosaic.Lib.Pointwise

@[expose] public section

noncomputable section

namespace Cert.Proof.Loss

open Cert.KLossIdeal Cert.KLossIdeal.Gen Idealize.ShloMosaic Idealize.ShloMosaic.TcCoe Idealize.SL.Sem
open Idealize.ShloMosaic.Pipeline (Dat Cfg Window)
open scoped BigOperators

variable (m : (ℓ : Loc nD τ sig) → Buf (Elt Ideal) ℓ)

theorem idx0 : ∀ t : Fin cfg0.N, win0_0.index t = ![t.val % 16, 0] := (by decide +kernel : ∀ t : Fin grid0.N, _)
theorem idx1 : ∀ t : Fin cfg0.N, win0_1.index t = ![0, t.val / 16] := (by decide +kernel : ∀ t : Fin grid0.N, _)
theorem idx2 : ∀ t : Fin cfg0.N, win0_2.index t = ![t.val % 16, t.val / 16] := (by decide +kernel : ∀ t : Fin grid0.N, _)
theorem idx3 : ∀ t : Fin cfg0.N, win0_3.index t = ![0, t.val / 16] := (by decide +kernel : ∀ t : Fin grid0.N, _)
theorem idx4 : ∀ t : Fin cfg0.N, win0_4.index t = ![t.val % 16, t.val / 16] := (by decide +kernel : ∀ t : Fin grid0.N, _)
theorem idx5 : ∀ t : Fin cfg0.N, win0_5.index t = ![t.val % 16, t.val / 16] := (by decide +kernel : ∀ t : Fin grid0.N, _)
theorem idx6 : ∀ t : Fin cfg0.N, win0_6.index t = ![t.val % 16, t.val / 16] := (by decide +kernel : ∀ t : Fin grid0.N, _)
theorem idx7 : ∀ t : Fin cfg0.N, win0_7.index t = ![0, t.val / 16] := (by decide +kernel : ∀ t : Fin grid0.N, _)
theorem idx8 : ∀ t : Fin cfg0.N, win0_8.index t = ![0, 0] := (by decide +kernel : ∀ t : Fin grid0.N, _)

/-- The block's coefficient, one half. -/
def half : EReal := Ideal.ofBits .f32 0x3F000000#32
/-- One part in as many as a row has columns. -/
def inv : EReal := Ideal.ofBits .f32 0x3A000000#32
/-- Half of that. -/
def halfInv : EReal := Ideal.ofBits .f32 0x39800000#32

theorem half_eq : half = (((1 : ℝ) / 2 : ℝ) : EReal) := by
  simp [half, Ideal.ofBits, Ideal.ieee, -EReal.coe_mul]; norm_num

theorem inv_eq : inv = (((1 : ℝ) / 2048 : ℝ) : EReal) := by
  simp [inv, Ideal.ofBits, Ideal.ieee, -EReal.coe_mul]; norm_num

theorem halfInv_eq : halfInv = (((1 : ℝ) / 4096 : ℝ) : EReal) := by
  simp [halfInv, Ideal.ofBits, Ideal.ieee, -EReal.coe_mul]; norm_num

theorem two_eq : Ideal.ofBits .f32 0x40000000#32 = ((2 : ℝ) : EReal) := by
  simp [Ideal.ofBits, Ideal.ieee, -EReal.coe_mul]; norm_num

theorem width_eq : Ideal.ofBits .f32 0x45000000#32 = ((2048 : ℝ) : EReal) := by
  simp [Ideal.ofBits, Ideal.ieee, -EReal.coe_mul]; norm_num

/-- A number which is not negative goes over a sum. -/
theorem mul_sum {ι : Type} (s : Finset ι) (c : ℝ) (hc : 0 ≤ c) (f : ι → EReal) :
    (c : EReal) * ∑ k ∈ s, f k = ∑ k ∈ s, (c : EReal) * f k := by
  classical
  induction s using Finset.induction_on with
  | empty => simp
  | insert a s h ih =>
    rw [Finset.sum_insert h, Finset.sum_insert h,
      EReal.left_distrib_of_nonneg_of_ne_top (by exact_mod_cast hc) (EReal.coe_ne_top c), ih]

/-- A tile of the product. -/
def prod (x : FVec Ideal S512x5632 .bf16) (w : FVec Ideal S5632x512 .bf16) (j : S512x512.Idx) : EReal :=
  ∑ k : Fin 5632, x (ix2 (j 0) k) * w (ix2 k (j 1))

/-- The product, whole. -/
def whole (x : FVec Ideal Cert.RLossIdeal.S8192x5632 .bf16) (w : FVec Ideal Cert.RLossIdeal.S5632x2048 .bf16) (i : Cert.RLossIdeal.S8192x2048.Idx) : EReal :=
  ∑ k : Fin 5632, x (ix2 (i 0) k) * w (ix2 k (i 1))

/-- A tile of the error. -/
def err (x : FVec Ideal S512x5632 .bf16) (w : FVec Ideal S5632x512 .bf16) (r : FVec Ideal S512x512 .f32)
    (g : FVec Ideal S1x512 .f32) (z : FVec Ideal S512x512 .f32) (j : S512x512.Idx) : EReal :=
  r j + half * g (ix2 0 (j 1)) * prod x w j - z j

/-- The error, whole. -/
def error (x : FVec Ideal Cert.RLossIdeal.S8192x5632 .bf16) (w : FVec Ideal Cert.RLossIdeal.S5632x2048 .bf16)
    (r : FVec Ideal Cert.RLossIdeal.S8192x2048 .f32) (g : FVec Ideal Cert.RLossIdeal.S1x2048 .f32)
    (z : FVec Ideal Cert.RLossIdeal.S8192x2048 .f32) (i : Cert.RLossIdeal.S8192x2048.Idx) : EReal :=
  r i + half * g (ix2 0 (i 1)) * whole x w i - z i

section Kernel

variable (x : FVec Ideal S512x5632 .bf16) (w : FVec Ideal S5632x512 .bf16) (r : FVec Ideal S512x512 .f32)
  (g : FVec Ideal S1x512 .f32) (z : FVec Ideal S512x512 .f32)

theorem pay5_apply (j : S512x512.Idx) : k0_pay5 (F := Ideal) x w j = prod x w j := by
  pointwise [k0_pay5, prod]

theorem pay6_apply (j : S512x512.Idx) : k0_pay6 (F := Ideal) x w r g z j = err x w r g z j := by
  unfold err
  rw [← pay5_apply]
  pointwise [k0_pay6, half]

theorem pay7_apply (j : S512x512.Idx) : k0_pay7 (F := Ideal) x w r g z j = err x w r g z j * inv := by
  rw [← pay6_apply]
  pointwise [k0_pay7, inv]

theorem pay8_apply (g' : FVec Ideal S1x512 .f32) (j : S512x512.Idx) :
    k0_pay8 (F := Ideal) x w r g z g' j = half * g' (ix2 0 (j 1)) * (err x w r g z j * inv) := by
  rw [← pay7_apply]
  pointwise [k0_pay8, half]

theorem pay9_apply (j : S1x512.Idx) :
    k0_pay9 (F := Ideal) x w r g z j = half * ∑ k : Fin 512, err x w r g z (ix2 k (j 1)) * inv * prod x w (ix2 k (j 1)) := by
  simp only [← pay7_apply, ← pay5_apply]
  pointwise [k0_pay9, half]

theorem pay10_apply (j : S1x1.Idx) :
    k0_pay10 (F := Ideal) x w r g z j = ∑ q : Fin 512, ∑ k : Fin 512, err x w r g z (ix2 k q) * err x w r g z (ix2 k q) := by
  simp only [← pay6_apply]
  pointwise [k0_pay10]

theorem pay1_apply (j : S1x512.Idx) : k0_pay1 (F := Ideal) j = 0 := by
  pointwise [k0_pay1]

theorem pay2_apply (j : S1x128.Idx) : k0_pay2 (F := Ideal) j = 0 := by
  pointwise [k0_pay2]

theorem pay3_apply (v a : FVec Ideal S1x512 .f32) (j : S1x512.Idx) : k0_pay3 (F := Ideal) v a j = a j + v j := by
  pointwise [k0_pay3]

theorem pay4_apply (v : FVec Ideal S1x1 .f32) (a : FVec Ideal S1x128 .f32) (j : S1x128.Idx) :
    k0_pay4 (F := Ideal) v a j = a j + v (ix2 0 0) * halfInv := by
  pointwise [k0_pay4, halfInv]

end Kernel

section Reference

open Cert.RLossIdeal.Read

variable (x : FVec Ideal Cert.RLossIdeal.S8192x5632 .bf16) (w : FVec Ideal Cert.RLossIdeal.S5632x2048 .bf16)
    (r : FVec Ideal Cert.RLossIdeal.S8192x2048 .f32) (g : FVec Ideal Cert.RLossIdeal.S1x2048 .f32)
    (z : FVec Ideal Cert.RLossIdeal.S8192x2048 .f32)

theorem v2_apply (i : Cert.RLossIdeal.S8192x2048.Idx) : val_main_v2 (F := Ideal) x w i = whole x w i := by
  pointwise [val_main_v2, val_main_v1, val_main_v0, whole]

theorem v8_apply (i : Cert.RLossIdeal.S8192x2048.Idx) : val_main_v8 (F := Ideal) x w r g z i = error x w r g z i := by
  unfold error
  rw [← v2_apply]
  pointwise [val_main_v8, val_main_v7, val_main_v6, val_main_v5, val_main_v4, val_main_v3, val_main_cst, half]

/-- The mean's derivative times the square's. -/
theorem slope (e : EReal) : Ideal.div half (Ideal.ofBits .f32 0x45000000#32) * (Ideal.ofBits .f32 0x40000000#32 * e) = e * inv := by
  rw [half_eq, width_eq, two_eq, inv_eq, Ideal.div_coe (by norm_num), ← mul_assoc, mul_comm e, ← EReal.coe_mul, ← EReal.coe_mul]
  norm_num

theorem ref_dx (i : Cert.RLossIdeal.S8192x2048.Idx) : val_main_v22 (F := Ideal) x w r g z i = error x w r g z i * inv := by
  rw [← slope, ← v8_apply]
  pointwise [val_main_v22, val_main_v21, val_main_v20, val_main_v19, val_main_v18, val_main_v17, val_main_v11, val_main_v10,
    val_main_cst_0, val_main_cst_5, val_main_cst_6, val_main_cst_7, half]

theorem ref_df (i : Cert.RLossIdeal.S8192x2048.Idx) : val_main_v30 (F := Ideal) x w r g z i
    = half * g (ix2 0 (i 1)) * (error x w r g z i * inv) := by
  rw [← ref_dx]
  pointwise [val_main_v30, val_main_v24, val_main_v23, val_main_v4, val_main_v3, val_main_cst, half]

theorem ref_dg (i : Cert.RLossIdeal.S1x2048.Idx) : val_main_v29 (F := Ideal) x w r g z i
    = half * ∑ k : Fin 8192, error x w r g z (ix2 k (i 1)) * inv * whole x w (ix2 k (i 1)) := by
  simp only [← ref_dx, ← v2_apply]
  pointwise [val_main_v29, val_main_v28, val_main_v27, val_main_v26, val_main_v25, val_main_cst_8, val_main_cst_9, half]

theorem ref_l (i : Cert.RLossIdeal.S1x128.Idx) : val_main_v31 (F := Ideal) x w r g z i
    = half * ∑ k : Fin 8192, Ideal.div (∑ q : Fin 2048, error x w r g z (ix2 k q) * error x w r g z (ix2 k q)) (Ideal.ofBits .f32 0x45000000#32) := by
  simp only [← v8_apply]
  pointwise [val_main_v31, val_main_v16, val_main_v15, val_main_v14, val_main_v13, val_main_v12, val_main_v9, val_main_cst_1, val_main_cst_2, val_main_cst_3, val_main_cst_4, half]

end Reference

/-- A tile's error is the whole error there. -/
theorem err_at (c : Dev nD) (t : Fin cfg0.N) (j : S512x512.Idx) (i : S8192x2048.Idx)
    (h0 : (i 0).val = t.val % 16 * 512 + (j 0).val) (h1 : (i 1).val = t.val / 16 * 512 + (j 1).val) :
    err (iblk m c 0 t) (iblk m c 1 t) (iblk m c 2 t) (iblk m c 3 t) (iblk m c 4 t) j = error (m ((c : Thread nD τ).loc main_arg0)) (m ((c : Thread nD τ).loc main_arg1)) (m ((c : Thread nD τ).loc main_arg2)) (m ((c : Thread nD τ).loc main_arg3)) (m ((c : Thread nD τ).loc main_arg4)) i := by
  unfold err error prod whole
  blk_point [iblk, V, idx0, idx1, idx2, idx3, idx4, h0, h1]

theorem prod_at (c : Dev nD) (t : Fin cfg0.N) (j : S512x512.Idx) (i : S8192x2048.Idx)
    (h0 : (i 0).val = t.val % 16 * 512 + (j 0).val) (h1 : (i 1).val = t.val / 16 * 512 + (j 1).val) :
    prod (iblk m c 0 t) (iblk m c 1 t) j = whole (m ((c : Thread nD τ).loc main_arg0)) (m ((c : Thread nD τ).loc main_arg1)) i := by
  unfold prod whole
  blk_point [iblk, V, idx0, idx1, h0, h1]

theorem out5 (c : Dev nD) (t : Fin cfg0.N) : (outsAt0 m c t.val t.isLt).1 = k0_pay7 (iblk m c 0 t) (iblk m c 1 t) (iblk m c 2 t) (iblk m c 3 t) (iblk m c 4 t) := by
  by_cases h0 : t.val % 16 = 0
  · by_cases h1 : t.val % 64 = 0
    · rw [outsAt0_A m c t h0 h1]
      frame_out
    · rw [outsAt0_C m c t h0 h1]
      frame_out
  · rw [outsAt0_B m c t h0 (by omega)]
    frame_out

theorem out6 (c : Dev nD) (t : Fin cfg0.N) : (outsAt0 m c t.val t.isLt).2.1 = k0_pay8 (iblk m c 0 t) (iblk m c 1 t) (iblk m c 2 t) (iblk m c 3 t) (iblk m c 4 t) (iblk m c 3 t) := by
  by_cases h0 : t.val % 16 = 0
  · by_cases h1 : t.val % 64 = 0
    · rw [outsAt0_A m c t h0 h1]
      frame_out
    · rw [outsAt0_C m c t h0 h1]
      frame_out
  · rw [outsAt0_B m c t h0 (by omega)]
    frame_out

/-- What a point adds to the gate's gradient. -/
def termG (c : Dev nD) (t : Fin cfg0.N) (j : S1x512.Idx) : EReal := k0_pay9 (F := Ideal) (iblk m c 0 t) (iblk m c 1 t) (iblk m c 2 t) (iblk m c 3 t) (iblk m c 4 t) j

/-- What a point adds to the loss. -/
def termL (c : Dev nD) (t : Fin cfg0.N) (_ : S1x128.Idx) : EReal := k0_pay10 (F := Ideal) (iblk m c 0 t) (iblk m c 1 t) (iblk m c 2 t) (iblk m c 3 t) (iblk m c 4 t) (ix2 0 0) * halfInv

theorem accG (c : Dev nD) (t : Fin cfg0.N) (h : t.val % 16 = 15) (j : S1x512.Idx) :
    (outsAt0 m c t.val t.isLt).2.2.1 j
      = 0 + ∑ s : Fin 16, termG m c ⟨16 * (t.val / 16) + s.val, Pipeline.run_point_lt_of_flush t h s⟩ j := by
  refine Pipeline.eq_sum_fin_of_reset_step_apply_of_flush (fun n h => (outsAt0 m c n h).2.2.1) 16 (fun _ => (0 : EReal))
    (termG m c) ?_ ?_ t h j
  · intro t h0 j
    by_cases h1 : t.val % 64 = 0
    · rw [outsAt0_A m c t h0 h1]; frame_out
      rw [pay3_apply, pay1_apply, termG]
    · rw [outsAt0_C m c t h0 h1]; frame_out
      rw [pay3_apply, pay1_apply, termG]
  · intro t h0 j
    rw [outsAt0_B m c t h0 (by omega)]; frame_out
    rw [pay3_apply, termG]

theorem accL (c : Dev nD) (t : Fin cfg0.N) (h : t.val % 64 = 63) (j : S1x128.Idx) :
    (outsAt0 m c t.val t.isLt).2.2.2 j
      = 0 + ∑ s : Fin 64, termL m c ⟨64 * (t.val / 64) + s.val, Pipeline.run_point_lt_of_flush t h s⟩ j := by
  refine Pipeline.eq_sum_fin_of_reset_step_apply_of_flush (fun n h => (outsAt0 m c n h).2.2.2) 64 (fun _ => (0 : EReal))
    (termL m c) ?_ ?_ t h j
  · intro t h0 j
    rw [outsAt0_A m c t (by omega) h0]; frame_out
    rw [pay4_apply, pay2_apply, termL]
  · intro t h0 j
    by_cases h1 : t.val % 16 = 0
    · rw [outsAt0_C m c t h1 h0]; frame_out
      rw [pay4_apply, termL]
    · rw [outsAt0_B m c t h1 h0]; frame_out
      rw [pay4_apply, termL]

/-- THE GRADIENT AT THE BLOCK'S OUTPUT. -/
theorem final5 (c : Dev nD) :
    (dats m 0 c).arrAt 5 cfg0.N = Cert.RLossIdeal.Read.val_main_v22 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 5 _ (by decide +kernel) fun t hf y => ?_
  rw [after0_5, out5, ref_dx]
  refine (pay7_apply ..).trans (congrArg (fun a : EReal => a * inv) (err_at m c t _ _ ?_ ?_))
  all_goals blk_simp [idx5]

/-- THE GRADIENT AT THE PRODUCT. -/
theorem final6 (c : Dev nD) :
    (dats m 0 c).arrAt 6 cfg0.N = Cert.RLossIdeal.Read.val_main_v30 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 6 _ (by decide +kernel) fun t hf y => ?_
  rw [after0_6, out6, ref_df]
  refine (pay8_apply ..).trans (congrArg₂ (fun a b : EReal => half * a * (b * inv)) ?_ (err_at m c t _ _ ?_ ?_))
  · blk_point [iblk, V, idx3, idx6]
  all_goals blk_simp [idx6]

/-- THE GATE'S GRADIENT. -/
theorem final7 (c : Dev nD) :
    (dats m 0 c).arrAt 7 cfg0.N = Cert.RLossIdeal.Read.val_main_v29 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 7 _ (by decide +kernel) fun t hf y => ?_
  have h := (flush0_7 t).mp hf
  have hN : t.val < 64 := lt_of_lt_of_eq t.isLt N_0
  rw [after0_7]
  refine (accG m c t h y).trans ?_
  rw [zero_add, ref_dg]
  unfold termG
  simp only [pay9_apply, half_eq]
  rw [← mul_sum _ _ (by norm_num)]
  refine congrArg (fun a : EReal => (((1 : ℝ) / 2 : ℝ) : EReal) * a) (Fin.sum_mul_add_congr fun s k hl => ?_)
  refine congrArg₂ (fun a b : EReal => a * inv * b) (err_at m c _ _ _ ?_ ?_) (prod_at m c _ _ _ ?_ ?_)
  all_goals blk_simp [idx7]
  all_goals dsimp only [ix2]
  all_goals omega

/-- Tiles of rows and columns make up the array, whichever way round one goes over them. -/
theorem sum_tiles (f : Fin 8192 → Fin 2048 → EReal) (F : Fin 64 → Fin 512 → Fin 512 → EReal)
    (h : ∀ (t : Fin 64) (q k : Fin 512) (hr : t.val % 16 * 512 + k.val < 8192) (hc : t.val / 16 * 512 + q.val < 2048),
      F t q k = f ⟨t.val % 16 * 512 + k.val, hr⟩ ⟨t.val / 16 * 512 + q.val, hc⟩) :
    ∑ t : Fin 64, ∑ q : Fin 512, ∑ k : Fin 512, F t q k = ∑ r : Fin 8192, ∑ l : Fin 2048, f r l := by
  rw [Finset.sum_comm (f := f)]
  rw [← Fin.sum_mul_add_congr (S := 4) (n := 16) (F := fun a b => ∑ q : Fin 512, ∑ k : Fin 512, F ⟨a.val * 16 + b.val, by omega⟩ q k)
    (f := fun t : Fin 64 => ∑ q : Fin 512, ∑ k : Fin 512, F t q k) fun s k hl => rfl]
  refine Eq.trans ?_ (Fin.sum_mul_add_congr (S := 4) (n := 512) (F := fun a q => ∑ r : Fin 8192, f r ⟨a.val * 512 + q.val, by omega⟩) fun s k hl => rfl)
  refine Finset.sum_congr rfl fun a _ => ?_
  rw [Finset.sum_comm]
  refine Finset.sum_congr rfl fun q _ => ?_
  refine Fin.sum_mul_add_congr fun b k hl => ?_
  have hb := b.isLt
  have ha := a.isLt
  refine (h _ q k (by dsimp only; omega) (by dsimp only; omega)).trans (congrArg₂ f (Fin.ext ?_) (Fin.ext ?_))
  · dsimp only; omega
  · dsimp only; omega

/-- THE LOSS. -/
theorem final8 (c : Dev nD) :
    (dats m 0 c).arrAt 8 cfg0.N = Cert.RLossIdeal.Read.val_main_v31 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 8 _ (by decide +kernel) fun t hf y => ?_
  have h := (flush0_8 t).mp hf
  have hN : t.val < 64 := lt_of_lt_of_eq t.isLt N_0
  rw [after0_8]
  refine (accL m c t h y).trans ?_
  rw [zero_add, ref_l]
  unfold termL
  simp only [pay10_apply, half_eq, halfInv_eq, width_eq, Ideal.div_coe (show (2048 : ℝ) ≠ 0 by norm_num)]
  simp only [mul_comm _ (((1 : ℝ) / 4096 : ℝ) : EReal), mul_comm _ (((1 : ℝ) / 2048 : ℝ) : EReal)]
  rw [← mul_sum _ _ (by norm_num), ← mul_sum _ _ (by norm_num), ← mul_assoc, ← EReal.coe_mul,
    show (1 : ℝ) / 2 * (1 / 2048) = 1 / 4096 by norm_num]
  refine congrArg (fun a : EReal => (((1 : ℝ) / 4096 : ℝ) : EReal) * a) (sum_tiles _ _ fun s q k hr hc => ?_)
  refine congrArg₂ (fun a b : EReal => a * b) (err_at m c _ _ _ ?_ ?_) (err_at m c _ _ _ ?_ ?_)
  all_goals dsimp only [ix2]
  all_goals omega

end Cert.Proof.Loss

end
-- ==== Proof.Out.lean ====
/-
  The mixer's output projection (`mix_out`): each point computes a tile of the product, and adds it to the mixer's
  input through the gate.
-/
module

public import proofs.«01_k».proof.Proof.Gen.KOutIdeal.Value
public import proofs.«01_k».proof.Proof.Gen.ROutIdeal.Read
public import Idealize.ShloMosaic.Lib.Pipeline.ValueKit
public import Idealize.ShloMosaic.Lib.Pointwise

@[expose] public section

noncomputable section

namespace Cert.Proof.Out

open Cert.KOutIdeal Cert.KOutIdeal.Gen Idealize.ShloMosaic Idealize.ShloMosaic.TcCoe Idealize.SL.Sem
open Idealize.ShloMosaic.Pipeline (Dat Cfg Window)
open scoped BigOperators

variable (m : (ℓ : Loc nD τ sig) → Buf (Elt Ideal) ℓ)

theorem idx0 : ∀ t : Fin cfg0.N, win0_0.index t = ![t.val % 8, 0] := (by decide +kernel : ∀ t : Fin grid0.N, _)
theorem idx1 : ∀ t : Fin cfg0.N, win0_1.index t = ![0, t.val / 8] := (by decide +kernel : ∀ t : Fin grid0.N, _)
theorem idx2 : ∀ t : Fin cfg0.N, win0_2.index t = ![t.val % 8, t.val / 8] := (by decide +kernel : ∀ t : Fin grid0.N, _)
theorem idx3 : ∀ t : Fin cfg0.N, win0_3.index t = ![0, t.val / 8] := (by decide +kernel : ∀ t : Fin grid0.N, _)
theorem idx4 : ∀ t : Fin cfg0.N, win0_4.index t = ![t.val % 8, t.val / 8] := (by decide +kernel : ∀ t : Fin grid0.N, _)
theorem idx5 : ∀ t : Fin cfg0.N, win0_5.index t = ![t.val % 8, t.val / 8] := (by decide +kernel : ∀ t : Fin grid0.N, _)

/-- A tile of the product. -/
def prod (x : FVec Ideal S1024x2048 .bf16) (w : FVec Ideal S2048x1024 .bf16) (j : S1024x1024.Idx) : EReal :=
  ∑ k : Fin 2048, x (ix2 (j 0) k) * w (ix2 k (j 1))

/-- The product, whole. -/
def whole (x : FVec Ideal Cert.ROutIdeal.S8192x2048 .bf16) (w : FVec Ideal Cert.ROutIdeal.S2048x2048 .bf16) (i : Cert.ROutIdeal.S8192x2048.Idx) : EReal :=
  ∑ k : Fin 2048, x (ix2 (i 0) k) * w (ix2 k (i 1))

theorem pay1_apply (x : FVec Ideal S1024x2048 .bf16) (w : FVec Ideal S2048x1024 .bf16) (j : S1024x1024.Idx) :
    k0_pay1 (F := Ideal) x w j = prod x w j := by
  pointwise [k0_pay1, prod]

theorem pay2_apply (x : FVec Ideal S1024x2048 .bf16) (w : FVec Ideal S2048x1024 .bf16) (j : S1024x1024.Idx) :
    k0_pay2 (F := Ideal) x w j = prod x w j := by
  rw [← pay1_apply]
  pointwise [k0_pay2]

theorem pay3_apply (x : FVec Ideal S1024x2048 .bf16) (w : FVec Ideal S2048x1024 .bf16) (r : FVec Ideal S1024x1024 .f32)
    (g : FVec Ideal S1x1024 .f32) (j : S1024x1024.Idx) :
    k0_pay3 (F := Ideal) x w r g j = r j + g (ix2 0 (j 1)) * prod x w j := by
  rw [← pay1_apply]
  pointwise [k0_pay3]

section Reference

open Cert.ROutIdeal.Read

variable (x : FVec Ideal Cert.ROutIdeal.S8192x2048 .bf16) (w : FVec Ideal Cert.ROutIdeal.S2048x2048 .bf16)
  (r : FVec Ideal Cert.ROutIdeal.S8192x2048 .f32) (g : FVec Ideal Cert.ROutIdeal.S1x2048 .f32)

theorem v2_apply (i : Cert.ROutIdeal.S8192x2048.Idx) : val_main_v2 (F := Ideal) x w i = whole x w i := by
  pointwise [val_main_v2, val_main_v1, val_main_v0, whole]

theorem ref_f (i : Cert.ROutIdeal.S8192x2048.Idx) : val_main_v6 (F := Ideal) x w i = whole x w i := by
  rw [← v2_apply]
  pointwise [val_main_v6]

theorem ref_x (i : Cert.ROutIdeal.S8192x2048.Idx) : val_main_v5 (F := Ideal) x w r g i
    = r i + g (ix2 0 (i 1)) * whole x w i := by
  rw [← v2_apply]
  pointwise [val_main_v5, val_main_v4, val_main_v3]

end Reference

/-- THE BLOCK'S OUTPUT. -/
theorem final4 (c : Dev nD) :
    (dats m 0 c).arrAt 4 cfg0.N
      = Cert.ROutIdeal.Read.val_main_v5 (F := Ideal) (m ((c : Thread nD τ).loc main_arg0)) (m ((c : Thread nD τ).loc main_arg1))
          (m ((c : Thread nD τ).loc main_arg2)) (m ((c : Thread nD τ).loc main_arg3)) := by
  refine (dats m 0 c).arrAt_eq_of_covers 4 _ (by decide +kernel) fun t hf y => ?_
  blk_simp
  rw [after0_4, ref_x]
  frame_out
  refine (pay3_apply _ _ _ _ _).trans ?_
  unfold prod whole
  blk_point [iblk, V, idx0, idx1, idx2, idx3, idx4]

/-- THE PRODUCT. -/
theorem final5 (c : Dev nD) :
    (dats m 0 c).arrAt 5 cfg0.N
      = Cert.ROutIdeal.Read.val_main_v6 (F := Ideal) (m ((c : Thread nD τ).loc main_arg0)) (m ((c : Thread nD τ).loc main_arg1)) := by
  refine (dats m 0 c).arrAt_eq_of_covers 5 _ (by decide +kernel) fun t hf y => ?_
  blk_simp
  rw [after0_5, ref_f]
  frame_out
  refine (pay2_apply _ _ _).trans ?_
  unfold prod whole
  blk_point [iblk, V, idx0, idx1, idx5]

end Cert.Proof.Out

end
-- ==== Proof.In.lean ====
/-
  The mixer's input projection (`mix_in`): the blocked product of the kernel is the one product of the reference.
-/
module

public import proofs.«01_k».proof.Proof.Gen.KInIdeal.Value
public import proofs.«01_k».proof.Proof.Gen.RInIdeal.Read
public import Idealize.ShloMosaic.Lib.Pipeline.ValueKit
public import Idealize.ShloMosaic.Lib.Pointwise

@[expose] public section

noncomputable section

namespace Cert.Proof.In

open Cert.KInIdeal Cert.KInIdeal.Gen Idealize.ShloMosaic Idealize.ShloMosaic.TcCoe Idealize.SL.Sem
open Idealize.ShloMosaic.Pipeline (Dat Cfg Window)
open scoped BigOperators

variable (m : (ℓ : Loc nD τ sig) → Buf (Elt Ideal) ℓ)

theorem idx0 : ∀ t : Fin cfg0.N, win0_0.index t = ![t.val % 8, 0] := (by decide +kernel : ∀ t : Fin grid0.N, _)
theorem idx1 : ∀ t : Fin cfg0.N, win0_1.index t = ![0, t.val / 8] := (by decide +kernel : ∀ t : Fin grid0.N, _)
theorem idx2 : ∀ t : Fin cfg0.N, win0_2.index t = ![t.val % 8, t.val / 8] := (by decide +kernel : ∀ t : Fin grid0.N, _)

/-- Rows of the input with columns of the weights. -/
def prod (x : FVec Ideal S1024x2048 .bf16) (w : FVec Ideal S2048x1280 .bf16) (j : S1024x1280.Idx) : EReal :=
  ∑ k : Fin 2048, x (ix2 (j 0) k) * w (ix2 k (j 1))

/-- What a point computes. -/
theorem pay1_apply (x : FVec Ideal S1024x2048 .bf16) (w : FVec Ideal S2048x1280 .bf16) (j : S1024x1280.Idx) :
    k0_pay1 (F := Ideal) x w j = prod x w j := by
  pointwise [k0_pay1, prod]

/-- THE RESULT: the array the kernel leaves is the reference's projection. -/
theorem final (c : Dev nD) :
    (dats m 0 c).arrAt 2 cfg0.N
      = Cert.RInIdeal.Read.val_main_v3 (F := Ideal) (m ((c : Thread nD τ).loc main_arg0)) (m ((c : Thread nD τ).loc main_arg1)) := by
  refine (dats m 0 c).arrAt_eq_of_covers 2 _ (by decide +kernel) fun t hf y => ?_
  blk_simp
  rw [after0_2]
  frame_out
  refine (pay1_apply _ _ _).trans ?_
  simp only [Cert.RInIdeal.Read.val_main_v3_apply, Cert.RInIdeal.Read.val_main_v2_apply, Cert.RInIdeal.Read.val_main_v1_apply,
    Cert.RInIdeal.Read.val_main_v0_apply, Ideal.truncf_def, Ideal.extf_def]
  unfold prod
  refine Finset.sum_congr rfl fun k _ => ?_
  blk_point [iblk, V, idx0, idx1, idx2]

end Cert.Proof.In

end
-- ==== Proof.Mup.lean ====
/-
  The two branches' up projections and their gated sum (`mixers_up`): each point computes a tile of both products and
  adds them through the gates.
-/
module

public import proofs.«01_k».proof.Proof.Gen.KMupIdeal.Value
public import proofs.«01_k».proof.Proof.Gen.RMupIdeal.Read
public import Idealize.ShloMosaic.Lib.Pipeline.ValueKit
public import Idealize.ShloMosaic.Lib.Pointwise

@[expose] public section

noncomputable section

namespace Cert.Proof.Mup

open Cert.KMupIdeal Cert.KMupIdeal.Gen Idealize.ShloMosaic Idealize.ShloMosaic.TcCoe Idealize.SL.Sem
open Idealize.ShloMosaic.Pipeline (Dat Cfg Window)
open scoped BigOperators

variable (m : (ℓ : Loc nD τ sig) → Buf (Elt Ideal) ℓ)

theorem idx0 : ∀ t : Fin cfg0.N, win0_0.index t = ![t.val % 8, 0] := (by decide +kernel : ∀ t : Fin grid0.N, _)
theorem idx1 : ∀ t : Fin cfg0.N, win0_1.index t = ![t.val % 8, 0] := (by decide +kernel : ∀ t : Fin grid0.N, _)
theorem idx2 : ∀ t : Fin cfg0.N, win0_2.index t = ![0, t.val / 8] := (by decide +kernel : ∀ t : Fin grid0.N, _)
theorem idx3 : ∀ t : Fin cfg0.N, win0_3.index t = ![0, t.val / 8] := (by decide +kernel : ∀ t : Fin grid0.N, _)
theorem idx4 : ∀ t : Fin cfg0.N, win0_4.index t = ![t.val % 8, t.val / 8] := (by decide +kernel : ∀ t : Fin grid0.N, _)
theorem idx5 : ∀ t : Fin cfg0.N, win0_5.index t = ![t.val % 8, t.val / 8] := (by decide +kernel : ∀ t : Fin grid0.N, _)
theorem idx6 : ∀ t : Fin cfg0.N, win0_6.index t = ![t.val % 8, t.val / 8] := (by decide +kernel : ∀ t : Fin grid0.N, _)
theorem idx7 : ∀ t : Fin cfg0.N, win0_7.index t = ![t.val % 8, t.val / 8] := (by decide +kernel : ∀ t : Fin grid0.N, _)

/-- The logistic function. -/
def sg (g : EReal) : EReal := Ideal.div 1 (1 + Ideal.exp (-g))

/-- A tile of a product. -/
def prod (x : FVec Ideal S1024x1024 .bf16) (w : FVec Ideal S1024x512 .bf16) (j : S1024x512.Idx) : EReal :=
  ∑ k : Fin 1024, x (ix2 (j 0) k) * w (ix2 k (j 1))

/-- A product, whole. -/
def whole (x : FVec Ideal Cert.RMupIdeal.S8192x1024 .bf16) (w : FVec Ideal Cert.RMupIdeal.S1024x2048 .bf16) (i : Cert.RMupIdeal.S8192x2048.Idx) : EReal :=
  ∑ k : Fin 1024, x (ix2 (i 0) k) * w (ix2 k (i 1))

theorem pay2_apply (x : FVec Ideal S1024x1024 .bf16) (w : FVec Ideal S1024x512 .bf16) (j : S1024x512.Idx) :
    k0_pay2 (F := Ideal) x w j = prod x w j := by
  pointwise [k0_pay2, prod]

theorem pay3_apply (x : FVec Ideal S1024x1024 .bf16) (w : FVec Ideal S1024x512 .bf16) (j : S1024x512.Idx) :
    k0_pay3 (F := Ideal) x w j = prod x w j := by
  pointwise [k0_pay3, prod]

theorem pay4_apply (g : FVec Ideal S1024x512 .bf16) (j : S1024x512.Idx) : k0_pay4 (F := Ideal) g j = sg (g j) := by
  pointwise [k0_pay4, sg]
  rw [zero_sub]

theorem pay5_apply (x : FVec Ideal S1024x1024 .bf16) (w : FVec Ideal S1024x512 .bf16) (g : FVec Ideal S1024x512 .bf16) (j : S1024x512.Idx) :
    k0_pay5 (F := Ideal) x w g j = sg (g j) * prod x w j := by
  rw [← pay2_apply]
  pointwise [k0_pay5, sg]
  rw [zero_sub]

theorem pay1_apply (x z : FVec Ideal S1024x1024 .bf16) (w u : FVec Ideal S1024x512 .bf16) (g h : FVec Ideal S1024x512 .bf16) (j : S1024x512.Idx) :
    k0_pay1 (F := Ideal) (k0_pay3 z u) (k0_pay4 h) (k0_pay5 x w g) j = sg (g j) * prod x w j + sg (h j) * prod z u j := by
  rw [← pay5_apply x w g, ← pay4_apply h, ← pay3_apply z u]
  pointwise [k0_pay1]

section Reference

open Cert.RMupIdeal.Read

variable (x z : FVec Ideal Cert.RMupIdeal.S8192x1024 .bf16) (w u : FVec Ideal Cert.RMupIdeal.S1024x2048 .bf16) (ga gb : FVec Ideal Cert.RMupIdeal.S8192x2048 .bf16)

theorem ref_yp (i : Cert.RMupIdeal.S8192x2048.Idx) : val_main_v23 (F := Ideal) x w i = whole x w i := by
  pointwise [val_main_v23, val_main_v2, val_main_v1, val_main_v0, whole]

theorem ref_ya (i : Cert.RMupIdeal.S8192x2048.Idx) : val_main_v24 (F := Ideal) z u i = whole z u i := by
  pointwise [val_main_v24, val_main_v5, val_main_v4, val_main_v3, whole]

theorem ref_o (i : Cert.RMupIdeal.S8192x2048.Idx) : val_main_v25 (F := Ideal) x z w u ga gb i
    = sg (ga i) * whole x w i + sg (gb i) * whole z u i := by
  rw [← ref_yp, ← ref_ya]
  pointwise [val_main_v25, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_v24, val_main_cst, val_main_cst_0, val_main_cst_1, val_main_cst_2, sg]

end Reference

/-- The operand which holds the two gates' tiles in turn, at a column of a tile of the first gate. -/
theorem gates_a (c : Dev nD) (i : S8192x4096.Idx) (i' : S8192x2048.Idx) (h0 : (i' 0).val = (i 0).val)
    (h1 : (i' 1).val = (i 1).val / 1024 * 512 + (i 1).val % 512) (h : (i 1).val / 512 % 2 = 0) :
    (V m c main_v5 : FVec Ideal S8192x4096 .bf16) i = (m ((c : Thread nD τ).loc main_arg4) : FVec Ideal S8192x2048 .bf16) i' := by
  entry_read
  pointwise
  rw [dif_pos (by omega)]
  exact congrArg (m ((c : Thread nD τ).loc main_arg4) : FVec Ideal S8192x2048 .bf16)
    (funext (Fin.forall_fin_two.mpr ⟨Fin.ext h0.symm, Fin.ext h1.symm⟩))

/-- The same at a column of a tile of the second gate. -/
theorem gates_b (c : Dev nD) (i : S8192x4096.Idx) (i' : S8192x2048.Idx) (h0 : (i' 0).val = (i 0).val)
    (h1 : (i' 1).val = (i 1).val / 1024 * 512 + (i 1).val % 512) (h : (i 1).val / 512 % 2 = 1) :
    (V m c main_v5 : FVec Ideal S8192x4096 .bf16) i = (m ((c : Thread nD τ).loc main_arg5) : FVec Ideal S8192x2048 .bf16) i' := by
  entry_read
  pointwise
  rw [dif_neg (by omega)]
  exact congrArg (m ((c : Thread nD τ).loc main_arg5) : FVec Ideal S8192x2048 .bf16)
    (funext (Fin.forall_fin_two.mpr ⟨Fin.ext h0.symm, Fin.ext h1.symm⟩))

/-- The first gate's tile of a point. -/
theorem tile_a (c : Dev nD) (t : Fin cfg0.N) (j : S1024x512.Idx) (i : S8192x2048.Idx)
    (h0 : (i 0).val = t.val % 8 * 1024 + (j 0).val) (h1 : (i 1).val = t.val / 8 * 512 + (j 1).val) :
    (View.ld (Val := Elt Ideal) (e' := .bf16) (iblk m c 4 t) r0_2 : FVec Ideal S1024x512 .bf16) j
      = (m ((c : Thread nD τ).loc main_arg4) : FVec Ideal S8192x2048 .bf16) i := by
  have hj : (j 1).val < 512 := (j 1).isLt
  refine (View.ld_unit_apply_of (S := S1024x1024) (Val := Elt Ideal) (e := .bf16) _ _ _ _ j (ix2 (j 0) ⟨(j 1).val, by omega⟩)
    fun a => ?_).trans ?_
  · fin_cases a <;> simp [ix2]
  · refine gates_a m c _ i ?_ ?_ ?_
    · rw [h0]
      blk_simp [idx4]
    · rw [h1]
      blk_simp [idx4]
      dsimp only
      omega
    · blk_simp [idx4]
      dsimp only
      omega

/-- The second gate's tile of a point. -/
theorem tile_b (c : Dev nD) (t : Fin cfg0.N) (j : S1024x512.Idx) (i : S8192x2048.Idx)
    (h0 : (i 0).val = t.val % 8 * 1024 + (j 0).val) (h1 : (i 1).val = t.val / 8 * 512 + (j 1).val) :
    (View.ld (Val := Elt Ideal) (e' := .bf16) (iblk m c 4 t) r0_3 : FVec Ideal S1024x512 .bf16) j
      = (m ((c : Thread nD τ).loc main_arg5) : FVec Ideal S8192x2048 .bf16) i := by
  have hj : (j 1).val < 512 := (j 1).isLt
  refine (View.ld_unit_apply_of (S := S1024x1024) (Val := Elt Ideal) (e := .bf16) _ _ _ _ j (ix2 (j 0) ⟨512 + (j 1).val, by omega⟩)
    fun a => ?_).trans ?_
  · fin_cases a <;> simp [ix2]
  · refine gates_b m c _ i ?_ ?_ ?_
    · rw [h0]
      blk_simp [idx4]
    · rw [h1]
      blk_simp [idx4]
      dsimp only
      omega
    · blk_simp [idx4]
      dsimp only
      omega

/-- THE FIRST BRANCH'S PRODUCT. -/
theorem final5 (c : Dev nD) :
    (dats m 0 c).arrAt 5 cfg0.N
      = Cert.RMupIdeal.Read.val_main_v23 (F := Ideal) (m ((c : Thread nD τ).loc main_arg0)) (m ((c : Thread nD τ).loc main_arg2)) := by
  refine (dats m 0 c).arrAt_eq_of_covers 5 _ (by decide +kernel) fun t hf y => ?_
  blk_simp
  rw [after0_5, ref_yp]
  frame_out
  refine (pay2_apply _ _ _).trans ?_
  unfold prod whole
  blk_point [iblk, V, idx0, idx2, idx5]

/-- THE SECOND BRANCH'S PRODUCT. -/
theorem final6 (c : Dev nD) :
    (dats m 0 c).arrAt 6 cfg0.N
      = Cert.RMupIdeal.Read.val_main_v24 (F := Ideal) (m ((c : Thread nD τ).loc main_arg1)) (m ((c : Thread nD τ).loc main_arg3)) := by
  refine (dats m 0 c).arrAt_eq_of_covers 6 _ (by decide +kernel) fun t hf y => ?_
  blk_simp
  rw [after0_6, ref_ya]
  frame_out
  refine (pay3_apply _ _ _).trans ?_
  unfold prod whole
  blk_point [iblk, V, idx1, idx3, idx6]

/-- THE GATED SUM. -/
theorem final7 (c : Dev nD) :
    (dats m 0 c).arrAt 7 cfg0.N
      = Cert.RMupIdeal.Read.val_main_v25 (F := Ideal) (m ((c : Thread nD τ).loc main_arg0)) (m ((c : Thread nD τ).loc main_arg1))
          (m ((c : Thread nD τ).loc main_arg2)) (m ((c : Thread nD τ).loc main_arg3)) (m ((c : Thread nD τ).loc main_arg4)) (m ((c : Thread nD τ).loc main_arg5)) := by
  refine (dats m 0 c).arrAt_eq_of_covers 7 _ (by decide +kernel) fun t hf y => ?_
  blk_simp
  rw [after0_7, ref_o]
  frame_out
  refine (pay1_apply _ _ _ _ _ _ _).trans ?_
  refine congrArg₂ (fun a b : EReal => a + b)
    (congrArg₂ (fun a b : EReal => a * b) (congrArg sg (tile_a m c t y _ ?_ ?_)) ?_)
    (congrArg₂ (fun a b : EReal => a * b) (congrArg sg (tile_b m c t y _ ?_ ?_)) ?_)
  · blk_simp [idx7]
  · blk_simp [idx7]
  · unfold prod whole
    blk_point [iblk, V, idx0, idx2, idx7]
  · blk_simp [idx7]
  · blk_simp [idx7]
  · unfold prod whole
    blk_point [iblk, V, idx1, idx3, idx7]

end Cert.Proof.Mup

end
-- ==== Proof.Nrm.lean ====
/-
  The norm and its modulation (`norm_modulate`): each point normalises a block of rows and modulates it.
-/
module

public import proofs.«01_k».proof.Proof.Gen.KNrmIdeal.Value
public import proofs.«01_k».proof.Proof.Gen.RNrmIdeal.Read
public import Idealize.ShloMosaic.Lib.Pipeline.ValueKit
public import Idealize.ShloMosaic.Lib.Pointwise

@[expose] public section

noncomputable section

namespace Cert.Proof.Nrm

open Cert.KNrmIdeal Cert.KNrmIdeal.Gen Idealize.ShloMosaic Idealize.ShloMosaic.TcCoe Idealize.SL.Sem
open Idealize.ShloMosaic.Pipeline (Dat Cfg Window)
open scoped BigOperators

variable (m : (ℓ : Loc nD τ sig) → Buf (Elt Ideal) ℓ)

theorem idx0 : ∀ t : Fin cfg0.N, win0_0.index t = ![t.val, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![0, 0] := (by decide +kernel : ∀ t : Fin grid0.N, _)
theorem idx3 : ∀ t : Fin cfg0.N, win0_3.index t = ![0, 0] := (by decide +kernel : ∀ t : Fin grid0.N, _)
theorem idx5 : ∀ t : Fin cfg0.N, win0_5.index t = ![t.val, 0] := (by decide +kernel : ∀ t : Fin grid0.N, _)

/-- The factor of a row, from the sum of its squares. -/
def fac (q : EReal) : EReal := Ideal.rsqrt (Ideal.div q (Ideal.ofBits .f32 0x45000000#32) + Ideal.ofBits .f32 0x358637BD#32)

/-- The sum of the squares of a row of a block. -/
def sq (x : FVec Ideal S512x2048 .f32) (r : Fin 512) : EReal := ∑ k : Fin 2048, x (ix2 r k) * x (ix2 r k)

/-- The sum of the squares of a row. -/
def sqs (x : FVec Ideal Cert.RNrmIdeal.S8192x2048 .f32) (r : Fin 8192) : EReal := ∑ k : Fin 2048, x (ix2 r k) * x (ix2 r k)

theorem pay1_apply (x : FVec Ideal S512x2048 .f32) (g s h : FVec Ideal S1x2048 .f32) (j : S512x2048.Idx) :
    k0_pay1 (F := Ideal) x g s h j = x j * fac (sq x (j 0)) * g (ix2 0 (j 1)) * (1 + s (ix2 0 (j 1))) + h (ix2 0 (j 1)) := by
  pointwise [k0_pay1, fac, sq]

open Cert.RNrmIdeal.Read in
theorem ref_apply (x : FVec Ideal Cert.RNrmIdeal.S8192x2048 .f32) (g h s : FVec Ideal Cert.RNrmIdeal.S1x2048 .f32) (i : Cert.RNrmIdeal.S8192x2048.Idx) :
    val_main_v18 (F := Ideal) x g h s i
      = x i * fac (sqs x (i 0)) * g (ix2 0 (i 1)) * (1 + s (ix2 0 (i 1))) + h (ix2 0 (i 1)) := by
  pointwise [val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_cst, val_main_cst_0, val_main_cst_1, val_main_cst_2, fac, sqs]

/-- THE RESULT. -/
theorem final (c : Dev nD) :
    (dats m 0 c).arrAt 5 cfg0.N
      = Cert.RNrmIdeal.Read.val_main_v18 (F := Ideal) (m ((c : Thread nD τ).loc main_arg0)) (m ((c : Thread nD τ).loc main_arg1))
          (m ((c : Thread nD τ).loc main_arg2)) (m ((c : Thread nD τ).loc main_arg3)) := by
  refine (dats m 0 c).arrAt_eq_of_covers 5 _ (by decide +kernel) fun t hf y => ?_
  blk_simp
  rw [after0_5, ref_apply]
  frame_out
  refine (pay1_apply _ _ _ _ _).trans ?_
  unfold sq sqs
  blk_point [iblk, V, idx0, idx1, idx2, idx3, idx5]

end Cert.Proof.Nrm

end
-- ==== Proof.FwdClaims.lean ====
/-
  The claims about the forward calls: each call's run beside the run of the problem's lines, which ends with the same
  arrays.
-/
module

public import proofs.«01_k».proof.Defs
public import proofs.«01_k».proof.Proof.Up
public import proofs.«01_k».proof.Proof.Down
public import proofs.«01_k».proof.Proof.Loss
public import proofs.«01_k».proof.Proof.Out
public import proofs.«01_k».proof.Proof.In
public import proofs.«01_k».proof.Proof.Mup
public import proofs.«01_k».proof.Proof.Nrm
public import proofs.«01_k».proof.Proof.Gen.KUp.Frame
public import proofs.«01_k».proof.Proof.Gen.KDown.Frame
public import proofs.«01_k».proof.Proof.Gen.KLoss.Frame
public import proofs.«01_k».proof.Proof.Gen.KOut.Frame
public import proofs.«01_k».proof.Proof.Gen.KIn.Frame
public import proofs.«01_k».proof.Proof.Gen.KMup.Frame
public import proofs.«01_k».proof.Proof.Gen.KNrm.Frame
public import proofs.«01_k».proof.Proof.Gen.RUpIdeal.Run
public import proofs.«01_k».proof.Proof.Gen.RDownIdeal.Run
public import proofs.«01_k».proof.Proof.Gen.RLossIdeal.Run
public import proofs.«01_k».proof.Proof.Gen.ROutIdeal.Run
public import proofs.«01_k».proof.Proof.Gen.RInIdeal.Run
public import proofs.«01_k».proof.Proof.Gen.RMupIdeal.Run
public import proofs.«01_k».proof.Proof.Gen.RNrmIdeal.Run

@[expose] public section

noncomputable section

namespace Cert.Proof.Fwd

open Idealize.ShloMosaic Idealize.ShloMosaic.TcCoe Idealize.SL.Sem

/-! ## The references end with their arguments unchanged and have no semaphore -/

/-- The gate and value projection, as the problem writes it, runs and leaves its arguments. -/
theorem frame_up : Cert.quiescent_RUpIdeal := fun m ρ _ =>
  (θ_run Cert.RUpIdeal.defs _ _).mono (fun r h => ⟨fun c => (h c).2.2.2, sem_eq_zero_of_no_sems (by decide) r.2⟩)
    (Cert.RUpIdeal.Value.run (F := Ideal) m ρ)

/-- The down projection and its residual, as the problem writes it, runs and leaves its arguments. -/
theorem frame_down : Cert.quiescent_RDownIdeal := fun m ρ _ =>
  (θ_run Cert.RDownIdeal.defs _ _).mono (fun r h => ⟨fun c => (h c).2.2, sem_eq_zero_of_no_sems (by decide) r.2⟩)
    (Cert.RDownIdeal.Value.run (F := Ideal) m ρ)

/-- The last down projection with the loss, as the problem writes it, runs and leaves its arguments. -/
theorem frame_loss : Cert.quiescent_RLossIdeal := fun m ρ _ =>
  (θ_run Cert.RLossIdeal.defs _ _).mono (fun r h => ⟨fun c => (h c).2.2.2.2, sem_eq_zero_of_no_sems (by decide) r.2⟩)
    (Cert.RLossIdeal.Value.run (F := Ideal) m ρ)

/-- The output projection and its residual, as the problem writes it, runs and leaves its arguments. -/
theorem frame_out : Cert.quiescent_ROutIdeal := fun m ρ _ =>
  (θ_run Cert.ROutIdeal.defs _ _).mono (fun r h => ⟨fun c => (h c).2.2, sem_eq_zero_of_no_sems (by decide) r.2⟩)
    (Cert.ROutIdeal.Value.run (F := Ideal) m ρ)

/-- The input projection, as the problem writes it, runs and leaves its arguments. -/
theorem frame_in : Cert.quiescent_RInIdeal := fun m ρ _ =>
  (θ_run Cert.RInIdeal.defs _ _).mono (fun r h => ⟨fun c => (h c).2, sem_eq_zero_of_no_sems (by decide) r.2⟩)
    (Cert.RInIdeal.Value.run (F := Ideal) m ρ)

/-- The branches' up projections and their gated sum, as the problem writes it, runs and leaves its arguments. -/
theorem frame_mup : Cert.quiescent_RMupIdeal := fun m ρ _ =>
  (θ_run Cert.RMupIdeal.defs _ _).mono (fun r h => ⟨fun c => (h c).2.2.2, sem_eq_zero_of_no_sems (by decide) r.2⟩)
    (Cert.RMupIdeal.Value.run (F := Ideal) m ρ)

/-- The norm and its modulation, as the problem writes it, runs and leaves its arguments. -/
theorem frame_nrm : Cert.quiescent_RNrmIdeal := fun m ρ _ =>
  (θ_run Cert.RNrmIdeal.defs _ _).mono (fun r h => ⟨fun c => (h c).2, sem_eq_zero_of_no_sems (by decide) r.2⟩)
    (Cert.RNrmIdeal.Value.run (F := Ideal) m ρ)

/-! ## The call and its reference end with equal arrays -/

/-- The gate and value projection: the blocks of columns are those of the two halves of the product. -/
theorem algebraic_up : Cert.algebraic_KUpIdeal_RUpIdeal := by
  intro m g m' g' _ h
  refine ⟨fun c => Cert.RUpIdeal.Read.val_main_v5 (F := Ideal) (m ((c.tc : Thread Cert.KUpIdeal.nD Cert.KUpIdeal.τ).loc Cert.KUpIdeal.main_arg0)) (m ((c.tc : Thread Cert.KUpIdeal.nD Cert.KUpIdeal.τ).loc Cert.KUpIdeal.main_arg1)),
    fun c => Cert.RUpIdeal.Read.val_main_v6 (F := Ideal) (m ((c.tc : Thread Cert.KUpIdeal.nD Cert.KUpIdeal.τ).loc Cert.KUpIdeal.main_arg0)) (m ((c.tc : Thread Cert.KUpIdeal.nD Cert.KUpIdeal.τ).loc Cert.KUpIdeal.main_arg1)),
    fun c => Cert.RUpIdeal.Read.val_main_v9 (F := Ideal) (m ((c.tc : Thread Cert.KUpIdeal.nD Cert.KUpIdeal.τ).loc Cert.KUpIdeal.main_arg0)) (m ((c.tc : Thread Cert.KUpIdeal.nD Cert.KUpIdeal.τ).loc Cert.KUpIdeal.main_arg1)), ?_, ?_⟩
  · exact (θ_run Cert.KUpIdeal.defs _ _).mono (fun r hr c => ⟨(hr c).1.trans (Up.final3 m c), (hr c).2.1.trans (Up.final4 m c), (hr c).2.2.1.trans (Up.final5 m c), (hr c).2.2.2⟩)
      (Cert.KUpIdeal.Value.run_blocks (F := Ideal) m g)
  · refine (θ_run Cert.RUpIdeal.defs _ _).mono (fun r hr c => ?_) (Cert.RUpIdeal.Value.run (F := Ideal) m' g')
    obtain ⟨h0, h1⟩ := h c
    refine ⟨(hr c).1.trans ?_, (hr c).2.1.trans ?_, (hr c).2.2.1.trans ?_, (hr c).2.2.2⟩
    · exact (Cert.RUpIdeal.Read.val_main_v5_eq _ _).trans (congr (congrArg (Cert.RUpIdeal.Read.val_main_v5 (F := Ideal)) h0) h1)
    · exact (Cert.RUpIdeal.Read.val_main_v6_eq _ _).trans (congr (congrArg (Cert.RUpIdeal.Read.val_main_v6 (F := Ideal)) h0) h1)
    · exact (Cert.RUpIdeal.Read.val_main_v9_eq _ _).trans (congr (congrArg (Cert.RUpIdeal.Read.val_main_v9 (F := Ideal)) h0) h1)

/-- The down projection: the tiles are those of the product and of the residual's sum. -/
theorem algebraic_down : Cert.algebraic_KDownIdeal_RDownIdeal := by
  intro m g m' g' _ h
  refine ⟨fun c => Cert.RDownIdeal.Read.val_main_v7 (F := Ideal) (m ((c.tc : Thread Cert.KDownIdeal.nD Cert.KDownIdeal.τ).loc Cert.KDownIdeal.main_arg0)) (m ((c.tc : Thread Cert.KDownIdeal.nD Cert.KDownIdeal.τ).loc Cert.KDownIdeal.main_arg1)) (m ((c.tc : Thread Cert.KDownIdeal.nD Cert.KDownIdeal.τ).loc Cert.KDownIdeal.main_arg2)) (m ((c.tc : Thread Cert.KDownIdeal.nD Cert.KDownIdeal.τ).loc Cert.KDownIdeal.main_arg3)),
    fun c => Cert.RDownIdeal.Read.val_main_v8 (F := Ideal) (m ((c.tc : Thread Cert.KDownIdeal.nD Cert.KDownIdeal.τ).loc Cert.KDownIdeal.main_arg0)) (m ((c.tc : Thread Cert.KDownIdeal.nD Cert.KDownIdeal.τ).loc Cert.KDownIdeal.main_arg1)), ?_, ?_⟩
  · exact (θ_run Cert.KDownIdeal.defs _ _).mono (fun r hr c => ⟨(hr c).1.trans (Down.final4 m c), (hr c).2.1.trans (Down.final5 m c), (hr c).2.2⟩)
      (Cert.KDownIdeal.Value.run_blocks (F := Ideal) m g)
  · refine (θ_run Cert.RDownIdeal.defs _ _).mono (fun r hr c => ?_) (Cert.RDownIdeal.Value.run (F := Ideal) m' g')
    obtain ⟨h0, h1, h2, h3⟩ := h c
    refine ⟨(hr c).1.trans ?_, (hr c).2.1.trans ?_, (hr c).2.2⟩
    · exact (Cert.RDownIdeal.Read.val_main_v7_eq _ _ _ _).trans (congr (congr (congr (congrArg (Cert.RDownIdeal.Read.val_main_v7 (F := Ideal)) h0) h1) h2) h3)
    · exact (Cert.RDownIdeal.Read.val_main_v8_eq _ _).trans (congr (congrArg (Cert.RDownIdeal.Read.val_main_v8 (F := Ideal)) h0) h1)

/-- The loss: its gradients and its value, added up tile by tile. -/
theorem algebraic_loss : Cert.algebraic_KLossIdeal_RLossIdeal := by
  intro m g m' g' _ h
  refine ⟨fun c => Cert.RLossIdeal.Read.val_main_v22 (F := Ideal) (m ((c.tc : Thread Cert.KLossIdeal.nD Cert.KLossIdeal.τ).loc Cert.KLossIdeal.main_arg0)) (m ((c.tc : Thread Cert.KLossIdeal.nD Cert.KLossIdeal.τ).loc Cert.KLossIdeal.main_arg1)) (m ((c.tc : Thread Cert.KLossIdeal.nD Cert.KLossIdeal.τ).loc Cert.KLossIdeal.main_arg2)) (m ((c.tc : Thread Cert.KLossIdeal.nD Cert.KLossIdeal.τ).loc Cert.KLossIdeal.main_arg3)) (m ((c.tc : Thread Cert.KLossIdeal.nD Cert.KLossIdeal.τ).loc Cert.KLossIdeal.main_arg4)),
    fun c => Cert.RLossIdeal.Read.val_main_v30 (F := Ideal) (m ((c.tc : Thread Cert.KLossIdeal.nD Cert.KLossIdeal.τ).loc Cert.KLossIdeal.main_arg0)) (m ((c.tc : Thread Cert.KLossIdeal.nD Cert.KLossIdeal.τ).loc Cert.KLossIdeal.main_arg1)) (m ((c.tc : Thread Cert.KLossIdeal.nD Cert.KLossIdeal.τ).loc Cert.KLossIdeal.main_arg2)) (m ((c.tc : Thread Cert.KLossIdeal.nD Cert.KLossIdeal.τ).loc Cert.KLossIdeal.main_arg3)) (m ((c.tc : Thread Cert.KLossIdeal.nD Cert.KLossIdeal.τ).loc Cert.KLossIdeal.main_arg4)),
    fun c => Cert.RLossIdeal.Read.val_main_v29 (F := Ideal) (m ((c.tc : Thread Cert.KLossIdeal.nD Cert.KLossIdeal.τ).loc Cert.KLossIdeal.main_arg0)) (m ((c.tc : Thread Cert.KLossIdeal.nD Cert.KLossIdeal.τ).loc Cert.KLossIdeal.main_arg1)) (m ((c.tc : Thread Cert.KLossIdeal.nD Cert.KLossIdeal.τ).loc Cert.KLossIdeal.main_arg2)) (m ((c.tc : Thread Cert.KLossIdeal.nD Cert.KLossIdeal.τ).loc Cert.KLossIdeal.main_arg3)) (m ((c.tc : Thread Cert.KLossIdeal.nD Cert.KLossIdeal.τ).loc Cert.KLossIdeal.main_arg4)),
    fun c => Cert.RLossIdeal.Read.val_main_v31 (F := Ideal) (m ((c.tc : Thread Cert.KLossIdeal.nD Cert.KLossIdeal.τ).loc Cert.KLossIdeal.main_arg0)) (m ((c.tc : Thread Cert.KLossIdeal.nD Cert.KLossIdeal.τ).loc Cert.KLossIdeal.main_arg1)) (m ((c.tc : Thread Cert.KLossIdeal.nD Cert.KLossIdeal.τ).loc Cert.KLossIdeal.main_arg2)) (m ((c.tc : Thread Cert.KLossIdeal.nD Cert.KLossIdeal.τ).loc Cert.KLossIdeal.main_arg3)) (m ((c.tc : Thread Cert.KLossIdeal.nD Cert.KLossIdeal.τ).loc Cert.KLossIdeal.main_arg4)), ?_, ?_⟩
  · exact (θ_run Cert.KLossIdeal.defs _ _).mono (fun r hr c => ⟨(hr c).1.trans (Loss.final5 m c), (hr c).2.1.trans (Loss.final6 m c), (hr c).2.2.1.trans (Loss.final7 m c), (hr c).2.2.2.1.trans (Loss.final8 m c), (hr c).2.2.2.2⟩)
      (Cert.KLossIdeal.Value.run_blocks (F := Ideal) m g)
  · refine (θ_run Cert.RLossIdeal.defs _ _).mono (fun r hr c => ?_) (Cert.RLossIdeal.Value.run (F := Ideal) m' g')
    obtain ⟨h0, h1, h2, h3, h4⟩ := h c
    refine ⟨(hr c).1.trans ?_, (hr c).2.1.trans ?_, (hr c).2.2.1.trans ?_, (hr c).2.2.2.1.trans ?_, (hr c).2.2.2.2⟩
    · exact (Cert.RLossIdeal.Read.val_main_v22_eq _ _ _ _ _).trans (congr (congr (congr (congr (congrArg (Cert.RLossIdeal.Read.val_main_v22 (F := Ideal)) h0) h1) h2) h3) h4)
    · exact (Cert.RLossIdeal.Read.val_main_v30_eq _ _ _ _ _).trans (congr (congr (congr (congr (congrArg (Cert.RLossIdeal.Read.val_main_v30 (F := Ideal)) h0) h1) h2) h3) h4)
    · exact (Cert.RLossIdeal.Read.val_main_v29_eq _ _ _ _ _).trans (congr (congr (congr (congr (congrArg (Cert.RLossIdeal.Read.val_main_v29 (F := Ideal)) h0) h1) h2) h3) h4)
    · exact (Cert.RLossIdeal.Read.val_main_v31_eq _ _ _ _ _).trans (congr (congr (congr (congr (congrArg (Cert.RLossIdeal.Read.val_main_v31 (F := Ideal)) h0) h1) h2) h3) h4)

/-- The output projection: the tiles are those of the product and of the residual's sum. -/
theorem algebraic_out : Cert.algebraic_KOutIdeal_ROutIdeal := by
  intro m g m' g' _ h
  refine ⟨fun c => Cert.ROutIdeal.Read.val_main_v5 (F := Ideal) (m ((c.tc : Thread Cert.KOutIdeal.nD Cert.KOutIdeal.τ).loc Cert.KOutIdeal.main_arg0)) (m ((c.tc : Thread Cert.KOutIdeal.nD Cert.KOutIdeal.τ).loc Cert.KOutIdeal.main_arg1)) (m ((c.tc : Thread Cert.KOutIdeal.nD Cert.KOutIdeal.τ).loc Cert.KOutIdeal.main_arg2)) (m ((c.tc : Thread Cert.KOutIdeal.nD Cert.KOutIdeal.τ).loc Cert.KOutIdeal.main_arg3)),
    fun c => Cert.ROutIdeal.Read.val_main_v6 (F := Ideal) (m ((c.tc : Thread Cert.KOutIdeal.nD Cert.KOutIdeal.τ).loc Cert.KOutIdeal.main_arg0)) (m ((c.tc : Thread Cert.KOutIdeal.nD Cert.KOutIdeal.τ).loc Cert.KOutIdeal.main_arg1)), ?_, ?_⟩
  · exact (θ_run Cert.KOutIdeal.defs _ _).mono (fun r hr c => ⟨(hr c).1.trans (Out.final4 m c), (hr c).2.1.trans (Out.final5 m c), (hr c).2.2⟩)
      (Cert.KOutIdeal.Value.run_blocks (F := Ideal) m g)
  · refine (θ_run Cert.ROutIdeal.defs _ _).mono (fun r hr c => ?_) (Cert.ROutIdeal.Value.run (F := Ideal) m' g')
    obtain ⟨h0, h1, h2, h3⟩ := h c
    refine ⟨(hr c).1.trans ?_, (hr c).2.1.trans ?_, (hr c).2.2⟩
    · exact (Cert.ROutIdeal.Read.val_main_v5_eq _ _ _ _).trans (congr (congr (congr (congrArg (Cert.ROutIdeal.Read.val_main_v5 (F := Ideal)) h0) h1) h2) h3)
    · exact (Cert.ROutIdeal.Read.val_main_v6_eq _ _).trans (congr (congrArg (Cert.ROutIdeal.Read.val_main_v6 (F := Ideal)) h0) h1)

/-- The input projection: the tiles are those of the product. -/
theorem algebraic_in : Cert.algebraic_KInIdeal_RInIdeal := by
  intro m g m' g' _ h
  refine ⟨fun c => Cert.RInIdeal.Read.val_main_v3 (F := Ideal) (m ((c.tc : Thread Cert.KInIdeal.nD Cert.KInIdeal.τ).loc Cert.KInIdeal.main_arg0)) (m ((c.tc : Thread Cert.KInIdeal.nD Cert.KInIdeal.τ).loc Cert.KInIdeal.main_arg1)), ?_, ?_⟩
  · exact (θ_run Cert.KInIdeal.defs _ _).mono (fun r hr c => ⟨(hr c).1.trans (In.final m c), (hr c).2⟩)
      (Cert.KInIdeal.Value.run_blocks (F := Ideal) m g)
  · refine (θ_run Cert.RInIdeal.defs _ _).mono (fun r hr c => ?_) (Cert.RInIdeal.Value.run (F := Ideal) m' g')
    obtain ⟨h0, h1⟩ := h c
    refine ⟨(hr c).1.trans ?_, (hr c).2⟩
    · exact (Cert.RInIdeal.Read.val_main_v3_eq _ _).trans (congr (congrArg (Cert.RInIdeal.Read.val_main_v3 (F := Ideal)) h0) h1)

/-- The branches: the products' tiles, and their gated sum, the gates' tiles in turn. -/
theorem algebraic_mup : Cert.algebraic_KMupIdeal_RMupIdeal := by
  intro m g m' g' _ h
  refine ⟨fun c => Cert.RMupIdeal.Read.val_main_v23 (F := Ideal) (m ((c.tc : Thread Cert.KMupIdeal.nD Cert.KMupIdeal.τ).loc Cert.KMupIdeal.main_arg0)) (m ((c.tc : Thread Cert.KMupIdeal.nD Cert.KMupIdeal.τ).loc Cert.KMupIdeal.main_arg2)),
    fun c => Cert.RMupIdeal.Read.val_main_v24 (F := Ideal) (m ((c.tc : Thread Cert.KMupIdeal.nD Cert.KMupIdeal.τ).loc Cert.KMupIdeal.main_arg1)) (m ((c.tc : Thread Cert.KMupIdeal.nD Cert.KMupIdeal.τ).loc Cert.KMupIdeal.main_arg3)),
    fun c => Cert.RMupIdeal.Read.val_main_v25 (F := Ideal) (m ((c.tc : Thread Cert.KMupIdeal.nD Cert.KMupIdeal.τ).loc Cert.KMupIdeal.main_arg0)) (m ((c.tc : Thread Cert.KMupIdeal.nD Cert.KMupIdeal.τ).loc Cert.KMupIdeal.main_arg1)) (m ((c.tc : Thread Cert.KMupIdeal.nD Cert.KMupIdeal.τ).loc Cert.KMupIdeal.main_arg2)) (m ((c.tc : Thread Cert.KMupIdeal.nD Cert.KMupIdeal.τ).loc Cert.KMupIdeal.main_arg3)) (m ((c.tc : Thread Cert.KMupIdeal.nD Cert.KMupIdeal.τ).loc Cert.KMupIdeal.main_arg4)) (m ((c.tc : Thread Cert.KMupIdeal.nD Cert.KMupIdeal.τ).loc Cert.KMupIdeal.main_arg5)), ?_, ?_⟩
  · exact (θ_run Cert.KMupIdeal.defs _ _).mono (fun r hr c => ⟨(hr c).1.trans (Mup.final5 m c), (hr c).2.1.trans (Mup.final6 m c), (hr c).2.2.1.trans (Mup.final7 m c), (hr c).2.2.2⟩)
      (Cert.KMupIdeal.Value.run_blocks (F := Ideal) m g)
  · refine (θ_run Cert.RMupIdeal.defs _ _).mono (fun r hr c => ?_) (Cert.RMupIdeal.Value.run (F := Ideal) m' g')
    obtain ⟨h0, h1, h2, h3, h4, h5⟩ := h c
    refine ⟨(hr c).1.trans ?_, (hr c).2.1.trans ?_, (hr c).2.2.1.trans ?_, (hr c).2.2.2⟩
    · exact (Cert.RMupIdeal.Read.val_main_v23_eq _ _).trans (congr (congrArg (Cert.RMupIdeal.Read.val_main_v23 (F := Ideal)) h0) h2)
    · exact (Cert.RMupIdeal.Read.val_main_v24_eq _ _).trans (congr (congrArg (Cert.RMupIdeal.Read.val_main_v24 (F := Ideal)) h1) h3)
    · exact (Cert.RMupIdeal.Read.val_main_v25_eq _ _ _ _ _ _).trans (congr (congr (congr (congr (congr (congrArg (Cert.RMupIdeal.Read.val_main_v25 (F := Ideal)) h0) h1) h2) h3) h4) h5)

/-- The norm: each block of rows is that of the whole. -/
theorem algebraic_nrm : Cert.algebraic_KNrmIdeal_RNrmIdeal := by
  intro m g m' g' _ h
  refine ⟨fun c => Cert.RNrmIdeal.Read.val_main_v18 (F := Ideal) (m ((c.tc : Thread Cert.KNrmIdeal.nD Cert.KNrmIdeal.τ).loc Cert.KNrmIdeal.main_arg0)) (m ((c.tc : Thread Cert.KNrmIdeal.nD Cert.KNrmIdeal.τ).loc Cert.KNrmIdeal.main_arg1)) (m ((c.tc : Thread Cert.KNrmIdeal.nD Cert.KNrmIdeal.τ).loc Cert.KNrmIdeal.main_arg2)) (m ((c.tc : Thread Cert.KNrmIdeal.nD Cert.KNrmIdeal.τ).loc Cert.KNrmIdeal.main_arg3)), ?_, ?_⟩
  · exact (θ_run Cert.KNrmIdeal.defs _ _).mono (fun r hr c => ⟨(hr c).1.trans (Nrm.final m c), (hr c).2⟩)
      (Cert.KNrmIdeal.Value.run_blocks (F := Ideal) m g)
  · refine (θ_run Cert.RNrmIdeal.defs _ _).mono (fun r hr c => ?_) (Cert.RNrmIdeal.Value.run (F := Ideal) m' g')
    obtain ⟨h0, h1, h2, h3⟩ := h c
    refine ⟨(hr c).1.trans ?_, (hr c).2⟩
    · exact (Cert.RNrmIdeal.Read.val_main_v18_eq _ _ _ _).trans (congr (congr (congr (congrArg (Cert.RNrmIdeal.Read.val_main_v18 (F := Ideal)) h0) h1) h2) h3)

end Cert.Proof.Fwd

end
-- ==== Proof.Nbw.lean ====
/-
  The gradient through the norm, its modulation and the residual below (`mix_norm_bwd`): each row on its own, and the
  sums over the rows added up block by block.
-/
module

public import proofs.«01_k».proof.Proof.Gen.KNbwIdeal.Value
public import proofs.«01_k».proof.Proof.Gen.RNbwIdeal.Read
public import proofs.«01_k».proof.Proof.Finite
public import proofs.«01_k».proof.Pre_finite_nbw
public import Idealize.ShloMosaic.Lib.Pipeline.ValueKit
public import Idealize.ShloMosaic.Lib.Pipeline.ReadBack
public import Idealize.ShloMosaic.Lib.Pointwise

@[expose] public section

noncomputable section

namespace Cert.Proof.Nbw

open Cert.KNbwIdeal Cert.KNbwIdeal.Gen Idealize.ShloMosaic Idealize.ShloMosaic.TcCoe Idealize.SL.Sem
open Idealize.ShloMosaic.Pipeline (Dat Cfg Window)
open scoped BigOperators

variable (m : (ℓ : Loc nD τ sig) → Buf (Elt Ideal) ℓ)

theorem idx0 : ∀ t : Fin cfg0.N, win0_0.index t = ![t.val, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![0, 0] := (by decide +kernel : ∀ t : Fin grid0.N, _)
theorem idx3 : ∀ t : Fin cfg0.N, win0_3.index t = ![t.val, 0] := (by decide +kernel : ∀ t : Fin grid0.N, _)
theorem idx4 : ∀ t : Fin cfg0.N, win0_4.index t = ![t.val, 0] := (by decide +kernel : ∀ t : Fin grid0.N, _)
theorem idx5 : ∀ t : Fin cfg0.N, win0_5.index t = ![t.val, 0] := (by decide +kernel : ∀ t : Fin grid0.N, _)
theorem idx6 : ∀ t : Fin cfg0.N, win0_6.index t = ![0, 0] := (by decide +kernel : ∀ t : Fin grid0.N, _)
theorem idx7 : ∀ t : Fin cfg0.N, win0_7.index t = ![t.val, 0] := (by decide +kernel : ∀ t : Fin grid0.N, _)
theorem idx8 : ∀ t : Fin cfg0.N, win0_8.index t = ![0, 0] := (by decide +kernel : ∀ t : Fin grid0.N, _)
theorem idx9 : ∀ t : Fin cfg0.N, win0_9.index t = ![0, 0] := (by decide +kernel : ∀ t : Fin grid0.N, _)
theorem idx10 : ∀ t : Fin cfg0.N, win0_10.index t = ![0, 0] := (by decide +kernel : ∀ t : Fin grid0.N, _)
theorem idx11 : ∀ t : Fin cfg0.N, win0_11.index t = ![t.val, 0] := (by decide +kernel : ∀ t : Fin grid0.N, _)
theorem idx12 : ∀ t : Fin cfg0.N, win0_12.index t = ![0, 0] := (by decide +kernel : ∀ t : Fin grid0.N, _)

/-! ## One row -/

/-- A row, or a vector along the channels. -/
abbrev Row := Fin 2048 → EReal

/-- The mean square and the small constant beside it. -/
def var (x : Row) : EReal := Ideal.div (∑ k : Fin 2048, x k * x k) (Ideal.ofBits .f32 0x45000000#32) + Ideal.ofBits .f32 0x358637BD#32

/-- The factor of a row. -/
def fac (x : Row) : EReal := Ideal.rsqrt (var x)

/-- The cotangent at the norm's output before the shift, times the modulation. -/
def dn (h s : Row) (q : Fin 2048) : EReal := h q * (1 + s q)

/-- The gradient at the input as the kernel forms it. -/
def dxK (x g s h o : Row) (q : Fin 2048) : EReal :=
  o q + fac x * (dn h s q * g q - x q * fac x * Ideal.div (∑ k : Fin 2048, dn h s k * g k * (x k * fac x)) (Ideal.ofBits .f32 0x45000000#32))

/-- What the derivative of the mean square contributes, but for the input. -/
def tail (x g s h : Row) : EReal :=
  Ideal.div ((∑ k : Fin 2048, x k * (dn h s k * g k)) * (Ideal.ofBits .f32 0xBF000000#32 * Ideal.div (fac x) (var x))) (Ideal.ofBits .f32 0x45000000#32)

/-- The gradient at the input as the derivative forms it. -/
def dxR (x g s h o : Row) (q : Fin 2048) : EReal :=
  o q + (dn h s q * g q * fac x + x q * tail x g s h + tail x g s h * x q)

theorem width_eq : Ideal.ofBits .f32 0x45000000#32 = ((2048 : ℝ) : EReal) := by
  simp [Ideal.ofBits, Ideal.ieee, -EReal.coe_mul]; norm_num

theorem minus_half_eq : Ideal.ofBits .f32 0xBF000000#32 = ((-(1 / 2 : ℝ) : ℝ) : EReal) := by
  simp [Ideal.ofBits, Ideal.ieee, -EReal.coe_mul, -EReal.coe_neg]; norm_num

theorem half_eq : Ideal.ofBits .f32 0x3F000000#32 = ((1 / 2 : ℝ) : EReal) := by
  simp [Ideal.ofBits, Ideal.ieee, -EReal.coe_mul]; norm_num

theorem eps_pos : ∃ e : ℝ, 0 < e ∧ Ideal.ofBits .f32 0x358637BD#32 = (e : EReal) := by
  refine ⟨_, ?_, by simp [Ideal.ofBits, Ideal.ieee, -EReal.coe_mul]; rfl⟩
  positivity

theorem coe_sum {ι : Type} (s : Finset ι) (f : ι → ℝ) : ∑ k ∈ s, (f k : EReal) = ((∑ k ∈ s, f k : ℝ) : EReal) := by
  classical
  induction s using Finset.induction_on with
  | empty => simp
  | insert a s h ih => rw [Finset.sum_insert h, Finset.sum_insert h, ih, EReal.coe_add]

/-- THE TWO FORMS AGREE on real rows, whatever they are added to. -/
theorem dx_eq (x g s h o : Row) (hx : ∀ k, IsReal (x k)) (hg : ∀ k, IsReal (g k)) (hs : ∀ k, IsReal (s k)) (hh : ∀ k, IsReal (h k))
    (q : Fin 2048) : dxK x g s h o q = dxR x g s h o q := by
  choose X hX using hx
  choose G hG using hg
  choose S hS using hs
  choose H hH using hh
  obtain ⟨e, he, hE⟩ := eps_pos
  have h1 : (1 : EReal) = ((1 : ℝ) : EReal) := rfl
  have hv : var x = (((∑ k : Fin 2048, X k * X k) * (1 / 2048) + e : ℝ) : EReal) := by
    unfold var
    rw [width_eq, hE, Ideal.div_coe (by norm_num)]
    simp only [hX, ← EReal.coe_mul, ← EReal.coe_add, coe_sum]
  have hp : 0 < (∑ k : Fin 2048, X k * X k) * (1 / 2048) + e := by
    have := Finset.sum_nonneg fun k (_ : k ∈ Finset.univ) => mul_self_nonneg (X k)
    positivity
  generalize (∑ k : Fin 2048, X k * X k) * (1 / 2048) + e = v at hv hp
  have hf : fac x = (((Real.sqrt v)⁻¹ : ℝ) : EReal) := by
    unfold fac
    rw [hv]
    show (if v < 0 then (⊥ : EReal) else if v = 0 then ⊤ else (((Real.sqrt v)⁻¹ : ℝ) : EReal)) = _
    rw [if_neg (not_lt.mpr hp.le), if_neg hp.ne']
  have hd : ∀ k, dn h s k = ((H k * (1 + S k) : ℝ) : EReal) := fun k => by
    unfold dn
    rw [hH, hS, h1, ← EReal.coe_add, ← EReal.coe_mul]
  unfold dxK dxR tail
  refine congrArg (fun a : EReal => o q + a) ?_
  rw [hf, hv, width_eq, minus_half_eq]
  simp only [Ideal.div_coe (show (2048 : ℝ) ≠ 0 by norm_num), Ideal.div_coe hp.ne', hd, hX, hG, ← EReal.coe_mul, ← EReal.coe_add, ← EReal.coe_sub, coe_sum]
  refine congrArg _ ?_
  have e1 : ∑ k : Fin 2048, H k * (1 + S k) * G k * (X k * (Real.sqrt v)⁻¹) = (∑ k : Fin 2048, X k * (H k * (1 + S k) * G k)) * (Real.sqrt v)⁻¹ := by
    rw [Finset.sum_mul]
    exact Finset.sum_congr rfl fun k _ => by ring
  rw [e1]
  have e2 : 1 / v = (Real.sqrt v)⁻¹ * (Real.sqrt v)⁻¹ := by
    rw [← mul_inv, Real.mul_self_sqrt hp.le, one_div]
  rw [e2]
  ring

/-! ## The kernel's blocks, row by row -/

/-- Row `r` of a block. -/
def rowB (x : S256x2048.Idx → EReal) (r : Fin 256) : Row := fun k => x (ix2 r k)
/-- The one row of a vector. -/
def vec (x : S1x2048.Idx → EReal) : Row := fun k => x (ix2 0 k)
/-- Row `r` of an array. -/
def rowA (x : S8192x2048.Idx → EReal) (r : Fin 8192) : Row := fun k => x (ix2 r k)

section Kernel

variable (x : FVec Ideal S256x2048 .f32) (h : FVec Ideal S256x2048 .bf16) (s g : FVec Ideal S1x2048 .f32)
  (o : FVec Ideal S256x2048 .f32)

theorem pay4_apply (j : S256x1.Idx) : k0_pay4 (F := Ideal) x j = fac (rowB x (j 0)) := by
  pointwise [k0_pay4, fac, var, rowB]

theorem pay5_apply (j : S256x2048.Idx) : k0_pay5 (F := Ideal) x j = rowB x (j 0) (j 1) * fac (rowB x (j 0)) := by
  have e4 : fac (rowB x (j 0)) = k0_pay4 (F := Ideal) x (ix2 (j 0) 0) := (pay4_apply x (ix2 (j 0) 0)).symm
  rw [e4]
  pointwise [k0_pay5, rowB]

theorem pay6_apply (j : S256x2048.Idx) : k0_pay6 (F := Ideal) h s j = dn (rowB h (j 0)) (vec s) (j 1) := by
  pointwise [k0_pay6, k0_pay3, dn, rowB, vec]

theorem pay7_apply (j : S256x2048.Idx) : k0_pay7 (F := Ideal) x h s g o j
    = dxK (rowB x (j 0)) (vec g) (vec s) (rowB h (j 0)) (rowB o (j 0)) (j 1) := by
  unfold dxK
  have e5 : ∀ k : Fin 2048, rowB x (j 0) k * fac (rowB x (j 0)) = k0_pay5 (F := Ideal) x (ix2 (j 0) k) := fun k => (pay5_apply x (ix2 (j 0) k)).symm
  have e6 : ∀ k : Fin 2048, dn (rowB h (j 0)) (vec s) k = k0_pay6 (F := Ideal) h s (ix2 (j 0) k) := fun k => (pay6_apply h s (ix2 (j 0) k)).symm
  rw [← pay5_apply x j, ← pay6_apply h s j]
  simp only [e5, e6]
  have e4 : fac (rowB x (j 0)) = k0_pay4 (F := Ideal) x (ix2 (j 0) 0) := (pay4_apply x (ix2 (j 0) 0)).symm
  rw [e4]
  pointwise [k0_pay7, rowB, vec]

theorem pay8_apply (j : S1x2048.Idx) : k0_pay8 (F := Ideal) h j = ∑ r : Fin 256, rowB h r (j 1) := by
  pointwise [k0_pay8, k0_pay3, rowB]

theorem pay10_apply (j : S1x2048.Idx) : k0_pay10 (F := Ideal) (k0_pay3 h) (k0_pay5 x) g j
    = ∑ r : Fin 256, rowB h r (j 1) * (rowB x r (j 1) * fac (rowB x r) * vec g (j 1)) := by
  have e5 : ∀ r : Fin 256, rowB x r (j 1) * fac (rowB x r) = k0_pay5 (F := Ideal) x (ix2 r (j 1)) := fun r => (pay5_apply x (ix2 r (j 1))).symm
  simp only [e5]
  pointwise [k0_pay10, k0_pay3, rowB, vec]

theorem pay12_apply (j : S1x2048.Idx) : k0_pay12 (F := Ideal) (k0_pay5 x) (k0_pay6 h s) j
    = ∑ r : Fin 256, dn (rowB h r) (vec s) (j 1) * (rowB x r (j 1) * fac (rowB x r)) := by
  have e5 : ∀ r : Fin 256, rowB x r (j 1) * fac (rowB x r) = k0_pay5 (F := Ideal) x (ix2 r (j 1)) := fun r => (pay5_apply x (ix2 r (j 1))).symm
  have e6 : ∀ r : Fin 256, dn (rowB h r) (vec s) (j 1) = k0_pay6 (F := Ideal) h s (ix2 r (j 1)) := fun r => (pay6_apply h s (ix2 r (j 1))).symm
  simp only [e5, e6]
  pointwise [k0_pay12]

theorem pay14_apply (gt : FVec Ideal S1x2048 .f32) (j : S256x2048.Idx) : k0_pay14 (F := Ideal) (k0_pay7 x h s g o) gt j
    = Ideal.ofBits .f32 0x3F000000#32 * vec gt (j 1) * dxK (rowB x (j 0)) (vec g) (vec s) (rowB h (j 0)) (rowB o (j 0)) (j 1) := by
  rw [← pay7_apply]
  pointwise [k0_pay14, vec]

theorem pay1_apply (f : FVec Ideal S256x2048 .bf16) (j : S1x2048.Idx) : k0_pay1 (F := Ideal) (k0_pay7 x h s g o) f j
    = Ideal.ofBits .f32 0x3F000000#32
      * ∑ r : Fin 256, dxK (rowB x r) (vec g) (vec s) (rowB h r) (rowB o r) (j 1) * rowB f r (j 1) := by
  have e7 : ∀ r : Fin 256, dxK (rowB x r) (vec g) (vec s) (rowB h r) (rowB o r) (j 1) = k0_pay7 (F := Ideal) x h s g o (ix2 r (j 1)) :=
    fun r => (pay7_apply x h s g o (ix2 r (j 1))).symm
  simp only [e7]
  pointwise [k0_pay1, rowB]

theorem pay2_apply (a : FVec Ideal S256x2048 .f32) (f : FVec Ideal S256x2048 .bf16) (v : FVec Ideal S1x2048 .f32) (j : S1x2048.Idx) :
    k0_pay2 (F := Ideal) a f v j = v j + k0_pay1 (F := Ideal) a f j := by
  pointwise [k0_pay2]

theorem pay9_apply (a v : FVec Ideal S1x2048 .f32) (j : S1x2048.Idx) : k0_pay9 (F := Ideal) a v j = v j + a j := by
  pointwise [k0_pay9]

theorem pay11_apply (a b : FVec Ideal S256x2048 .f32) (c v : FVec Ideal S1x2048 .f32) (j : S1x2048.Idx) :
    k0_pay11 (F := Ideal) a b c v j = v j + k0_pay10 (F := Ideal) a b c j := by
  pointwise [k0_pay11]

theorem pay13_apply (a b : FVec Ideal S256x2048 .f32) (v : FVec Ideal S1x2048 .f32) (j : S1x2048.Idx) :
    k0_pay13 (F := Ideal) a b v j = v j + k0_pay12 (F := Ideal) a b j := by
  pointwise [k0_pay13]

end Kernel

section Reference

open Cert.RNbwIdeal.Read

variable (x : FVec Ideal Cert.RNbwIdeal.S8192x2048 .f32) (g s : FVec Ideal Cert.RNbwIdeal.S1x2048 .f32)
  (h : FVec Ideal Cert.RNbwIdeal.S8192x2048 .bf16) (o : FVec Ideal Cert.RNbwIdeal.S8192x2048 .f32)
  (f : FVec Ideal Cert.RNbwIdeal.S8192x2048 .bf16) (gt : FVec Ideal Cert.RNbwIdeal.S1x2048 .f32)

theorem v7_apply (i : Cert.RNbwIdeal.S8192x1.Idx) : val_main_v7 (F := Ideal) x i = var (rowA x (i 0)) := by
  pointwise [val_main_v7, val_main_v6, val_main_v5, val_main_v4, val_main_v3, val_main_v2, val_main_v1, val_main_cst_0, val_main_cst_1, val_main_cst_2, var, rowA]

theorem v8_apply (i : Cert.RNbwIdeal.S8192x1.Idx) : val_main_v8 (F := Ideal) x i = fac (rowA x (i 0)) := by
  unfold fac
  have e : var (rowA x (i 0)) = val_main_v7 (F := Ideal) x i := (v7_apply x i).symm
  rw [e]
  pointwise [val_main_v8]

theorem v13_apply (i : Cert.RNbwIdeal.S8192x2048.Idx) : val_main_v13 (F := Ideal) x i = rowA x (i 0) (i 1) * fac (rowA x (i 0)) := by
  have e8 : fac (rowA x (i 0)) = val_main_v8 (F := Ideal) x (ix2 (i 0) 0) := (v8_apply x (ix2 (i 0) 0)).symm
  rw [e8]
  pointwise [val_main_v13, val_main_v12, rowA]

theorem v29_apply (i : Cert.RNbwIdeal.S8192x2048.Idx) : val_main_v29 (F := Ideal) s h i = dn (rowA h (i 0)) (vec s) (i 1) := by
  pointwise [val_main_v29, val_main_v28, val_main_v17, val_main_v16, val_main_v22, val_main_cst_4, dn, rowA, vec]

theorem v34_apply (i : Cert.RNbwIdeal.S8192x2048.Idx) : val_main_v34 (F := Ideal) g s h i = dn (rowA h (i 0)) (vec s) (i 1) * vec g (i 1) := by
  rw [← v29_apply]
  pointwise [val_main_v34, val_main_v33, vec]

theorem v44_apply (i : Cert.RNbwIdeal.S8192x2048.Idx) : val_main_v44 (F := Ideal) x g s h i = tail (rowA x (i 0)) (vec g) (vec s) (rowA h (i 0)) := by
  unfold tail
  have e : ∀ k : Fin 2048, dn (rowA h (i 0)) (vec s) k * vec g k = val_main_v34 (F := Ideal) g s h (ix2 (i 0) k) := fun k => (v34_apply g s h (ix2 (i 0) k)).symm
  simp only [e]
  have e8 : fac (rowA x (i 0)) = val_main_v8 (F := Ideal) x (ix2 (i 0) 0) := (v8_apply x (ix2 (i 0) 0)).symm
  have e7 : var (rowA x (i 0)) = val_main_v7 (F := Ideal) x (ix2 (i 0) 0) := (v7_apply x (ix2 (i 0) 0)).symm
  rw [e8, e7]
  pointwise [val_main_v44, val_main_v43, val_main_v42, val_main_v41, val_main_v40, val_main_v37, val_main_v36, val_main_v35, val_main_v11, val_main_v10, val_main_v9,
    val_main_cst_3, val_main_cst_8, val_main_cst_9, val_main_cst_10, rowA]
  exact Fin.sum_univ_one _

theorem ref_dx (i : Cert.RNbwIdeal.S8192x2048.Idx) : val_main_v49 (F := Ideal) x g s h o i
    = dxR (rowA x (i 0)) (vec g) (vec s) (rowA h (i 0)) (rowA o (i 0)) (i 1) := by
  unfold dxR
  have e8 : fac (rowA x (i 0)) = val_main_v8 (F := Ideal) x (ix2 (i 0) 0) := (v8_apply x (ix2 (i 0) 0)).symm
  rw [← v44_apply x g s h i, ← v34_apply g s h i, e8]
  pointwise [val_main_v49, val_main_v48, val_main_v47, val_main_v46, val_main_v45, val_main_v39, val_main_v38, rowA]

theorem ref_dsh (i : Cert.RNbwIdeal.S1x2048.Idx) : val_main_v24 (F := Ideal) h i = ∑ r : Fin 8192, rowA h r (i 1) := by
  pointwise [val_main_v24, val_main_v23, val_main_v22, val_main_cst_5, rowA]

theorem ref_dsc (i : Cert.RNbwIdeal.S1x2048.Idx) : val_main_v27 (F := Ideal) x g h i
    = ∑ r : Fin 8192, rowA x r (i 1) * fac (rowA x r) * vec g (i 1) * rowA h r (i 1) := by
  have e : ∀ r : Fin 8192, rowA x r (i 1) * fac (rowA x r) = val_main_v13 (F := Ideal) x (ix2 r (i 1)) := fun r => (v13_apply x (ix2 r (i 1))).symm
  simp only [e]
  pointwise [val_main_v27, val_main_v26, val_main_v25, val_main_v22, val_main_v15, val_main_v14, val_main_cst_6, rowA, vec]

theorem ref_dg (i : Cert.RNbwIdeal.S1x2048.Idx) : val_main_v32 (F := Ideal) x s h i
    = ∑ r : Fin 8192, rowA x r (i 1) * fac (rowA x r) * dn (rowA h r) (vec s) (i 1) := by
  have e : ∀ r : Fin 8192, rowA x r (i 1) * fac (rowA x r) = val_main_v13 (F := Ideal) x (ix2 r (i 1)) := fun r => (v13_apply x (ix2 r (i 1))).symm
  have e' : ∀ r : Fin 8192, dn (rowA h r) (vec s) (i 1) = val_main_v29 (F := Ideal) s h (ix2 r (i 1)) := fun r => (v29_apply s h (ix2 r (i 1))).symm
  simp only [e, e']
  pointwise [val_main_v32, val_main_v31, val_main_v30, val_main_cst_7]

theorem ref_df (i : Cert.RNbwIdeal.S8192x2048.Idx) : val_main_v62 (F := Ideal) x g s h o gt i
    = Ideal.ofBits .f32 0x3F000000#32 * vec gt (i 1) * val_main_v49 (F := Ideal) x g s h o i := by
  pointwise [val_main_v62, val_main_v56, val_main_v55, val_main_v52, val_main_v51, val_main_cst_11, vec]

theorem ref_dgate (i : Cert.RNbwIdeal.S1x2048.Idx) : val_main_v61 (F := Ideal) x g s h o f i
    = Ideal.ofBits .f32 0x3F000000#32 * ∑ r : Fin 8192, val_main_v49 (F := Ideal) x g s h o (ix2 r (i 1)) * rowA f r (i 1) := by
  pointwise [val_main_v61, val_main_v60, val_main_v59, val_main_v58, val_main_v57, val_main_v50, val_main_cst_12, val_main_cst_13, rowA]

end Reference

/-! ## A point's blocks in the arrays -/

theorem row0 (c : Dev nD) (t : Fin cfg0.N) (r : Fin 256) (r' : Fin 8192) (h : r'.val = t.val * 256 + r.val) :
    rowB (iblk m c 0 t) r = rowA (m ((c : Thread nD τ).loc main_arg0)) r' := by
  funext k
  unfold rowB rowA
  blk_point [iblk, V, idx0, h]

theorem row3 (c : Dev nD) (t : Fin cfg0.N) (r : Fin 256) (r' : Fin 8192) (h : r'.val = t.val * 256 + r.val) :
    rowB (iblk m c 3 t) r = rowA (m ((c : Thread nD τ).loc main_arg3)) r' := by
  funext k
  unfold rowB rowA
  blk_point [iblk, V, idx3, h]

theorem row4 (c : Dev nD) (t : Fin cfg0.N) (r : Fin 256) (r' : Fin 8192) (h : r'.val = t.val * 256 + r.val) :
    rowB (iblk m c 4 t) r = rowA (m ((c : Thread nD τ).loc main_arg4)) r' := by
  funext k
  unfold rowB rowA
  blk_point [iblk, V, idx4, h]

theorem row5 (c : Dev nD) (t : Fin cfg0.N) (r : Fin 256) (r' : Fin 8192) (h : r'.val = t.val * 256 + r.val) :
    rowB (iblk m c 5 t) r = rowA (m ((c : Thread nD τ).loc main_arg5)) r' := by
  funext k
  unfold rowB rowA
  blk_point [iblk, V, idx5, h]

theorem vec1 (c : Dev nD) (t : Fin cfg0.N) : vec (iblk m c 1 t) = vec (m ((c : Thread nD τ).loc main_arg1)) := by
  funext k
  unfold vec
  blk_point [iblk, V, idx1]

theorem vec2 (c : Dev nD) (t : Fin cfg0.N) : vec (iblk m c 2 t) = vec (m ((c : Thread nD τ).loc main_arg2)) := by
  funext k
  unfold vec
  blk_point [iblk, V, idx2]

theorem vec6 (c : Dev nD) (t : Fin cfg0.N) : vec (iblk m c 6 t) = vec (m ((c : Thread nD τ).loc main_arg6)) := by
  funext k
  unfold vec
  blk_point [iblk, V, idx6]

theorem out7 (c : Dev nD) (t : Fin cfg0.N) : (outsAt0 m c t.val t.isLt).1 = k0_pay7 (iblk m c 0 t) (iblk m c 3 t) (iblk m c 2 t) (iblk m c 1 t) (iblk m c 4 t) := by
  have hN : t.val < 32 := lt_of_lt_of_eq t.isLt N_0
  by_cases h0 : t.val % 32 = 0
  · have h1 : ¬1 ≤ t.val := by omega
    rw [outsAt0_A m c t h0 h1 h0 h1 h0 h1 h0 h1]
    frame_out
  · have h1 : 1 ≤ t.val := by omega
    rw [outsAt0_B m c t h0 h1 h0 h1 h0 h1 h0 h1]
    frame_out

theorem out11 (c : Dev nD) (t : Fin cfg0.N) : (outsAt0 m c t.val t.isLt).2.2.2.2.1 = k0_pay14 (k0_pay7 (iblk m c 0 t) (iblk m c 3 t) (iblk m c 2 t) (iblk m c 1 t) (iblk m c 4 t)) (iblk m c 6 t) := by
  have hN : t.val < 32 := lt_of_lt_of_eq t.isLt N_0
  by_cases h0 : t.val % 32 = 0
  · have h1 : ¬1 ≤ t.val := by omega
    rw [outsAt0_A m c t h0 h1 h0 h1 h0 h1 h0 h1]
    frame_out
  · have h1 : 1 ≤ t.val := by omega
    rw [outsAt0_B m c t h0 h1 h0 h1 h0 h1 h0 h1]
    frame_out

def term8 (c : Dev nD) (t : Fin cfg0.N) (j : S1x2048.Idx) : EReal := k0_pay8 (F := Ideal) (iblk m c 3 t) j

theorem acc8 (c : Dev nD) (t : Fin cfg0.N) (h : t.val % 32 = 31) (j : S1x2048.Idx) :
    (outsAt0 m c t.val t.isLt).2.1 j
      = 0 + ∑ s : Fin 32, term8 m c ⟨32 * (t.val / 32) + s.val, Pipeline.run_point_lt_of_flush t h s⟩ j := by
  refine Pipeline.eq_sum_fin_of_reset_step_apply_of_flush (fun n h => (outsAt0 m c n h).2.1) 32 (fun _ => (0 : EReal))
    (term8 m c) ?_ ?_ t h j
  · intro t h0 j
    have hN : t.val < 32 := lt_of_lt_of_eq t.isLt N_0
    have h1 : ¬1 ≤ t.val := by omega
    rw [outsAt0_A m c t h0 h1 h0 h1 h0 h1 h0 h1]; frame_out
    rw [zero_add, term8]
  · intro t h0 j
    have h1 : 1 ≤ t.val := by omega
    rw [outsAt0_B m c t h0 h1 h0 h1 h0 h1 h0 h1]; frame_out
    rw [pay9_apply, term8]

def term9 (c : Dev nD) (t : Fin cfg0.N) (j : S1x2048.Idx) : EReal := k0_pay10 (F := Ideal) (k0_pay3 (iblk m c 3 t)) (k0_pay5 (iblk m c 0 t)) (iblk m c 1 t) j

theorem acc9 (c : Dev nD) (t : Fin cfg0.N) (h : t.val % 32 = 31) (j : S1x2048.Idx) :
    (outsAt0 m c t.val t.isLt).2.2.1 j
      = 0 + ∑ s : Fin 32, term9 m c ⟨32 * (t.val / 32) + s.val, Pipeline.run_point_lt_of_flush t h s⟩ j := by
  refine Pipeline.eq_sum_fin_of_reset_step_apply_of_flush (fun n h => (outsAt0 m c n h).2.2.1) 32 (fun _ => (0 : EReal))
    (term9 m c) ?_ ?_ t h j
  · intro t h0 j
    have hN : t.val < 32 := lt_of_lt_of_eq t.isLt N_0
    have h1 : ¬1 ≤ t.val := by omega
    rw [outsAt0_A m c t h0 h1 h0 h1 h0 h1 h0 h1]; frame_out
    rw [zero_add, term9]
  · intro t h0 j
    have h1 : 1 ≤ t.val := by omega
    rw [outsAt0_B m c t h0 h1 h0 h1 h0 h1 h0 h1]; frame_out
    rw [pay11_apply, term9]

def term10 (c : Dev nD) (t : Fin cfg0.N) (j : S1x2048.Idx) : EReal := k0_pay12 (F := Ideal) (k0_pay5 (iblk m c 0 t)) (k0_pay6 (iblk m c 3 t) (iblk m c 2 t)) j

theorem acc10 (c : Dev nD) (t : Fin cfg0.N) (h : t.val % 32 = 31) (j : S1x2048.Idx) :
    (outsAt0 m c t.val t.isLt).2.2.2.1 j
      = 0 + ∑ s : Fin 32, term10 m c ⟨32 * (t.val / 32) + s.val, Pipeline.run_point_lt_of_flush t h s⟩ j := by
  refine Pipeline.eq_sum_fin_of_reset_step_apply_of_flush (fun n h => (outsAt0 m c n h).2.2.2.1) 32 (fun _ => (0 : EReal))
    (term10 m c) ?_ ?_ t h j
  · intro t h0 j
    have hN : t.val < 32 := lt_of_lt_of_eq t.isLt N_0
    have h1 : ¬1 ≤ t.val := by omega
    rw [outsAt0_A m c t h0 h1 h0 h1 h0 h1 h0 h1]; frame_out
    rw [zero_add, term10]
  · intro t h0 j
    have h1 : 1 ≤ t.val := by omega
    rw [outsAt0_B m c t h0 h1 h0 h1 h0 h1 h0 h1]; frame_out
    rw [pay13_apply, term10]

def term12 (c : Dev nD) (t : Fin cfg0.N) (j : S1x2048.Idx) : EReal := k0_pay1 (F := Ideal) (k0_pay7 (iblk m c 0 t) (iblk m c 3 t) (iblk m c 2 t) (iblk m c 1 t) (iblk m c 4 t)) (iblk m c 5 t) j

theorem acc12 (c : Dev nD) (t : Fin cfg0.N) (h : t.val % 32 = 31) (j : S1x2048.Idx) :
    (outsAt0 m c t.val t.isLt).2.2.2.2.2 j
      = 0 + ∑ s : Fin 32, term12 m c ⟨32 * (t.val / 32) + s.val, Pipeline.run_point_lt_of_flush t h s⟩ j := by
  refine Pipeline.eq_sum_fin_of_reset_step_apply_of_flush (fun n h => (outsAt0 m c n h).2.2.2.2.2) 32 (fun _ => (0 : EReal))
    (term12 m c) ?_ ?_ t h j
  · intro t h0 j
    have hN : t.val < 32 := lt_of_lt_of_eq t.isLt N_0
    have h1 : ¬1 ≤ t.val := by omega
    rw [outsAt0_A m c t h0 h1 h0 h1 h0 h1 h0 h1]; frame_out
    rw [zero_add, term12]
  · intro t h0 j
    have h1 : 1 ≤ t.val := by omega
    rw [outsAt0_B m c t h0 h1 h0 h1 h0 h1 h0 h1]; frame_out
    rw [pay2_apply, term12]

/-- The input's gradient at a point's row. -/
theorem dx_at (c : Dev nD) (hx : ∀ i, IsReal ((m ((c : Thread nD τ).loc main_arg0) : FVec Ideal S8192x2048 .f32) i))
    (hg : ∀ i, IsReal ((m ((c : Thread nD τ).loc main_arg1) : FVec Ideal S1x2048 .f32) i))
    (hs : ∀ i, IsReal ((m ((c : Thread nD τ).loc main_arg2) : FVec Ideal S1x2048 .f32) i))
    (hh : ∀ i, IsReal ((m ((c : Thread nD τ).loc main_arg3) : FVec Ideal S8192x2048 .bf16) i))
    (t : Fin cfg0.N) (r : Fin 256) (q : Fin 2048) (i : S8192x2048.Idx) (h0 : (i 0).val = t.val * 256 + r.val) (h1 : i 1 = q) :
    dxK (rowB (iblk m c 0 t) r) (vec (iblk m c 1 t)) (vec (iblk m c 2 t)) (rowB (iblk m c 3 t) r) (rowB (iblk m c 4 t) r) q = Cert.RNbwIdeal.Read.val_main_v49 (F := Ideal) (m ((c : Thread nD τ).loc main_arg0)) (m ((c : Thread nD τ).loc main_arg1)) (m ((c : Thread nD τ).loc main_arg2)) (m ((c : Thread nD τ).loc main_arg3)) (m ((c : Thread nD τ).loc main_arg4)) i := by
  subst h1
  rw [ref_dx, row0 m c t r (i 0) h0, row3 m c t r (i 0) h0, row4 m c t r (i 0) h0, vec1, vec2]
  exact dx_eq _ _ _ _ _ (fun k => hx _) (fun k => hg _) (fun k => hs _) (fun k => hh _) _

/-- THE GRADIENT AT THE INPUT. -/
theorem final7 (c : Dev nD) (hx : ∀ i, IsReal ((m ((c : Thread nD τ).loc main_arg0) : FVec Ideal S8192x2048 .f32) i))
    (hg : ∀ i, IsReal ((m ((c : Thread nD τ).loc main_arg1) : FVec Ideal S1x2048 .f32) i))
    (hs : ∀ i, IsReal ((m ((c : Thread nD τ).loc main_arg2) : FVec Ideal S1x2048 .f32) i))
    (hh : ∀ i, IsReal ((m ((c : Thread nD τ).loc main_arg3) : FVec Ideal S8192x2048 .bf16) i)) :
    (dats m 0 c).arrAt 7 cfg0.N = Cert.RNbwIdeal.Read.val_main_v49 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 7 _ (by decide +kernel) fun t hf y => ?_
  rw [after0_7, out7]
  refine (pay7_apply ..).trans (dx_at m c hx hg hs hh t _ _ _ ?_ (Fin.ext ?_))
  all_goals blk_simp [idx7]

/-- THE GRADIENT AT THE PRODUCT BELOW. -/
theorem final11 (c : Dev nD) (hx : ∀ i, IsReal ((m ((c : Thread nD τ).loc main_arg0) : FVec Ideal S8192x2048 .f32) i))
    (hg : ∀ i, IsReal ((m ((c : Thread nD τ).loc main_arg1) : FVec Ideal S1x2048 .f32) i))
    (hs : ∀ i, IsReal ((m ((c : Thread nD τ).loc main_arg2) : FVec Ideal S1x2048 .f32) i))
    (hh : ∀ i, IsReal ((m ((c : Thread nD τ).loc main_arg3) : FVec Ideal S8192x2048 .bf16) i)) :
    (dats m 0 c).arrAt 11 cfg0.N = Cert.RNbwIdeal.Read.val_main_v62 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg6)) := by
  refine (dats m 0 c).arrAt_eq_of_covers 11 _ (by decide +kernel) fun t hf y => ?_
  rw [after0_11, out11, ref_df]
  refine (pay14_apply ..).trans (congrArg₂ (fun a b : EReal => Ideal.ofBits .f32 0x3F000000#32 * a * b) ?_ (dx_at m c hx hg hs hh t _ _ _ ?_ (Fin.ext ?_)))
  · rw [vec6]
    refine congrArg _ (Fin.ext ?_)
    blk_simp [idx11]
  all_goals blk_simp [idx11]

/-- A sum over the rows, block by block. -/
theorem sum_rows (t : Fin cfg0.N) (h : t.val % 32 = 31) (F : Fin cfg0.N → Fin 256 → EReal) (f : Fin 8192 → EReal)
    (e : ∀ (s : Fin cfg0.N) (r : Fin 256) (r' : Fin 8192), r'.val = s.val * 256 + r.val → F s r = f r') :
    ∑ s : Fin 32, ∑ r : Fin 256, F ⟨32 * (t.val / 32) + s.val, Pipeline.run_point_lt_of_flush t h s⟩ r = ∑ r : Fin 8192, f r := by
  have hN : t.val < 32 := lt_of_lt_of_eq t.isLt N_0
  refine Fin.sum_mul_add_congr fun s r hl => e _ _ _ ?_
  dsimp only
  omega

/-- A number which is not negative goes over a sum. -/
theorem mul_sum {ι : Type} (s : Finset ι) (c : ℝ) (hc : 0 ≤ c) (f : ι → EReal) :
    (c : EReal) * ∑ k ∈ s, f k = ∑ k ∈ s, (c : EReal) * f k := by
  classical
  induction s using Finset.induction_on with
  | empty => simp
  | insert a s h ih =>
    rw [Finset.sum_insert h, Finset.sum_insert h,
      EReal.left_distrib_of_nonneg_of_ne_top (by exact_mod_cast hc) (EReal.coe_ne_top c), ih]

/-- THE GRADIENT AT THE SHIFT. -/
theorem final8 (c : Dev nD) :
    (dats m 0 c).arrAt 8 cfg0.N = Cert.RNbwIdeal.Read.val_main_v24 (F := Ideal) (m ((c : Thread nD τ).loc main_arg3)) := by
  refine (dats m 0 c).arrAt_eq_of_covers 8 _ (by decide +kernel) fun t hf y => ?_
  have h := (flush0_8 t).mp hf
  rw [after0_8]
  refine (acc8 m c t h y).trans ?_
  unfold term8
  have hq : (((cfg0.win 8).blk t).view.emb y) 1 = y 1 := Fin.ext (by blk_simp [idx8])
  rw [zero_add, ref_dsh, hq]
  simp only [pay8_apply]
  exact sum_rows t h (fun s r => rowB (iblk m c 3 s) r (y 1)) _ fun s r r' e => by rw [row3 m c s r r' e]

/-- THE GRADIENT AT THE SCALE. -/
theorem final9 (c : Dev nD) :
    (dats m 0 c).arrAt 9 cfg0.N = Cert.RNbwIdeal.Read.val_main_v27 (F := Ideal) (m ((c : Thread nD τ).loc main_arg0)) (m ((c : Thread nD τ).loc main_arg1)) (m ((c : Thread nD τ).loc main_arg3)) := by
  refine (dats m 0 c).arrAt_eq_of_covers 9 _ (by decide +kernel) fun t hf y => ?_
  have h := (flush0_9 t).mp hf
  rw [after0_9]
  refine (acc9 m c t h y).trans ?_
  unfold term9
  have hq : (((cfg0.win 9).blk t).view.emb y) 1 = y 1 := Fin.ext (by blk_simp [idx9])
  rw [zero_add, ref_dsc, hq]
  simp only [pay10_apply]
  refine sum_rows t h (fun s r => rowB (iblk m c 3 s) r (y 1) * (rowB (iblk m c 0 s) r (y 1) * fac (rowB (iblk m c 0 s) r) * vec (iblk m c 1 s) (y 1))) _ fun s r r' e => ?_
  rw [row3 m c s r r' e, row0 m c s r r' e, vec1, mul_comm]

/-- THE GRADIENT AT THE GAIN. -/
theorem final10 (c : Dev nD) :
    (dats m 0 c).arrAt 10 cfg0.N = Cert.RNbwIdeal.Read.val_main_v32 (F := Ideal) (m ((c : Thread nD τ).loc main_arg0)) (m ((c : Thread nD τ).loc main_arg2)) (m ((c : Thread nD τ).loc main_arg3)) := by
  refine (dats m 0 c).arrAt_eq_of_covers 10 _ (by decide +kernel) fun t hf y => ?_
  have h := (flush0_10 t).mp hf
  rw [after0_10]
  refine (acc10 m c t h y).trans ?_
  unfold term10
  have hq : (((cfg0.win 10).blk t).view.emb y) 1 = y 1 := Fin.ext (by blk_simp [idx10])
  rw [zero_add, ref_dg, hq]
  simp only [pay12_apply]
  refine sum_rows t h (fun s r => dn (rowB (iblk m c 3 s) r) (vec (iblk m c 2 s)) (y 1) * (rowB (iblk m c 0 s) r (y 1) * fac (rowB (iblk m c 0 s) r))) _ fun s r r' e => ?_
  rw [row3 m c s r r' e, row0 m c s r r' e, vec2, mul_comm]

/-- THE GRADIENT AT THE GATE BELOW. -/
theorem final12 (c : Dev nD) (hx : ∀ i, IsReal ((m ((c : Thread nD τ).loc main_arg0) : FVec Ideal S8192x2048 .f32) i))
    (hg : ∀ i, IsReal ((m ((c : Thread nD τ).loc main_arg1) : FVec Ideal S1x2048 .f32) i))
    (hs : ∀ i, IsReal ((m ((c : Thread nD τ).loc main_arg2) : FVec Ideal S1x2048 .f32) i))
    (hh : ∀ i, IsReal ((m ((c : Thread nD τ).loc main_arg3) : FVec Ideal S8192x2048 .bf16) i)) :
    (dats m 0 c).arrAt 12 cfg0.N = Cert.RNbwIdeal.Read.val_main_v61 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 12 _ (by decide +kernel) fun t hf y => ?_
  have h := (flush0_12 t).mp hf
  rw [after0_12]
  refine (acc12 m c t h y).trans ?_
  unfold term12
  have hq : (((cfg0.win 12).blk t).view.emb y) 1 = y 1 := Fin.ext (by blk_simp [idx12])
  rw [zero_add, ref_dgate, hq, half_eq]
  simp only [pay1_apply, half_eq]
  rw [← mul_sum _ _ (by norm_num)]
  refine congrArg (fun a : EReal => ((1 / 2 : ℝ) : EReal) * a) ?_
  refine sum_rows t h (fun s r => dxK (rowB (iblk m c 0 s) r) (vec (iblk m c 1 s)) (vec (iblk m c 2 s)) (rowB (iblk m c 3 s) r) (rowB (iblk m c 4 s) r) (y 1) * rowB (iblk m c 5 s) r (y 1)) _ fun s r r' e => ?_
  rw [dx_at m c hx hg hs hh s r (y 1) (ix2 r' (y 1)) e rfl, row5 m c s r r' e]

/-- What the precondition says of the arrays. -/
theorem real_of_pre [Cert.Pre_finite_nbw.Facts] (x : FVec Ideal Cert.Pre_finite_nbw.S8192x2048 .f32)
    (g s : FVec Ideal Cert.Pre_finite_nbw.S1x2048 .f32) (h : FVec Ideal Cert.Pre_finite_nbw.S8192x2048 .bf16)
    (o : FVec Ideal Cert.Pre_finite_nbw.S8192x2048 .f32) (f : FVec Ideal Cert.Pre_finite_nbw.S8192x2048 .bf16)
    (gt : FVec Ideal Cert.Pre_finite_nbw.S1x2048 .f32) (hp : Cert.Pre_finite_nbw.fn (F := Ideal) x g s h o f gt = fun _ => 1#1) :
    (∀ i, IsReal (x i)) ∧ (∀ i, IsReal (g i)) ∧ (∀ i, IsReal (s i)) ∧ ∀ i, IsReal (h i) := by
  have e := congrFun hp (fun k => k.elim0)
  have : Subsingleton Cert.Pre_finite_nbw.S_.Idx := ⟨fun a b => funext fun k => k.elim0⟩
  obtain ⟨e, e4⟩ := and_eq_one _ _ e
  obtain ⟨e, e3⟩ := and_eq_one _ _ e
  obtain ⟨e1, e2⟩ := and_eq_one _ _ e
  exact ⟨fun i => IsReal.of_all _ _ (fun _ => ofBits_inf) _ _ _ _ e1 i, fun i => IsReal.of_all _ _ (fun _ => ofBits_inf) _ _ _ _ e2 i,
    fun i => IsReal.of_all _ _ (fun _ => ofBits_inf) _ _ _ _ e3 i, fun i => IsReal.of_all _ _ (fun _ => ofBits_inf) _ _ _ _ e4 i⟩

end Cert.Proof.Nbw

end
-- ==== Proof.Pool.lean ====
/-
  The sums over windows of rows that the pooling takes: a running sum as it prints, the rows added at an array of index
  pairs, the windowed sum by repeated doubling, and the difference of running sums over real rows.
-/
module

public import Idealize.ShloMosaic.Lib.Pipeline.ValueKit
public import Idealize.ShloMosaic.Lib.Pointwise
public import Idealize.ShloMosaic.Lib.Routing.Ops
public import Idealize.ShloMosaic.Lib.Routing.OpsPair
public import proofs.«01_k».proof.Proof.Finite

@[expose] public section

noncomputable section

namespace Cert.Proof.Pool

open Idealize.ShloMosaic
open scoped BigOperators

/-! ## Running sums as they print -/

theorem foldl_add {ι : Type} (l : List ι) (g : ι → EReal) (v : EReal) : l.foldl (fun r n => r + g n) v = v + (l.map g).sum := by
  induction l generalizing v with
  | nil => simp
  | cons a l ih => rw [List.foldl_cons, ih, List.map_cons, List.sum_cons, add_assoc]

/-- A sum over the positions of a window that is a column of `N`. -/
theorem sum_column {N : Nat} (G : Shape.Idx ⟨3, ![N, 1, 1]⟩ → EReal) :
    ∑ i : Shape.Idx ⟨3, ![N, 1, 1]⟩, G i = ∑ k : Fin N, G (ix3 k (0 : Fin 1) (0 : Fin 1)) := by
  refine Finset.sum_nbij' (fun i : Shape.Idx ⟨3, ![N, 1, 1]⟩ => (i 0 : Fin N)) (fun k => ix3 k (0 : Fin 1) (0 : Fin 1)) ?_ ?_ ?_ ?_ ?_
  · intro i _; exact Finset.mem_univ _
  · intro i _; exact Finset.mem_univ _
  · intro i _
    funext a
    fin_cases a
    · rfl
    · exact Subsingleton.elim (α := Fin 1) _ _
    · exact Subsingleton.elim (α := Fin 1) _ _
  · intro k _; rfl
  · intro i _
    refine congrArg G ?_
    funext a
    fin_cases a
    · rfl
    · exact Subsingleton.elim (α := Fin 1) _ _
    · exact Subsingleton.elim (α := Fin 1) _ _

/-- A function on the rows below `N`, zero beyond. -/
def ext (N : Nat) (f : Fin N → EReal) (n : Nat) : EReal := if h : n < N then f ⟨n, h⟩ else 0

theorem ext_of_lt {N : Nat} (f : Fin N → EReal) (n : Nat) (h : n < N) : ext N f n = f ⟨n, h⟩ := dif_pos h

/-- The running sum from the end, as it prints: the window of `N` rows from each row on. -/
theorem window_up {N C D M : Nat} (x : Shape.Idx ⟨3, ![N, C, D]⟩ → EReal)
    (h : (⟨3, ![N, C, D]⟩ : Shape).ReduceWindows ![N, 1, 1] ![1, 1, 1] ![0, 0, 0] ![M, 0, 0] ⟨3, ![N, C, D]⟩)
    (t : Fin N) (g : Fin C) (c : Fin D) :
    Ideal.hostReduceWindowAdd ![N, 1, 1] ![1, 1, 1] ![0, 0, 0] ![M, 0, 0] h x 0 (ix3 t g c)
      = ∑ k ∈ Finset.range N, ext N (fun s => x (ix3 s g c)) (t.val + k) := by
  unfold Ideal.hostReduceWindowAdd Host.reduceWindow
  dsimp only
  rw [foldl_add, zero_add, ← Fin.sum_univ_def, ← Fin.sum_univ_eq_sum_range (fun k => ext N (fun s => x (ix3 s g c)) (t.val + k))]
  refine Eq.trans (Finset.sum_congr rfl fun n _ => ?_) ((Equiv.sum_comp (Shape.rowMajor ⟨3, ![N, 1, 1]⟩).symm
    (fun i : Shape.Idx ⟨3, ![N, 1, 1]⟩ => ext N (fun s => x (ix3 s g c)) (t.val + (i 0).val))).trans (sum_column _))
  have i1 : ((Shape.rowMajor ⟨3, ![N, 1, 1]⟩).symm n 1).val = 0 := Nat.lt_one_iff.mp ((Shape.rowMajor ⟨3, ![N, 1, 1]⟩).symm n 1).isLt
  have i2 : ((Shape.rowMajor ⟨3, ![N, 1, 1]⟩).symm n 2).val = 0 := Nat.lt_one_iff.mp ((Shape.rowMajor ⟨3, ![N, 1, 1]⟩).symm n 2).isLt
  by_cases hk : t.val + ((Shape.rowMajor ⟨3, ![N, 1, 1]⟩).symm n 0).val < N
  · rw [ext_of_lt _ _ hk, dif_pos]
    · refine congrArg x ?_
      funext a
      fin_cases a <;> exact Fin.ext (by simp [i1, i2])
    · intro a
      fin_cases a <;> simp [hk, i1, i2]
  · rw [ext, dif_neg hk, dif_neg]
    intro hin
    exact hk (by simpa using (hin 0).2)

/-- The running sum from the start, as it prints: the window of `N` rows up to each row. -/
theorem window_down {N C D M : Nat} (hM : M + 1 = N) (x : Shape.Idx ⟨3, ![N, C, D]⟩ → EReal)
    (h : (⟨3, ![N, C, D]⟩ : Shape).ReduceWindows ![N, 1, 1] ![1, 1, 1] ![M, 0, 0] ![0, 0, 0] ⟨3, ![N, C, D]⟩)
    (t : Fin N) (g : Fin C) (c : Fin D) :
    Ideal.hostReduceWindowAdd ![N, 1, 1] ![1, 1, 1] ![M, 0, 0] ![0, 0, 0] h x 0 (ix3 t g c)
      = ∑ k ∈ Finset.range N, (if M ≤ t.val + k then ext N (fun s => x (ix3 s g c)) (t.val + k - M) else 0) := by
  unfold Ideal.hostReduceWindowAdd Host.reduceWindow
  dsimp only
  rw [foldl_add, zero_add, ← Fin.sum_univ_def,
    ← Fin.sum_univ_eq_sum_range (fun k => if M ≤ t.val + k then ext N (fun s => x (ix3 s g c)) (t.val + k - M) else 0)]
  refine Eq.trans (Finset.sum_congr rfl fun n _ => ?_) ((Equiv.sum_comp (Shape.rowMajor ⟨3, ![N, 1, 1]⟩).symm
    (fun i : Shape.Idx ⟨3, ![N, 1, 1]⟩ => if M ≤ t.val + (i 0).val then ext N (fun s => x (ix3 s g c)) (t.val + (i 0).val - M) else 0)).trans
      (sum_column _))
  have i0 : ((Shape.rowMajor ⟨3, ![N, 1, 1]⟩).symm n 0).val < N := ((Shape.rowMajor ⟨3, ![N, 1, 1]⟩).symm n 0).isLt
  have i1 : ((Shape.rowMajor ⟨3, ![N, 1, 1]⟩).symm n 1).val = 0 := Nat.lt_one_iff.mp ((Shape.rowMajor ⟨3, ![N, 1, 1]⟩).symm n 1).isLt
  have i2 : ((Shape.rowMajor ⟨3, ![N, 1, 1]⟩).symm n 2).val = 0 := Nat.lt_one_iff.mp ((Shape.rowMajor ⟨3, ![N, 1, 1]⟩).symm n 2).isLt
  by_cases hk : M ≤ t.val + ((Shape.rowMajor ⟨3, ![N, 1, 1]⟩).symm n 0).val
  · have hN : t.val + ((Shape.rowMajor ⟨3, ![N, 1, 1]⟩).symm n 0).val - M < N := by omega
    rw [if_pos hk, ext_of_lt _ _ hN, dif_pos]
    · refine congrArg x ?_
      funext a
      fin_cases a <;> exact Fin.ext (by simp [i1, i2])
    · intro a
      fin_cases a <;> simp [hk, hN, i1, i2]
  · rw [if_neg hk, dif_neg]
    intro hin
    exact hk (by simpa using (hin 0).1)

theorem host_window_up {N C D M : Nat} {u : Shape} (x : FVec Ideal ⟨3, ![N, C, D]⟩ .f32) (init : FVec Ideal u .f32)
    (h : (⟨3, ![N, C, D]⟩ : Shape).ReduceWindows ![N, 1, 1] ![1, 1, 1] ![0, 0, 0] ![M, 0, 0] ⟨3, ![N, C, D]⟩) (hu : 0 < u.numel)
    (hi : init (Shape.Idx.first hu) = (0 : EReal)) (t : Fin N) (g : Fin C) (c : Fin D) :
    (Host.reduceWindowAdd ![N, 1, 1] ![1, 1, 1] ![0, 0, 0] ![M, 0, 0] x init h hu : FVec Ideal ⟨3, ![N, C, D]⟩ .f32) (ix3 t g c)
      = ∑ k ∈ Finset.range N, ext N (fun s => x (ix3 s g c)) (t.val + k) := by
  show Ideal.hostReduceWindowAdd _ _ _ _ h x (init (Shape.Idx.first hu)) _ = _
  rw [hi]
  exact window_up x h t g c

theorem host_window_down {N C D M : Nat} {u : Shape} (hM : M + 1 = N) (x : FVec Ideal ⟨3, ![N, C, D]⟩ .f32) (init : FVec Ideal u .f32)
    (h : (⟨3, ![N, C, D]⟩ : Shape).ReduceWindows ![N, 1, 1] ![1, 1, 1] ![M, 0, 0] ![0, 0, 0] ⟨3, ![N, C, D]⟩) (hu : 0 < u.numel)
    (hi : init (Shape.Idx.first hu) = (0 : EReal)) (t : Fin N) (g : Fin C) (c : Fin D) :
    (Host.reduceWindowAdd ![N, 1, 1] ![1, 1, 1] ![M, 0, 0] ![0, 0, 0] x init h hu : FVec Ideal ⟨3, ![N, C, D]⟩ .f32) (ix3 t g c)
      = ∑ k ∈ Finset.range N, (if M ≤ t.val + k then ext N (fun s => x (ix3 s g c)) (t.val + k - M) else 0) := by
  show Ideal.hostReduceWindowAdd _ _ _ _ h x (init (Shape.Idx.first hu)) _ = _
  rw [hi]
  exact window_down hM x h t g c

/-! ## Rows added at an array of index pairs -/

/-- An addition of rows at pairs (row, group), read at an entry. -/
theorem scatter_pairs {R G C N : Nat} (d : ScatterDims ⟨3, ![R, G, C]⟩ ⟨2, ![N, 2]⟩ ⟨2, ![N, C]⟩) (x : Shape.Idx ⟨3, ![R, G, C]⟩ → EReal)
    (idx : IVec ⟨2, ![N, 2]⟩ 32) (upd : Shape.Idx ⟨2, ![N, C]⟩ → EReal) (r : Fin R) (g : Fin G) (c : Fin C)
    (s0 : ∀ (k : Fin N) (h : Fin C), d.start (ix2 k h) idx 0 = (idx (ix2 k (0 : Fin 2))).toInt)
    (s1 : ∀ (k : Fin N) (h : Fin C), d.start (ix2 k h) idx 1 = (idx (ix2 k (1 : Fin 2))).toInt)
    (s2 : ∀ (k : Fin N) (h : Fin C), d.start (ix2 k h) idx 2 = 0)
    (w0 : ∀ (k : Fin N) (h : Fin C), d.window (ix2 k h) 0 = 0) (w1 : ∀ (k : Fin N) (h : Fin C), d.window (ix2 k h) 1 = 0)
    (w2 : ∀ (k : Fin N) (h : Fin C), d.window (ix2 k h) 2 = h.val) :
    Ideal.hostScatterAdd d x idx upd (ix3 r g c)
      = x (ix3 r g c) + ∑ k ∈ Finset.univ.filter (fun k : Fin N => (idx (ix2 k (0 : Fin 2))).toInt = (r.val : Int)
          ∧ (idx (ix2 k (1 : Fin 2))).toInt = (g.val : Int)), upd (ix2 k c) := by
  have hl : ∀ (k : Fin N) (h : Fin C), (d.resultIdx? (ix2 k h) idx = some (ix3 r g c))
      ↔ (((idx (ix2 k (0 : Fin 2))).toInt = (r.val : Int) ∧ (idx (ix2 k (1 : Fin 2))).toInt = (g.val : Int)) ∧ h = c) := fun k h => by
    refine (Routing.resultIdx?_eq_some d (ix2 k h) idx (ix3 r g c)).trans ?_
    constructor
    · intro hh
      have h0 := hh 0
      have h1 := hh 1
      have h2 := hh 2
      rw [s0, w0] at h0
      rw [s1, w1] at h1
      rw [s2, w2] at h2
      have q0 : (idx (ix2 k (0 : Fin 2))).toInt + ((0 : Nat) : Int) = (r.val : Int) := h0
      have q1 : (idx (ix2 k (1 : Fin 2))).toInt + ((0 : Nat) : Int) = (g.val : Int) := h1
      have q2 : (0 : Int) + ((h.val : Nat) : Int) = (c.val : Int) := h2
      exact ⟨⟨by omega, by omega⟩, Fin.ext (by omega)⟩
    · rintro ⟨⟨p, q⟩, rfl⟩ a
      fin_cases a
      · show d.start (ix2 k h) idx 0 + (d.window (ix2 k h) 0 : Int) = (r.val : Int)
        rw [s0, w0]; omega
      · show d.start (ix2 k h) idx 1 + (d.window (ix2 k h) 1 : Int) = (g.val : Int)
        rw [s1, w1]; omega
      · show d.start (ix2 k h) idx 2 + (d.window (ix2 k h) 2 : Int) = (h.val : Int)
        rw [s2, w2]; omega
  have hs : ∀ j : Shape.Idx ⟨2, ![N, C]⟩, ix2 (j 0) (j 1) = j := fun j => funext (Fin.forall_fin_two.mpr ⟨rfl, rfl⟩)
  unfold Ideal.hostScatterAdd
  refine congrArg (x (ix3 r g c) + ·) ?_
  refine Finset.sum_nbij' (fun j : Shape.Idx ⟨2, ![N, C]⟩ => (j 0 : Fin N)) (fun k => (ix2 k c : Shape.Idx ⟨2, ![N, C]⟩)) ?_ ?_ ?_ ?_ ?_
  · intro j hj
    have := (Finset.mem_filter.mp hj).2
    rw [← hs j] at this
    exact Finset.mem_filter.mpr ⟨Finset.mem_univ _, ((hl _ _).mp this).1⟩
  · intro k hk
    exact Finset.mem_filter.mpr ⟨Finset.mem_univ _, (hl _ _).mpr ⟨(Finset.mem_filter.mp hk).2, rfl⟩⟩
  · intro j hj
    have := (Finset.mem_filter.mp hj).2
    rw [← hs j] at this
    have e := ((hl _ _).mp this).2
    exact (congrArg (ix2 (j 0)) e.symm).trans (hs j)
  · intro k hk
    rfl
  · intro j hj
    have := (Finset.mem_filter.mp hj).2
    rw [← hs j] at this
    have e := ((hl _ _).mp this).2
    exact congrArg upd ((hs j).symm.trans (congrArg (ix2 (j 0)) e))

/-! ## The windowed sum by doubling -/

/-- Row `r` of the first `L` rows of `y`, at column `c`, is the sum of `w` entries of `F` from `r` on. -/
def Win {L C : Nat} (y : Shape.Idx ⟨2, ![L, C]⟩ → EReal) (c : Fin C) (F : Nat → EReal) (w M : Nat) : Prop :=
  ∀ r : Fin L, r.val < M → y (ix2 r c) = ∑ k ∈ Finset.range w, F (r.val + k)

theorem rot_apply {L C : Nat} (n : BitVec 32) (a : Nat) (hn : n.toNat + a = L) (h0 : 0 < a) (x : Shape.Idx ⟨2, ![L, C]⟩ → EReal)
    (h : (⟨2, ![L, C]⟩ : Shape).Rotates 0 none) (r : Fin L) (c : Fin C) (hr : r.val + a < L) :
    dynamicRotate 0 n none x h (ix2 r c) = x (ix2 (⟨r.val + a, hr⟩ : Fin L) c) := by
  refine (Pointwise.dynamicRotate_apply 0 n none x h (ix2 r c)).trans (congrArg x ?_)
  funext b
  fin_cases b
  · refine Fin.ext ?_
    show (r.val + L - (n.toNat + 0) % L) % L = r.val + a
    have e1 : (n.toNat + 0) % L = L - a := by rw [Nat.mod_eq_of_lt (by omega)]; omega
    rw [e1, Nat.mod_eq_of_lt (by omega)]; omega
  · rfl

theorem Win.double {L C : Nat} {y : FVec Ideal ⟨2, ![L, C]⟩ .f32} {c : Fin C} {F : Nat → EReal} {w M : Nat} (hy : Win y c F w M) (hM : M ≤ L)
    (n : BitVec 32) (hn : n.toNat + w = L) (hw : 0 < w) (h : (⟨2, ![L, C]⟩ : Shape).Rotates 0 none) :
    Win (addf y (dynamicRotate 0 n none y h) : FVec Ideal ⟨2, ![L, C]⟩ .f32) c F (w + w) (M - w) := by
  intro r hr
  have h2 : r.val + w < L := by omega
  show y (ix2 r c) + dynamicRotate 0 n none y h (ix2 r c) = _
  rw [rot_apply n w hn hw y h r c h2, hy r (by omega), hy ⟨r.val + w, h2⟩ (by show r.val + w < M; omega), Finset.sum_range_add]
  refine congrArg (_ + ·) (Finset.sum_congr rfl fun k _ => ?_)
  rw [Nat.add_assoc]

/-! ## Differences of running sums over real rows -/

/-- The sum from row `t` to the end of the differences of rows `w` apart is the sum of the `w` rows from `t` on. -/
theorem tail_diff (B : Nat → ℝ) (N w t : Nat) (hB : ∀ n, N ≤ n → B n = 0) :
    ∑ k ∈ Finset.range N, (B (t + k) - B (t + k + w)) = ∑ k ∈ Finset.range w, B (t + k) := by
  have e : ∑ k ∈ Finset.range (N + w), B (t + k) = ∑ k ∈ Finset.range N, B (t + k) := by
    rw [Finset.sum_range_add]
    rw [Finset.sum_eq_zero (s := Finset.range w) (fun k _ => hB _ (by omega)), add_zero]
  have e2 : ∑ k ∈ Finset.range (w + N), B (t + k) = ∑ k ∈ Finset.range w, B (t + k) + ∑ k ∈ Finset.range N, B (t + k + w) := by
    rw [Finset.sum_range_add]
    refine congrArg (_ + ·) (Finset.sum_congr rfl fun k _ => congrArg B (by omega))
  rw [Finset.sum_sub_distrib]
  rw [Nat.add_comm w N, e] at e2
  linarith

end Cert.Proof.Pool

end
-- ==== Proof.PoolbRef.lean ====
/-
  The gradient through the pooling as the reference prints it: the running sums, the added rows and the padded groups read
  at one entry.
-/
module

public import proofs.«01_k».proof.Proof.Gen.RPoolbIdeal.Read
public import Idealize.ShloMosaic.Lib.Pipeline.ValueKit
public import Idealize.ShloMosaic.Lib.Pipeline.ValueKit.Partial
public import Idealize.ShloMosaic.Lib.Pointwise
public import proofs.«01_k».proof.Proof.Pool
public import proofs.«01_k».proof.Pre_finite_poolb

@[expose] public section

noncomputable section

namespace Cert.Proof.Poolb

open Cert.RPoolbIdeal Idealize.ShloMosaic Idealize.ShloMosaic.TcCoe
open Cert.Proof.Pool
open scoped BigOperators

section Reference

open Cert.RPoolbIdeal.Read

/-- The cotangent of the pooled rows, at a row, a group and a column. -/
def dpl (x1 : FVec Ideal S4x256x256 .bf16) (x2 : FVec Ideal S1x1024 .f32) (x3 : FVec Ideal S8192x1024 .bf16) (g : Fin 4) (c : Fin 256)
    (t : Fin 8192) : EReal :=
  ∑ d : Fin 256, (x3 (ix2 t (⟨g.val * 256 + d.val, by omega⟩ : Fin 1024)) * x2 (ix2 (0 : Fin 1) (⟨g.val * 256 + d.val, by omega⟩ : Fin 1024)))
    * x1 (ix3 g c d)

theorem v138_apply (x1 : FVec Ideal S4x256x256 .bf16) (x2 : FVec Ideal S1x1024 .f32) (x3 : FVec Ideal S8192x1024 .bf16) (t : Fin 8192)
    (g : Fin 4) (c : Fin 256) : val_main_v138 (F := Ideal) x1 x2 x3 (ix3 t g c) = dpl x1 x2 x3 g c t := by
  have e : ∀ d : Fin 256, val_main_v136 (F := Ideal) x2 x3 (ix3 g d t)
      = x3 (ix2 t (⟨g.val * 256 + d.val, by omega⟩ : Fin 1024)) * x2 (ix2 (0 : Fin 1) (⟨g.val * 256 + d.val, by omega⟩ : Fin 1024)) := fun d => by
    pointwise [val_main_v136, val_main_v135, val_main_v134, val_main_v133, val_main_v129]
  pointwise [val_main_v138, val_main_v137, val_main_v1]
  exact Finset.sum_congr rfl fun d _ => congrArg (fun a : EReal => a * x1 (ix3 g c d)) (e d)

theorem start0 (idx : IVec Cert.RPoolbIdeal.S8192x2 32) (k : Fin 8192) (h : Fin 256) :
    Cert.RPoolbIdeal.scatter_S8193x4x256_S8192x2_S8192x256_1_01_01_1.start (ix2 k h) idx 0 = (idx (ix2 k (0 : Fin 2))).toInt :=
  congrArg (fun a => (idx a).toInt) (funext (Fin.forall_fin_two.mpr ⟨Fin.ext rfl, Fin.ext rfl⟩))

theorem start1 (idx : IVec Cert.RPoolbIdeal.S8192x2 32) (k : Fin 8192) (h : Fin 256) :
    Cert.RPoolbIdeal.scatter_S8193x4x256_S8192x2_S8192x256_1_01_01_1.start (ix2 k h) idx 1 = (idx (ix2 k (1 : Fin 2))).toInt :=
  congrArg (fun a => (idx a).toInt) (funext (Fin.forall_fin_two.mpr ⟨Fin.ext rfl, Fin.ext rfl⟩))

/-- The number of rows a window of `w` holds at row `n`. -/
def cnt (w n : Nat) : EReal := (((min (n + 1) w : Nat) : ℝ) : EReal)

/-- The cotangent of a window's sum, over the number of its rows: zero beyond the last row. -/
def bx (w : Nat) (D : Fin 8192 → EReal) : Nat → EReal := ext 8192 fun t => Ideal.div (D t) (cnt w t.val)

/-! ### Group 0: windows of 2 rows -/

theorem cntw2 : ∀ s : Fin 8192, (IntOp.minsi (IntOp.addi 1#32 (BitVec.ofNat 32 s.val)) 2#32).toInt = ((min (s.val + 1) 2 : Nat) : Int) := by
  decide +kernel

theorem v17_apply (t : Fin 8192) : val_main_v17 (F := Ideal) (ix2 t (0 : Fin 1)) = cnt 2 t.val := by
  pointwise [val_main_v17, val_main_v16, val_main_v15, val_main_v14, val_main_c_3, val_main_v9, val_main_v7, val_main_v8, val_main_c]
  refine (congrArg (fun z : Int => ((z : ℝ) : EReal)) (cntw2 t)).trans ?_
  rw [cnt]; push_cast; rfl

theorem low2 : ∀ s : Fin 8192, (Scalar.select
      (IntOp.cmpi .slt (IntOp.maxsi (IntOp.subi (IntOp.addi 1#32 (BitVec.ofNat 32 s.val)) 2#32) 0#32) 0#32)
      (IntOp.addi (IntOp.maxsi (IntOp.subi (IntOp.addi 1#32 (BitVec.ofNat 32 s.val)) 2#32) 0#32) 8193#32)
      (IntOp.maxsi (IntOp.subi (IntOp.addi 1#32 (BitVec.ofNat 32 s.val)) 2#32) 0#32)).toInt = ((s.val + 1 - 2 : Nat) : Int) := by
  decide +kernel

theorem v29_row (t : Fin 8192) : (val_main_v29 (F := Ideal) (ix2 t (0 : Fin 2))).toInt = ((t.val + 1 - 2 : Nat) : Int) := by
  refine Eq.trans (congrArg BitVec.toInt ?_) (low2 t)
  pointwise [val_main_v29, val_main_v28, val_main_v26, val_main_v25, val_main_c_6, val_main_v27, val_main_v24, val_main_v13, val_main_v12, val_main_c_2, val_main_v11, val_main_v10, val_main_c_1, val_main_v9, val_main_v7, val_main_v8, val_main_c, val_main_v23, val_main_v22, val_main_c_5, val_main_v21, val_main_v20, val_main_c_4]

theorem v29_group (t : Fin 8192) : (val_main_v29 (F := Ideal) (ix2 t (1 : Fin 2))).toInt = 0 := by
  have e : val_main_v29 (F := Ideal) (ix2 t (1 : Fin 2)) = 0#32 := by
    pointwise [val_main_v29, val_main_v28, val_main_v26, val_main_v25, val_main_c_6, val_main_v27, val_main_v24, val_main_v13, val_main_v12, val_main_c_2, val_main_v11, val_main_v10, val_main_c_1, val_main_v9, val_main_v7, val_main_v8, val_main_c, val_main_v23, val_main_v22, val_main_c_5, val_main_v21, val_main_v20, val_main_c_4]
    rfl
  rw [e]; rfl

theorem v191_apply (x1 : FVec Ideal S4x256x256 .bf16) (x2 : FVec Ideal S1x1024 .f32) (x3 : FVec Ideal S8192x1024 .bf16) (t : Fin 8192) (c : Fin 256) :
    val_main_v191 (F := Ideal) x1 x2 x3 (ix2 t c) = bx 2 (dpl x1 x2 x3 0 c) t.val := by
  rw [bx, ext_of_lt _ _ t.isLt]
  have e := v138_apply x1 x2 x3 t 0 c
  have e1 := v17_apply t
  pointwise [val_main_v191, val_main_v190, val_main_v142, val_main_v141]
  rw [e, e1]

theorem v194_apply (x1 : FVec Ideal S4x256x256 .bf16) (x2 : FVec Ideal S1x1024 .f32) (x3 : FVec Ideal S8192x1024 .bf16) (r : Fin 8193) (g : Fin 4) (c : Fin 256) :
    val_main_v194 (F := Ideal) x1 x2 x3 (ix3 r g c)
      = ∑ k ∈ Finset.univ.filter (fun k : Fin 8192 => ((k.val + 1 - 2 : Nat) : Int) = (r.val : Int) ∧ (0 : Int) = (g.val : Int)),
          -(bx 2 (dpl x1 x2 x3 0 c) k.val) := by
  have ez : val_main_v193 (F := Ideal) (ix3 r g c) = 0 := by
    pointwise [val_main_v193, val_main_cst_36]
  have e9 : ∀ k : Fin 8192, val_main_v192 (F := Ideal) x1 x2 x3 (ix2 k c) = -(bx 2 (dpl x1 x2 x3 0 c) k.val) := fun k => by
    rw [← v191_apply]
    pointwise [val_main_v192]
  refine (scatter_pairs (R := 8193) (G := 4) (C := 256) (N := 8192) Cert.RPoolbIdeal.scatter_S8193x4x256_S8192x2_S8192x256_1_01_01_1
    (val_main_v193 (F := Ideal)) (val_main_v29 (F := Ideal)) (val_main_v192 (F := Ideal) x1 x2 x3) r g c (fun k h => start0 _ k h) (fun k h => start1 _ k h)
    (fun k h => rfl) (fun k h => rfl) (fun k h => rfl) (fun k h => rfl)).trans ?_
  · have h0 := v29_row
    have h1 := v29_group
    rw [ez, zero_add]
    generalize val_main_v29 (F := Ideal) = idx at h0 h1 ⊢
    generalize val_main_v192 (F := Ideal) x1 x2 x3 = u at e9 ⊢
    refine Finset.sum_congr (Finset.filter_congr fun k _ => ?_) fun k _ => e9 k
    rw [h0, h1]

theorem v197_apply (x1 : FVec Ideal S4x256x256 .bf16) (x2 : FVec Ideal S1x1024 .f32) (x3 : FVec Ideal S8192x1024 .bf16) (t : Fin 8192) (g : Fin 4) (c : Fin 256) :
    val_main_v197 (F := Ideal) x1 x2 x3 (ix3 (⟨t.val + 1, by omega⟩ : Fin 8193) g c)
      = if g = 0 then bx 2 (dpl x1 x2 x3 0 c) t.val else 0 := by
  have e := v191_apply x1 x2 x3
  pointwise [val_main_v197, val_main_cst_37, val_main_v196]
  by_cases hg : g = 0
  · have hv : g.val = 0 := by rw [hg]; rfl
    rw [if_pos hg, dif_pos (by omega), e]
    rfl
  · have hv : g.val ≠ 0 := fun h => hg (Fin.ext h)
    rw [if_neg hg, dif_neg (by omega)]

theorem v188_apply (x1 : FVec Ideal S4x256x256 .bf16) (x2 : FVec Ideal S1x1024 .f32) (x3 : FVec Ideal S8192x1024 .bf16) (t : Fin 8192) (g : Fin 4) (c : Fin 256) :
    val_main_v188 (F := Ideal) x1 x2 x3 (ix3 t g c)
      = if g = 0 then -(dpl x1 x2 x3 0 c t) else 0 := by
  have e := v138_apply x1 x2 x3
  pointwise [val_main_v188, val_main_cst_35, val_main_v187, val_main_v186, val_main_v142, val_main_v141]
  by_cases hg : g = 0
  · have hv : g.val = 0 := by rw [hg]; rfl
    rw [if_pos hg, dif_pos (by omega), e]
  · have hv : g.val ≠ 0 := fun h => hg (Fin.ext h)
    rw [if_neg hg, dif_neg (by omega)]

/-! ### Group 1: windows of 4 rows -/

theorem cntw4 : ∀ s : Fin 8192, (IntOp.minsi (IntOp.addi 1#32 (BitVec.ofNat 32 s.val)) 4#32).toInt = ((min (s.val + 1) 4 : Nat) : Int) := by
  decide +kernel

theorem v44_apply (t : Fin 8192) : val_main_v44 (F := Ideal) (ix2 t (0 : Fin 1)) = cnt 4 t.val := by
  pointwise [val_main_v44, val_main_v43, val_main_v42, val_main_v41, val_main_c_9, val_main_v9, val_main_v7, val_main_v8, val_main_c]
  refine (congrArg (fun z : Int => ((z : ℝ) : EReal)) (cntw4 t)).trans ?_
  rw [cnt]; push_cast; rfl

theorem low4 : ∀ s : Fin 8192, (Scalar.select
      (IntOp.cmpi .slt (IntOp.maxsi (IntOp.subi (IntOp.addi 1#32 (BitVec.ofNat 32 s.val)) 4#32) 0#32) 0#32)
      (IntOp.addi (IntOp.maxsi (IntOp.subi (IntOp.addi 1#32 (BitVec.ofNat 32 s.val)) 4#32) 0#32) 8193#32)
      (IntOp.maxsi (IntOp.subi (IntOp.addi 1#32 (BitVec.ofNat 32 s.val)) 4#32) 0#32)).toInt = ((s.val + 1 - 4 : Nat) : Int) := by
  decide +kernel

theorem v56_row (t : Fin 8192) : (val_main_v56 (F := Ideal) (ix2 t (0 : Fin 2))).toInt = ((t.val + 1 - 4 : Nat) : Int) := by
  refine Eq.trans (congrArg BitVec.toInt ?_) (low4 t)
  pointwise [val_main_v56, val_main_v55, val_main_v53, val_main_v52, val_main_c_12, val_main_v54, val_main_v51, val_main_v40, val_main_v39, val_main_c_8, val_main_v38, val_main_v37, val_main_c_7, val_main_v9, val_main_v7, val_main_v8, val_main_c, val_main_v50, val_main_v49, val_main_c_11, val_main_v48, val_main_v47, val_main_c_10]

theorem v56_group (t : Fin 8192) : (val_main_v56 (F := Ideal) (ix2 t (1 : Fin 2))).toInt = 1 := by
  have e : val_main_v56 (F := Ideal) (ix2 t (1 : Fin 2)) = 1#32 := by
    pointwise [val_main_v56, val_main_v55, val_main_v53, val_main_v52, val_main_c_12, val_main_v54, val_main_v51, val_main_v40, val_main_v39, val_main_c_8, val_main_v38, val_main_v37, val_main_c_7, val_main_v9, val_main_v7, val_main_v8, val_main_c, val_main_v50, val_main_v49, val_main_c_11, val_main_v48, val_main_v47, val_main_c_10]
    rfl
  rw [e]; rfl

theorem v178_apply (x1 : FVec Ideal S4x256x256 .bf16) (x2 : FVec Ideal S1x1024 .f32) (x3 : FVec Ideal S8192x1024 .bf16) (t : Fin 8192) (c : Fin 256) :
    val_main_v178 (F := Ideal) x1 x2 x3 (ix2 t c) = bx 4 (dpl x1 x2 x3 1 c) t.val := by
  rw [bx, ext_of_lt _ _ t.isLt]
  have e := v138_apply x1 x2 x3 t 1 c
  have e1 := v44_apply t
  pointwise [val_main_v178, val_main_v177, val_main_v144, val_main_v143]
  rw [e, e1]

theorem v181_apply (x1 : FVec Ideal S4x256x256 .bf16) (x2 : FVec Ideal S1x1024 .f32) (x3 : FVec Ideal S8192x1024 .bf16) (r : Fin 8193) (g : Fin 4) (c : Fin 256) :
    val_main_v181 (F := Ideal) x1 x2 x3 (ix3 r g c)
      = ∑ k ∈ Finset.univ.filter (fun k : Fin 8192 => ((k.val + 1 - 4 : Nat) : Int) = (r.val : Int) ∧ (1 : Int) = (g.val : Int)),
          -(bx 4 (dpl x1 x2 x3 1 c) k.val) := by
  have ez : val_main_v180 (F := Ideal) (ix3 r g c) = 0 := by
    pointwise [val_main_v180, val_main_cst_33]
  have e9 : ∀ k : Fin 8192, val_main_v179 (F := Ideal) x1 x2 x3 (ix2 k c) = -(bx 4 (dpl x1 x2 x3 1 c) k.val) := fun k => by
    rw [← v178_apply]
    pointwise [val_main_v179]
  refine (scatter_pairs (R := 8193) (G := 4) (C := 256) (N := 8192) Cert.RPoolbIdeal.scatter_S8193x4x256_S8192x2_S8192x256_1_01_01_1
    (val_main_v180 (F := Ideal)) (val_main_v56 (F := Ideal)) (val_main_v179 (F := Ideal) x1 x2 x3) r g c (fun k h => start0 _ k h) (fun k h => start1 _ k h)
    (fun k h => rfl) (fun k h => rfl) (fun k h => rfl) (fun k h => rfl)).trans ?_
  · have h0 := v56_row
    have h1 := v56_group
    rw [ez, zero_add]
    generalize val_main_v56 (F := Ideal) = idx at h0 h1 ⊢
    generalize val_main_v179 (F := Ideal) x1 x2 x3 = u at e9 ⊢
    refine Finset.sum_congr (Finset.filter_congr fun k _ => ?_) fun k _ => e9 k
    rw [h0, h1]

theorem v184_apply (x1 : FVec Ideal S4x256x256 .bf16) (x2 : FVec Ideal S1x1024 .f32) (x3 : FVec Ideal S8192x1024 .bf16) (t : Fin 8192) (g : Fin 4) (c : Fin 256) :
    val_main_v184 (F := Ideal) x1 x2 x3 (ix3 (⟨t.val + 1, by omega⟩ : Fin 8193) g c)
      = if g = 1 then bx 4 (dpl x1 x2 x3 1 c) t.val else 0 := by
  have e := v178_apply x1 x2 x3
  pointwise [val_main_v184, val_main_cst_34, val_main_v183]
  by_cases hg : g = 1
  · have hv : g.val = 1 := by rw [hg]; rfl
    rw [if_pos hg, dif_pos (by omega), e]
    rfl
  · have hv : g.val ≠ 1 := fun h => hg (Fin.ext h)
    rw [if_neg hg, dif_neg (by omega)]

theorem v175_apply (x1 : FVec Ideal S4x256x256 .bf16) (x2 : FVec Ideal S1x1024 .f32) (x3 : FVec Ideal S8192x1024 .bf16) (t : Fin 8192) (g : Fin 4) (c : Fin 256) :
    val_main_v175 (F := Ideal) x1 x2 x3 (ix3 t g c)
      = if g = 1 then -(dpl x1 x2 x3 1 c t) else 0 := by
  have e := v138_apply x1 x2 x3
  pointwise [val_main_v175, val_main_cst_32, val_main_v174, val_main_v173, val_main_v144, val_main_v143]
  by_cases hg : g = 1
  · have hv : g.val = 1 := by rw [hg]; rfl
    rw [if_pos hg, dif_pos (by omega), e]
  · have hv : g.val ≠ 1 := fun h => hg (Fin.ext h)
    rw [if_neg hg, dif_neg (by omega)]

/-! ### Group 2: windows of 8 rows -/

theorem cntw8 : ∀ s : Fin 8192, (IntOp.minsi (IntOp.addi 1#32 (BitVec.ofNat 32 s.val)) 8#32).toInt = ((min (s.val + 1) 8 : Nat) : Int) := by
  decide +kernel

theorem v71_apply (t : Fin 8192) : val_main_v71 (F := Ideal) (ix2 t (0 : Fin 1)) = cnt 8 t.val := by
  pointwise [val_main_v71, val_main_v70, val_main_v69, val_main_v68, val_main_c_15, val_main_v9, val_main_v7, val_main_v8, val_main_c]
  refine (congrArg (fun z : Int => ((z : ℝ) : EReal)) (cntw8 t)).trans ?_
  rw [cnt]; push_cast; rfl

theorem low8 : ∀ s : Fin 8192, (Scalar.select
      (IntOp.cmpi .slt (IntOp.maxsi (IntOp.subi (IntOp.addi 1#32 (BitVec.ofNat 32 s.val)) 8#32) 0#32) 0#32)
      (IntOp.addi (IntOp.maxsi (IntOp.subi (IntOp.addi 1#32 (BitVec.ofNat 32 s.val)) 8#32) 0#32) 8193#32)
      (IntOp.maxsi (IntOp.subi (IntOp.addi 1#32 (BitVec.ofNat 32 s.val)) 8#32) 0#32)).toInt = ((s.val + 1 - 8 : Nat) : Int) := by
  decide +kernel

theorem v83_row (t : Fin 8192) : (val_main_v83 (F := Ideal) (ix2 t (0 : Fin 2))).toInt = ((t.val + 1 - 8 : Nat) : Int) := by
  refine Eq.trans (congrArg BitVec.toInt ?_) (low8 t)
  pointwise [val_main_v83, val_main_v82, val_main_v80, val_main_v79, val_main_c_18, val_main_v81, val_main_v78, val_main_v67, val_main_v66, val_main_c_14, val_main_v65, val_main_v64, val_main_c_13, val_main_v9, val_main_v7, val_main_v8, val_main_c, val_main_v77, val_main_v76, val_main_c_17, val_main_v75, val_main_v74, val_main_c_16]

theorem v83_group (t : Fin 8192) : (val_main_v83 (F := Ideal) (ix2 t (1 : Fin 2))).toInt = 2 := by
  have e : val_main_v83 (F := Ideal) (ix2 t (1 : Fin 2)) = 2#32 := by
    pointwise [val_main_v83, val_main_v82, val_main_v80, val_main_v79, val_main_c_18, val_main_v81, val_main_v78, val_main_v67, val_main_v66, val_main_c_14, val_main_v65, val_main_v64, val_main_c_13, val_main_v9, val_main_v7, val_main_v8, val_main_c, val_main_v77, val_main_v76, val_main_c_17, val_main_v75, val_main_v74, val_main_c_16]
    rfl
  rw [e]; rfl

theorem v165_apply (x1 : FVec Ideal S4x256x256 .bf16) (x2 : FVec Ideal S1x1024 .f32) (x3 : FVec Ideal S8192x1024 .bf16) (t : Fin 8192) (c : Fin 256) :
    val_main_v165 (F := Ideal) x1 x2 x3 (ix2 t c) = bx 8 (dpl x1 x2 x3 2 c) t.val := by
  rw [bx, ext_of_lt _ _ t.isLt]
  have e := v138_apply x1 x2 x3 t 2 c
  have e1 := v71_apply t
  pointwise [val_main_v165, val_main_v164, val_main_v146, val_main_v145]
  rw [e, e1]

theorem v168_apply (x1 : FVec Ideal S4x256x256 .bf16) (x2 : FVec Ideal S1x1024 .f32) (x3 : FVec Ideal S8192x1024 .bf16) (r : Fin 8193) (g : Fin 4) (c : Fin 256) :
    val_main_v168 (F := Ideal) x1 x2 x3 (ix3 r g c)
      = ∑ k ∈ Finset.univ.filter (fun k : Fin 8192 => ((k.val + 1 - 8 : Nat) : Int) = (r.val : Int) ∧ (2 : Int) = (g.val : Int)),
          -(bx 8 (dpl x1 x2 x3 2 c) k.val) := by
  have ez : val_main_v167 (F := Ideal) (ix3 r g c) = 0 := by
    pointwise [val_main_v167, val_main_cst_30]
  have e9 : ∀ k : Fin 8192, val_main_v166 (F := Ideal) x1 x2 x3 (ix2 k c) = -(bx 8 (dpl x1 x2 x3 2 c) k.val) := fun k => by
    rw [← v165_apply]
    pointwise [val_main_v166]
  refine (scatter_pairs (R := 8193) (G := 4) (C := 256) (N := 8192) Cert.RPoolbIdeal.scatter_S8193x4x256_S8192x2_S8192x256_1_01_01_1
    (val_main_v167 (F := Ideal)) (val_main_v83 (F := Ideal)) (val_main_v166 (F := Ideal) x1 x2 x3) r g c (fun k h => start0 _ k h) (fun k h => start1 _ k h)
    (fun k h => rfl) (fun k h => rfl) (fun k h => rfl) (fun k h => rfl)).trans ?_
  · have h0 := v83_row
    have h1 := v83_group
    rw [ez, zero_add]
    generalize val_main_v83 (F := Ideal) = idx at h0 h1 ⊢
    generalize val_main_v166 (F := Ideal) x1 x2 x3 = u at e9 ⊢
    refine Finset.sum_congr (Finset.filter_congr fun k _ => ?_) fun k _ => e9 k
    rw [h0, h1]

theorem v171_apply (x1 : FVec Ideal S4x256x256 .bf16) (x2 : FVec Ideal S1x1024 .f32) (x3 : FVec Ideal S8192x1024 .bf16) (t : Fin 8192) (g : Fin 4) (c : Fin 256) :
    val_main_v171 (F := Ideal) x1 x2 x3 (ix3 (⟨t.val + 1, by omega⟩ : Fin 8193) g c)
      = if g = 2 then bx 8 (dpl x1 x2 x3 2 c) t.val else 0 := by
  have e := v165_apply x1 x2 x3
  pointwise [val_main_v171, val_main_cst_31, val_main_v170]
  by_cases hg : g = 2
  · have hv : g.val = 2 := by rw [hg]; rfl
    rw [if_pos hg, dif_pos (by omega), e]
    rfl
  · have hv : g.val ≠ 2 := fun h => hg (Fin.ext h)
    rw [if_neg hg, dif_neg (by omega)]

theorem v162_apply (x1 : FVec Ideal S4x256x256 .bf16) (x2 : FVec Ideal S1x1024 .f32) (x3 : FVec Ideal S8192x1024 .bf16) (t : Fin 8192) (g : Fin 4) (c : Fin 256) :
    val_main_v162 (F := Ideal) x1 x2 x3 (ix3 t g c)
      = if g = 2 then -(dpl x1 x2 x3 2 c t) else 0 := by
  have e := v138_apply x1 x2 x3
  pointwise [val_main_v162, val_main_cst_29, val_main_v161, val_main_v160, val_main_v146, val_main_v145]
  by_cases hg : g = 2
  · have hv : g.val = 2 := by rw [hg]; rfl
    rw [if_pos hg, dif_pos (by omega), e]
  · have hv : g.val ≠ 2 := fun h => hg (Fin.ext h)
    rw [if_neg hg, dif_neg (by omega)]

/-! ### Group 3: windows of 16 rows -/

theorem cntw16 : ∀ s : Fin 8192, (IntOp.minsi (IntOp.addi 1#32 (BitVec.ofNat 32 s.val)) 16#32).toInt = ((min (s.val + 1) 16 : Nat) : Int) := by
  decide +kernel

theorem v98_apply (t : Fin 8192) : val_main_v98 (F := Ideal) (ix2 t (0 : Fin 1)) = cnt 16 t.val := by
  pointwise [val_main_v98, val_main_v97, val_main_v96, val_main_v95, val_main_c_21, val_main_v9, val_main_v7, val_main_v8, val_main_c]
  refine (congrArg (fun z : Int => ((z : ℝ) : EReal)) (cntw16 t)).trans ?_
  rw [cnt]; push_cast; rfl

theorem low16 : ∀ s : Fin 8192, (Scalar.select
      (IntOp.cmpi .slt (IntOp.maxsi (IntOp.subi (IntOp.addi 1#32 (BitVec.ofNat 32 s.val)) 16#32) 0#32) 0#32)
      (IntOp.addi (IntOp.maxsi (IntOp.subi (IntOp.addi 1#32 (BitVec.ofNat 32 s.val)) 16#32) 0#32) 8193#32)
      (IntOp.maxsi (IntOp.subi (IntOp.addi 1#32 (BitVec.ofNat 32 s.val)) 16#32) 0#32)).toInt = ((s.val + 1 - 16 : Nat) : Int) := by
  decide +kernel

theorem v110_row (t : Fin 8192) : (val_main_v110 (F := Ideal) (ix2 t (0 : Fin 2))).toInt = ((t.val + 1 - 16 : Nat) : Int) := by
  refine Eq.trans (congrArg BitVec.toInt ?_) (low16 t)
  pointwise [val_main_v110, val_main_v109, val_main_v107, val_main_v106, val_main_c_24, val_main_v108, val_main_v105, val_main_v94, val_main_v93, val_main_c_20, val_main_v92, val_main_v91, val_main_c_19, val_main_v9, val_main_v7, val_main_v8, val_main_c, val_main_v104, val_main_v103, val_main_c_23, val_main_v102, val_main_v101, val_main_c_22]

theorem v110_group (t : Fin 8192) : (val_main_v110 (F := Ideal) (ix2 t (1 : Fin 2))).toInt = 3 := by
  have e : val_main_v110 (F := Ideal) (ix2 t (1 : Fin 2)) = 3#32 := by
    pointwise [val_main_v110, val_main_v109, val_main_v107, val_main_v106, val_main_c_24, val_main_v108, val_main_v105, val_main_v94, val_main_v93, val_main_c_20, val_main_v92, val_main_v91, val_main_c_19, val_main_v9, val_main_v7, val_main_v8, val_main_c, val_main_v104, val_main_v103, val_main_c_23, val_main_v102, val_main_v101, val_main_c_22]
    rfl
  rw [e]; rfl

theorem v153_apply (x1 : FVec Ideal S4x256x256 .bf16) (x2 : FVec Ideal S1x1024 .f32) (x3 : FVec Ideal S8192x1024 .bf16) (t : Fin 8192) (c : Fin 256) :
    val_main_v153 (F := Ideal) x1 x2 x3 (ix2 t c) = bx 16 (dpl x1 x2 x3 3 c) t.val := by
  rw [bx, ext_of_lt _ _ t.isLt]
  have e := v138_apply x1 x2 x3 t 3 c
  have e1 := v98_apply t
  pointwise [val_main_v153, val_main_v152, val_main_v148, val_main_v147]
  rw [e, e1]

theorem v156_apply (x1 : FVec Ideal S4x256x256 .bf16) (x2 : FVec Ideal S1x1024 .f32) (x3 : FVec Ideal S8192x1024 .bf16) (r : Fin 8193) (g : Fin 4) (c : Fin 256) :
    val_main_v156 (F := Ideal) x1 x2 x3 (ix3 r g c)
      = ∑ k ∈ Finset.univ.filter (fun k : Fin 8192 => ((k.val + 1 - 16 : Nat) : Int) = (r.val : Int) ∧ (3 : Int) = (g.val : Int)),
          -(bx 16 (dpl x1 x2 x3 3 c) k.val) := by
  have ez : val_main_v155 (F := Ideal) (ix3 r g c) = 0 := by
    pointwise [val_main_v155, val_main_cst_27]
  have e9 : ∀ k : Fin 8192, val_main_v154 (F := Ideal) x1 x2 x3 (ix2 k c) = -(bx 16 (dpl x1 x2 x3 3 c) k.val) := fun k => by
    rw [← v153_apply]
    pointwise [val_main_v154]
  refine (scatter_pairs (R := 8193) (G := 4) (C := 256) (N := 8192) Cert.RPoolbIdeal.scatter_S8193x4x256_S8192x2_S8192x256_1_01_01_1
    (val_main_v155 (F := Ideal)) (val_main_v110 (F := Ideal)) (val_main_v154 (F := Ideal) x1 x2 x3) r g c (fun k h => start0 _ k h) (fun k h => start1 _ k h)
    (fun k h => rfl) (fun k h => rfl) (fun k h => rfl) (fun k h => rfl)).trans ?_
  · have h0 := v110_row
    have h1 := v110_group
    rw [ez, zero_add]
    generalize val_main_v110 (F := Ideal) = idx at h0 h1 ⊢
    generalize val_main_v154 (F := Ideal) x1 x2 x3 = u at e9 ⊢
    refine Finset.sum_congr (Finset.filter_congr fun k _ => ?_) fun k _ => e9 k
    rw [h0, h1]

theorem v158_apply (x1 : FVec Ideal S4x256x256 .bf16) (x2 : FVec Ideal S1x1024 .f32) (x3 : FVec Ideal S8192x1024 .bf16) (t : Fin 8192) (g : Fin 4) (c : Fin 256) :
    val_main_v158 (F := Ideal) x1 x2 x3 (ix3 (⟨t.val + 1, by omega⟩ : Fin 8193) g c)
      = if g = 3 then bx 16 (dpl x1 x2 x3 3 c) t.val else 0 := by
  have e := v153_apply x1 x2 x3
  pointwise [val_main_v158, val_main_cst_28, val_main_v157]
  by_cases hg : g = 3
  · have hv : g.val = 3 := by rw [hg]; rfl
    rw [if_pos hg, dif_pos (by omega), e]
    rfl
  · have hv : g.val ≠ 3 := fun h => hg (Fin.ext h)
    rw [if_neg hg, dif_neg (by omega)]

theorem v151_apply (x1 : FVec Ideal S4x256x256 .bf16) (x2 : FVec Ideal S1x1024 .f32) (x3 : FVec Ideal S8192x1024 .bf16) (t : Fin 8192) (g : Fin 4) (c : Fin 256) :
    val_main_v151 (F := Ideal) x1 x2 x3 (ix3 t g c)
      = if g = 3 then -(dpl x1 x2 x3 3 c t) else 0 := by
  have e := v138_apply x1 x2 x3
  pointwise [val_main_v151, val_main_cst_26, val_main_v150, val_main_v149, val_main_v148, val_main_v147]
  by_cases hg : g = 3
  · have hv : g.val = 3 := by rw [hg]; rfl
    rw [if_pos hg, dif_pos (by omega), e]
  · have hv : g.val ≠ 3 := fun h => hg (Fin.ext h)
    rw [if_neg hg, dif_neg (by omega)]

end Reference

end Cert.Proof.Poolb

end
-- ==== Proof.PoolbSum.lean ====
/-
  The gradient through the pooling as the reference prints it: the sum of the groups, and the differences of the running sums
  as sums over windows.
-/
module

public import proofs.«01_k».proof.Proof.Gen.RPoolbIdeal.Read
public import Idealize.ShloMosaic.Lib.Pipeline.ValueKit
public import Idealize.ShloMosaic.Lib.Pipeline.ValueKit.Partial
public import Idealize.ShloMosaic.Lib.Pointwise
public import proofs.«01_k».proof.Proof.PoolbRef
public import proofs.«01_k».proof.Pre_finite_poolb

@[expose] public section

noncomputable section

namespace Cert.Proof.Poolb

open Cert.RPoolbIdeal Idealize.ShloMosaic Idealize.ShloMosaic.TcCoe
open Cert.Proof.Pool
open scoped BigOperators

section Reference

open Cert.RPoolbIdeal.Read

/-! ### The sum of the groups -/

/-- The rows of a group's windows. -/
def wd (g : Fin 4) : Nat := ![2, 4, 8, 16] g

theorem wd_pos (g : Fin 4) : 0 < wd g := by
  fin_cases g <;> decide

theorem hit (w a b : Nat) (hw : 0 < w) (F : Nat → EReal) (hF : ∀ n, 8192 ≤ n → F n = 0) (t : Nat) :
    ∑ k ∈ Finset.univ.filter (fun k : Fin 8192 => ((k.val + 1 - w : Nat) : Int) = ((t + 1 : Nat) : Int) ∧ ((a : Nat) : Int) = ((b : Nat) : Int)), -(F k.val)
      = if a = b then -(F (t + w)) else 0 := by
  by_cases hab : a = b
  · rw [if_pos hab]
    by_cases ht : t + w < 8192
    · have e : Finset.univ.filter (fun k : Fin 8192 => ((k.val + 1 - w : Nat) : Int) = ((t + 1 : Nat) : Int) ∧ ((a : Nat) : Int) = ((b : Nat) : Int))
          = {⟨t + w, ht⟩} := by
        ext k
        simp only [Finset.mem_filter, Finset.mem_univ, true_and, Finset.mem_singleton, Fin.ext_iff]
        omega
      rw [e, Finset.sum_singleton]
    · have e : Finset.univ.filter (fun k : Fin 8192 => ((k.val + 1 - w : Nat) : Int) = ((t + 1 : Nat) : Int) ∧ ((a : Nat) : Int) = ((b : Nat) : Int))
          = ∅ := by
        ext k
        simp only [Finset.mem_filter, Finset.mem_univ, true_and, Finset.notMem_empty, iff_false]
        omega
      rw [e, Finset.sum_empty, hF _ (by omega), neg_zero]
  · have e : Finset.univ.filter (fun k : Fin 8192 => ((k.val + 1 - w : Nat) : Int) = ((t + 1 : Nat) : Int) ∧ ((a : Nat) : Int) = ((b : Nat) : Int))
        = ∅ := by
      ext k
      simp only [Finset.mem_filter, Finset.mem_univ, true_and, Finset.notMem_empty, iff_false]
      omega
    rw [e, Finset.sum_empty, if_neg hab]

theorem bx_zero (w : Nat) (D : Fin 8192 → EReal) (n : Nat) (h : 8192 ≤ n) : bx w D n = 0 := by
  rw [bx, ext, dif_neg (by omega)]

theorem v200_apply (x1 : FVec Ideal S4x256x256 .bf16) (x2 : FVec Ideal S1x1024 .f32) (x3 : FVec Ideal S8192x1024 .bf16) (t : Fin 8192) (g : Fin 4) (c : Fin 256) :
    val_main_v200 (F := Ideal) x1 x2 x3 (ix3 t g c)
      = -(bx (wd g) (dpl x1 x2 x3 g c) (t.val + wd g)) + bx (wd g) (dpl x1 x2 x3 g c) t.val := by
  have e0 := v194_apply x1 x2 x3 (⟨t.val + 1, by omega⟩ : Fin 8193) g c
  have e1 := v181_apply x1 x2 x3 (⟨t.val + 1, by omega⟩ : Fin 8193) g c
  have e2 := v168_apply x1 x2 x3 (⟨t.val + 1, by omega⟩ : Fin 8193) g c
  have e3 := v156_apply x1 x2 x3 (⟨t.val + 1, by omega⟩ : Fin 8193) g c
  have p0 := v197_apply x1 x2 x3 t g c
  have p1 := v184_apply x1 x2 x3 t g c
  have p2 := v171_apply x1 x2 x3 t g c
  have p3 := v158_apply x1 x2 x3 t g c
  replace e0 := e0.trans (hit 2 0 g.val (by decide) _ (bx_zero 2 _) t.val)
  replace e1 := e1.trans (hit 4 1 g.val (by decide) _ (bx_zero 4 _) t.val)
  replace e2 := e2.trans (hit 8 2 g.val (by decide) _ (bx_zero 8 _) t.val)
  replace e3 := e3.trans (hit 16 3 g.val (by decide) _ (bx_zero 16 _) t.val)
  have hi : (ix3 t g c : Cert.RPoolbIdeal.S8192x4x256.Idx) = ix3 t g c := rfl
  have es : val_main_v200 (F := Ideal) x1 x2 x3 (ix3 t g c) = val_main_v198 (F := Ideal) x1 x2 x3 (ix3 (⟨t.val + 1, by omega⟩ : Fin 8193) g c) := by
    pointwise [val_main_v200]
    exact congrArg (fun r : Fin 8193 => val_main_v198 (F := Ideal) x1 x2 x3 (ix3 r g c)) (Fin.ext (Nat.add_comm 1 t.val))
  rw [es]
  refine Eq.trans (show _ = ((((((val_main_v156 (F := Ideal) x1 x2 x3 (ix3 (⟨t.val + 1, by omega⟩ : Fin 8193) g c)
    + val_main_v158 (F := Ideal) x1 x2 x3 (ix3 (⟨t.val + 1, by omega⟩ : Fin 8193) g c))
    + val_main_v168 (F := Ideal) x1 x2 x3 (ix3 (⟨t.val + 1, by omega⟩ : Fin 8193) g c))
    + val_main_v171 (F := Ideal) x1 x2 x3 (ix3 (⟨t.val + 1, by omega⟩ : Fin 8193) g c))
    + val_main_v181 (F := Ideal) x1 x2 x3 (ix3 (⟨t.val + 1, by omega⟩ : Fin 8193) g c))
    + val_main_v184 (F := Ideal) x1 x2 x3 (ix3 (⟨t.val + 1, by omega⟩ : Fin 8193) g c))
    + val_main_v194 (F := Ideal) x1 x2 x3 (ix3 (⟨t.val + 1, by omega⟩ : Fin 8193) g c))
    + val_main_v197 (F := Ideal) x1 x2 x3 (ix3 (⟨t.val + 1, by omega⟩ : Fin 8193) g c) from rfl) ?_
  rw [e0, e1, e2, e3, p0, p1, p2, p3]
  fin_cases g <;> simp [wd]

theorem v189_apply (x1 : FVec Ideal S4x256x256 .bf16) (x2 : FVec Ideal S1x1024 .f32) (x3 : FVec Ideal S8192x1024 .bf16) (t : Fin 8192) (g : Fin 4) (c : Fin 256) :
    val_main_v189 (F := Ideal) x1 x2 x3 (ix3 t g c) = -(dpl x1 x2 x3 g c t) := by
  refine Eq.trans (show _ = ((val_main_v151 (F := Ideal) x1 x2 x3 (ix3 t g c) + val_main_v162 (F := Ideal) x1 x2 x3 (ix3 t g c))
    + val_main_v175 (F := Ideal) x1 x2 x3 (ix3 t g c)) + val_main_v188 (F := Ideal) x1 x2 x3 (ix3 t g c) from rfl) ?_
  rw [v151_apply, v162_apply, v175_apply, v188_apply]
  fin_cases g <;> simp

theorem coe_sum {ι : Type} (s : Finset ι) (f : ι → ℝ) : ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

theorem bx_real (w : Nat) (hw : 0 < w) (D : Fin 8192 → EReal) (hD : ∀ t, IsReal (D t)) (n : Nat) : IsReal (bx w D n) := by
  rw [bx, ext]
  split
  · next h =>
    obtain ⟨r, hr⟩ := hD ⟨n, h⟩
    have h0 : (((min (n + 1) w : Nat) : ℝ)) ≠ 0 := by
      have : 0 < min (n + 1) w := by omega
      exact_mod_cast this.ne'
    rw [hr, cnt, Ideal.div_coe h0]
    exact IsReal.mul (IsReal.coe r) (IsReal.coe _)
  · exact IsReal.zero

theorem tail (w : Nat) (hw : 0 < w) (D : Fin 8192 → EReal) (hD : ∀ t, IsReal (D t)) (X : Fin 8192 → EReal)
    (hX : ∀ t : Fin 8192, X t = -(bx w D (t.val + w)) + bx w D t.val) (t : Nat) :
    ∑ k ∈ Finset.range 8192, ext 8192 X (t + k) = ∑ k ∈ Finset.range w, bx w D (t + k) := by
  choose B hB using bx_real w hw D hD
  have h0 : ∀ n, 8192 ≤ n → B n = 0 := fun n hn => by
    have e := hB n
    rw [bx_zero w D n hn] at e
    exact EReal.coe_eq_zero.mp e.symm
  have hE : ∀ n, ext 8192 X n = ((B n - B (n + w) : ℝ) : EReal) := fun n => by
    by_cases hn : n < 8192
    · rw [ext_of_lt _ _ hn, hX, hB, hB, sub_eq_add_neg, add_comm, EReal.coe_add, EReal.coe_neg]
    · rw [ext, dif_neg hn, h0 _ (by omega), h0 _ (by omega), sub_zero, EReal.coe_zero]
  simp only [hE, hB]
  rw [← coe_sum, ← coe_sum, tail_diff B 8192 w t h0]

/-- The cotangent of the pooled operand, at a row, a group and a column. -/
theorem v203_apply (x1 : FVec Ideal S4x256x256 .bf16) (x2 : FVec Ideal S1x1024 .f32) (x3 : FVec Ideal S8192x1024 .bf16) (hD : ∀ (g : Fin 4) (c : Fin 256) (t : Fin 8192), IsReal (dpl x1 x2 x3 g c t))
    (t : Fin 8192) (g : Fin 4) (c : Fin 256) :
    val_main_v203 (F := Ideal) x1 x2 x3 (ix2 t (⟨g.val * 256 + c.val, by omega⟩ : Fin 1024))
      = -(dpl x1 x2 x3 g c t) + ∑ k ∈ Finset.range (wd g), bx (wd g) (dpl x1 x2 x3 g c) (t.val + k) := by
  have e1 : val_main_v201 (F := Ideal) x1 x2 x3 (ix3 t g c) = ∑ k ∈ Finset.range (wd g), bx (wd g) (dpl x1 x2 x3 g c) (t.val + k) := by
    have ei : (val_main_call1_call0_v0 (F := Ideal)) (Shape.Idx.first Cert.RPoolbIdeal.Gen.h_S_) = 0 := by
      pointwise [val_main_call1_call0_v0, val_main_call1_call0_cst]
    have ew := v200_apply x1 x2 x3
    unfold val_main_v201
    generalize val_main_v200 (F := Ideal) x1 x2 x3 = y at ew ⊢
    generalize val_main_call1_call0_v0 (F := Ideal) = z at ei ⊢
    refine (host_window_up (N := 8192) (C := 4) (D := 256) (M := 8191) y z _ _ ei t g c).trans ?_
    exact tail (wd g) (wd_pos g) _ (hD g c) _ (fun t => ew t g c) t.val
  have e2 := v189_apply x1 x2 x3 t g c
  have e3 : val_main_v203 (F := Ideal) x1 x2 x3 (ix2 t (⟨g.val * 256 + c.val, by omega⟩ : Fin 1024)) = val_main_v202 (F := Ideal) x1 x2 x3 (ix3 t g c) := by
    rw [val_main_v203_apply]
    refine congrArg _ (funext fun a => ?_)
    have := c.isLt
    fin_cases a
    · exact Fin.ext (by simp [idx_main_v203]; omega)
    · exact Fin.ext (by simp [idx_main_v203]; omega)
    · exact Fin.ext (by simp [idx_main_v203]; omega)
  rw [e3, ← e1, ← e2]
  rfl

end Reference

end Cert.Proof.Poolb

end
-- ==== Proof.PoolbK.lean ====
/-
  What one point of the gradient through the pooling computes: the rows mixed back over the counts, added up over the windows by
  doubling, and the products its rows add to the gradients.
-/
module

public import proofs.«01_k».proof.Proof.Gen.KPoolbIdeal.Value
public import proofs.«01_k».proof.Proof.Gen.RPoolbIdeal.Read
public import Idealize.ShloMosaic.Lib.Pipeline.ValueKit
public import Idealize.ShloMosaic.Lib.Pipeline.ValueKit.Partial
public import Idealize.ShloMosaic.Lib.Pointwise
public import proofs.«01_k».proof.Proof.PoolbRef

@[expose] public section

noncomputable section

namespace Cert.Proof.Poolb

open Cert.KPoolbIdeal Cert.KPoolbIdeal.Gen Idealize.ShloMosaic Idealize.ShloMosaic.TcCoe Idealize.SL.Sem
open Idealize.ShloMosaic.Pipeline (Dat Cfg Window)
open Cert.Proof.Pool
open scoped BigOperators

theorem slt31 : ∀ k : Fin 32, Scalar.cmpi .slt (BitVec.ofNat 32 k.val) 31#32 = if k.val < 31 then 1#1 else 0#1 := by decide +kernel

/-- The rows of a block and the rows after it, with the scale. -/
theorem pay5_apply (i : grid0.Coords) (v0 : FVec Ideal S256x1024 .bf16) (v2 : FVec Ideal S16x1024 .bf16) (v7 : FVec Ideal S1x1024 .f32)
    (n : Fin 272) (k : Fin 1024) :
    k0_pay5 (F := Ideal) i v0 v2 v7 (ix2 n k)
      = (if h : n.val < 256 then v0 (ix2 (⟨n.val, h⟩ : Fin 256) k)
          else if (i 0).val < 31 then v2 (ix2 (⟨n.val - 256, by omega⟩ : Fin 16) k) else 0) * v7 (ix2 (0 : Fin 1) k) := by
  pointwise [k0_pay5]
  rw [show Scalar.cmpi .slt (BitVec.ofNat 32 (i 0).val) 31#32 = _ from slt31 (i 0)]
  by_cases h : n.val < 256
  · simp only [dif_pos h]
  · simp only [dif_neg h]
    by_cases h1 : (i 0).val < 31
    · rw [if_pos h1, if_pos h1]; rfl
    · rw [if_neg h1, if_neg h1]; rfl

theorem word6 : ∀ (k : Fin 32) (n : Fin 272), (IntOp.addi (Scalar.addi (Scalar.muli (BitVec.ofNat 32 k.val) 256#32) 1#32) (BitVec.ofNat 32 n.val)).toInt
    = ((256 * k.val + n.val + 1 : Nat) : Int) := by decide +kernel

theorem pay6_apply (i : grid0.Coords) (n : Fin 272) :
    k0_pay6 (F := Ideal) i (ix2 n (0 : Fin 1)) = (((256 * (i 0).val + n.val + 1 : Nat) : ℝ) : EReal) := by
  pointwise [k0_pay6]
  refine (congrArg (fun z : Int => ((z : ℝ) : EReal)) (word6 (i 0) n)).trans ?_
  push_cast
  rfl

theorem min_coe (a b : Nat) : min ((a : ℝ) : EReal) ((b : ℝ) : EReal) = (((min a b : Nat) : ℝ) : EReal) := by
  rw [← EReal.coe_strictMono.monotone.map_min, Nat.cast_min]

theorem c2 : Ideal.ofBits .f32 0x40000000#32 = (((2 : Nat) : ℝ) : EReal) := by
  simp [Ideal.ofBits, Ideal.ieee, -EReal.coe_mul]; norm_num
theorem c4 : Ideal.ofBits .f32 0x40800000#32 = (((4 : Nat) : ℝ) : EReal) := by
  simp [Ideal.ofBits, Ideal.ieee, -EReal.coe_mul]; norm_num
theorem c8 : Ideal.ofBits .f32 0x41000000#32 = (((8 : Nat) : ℝ) : EReal) := by
  simp [Ideal.ofBits, Ideal.ieee, -EReal.coe_mul]; norm_num
theorem c16 : Ideal.ofBits .f32 0x41800000#32 = (((16 : Nat) : ℝ) : EReal) := by
  simp [Ideal.ofBits, Ideal.ieee, -EReal.coe_mul]; norm_num

theorem cut (Y M : FVec Ideal S272x256 .f32) (h : (S272x256 : Shape).Slices ![0, 0] S256x256) (hb : FTy.bits .bf16 < FTy.bits .f32)
    (j : S256x256.Idx) :
    (truncf .bf16 (subf (extractStridedSlice S256x256 ![0, 0] Y h) (extractStridedSlice S256x256 ![0, 0] M h)) hb : FVec Ideal S256x256 .bf16) j
      = Y (ix2 (⟨(j 0).val, lt_trans (j 0).isLt (by decide)⟩ : Fin 272) (j 1)) - M (ix2 (⟨(j 0).val, lt_trans (j 0).isLt (by decide)⟩ : Fin 272) (j 1)) := by
  pointwise

/-- A row of cotangents mixed back, at a column. -/
def back (x : FVec Ideal S272x256 .bf16) (w : FVec Ideal S1x256x256 .bf16) (c : Fin 256) (n : Fin 272) : EReal :=
  ∑ d : Fin 256, x (ix2 n d) * w (ix3 (0 : Fin 1) c d)

/-- The product with the mixing matrix, as the kernel forms it. -/
def mixed (x : FVec Ideal S272x256 .bf16) (w : FVec Ideal S1x256x256 .bf16) : FVec Ideal S272x256 .f32 :=
  matmul dot_S272x256_S256x256_S272x256_1_1_0_0_n_n none x (shapeCast S256x256 w shapeCasts_S1x256x256_S256x256)
    (constant S272x256 .f32 0x00000000#32)

theorem mix_apply (x : FVec Ideal S272x256 .bf16) (w : FVec Ideal S1x256x256 .bf16) (n : Fin 272) (c : Fin 256) :
    mixed x w (ix2 n c) = back x w c n := by
  pointwise [mixed, back]

theorem quot_win (y : FVec Ideal S272x256 .f32) (v : FVec Ideal S272x1 .f32) (c : Fin 256) :
    Win (L := 272) (divf y (broadcastTo S272x256 v broadcasts_S272x1_S272x256) : FVec Ideal S272x256 .f32) c
      (ext 272 fun n => Ideal.div (y (ix2 n c)) (v (ix2 n (0 : Fin 1)))) 1 272 := by
  intro r hr
  rw [Finset.sum_range_one, Nat.add_zero, ext_of_lt _ _ hr]
  pointwise

theorem pay7_apply (i : grid0.Coords) (n : Fin 272) : k0_pay7 (F := Ideal) i (ix2 n (0 : Fin 1)) = cnt 2 (256 * (i 0).val + n.val) := by
  have e := pay6_apply i n
  pointwise [k0_pay7]
  rw [e, c2]
  exact min_coe _ _

theorem pay8_apply (i : grid0.Coords) (n : Fin 272) : k0_pay8 (F := Ideal) i (ix2 n (0 : Fin 1)) = cnt 4 (256 * (i 0).val + n.val) := by
  have e := pay6_apply i n
  pointwise [k0_pay8]
  rw [e, c4]
  exact min_coe _ _

theorem pay9_apply (i : grid0.Coords) (n : Fin 272) : k0_pay9 (F := Ideal) i (ix2 n (0 : Fin 1)) = cnt 8 (256 * (i 0).val + n.val) := by
  have e := pay6_apply i n
  pointwise [k0_pay9]
  rw [e, c8]
  exact min_coe _ _

theorem pay10_apply (i : grid0.Coords) (n : Fin 272) : k0_pay10 (F := Ideal) i (ix2 n (0 : Fin 1)) = cnt 16 (256 * (i 0).val + n.val) := by
  have e := pay6_apply i n
  pointwise [k0_pay10]
  rw [e, c16]
  exact min_coe _ _

theorem pay18_apply (v : FVec Ideal S272x1 .f32) (x : FVec Ideal S272x256 .bf16) (w : FVec Ideal S1x256x256 .bf16) (j : S256x256.Idx) :
    k0_pay18 (F := Ideal) v x w j
      = (∑ k ∈ Finset.range 2, ext 272 (fun n => Ideal.div (back x w (j 1) n) (v (ix2 n (0 : Fin 1)))) ((j 0).val + k))
        - back x w (j 1) (⟨(j 0).val, lt_trans (j 0).isLt (by decide)⟩ : Fin 272) := by
  unfold k0_pay18
  refine (cut _ _ _ _ j).trans ?_
  have hj : (j 0).val < 256 := (j 0).isLt
  have h := (quot_win (mixed x w) v (j 1)).double (by omega) 271#32 (by decide) (by decide) rotates_S272x256_d0 ⟨(j 0).val, lt_trans (j 0).isLt (by decide)⟩ (by dsimp only; omega)
  refine congrArg₂ (fun a b : EReal => a - b) (h.trans ?_) (mix_apply x w _ _)
  exact Finset.sum_congr rfl fun k _ => congrArg (fun F => ext 272 F ((j 0).val + k)) (funext fun n =>
    congrArg (fun z : EReal => Ideal.div z (v (ix2 n (0 : Fin 1)))) (mix_apply x w n (j 1)))

theorem pay25_apply (v : FVec Ideal S272x1 .f32) (x : FVec Ideal S272x256 .bf16) (w : FVec Ideal S1x256x256 .bf16) (j : S256x256.Idx) :
    k0_pay25 (F := Ideal) v x w j
      = (∑ k ∈ Finset.range 4, ext 272 (fun n => Ideal.div (back x w (j 1) n) (v (ix2 n (0 : Fin 1)))) ((j 0).val + k))
        - back x w (j 1) (⟨(j 0).val, lt_trans (j 0).isLt (by decide)⟩ : Fin 272) := by
  unfold k0_pay25
  refine (cut _ _ _ _ j).trans ?_
  have hj : (j 0).val < 256 := (j 0).isLt
  have h := ((quot_win (mixed x w) v (j 1)).double (by omega) 271#32 (by decide) (by decide) rotates_S272x256_d0).double (by omega) 270#32 (by decide) (by decide) rotates_S272x256_d0 ⟨(j 0).val, lt_trans (j 0).isLt (by decide)⟩ (by dsimp only; omega)
  refine congrArg₂ (fun a b : EReal => a - b) (h.trans ?_) (mix_apply x w _ _)
  exact Finset.sum_congr rfl fun k _ => congrArg (fun F => ext 272 F ((j 0).val + k)) (funext fun n =>
    congrArg (fun z : EReal => Ideal.div z (v (ix2 n (0 : Fin 1)))) (mix_apply x w n (j 1)))

theorem pay32_apply (v : FVec Ideal S272x1 .f32) (x : FVec Ideal S272x256 .bf16) (w : FVec Ideal S1x256x256 .bf16) (j : S256x256.Idx) :
    k0_pay32 (F := Ideal) v x w j
      = (∑ k ∈ Finset.range 8, ext 272 (fun n => Ideal.div (back x w (j 1) n) (v (ix2 n (0 : Fin 1)))) ((j 0).val + k))
        - back x w (j 1) (⟨(j 0).val, lt_trans (j 0).isLt (by decide)⟩ : Fin 272) := by
  unfold k0_pay32
  refine (cut _ _ _ _ j).trans ?_
  have hj : (j 0).val < 256 := (j 0).isLt
  have h := (((quot_win (mixed x w) v (j 1)).double (by omega) 271#32 (by decide) (by decide) rotates_S272x256_d0).double (by omega) 270#32 (by decide) (by decide) rotates_S272x256_d0).double (by omega) 268#32 (by decide) (by decide) rotates_S272x256_d0 ⟨(j 0).val, lt_trans (j 0).isLt (by decide)⟩ (by dsimp only; omega)
  refine congrArg₂ (fun a b : EReal => a - b) (h.trans ?_) (mix_apply x w _ _)
  exact Finset.sum_congr rfl fun k _ => congrArg (fun F => ext 272 F ((j 0).val + k)) (funext fun n =>
    congrArg (fun z : EReal => Ideal.div z (v (ix2 n (0 : Fin 1)))) (mix_apply x w n (j 1)))

theorem pay2_apply (v : FVec Ideal S272x1 .f32) (x : FVec Ideal S272x256 .bf16) (w : FVec Ideal S1x256x256 .bf16) (j : S256x256.Idx) :
    k0_pay2 (F := Ideal) v x w j
      = (∑ k ∈ Finset.range 16, ext 272 (fun n => Ideal.div (back x w (j 1) n) (v (ix2 n (0 : Fin 1)))) ((j 0).val + k))
        - back x w (j 1) (⟨(j 0).val, lt_trans (j 0).isLt (by decide)⟩ : Fin 272) := by
  unfold k0_pay2
  refine (cut _ _ _ _ j).trans ?_
  have hj : (j 0).val < 256 := (j 0).isLt
  have h := ((((quot_win (mixed x w) v (j 1)).double (by omega) 271#32 (by decide) (by decide) rotates_S272x256_d0).double (by omega) 270#32 (by decide) (by decide) rotates_S272x256_d0).double (by omega) 268#32 (by decide) (by decide) rotates_S272x256_d0).double (by omega) 264#32 (by decide) (by decide) rotates_S272x256_d0 ⟨(j 0).val, lt_trans (j 0).isLt (by decide)⟩ (by dsimp only; omega)
  refine congrArg₂ (fun a b : EReal => a - b) (h.trans ?_) (mix_apply x w _ _)
  exact Finset.sum_congr rfl fun k _ => congrArg (fun F => ext 272 F ((j 0).val + k)) (funext fun n =>
    congrArg (fun z : EReal => Ideal.div z (v (ix2 n (0 : Fin 1)))) (mix_apply x w n (j 1)))

/-! ## What a point adds to the gradients at the scale and the mixing matrices -/

/-- What the rows of a point add to the gradient at the scale. -/
def scaleRow (x u : FVec Ideal S256x1024 .bf16) (w : FVec Ideal S4x256x256 .bf16) (g : Fin 4) (d : Fin 256) : EReal :=
  ∑ r : Fin 256, x (ix2 r (⟨g.val * 256 + d.val, by omega⟩ : Fin 1024))
    * ∑ k : Fin 256, u (ix2 r (⟨g.val * 256 + k.val, by omega⟩ : Fin 1024)) * w (ix3 g k d)

/-- What the rows of a point add to the gradient at a mixing matrix. -/
def gram (v : FVec Ideal S272x1024 .f32) (u : FVec Ideal S256x1024 .bf16) (g : Fin 4) (c d : Fin 256) : EReal :=
  ∑ r : Fin 256, u (ix2 r (⟨g.val * 256 + c.val, by omega⟩ : Fin 1024))
    * v (ix2 (⟨r.val, by omega⟩ : Fin 272) (⟨g.val * 256 + d.val, by omega⟩ : Fin 1024))

/-- A row of the scaled cotangents mixed back, at a column of a group. -/
def kback (v : FVec Ideal S272x1024 .f32) (w : FVec Ideal S4x256x256 .bf16) (g : Fin 4) (c : Fin 256) (n : Fin 272) : EReal :=
  ∑ d : Fin 256, v (ix2 n (⟨g.val * 256 + d.val, by omega⟩ : Fin 1024)) * w (ix3 g c d)

/-- What a point writes at a row and a column of a group: the window's sum less the row itself. -/
def kz (v : FVec Ideal S272x1024 .f32) (w : FVec Ideal S4x256x256 .bf16) (n : Nat) (g : Fin 4) (a : Nat) (r c : Fin 256) : EReal :=
  (∑ k ∈ Finset.range n, ext 272 (fun s => Ideal.div (kback v w g c s) (cnt n (256 * a + s.val))) (r.val + k))
    - kback v w g c (⟨r.val, by omega⟩ : Fin 272)

theorem pay13_apply (x U : FVec Ideal S256x1024 .bf16) (W : FVec Ideal S4x256x256 .bf16) (u : FVec Ideal S256x256 .bf16) (w : FVec Ideal S1x256x256 .bf16)
    (hu : ∀ (r c : Fin 256), u (ix2 r c) = U (ix2 r (⟨0 * 256 + c.val, by omega⟩ : Fin 1024)))
    (hw : ∀ (c d : Fin 256), w (ix3 (0 : Fin 1) c d) = W (ix3 (0 : Fin 4) c d)) (d : Fin 256) :
    k0_pay13 (F := Ideal) x u w (ix2 (0 : Fin 1) d) = scaleRow x U W 0 d := by
  have e : ∀ (r c : Fin 256), k0_pay12 (F := Ideal) u (ix2 r c) = u (ix2 r c) := fun r c => by pointwise [k0_pay12]
  pointwise [k0_pay13, scaleRow]
  refine Finset.sum_congr rfl fun r _ => congrArg₂ (fun a b : EReal => a * b) ?_ (Finset.sum_congr rfl fun k _ => ?_)
  · exact congrArg (fun q => x (ix2 r q)) (Fin.ext (by simp))
  · exact congrArg₂ (fun a b : EReal => a * b) ((e r k).trans ((hu r k).trans (congrArg (fun q => U (ix2 r q)) (Fin.ext (by simp))))) (hw k d)

theorem pay21_apply (x U : FVec Ideal S256x1024 .bf16) (W : FVec Ideal S4x256x256 .bf16) (u : FVec Ideal S256x256 .bf16) (w : FVec Ideal S1x256x256 .bf16)
    (hu : ∀ (r c : Fin 256), u (ix2 r c) = U (ix2 r (⟨1 * 256 + c.val, by omega⟩ : Fin 1024)))
    (hw : ∀ (c d : Fin 256), w (ix3 (0 : Fin 1) c d) = W (ix3 (1 : Fin 4) c d)) (d : Fin 256) :
    k0_pay21 (F := Ideal) x u w (ix2 (0 : Fin 1) d) = scaleRow x U W 1 d := by
  have e : ∀ (r c : Fin 256), k0_pay20 (F := Ideal) u (ix2 r c) = u (ix2 r c) := fun r c => by pointwise [k0_pay20]
  pointwise [k0_pay21, scaleRow]
  refine Finset.sum_congr rfl fun r _ => congrArg₂ (fun a b : EReal => a * b) ?_ (Finset.sum_congr rfl fun k _ => ?_)
  · exact congrArg (fun q => x (ix2 r q)) (Fin.ext (by simp))
  · exact congrArg₂ (fun a b : EReal => a * b) ((e r k).trans ((hu r k).trans (congrArg (fun q => U (ix2 r q)) (Fin.ext (by simp))))) (hw k d)

theorem pay28_apply (x U : FVec Ideal S256x1024 .bf16) (W : FVec Ideal S4x256x256 .bf16) (u : FVec Ideal S256x256 .bf16) (w : FVec Ideal S1x256x256 .bf16)
    (hu : ∀ (r c : Fin 256), u (ix2 r c) = U (ix2 r (⟨2 * 256 + c.val, by omega⟩ : Fin 1024)))
    (hw : ∀ (c d : Fin 256), w (ix3 (0 : Fin 1) c d) = W (ix3 (2 : Fin 4) c d)) (d : Fin 256) :
    k0_pay28 (F := Ideal) x u w (ix2 (0 : Fin 1) d) = scaleRow x U W 2 d := by
  have e : ∀ (r c : Fin 256), k0_pay27 (F := Ideal) u (ix2 r c) = u (ix2 r c) := fun r c => by pointwise [k0_pay27]
  pointwise [k0_pay28, scaleRow]
  refine Finset.sum_congr rfl fun r _ => congrArg₂ (fun a b : EReal => a * b) ?_ (Finset.sum_congr rfl fun k _ => ?_)
  · exact congrArg (fun q => x (ix2 r q)) (Fin.ext (by simp))
  · exact congrArg₂ (fun a b : EReal => a * b) ((e r k).trans ((hu r k).trans (congrArg (fun q => U (ix2 r q)) (Fin.ext (by simp))))) (hw k d)

theorem pay35_apply (x U : FVec Ideal S256x1024 .bf16) (W : FVec Ideal S4x256x256 .bf16) (u : FVec Ideal S256x256 .bf16) (w : FVec Ideal S1x256x256 .bf16)
    (hu : ∀ (r c : Fin 256), u (ix2 r c) = U (ix2 r (⟨3 * 256 + c.val, by omega⟩ : Fin 1024)))
    (hw : ∀ (c d : Fin 256), w (ix3 (0 : Fin 1) c d) = W (ix3 (3 : Fin 4) c d)) (d : Fin 256) :
    k0_pay35 (F := Ideal) x u w (ix2 (0 : Fin 1) d) = scaleRow x U W 3 d := by
  have e : ∀ (r c : Fin 256), k0_pay34 (F := Ideal) u (ix2 r c) = u (ix2 r c) := fun r c => by pointwise [k0_pay34]
  pointwise [k0_pay35, scaleRow]
  refine Finset.sum_congr rfl fun r _ => congrArg₂ (fun a b : EReal => a * b) ?_ (Finset.sum_congr rfl fun k _ => ?_)
  · exact congrArg (fun q => x (ix2 r q)) (Fin.ext (by simp))
  · exact congrArg₂ (fun a b : EReal => a * b) ((e r k).trans ((hu r k).trans (congrArg (fun q => U (ix2 r q)) (Fin.ext (by simp))))) (hw k d)

theorem pay16_apply (i : grid0.Coords) (v0 U : FVec Ideal S256x1024 .bf16) (v2 : FVec Ideal S16x1024 .bf16) (v7 : FVec Ideal S1x1024 .f32) (u : FVec Ideal S256x256 .bf16)
    (hu : ∀ (r c : Fin 256), u (ix2 r c) = U (ix2 r (⟨0 * 256 + c.val, by omega⟩ : Fin 1024))) (j : S1x256x256.Idx) :
    k0_pay16 (F := Ideal) (k0_pay12 u) (k0_pay14 i v0 v2 v7) j = gram (k0_pay5 i v0 v2 v7) U 0 (j 1) (j 2) := by
  have e : ∀ (r c : Fin 256), k0_pay12 (F := Ideal) u (ix2 r c) = u (ix2 r c) := fun r c => by pointwise [k0_pay12]
  pointwise [k0_pay16, k0_pay15, k0_pay14, k0_pay11, gram]
  refine Finset.sum_congr rfl fun r _ => congrArg₂ (fun a b : EReal => a * b) ?_ ?_
  · exact (e r (j 1)).trans ((hu r (j 1)).trans (congrArg (fun q => U (ix2 r q)) (Fin.ext (by simp))))
  · refine congrArg (fun q => k0_pay5 (F := Ideal) i v0 v2 v7 (ix2 (⟨r.val, by omega⟩ : Fin 272) q)) (Fin.ext ?_)
    simp

theorem pay23_apply (i : grid0.Coords) (v0 U : FVec Ideal S256x1024 .bf16) (v2 : FVec Ideal S16x1024 .bf16) (v7 : FVec Ideal S1x1024 .f32) (u : FVec Ideal S256x256 .bf16)
    (hu : ∀ (r c : Fin 256), u (ix2 r c) = U (ix2 r (⟨1 * 256 + c.val, by omega⟩ : Fin 1024))) (j : S1x256x256.Idx) :
    k0_pay23 (F := Ideal) (k0_pay22 (k0_pay5 i v0 v2 v7) u) j = gram (k0_pay5 i v0 v2 v7) U 1 (j 1) (j 2) := by
  have e : ∀ (r c : Fin 256), k0_pay20 (F := Ideal) u (ix2 r c) = u (ix2 r c) := fun r c => by pointwise [k0_pay20]
  pointwise [k0_pay23, k0_pay22, k0_pay19, gram]
  refine Finset.sum_congr rfl fun r _ => congrArg₂ (fun a b : EReal => a * b) ?_ ?_
  · exact (e r (j 1)).trans ((hu r (j 1)).trans (congrArg (fun q => U (ix2 r q)) (Fin.ext (by simp))))
  · refine congrArg (fun q => k0_pay5 (F := Ideal) i v0 v2 v7 (ix2 (⟨r.val, by omega⟩ : Fin 272) q)) (Fin.ext ?_)
    simp

theorem pay30_apply (i : grid0.Coords) (v0 U : FVec Ideal S256x1024 .bf16) (v2 : FVec Ideal S16x1024 .bf16) (v7 : FVec Ideal S1x1024 .f32) (u : FVec Ideal S256x256 .bf16)
    (hu : ∀ (r c : Fin 256), u (ix2 r c) = U (ix2 r (⟨2 * 256 + c.val, by omega⟩ : Fin 1024))) (j : S1x256x256.Idx) :
    k0_pay30 (F := Ideal) (k0_pay5 i v0 v2 v7) u j = gram (k0_pay5 i v0 v2 v7) U 2 (j 1) (j 2) := by
  have e : ∀ (r c : Fin 256), k0_pay27 (F := Ideal) u (ix2 r c) = u (ix2 r c) := fun r c => by pointwise [k0_pay27]
  pointwise [k0_pay30, k0_pay29, k0_pay26, gram]
  refine Finset.sum_congr rfl fun r _ => congrArg₂ (fun a b : EReal => a * b) ?_ ?_
  · exact (e r (j 1)).trans ((hu r (j 1)).trans (congrArg (fun q => U (ix2 r q)) (Fin.ext (by simp))))
  · refine congrArg (fun q => k0_pay5 (F := Ideal) i v0 v2 v7 (ix2 (⟨r.val, by omega⟩ : Fin 272) q)) (Fin.ext ?_)
    simp

theorem pay37_apply (i : grid0.Coords) (v0 U : FVec Ideal S256x1024 .bf16) (v2 : FVec Ideal S16x1024 .bf16) (v7 : FVec Ideal S1x1024 .f32) (u : FVec Ideal S256x256 .bf16)
    (hu : ∀ (r c : Fin 256), u (ix2 r c) = U (ix2 r (⟨3 * 256 + c.val, by omega⟩ : Fin 1024))) (j : S1x256x256.Idx) :
    k0_pay37 (F := Ideal) (k0_pay5 i v0 v2 v7) u j = gram (k0_pay5 i v0 v2 v7) U 3 (j 1) (j 2) := by
  have e : ∀ (r c : Fin 256), k0_pay34 (F := Ideal) u (ix2 r c) = u (ix2 r c) := fun r c => by pointwise [k0_pay34]
  pointwise [k0_pay37, k0_pay36, k0_pay33, gram]
  refine Finset.sum_congr rfl fun r _ => congrArg₂ (fun a b : EReal => a * b) ?_ ?_
  · exact (e r (j 1)).trans ((hu r (j 1)).trans (congrArg (fun q => U (ix2 r q)) (Fin.ext (by simp))))
  · refine congrArg (fun q => k0_pay5 (F := Ideal) i v0 v2 v7 (ix2 (⟨r.val, by omega⟩ : Fin 272) q)) (Fin.ext ?_)
    simp

theorem pay17_add (i : grid0.Coords) (v0 : FVec Ideal S256x1024 .bf16) (v2 : FVec Ideal S16x1024 .bf16) (v7 : FVec Ideal S1x1024 .f32) (u : FVec Ideal S256x256 .bf16)
    (a : FVec Ideal S1x256x256 .f32) (j : S1x256x256.Idx) :
    k0_pay17 (F := Ideal) (k0_pay12 u) (k0_pay14 i v0 v2 v7) a j = a j + k0_pay16 (F := Ideal) (k0_pay12 u) (k0_pay14 i v0 v2 v7) j := by
  pointwise [k0_pay17, k0_pay16]

theorem pay24_add (i : grid0.Coords) (v0 : FVec Ideal S256x1024 .bf16) (v2 : FVec Ideal S16x1024 .bf16) (v7 : FVec Ideal S1x1024 .f32) (u : FVec Ideal S256x256 .bf16)
    (a : FVec Ideal S1x256x256 .f32) (j : S1x256x256.Idx) :
    k0_pay24 (F := Ideal) (k0_pay22 (k0_pay5 i v0 v2 v7) u) a j = a j + k0_pay23 (F := Ideal) (k0_pay22 (k0_pay5 i v0 v2 v7) u) j := by
  pointwise [k0_pay24, k0_pay23]

theorem pay31_add (i : grid0.Coords) (v0 : FVec Ideal S256x1024 .bf16) (v2 : FVec Ideal S16x1024 .bf16) (v7 : FVec Ideal S1x1024 .f32) (u : FVec Ideal S256x256 .bf16)
    (a : FVec Ideal S1x256x256 .f32) (j : S1x256x256.Idx) :
    k0_pay31 (F := Ideal) (k0_pay29 (k0_pay5 i v0 v2 v7) u) a j = a j + k0_pay30 (F := Ideal) (k0_pay5 i v0 v2 v7) u j := by
  pointwise [k0_pay31, k0_pay30]

theorem pay1_add (i : grid0.Coords) (v0 : FVec Ideal S256x1024 .bf16) (v2 : FVec Ideal S16x1024 .bf16) (v7 : FVec Ideal S1x1024 .f32) (u : FVec Ideal S256x256 .bf16)
    (a : FVec Ideal S1x256x256 .f32) (j : S1x256x256.Idx) :
    k0_pay1 (F := Ideal) (k0_pay36 (k0_pay5 i v0 v2 v7) u) a j = a j + k0_pay37 (F := Ideal) (k0_pay5 i v0 v2 v7) u j := by
  pointwise [k0_pay1, k0_pay37]

theorem pay4_add (a b c d : FVec Ideal S1x256 .f32) (v : FVec Ideal S1x1024 .f32) (j : S1x1024.Idx) :
    k0_pay4 (F := Ideal) a b c d v j = v j + k0_pay3 (F := Ideal) a b c d j := by
  pointwise [k0_pay4]

theorem pay3_0 (a b c d : FVec Ideal S1x256 .f32) (j : S1x1024.Idx) (e : Fin 256) (h : (j 1).val = 0 * 256 + e.val) :
    k0_pay3 (F := Ideal) a b c d j = a (ix2 (0 : Fin 1) e) := by
  pointwise [k0_pay3]
  rw [dif_pos (by omega)]
  exact congrArg (fun q => a (ix2 (0 : Fin 1) q)) (Fin.ext (by dsimp only; omega))

theorem pay3_1 (a b c d : FVec Ideal S1x256 .f32) (j : S1x1024.Idx) (e : Fin 256) (h : (j 1).val = 1 * 256 + e.val) :
    k0_pay3 (F := Ideal) a b c d j = b (ix2 (0 : Fin 1) e) := by
  pointwise [k0_pay3]
  rw [dif_neg (by omega)]
  rw [dif_pos (by omega)]
  exact congrArg (fun q => b (ix2 (0 : Fin 1) q)) (Fin.ext (by dsimp only; omega))

theorem pay3_2 (a b c d : FVec Ideal S1x256 .f32) (j : S1x1024.Idx) (e : Fin 256) (h : (j 1).val = 2 * 256 + e.val) :
    k0_pay3 (F := Ideal) a b c d j = c (ix2 (0 : Fin 1) e) := by
  pointwise [k0_pay3]
  rw [dif_neg (by omega)]
  rw [dif_neg (by omega)]
  rw [dif_pos (by omega)]
  exact congrArg (fun q => c (ix2 (0 : Fin 1) q)) (Fin.ext (by dsimp only; omega))

theorem pay3_3 (a b c d : FVec Ideal S1x256 .f32) (j : S1x1024.Idx) (e : Fin 256) (h : (j 1).val = 3 * 256 + e.val) :
    k0_pay3 (F := Ideal) a b c d j = d (ix2 (0 : Fin 1) e) := by
  pointwise [k0_pay3]
  rw [dif_neg (by omega)]
  rw [dif_neg (by omega)]
  rw [dif_neg (by omega)]
  exact congrArg (fun q => d (ix2 (0 : Fin 1) q)) (Fin.ext (by dsimp only; omega))

theorem pay18_kz (i : grid0.Coords) (v0 : FVec Ideal S256x1024 .bf16) (v2 : FVec Ideal S16x1024 .bf16) (v7 : FVec Ideal S1x1024 .f32)
    (W : FVec Ideal S4x256x256 .bf16) (w : FVec Ideal S1x256x256 .bf16)
    (hw : ∀ (c d : Fin 256), w (ix3 (0 : Fin 1) c d) = W (ix3 (0 : Fin 4) c d)) (j : S256x256.Idx) :
    k0_pay18 (F := Ideal) (k0_pay7 i) (k0_pay11 i v0 v2 v7) w j = kz (k0_pay5 i v0 v2 v7) W 2 0 (i 0).val (j 0) (j 1) := by
  have e : ∀ (s : Fin 272) (c : Fin 256), back (k0_pay11 (F := Ideal) i v0 v2 v7) w c s = kback (k0_pay5 i v0 v2 v7) W 0 c s := fun s c => by
    refine Finset.sum_congr rfl fun d _ => congrArg₂ (fun a b : EReal => a * b) ?_ (hw c d)
    pointwise [k0_pay11]
  refine (pay18_apply _ _ _ j).trans ?_
  exact congrArg₂ (fun a b : EReal => a - b) (Finset.sum_congr rfl fun k _ => congrArg (fun F => ext 272 F ((j 0).val + k)) (funext fun s =>
    congrArg₂ Ideal.div (e s (j 1)) (pay7_apply i s))) (e _ (j 1))

theorem pay25_kz (i : grid0.Coords) (v0 : FVec Ideal S256x1024 .bf16) (v2 : FVec Ideal S16x1024 .bf16) (v7 : FVec Ideal S1x1024 .f32)
    (W : FVec Ideal S4x256x256 .bf16) (w : FVec Ideal S1x256x256 .bf16)
    (hw : ∀ (c d : Fin 256), w (ix3 (0 : Fin 1) c d) = W (ix3 (1 : Fin 4) c d)) (j : S256x256.Idx) :
    k0_pay25 (F := Ideal) (k0_pay8 i) (k0_pay19 (k0_pay5 i v0 v2 v7)) w j = kz (k0_pay5 i v0 v2 v7) W 4 1 (i 0).val (j 0) (j 1) := by
  have e : ∀ (s : Fin 272) (c : Fin 256), back (k0_pay19 (F := Ideal) (k0_pay5 i v0 v2 v7)) w c s = kback (k0_pay5 i v0 v2 v7) W 1 c s := fun s c => by
    refine Finset.sum_congr rfl fun d _ => congrArg₂ (fun a b : EReal => a * b) ?_ (hw c d)
    pointwise [k0_pay19]
  refine (pay25_apply _ _ _ j).trans ?_
  exact congrArg₂ (fun a b : EReal => a - b) (Finset.sum_congr rfl fun k _ => congrArg (fun F => ext 272 F ((j 0).val + k)) (funext fun s =>
    congrArg₂ Ideal.div (e s (j 1)) (pay8_apply i s))) (e _ (j 1))

theorem pay32_kz (i : grid0.Coords) (v0 : FVec Ideal S256x1024 .bf16) (v2 : FVec Ideal S16x1024 .bf16) (v7 : FVec Ideal S1x1024 .f32)
    (W : FVec Ideal S4x256x256 .bf16) (w : FVec Ideal S1x256x256 .bf16)
    (hw : ∀ (c d : Fin 256), w (ix3 (0 : Fin 1) c d) = W (ix3 (2 : Fin 4) c d)) (j : S256x256.Idx) :
    k0_pay32 (F := Ideal) (k0_pay9 i) (k0_pay26 (k0_pay5 i v0 v2 v7)) w j = kz (k0_pay5 i v0 v2 v7) W 8 2 (i 0).val (j 0) (j 1) := by
  have e : ∀ (s : Fin 272) (c : Fin 256), back (k0_pay26 (F := Ideal) (k0_pay5 i v0 v2 v7)) w c s = kback (k0_pay5 i v0 v2 v7) W 2 c s := fun s c => by
    refine Finset.sum_congr rfl fun d _ => congrArg₂ (fun a b : EReal => a * b) ?_ (hw c d)
    pointwise [k0_pay26]
  refine (pay32_apply _ _ _ j).trans ?_
  exact congrArg₂ (fun a b : EReal => a - b) (Finset.sum_congr rfl fun k _ => congrArg (fun F => ext 272 F ((j 0).val + k)) (funext fun s =>
    congrArg₂ Ideal.div (e s (j 1)) (pay9_apply i s))) (e _ (j 1))

theorem pay2_kz (i : grid0.Coords) (v0 : FVec Ideal S256x1024 .bf16) (v2 : FVec Ideal S16x1024 .bf16) (v7 : FVec Ideal S1x1024 .f32)
    (W : FVec Ideal S4x256x256 .bf16) (w : FVec Ideal S1x256x256 .bf16)
    (hw : ∀ (c d : Fin 256), w (ix3 (0 : Fin 1) c d) = W (ix3 (3 : Fin 4) c d)) (j : S256x256.Idx) :
    k0_pay2 (F := Ideal) (k0_pay10 i) (k0_pay33 (k0_pay5 i v0 v2 v7)) w j = kz (k0_pay5 i v0 v2 v7) W 16 3 (i 0).val (j 0) (j 1) := by
  have e : ∀ (s : Fin 272) (c : Fin 256), back (k0_pay33 (F := Ideal) (k0_pay5 i v0 v2 v7)) w c s = kback (k0_pay5 i v0 v2 v7) W 3 c s := fun s c => by
    refine Finset.sum_congr rfl fun d _ => congrArg₂ (fun a b : EReal => a * b) ?_ (hw c d)
    pointwise [k0_pay33]
  refine (pay2_apply _ _ _ j).trans ?_
  exact congrArg₂ (fun a b : EReal => a - b) (Finset.sum_congr rfl fun k _ => congrArg (fun F => ext 272 F ((j 0).val + k)) (funext fun s =>
    congrArg₂ Ideal.div (e s (j 1)) (pay10_apply i s))) (e _ (j 1))

end Cert.Proof.Poolb

end
-- ==== Proof.PoolbHost.lean ====
/-
  The pooled rows the gradient's call takes: the host's lines are the reference's.
-/
module

public import proofs.«01_k».proof.Proof.Gen.KPoolbIdeal.Value
public import proofs.«01_k».proof.Proof.Gen.RPoolbIdeal.Read
public import Idealize.ShloMosaic.Lib.Pipeline.ValueKit
public import Idealize.ShloMosaic.Lib.Pointwise
public import Idealize.ShloMosaic.Lib.StableHlo.RunRead

@[expose] public section

noncomputable section

namespace Cert.Proof.Poolb

open Cert.KPoolbIdeal Cert.KPoolbIdeal.Gen Idealize.ShloMosaic Idealize.ShloMosaic.TcCoe Idealize.SL.Sem

variable (m : (ℓ : Loc nD τ sig) → Buf (Elt Ideal) ℓ)

set_option maxHeartbeats 2000000 in
theorem group0 (c : Dev nD) : StableHlo.upto [hostOps0, hostOps0_1, hostOps0_2].flatten (fun b => m (c, b)) 149 (Proc.devRef .tc main_v117)
    = Cert.RPoolbIdeal.Read.val_main_v118 (F := Ideal) (m ((c : Thread nD τ).loc main_arg0)) := by
  after_reads_simp
  rfl

set_option maxHeartbeats 2000000 in
theorem group1 (c : Dev nD) : StableHlo.upto [hostOps0, hostOps0_1, hostOps0_2].flatten (fun b => m (c, b)) 149 (Proc.devRef .tc main_v118)
    = Cert.RPoolbIdeal.Read.val_main_v119 (F := Ideal) (m ((c : Thread nD τ).loc main_arg0)) := by
  after_reads_simp
  rfl

set_option maxHeartbeats 2000000 in
theorem group2 (c : Dev nD) : StableHlo.upto [hostOps0, hostOps0_1, hostOps0_2].flatten (fun b => m (c, b)) 149 (Proc.devRef .tc main_v119)
    = Cert.RPoolbIdeal.Read.val_main_v120 (F := Ideal) (m ((c : Thread nD τ).loc main_arg0)) := by
  after_reads_simp
  rfl

set_option maxHeartbeats 2000000 in
theorem group3 (c : Dev nD) : StableHlo.upto [hostOps0, hostOps0_1, hostOps0_2].flatten (fun b => m (c, b)) 149 (Proc.devRef .tc main_v120)
    = Cert.RPoolbIdeal.Read.val_main_v121 (F := Ideal) (m ((c : Thread nD τ).loc main_arg0)) := by
  after_reads_simp
  rfl

theorem four (a b d e a' b' d' e' : FVec Ideal S8192x1x256 .f32) (ha : a = a') (hb : b = b') (hd : d = d') (he : e = e') :
    (concatenate S8192x4x256 1 [⟨S8192x1x256, a⟩, ⟨S8192x1x256, b⟩, ⟨S8192x1x256, d⟩, ⟨S8192x1x256, e⟩]
        concatenates_S8192x1x256_S8192x1x256_S8192x1x256_S8192x1x256_S8192x4x256_d1 : FVec Ideal S8192x4x256 .f32)
      = concatenate S8192x4x256 1 [⟨S8192x1x256, a'⟩, ⟨S8192x1x256, b'⟩, ⟨S8192x1x256, d'⟩, ⟨S8192x1x256, e'⟩]
        concatenates_S8192x1x256_S8192x1x256_S8192x1x256_S8192x1x256_S8192x4x256_d1 := by
  subst ha hb hd he
  rfl

/-- The pooled rows at the region's entry are the reference's. -/
theorem pooled_read (c : Dev nD) : @Eq (FVec Ideal S8192x1024 .bf16) (V m c main_v128)
    (truncf .bf16 (Cert.RPoolbIdeal.Read.val_main_v128 (F := Ideal) (m ((c : Thread nD τ).loc main_arg0))) bitsLt_bf16_f32) := by
  entry_read
  after_reads_simp
  exact congrArg (fun y : FVec Ideal S8192x4x256 .f32 => (truncf .bf16 (shapeCast S8192x1024 y shapeCasts_S8192x4x256_S8192x1024 : FVec Ideal S8192x1024 .f32)
    bitsLt_bf16_f32 : FVec Ideal S8192x1024 .bf16)) (four _ _ _ _ _ _ _ _ (group0 m c) (group1 m c) (group2 m c) (group3 m c))

end Cert.Proof.Poolb

end
-- ==== Proof.Poolb.lean ====
/-
  The gradient through the pooling (`pool_bwd`): the cotangent of the pooled columns written into the gradient of z, and the
  gradients at the scale and at the mixing matrices, accumulated over the blocks of rows.
-/
module

public import proofs.«01_k».proof.Proof.Gen.KPoolbIdeal.Value
public import proofs.«01_k».proof.Proof.Gen.RPoolbIdeal.Read
public import Idealize.ShloMosaic.Lib.Pipeline.ValueKit
public import Idealize.ShloMosaic.Lib.Pipeline.ValueKit.Partial
public import Idealize.ShloMosaic.Lib.Pointwise
public import proofs.«01_k».proof.Proof.PoolbSum
public import proofs.«01_k».proof.Proof.PoolbK
public import proofs.«01_k».proof.Proof.PoolbHost
public import proofs.«01_k».proof.Pre_finite_poolb

@[expose] public section

noncomputable section

namespace Cert.Proof.Poolb

open Cert.KPoolbIdeal Cert.KPoolbIdeal.Gen Idealize.ShloMosaic Idealize.ShloMosaic.TcCoe Idealize.SL.Sem
open Idealize.ShloMosaic.Pipeline (Dat Cfg Window)
open Cert.Proof.Pool
open scoped BigOperators

variable (m : (ℓ : Loc nD τ sig) → Buf (Elt Ideal) ℓ)

theorem idx0 : ∀ t : Fin cfg0.N, win0_0.index t = ![t.val, 0] := (by decide +kernel : ∀ t : Fin grid0.N, _)
theorem idx1 : ∀ t : Fin cfg0.N, win0_1.index t = ![min ((t.val + 1) * 16) 511, 0] := (by decide +kernel : ∀ t : Fin grid0.N, _)
theorem idx2 : ∀ t : Fin cfg0.N, win0_2.index t = ![t.val, 0] := (by decide +kernel : ∀ t : Fin grid0.N, _)
theorem idx3 : ∀ t : Fin cfg0.N, win0_3.index t = ![0, 0, 0] := (by decide +kernel : ∀ t : Fin grid0.N, _)
theorem idx4 : ∀ t : Fin cfg0.N, win0_4.index t = ![0, 0] := (by decide +kernel : ∀ t : Fin grid0.N, _)
theorem idx5 : ∀ t : Fin cfg0.N, win0_5.index t = ![t.val, 4] := (by decide +kernel : ∀ t : Fin grid0.N, _)
theorem idx6 : ∀ t : Fin cfg0.N, win0_6.index t = ![0, 0] := (by decide +kernel : ∀ t : Fin grid0.N, _)
theorem idx7 : ∀ t : Fin cfg0.N, win0_7.index t = ![0, 0, 0] := (by decide +kernel : ∀ t : Fin grid0.N, _)
theorem co : ∀ t : Fin cfg0.N, (grid0.coords t 0).val = t.val := (by decide +kernel : ∀ t : Fin grid0.N, _)

/-- The cotangents of the mixed rows, the pooled rows, the mixing matrices and the scale at the region's entry. -/
def dp (c : Dev nD) : FVec Ideal S8192x1024 .bf16 := m ((c : Thread nD τ).loc main_arg3)
def pl (c : Dev nD) : FVec Ideal S8192x1024 .f32 := Cert.RPoolbIdeal.Read.val_main_v128 (F := Ideal) (m ((c : Thread nD τ).loc main_arg0))
def pm (c : Dev nD) : FVec Ideal S4x256x256 .bf16 := m ((c : Thread nD τ).loc main_arg1)
def sc (c : Dev nD) : FVec Ideal S1x1024 .f32 := m ((c : Thread nD τ).loc main_arg2)

theorem rd0 (c : Dev nD) (t : Fin cfg0.N) (r : Fin 256) (k : Fin 1024) (n : Fin 8192) (e : n.val = t.val * 256 + r.val) :
    (iblk m c 0 t : FVec Ideal S256x1024 .bf16) (ix2 r k) = dp m c (ix2 n k) := by
  unfold dp
  blk_point [iblk, V, idx0, e]

theorem rd1 (c : Dev nD) (t : Fin cfg0.N) (r : Fin 16) (k : Fin 1024) (n : Fin 8192) (h : t.val < 31) (e : n.val = t.val * 256 + 256 + r.val) :
    (iblk m c 1 t : FVec Ideal S16x1024 .bf16) (ix2 r k) = dp m c (ix2 n k) := by
  have e1 : min ((t.val + 1) * 16) 511 = (t.val + 1) * 16 := by omega
  unfold dp
  blk_point [iblk, V, idx1, e, e1]

theorem rd2 (c : Dev nD) (t : Fin cfg0.N) (r : Fin 256) (k : Fin 1024) (n : Fin 8192) (e : n.val = t.val * 256 + r.val) :
    (iblk m c 2 t : FVec Ideal S256x1024 .bf16) (ix2 r k) = pl m c (ix2 n k) := by
  have h : (iblk m c 2 t : FVec Ideal S256x1024 .bf16) (ix2 r k) = (V m c main_v128 : FVec Ideal S8192x1024 .bf16) (ix2 n k) := by
    blk_point [iblk, idx2, e]
  rw [h]
  exact congrFun (pooled_read m c) (ix2 n k)

theorem rd3 (c : Dev nD) (t : Fin cfg0.N) (i : S4x256x256.Idx) :
    (iblk m c 3 t : FVec Ideal S4x256x256 .bf16) i = pm m c i := by
  unfold pm
  blk_point [iblk, V, idx3]

theorem rd4 (c : Dev nD) (t : Fin cfg0.N) (i : S1x1024.Idx) :
    (iblk m c 4 t : FVec Ideal S1x1024 .f32) i = sc m c i := by
  unfold sc
  blk_point [iblk, V, idx4]

/-! ## The reference -/

section Ref
open Cert.RPoolbIdeal.Read

theorem pl_apply (x0 : FVec Ideal S8192x1024 .bf16) (t : Fin 8192) (g : Fin 4) (k : Fin 256) :
    val_main_v122 (F := Ideal) x0 (ix3 t g k) = val_main_v128 (F := Ideal) x0 (ix2 t (⟨g.val * 256 + k.val, by omega⟩ : Fin 1024)) := by
  pointwise [val_main_v128]

/-- One row's term of the gradient at the scale. -/
def sref (P : FVec Ideal S8192x1024 .f32) (x1 : FVec Ideal S4x256x256 .bf16) (x3 : FVec Ideal S8192x1024 .bf16) (g : Fin 4) (d : Fin 256) (t : Fin 8192) : EReal :=
  x3 (ix2 t (⟨g.val * 256 + d.val, by omega⟩ : Fin 1024))
    * ∑ k : Fin 256, P (ix2 t (⟨g.val * 256 + k.val, by omega⟩ : Fin 1024)) * x1 (ix3 g k d)

/-- One row's term of the gradient at a mixing matrix. -/
def gref (P : FVec Ideal S8192x1024 .f32) (x2 : FVec Ideal S1x1024 .f32) (x3 : FVec Ideal S8192x1024 .bf16) (g : Fin 4) (c d : Fin 256) (t : Fin 8192) : EReal :=
  P (ix2 t (⟨g.val * 256 + c.val, by omega⟩ : Fin 1024))
    * (x3 (ix2 t (⟨g.val * 256 + d.val, by omega⟩ : Fin 1024)) * x2 (ix2 (0 : Fin 1) (⟨g.val * 256 + d.val, by omega⟩ : Fin 1024)))

theorem v132_apply (x0 : FVec Ideal S8192x1024 .bf16) (x1 : FVec Ideal S4x256x256 .bf16) (x3 : FVec Ideal S8192x1024 .bf16) (g : Fin 4) (d : Fin 256) :
    val_main_v132 (F := Ideal) x0 x1 x3 (ix2 (0 : Fin 1) (⟨g.val * 256 + d.val, by omega⟩ : Fin 1024))
      = ∑ t : Fin 8192, sref (val_main_v128 (F := Ideal) x0) x1 x3 g d t := by
  have e := pl_apply x0
  pointwise [val_main_v132, val_main_v131, val_main_v130, val_main_v125, val_main_v124, val_main_v123, val_main_v129, val_main_v1, val_main_cst_25, sref]
  refine Finset.sum_congr rfl fun t _ => (mul_comm _ _).trans (congrArg (fun a : EReal => x3 (ix2 t (⟨g.val * 256 + d.val, by omega⟩ : Fin 1024)) * a) (Finset.sum_congr rfl fun k _ => ?_))
  exact (mul_comm _ _).trans (congrArg (fun a : EReal => a * x1 (ix3 g k d)) (e t g k))

theorem v140_apply (x0 : FVec Ideal S8192x1024 .bf16) (x2 : FVec Ideal S1x1024 .f32) (x3 : FVec Ideal S8192x1024 .bf16) (g : Fin 4) (c d : Fin 256) :
    val_main_v140 (F := Ideal) x0 x2 x3 (ix3 g c d) = ∑ t : Fin 8192, gref (val_main_v128 (F := Ideal) x0) x2 x3 g c d t := by
  have e := pl_apply x0
  pointwise [val_main_v140, val_main_v139, val_main_v136, val_main_v135, val_main_v134, val_main_v133, val_main_v129, gref]
  refine Finset.sum_congr rfl fun t _ => (mul_comm _ _).trans ?_
  exact congrArg (fun a : EReal => a * (x3 (ix2 t (⟨g.val * 256 + d.val, by omega⟩ : Fin 1024)) * x2 (ix2 (0 : Fin 1) (⟨g.val * 256 + d.val, by omega⟩ : Fin 1024)))) (e t g c)

theorem v205_apply (x1 : FVec Ideal S4x256x256 .bf16) (x2 : FVec Ideal S1x1024 .f32) (x3 : FVec Ideal S8192x1024 .bf16) (x4 : FVec Ideal S8192x6400 .bf16) (i : S8192x6400.Idx) :
    val_main_v205 (F := Ideal) x1 x2 x3 x4 i
      = if h : 4096 ≤ (i 1).val ∧ (i 1).val < 5120 then val_main_v203 (F := Ideal) x1 x2 x3 (ix2 (i 0) (⟨(i 1).val - 4096, by omega⟩ : Fin 1024)) else x4 i := by
  have hs : Cert.RPoolbIdeal.S8192x6400.Slices ![0, 4096] Cert.RPoolbIdeal.S8192x1024 := ⟨rfl, by decide⟩
  have e : val_main_v205 (F := Ideal) x1 x2 x3 x4 = updateSlice x4 (val_main_v204 (F := Ideal) x1 x2 x3) ![0, 4096] hs := by
    unfold val_main_v205
    refine Host.dynamicUpdateSlice_eq_updateSlice (s := Cert.RPoolbIdeal.S8192x6400) (u := Cert.RPoolbIdeal.S8192x1024) x4 _ _ _ ![0, 4096] (fun a => ?_) hs
    fin_cases a <;> rfl
  rw [e]
  pointwise [val_main_v204]

end Ref

/-! ## The sums over the points -/

theorem hcol (U : FVec Ideal S256x1024 .bf16) (o : Nat) (h) (r c : Fin 256) (q : Fin 1024) (e : q.val = o + c.val) :
    @Eq EReal (View.ld (Val := Elt Ideal) (e' := .bf16) U (Rect.unit (s := S256x1024) ![0, o] ![256, 256] h) (ix2 r c)) (U (ix2 r q)) :=
  View.ld_unit_apply_of (S := S256x1024) (Val := Elt Ideal) (e := .bf16) U _ _ _ _ _ fun a => by
    fin_cases a <;> simp [ix2, e]

theorem hmat (W : FVec Ideal S4x256x256 .bf16) (o : Nat) (h) (c d : Fin 256) (g : Fin 4) (e : g.val = o) :
    @Eq EReal (View.ld (Val := Elt Ideal) (e' := .bf16) W (Rect.unit (s := S4x256x256) ![o, 0, 0] ![1, 256, 256] h) (ix3 (0 : Fin 1) c d)) (W (ix3 g c d)) :=
  View.ld_unit_apply_of (S := S4x256x256) (Val := Elt Ideal) (e := .bf16) W _ _ _ _ _ fun a => by
    fin_cases a <;> simp [ix3, e]

theorem hacc (W : FVec Ideal S4x256x256 .f32) (o : Nat) (h) (x : S1x256x256.Idx) (y : S4x256x256.Idx) (e0 : (y 0).val = o) (e1 : (y 1).val = (x 1).val) (e2 : (y 2).val = (x 2).val) :
    @Eq EReal (View.ld (Val := Elt Ideal) (e' := .f32) W (Rect.unit (s := S4x256x256) ![o, 0, 0] ![1, 256, 256] h) x) (W y) :=
  View.ld_unit_apply_of (S := S4x256x256) (Val := Elt Ideal) (e := .f32) W _ _ _ _ _ fun a => by
    have h0 : (x 0).val = 0 := by have := (x 0).isLt; exact Nat.lt_one_iff.mp this
    fin_cases a <;> simp [e0, e1, e2, h0]

/-- The group and the place in the group of a column. -/
def grp (q : Fin 1024) : Fin 4 := ⟨q.val / 256, by omega⟩
def col (q : Fin 1024) : Fin 256 := ⟨q.val % 256, by omega⟩

/-- What a point adds at the scale. -/
def sterm (c : Dev nD) (t : Fin cfg0.N) (j : S1x1024.Idx) : EReal :=
  scaleRow (iblk m c 0 t) (iblk m c 2 t) (iblk m c 3 t) (grp (j 1)) (col (j 1))

theorem pay3_scale (x U : FVec Ideal S256x1024 .bf16) (W : FVec Ideal S4x256x256 .bf16) (h0 h1 h2 h3 k0 k1 k2 k3) (j : S1x1024.Idx) :
    k0_pay3 (F := Ideal)
      (k0_pay13 x (View.ld (Val := Elt Ideal) (e' := .bf16) U (Rect.unit (s := S256x1024) ![0, 0] ![256, 256] h0)) (View.ld (Val := Elt Ideal) (e' := .bf16) W (Rect.unit (s := S4x256x256) ![0, 0, 0] ![1, 256, 256] k0)))
      (k0_pay21 x (View.ld (Val := Elt Ideal) (e' := .bf16) U (Rect.unit (s := S256x1024) ![0, 256] ![256, 256] h1)) (View.ld (Val := Elt Ideal) (e' := .bf16) W (Rect.unit (s := S4x256x256) ![1, 0, 0] ![1, 256, 256] k1)))
      (k0_pay28 x (View.ld (Val := Elt Ideal) (e' := .bf16) U (Rect.unit (s := S256x1024) ![0, 512] ![256, 256] h2)) (View.ld (Val := Elt Ideal) (e' := .bf16) W (Rect.unit (s := S4x256x256) ![2, 0, 0] ![1, 256, 256] k2)))
      (k0_pay35 x (View.ld (Val := Elt Ideal) (e' := .bf16) U (Rect.unit (s := S256x1024) ![0, 768] ![256, 256] h3)) (View.ld (Val := Elt Ideal) (e' := .bf16) W (Rect.unit (s := S4x256x256) ![3, 0, 0] ![1, 256, 256] k3))) j
      = scaleRow x U W (grp (j 1)) (col (j 1)) := by
  have hj : (j 1).val < 1024 := (j 1).isLt
  have hd : (j 1).val = (grp (j 1)).val * 256 + (col (j 1)).val := by dsimp only [grp, col]; omega
  generalize col (j 1) = d at hd ⊢
  generalize grp (j 1) = g at hd ⊢
  fin_cases g
  · exact (pay3_0 _ _ _ _ j d hd).trans (pay13_apply x U W _ _ (fun r c => hcol U 0 _ r c _ (by simp)) (fun c d => hmat W 0 _ c d _ rfl) d)
  · exact (pay3_1 _ _ _ _ j d hd).trans (pay21_apply x U W _ _ (fun r c => hcol U 256 _ r c _ (by simp)) (fun c d => hmat W 1 _ c d _ rfl) d)
  · exact (pay3_2 _ _ _ _ j d hd).trans (pay28_apply x U W _ _ (fun r c => hcol U 512 _ r c _ (by simp)) (fun c d => hmat W 2 _ c d _ rfl) d)
  · exact (pay3_3 _ _ _ _ j d hd).trans (pay35_apply x U W _ _ (fun r c => hcol U 768 _ r c _ (by simp)) (fun c d => hmat W 3 _ c d _ rfl) d)

theorem sacc (c : Dev nD) (t : Fin cfg0.N) (h : t.val % 32 = 31) (j : S1x1024.Idx) :
    ((outsAt0 m c t.val t.isLt).2.1 : FVec Ideal S1x1024 .f32) j
      = 0 + ∑ s : Fin 32, sterm m c ⟨32 * (t.val / 32) + s.val, Pipeline.run_point_lt_of_flush t h s⟩ j := by
  refine Pipeline.eq_sum_fin_of_reset_step_apply_of_flush (fun n h => ((outsAt0 m c n h).2.1 : FVec Ideal S1x1024 .f32)) 32 (fun _ => (0 : EReal))
    (sterm m c) ?_ ?_ t h j
  · intro t h0 j
    have hN : t.val < 32 := lt_of_lt_of_eq t.isLt N_0
    rw [outsAt0_A m c t (by omega) (by omega) (by omega) (by omega) (by omega) (by omega) (by omega) (by omega) (by omega) (by omega)]; frame_out
    rw [zero_add, sterm]
    exact pay3_scale _ _ _ _ _ _ _ _ _ _ _ j
  · intro t h0 j
    have hN : t.val < 32 := lt_of_lt_of_eq t.isLt N_0
    rw [outsAt0_B m c t (by omega) (by omega) (by omega) (by omega) (by omega) (by omega) (by omega) (by omega) (by omega) (by omega)]; frame_out
    refine (pay4_add _ _ _ _ _ j).trans ?_
    exact congrArg (fun a : EReal => (outsAt0 m c (t.val - 1) _).2.1 j + a) (pay3_scale _ _ _ _ _ _ _ _ _ _ _ j)

/-- What a point adds at a mixing matrix. -/
def gterm (c : Dev nD) (t : Fin cfg0.N) (j : S4x256x256.Idx) : EReal :=
  gram (k0_pay5 (grid0.coords t) (iblk m c 0 t) (iblk m c 1 t) (iblk m c 4 t)) (iblk m c 2 t) (j 0) (j 1) (j 2)

theorem gterm_eq (c : Dev nD) (t : Fin cfg0.N) (j : S4x256x256.Idx) (g : Fin 4) (p d : Fin 256) (e0 : (j 0).val = g.val) (e1 : (j 1).val = p.val) (e2 : (j 2).val = d.val) :
    gram (k0_pay5 (grid0.coords t) (iblk m c 0 t) (iblk m c 1 t) (iblk m c 4 t)) (iblk m c 2 t) g p d = gterm m c t j := by
  obtain rfl : j 0 = g := Fin.ext e0
  obtain rfl : j 1 = p := Fin.ext e1
  obtain rfl : j 2 = d := Fin.ext e2
  rfl

theorem gacc (c : Dev nD) (t : Fin cfg0.N) (h : t.val % 32 = 31) (j : S4x256x256.Idx) :
    ((outsAt0 m c t.val t.isLt).2.2 : FVec Ideal S4x256x256 .f32) j
      = 0 + ∑ s : Fin 32, gterm m c ⟨32 * (t.val / 32) + s.val, Pipeline.run_point_lt_of_flush t h s⟩ j := by
  refine Pipeline.eq_sum_fin_of_reset_step_apply_of_flush (fun n h => ((outsAt0 m c n h).2.2 : FVec Ideal S4x256x256 .f32)) 32 (fun _ => (0 : EReal))
    (gterm m c) ?_ ?_ t h j
  · intro t h0 j
    have hN : t.val < 32 := lt_of_lt_of_eq t.isLt N_0
    rw [outsAt0_A m c t (by omega) (by omega) (by omega) (by omega) (by omega) (by omega) (by omega) (by omega) (by omega) (by omega)]; frame_out
    rw [zero_add]
    canon_tiles x h
    · exact (pay37_apply _ _ _ _ _ _ (fun r k => hcol (iblk m c 2 t) 768 _ r k _ (by simp)) x).trans (gterm_eq m c t j 3 (x 1) (x 2) (by rw [h0]; simp) h1 h2)
    · exact (pay30_apply _ _ _ _ _ _ (fun r k => hcol (iblk m c 2 t) 512 _ r k _ (by simp)) x).trans (gterm_eq m c t j 2 (x 1) (x 2) (by rw [h0]; simp) h1 h2)
    · exact (pay23_apply _ _ _ _ _ _ (fun r k => hcol (iblk m c 2 t) 256 _ r k _ (by simp)) x).trans (gterm_eq m c t j 1 (x 1) (x 2) (by rw [h0]; simp) h1 h2)
    · exact (pay16_apply _ _ _ _ _ _ (fun r k => hcol (iblk m c 2 t) 0 _ r k _ (by simp)) x).trans (gterm_eq m c t j 0 (x 1) (x 2) (by rw [h0]; simp) h1 h2)
  · intro t h0 j
    have hN : t.val < 32 := lt_of_lt_of_eq t.isLt N_0
    rw [outsAt0_B m c t (by omega) (by omega) (by omega) (by omega) (by omega) (by omega) (by omega) (by omega) (by omega) (by omega)]; frame_out
    canon_tiles x h
    · exact (pay1_add _ _ _ _ _ _ x).trans (congrArg₂ (fun a b : EReal => a + b) (hacc _ 3 _ x j (by rw [h0]; simp) h1 h2)
        ((pay37_apply _ _ _ _ _ _ (fun r k => hcol (iblk m c 2 t) 768 _ r k _ (by simp)) x).trans (gterm_eq m c t j 3 (x 1) (x 2) (by rw [h0]; simp) h1 h2)))
    · exact (pay31_add _ _ _ _ _ _ x).trans (congrArg₂ (fun a b : EReal => a + b) (hacc _ 2 _ x j (by rw [h0]; simp) h1 h2)
        ((pay30_apply _ _ _ _ _ _ (fun r k => hcol (iblk m c 2 t) 512 _ r k _ (by simp)) x).trans (gterm_eq m c t j 2 (x 1) (x 2) (by rw [h0]; simp) h1 h2)))
    · exact (pay24_add _ _ _ _ _ _ x).trans (congrArg₂ (fun a b : EReal => a + b) (hacc _ 1 _ x j (by rw [h0]; simp) h1 h2)
        ((pay23_apply _ _ _ _ _ _ (fun r k => hcol (iblk m c 2 t) 256 _ r k _ (by simp)) x).trans (gterm_eq m c t j 1 (x 1) (x 2) (by rw [h0]; simp) h1 h2)))
    · exact (pay17_add _ _ _ _ _ _ x).trans (congrArg₂ (fun a b : EReal => a + b) (hacc _ 0 _ x j (by rw [h0]; simp) h1 h2)
        ((pay16_apply _ _ _ _ _ _ (fun r k => hcol (iblk m c 2 t) 0 _ r k _ (by simp)) x).trans (gterm_eq m c t j 0 (x 1) (x 2) (by rw [h0]; simp) h1 h2)))

/-! ## The rows a point reads -/

theorem row_in (c : Dev nD) (t : Fin cfg0.N) (n : Fin 272) (k : Fin 1024) (N : Fin 8192) (e : N.val = t.val * 256 + n.val) :
    k0_pay5 (F := Ideal) (grid0.coords t) (iblk m c 0 t) (iblk m c 1 t) (iblk m c 4 t) (ix2 n k) = dp m c (ix2 N k) * sc m c (ix2 (0 : Fin 1) k) := by
  have hn := n.isLt
  have hN := N.isLt
  have hc := co t
  refine (pay5_apply _ _ _ _ n k).trans (congrArg₂ (fun a b : EReal => a * b) ?_ (rd4 m c t _))
  by_cases h : n.val < 256
  · rw [dif_pos h]
    exact rd0 m c t ⟨n.val, h⟩ k N e
  · rw [dif_neg h, if_pos (by omega)]
    exact rd1 m c t ⟨n.val - 256, by omega⟩ k N (by omega) (by dsimp only; omega)

theorem row_out (c : Dev nD) (t : Fin cfg0.N) (n : Fin 272) (k : Fin 1024) (e : 8192 ≤ t.val * 256 + n.val) :
    k0_pay5 (F := Ideal) (grid0.coords t) (iblk m c 0 t) (iblk m c 1 t) (iblk m c 4 t) (ix2 n k) = 0 := by
  have hN : t.val < 32 := lt_of_lt_of_eq t.isLt N_0
  have hn := n.isLt
  have hc := co t
  refine (pay5_apply _ _ _ _ n k).trans ?_
  rw [dif_neg (by omega), if_neg (by omega), zero_mul]

theorem kback_in (c : Dev nD) (t : Fin cfg0.N) (g : Fin 4) (q : Fin 256) (n : Fin 272) (N : Fin 8192) (e : N.val = t.val * 256 + n.val) :
    kback (k0_pay5 (F := Ideal) (grid0.coords t) (iblk m c 0 t) (iblk m c 1 t) (iblk m c 4 t)) (iblk m c 3 t) g q n = dpl (pm m c) (sc m c) (dp m c) g q N :=
  Finset.sum_congr rfl fun d _ => congrArg₂ (fun a b : EReal => a * b) (row_in m c t n _ N e) (rd3 m c t _)

theorem kback_out (c : Dev nD) (t : Fin cfg0.N) (g : Fin 4) (q : Fin 256) (n : Fin 272) (e : 8192 ≤ t.val * 256 + n.val) :
    kback (k0_pay5 (F := Ideal) (grid0.coords t) (iblk m c 0 t) (iblk m c 1 t) (iblk m c 4 t)) (iblk m c 3 t) g q n = 0 :=
  Finset.sum_eq_zero fun d _ => by rw [row_out m c t n _ e, zero_mul]

theorem zero_div_cnt (w n : Nat) (hw : 0 < w) : Ideal.div 0 (cnt w n) = 0 := by
  have h0 : (((min (n + 1) w : Nat) : ℝ)) ≠ 0 := by
    have : 0 < min (n + 1) w := by omega
    exact_mod_cast this.ne'
  rw [cnt, Ideal.div_coe h0, zero_mul]

theorem wd_le (g : Fin 4) : wd g ≤ 16 := by fin_cases g <;> decide

theorem kz_eq (c : Dev nD) (hD : ∀ (g : Fin 4) (q : Fin 256) (t : Fin 8192), IsReal (dpl (pm m c) (sc m c) (dp m c) g q t))
    (t : Fin cfg0.N) (g : Fin 4) (r q : Fin 256) (N : Fin 8192) (e : N.val = t.val * 256 + r.val) :
    kz (k0_pay5 (F := Ideal) (grid0.coords t) (iblk m c 0 t) (iblk m c 1 t) (iblk m c 4 t)) (iblk m c 3 t) (wd g) g (grid0.coords t 0).val r q
      = Cert.RPoolbIdeal.Read.val_main_v203 (F := Ideal) (pm m c) (sc m c) (dp m c) (ix2 N (⟨g.val * 256 + q.val, by omega⟩ : Fin 1024)) := by
  rw [v203_apply _ _ _ hD, kz, kback_in m c t g q _ N e, sub_eq_add_neg, add_comm]
  refine congrArg (fun a : EReal => -(dpl (pm m c) (sc m c) (dp m c) g q N) + a) (Finset.sum_congr rfl fun k hk => ?_)
  have hk' : k < wd g := Finset.mem_range.mp hk
  have hw := wd_le g
  have hr := r.isLt
  have hc := co t
  rw [ext_of_lt _ _ (show r.val + k < 272 by omega), bx]
  by_cases h : N.val + k < 8192
  · rw [ext_of_lt _ _ h]
    refine congrArg₂ Ideal.div (kback_in m c t g q _ ⟨N.val + k, h⟩ (by dsimp only; omega)) (congrArg (cnt (wd g)) ?_)
    dsimp only
    omega
  · rw [kback_out m c t g q _ (by dsimp only; omega), zero_div_cnt _ _ (wd_pos g), ext, dif_neg h]

/-- What a point writes. -/
def zcell (c : Dev nD) (t : Fin cfg0.N) (y : S256x1024.Idx) : EReal :=
  kz (k0_pay5 (F := Ideal) (grid0.coords t) (iblk m c 0 t) (iblk m c 1 t) (iblk m c 4 t)) (iblk m c 3 t) (wd (grp (y 1))) (grp (y 1)) (grid0.coords t 0).val (y 0) (col (y 1))

theorem zcell_eq (c : Dev nD) (t : Fin cfg0.N) (y : S256x1024.Idx) (g : Fin 4) (r q : Fin 256) (e0 : (y 0).val = r.val) (e1 : (y 1).val = g.val * 256 + q.val) :
    kz (k0_pay5 (F := Ideal) (grid0.coords t) (iblk m c 0 t) (iblk m c 1 t) (iblk m c 4 t)) (iblk m c 3 t) (wd g) g (grid0.coords t 0).val r q = zcell m c t y := by
  have hq := q.isLt
  obtain rfl : grp (y 1) = g := Fin.ext (by dsimp only [grp]; omega)
  obtain rfl : col (y 1) = q := Fin.ext (by dsimp only [grp, col] at e1 ⊢; omega)
  obtain rfl : y 0 = r := Fin.ext e0
  rfl

theorem zblock (c : Dev nD) (t : Fin cfg0.N) (y : S256x1024.Idx) :
    ((outsAt0 m c t.val t.isLt).1 : FVec Ideal S256x1024 .bf16) y = zcell m c t y := by
  have hN : t.val < 32 := lt_of_lt_of_eq t.isLt N_0
  by_cases h32 : t.val % 32 = 0
  · rw [outsAt0_A m c t (by omega) (by omega) (by omega) (by omega) (by omega) (by omega) (by omega) (by omega) (by omega) (by omega)]; frame_out
    canon_tiles x h
    · exact (pay2_kz _ _ _ _ (iblk m c 3 t) _ (fun a b => hmat (iblk m c 3 t) 3 _ a b _ rfl) x).trans (zcell_eq m c t y 3 (x 0) (x 1) (by first | exact h0 | (rw [h0]; simp)) (by first | (rw [h1]; simp) | (simp; omega)))
    · exact (pay32_kz _ _ _ _ (iblk m c 3 t) _ (fun a b => hmat (iblk m c 3 t) 2 _ a b _ rfl) x).trans (zcell_eq m c t y 2 (x 0) (x 1) (by first | exact h0 | (rw [h0]; simp)) (by first | (rw [h1]; simp) | (simp; omega)))
    · exact (pay25_kz _ _ _ _ (iblk m c 3 t) _ (fun a b => hmat (iblk m c 3 t) 1 _ a b _ rfl) x).trans (zcell_eq m c t y 1 (x 0) (x 1) (by first | exact h0 | (rw [h0]; simp)) (by first | (rw [h1]; simp) | (simp; omega)))
    · exact (pay18_kz _ _ _ _ (iblk m c 3 t) _ (fun a b => hmat (iblk m c 3 t) 0 _ a b _ rfl) x).trans (zcell_eq m c t y 0 (x 0) (x 1) (by first | exact h0 | (rw [h0]; simp)) (by first | (rw [h1]; simp) | (simp; omega)))
  · rw [outsAt0_B m c t (by omega) (by omega) (by omega) (by omega) (by omega) (by omega) (by omega) (by omega) (by omega) (by omega)]; frame_out
    canon_tiles x h
    · exact (pay2_kz _ _ _ _ (iblk m c 3 t) _ (fun a b => hmat (iblk m c 3 t) 3 _ a b _ rfl) x).trans (zcell_eq m c t y 3 (x 0) (x 1) (by first | exact h0 | (rw [h0]; simp)) (by first | (rw [h1]; simp) | (simp; omega)))
    · exact (pay32_kz _ _ _ _ (iblk m c 3 t) _ (fun a b => hmat (iblk m c 3 t) 2 _ a b _ rfl) x).trans (zcell_eq m c t y 2 (x 0) (x 1) (by first | exact h0 | (rw [h0]; simp)) (by first | (rw [h1]; simp) | (simp; omega)))
    · exact (pay25_kz _ _ _ _ (iblk m c 3 t) _ (fun a b => hmat (iblk m c 3 t) 1 _ a b _ rfl) x).trans (zcell_eq m c t y 1 (x 0) (x 1) (by first | exact h0 | (rw [h0]; simp)) (by first | (rw [h1]; simp) | (simp; omega)))
    · exact (pay18_kz _ _ _ _ (iblk m c 3 t) _ (fun a b => hmat (iblk m c 3 t) 0 _ a b _ rfl) x).trans (zcell_eq m c t y 0 (x 0) (x 1) (by first | exact h0 | (rw [h0]; simp)) (by first | (rw [h1]; simp) | (simp; omega)))

/-! ## The results -/

/-- One row's term of what a point adds at the scale, and at a mixing matrix. -/
def srow (x u : FVec Ideal S256x1024 .bf16) (w : FVec Ideal S4x256x256 .bf16) (g : Fin 4) (d r : Fin 256) : EReal :=
  x (ix2 r (⟨g.val * 256 + d.val, by omega⟩ : Fin 1024))
    * ∑ k : Fin 256, u (ix2 r (⟨g.val * 256 + k.val, by omega⟩ : Fin 1024)) * w (ix3 g k d)
def grow (v : FVec Ideal S272x1024 .f32) (u : FVec Ideal S256x1024 .bf16) (g : Fin 4) (c d r : Fin 256) : EReal :=
  u (ix2 r (⟨g.val * 256 + c.val, by omega⟩ : Fin 1024))
    * v (ix2 (⟨r.val, by omega⟩ : Fin 272) (⟨g.val * 256 + d.val, by omega⟩ : Fin 1024))

theorem scale_rows (x u : FVec Ideal S256x1024 .bf16) (w : FVec Ideal S4x256x256 .bf16) (g : Fin 4) (d : Fin 256) :
    scaleRow x u w g d = ∑ r : Fin 256, srow x u w g d r := rfl
theorem gram_rows (v : FVec Ideal S272x1024 .f32) (u : FVec Ideal S256x1024 .bf16) (g : Fin 4) (c d : Fin 256) :
    gram v u g c d = ∑ r : Fin 256, grow v u g c d r := rfl

theorem srow_eq (c : Dev nD) (s : Fin cfg0.N) (g : Fin 4) (d r : Fin 256) (n : Fin 8192) (e : n.val = s.val * 256 + r.val) :
    srow (iblk m c 0 s) (iblk m c 2 s) (iblk m c 3 s) g d r = sref (pl m c) (pm m c) (dp m c) g d n :=
  congrArg₂ (fun a b : EReal => a * b) (rd0 m c s r _ n e) (Finset.sum_congr rfl fun k _ =>
    congrArg₂ (fun a b : EReal => a * b) (rd2 m c s r _ n e) (rd3 m c s _))

theorem grow_eq (c : Dev nD) (s : Fin cfg0.N) (g : Fin 4) (p d r : Fin 256) (n : Fin 8192) (e : n.val = s.val * 256 + r.val) :
    grow (k0_pay5 (F := Ideal) (grid0.coords s) (iblk m c 0 s) (iblk m c 1 s) (iblk m c 4 s)) (iblk m c 2 s) g p d r = gref (pl m c) (sc m c) (dp m c) g p d n :=
  congrArg₂ (fun a b : EReal => a * b) (rd2 m c s r _ n e) (row_in m c s _ _ n e)

theorem sblock (c : Dev nD) (t : Fin cfg0.N) (h : t.val % 32 = 31) (y : S1x1024.Idx) :
    ((outsAt0 m c t.val t.isLt).2.1 : FVec Ideal S1x1024 .f32) y
      = Cert.RPoolbIdeal.Read.val_main_v132 (F := Ideal) (m ((c : Thread nD τ).loc main_arg0)) (m ((c : Thread nD τ).loc main_arg1)) (m ((c : Thread nD τ).loc main_arg3)) y := by
  have hN : t.val < 32 := lt_of_lt_of_eq t.isLt N_0
  have hy : (y 1).val < 1024 := (y 1).isLt
  have hy0 : (y 0).val < 1 := (y 0).isLt
  have he : y = ix2 (0 : Fin 1) (⟨(grp (y 1)).val * 256 + (col (y 1)).val, by dsimp only [grp, col]; omega⟩ : Fin 1024) :=
    funext (Fin.forall_fin_two.mpr ⟨Fin.ext (Nat.lt_one_iff.mp hy0), Fin.ext (by dsimp only [ix2, grp, col]; show (y 1).val = (y 1).val / 256 * 256 + (y 1).val % 256; omega)⟩)
  refine (sacc m c t h y).trans (Eq.trans ?_ ((congrArg _ he).trans (v132_apply _ _ _ (grp (y 1)) (col (y 1)))).symm)
  rw [zero_add]
  simp only [sterm, scale_rows]
  refine Fin.sum_mul_add_congr fun s r hl => srow_eq m c _ _ _ _ _ ?_
  dsimp only
  omega

theorem gblock (c : Dev nD) (t : Fin cfg0.N) (h : t.val % 32 = 31) (y : S4x256x256.Idx) :
    ((outsAt0 m c t.val t.isLt).2.2 : FVec Ideal S4x256x256 .f32) y
      = Cert.RPoolbIdeal.Read.val_main_v140 (F := Ideal) (m ((c : Thread nD τ).loc main_arg0)) (m ((c : Thread nD τ).loc main_arg2)) (m ((c : Thread nD τ).loc main_arg3)) y := by
  have hN : t.val < 32 := lt_of_lt_of_eq t.isLt N_0
  have he : y = ix3 (y 0) (y 1) (y 2) := by
    funext a
    fin_cases a <;> rfl
  refine (gacc m c t h y).trans (Eq.trans ?_ ((congrArg _ he).trans (v140_apply _ _ _ (y 0) (y 1) (y 2))).symm)
  rw [zero_add]
  simp only [gterm, gram_rows]
  refine Fin.sum_mul_add_congr fun s r hl => grow_eq m c _ _ _ _ _ _ ?_
  dsimp only
  omega

theorem zat (c : Dev nD) (hD : ∀ (g : Fin 4) (q : Fin 256) (t : Fin 8192), IsReal (dpl (pm m c) (sc m c) (dp m c) g q t)) (t : Fin cfg0.N) (y : S256x1024.Idx)
    (x4 : FVec Ideal S8192x6400 .bf16) (i : S8192x6400.Idx) (h0 : (i 0).val = t.val * 256 + (y 0).val) (h1 : (i 1).val = 4 * 1024 + (y 1).val) :
    ((outsAt0 m c t.val t.isLt).1 : FVec Ideal S256x1024 .bf16) y
      = Cert.RPoolbIdeal.Read.val_main_v205 (F := Ideal) (pm m c) (sc m c) (dp m c) x4 i := by
  have hy : (y 1).val < 1024 := (y 1).isLt
  refine (zblock m c t y).trans ((kz_eq m c hD t (grp (y 1)) (y 0) (col (y 1)) (i 0) h0).trans (Eq.trans ?_ ((v205_apply _ _ _ x4 i).trans (dif_pos (by omega))).symm))
  refine congrArg (fun q => Cert.RPoolbIdeal.Read.val_main_v203 (F := Ideal) (pm m c) (sc m c) (dp m c) (ix2 (i 0) q)) (Fin.ext ?_)
  dsimp only [grp, col]
  omega

/-- THE GRADIENT AT THE SCALE. -/
theorem final_s (c : Dev nD) :
    (dats m 0 c).arrAt 6 cfg0.N
      = Cert.RPoolbIdeal.Read.val_main_v132 (F := Ideal) (m ((c : Thread nD τ).loc main_arg0)) (m ((c : Thread nD τ).loc main_arg1)) (m ((c : Thread nD τ).loc main_arg3)) := by
  refine (dats m 0 c).arrAt_eq_of_covers 6 _ (by decide +kernel) fun t hf y => ?_
  rw [after0_6]
  refine (sblock m c t ((flush0_6 t).mp hf) y).trans ?_
  have h1 : (((cfg0.win 6).blk t).view.emb y) 1 = y 1 := Fin.ext (by blk_simp [idx6])
  have h0 : (((cfg0.win 6).blk t).view.emb y) 0 = y 0 := Fin.ext (by blk_simp [idx6])
  exact congrArg (Cert.RPoolbIdeal.Read.val_main_v132 (F := Ideal) _ _ _) (funext (Fin.forall_fin_two.mpr ⟨h0.symm, h1.symm⟩))

/-- THE GRADIENT AT THE MIXING MATRICES. -/
theorem final_m (c : Dev nD) :
    (dats m 0 c).arrAt 7 cfg0.N
      = Cert.RPoolbIdeal.Read.val_main_v140 (F := Ideal) (m ((c : Thread nD τ).loc main_arg0)) (m ((c : Thread nD τ).loc main_arg2)) (m ((c : Thread nD τ).loc main_arg3)) := by
  refine (dats m 0 c).arrAt_eq_of_covers 7 _ (by decide +kernel) fun t hf y => ?_
  rw [after0_7]
  refine (gblock m c t ((flush0_7 t).mp hf) y).trans ?_
  have h2 : (((cfg0.win 7).blk t).view.emb y) 2 = y 2 := Fin.ext (by blk_simp [idx7])
  have h1 : (((cfg0.win 7).blk t).view.emb y) 1 = y 1 := Fin.ext (by blk_simp [idx7])
  have h0 : (((cfg0.win 7).blk t).view.emb y) 0 = y 0 := Fin.ext (by blk_simp [idx7])
  refine congrArg (Cert.RPoolbIdeal.Read.val_main_v140 (F := Ideal) _ _ _) (funext fun a => ?_)
  fin_cases a
  · exact h0.symm
  · exact h1.symm
  · exact h2.symm

set_option maxRecDepth 100000 in
/-- THE COTANGENT OF THE POOLED COLUMNS, written into the gradient of z. -/
theorem final_z (c : Dev nD) (hD : ∀ (g : Fin 4) (q : Fin 256) (t : Fin 8192), IsReal (dpl (pm m c) (sc m c) (dp m c) g q t)) :
    (dats m 0 c).arrAt 5 cfg0.N
      = Cert.RPoolbIdeal.Read.val_main_v205 (F := Ideal) (m ((c : Thread nD τ).loc main_arg1)) (m ((c : Thread nD τ).loc main_arg2)) (m ((c : Thread nD τ).loc main_arg3))
          (m ((c : Thread nD τ).loc main_arg4)) := by
  refine ((dats m 0 c).arrAt_eq_of_coversWhere 5 (Cert.RPoolbIdeal.Read.val_main_v205 (F := Ideal) (m ((c : Thread nD τ).loc main_arg1)) (m ((c : Thread nD τ).loc main_arg2))
    (m ((c : Thread nD τ).loc main_arg3)) (m ((c : Thread nD τ).loc main_arg4))) (P := fun i : S8192x6400.Idx => (i 1).val / 1024 = 4)
    (fun β => β (1 : Fin 2) = 4) (by decide +kernel) (fun t hf y => ?_) (fun j => Iff.rfl)).trans (funext fun i => ?_)
  · rw [after0_5]
    exact zat m c hD t ((cfg0.win 5).xinj (cfg0.grid.coords t) y) _ _ (by blk_simp [idx5]) (by blk_simp [idx5])
  · by_cases hi : (i 1).val / 1024 = 4
    · exact if_pos hi
    · refine (if_neg hi).trans (Eq.trans ?_ ((v205_apply _ _ _ _ i).trans (dif_neg (by omega))).symm)
      show V m c main_arg4 i = _
      rfl

/-- What the precondition gives. -/
theorem real_of_pre [Cert.Pre_finite_poolb.Facts] (u : FVec Ideal Cert.Pre_finite_poolb.S8192x1024 .bf16) (x1 : FVec Ideal Cert.Pre_finite_poolb.S4x256x256 .bf16)
    (x2 : FVec Ideal Cert.Pre_finite_poolb.S1x1024 .f32) (x3 : FVec Ideal Cert.Pre_finite_poolb.S8192x1024 .bf16) (x4 : FVec Ideal Cert.Pre_finite_poolb.S8192x6400 .bf16)
    (hp : Cert.Pre_finite_poolb.fn (F := Ideal) u x1 x2 x3 x4 = fun _ => 1#1) :
    ∀ (g : Fin 4) (q : Fin 256) (t : Fin 8192), IsReal (dpl x1 x2 x3 g q t) := by
  have e := congrFun hp (fun k => k.elim0)
  have : Subsingleton Cert.Pre_finite_poolb.S_.Idx := ⟨fun a b => funext fun k => k.elim0⟩
  obtain ⟨e, e3⟩ := and_eq_one _ _ e
  obtain ⟨e1, e2⟩ := and_eq_one _ _ e
  have h1 : ∀ i, IsReal (x1 i) := fun i => IsReal.of_all _ _ (fun _ => ofBits_inf) _ _ _ _ e1 i
  have h2 : ∀ i, IsReal (x2 i) := fun i => IsReal.of_all _ _ (fun _ => ofBits_inf) _ _ _ _ e2 i
  have h3 : ∀ i, IsReal (x3 i) := fun i => IsReal.of_all _ _ (fun _ => ofBits_inf) _ _ _ _ e3 i
  exact fun g q t => IsReal.sum _ fun d _ => IsReal.mul (IsReal.mul (h3 _) (h2 _)) (h1 _)

end Cert.Proof.Poolb

end
-- ==== Proof.PoolfRef.lean ====
/-
  The pooling as the reference prints it: the running sums, the rows gathered from them, and their differences as sums over
  windows, read at one entry.
-/
module

public import proofs.«01_k».proof.Proof.Gen.RPoolfIdeal.Read
public import Idealize.ShloMosaic.Lib.Pipeline.ValueKit
public import Idealize.ShloMosaic.Lib.Pipeline.ValueKit.Partial
public import Idealize.ShloMosaic.Lib.Pointwise
public import proofs.«01_k».proof.Proof.PoolbSum
public import proofs.«01_k».proof.Pre_finite_poolf

@[expose] public section

noncomputable section

namespace Cert.Proof.Poolf

open Cert.RPoolfIdeal Idealize.ShloMosaic Idealize.ShloMosaic.TcCoe
open Cert.Proof.Pool
open Cert.Proof.Poolb (cnt wd coe_sum cntw2 cntw4 cntw8 cntw16 low2 low4 low8 low16)
open scoped BigOperators

section Reference

open Cert.RPoolfIdeal.Read

/-- A pooled column of the projection, at a row, a group and a column of the group. -/
def ucol (x0 : FVec Ideal S8192x6400 .bf16) (g : Fin 4) (c : Fin 256) (t : Fin 8192) : EReal :=
  x0 (ix2 t (⟨4096 + (g.val * 256 + c.val), by omega⟩ : Fin 6400))

/-- The sum of the `w` rows up to row `n`, those there are. -/
def wsum (U : Fin 8192 → EReal) (w n : Nat) : EReal :=
  ∑ k ∈ Finset.range w, (if k ≤ n then ext 8192 U (n - k) else 0)

/-- A pooled entry: the window's mean less the row itself. -/
def pld (x0 : FVec Ideal S8192x6400 .bf16) (g : Fin 4) (c : Fin 256) (t : Fin 8192) : EReal :=
  Ideal.div (wsum (ucol x0 g c) (wd g) t.val) (cnt (wd g) t.val) - ucol x0 g c t

theorem v3_apply (x0 : FVec Ideal S8192x6400 .bf16) (t : Fin 8192) (g : Fin 4) (c : Fin 256) :
    val_main_v3 (F := Ideal) x0 (ix3 t g c) = ucol x0 g c t := by
  pointwise [val_main_v3, val_main_v1, val_main_v0, ucol]

theorem down (G : Nat → EReal) (t : Nat) (ht : t < 8192) :
    ∑ k ∈ Finset.range 8192, (if 8191 ≤ t + k then G (t + k - 8191) else 0) = ∑ k ∈ Finset.range (t + 1), G k := by
  have e : 8192 = (8191 - t) + (t + 1) := by omega
  conv_lhs => rw [e, Finset.sum_range_add]
  rw [Finset.sum_eq_zero (s := Finset.range (8191 - t)) (fun k hk => if_neg (by have := Finset.mem_range.mp hk; omega)), zero_add]
  refine Finset.sum_congr rfl fun k _ => ?_
  rw [if_pos (by omega)]
  exact congrArg G (by omega)

theorem v5_apply (x0 : FVec Ideal S8192x6400 .bf16) (t : Fin 8192) (g : Fin 4) (c : Fin 256) :
    val_main_v5 (F := Ideal) x0 (ix3 t g c) = ∑ k ∈ Finset.range (t.val + 1), ext 8192 (ucol x0 g c) k := by
  have e := v3_apply x0
  have hS : 0 < S_.numel := by decide
  have ez : val_main_call0_call0_v0 (F := Ideal) (Shape.Idx.first hS) = (0 : EReal) := by
    pointwise [val_main_call0_call0_v0, val_main_call0_call0_cst]
  unfold val_main_v5
  refine (host_window_down (N := 8192) (C := 4) (D := 256) (M := 8191) rfl (val_main_v3 (F := Ideal) x0) _ _ hS ez t g c).trans ?_
  have e2 : (fun s : Fin 8192 => val_main_v3 (F := Ideal) x0 (ix3 s g c)) = ucol x0 g c := funext fun s => e s g c
  rw [e2]
  exact down (ext 8192 (ucol x0 g c)) t.val t.isLt

theorem v6_apply (x0 : FVec Ideal S8192x6400 .bf16) (n : Fin 8193) (g : Fin 4) (c : Fin 256) :
    val_main_v6 (F := Ideal) x0 (ix3 n g c) = ∑ k ∈ Finset.range n.val, ext 8192 (ucol x0 g c) k := by
  have e := v5_apply x0
  pointwise [val_main_v6, val_main_v4, val_main_cst]
  by_cases h : n.val < 1
  · have h0 : n.val = 0 := by omega
    rw [dif_pos h, h0, Finset.range_zero, Finset.sum_empty]
  · rw [dif_neg h]
    refine (e ⟨n.val - 1, by omega⟩ g c).trans ?_
    dsimp only
    rw [show n.val - 1 + 1 = n.val by omega]

theorem gather_pair (x : FVec Ideal S8193x4x256 .f32) (idx : IVec S8192x2 32) (t : Fin 8192) (c : Fin 256) (r : Fin 8193) (g : Fin 4)
    (h0 : (idx (ix2 t (0 : Fin 2))).toInt = (r.val : Int)) (h1 : (idx (ix2 t (1 : Fin 2))).toInt = (g.val : Int)) :
    Host.gather gather_S8193x4x256_S8192x2_S8192x256_1_01_n_n_01_1_11256 x idx (ix2 t c) = x (ix3 r g c) := by
  have s0 : gather_S8193x4x256_S8192x2_S8192x256_1_01_n_n_01_1_11256.start (ix2 t c) idx 0 = min ((idx (ix2 t (0 : Fin 2))).toInt).toNat 8192 :=
    congrArg (fun a => min (idx a).toInt.toNat 8192) (funext (Fin.forall_fin_two.mpr ⟨Fin.ext rfl, Fin.ext rfl⟩))
  have s1 : gather_S8193x4x256_S8192x2_S8192x256_1_01_n_n_01_1_11256.start (ix2 t c) idx 1 = min ((idx (ix2 t (1 : Fin 2))).toInt).toNat 3 :=
    congrArg (fun a => min (idx a).toInt.toNat 3) (funext (Fin.forall_fin_two.mpr ⟨Fin.ext rfl, Fin.ext rfl⟩))
  unfold Host.gather
  refine congrArg x (funext fun a => Fin.ext ?_)
  have hr := r.isLt
  have hg := g.isLt
  fin_cases a
  · show gather_S8193x4x256_S8192x2_S8192x256_1_01_n_n_01_1_11256.start (ix2 t c) idx 0 + 0 + 0 = r.val
    rw [s0, h0]; omega
  · show gather_S8193x4x256_S8192x2_S8192x256_1_01_n_n_01_1_11256.start (ix2 t c) idx 1 + 0 + 0 = g.val
    rw [s1, h1]; omega
  · show 0 + 0 + c.val = c.val
    omega

/-- The difference of running sums `w` rows apart is the sum of the window's rows, over real rows. -/
theorem diff_real (B : Nat → ℝ) (w n : Nat) :
    ∑ k ∈ Finset.range (n + 1), B k - ∑ k ∈ Finset.range (n + 1 - w), B k = ∑ k ∈ Finset.range w, (if k ≤ n then B (n - k) else 0) := by
  induction w with
  | zero => simp
  | succ w ih =>
    rw [Finset.sum_range_succ (fun k => if k ≤ n then B (n - k) else 0) w, ← ih]
    by_cases h : w ≤ n
    · have e : n + 1 - w = (n + 1 - (w + 1)) + 1 := by omega
      rw [if_pos h, e, Finset.sum_range_succ B (n + 1 - (w + 1)), show n + 1 - (w + 1) = n - w by omega]
      ring
    · rw [if_neg h, show n + 1 - w = 0 by omega, show n + 1 - (w + 1) = 0 by omega]
      ring

theorem diff (U : Fin 8192 → EReal) (hU : ∀ t, IsReal (U t)) (w n : Nat) :
    (∑ k ∈ Finset.range (n + 1), ext 8192 U k : EReal) - ∑ k ∈ Finset.range (n + 1 - w), ext 8192 U k = wsum U w n := by
  have hE : ∀ k, IsReal (ext 8192 U k) := fun k => by
    rw [ext]
    split
    · exact hU _
    · exact IsReal.zero
  choose B hB using hE
  have e : ∀ k : Nat, (if k ≤ n then ((B (n - k) : ℝ) : EReal) else 0) = (((if k ≤ n then B (n - k) else 0 : ℝ)) : EReal) := fun k => by
    split <;> simp
  simp only [wsum, hB, e]
  rw [← coe_sum, ← coe_sum, ← coe_sum, ← EReal.coe_sub, diff_real]

/-! ### Group 0: windows of 2 rows -/

theorem v17_apply (t : Fin 8192) : val_main_v17 (F := Ideal) (ix2 t (0 : Fin 1)) = cnt 2 t.val := by
  pointwise [val_main_v17, val_main_v16, val_main_v15, val_main_v14, val_main_c_2, val_main_v9, val_main_v7, val_main_v8, val_main_c]
  refine (congrArg (fun z : Int => ((z : ℝ) : EReal)) (cntw2 t)).trans ?_
  rw [cnt]; push_cast; rfl

theorem v29_row (t : Fin 8192) : (val_main_v29 (F := Ideal) (ix2 t (0 : Fin 2))).toInt = ((t.val + 1 - 2 : Nat) : Int) := by
  refine Eq.trans (congrArg BitVec.toInt ?_) (low2 t)
  pointwise [val_main_v29, val_main_v28, val_main_v27, val_main_v26, val_main_v25, val_main_v24, val_main_v23, val_main_v22, val_main_v21, val_main_v20, val_main_v13, val_main_v12, val_main_v11, val_main_v10, val_main_c_0, val_main_c_1, val_main_c_2, val_main_c_3, val_main_c_4, val_main_c_5, val_main_v9, val_main_v7, val_main_v8, val_main_c]

theorem v29_group (t : Fin 8192) : (val_main_v29 (F := Ideal) (ix2 t (1 : Fin 2))).toInt = 0 := by
  have e : val_main_v29 (F := Ideal) (ix2 t (1 : Fin 2)) = 0#32 := by
    pointwise [val_main_v29, val_main_v28, val_main_v27, val_main_v26, val_main_v25, val_main_v24, val_main_v23, val_main_v22, val_main_v21, val_main_v20, val_main_v13, val_main_v12, val_main_v11, val_main_v10, val_main_c_0, val_main_c_1, val_main_c_2, val_main_c_3, val_main_c_4, val_main_c_5, val_main_v9, val_main_v7, val_main_v8, val_main_c]
    rfl
  rw [e]; rfl

theorem v30_apply (x0 : FVec Ideal S8192x6400 .bf16) (t : Fin 8192) (c : Fin 256) :
    val_main_v30 (F := Ideal) x0 (ix2 t c) = ∑ k ∈ Finset.range (t.val + 1 - 2), ext 8192 (ucol x0 0 c) k := by
  have h0 := v29_row t
  have h1 := v29_group t
  unfold val_main_v30
  generalize val_main_v29 (F := Ideal) = idx at h0 h1 ⊢
  exact (gather_pair _ idx t c (⟨t.val + 1 - 2, by omega⟩ : Fin 8193) 0 h0 h1).trans (v6_apply x0 _ 0 c)

theorem v19_apply (x0 : FVec Ideal S8192x6400 .bf16) (t : Fin 8192) (c : Fin 256) :
    val_main_v19 (F := Ideal) x0 (ix2 t c) = ∑ k ∈ Finset.range (t.val + 1), ext 8192 (ucol x0 0 c) k := by
  refine Eq.trans ?_ (v6_apply x0 (⟨t.val + 1, by omega⟩ : Fin 8193) 0 c)
  pointwise [val_main_v19, val_main_v18]
  exact congrArg (fun r : Fin 8193 => val_main_v6 (F := Ideal) x0 (ix3 r (0 : Fin 4) c)) (Fin.ext (Nat.add_comm 1 t.val))

theorem v36_apply (x0 : FVec Ideal S8192x6400 .bf16) (hU : ∀ (g : Fin 4) (c : Fin 256) (t : Fin 8192), IsReal (ucol x0 g c t))
    (t : Fin 8192) (c : Fin 256) : val_main_v36 (F := Ideal) x0 (ix2 t c) = pld x0 0 c t := by
  have e0 := v19_apply x0 t c
  have e1 := v30_apply x0 t c
  have e2 := v17_apply t
  have e3 := v3_apply x0 t 0 c
  have ed : val_main_v31 (F := Ideal) x0 (ix2 t c) = wsum (ucol x0 0 c) 2 t.val := by
    refine Eq.trans ?_ (diff (ucol x0 0 c) (hU 0 c) 2 t.val)
    exact congrArg₂ (fun a b : EReal => a - b) e0 e1
  have ec : val_main_v32 (F := Ideal) (ix2 t c) = cnt 2 t.val := by
    refine Eq.trans ?_ e2
    pointwise [val_main_v32]
  have eu : val_main_v35 (F := Ideal) x0 (ix2 t c) = ucol x0 0 c t := by
    refine Eq.trans ?_ e3
    pointwise [val_main_v35, val_main_v34]
  exact congrArg₂ (fun a b : EReal => a - b) (congrArg₂ Ideal.div ed ec) eu

/-! ### Group 1: windows of 4 rows -/

theorem v44_apply (t : Fin 8192) : val_main_v44 (F := Ideal) (ix2 t (0 : Fin 1)) = cnt 4 t.val := by
  pointwise [val_main_v44, val_main_v43, val_main_v42, val_main_v41, val_main_c_8, val_main_v9, val_main_v7, val_main_v8, val_main_c]
  refine (congrArg (fun z : Int => ((z : ℝ) : EReal)) (cntw4 t)).trans ?_
  rw [cnt]; push_cast; rfl

theorem v56_row (t : Fin 8192) : (val_main_v56 (F := Ideal) (ix2 t (0 : Fin 2))).toInt = ((t.val + 1 - 4 : Nat) : Int) := by
  refine Eq.trans (congrArg BitVec.toInt ?_) (low4 t)
  pointwise [val_main_v56, val_main_v55, val_main_v54, val_main_v53, val_main_v52, val_main_v51, val_main_v50, val_main_v49, val_main_v48, val_main_v47, val_main_v40, val_main_v39, val_main_v38, val_main_v37, val_main_c_6, val_main_c_7, val_main_c_8, val_main_c_9, val_main_c_10, val_main_c_11, val_main_v9, val_main_v7, val_main_v8, val_main_c]

theorem v56_group (t : Fin 8192) : (val_main_v56 (F := Ideal) (ix2 t (1 : Fin 2))).toInt = 1 := by
  have e : val_main_v56 (F := Ideal) (ix2 t (1 : Fin 2)) = 1#32 := by
    pointwise [val_main_v56, val_main_v55, val_main_v54, val_main_v53, val_main_v52, val_main_v51, val_main_v50, val_main_v49, val_main_v48, val_main_v47, val_main_v40, val_main_v39, val_main_v38, val_main_v37, val_main_c_6, val_main_c_7, val_main_c_8, val_main_c_9, val_main_c_10, val_main_c_11, val_main_v9, val_main_v7, val_main_v8, val_main_c]
    rfl
  rw [e]; rfl

theorem v57_apply (x0 : FVec Ideal S8192x6400 .bf16) (t : Fin 8192) (c : Fin 256) :
    val_main_v57 (F := Ideal) x0 (ix2 t c) = ∑ k ∈ Finset.range (t.val + 1 - 4), ext 8192 (ucol x0 1 c) k := by
  have h0 := v56_row t
  have h1 := v56_group t
  unfold val_main_v57
  generalize val_main_v56 (F := Ideal) = idx at h0 h1 ⊢
  exact (gather_pair _ idx t c (⟨t.val + 1 - 4, by omega⟩ : Fin 8193) 1 h0 h1).trans (v6_apply x0 _ 1 c)

theorem v46_apply (x0 : FVec Ideal S8192x6400 .bf16) (t : Fin 8192) (c : Fin 256) :
    val_main_v46 (F := Ideal) x0 (ix2 t c) = ∑ k ∈ Finset.range (t.val + 1), ext 8192 (ucol x0 1 c) k := by
  refine Eq.trans ?_ (v6_apply x0 (⟨t.val + 1, by omega⟩ : Fin 8193) 1 c)
  pointwise [val_main_v46, val_main_v45]
  exact congrArg (fun r : Fin 8193 => val_main_v6 (F := Ideal) x0 (ix3 r (1 : Fin 4) c)) (Fin.ext (Nat.add_comm 1 t.val))

theorem v63_apply (x0 : FVec Ideal S8192x6400 .bf16) (hU : ∀ (g : Fin 4) (c : Fin 256) (t : Fin 8192), IsReal (ucol x0 g c t))
    (t : Fin 8192) (c : Fin 256) : val_main_v63 (F := Ideal) x0 (ix2 t c) = pld x0 1 c t := by
  have e0 := v46_apply x0 t c
  have e1 := v57_apply x0 t c
  have e2 := v44_apply t
  have e3 := v3_apply x0 t 1 c
  have ed : val_main_v58 (F := Ideal) x0 (ix2 t c) = wsum (ucol x0 1 c) 4 t.val := by
    refine Eq.trans ?_ (diff (ucol x0 1 c) (hU 1 c) 4 t.val)
    exact congrArg₂ (fun a b : EReal => a - b) e0 e1
  have ec : val_main_v59 (F := Ideal) (ix2 t c) = cnt 4 t.val := by
    refine Eq.trans ?_ e2
    pointwise [val_main_v59]
  have eu : val_main_v62 (F := Ideal) x0 (ix2 t c) = ucol x0 1 c t := by
    refine Eq.trans ?_ e3
    pointwise [val_main_v62, val_main_v61]
  exact congrArg₂ (fun a b : EReal => a - b) (congrArg₂ Ideal.div ed ec) eu

/-! ### Group 2: windows of 8 rows -/

theorem v71_apply (t : Fin 8192) : val_main_v71 (F := Ideal) (ix2 t (0 : Fin 1)) = cnt 8 t.val := by
  pointwise [val_main_v71, val_main_v70, val_main_v69, val_main_v68, val_main_c_14, val_main_v9, val_main_v7, val_main_v8, val_main_c]
  refine (congrArg (fun z : Int => ((z : ℝ) : EReal)) (cntw8 t)).trans ?_
  rw [cnt]; push_cast; rfl

theorem v83_row (t : Fin 8192) : (val_main_v83 (F := Ideal) (ix2 t (0 : Fin 2))).toInt = ((t.val + 1 - 8 : Nat) : Int) := by
  refine Eq.trans (congrArg BitVec.toInt ?_) (low8 t)
  pointwise [val_main_v83, val_main_v82, val_main_v81, val_main_v80, val_main_v79, val_main_v78, val_main_v77, val_main_v76, val_main_v75, val_main_v74, val_main_v67, val_main_v66, val_main_v65, val_main_v64, val_main_c_12, val_main_c_13, val_main_c_14, val_main_c_15, val_main_c_16, val_main_c_17, val_main_v9, val_main_v7, val_main_v8, val_main_c]

theorem v83_group (t : Fin 8192) : (val_main_v83 (F := Ideal) (ix2 t (1 : Fin 2))).toInt = 2 := by
  have e : val_main_v83 (F := Ideal) (ix2 t (1 : Fin 2)) = 2#32 := by
    pointwise [val_main_v83, val_main_v82, val_main_v81, val_main_v80, val_main_v79, val_main_v78, val_main_v77, val_main_v76, val_main_v75, val_main_v74, val_main_v67, val_main_v66, val_main_v65, val_main_v64, val_main_c_12, val_main_c_13, val_main_c_14, val_main_c_15, val_main_c_16, val_main_c_17, val_main_v9, val_main_v7, val_main_v8, val_main_c]
    rfl
  rw [e]; rfl

theorem v84_apply (x0 : FVec Ideal S8192x6400 .bf16) (t : Fin 8192) (c : Fin 256) :
    val_main_v84 (F := Ideal) x0 (ix2 t c) = ∑ k ∈ Finset.range (t.val + 1 - 8), ext 8192 (ucol x0 2 c) k := by
  have h0 := v83_row t
  have h1 := v83_group t
  unfold val_main_v84
  generalize val_main_v83 (F := Ideal) = idx at h0 h1 ⊢
  exact (gather_pair _ idx t c (⟨t.val + 1 - 8, by omega⟩ : Fin 8193) 2 h0 h1).trans (v6_apply x0 _ 2 c)

theorem v73_apply (x0 : FVec Ideal S8192x6400 .bf16) (t : Fin 8192) (c : Fin 256) :
    val_main_v73 (F := Ideal) x0 (ix2 t c) = ∑ k ∈ Finset.range (t.val + 1), ext 8192 (ucol x0 2 c) k := by
  refine Eq.trans ?_ (v6_apply x0 (⟨t.val + 1, by omega⟩ : Fin 8193) 2 c)
  pointwise [val_main_v73, val_main_v72]
  exact congrArg (fun r : Fin 8193 => val_main_v6 (F := Ideal) x0 (ix3 r (2 : Fin 4) c)) (Fin.ext (Nat.add_comm 1 t.val))

theorem v90_apply (x0 : FVec Ideal S8192x6400 .bf16) (hU : ∀ (g : Fin 4) (c : Fin 256) (t : Fin 8192), IsReal (ucol x0 g c t))
    (t : Fin 8192) (c : Fin 256) : val_main_v90 (F := Ideal) x0 (ix2 t c) = pld x0 2 c t := by
  have e0 := v73_apply x0 t c
  have e1 := v84_apply x0 t c
  have e2 := v71_apply t
  have e3 := v3_apply x0 t 2 c
  have ed : val_main_v85 (F := Ideal) x0 (ix2 t c) = wsum (ucol x0 2 c) 8 t.val := by
    refine Eq.trans ?_ (diff (ucol x0 2 c) (hU 2 c) 8 t.val)
    exact congrArg₂ (fun a b : EReal => a - b) e0 e1
  have ec : val_main_v86 (F := Ideal) (ix2 t c) = cnt 8 t.val := by
    refine Eq.trans ?_ e2
    pointwise [val_main_v86]
  have eu : val_main_v89 (F := Ideal) x0 (ix2 t c) = ucol x0 2 c t := by
    refine Eq.trans ?_ e3
    pointwise [val_main_v89, val_main_v88]
  exact congrArg₂ (fun a b : EReal => a - b) (congrArg₂ Ideal.div ed ec) eu

/-! ### Group 3: windows of 16 rows -/

theorem v98_apply (t : Fin 8192) : val_main_v98 (F := Ideal) (ix2 t (0 : Fin 1)) = cnt 16 t.val := by
  pointwise [val_main_v98, val_main_v97, val_main_v96, val_main_v95, val_main_c_20, val_main_v9, val_main_v7, val_main_v8, val_main_c]
  refine (congrArg (fun z : Int => ((z : ℝ) : EReal)) (cntw16 t)).trans ?_
  rw [cnt]; push_cast; rfl

theorem v110_row (t : Fin 8192) : (val_main_v110 (F := Ideal) (ix2 t (0 : Fin 2))).toInt = ((t.val + 1 - 16 : Nat) : Int) := by
  refine Eq.trans (congrArg BitVec.toInt ?_) (low16 t)
  pointwise [val_main_v110, val_main_v109, val_main_v108, val_main_v107, val_main_v106, val_main_v105, val_main_v104, val_main_v103, val_main_v102, val_main_v101, val_main_v94, val_main_v93, val_main_v92, val_main_v91, val_main_c_18, val_main_c_19, val_main_c_20, val_main_c_21, val_main_c_22, val_main_c_23, val_main_v9, val_main_v7, val_main_v8, val_main_c]

theorem v110_group (t : Fin 8192) : (val_main_v110 (F := Ideal) (ix2 t (1 : Fin 2))).toInt = 3 := by
  have e : val_main_v110 (F := Ideal) (ix2 t (1 : Fin 2)) = 3#32 := by
    pointwise [val_main_v110, val_main_v109, val_main_v108, val_main_v107, val_main_v106, val_main_v105, val_main_v104, val_main_v103, val_main_v102, val_main_v101, val_main_v94, val_main_v93, val_main_v92, val_main_v91, val_main_c_18, val_main_c_19, val_main_c_20, val_main_c_21, val_main_c_22, val_main_c_23, val_main_v9, val_main_v7, val_main_v8, val_main_c]
    rfl
  rw [e]; rfl

theorem v111_apply (x0 : FVec Ideal S8192x6400 .bf16) (t : Fin 8192) (c : Fin 256) :
    val_main_v111 (F := Ideal) x0 (ix2 t c) = ∑ k ∈ Finset.range (t.val + 1 - 16), ext 8192 (ucol x0 3 c) k := by
  have h0 := v110_row t
  have h1 := v110_group t
  unfold val_main_v111
  generalize val_main_v110 (F := Ideal) = idx at h0 h1 ⊢
  exact (gather_pair _ idx t c (⟨t.val + 1 - 16, by omega⟩ : Fin 8193) 3 h0 h1).trans (v6_apply x0 _ 3 c)

theorem v100_apply (x0 : FVec Ideal S8192x6400 .bf16) (t : Fin 8192) (c : Fin 256) :
    val_main_v100 (F := Ideal) x0 (ix2 t c) = ∑ k ∈ Finset.range (t.val + 1), ext 8192 (ucol x0 3 c) k := by
  refine Eq.trans ?_ (v6_apply x0 (⟨t.val + 1, by omega⟩ : Fin 8193) 3 c)
  pointwise [val_main_v100, val_main_v99]
  exact congrArg (fun r : Fin 8193 => val_main_v6 (F := Ideal) x0 (ix3 r (3 : Fin 4) c)) (Fin.ext (Nat.add_comm 1 t.val))

theorem v117_apply (x0 : FVec Ideal S8192x6400 .bf16) (hU : ∀ (g : Fin 4) (c : Fin 256) (t : Fin 8192), IsReal (ucol x0 g c t))
    (t : Fin 8192) (c : Fin 256) : val_main_v117 (F := Ideal) x0 (ix2 t c) = pld x0 3 c t := by
  have e0 := v100_apply x0 t c
  have e1 := v111_apply x0 t c
  have e2 := v98_apply t
  have e3 := v3_apply x0 t 3 c
  have ed : val_main_v112 (F := Ideal) x0 (ix2 t c) = wsum (ucol x0 3 c) 16 t.val := by
    refine Eq.trans ?_ (diff (ucol x0 3 c) (hU 3 c) 16 t.val)
    exact congrArg₂ (fun a b : EReal => a - b) e0 e1
  have ec : val_main_v113 (F := Ideal) (ix2 t c) = cnt 16 t.val := by
    refine Eq.trans ?_ e2
    pointwise [val_main_v113]
  have eu : val_main_v116 (F := Ideal) x0 (ix2 t c) = ucol x0 3 c t := by
    refine Eq.trans ?_ e3
    pointwise [val_main_v116, val_main_v115]
  exact congrArg₂ (fun a b : EReal => a - b) (congrArg₂ Ideal.div ed ec) eu

/-! ### The groups together -/

theorem v122_apply (x0 : FVec Ideal S8192x6400 .bf16) (hU : ∀ (g : Fin 4) (c : Fin 256) (t : Fin 8192), IsReal (ucol x0 g c t))
    (t : Fin 8192) (g : Fin 4) (c : Fin 256) : val_main_v122 (F := Ideal) x0 (ix3 t g c) = pld x0 g c t := by
  have e0 := v36_apply x0 hU t c
  have e1 := v63_apply x0 hU t c
  have e2 := v90_apply x0 hU t c
  have e3 := v117_apply x0 hU t c
  fin_cases g
  · refine Eq.trans ?_ e0
    pointwise [val_main_v122, val_main_v118]
  · refine Eq.trans ?_ e1
    pointwise [val_main_v122, val_main_v119]
  · refine Eq.trans ?_ e2
    pointwise [val_main_v122, val_main_v120]
  · refine Eq.trans ?_ e3
    pointwise [val_main_v122, val_main_v121]

theorem v129_apply (x0 : FVec Ideal S8192x6400 .bf16) (hU : ∀ (g : Fin 4) (c : Fin 256) (t : Fin 8192), IsReal (ucol x0 g c t))
    (t : Fin 8192) (g : Fin 4) (c : Fin 256) (q : Fin 1024) (hq : q.val = g.val * 256 + c.val) :
    val_main_v129 (F := Ideal) x0 (ix2 t q) = pld x0 g c t := by
  have hq' : q = (⟨g.val * 256 + c.val, by omega⟩ : Fin 1024) := Fin.ext hq
  rw [hq']
  refine Eq.trans ?_ (v122_apply x0 hU t g c)
  pointwise [val_main_v129, val_main_v128]

/-- A mixed and scaled entry. -/
def mxd (x0 : FVec Ideal S8192x6400 .bf16) (x1 : FVec Ideal S4x256x256 .bf16) (x2 : FVec Ideal S1x1024 .f32) (g : Fin 4) (d : Fin 256) (t : Fin 8192) : EReal :=
  (∑ k : Fin 256, pld x0 g k t * x1 (ix3 g k d)) * x2 (ix2 (0 : Fin 1) (⟨g.val * 256 + d.val, by omega⟩ : Fin 1024))

theorem v130_apply (x0 : FVec Ideal S8192x6400 .bf16) (x1 : FVec Ideal S4x256x256 .bf16) (x2 : FVec Ideal S1x1024 .f32)
    (hU : ∀ (g : Fin 4) (c : Fin 256) (t : Fin 8192), IsReal (ucol x0 g c t))
    (t : Fin 8192) (g : Fin 4) (d : Fin 256) (q : Fin 1024) (hq : q.val = g.val * 256 + d.val) :
    val_main_v130 (F := Ideal) x0 x1 x2 (ix2 t q) = mxd x0 x1 x2 g d t := by
  have hq' : q = (⟨g.val * 256 + d.val, by omega⟩ : Fin 1024) := Fin.ext hq
  rw [hq']
  have e : ∀ k : Fin 256, val_main_v122 (F := Ideal) x0 (ix3 t g k) = pld x0 g k t := fun k => v122_apply x0 hU t g k
  pointwise [val_main_v130, val_main_v127, val_main_v126, val_main_v125, val_main_v124, val_main_v123, val_main_v2, mxd]
  exact congrArg (fun a : EReal => a * x2 (ix2 (0 : Fin 1) (⟨g.val * 256 + d.val, by omega⟩ : Fin 1024))) (Finset.sum_congr rfl fun k _ =>
    (mul_comm _ _).trans (congrArg (fun a : EReal => a * x1 (ix3 g k d)) (e k)))

end Reference

end Cert.Proof.Poolf

end
-- ==== Proof.PoolfK.lean ====
/-
  What one point of the pooling computes: the rows added up over the windows by doubling, divided by the counts, less the rows
  themselves, and the product of that with the mixing matrix, scaled.
-/
module

public import proofs.«01_k».proof.Proof.Gen.KPoolfIdeal.Value
public import Idealize.ShloMosaic.Lib.Pipeline.ValueKit
public import Idealize.ShloMosaic.Lib.Pipeline.ValueKit.Partial
public import Idealize.ShloMosaic.Lib.Pointwise
public import proofs.«01_k».proof.Proof.PoolbK
public import proofs.«01_k».proof.Proof.PoolfRef

@[expose] public section

noncomputable section

namespace Cert.Proof.Poolf

open Cert.KPoolfIdeal Cert.KPoolfIdeal.Gen Idealize.ShloMosaic Idealize.ShloMosaic.TcCoe Idealize.SL.Sem
open Idealize.ShloMosaic.Pipeline (Dat Cfg Window)
open Cert.Proof.Pool
open Cert.Proof.Poolb (cnt wd coe_sum min_coe c2 c4 c8 c16)
open scoped BigOperators

/-- A rotation downward, at a row it does not carry round. -/
theorem rot_down {L C : Nat} (n : BitVec 32) (w : Nat) (hn : n.toNat = w) (hw : w < L) (x : Shape.Idx ⟨2, ![L, C]⟩ → EReal)
    (h : (⟨2, ![L, C]⟩ : Shape).Rotates 0 none) (r : Fin L) (c : Fin C) (hr : w ≤ r.val) :
    dynamicRotate 0 n none x h (ix2 r c) = x (ix2 (⟨r.val - w, by omega⟩ : Fin L) c) := by
  refine (Pointwise.dynamicRotate_apply 0 n none x h (ix2 r c)).trans (congrArg x ?_)
  funext b
  fin_cases b
  · refine Fin.ext ?_
    show (r.val + L - (n.toNat + 0) % L) % L = r.val - w
    have hl := r.isLt
    have e1 : (n.toNat + 0) % L = w := by rw [Nat.mod_eq_of_lt (by omega)]; omega
    rw [e1, show r.val + L - w = (r.val - w) + L by omega, Nat.add_mod_right, Nat.mod_eq_of_lt (by omega)]
  · rfl

/-- Each row from `m0` on is the sum of the `w` rows up to it. -/
def WinB {L C : Nat} (y : FVec Ideal ⟨2, ![L, C]⟩ .f32) (c : Fin C) (F : Nat → EReal) (w m0 : Nat) : Prop :=
  ∀ r : Fin L, m0 ≤ r.val → y (ix2 r c) = ∑ k ∈ Finset.range w, F (r.val - k)

theorem WinB.double {L C : Nat} {y : FVec Ideal ⟨2, ![L, C]⟩ .f32} {c : Fin C} {F : Nat → EReal} {w m0 : Nat} (hy : WinB y c F w m0)
    (n : BitVec 32) (hn : n.toNat = w) (hw : w < L) (h : (⟨2, ![L, C]⟩ : Shape).Rotates 0 none) :
    WinB (addf y (dynamicRotate 0 n none y h) : FVec Ideal ⟨2, ![L, C]⟩ .f32) c F (w + w) (m0 + w) := by
  intro r hr
  show y (ix2 r c) + dynamicRotate 0 n none y h (ix2 r c) = _
  rw [rot_down n w hn hw y h r c (by omega), hy r (by omega), hy ⟨r.val - w, by omega⟩ (by show m0 ≤ r.val - w; omega), Finset.sum_range_add]
  refine congrArg (_ + ·) (Finset.sum_congr rfl fun k _ => ?_)
  exact congrArg F (Nat.sub_sub _ _ _)

theorem sgt0 : ∀ k : Fin 32, Scalar.cmpi .sgt (BitVec.ofNat 32 k.val) 0#32 = if 0 < k.val then 1#1 else 0#1 := by decide +kernel

/-- The sixteen rows before a block, then its rows. -/
def xin (i : grid0.Coords) (v0 : FVec Ideal S256x1024 .bf16) (v3 : FVec Ideal S16x1024 .bf16) (q : Fin 1024) (n : Fin 272) : EReal :=
  if h : n.val < 16 then (if 0 < (i 0).val then v3 (ix2 (⟨n.val, h⟩ : Fin 16) q) else 0) else v0 (ix2 (⟨n.val - 16, by omega⟩ : Fin 256) q)

/-- Those rows, as the kernel lays them. -/
def rows (i : grid0.Coords) (v0 : FVec Ideal S256x1024 .bf16) (v3 : FVec Ideal S16x1024 .bf16) : FVec Ideal S272x1024 .f32 :=
  concatenate S272x1024 0 [⟨S16x1024, (Scalar.select (Scalar.cmpi .sgt (BitVec.ofNat 32 (i 0).val) 0#32) (extf .f32 v3 bitsLt_bf16_f32 : FVec Ideal S16x1024 .f32)
    (broadcast S16x1024 (Scalar.ofBits .f32 0x00000000#32)) : FVec Ideal S16x1024 .f32)⟩, ⟨S256x1024, k0_pay4 v0⟩] concatenates_S16x1024_S256x1024_S272x1024_d0

theorem rows_apply (i : grid0.Coords) (v0 : FVec Ideal S256x1024 .bf16) (v3 : FVec Ideal S16x1024 .bf16) (n : Fin 272) (q : Fin 1024) :
    rows i v0 v3 (ix2 n q) = xin i v0 v3 q n := by
  pointwise [rows, xin, k0_pay4]
  rw [show Scalar.cmpi .sgt (BitVec.ofNat 32 (i 0).val) 0#32 = _ from sgt0 (i 0)]
  by_cases h : n.val < 16
  · simp only [dif_pos h]
    by_cases h1 : 0 < (i 0).val
    · rw [if_pos h1, if_pos h1]; rfl
    · rw [if_neg h1, if_neg h1]; rfl
  · simp only [dif_neg h]

theorem rows_win (i : grid0.Coords) (v0 : FVec Ideal S256x1024 .bf16) (v3 : FVec Ideal S16x1024 .bf16) (q : Fin 1024) :
    WinB (L := 272) (rows i v0 v3) q (ext 272 (xin i v0 v3 q)) 1 0 := by
  intro r hr
  rw [Finset.sum_range_one, Nat.sub_zero, ext_of_lt _ _ r.isLt]
  exact rows_apply i v0 v3 r q

theorem win2 (i : grid0.Coords) (v0 : FVec Ideal S256x1024 .bf16) (v3 : FVec Ideal S16x1024 .bf16) (q : Fin 1024) :
    WinB (L := 272) (k0_pay5 (F := Ideal) i v0 v3) q (ext 272 (xin i v0 v3 q)) 2 1 :=
  (rows_win i v0 v3 q).double 1#32 (by decide) (by decide) rotates_S272x1024_d0

theorem win4 (i : grid0.Coords) (v0 : FVec Ideal S256x1024 .bf16) (v3 : FVec Ideal S16x1024 .bf16) (q : Fin 1024) :
    WinB (L := 272) (k0_pay6 (F := Ideal) i v0 v3) q (ext 272 (xin i v0 v3 q)) 4 3 :=
  (win2 i v0 v3 q).double 2#32 (by decide) (by decide) rotates_S272x1024_d0

theorem win8 (i : grid0.Coords) (v0 : FVec Ideal S256x1024 .bf16) (v3 : FVec Ideal S16x1024 .bf16) (q : Fin 1024) :
    WinB (L := 272) (k0_pay8 (F := Ideal) i v0 v3) q (ext 272 (xin i v0 v3 q)) 8 7 :=
  (win4 i v0 v3 q).double 4#32 (by decide) (by decide) rotates_S272x1024_d0

theorem win16 (i : grid0.Coords) (v0 : FVec Ideal S256x1024 .bf16) (v3 : FVec Ideal S16x1024 .bf16) (q : Fin 1024) :
    WinB (L := 272) (addf (k0_pay8 (F := Ideal) i v0 v3) (dynamicRotate 0 8#32 none (k0_pay8 (F := Ideal) i v0 v3) rotates_S272x1024_d0) : FVec Ideal S272x1024 .f32) q
      (ext 272 (xin i v0 v3 q)) 16 15 :=
  (win8 i v0 v3 q).double 8#32 (by decide) (by decide) rotates_S272x1024_d0

/-- The rows of a block, after the sixteen before it. -/
theorem tail_apply (Y : FVec Ideal S272x1024 .f32) (r : Fin 256) (q : Fin 1024) :
    (extractStridedSlice S256x1024 ![16, 0] Y slices_S272x1024_o16_0_S256x1024 : FVec Ideal S256x1024 .f32) (ix2 r q)
      = Y (ix2 (⟨16 + r.val, by omega⟩ : Fin 272) q) := by
  pointwise

/-- The sum of the `w` rows up to row `r` of a block. -/
def bsum (i : grid0.Coords) (v0 : FVec Ideal S256x1024 .bf16) (v3 : FVec Ideal S16x1024 .bf16) (w : Nat) (r : Fin 256) (q : Fin 1024) : EReal :=
  ∑ k ∈ Finset.range w, ext 272 (xin i v0 v3 q) (16 + r.val - k)

theorem pay5_tail (i : grid0.Coords) (v0 : FVec Ideal S256x1024 .bf16) (v3 : FVec Ideal S16x1024 .bf16) (r : Fin 256) (q : Fin 1024) :
    (extractStridedSlice S256x1024 ![16, 0] (k0_pay5 (F := Ideal) i v0 v3) slices_S272x1024_o16_0_S256x1024 : FVec Ideal S256x1024 .f32) (ix2 r q)
      = bsum i v0 v3 2 r q :=
  (tail_apply _ r q).trans (win2 i v0 v3 q ⟨16 + r.val, by omega⟩ (by show 1 ≤ 16 + r.val; omega))

theorem pay7_apply (i : grid0.Coords) (v0 : FVec Ideal S256x1024 .bf16) (v3 : FVec Ideal S16x1024 .bf16) (r : Fin 256) (q : Fin 1024) :
    k0_pay7 (F := Ideal) i v0 v3 (ix2 r q) = bsum i v0 v3 4 r q :=
  (tail_apply _ r q).trans (win4 i v0 v3 q ⟨16 + r.val, by omega⟩ (by show 3 ≤ 16 + r.val; omega))

theorem pay9_apply (i : grid0.Coords) (v0 : FVec Ideal S256x1024 .bf16) (v3 : FVec Ideal S16x1024 .bf16) (r : Fin 256) (q : Fin 1024) :
    k0_pay9 (F := Ideal) i v0 v3 (ix2 r q) = bsum i v0 v3 8 r q :=
  (tail_apply _ r q).trans (win8 i v0 v3 q ⟨16 + r.val, by omega⟩ (by show 7 ≤ 16 + r.val; omega))

theorem pay10_apply (i : grid0.Coords) (v0 : FVec Ideal S256x1024 .bf16) (v3 : FVec Ideal S16x1024 .bf16) (r : Fin 256) (q : Fin 1024) :
    k0_pay10 (F := Ideal) i v0 v3 (ix2 r q) = bsum i v0 v3 16 r q :=
  (tail_apply _ r q).trans (win16 i v0 v3 q ⟨16 + r.val, by omega⟩ (by show 15 ≤ 16 + r.val; omega))

/-! ## The counts -/

theorem word11 : ∀ (k : Fin 32) (n : Fin 256), (IntOp.addi (Scalar.addi (Scalar.muli (BitVec.ofNat 32 k.val) 256#32) 1#32) (BitVec.ofNat 32 n.val)).toInt
    = ((256 * k.val + n.val + 1 : Nat) : Int) := by decide +kernel

theorem pay11_apply (i : grid0.Coords) (n : Fin 256) :
    k0_pay11 (F := Ideal) i (ix2 n (0 : Fin 1)) = (((256 * (i 0).val + n.val + 1 : Nat) : ℝ) : EReal) := by
  pointwise [k0_pay11]
  refine (congrArg (fun z : Int => ((z : ℝ) : EReal)) (word11 (i 0) n)).trans ?_
  push_cast
  rfl

theorem pay12_apply (i : grid0.Coords) (n : Fin 256) : k0_pay12 (F := Ideal) i (ix2 n (0 : Fin 1)) = cnt 4 (256 * (i 0).val + n.val) := by
  have e := pay11_apply i n
  pointwise [k0_pay12]
  rw [e, c4]
  exact min_coe _ _

theorem pay13_apply (i : grid0.Coords) (n : Fin 256) : k0_pay13 (F := Ideal) i (ix2 n (0 : Fin 1)) = cnt 8 (256 * (i 0).val + n.val) := by
  have e := pay11_apply i n
  pointwise [k0_pay13]
  rw [e, c8]
  exact min_coe _ _

theorem pay14_apply (i : grid0.Coords) (n : Fin 256) : k0_pay14 (F := Ideal) i (ix2 n (0 : Fin 1)) = cnt 16 (256 * (i 0).val + n.val) := by
  have e := pay11_apply i n
  pointwise [k0_pay14]
  rw [e, c16]
  exact min_coe _ _

/-! ## The pooled columns of a group -/

theorem pooled_apply (o : Nat) (Y U : FVec Ideal S256x1024 .f32) (v : FVec Ideal S256x1 .f32) (h : (S256x1024 : Shape).Slices ![0, o] S256x256)
    (hb : FTy.bits .bf16 < FTy.bits .f32) (r c : Fin 256) (q : Fin 1024) (e : q.val = o + c.val) :
    (truncf .bf16 (subf (divf (extractStridedSlice S256x256 ![0, o] Y h) (broadcastTo S256x256 v broadcasts_S256x1_S256x256))
      (extractStridedSlice S256x256 ![0, o] U h)) hb : FVec Ideal S256x256 .bf16) (ix2 r c)
      = Ideal.div (Y (ix2 r q)) (v (ix2 r (0 : Fin 1))) - U (ix2 r q) := by
  have hq : q = ⟨o + c.val, by omega⟩ := Fin.ext e
  rw [hq]
  pointwise

/-- A pooled entry of a block. -/
def kp (i : grid0.Coords) (v0 : FVec Ideal S256x1024 .bf16) (v3 : FVec Ideal S16x1024 .bf16) (w : Nat) (r : Fin 256) (q : Fin 1024) : EReal :=
  Ideal.div (bsum i v0 v3 w r q) (cnt w (256 * (i 0).val + r.val)) - v0 (ix2 r q)

theorem pay15_apply (i : grid0.Coords) (v0 : FVec Ideal S256x1024 .bf16) (v3 : FVec Ideal S16x1024 .bf16) (r c : Fin 256) (q : Fin 1024) (e : q.val = 0 + c.val) :
    k0_pay15 (F := Ideal) i v0 v3 (ix2 r c) = kp i v0 v3 2 r q := by
  refine (pooled_apply 0 _ _ _ _ _ r c q e).trans ?_
  refine congrArg₂ (fun a b : EReal => Ideal.div a b - v0 (ix2 r q)) (pay5_tail i v0 v3 r q) ?_
  have e := pay11_apply i r
  pointwise
  rw [e, c2]
  exact min_coe _ _

theorem pay17_apply (i : grid0.Coords) (v0 : FVec Ideal S256x1024 .bf16) (v3 : FVec Ideal S16x1024 .bf16) (r c : Fin 256) (q : Fin 1024) (e : q.val = 256 + c.val) :
    k0_pay17 (F := Ideal) (k0_pay4 v0) (k0_pay7 i v0 v3) (k0_pay12 i) (ix2 r c) = kp i v0 v3 4 r q :=
  (pooled_apply 256 _ _ _ _ _ r c q e).trans
    (congrArg₂ (fun a b : EReal => Ideal.div a b - v0 (ix2 r q)) (pay7_apply i v0 v3 r q) (pay12_apply i r))

theorem pay19_apply (i : grid0.Coords) (v0 : FVec Ideal S256x1024 .bf16) (v3 : FVec Ideal S16x1024 .bf16) (r c : Fin 256) (q : Fin 1024) (e : q.val = 512 + c.val) :
    k0_pay19 (F := Ideal) (k0_pay4 v0) (k0_pay9 i v0 v3) (k0_pay13 i) (ix2 r c) = kp i v0 v3 8 r q :=
  (pooled_apply 512 _ _ _ _ _ r c q e).trans
    (congrArg₂ (fun a b : EReal => Ideal.div a b - v0 (ix2 r q)) (pay9_apply i v0 v3 r q) (pay13_apply i r))

theorem pay2_apply (i : grid0.Coords) (v0 : FVec Ideal S256x1024 .bf16) (v3 : FVec Ideal S16x1024 .bf16) (r c : Fin 256) (q : Fin 1024) (e : q.val = 768 + c.val) :
    k0_pay2 (F := Ideal) (k0_pay4 v0) (k0_pay10 i v0 v3) (k0_pay14 i) (ix2 r c) = kp i v0 v3 16 r q :=
  (pooled_apply 768 _ _ _ _ _ r c q e).trans
    (congrArg₂ (fun a b : EReal => Ideal.div a b - v0 (ix2 r q)) (pay10_apply i v0 v3 r q) (pay14_apply i r))

/-! ## The product with the mixing matrix, scaled -/

theorem mix_apply (P : FVec Ideal S256x256 .bf16) (w : FVec Ideal S1x256x256 .bf16) (s : FVec Ideal S1x256 .f32) (hb : FTy.bits .bf16 < FTy.bits .f32) (r d : Fin 256) :
    (truncf .bf16 (mulf (matmul dot_S256x256_S256x256_S256x256_1_0_0_1_n_n none P (shapeCast S256x256 w shapeCasts_S1x256x256_S256x256)
      (constant S256x256 .f32 0x00000000#32)) (broadcastTo S256x256 s broadcasts_S1x256_S256x256)) hb : FVec Ideal S256x256 .bf16) (ix2 r d)
      = (∑ k : Fin 256, P (ix2 r k) * w (ix3 (0 : Fin 1) k d)) * s (ix2 (0 : Fin 1) d) := by
  pointwise

/-- An entry of the product of a block. -/
def km (i : grid0.Coords) (v0 : FVec Ideal S256x1024 .bf16) (v3 : FVec Ideal S16x1024 .bf16) (W : FVec Ideal S4x256x256 .bf16) (s : FVec Ideal S1x1024 .f32)
    (g : Fin 4) (w : Nat) (r d : Fin 256) : EReal :=
  (∑ k : Fin 256, kp i v0 v3 w r (⟨g.val * 256 + k.val, by omega⟩ : Fin 1024) * W (ix3 g k d)) * s (ix2 (0 : Fin 1) (⟨g.val * 256 + d.val, by omega⟩ : Fin 1024))

theorem mix_of (i : grid0.Coords) (v0 : FVec Ideal S256x1024 .bf16) (v3 : FVec Ideal S16x1024 .bf16) (W : FVec Ideal S4x256x256 .bf16) (S : FVec Ideal S1x1024 .f32)
    (g : Fin 4) (w : Nat) (r d : Fin 256) (P : FVec Ideal S256x256 .bf16) (x : FVec Ideal S1x256x256 .bf16) (s : FVec Ideal S1x256 .f32) (hb : FTy.bits .bf16 < FTy.bits .f32)
    (hP : ∀ k : Fin 256, P (ix2 r k) = kp i v0 v3 w r (⟨g.val * 256 + k.val, by omega⟩ : Fin 1024))
    (hx : ∀ k : Fin 256, x (ix3 (0 : Fin 1) k d) = W (ix3 g k d))
    (hs : s (ix2 (0 : Fin 1) d) = S (ix2 (0 : Fin 1) (⟨g.val * 256 + d.val, by omega⟩ : Fin 1024))) :
    (truncf .bf16 (mulf (matmul dot_S256x256_S256x256_S256x256_1_0_0_1_n_n none P (shapeCast S256x256 x shapeCasts_S1x256x256_S256x256)
      (constant S256x256 .f32 0x00000000#32)) (broadcastTo S256x256 s broadcasts_S1x256_S256x256)) hb : FVec Ideal S256x256 .bf16) (ix2 r d)
      = km i v0 v3 W S g w r d :=
  (mix_apply P x s hb r d).trans (congrArg₂ (fun a b : EReal => a * b)
    (Finset.sum_congr rfl fun k _ => congrArg₂ (fun a b : EReal => a * b) (hP k) (hx k)) hs)

end Cert.Proof.Poolf

end
-- ==== Proof.Poolf.lean ====
/-
  The pooling (`pool_fwd`): the pooled columns of z, and their mixed and scaled product, block of rows by block of rows.
-/
module

public import proofs.«01_k».proof.Proof.Gen.KPoolfIdeal.Value
public import proofs.«01_k».proof.Proof.Gen.RPoolfIdeal.Read
public import Idealize.ShloMosaic.Lib.Pipeline.ValueKit
public import Idealize.ShloMosaic.Lib.Pipeline.ValueKit.Partial
public import Idealize.ShloMosaic.Lib.Pointwise
public import proofs.«01_k».proof.Proof.PoolfK
public import proofs.«01_k».proof.Pre_finite_poolf

@[expose] public section

noncomputable section

namespace Cert.Proof.Poolf

open Cert.KPoolfIdeal Cert.KPoolfIdeal.Gen Idealize.ShloMosaic Idealize.ShloMosaic.TcCoe Idealize.SL.Sem
open Idealize.ShloMosaic.Pipeline (Dat Cfg Window)
open Cert.Proof.Pool
open Cert.Proof.Poolb (cnt wd coe_sum)
open scoped BigOperators

variable (m : (ℓ : Loc nD τ sig) → Buf (Elt Ideal) ℓ)

theorem idx0 : ∀ t : Fin cfg0.N, win0_0.index t = ![t.val, 4] := (by decide +kernel : ∀ t : Fin grid0.N, _)
theorem idx1 : ∀ t : Fin cfg0.N, win0_1.index t = ![t.val * 16 - 1, 4] := (by decide +kernel : ∀ t : Fin grid0.N, _)
theorem idx2 : ∀ t : Fin cfg0.N, win0_2.index t = ![0, 0, 0] := (by decide +kernel : ∀ t : Fin grid0.N, _)
theorem idx3 : ∀ t : Fin cfg0.N, win0_3.index t = ![0, 0] := (by decide +kernel : ∀ t : Fin grid0.N, _)
theorem idx4 : ∀ t : Fin cfg0.N, win0_4.index t = ![t.val, 0] := (by decide +kernel : ∀ t : Fin grid0.N, _)
theorem idx5 : ∀ t : Fin cfg0.N, win0_5.index t = ![t.val, 0] := (by decide +kernel : ∀ t : Fin grid0.N, _)
theorem co : ∀ t : Fin cfg0.N, (grid0.coords t 0).val = t.val := (by decide +kernel : ∀ t : Fin grid0.N, _)

def zz (c : Dev nD) : FVec Ideal S8192x6400 .bf16 := m ((c : Thread nD τ).loc main_arg0)
def pm (c : Dev nD) : FVec Ideal S4x256x256 .bf16 := m ((c : Thread nD τ).loc main_arg1)
def sc (c : Dev nD) : FVec Ideal S1x1024 .f32 := m ((c : Thread nD τ).loc main_arg2)

theorem rd0 (c : Dev nD) (t : Fin cfg0.N) (r : Fin 256) (k : Fin 1024) (n : Fin 8192) (q : Fin 6400) (e : n.val = t.val * 256 + r.val) (eq : q.val = 4096 + k.val) :
    (X0_0 m c t : FVec Ideal S256x1024 .bf16) (ix2 r k) = zz m c (ix2 n q) := by
  unfold zz X0_0 Pipeline.Window.fill
  rw [dif_pos (moved0_0 t (ix2 r k))]
  blk_point [iblk, V, idx0, e, eq]

theorem rd1 (c : Dev nD) (t : Fin cfg0.N) (r : Fin 16) (k : Fin 1024) (n : Fin 8192) (q : Fin 6400) (h : 0 < t.val) (e : n.val + 16 = t.val * 256 + r.val) (eq : q.val = 4096 + k.val) :
    (X0_1 m c t : FVec Ideal S16x1024 .bf16) (ix2 r k) = zz m c (ix2 n q) := by
  have e1 : n.val = (t.val * 16 - 1) * 16 + r.val := by omega
  unfold zz X0_1 Pipeline.Window.fill
  rw [dif_pos (moved0_1 t (ix2 r k))]
  blk_point [iblk, V, idx1, e1, eq]

theorem rd2 (c : Dev nD) (t : Fin cfg0.N) (i : S4x256x256.Idx) :
    (iblk m c 2 t : FVec Ideal S4x256x256 .bf16) i = pm m c i := by
  unfold pm
  blk_point [iblk, V, idx2]

theorem rd3 (c : Dev nD) (t : Fin cfg0.N) (i : S1x1024.Idx) :
    (iblk m c 3 t : FVec Ideal S1x1024 .f32) i = sc m c i := by
  unfold sc
  blk_point [iblk, V, idx3]

theorem wd_le : ∀ g : Fin 4, wd g ≤ 16 := by decide

theorem sum_eq (c : Dev nD) (t : Fin cfg0.N) (g : Fin 4) (r k : Fin 256) (q : Fin 1024) (hq : q.val = g.val * 256 + k.val) (n : Fin 8192) (e : n.val = t.val * 256 + r.val) :
    bsum (grid0.coords t) (X0_0 m c t) (X0_1 m c t) (wd g) r q = wsum (ucol (zz m c) g k) (wd g) n.val := by
  have hw := wd_le g
  refine Finset.sum_congr rfl fun j hj => ?_
  have hj := Finset.mem_range.mp hj
  have hl : 16 + r.val - j < 272 := by omega
  rw [ext_of_lt _ _ hl, xin]
  by_cases h : 16 + r.val - j < 16
  · rw [dif_pos h]
    by_cases h0 : 0 < t.val
    · have hn : n.val - j < 8192 := by omega
      rw [if_pos (by rw [co]; exact h0), if_pos (by omega), ext_of_lt _ _ hn]
      refine (rd1 m c t _ _ ⟨n.val - j, hn⟩ ⟨4096 + (g.val * 256 + k.val), by omega⟩ h0 ?_ ?_).trans rfl
      · dsimp only; omega
      · dsimp only; omega
    · rw [if_neg (by rw [co]; exact h0), if_neg (by omega)]
  · have hn : n.val - j < 8192 := by omega
    rw [dif_neg h, if_pos (by omega), ext_of_lt _ _ hn]
    refine (rd0 m c t _ _ ⟨n.val - j, hn⟩ ⟨4096 + (g.val * 256 + k.val), by omega⟩ ?_ ?_).trans rfl
    · dsimp only; omega
    · dsimp only; omega

theorem kp_eq (c : Dev nD) (t : Fin cfg0.N) (g : Fin 4) (r k : Fin 256) (q : Fin 1024) (hq : q.val = g.val * 256 + k.val) (n : Fin 8192) (e : n.val = t.val * 256 + r.val) :
    kp (grid0.coords t) (X0_0 m c t) (X0_1 m c t) (wd g) r q = pld (zz m c) g k n := by
  refine congrArg₂ (fun a b : EReal => a - b) (congrArg₂ Ideal.div (sum_eq m c t g r k q hq n e) (congrArg (cnt (wd g)) ?_)) ?_
  · rw [co]; omega
  · exact (rd0 m c t _ _ n ⟨4096 + (g.val * 256 + k.val), by omega⟩ e (by dsimp only; omega)).trans rfl

theorem km_eq (c : Dev nD) (t : Fin cfg0.N) (g : Fin 4) (r d : Fin 256) (n : Fin 8192) (e : n.val = t.val * 256 + r.val) :
    km (grid0.coords t) (X0_0 m c t) (X0_1 m c t) (iblk m c 2 t) (iblk m c 3 t) g (wd g) r d = mxd (zz m c) (pm m c) (sc m c) g d n := by
  refine congrArg₂ (fun a b : EReal => a * b) (Finset.sum_congr rfl fun k _ => congrArg₂ (fun a b : EReal => a * b) ?_ ?_) ?_
  · exact kp_eq m c t g r k _ rfl n e
  · exact rd2 m c t _
  · exact rd3 m c t _

theorem hmat (W : FVec Ideal S4x256x256 .bf16) (o : Nat) (h) (c d : Fin 256) (g : Fin 4) (e : g.val = o) :
    @Eq EReal (View.ld (Val := Elt Ideal) (e' := .bf16) W (Rect.unit (s := S4x256x256) ![o, 0, 0] ![1, 256, 256] h) (ix3 (0 : Fin 1) c d)) (W (ix3 g c d)) :=
  View.ld_unit_apply_of (S := S4x256x256) (Val := Elt Ideal) (e := .bf16) W _ _ _ _ _ fun a => by
    fin_cases a <;> simp [ix3, e]

theorem hscl (U : FVec Ideal S1x1024 .f32) (o : Nat) (h) (d : Fin 256) (q : Fin 1024) (e : q.val = o + d.val) :
    @Eq EReal (View.ld (Val := Elt Ideal) (e' := .f32) U (Rect.unit (s := S1x1024) ![0, o] ![1, 256] h) (ix2 (0 : Fin 1) d)) (U (ix2 (0 : Fin 1) q)) :=
  View.ld_unit_apply_of (S := S1x1024) (Val := Elt Ideal) (e := .f32) U _ _ _ _ _ fun a => by
    fin_cases a <;> simp [ix2, e]

/-- Where an entry of a block lies in the array. -/
def at_ (t : Fin cfg0.N) (y : S256x1024.Idx) : S8192x1024.Idx :=
  ix2 (⟨t.val * 256 + (y 0).val, by have h := lt_of_lt_of_eq t.isLt N_0; have h0 : (y 0).val < 256 := (y 0).isLt; omega⟩ : Fin 8192) (y 1)

theorem ucell (c : Dev nD) (hU : ∀ (g : Fin 4) (q : Fin 256) (n : Fin 8192), IsReal (ucol (zz m c) g q n)) (t : Fin cfg0.N) (y : S256x1024.Idx) (g : Fin 4) (r k : Fin 256)
    (e0 : (y 0).val = r.val) (e1 : (y 1).val = g.val * 256 + k.val) :
    kp (grid0.coords t) (X0_0 m c t) (X0_1 m c t) (wd g) r (⟨g.val * 256 + k.val, by omega⟩ : Fin 1024)
      = Cert.RPoolfIdeal.Read.val_main_v129 (F := Ideal) (zz m c) (at_ t y) :=
  (kp_eq m c t g r k _ rfl _ (by dsimp only; rw [e0])).trans (v129_apply (zz m c) hU _ g k (y 1) e1).symm

theorem pcell (c : Dev nD) (hU : ∀ (g : Fin 4) (q : Fin 256) (n : Fin 8192), IsReal (ucol (zz m c) g q n)) (t : Fin cfg0.N) (y : S256x1024.Idx) (g : Fin 4) (r k : Fin 256)
    (e0 : (y 0).val = r.val) (e1 : (y 1).val = g.val * 256 + k.val) :
    km (grid0.coords t) (X0_0 m c t) (X0_1 m c t) (iblk m c 2 t) (iblk m c 3 t) g (wd g) r k
      = Cert.RPoolfIdeal.Read.val_main_v130 (F := Ideal) (zz m c) (pm m c) (sc m c) (at_ t y) :=
  (km_eq m c t g r k _ (by dsimp only; rw [e0])).trans (v130_apply (zz m c) (pm m c) (sc m c) hU _ g k (y 1) e1).symm

theorem ix2_eta (x : S256x256.Idx) : x = ix2 (x 0) (x 1) := funext (Fin.forall_fin_two.mpr ⟨rfl, rfl⟩)

theorem ublock (c : Dev nD) (hU : ∀ (g : Fin 4) (q : Fin 256) (n : Fin 8192), IsReal (ucol (zz m c) g q n)) (t : Fin cfg0.N) (y : S256x1024.Idx) :
    ((outsAt0 m c t).1 : FVec Ideal S256x1024 .bf16) y = Cert.RPoolfIdeal.Read.val_main_v129 (F := Ideal) (zz m c) (at_ t y) := by
  unfold outsAt0
  frame_out
  canon_tiles x h
  · refine (congrArg _ (ix2_eta x)).trans ((pay2_apply (grid0.coords t) (X0_0 m c t) (X0_1 m c t) (x 0) (x 1) _ (by simp)).trans (ucell m c hU t y 3 (x 0) (x 1) (by first | exact h0 | (rw [h0]; simp)) (by first | (rw [h1]; simp) | (simp; omega))))
  · refine (congrArg _ (ix2_eta x)).trans ((pay19_apply (grid0.coords t) (X0_0 m c t) (X0_1 m c t) (x 0) (x 1) _ (by simp)).trans (ucell m c hU t y 2 (x 0) (x 1) (by first | exact h0 | (rw [h0]; simp)) (by first | (rw [h1]; simp) | (simp; omega))))
  · refine (congrArg _ (ix2_eta x)).trans ((pay17_apply (grid0.coords t) (X0_0 m c t) (X0_1 m c t) (x 0) (x 1) _ (by simp)).trans (ucell m c hU t y 1 (x 0) (x 1) (by first | exact h0 | (rw [h0]; simp)) (by first | (rw [h1]; simp) | (simp; omega))))
  · refine (congrArg _ (ix2_eta x)).trans ((pay15_apply (grid0.coords t) (X0_0 m c t) (X0_1 m c t) (x 0) (x 1) _ (by simp)).trans (ucell m c hU t y 0 (x 0) (x 1) (by first | exact h0 | (rw [h0]; simp)) (by first | (rw [h1]; simp) | (simp; omega))))

theorem pblock (c : Dev nD) (hU : ∀ (g : Fin 4) (q : Fin 256) (n : Fin 8192), IsReal (ucol (zz m c) g q n)) (t : Fin cfg0.N) (y : S256x1024.Idx) :
    ((outsAt0 m c t).2 : FVec Ideal S256x1024 .bf16) y = Cert.RPoolfIdeal.Read.val_main_v130 (F := Ideal) (zz m c) (pm m c) (sc m c) (at_ t y) := by
  unfold outsAt0
  frame_out
  canon_tiles x h
  · refine (congrArg _ (ix2_eta x)).trans ((mix_of (grid0.coords t) (X0_0 m c t) (X0_1 m c t) (iblk m c 2 t) (iblk m c 3 t) 3 (wd 3) (x 0) (x 1) _ _ _ _
      (fun k => pay2_apply (grid0.coords t) (X0_0 m c t) (X0_1 m c t) (x 0) k _ (by simp)) (fun k => hmat (iblk m c 2 t) 3 _ k (x 1) _ rfl)
      (hscl (iblk m c 3 t) 768 _ (x 1) _ (by simp))).trans (pcell m c hU t y 3 (x 0) (x 1) (by first | exact h0 | (rw [h0]; simp)) (by first | (rw [h1]; simp) | (simp; omega))))
  · refine (congrArg _ (ix2_eta x)).trans ((mix_of (grid0.coords t) (X0_0 m c t) (X0_1 m c t) (iblk m c 2 t) (iblk m c 3 t) 2 (wd 2) (x 0) (x 1) _ _ _ _
      (fun k => pay19_apply (grid0.coords t) (X0_0 m c t) (X0_1 m c t) (x 0) k _ (by simp)) (fun k => hmat (iblk m c 2 t) 2 _ k (x 1) _ rfl)
      (hscl (iblk m c 3 t) 512 _ (x 1) _ (by simp))).trans (pcell m c hU t y 2 (x 0) (x 1) (by first | exact h0 | (rw [h0]; simp)) (by first | (rw [h1]; simp) | (simp; omega))))
  · refine (congrArg _ (ix2_eta x)).trans ((mix_of (grid0.coords t) (X0_0 m c t) (X0_1 m c t) (iblk m c 2 t) (iblk m c 3 t) 1 (wd 1) (x 0) (x 1) _ _ _ _
      (fun k => pay17_apply (grid0.coords t) (X0_0 m c t) (X0_1 m c t) (x 0) k _ (by simp)) (fun k => hmat (iblk m c 2 t) 1 _ k (x 1) _ rfl)
      (hscl (iblk m c 3 t) 256 _ (x 1) _ (by simp))).trans (pcell m c hU t y 1 (x 0) (x 1) (by first | exact h0 | (rw [h0]; simp)) (by first | (rw [h1]; simp) | (simp; omega))))
  · refine (congrArg _ (ix2_eta x)).trans ((mix_of (grid0.coords t) (X0_0 m c t) (X0_1 m c t) (iblk m c 2 t) (iblk m c 3 t) 0 (wd 0) (x 0) (x 1) _ _ _ _
      (fun k => pay15_apply (grid0.coords t) (X0_0 m c t) (X0_1 m c t) (x 0) k _ (by simp)) (fun k => hmat (iblk m c 2 t) 0 _ k (x 1) _ rfl)
      (hscl (iblk m c 3 t) 0 _ (x 1) _ (by simp))).trans (pcell m c hU t y 0 (x 0) (x 1) (by first | exact h0 | (rw [h0]; simp)) (by first | (rw [h1]; simp) | (simp; omega))))

/-! ## The results -/

set_option maxRecDepth 100000 in
/-- THE POOLED COLUMNS. -/
theorem final_u (c : Dev nD) (hU : ∀ (g : Fin 4) (q : Fin 256) (n : Fin 8192), IsReal (ucol (m ((c : Thread nD τ).loc main_arg0)) g q n)) :
    (dats m 0 c).arrAt 4 cfg0.N = Cert.RPoolfIdeal.Read.val_main_v129 (F := Ideal) (m ((c : Thread nD τ).loc main_arg0)) := by
  refine (dats m 0 c).arrAt_eq_of_covers 4 _ (by decide +kernel) fun t hf y => ?_
  rw [after0_4]
  refine (ublock m c hU t y).trans ?_
  have h1 : (((cfg0.win 4).blk t).view.emb y) 1 = at_ t y 1 := Fin.ext (by blk_simp [idx4, at_])
  have h0 : (((cfg0.win 4).blk t).view.emb y) 0 = at_ t y 0 := Fin.ext (by blk_simp [idx4, at_])
  exact congrArg (Cert.RPoolfIdeal.Read.val_main_v129 (F := Ideal) (zz m c)) (funext (Fin.forall_fin_two.mpr ⟨h0.symm, h1.symm⟩))

set_option maxRecDepth 100000 in
/-- THE MIXED AND SCALED PRODUCT. -/
theorem final_p (c : Dev nD) (hU : ∀ (g : Fin 4) (q : Fin 256) (n : Fin 8192), IsReal (ucol (m ((c : Thread nD τ).loc main_arg0)) g q n)) :
    (dats m 0 c).arrAt 5 cfg0.N = Cert.RPoolfIdeal.Read.val_main_v130 (F := Ideal) (m ((c : Thread nD τ).loc main_arg0)) (m ((c : Thread nD τ).loc main_arg1)) (m ((c : Thread nD τ).loc main_arg2)) := by
  refine (dats m 0 c).arrAt_eq_of_covers 5 _ (by decide +kernel) fun t hf y => ?_
  rw [after0_5]
  refine (pblock m c hU t y).trans ?_
  have h1 : (((cfg0.win 5).blk t).view.emb y) 1 = at_ t y 1 := Fin.ext (by blk_simp [idx5, at_])
  have h0 : (((cfg0.win 5).blk t).view.emb y) 0 = at_ t y 0 := Fin.ext (by blk_simp [idx5, at_])
  exact congrArg (Cert.RPoolfIdeal.Read.val_main_v130 (F := Ideal) (zz m c) (pm m c) (sc m c)) (funext (Fin.forall_fin_two.mpr ⟨h0.symm, h1.symm⟩))

/-- What the precondition gives. -/
theorem real_of_pre [Cert.Pre_finite_poolf.Facts] (z : FVec Ideal Cert.Pre_finite_poolf.S8192x6400 .bf16) (x1 : FVec Ideal Cert.Pre_finite_poolf.S4x256x256 .bf16)
    (x2 : FVec Ideal Cert.Pre_finite_poolf.S1x1024 .f32) (hp : Cert.Pre_finite_poolf.fn (F := Ideal) z x1 x2 = fun _ => 1#1) :
    ∀ (g : Fin 4) (q : Fin 256) (n : Fin 8192), IsReal (ucol z g q n) := by
  have e := congrFun hp (fun k => k.elim0)
  have : Subsingleton Cert.Pre_finite_poolf.S_.Idx := ⟨fun a b => funext fun k => k.elim0⟩
  intro g q n
  have h := IsReal.of_all _ _ (fun _ => ofBits_inf) _ _ _ _ e (ix2 n (⟨g.val * 256 + q.val, by omega⟩ : Fin 1024))
  refine (congrArg IsReal ?_).mp h
  pointwise [ucol]

end Cert.Proof.Poolf

end
-- ==== Proof.AttnfRef.lean ====
/-
  The sliding-window attention with sinks as the problem writes it: what its lines compute, entry by entry.
-/
module

public import proofs.«01_k».proof.Proof.Gen.RAttnfIdeal.Read
public import Idealize.ShloMosaic.Lib.Pipeline.ValueKit
public import Idealize.ShloMosaic.Lib.Pointwise

@[expose] public section

noncomputable section

namespace Cert.Proof.Attnf

open Cert.RAttnfIdeal Idealize.ShloMosaic Idealize.ShloMosaic.TcCoe Idealize.SL.Sem
open Cert.RAttnfIdeal.Read
open scoped BigOperators

/-- The projection's columns of the queries, of the keys and of the values: at a row, a head and a place in the head. -/
def qz (x0 : FVec Ideal S8192x6400 .bf16) (t : Fin 8192) (h : Fin 16) (d : Fin 64) : EReal := x0 (ix2 t (⟨5120 + (h.val * 64 + d.val), by omega⟩ : Fin 6400))
def kz (x0 : FVec Ideal S8192x6400 .bf16) (t : Fin 8192) (h : Fin 2) (d : Fin 64) : EReal := x0 (ix2 t (⟨6144 + (h.val * 64 + d.val), by omega⟩ : Fin 6400))
def vz (x0 : FVec Ideal S8192x6400 .bf16) (t : Fin 8192) (h : Fin 2) (d : Fin 64) : EReal := x0 (ix2 t (⟨6272 + (h.val * 64 + d.val), by omega⟩ : Fin 6400))

/-- The factor of a head's row, from the sum of its squares. -/
def fac (s : EReal) : EReal := Ideal.rsqrt (Ideal.div s (Ideal.ofBits .f32 0x42800000#32) + Ideal.ofBits .f32 0x358637BD#32)

/-- A head's row, normalised, with the gain. -/
def nrm (f : Fin 64 → EReal) (g : FVec Ideal S1x64 .f32) (d : Fin 64) : EReal := f d * fac (∑ k : Fin 64, f k * f k) * g (ix2 (0 : Fin 1) d)

theorem v6_apply (x0 : FVec Ideal S8192x6400 .bf16) (t : Fin 8192) (h : Fin 16) (d : Fin 64) :
    val_main_v6 (F := Ideal) x0 (ix3 t h d) = qz x0 t h d := by
  pointwise [val_main_v6, val_main_v1, val_main_v0, qz]

theorem v21_apply (x0 : FVec Ideal S8192x6400 .bf16) (t : Fin 8192) (h : Fin 2) (d : Fin 64) :
    val_main_v21 (F := Ideal) x0 (ix3 t h d) = kz x0 t h d := by
  pointwise [val_main_v21, val_main_v3, val_main_v2, kz]

theorem v39_apply (x0 : FVec Ideal S8192x6400 .bf16) (t : Fin 8192) (h : Fin 2) (d : Fin 64) :
    val_main_v39 (F := Ideal) x0 (ix3 t h d) = vz x0 t h d := by
  pointwise [val_main_v39, val_main_v5, val_main_v4, vz]

theorem v19_apply (x0 : FVec Ideal S8192x6400 .bf16) (x1 : FVec Ideal S1x64 .f32) (t : Fin 8192) (h : Fin 16) (d : Fin 64) :
    val_main_v19 (F := Ideal) x0 x1 (ix3 t h d) = nrm (qz x0 t h) x1 d := by
  have e := v6_apply x0
  pointwise [val_main_v19, val_main_v18, val_main_v17, val_main_v16, val_main_v15, val_main_v14, val_main_v13, val_main_v12, val_main_cst_1, val_main_v11, val_main_v10, val_main_cst_0, val_main_v9, val_main_v8, val_main_cst, val_main_v7, nrm, fac]
  simp only [e]

theorem v34_apply (x0 : FVec Ideal S8192x6400 .bf16) (x2 : FVec Ideal S1x64 .f32) (t : Fin 8192) (h : Fin 2) (d : Fin 64) :
    val_main_v34 (F := Ideal) x0 x2 (ix3 t h d) = nrm (kz x0 t h) x2 d := by
  have e := v21_apply x0
  pointwise [val_main_v34, val_main_v33, val_main_v32, val_main_v31, val_main_v30, val_main_v29, val_main_v28, val_main_v27, val_main_cst_4, val_main_v26, val_main_v25, val_main_cst_3, val_main_v24, val_main_v23, val_main_cst_2, val_main_v22, nrm, fac]
  simp only [e]

theorem v20_apply (x0 : FVec Ideal S8192x6400 .bf16) (x1 : FVec Ideal S1x64 .f32) (n : Fin 64) (i : Fin 128) (h : Fin 2) (g : Fin 8) (d : Fin 64) :
    val_main_v20 (F := Ideal) x0 x1 (ix5 n i h g d) = nrm (qz x0 ⟨n.val * 128 + i.val, by omega⟩ ⟨h.val * 8 + g.val, by omega⟩) x1 d := by
  have e := v19_apply x0 x1
  pointwise [val_main_v20]
  exact e _ _ _

theorem v35_apply (x0 : FVec Ideal S8192x6400 .bf16) (x2 : FVec Ideal S1x64 .f32) (n : Fin 64) (i : Fin 128) (h : Fin 2) (d : Fin 64) :
    val_main_v35 (F := Ideal) x0 x2 (ix4 n i h d) = nrm (kz x0 ⟨n.val * 128 + i.val, by omega⟩ h) x2 d := by
  have e := v34_apply x0 x2
  pointwise [val_main_v35]
  exact e _ _ _

theorem v40_apply (x0 : FVec Ideal S8192x6400 .bf16) (n : Fin 64) (i : Fin 128) (h : Fin 2) (d : Fin 64) :
    val_main_v40 (F := Ideal) x0 (ix4 n i h d) = vz x0 ⟨n.val * 128 + i.val, by omega⟩ h d := by
  have e := v39_apply x0
  pointwise [val_main_v40]
  exact e _ _ _

/-- A key, and a value, of a block's band; before the first row they are zero. -/
def kb (x0 : FVec Ideal S8192x6400 .bf16) (x2 : FVec Ideal S1x64 .f32) (n : Fin 64) (h : Fin 2) (j : Fin 256) (d : Fin 64) : EReal :=
  if hj : 128 ≤ n.val * 128 + j.val then nrm (kz x0 ⟨n.val * 128 + j.val - 128, by omega⟩ h) x2 d else 0
def vb (x0 : FVec Ideal S8192x6400 .bf16) (n : Fin 64) (h : Fin 2) (j : Fin 256) (d : Fin 64) : EReal :=
  if hj : 128 ≤ n.val * 128 + j.val then vz x0 ⟨n.val * 128 + j.val - 128, by omega⟩ h d else 0

theorem sitofp_zero : FloatOps.sitofp (F := Ideal) FTy.f32 (0#32) = (0 : EReal) := by
  show (((0#32 : BitVec 32).toInt : ℝ) : EReal) = 0
  simp

theorem ninf : Ideal.ofBits .f32 0xFF800000#32 = (⊥ : EReal) := by
  simp [Ideal.ofBits, Ideal.ieee]

theorem v38_apply (x0 : FVec Ideal S8192x6400 .bf16) (x2 : FVec Ideal S1x64 .f32) (n : Fin 64) (j : Fin 256) (h : Fin 2) (d : Fin 64) :
    val_main_v38 (F := Ideal) x0 x2 (ix4 n j h d) = kb x0 x2 n h j d := by
  have e := v35_apply x0 x2
  pointwise [val_main_v38, val_main_v37, val_main_v36, val_main_call0_v0, val_main_c, kb]
  simp only [e]
  split_ifs <;> first
    | omega
    | exact sitofp_zero
    | (refine congrArg (fun t => nrm (kz x0 t h) x2 d) (Fin.ext ?_); simp only []; omega)
    | (rw [dif_pos (by omega)]; refine congrArg (fun t => nrm (kz x0 t h) x2 d) (Fin.ext ?_); simp only []; omega)

theorem v43_apply (x0 : FVec Ideal S8192x6400 .bf16) (n : Fin 64) (j : Fin 256) (h : Fin 2) (d : Fin 64) :
    val_main_v43 (F := Ideal) x0 (ix4 n j h d) = vb x0 n h j d := by
  have e := v40_apply x0
  pointwise [val_main_v43, val_main_v42, val_main_v41, val_main_call1_v0, val_main_c_5, vb]
  simp only [e]
  split_ifs <;> first
    | omega
    | exact sitofp_zero
    | (refine congrArg (fun t => vz x0 t h d) (Fin.ext ?_); simp only []; omega)
    | (rw [dif_pos (by omega)]; refine congrArg (fun t => vz x0 t h d) (Fin.ext ?_); simp only []; omega)

/-! ### The band -/

/-- A query sees the keys of its own place and of the 127 before it; in the first block none lies before. -/
abbrev band (n i j : Nat) : Prop := i < j ∧ j ≤ i + 128 ∧ (128 ≤ j ∨ 0 < n)

theorem ofNat_ofInt (k : Nat) : BitVec.ofNat 32 k = BitVec.ofInt 32 (k : ℤ) := (BitVec.ofInt_natCast 32 k).symm

theorem toInt_small (z : ℤ) (h : -100000 ≤ z) (h' : z ≤ 100000) : (BitVec.ofInt 32 z).toInt = z := by
  rw [BitVec.toInt_ofInt, Int.bmod_def]; omega

theorem cmp_sge (z w : ℤ) (h : -100000 ≤ z) (h' : z ≤ 100000) (k : -100000 ≤ w) (k' : w ≤ 100000) :
    IntOp.cmpi .sge (BitVec.ofInt 32 z) (BitVec.ofInt 32 w) = if w ≤ z then 1#1 else 0#1 := by
  simp only [IntOp.cmpi, BitVec.sle, toInt_small z h h', toInt_small w k k']
  by_cases e : w ≤ z <;> simp [e]

theorem cmp_slt (z w : ℤ) (h : -100000 ≤ z) (h' : z ≤ 100000) (k : -100000 ≤ w) (k' : w ≤ 100000) :
    IntOp.cmpi .slt (BitVec.ofInt 32 z) (BitVec.ofInt 32 w) = if z < w then 1#1 else 0#1 := by
  simp only [IntOp.cmpi, BitVec.slt, toInt_small z h h', toInt_small w k k']
  by_cases e : z < w <;> simp [e]

theorem ofInt_sub' (a b : ℤ) : BitVec.ofInt 32 (a - b) = BitVec.ofInt 32 a - BitVec.ofInt 32 b := by
  rw [sub_eq_add_neg, BitVec.ofInt_add, BitVec.ofInt_neg, ← BitVec.sub_eq_add_neg]

theorem key_word (n j : Nat) : IntOp.addi (IntOp.muli (IntOp.subi (BitVec.ofNat 32 n) 1#32) 128#32) (BitVec.ofNat 32 j)
    = BitVec.ofInt 32 (((n : ℤ) - 1) * 128 + j) := by
  rw [ofNat_ofInt n, ofNat_ofInt j, show (1#32) = BitVec.ofInt 32 1 from rfl, show (128#32) = BitVec.ofInt 32 128 from rfl]
  simp only [IntOp.addi, IntOp.muli, IntOp.subi, ← ofInt_sub', ← BitVec.ofInt_mul, ← BitVec.ofInt_add]

theorem query_word (n i : Nat) : IntOp.addi (IntOp.muli (BitVec.ofNat 32 n) 128#32) (BitVec.ofNat 32 i) = BitVec.ofInt 32 ((n : ℤ) * 128 + i) := by
  rw [ofNat_ofInt n, ofNat_ofInt i, show (128#32) = BitVec.ofInt 32 128 from rfl]
  simp only [IntOp.addi, IntOp.muli, ← BitVec.ofInt_mul, ← BitVec.ofInt_add]

theorem v82_apply (n : Fin 64) (i : Fin 128) (j : Fin 256) :
    val_main_v82 (F := Ideal) (ix5 n (0 : Fin 1) (0 : Fin 1) i j) = if band n.val i.val j.val then 1#1 else 0#1 := by
  pointwise [val_main_v82, val_main_v81, val_main_v80, val_main_v79, val_main_v78, val_main_c_12, val_main_v77, val_main_v76, val_main_v75, val_main_c_11, val_main_v74, val_main_v73, val_main_c_10, val_main_v72, val_main_v71, val_main_v70, val_main_v69, val_main_v68, val_main_v67, val_main_v66, val_main_v65, val_main_v64, val_main_v63, val_main_c_9, val_main_v62, val_main_v61, val_main_v60, val_main_v59, val_main_v58, val_main_v57, val_main_v56, val_main_c_8, val_main_v55, val_main_v54, val_main_c_7, val_main_v53, val_main_v52]
  have hn := n.isLt
  have hi := i.isLt
  have hj := j.isLt
  rw [key_word, query_word, show IntOp.subi (BitVec.ofInt 32 ((n.val : ℤ) * 128 + i.val)) (BitVec.ofInt 32 (((n.val : ℤ) - 1) * 128 + j.val))
      = BitVec.ofInt 32 ((i.val : ℤ) + 128 - j.val) from by
        simp only [IntOp.subi, ← ofInt_sub']; exact congrArg (BitVec.ofInt 32) (by ring),
    show (0#32) = BitVec.ofInt 32 0 from rfl, show (128#32) = BitVec.ofInt 32 128 from rfl,
    cmp_sge _ _ (by omega) (by omega) (by omega) (by omega), cmp_slt _ _ (by omega) (by omega) (by omega) (by omega),
    cmp_sge _ _ (by omega) (by omega) (by omega) (by omega)]
  unfold band
  split_ifs <;> first | omega | rfl

/-! ### The logits and the softmax with a sink -/

/-- The softmax of a row of logits and a sink, applied to the values. -/
def att (L : Fin 256 → EReal) (s : EReal) (v : Fin 256 → EReal) : EReal :=
  ∑ j : Fin 256, Ideal.div (Ideal.exp (L j - max (Finset.univ.fold max ⊥ L) s))
    (∑ k : Fin 256, Ideal.exp (L k - max (Finset.univ.fold max ⊥ L) s) + Ideal.exp (s - max (Finset.univ.fold max ⊥ L) s)) * v j

/-- A query's logits: −∞ outside its band. -/
def lg (x0 : FVec Ideal S8192x6400 .bf16) (x1 x2 : FVec Ideal S1x64 .f32) (x4 : FVec Ideal S16x128x256 .f32) (n : Fin 64) (i : Fin 128)
    (h : Fin 2) (g : Fin 8) (j : Fin 256) : EReal :=
  if band n.val i.val j.val then (∑ d : Fin 64, kb x0 x2 n h j d * nrm (qz x0 ⟨n.val * 128 + i.val, by omega⟩ ⟨h.val * 8 + g.val, by omega⟩) x1 d)
    * Ideal.ofBits .f32 0x3E000000#32 + x4 (ix3 (⟨h.val * 8 + g.val, by omega⟩ : Fin 16) i j) else ⊥

theorem v47_apply (x0 : FVec Ideal S8192x6400 .bf16) (x1 x2 : FVec Ideal S1x64 .f32) (n : Fin 64) (i : Fin 128) (j : Fin 256) (h : Fin 2) (g : Fin 8) :
    val_main_v47 (F := Ideal) x0 x1 x2 (ix5 n h g i j)
      = (∑ d : Fin 64, kb x0 x2 n h j d * nrm (qz x0 ⟨n.val * 128 + i.val, by omega⟩ ⟨h.val * 8 + g.val, by omega⟩) x1 d) * Ideal.ofBits .f32 0x3E000000#32 := by
  have e := v38_apply x0 x2
  have e' := v20_apply x0 x1
  pointwise [val_main_v47, val_main_v46, val_main_v45, val_main_v44, val_main_cst_6]
  simp only [e, e']

theorem v83_apply (x0 : FVec Ideal S8192x6400 .bf16) (x1 x2 : FVec Ideal S1x64 .f32) (x4 : FVec Ideal S16x128x256 .f32) (n : Fin 64) (i : Fin 128)
    (j : Fin 256) (h : Fin 2) (g : Fin 8) : val_main_v83 (F := Ideal) x0 x1 x2 x4 (ix5 n h g i j) = lg x0 x1 x2 x4 n i h g j := by
  have e := v82_apply n i j
  have e' := v47_apply x0 x1 x2 n i j h g
  pointwise [val_main_v83, val_main_call2_v2, val_main_call2_v1, val_main_call2_v0, val_main_cst_13, val_main_v51, val_main_v50, val_main_v49, val_main_v48]
  rw [e, e']
  unfold lg
  by_cases hb : band n.val i.val j.val
  · rw [if_pos hb, if_pos hb]; rfl
  · rw [if_neg hb, if_neg hb]; exact ninf

variable (x0 : FVec Ideal S8192x6400 .bf16) (x1 x2 : FVec Ideal S1x64 .f32) (x3 : FVec Ideal S1x16 .f32) (x4 : FVec Ideal S16x128x256 .f32) (n : Fin 64)
  (i : Fin 128) (h : Fin 2) (g : Fin 8)

/-- The logits with the sink after them. -/
def ext (j : Fin 257) : EReal := if hj : j.val < 256 then lg x0 x1 x2 x4 n i h g ⟨j.val, hj⟩ else x3 (ix2 (0 : Fin 1) (⟨h.val * 8 + g.val, by omega⟩ : Fin 16))

theorem v86_apply (j : Fin 257) : val_main_v86 (F := Ideal) x0 x1 x2 x3 x4 (ix5 n h g i j) = ext x0 x1 x2 x3 x4 n i h g j := by
  have e := v83_apply x0 x1 x2 x4 n i
  pointwise [val_main_v86, val_main_v85, val_main_v84]
  simp only [e, ext]

theorem ext_succ (j : Fin 256) : ext x0 x1 x2 x3 x4 n i h g j.castSucc = lg x0 x1 x2 x4 n i h g j := by
  unfold ext; rw [dif_pos (show j.castSucc.val < 256 from j.isLt)]; rfl

theorem ext_last : ext x0 x1 x2 x3 x4 n i h g (Fin.last 256) = x3 (ix2 (0 : Fin 1) (⟨h.val * 8 + g.val, by omega⟩ : Fin 16)) := by
  unfold ext; rw [dif_neg (show ¬ (Fin.last 256).val < 256 from by simp)]

theorem v87_apply : val_main_v87 (F := Ideal) x0 x1 x2 x3 x4 (ix4 n h g i) = Finset.univ.fold max ⊥ (ext x0 x1 x2 x3 x4 n i h g) := by
  have e : (fun j : Fin 257 => val_main_v86 (F := Ideal) x0 x1 x2 x3 x4 (ix5 n h g i j)) = ext x0 x1 x2 x3 x4 n i h g := funext fun j => v86_apply x0 x1 x2 x3 x4 n i h g j
  pointwise [val_main_v87, val_main_cst_14]
  rw [e, ninf]

theorem fold_ext : max ⊥ (Finset.univ.fold max ⊥ (ext x0 x1 x2 x3 x4 n i h g))
    = max (Finset.univ.fold max ⊥ (lg x0 x1 x2 x4 n i h g)) (x3 (ix2 (0 : Fin 1) (⟨h.val * 8 + g.val, by omega⟩ : Fin 16))) := by
  have e : (Finset.univ : Finset (Fin 257)) = Finset.cons (Fin.last 256) (Finset.univ.map Fin.castSuccEmb) (by
      simp only [Finset.mem_map, Finset.mem_univ, true_and, not_exists]
      intro x hx
      have h1 : x.val = 256 := congrArg Fin.val hx
      omega) := by
    ext a; cases a using Fin.lastCases <;> simp
  rw [max_eq_right bot_le, e, Finset.fold_cons, Finset.fold_map, ext_last, max_comm]
  refine congrArg (fun f => max (Finset.univ.fold max ⊥ f) _) (funext fun j => ext_succ x0 x1 x2 x3 x4 n i h g j)

theorem v89_apply : val_main_v89 (F := Ideal) x0 x1 x2 x3 x4 (ix4 n h g i)
    = max (Finset.univ.fold max ⊥ (lg x0 x1 x2 x4 n i h g)) (x3 (ix2 (0 : Fin 1) (⟨h.val * 8 + g.val, by omega⟩ : Fin 16))) := by
  refine Eq.trans ?_ (fold_ext x0 x1 x2 x3 x4 n i h g)
  have e := v87_apply x0 x1 x2 x3 x4 n i h g
  rw [val_main_v89_apply, e]
  have e' : val_main_v88 (F := Ideal) (ix4 n h g i) = ⊥ := by
    pointwise [val_main_v88, val_main_cst_15]
    exact ninf
  rw [e']
  rfl

theorem v97_apply (j : Fin 257) : val_main_v97 (F := Ideal) x0 x1 x2 x3 x4 (ix5 n h g i j)
    = Ideal.div (Ideal.exp (ext x0 x1 x2 x3 x4 n i h g j - val_main_v89 (F := Ideal) x0 x1 x2 x3 x4 (ix4 n h g i)))
        (∑ k : Fin 257, Ideal.exp (ext x0 x1 x2 x3 x4 n i h g k - val_main_v89 (F := Ideal) x0 x1 x2 x3 x4 (ix4 n h g i))) := by
  have e := v86_apply x0 x1 x2 x3 x4 n i h g
  pointwise [val_main_v97, val_main_v96, val_main_v95, val_main_v94, val_main_cst_16, val_main_v93, val_main_v92, val_main_v91, val_main_v90]
  simp only [e]

theorem v100_apply (d : Fin 64) : val_main_v100 (F := Ideal) x0 x1 x2 x3 x4 (ix5 n i h g d)
    = att (lg x0 x1 x2 x4 n i h g) (x3 (ix2 (0 : Fin 1) (⟨h.val * 8 + g.val, by omega⟩ : Fin 16))) (fun j => vb x0 n h j d) := by
  have e := v97_apply x0 x1 x2 x3 x4 n i h g
  have e' := v43_apply x0 n
  pointwise [val_main_v100, val_main_v99, val_main_v98]
  simp only [e, e', v89_apply, Fin.sum_univ_castSucc (n := 256), ext_succ, ext_last]
  unfold att
  refine Finset.sum_congr rfl fun j _ => ?_
  rw [mul_comm]
  exact congrArg (fun a => Ideal.div (Ideal.exp (a - _)) _ * _) (ext_succ x0 x1 x2 x3 x4 n i h g j)

/-- What the problem's lines compute. -/
theorem ref_apply (t : Fin 8192) (c : Fin 1024) : val_main_v102 (F := Ideal) x0 x1 x2 x3 x4 (ix2 t c)
    = att (lg x0 x1 x2 x4 ⟨t.val / 128, by omega⟩ ⟨t.val % 128, by omega⟩ ⟨c.val / 512, by omega⟩ ⟨c.val / 64 % 8, by omega⟩)
        (x3 (ix2 (0 : Fin 1) (⟨c.val / 512 * 8 + c.val / 64 % 8, by omega⟩ : Fin 16)))
        (fun j => vb x0 ⟨t.val / 128, by omega⟩ ⟨c.val / 512, by omega⟩ j ⟨c.val % 64, by omega⟩) := by
  have e := v100_apply x0 x1 x2 x3 x4
  pointwise [val_main_v102, val_main_v101]
  exact e _ _ _ _ _

end Cert.Proof.Attnf

end
-- ==== Proof.AttnfK.lean ====
/-
  What the attention's kernel does in one block: the heads are stacked, each on its half of the lanes, and every step's entry is said.
-/
module

public import proofs.«01_k».proof.Proof.AttnfRef
public import proofs.«01_k».proof.Proof.Gen.KAttnfIdeal.Value

@[expose] public section

noncomputable section

namespace Cert.Proof.Attnf

open Cert.KAttnfIdeal Cert.KAttnfIdeal.Gen Idealize.ShloMosaic Idealize.ShloMosaic.TcCoe Idealize.SL.Sem
open scoped BigOperators

/-- Half of the lanes: the lane of a place. -/
abbrev lane (h : Fin 2) (d : Fin 64) : Fin 128 := ⟨h.val * 64 + d.val, by omega⟩

/-- A stacked row. -/
abbrev srow (hd : Fin 16) (i : Fin 128) : Fin 2048 := ⟨hd.val * 128 + i.val, by omega⟩

/-- The half that a head's key and value head has. -/
abbrev kvh (hd : Fin 16) : Fin 2 := ⟨hd.val / 8, by omega⟩

/-- A sum over the lanes of what is zero outside one half. -/
theorem sum_half (h : Fin 2) (f : Fin 128 → EReal) (g : Fin 64 → EReal) (h1 : ∀ d, f (lane h d) = g d)
    (h0 : ∀ l : Fin 128, l.val / 64 ≠ h.val → f l = 0) : ∑ l : Fin 128, f l = ∑ d : Fin 64, g d := by
  refine (Fin.sum_univ_add (a := 64) (b := 64) f).trans ?_
  match h, h1, h0 with
  | 0, h1, h0 =>
    have e : ∑ d : Fin 64, f (Fin.natAdd 64 d) = 0 := Finset.sum_eq_zero fun d _ => h0 _ (by simp only [Fin.val_natAdd]; show ¬ _ = 0; omega)
    rw [e, add_zero]
    exact Finset.sum_congr rfl fun d _ => (congrArg f (Fin.ext (by simp))).trans (h1 d)
  | 1, h1, h0 =>
    have e : ∑ d : Fin 64, f (Fin.castAdd 64 d) = 0 := Finset.sum_eq_zero fun d _ => h0 _ (by simp only [Fin.val_castAdd]; show ¬ _ = 1; omega)
    rw [e, zero_add]
    exact Finset.sum_congr rfl fun d _ => (congrArg f (Fin.ext (by simp; omega))).trans (h1 d)

theorem sel1 (a b : EReal) : Scalar.select (1#1) a b = a := rfl
theorem sel0 (a b : EReal) : Scalar.select (0#1) a b = b := rfl

/-! ### The words -/

theorem lane_word : ∀ l : Fin 128, IntOp.cmpi .slt (BitVec.ofNat 32 l.val) 64#32 = if l.val < 64 then 1#1 else 0#1 := by decide +kernel

/-- The word that says whether a stacked row is of the first eight heads, as the kernel finds it. -/
def hw (r : BitVec 32) : BitVec 1 :=
  IntOp.cmpi .slt (IntOp.addi 0#32 (Scalar.select (IntOp.andi (IntOp.cmpi .ne
    (IntOp.subi (BitVec.setWidth 32 (IntOp.cmpi .sgt r 0#32)) (BitVec.setWidth 32 (IntOp.cmpi .slt r 0#32)))
    (Scalar.subi (Scalar.extui (Scalar.cmpi .sgt 128#32 0#32)) (Scalar.extui (Scalar.cmpi .slt 128#32 0#32))))
    (IntOp.cmpi .ne (IntOp.remsi .vector r 128#32) 0#32)) (IntOp.subi (IntOp.divsi .vector r 128#32) 1#32) (IntOp.divsi .vector r 128#32))) 8#32

theorem row_word : ∀ r : Fin 2048, hw (BitVec.ofNat 32 r.val) = if r.val < 1024 then 1#1 else 0#1 := by decide +kernel

theorem pick_word (r : Fin 2048) (l : Fin 128) : IntOp.xori (IntOp.xori (IntOp.cmpi .slt (BitVec.ofNat 32 l.val) 64#32) (hw (BitVec.ofNat 32 r.val))) 1#1
    = if (l.val < 64 ↔ r.val < 1024) then 1#1 else 0#1 := by
  rw [lane_word, row_word]
  by_cases a : l.val < 64 <;> by_cases b : r.val < 1024 <;> simp [a, b, IntOp.xori]

theorem pay31_apply (r : Fin 2048) (l : Fin 128) : k0_pay31 (ix2 r l) = if (l.val < 64 ↔ r.val < 1024) then 1#1 else 0#1 := by
  refine Eq.trans ?_ (pick_word r l)
  pointwise [k0_pay31]
  rfl

theorem qrow : ∀ r : Fin 2048, IntOp.andi (BitVec.ofNat 32 r.val) 127#32 = BitVec.ofNat 32 (r.val % 128) := by decide +kernel

theorem sgt_word : ∀ (i : Fin 128) (j : Fin 256), IntOp.cmpi .sgt (BitVec.ofNat 32 j.val) (BitVec.ofNat 32 i.val) = if i.val < j.val then 1#1 else 0#1 := by decide +kernel
theorem sle_word : ∀ (i : Fin 128) (j : Fin 256), IntOp.cmpi .sle (BitVec.ofNat 32 j.val) (IntOp.addi (BitVec.ofNat 32 i.val) 128#32) = if j.val ≤ i.val + 128 then 1#1 else 0#1 := by decide +kernel
theorem sge_word : ∀ j : Fin 256, IntOp.cmpi .sge (BitVec.ofNat 32 j.val) 128#32 = if 128 ≤ j.val then 1#1 else 0#1 := by decide +kernel
theorem first_word : ∀ n : Fin 64, Scalar.cmpi .sgt (BitVec.ofNat 32 n.val) 0#32 = if 0 < n.val then 1#1 else 0#1 := by decide +kernel

theorem pay3_apply (c : grid0.Coords) (n : Fin 64) (hn : (c 0).val = n.val) (hd : Fin 16) (i : Fin 128) (j : Fin 256) :
    k0_pay3 c (ix2 (srow hd i) j) = if band n.val i.val j.val then 1#1 else 0#1 := by
  pointwise [k0_pay3]
  have e : (hd.val * 128 + i.val) % 128 = i.val := by omega
  have q := qrow (srow hd i)
  have e' : BitVec.ofNat 32 ((hd.val * 128 + i.val) % 128) = BitVec.ofNat 32 i.val := by rw [e]
  rw [show IntOp.andi (BitVec.ofNat 32 (hd.val * 128 + i.val)) 127#32 = BitVec.ofNat 32 i.val from q.trans e', sgt_word, sle_word, sge_word, hn, first_word]
  unfold band
  split_ifs <;> first | omega | rfl

/-! ### The keys and the queries -/

theorem c64 : Ideal.ofBits .f32 0x42800000#32 = ((64 : ℝ) : EReal) := by
  simp [Ideal.ofBits, Ideal.ieee, -EReal.coe_mul]; norm_num
theorem c64i : Ideal.ofBits .f32 0x3C800000#32 = ((1 / 64 : ℝ) : EReal) := by
  simp [Ideal.ofBits, Ideal.ieee, -EReal.coe_mul]; norm_num

theorem fac_eq (s : EReal) : Ideal.rsqrt (s * Ideal.ofBits .f32 0x3C800000#32 + Ideal.ofBits .f32 0x358637BD#32) = fac s := by
  unfold fac Ideal.div
  rw [c64, c64i, if_neg (by norm_num), ← EReal.coe_inv]
  norm_num

/-- The two blocks of a band, one after the other. -/
def cat (a b : FVec Ideal S128x128 .bf16) (j : Fin 256) (l : Fin 128) : EReal :=
  if h : j.val < 128 then a (ix2 (⟨j.val, h⟩ : Fin 128) l) else b (ix2 (⟨j.val - 128, by omega⟩ : Fin 128) l)

theorem pay6_apply (a b : FVec Ideal S128x128 .bf16) (j : Fin 256) (l : Fin 128) : k0_pay6 (F := Ideal) a b (ix2 j l) = cat a b j l := by
  pointwise [k0_pay6, cat]

theorem pay4_apply (a b : FVec Ideal S128x128 .bf16) (j : Fin 256) (h : Fin 2) (d : Fin 64) :
    k0_pay4 (F := Ideal) a b (ix2 j (lane h d)) = cat a b j (lane h d) * fac (∑ d' : Fin 64, cat a b j (lane h d') * cat a b j (lane h d')) := by
  have e : k0_pay4 (F := Ideal) a b (ix2 j (lane h d)) = cat a b j (lane h d) * Ideal.rsqrt (Scalar.select (IntOp.cmpi .slt (BitVec.ofNat 32 (lane h d).val) 64#32)
      (∑ l : Fin 128, Scalar.select (IntOp.cmpi .slt (BitVec.ofNat 32 l.val) 64#32) (cat a b j l * cat a b j l) (0 : EReal))
      (∑ l : Fin 128, Scalar.select (IntOp.cmpi .slt (BitVec.ofNat 32 l.val) 64#32) (0 : EReal) (cat a b j l * cat a b j l))
      * Ideal.ofBits .f32 0x3C800000#32 + Ideal.ofBits .f32 0x358637BD#32) := by
    pointwise [k0_pay4, cat]
  rw [e, fac_eq]
  refine congrArg (fun s => cat a b j (lane h d) * fac s) ?_
  have lo : ∀ l : Fin 128, l.val < 64 → IntOp.cmpi .slt (BitVec.ofNat 32 l.val) 64#32 = 1#1 := fun l hl => (lane_word l).trans (if_pos hl)
  have hi : ∀ l : Fin 128, ¬ l.val < 64 → IntOp.cmpi .slt (BitVec.ofNat 32 l.val) 64#32 = 0#1 := fun l hl => (lane_word l).trans (if_neg hl)
  match h with
  | 0 =>
    rw [lo (lane 0 d) (by show 0 * 64 + d.val < 64; omega), sel1]
    refine sum_half 0 _ _ (fun d' => ?_) fun l hl => ?_
    · rw [lo (lane 0 d') (by show 0 * 64 + d'.val < 64; omega), sel1]
    · have hl' : l.val / 64 ≠ 0 := hl
      rw [hi l (by omega), sel0]
  | 1 =>
    rw [hi (lane 1 d) (by show ¬ 1 * 64 + d.val < 64; omega), sel0]
    refine sum_half 1 _ _ (fun d' => ?_) fun l hl => ?_
    · rw [hi (lane 1 d') (by show ¬ 1 * 64 + d'.val < 64; omega), sel0]
    · have hl' : l.val / 64 ≠ 1 := hl
      rw [lo l (by omega), sel1]

theorem pay5_apply (x : FVec Ideal S256x128 .f32) (g : FVec Ideal S1x128 .f32) (j : Fin 256) (l : Fin 128) :
    k0_pay5 (F := Ideal) x g (ix2 j l) = x (ix2 j l) * g (ix2 (0 : Fin 1) l) := by
  pointwise [k0_pay5]

/-- A key of the band, as the kernel has it. -/
theorem key_apply (a b : FVec Ideal S128x128 .bf16) (g2 : FVec Ideal S1x128 .f32) (g : FVec Ideal S1x64 .f32)
    (hg : ∀ (h : Fin 2) (d : Fin 64), g2 (ix2 (0 : Fin 1) (lane h d)) = g (ix2 (0 : Fin 1) d)) (j : Fin 256) (h : Fin 2) (d : Fin 64) :
    k0_pay5 (F := Ideal) (k0_pay4 (F := Ideal) a b) g2 (ix2 j (lane h d)) = nrm (fun d => cat a b j (lane h d)) g d := by
  rw [pay5_apply, pay4_apply, hg]; rfl

/-- The sixteen heads' blocks, one above the other. -/
def stk (P : Fin 16 → FVec Ideal S128x128 .f32) : FVec Ideal S2048x128 .f32 :=
  concatenate S2048x128 0 [⟨S128x128, P 0⟩, ⟨S128x128, P 1⟩, ⟨S128x128, P 2⟩, ⟨S128x128, P 3⟩, ⟨S128x128, P 4⟩, ⟨S128x128, P 5⟩, ⟨S128x128, P 6⟩, ⟨S128x128, P 7⟩, ⟨S128x128, P 8⟩, ⟨S128x128, P 9⟩, ⟨S128x128, P 10⟩, ⟨S128x128, P 11⟩, ⟨S128x128, P 12⟩, ⟨S128x128, P 13⟩, ⟨S128x128, P 14⟩, ⟨S128x128, P 15⟩] concatenates_S128x128_S128x128_S128x128_S128x128_S128x128_S128x128_S128x128_S128x128_S128x128_S128x128_S128x128_S128x128_S128x128_S128x128_S128x128_S128x128_S2048x128_d0

theorem stk_apply (P : Fin 16 → FVec Ideal S128x128 .f32) (hd : Fin 16) (i l : Fin 128) : stk P (ix2 (srow hd i) l) = P hd (ix2 i l) := by
  have hi := i.isLt
  refine concatenate_ofFn_apply (t := S2048x128) (s₁ := S128x128) 0 P concatenates_S128x128_S128x128_S128x128_S128x128_S128x128_S128x128_S128x128_S128x128_S128x128_S128x128_S128x128_S128x128_S128x128_S128x128_S128x128_S128x128_S2048x128_d0 rfl 128 rfl (ix2 (srow hd i) l) hd ?_ (ix2 i l) ?_ ?_
  · show (hd.val * 128 + i.val) / 128 = hd.val; omega
  · show i.val = (hd.val * 128 + i.val) % 128; omega
  · intro b hb
    fin_cases b
    · exact absurd rfl hb
    · rfl

/-- A stacked row on its own half of the lanes, zero on the other. -/
def own (v124 : FVec Ideal S2048x128 .f32) (r : Fin 2048) (l : Fin 128) : EReal := if (l.val < 64 ↔ r.val < 1024) then v124 (ix2 r l) else 0

/-- The logits from the stacked heads. -/
def logits (v14 : IVec S2048x256 1) (v45 : FVec Ideal S256x128 .bf16) (v49 : FVec Ideal S1x128 .f32) (v126 : FVec Ideal S2048x128 .f32)
    (v140 : FVec Ideal S16x128x256 .f32) : FVec Ideal S2048x256 .f32 :=
  have v127 : FVec Ideal S2048x128 .f32 := mulf v126 v126
  have v128 : FVec Ideal S2048 .f32 := multiReduction .add [1] S2048 v127 0x00000000#32 reduces_S2048x128_S2048 (.inl rfl) rfl
  have v129 : FVec Ideal S2048x1 .f32 := shapeCast S2048x1 v128 shapeCasts_S2048_S2048x1
  have v131 : FVec Ideal S2048x1 .f32 := mulf v129 (broadcast S2048x1 (Scalar.ofBits (F := Ideal) .f32 0x3C800000#32))
  have v133 : FVec Ideal S2048x1 .f32 := addf v131 (broadcast S2048x1 (Scalar.ofBits (F := Ideal) .f32 0x358637BD#32))
  have v134 : FVec Ideal S2048x1 .f32 := rsqrt v133
  have v135 : FVec Ideal S2048x128 .f32 := broadcastTo S2048x128 v134 broadcasts_S2048x1_S2048x128
  have v136 : FVec Ideal S2048x128 .f32 := mulf v126 v135
  have v137 : FVec Ideal S2048x128 .f32 := broadcastTo S2048x128 v49 broadcasts_S1x128_S2048x128
  have v138 : FVec Ideal S2048x128 .f32 := mulf v136 v137
  have v139 : FVec Ideal S2048x128 .bf16 := truncf .bf16 v138 bitsLt_bf16_f32
  have v141 : FVec Ideal S2048x256 .f32 := shapeCast S2048x256 v140 shapeCasts_S16x128x256_S2048x256
  have cst_66 : FVec Ideal S2048x256 .f32 := constant S2048x256 .f32 0x00000000#32
  have v142 : FVec Ideal S2048x256 .f32 := matmul dot_S2048x128_S256x128_S2048x256_1_1_0_0_n_n none v139 v45 cst_66
  have v144 : FVec Ideal S2048x256 .f32 := mulf v142 (broadcast S2048x256 (Scalar.ofBits (F := Ideal) .f32 0x3E000000#32))
  have v145 : FVec Ideal S2048x256 .f32 := addf v144 v141
  select v14 v145 (broadcast S2048x256 (Named.named (F := Ideal) κ "mask" 0xF149F2CA#32))

theorem named_mask : (Named.named (F := Ideal) κ "mask" (0xF149F2CA#32 : BitVec FTy.f32.bits) : Ideal .f32) = (⊥ : EReal) := by
  have h : κ "mask" = some ⊥ := rfl
  simp [Named.named, h]

theorem logits_raw (v14 : IVec S2048x256 1) (v45 : FVec Ideal S256x128 .bf16) (v49 : FVec Ideal S1x128 .f32) (x : FVec Ideal S2048x128 .f32)
    (v140 : FVec Ideal S16x128x256 .f32) (r : Fin 2048) (j : Fin 256) : logits v14 v45 v49 x v140 (ix2 r j)
      = Scalar.select (v14 (ix2 r j)) ((∑ l : Fin 128, x (ix2 r l) * fac (∑ l' : Fin 128, x (ix2 r l') * x (ix2 r l')) * v49 (ix2 (0 : Fin 1) l) * v45 (ix2 j l))
        * Ideal.ofBits .f32 0x3E000000#32 + v140 (ix3 (⟨r.val / 128, by omega⟩ : Fin 16) (⟨r.val % 128, by omega⟩ : Fin 128) j)) (⊥ : EReal) := by
  pointwise [logits]
  simp only [fac_eq]
  rw [named_mask]

theorem pay32_apply (v : FVec Ideal S2048x128 .f32) (r : Fin 2048) (l : Fin 128) : k0_pay32 (F := Ideal) v k0_pay31 (ix2 r l) = own v r l := by
  have e := pay31_apply r l
  pointwise [k0_pay32]
  rw [e]; unfold own; split_ifs <;> rfl

theorem own_in (v124 : FVec Ideal S2048x128 .f32) (hd : Fin 16) (i : Fin 128) (d : Fin 64) : own v124 (srow hd i) (lane (kvh hd) d) = v124 (ix2 (srow hd i) (lane (kvh hd) d)) :=
  if_pos (by show (hd.val / 8 * 64 + d.val < 64 ↔ hd.val * 128 + i.val < 1024); omega)

theorem own_out (v124 : FVec Ideal S2048x128 .f32) (hd : Fin 16) (i : Fin 128) (l : Fin 128) (hl : l.val / 64 ≠ (kvh hd).val) : own v124 (srow hd i) l = 0 :=
  if_neg (by have h : l.val / 64 ≠ hd.val / 8 := hl; show ¬ (l.val < 64 ↔ hd.val * 128 + i.val < 1024); omega)

/-- A logit of a head, from its own half of the lanes. -/
theorem logits_apply (v14 : IVec S2048x256 1) (v45 : FVec Ideal S256x128 .bf16) (v49 : FVec Ideal S1x128 .f32) (P : Fin 16 → FVec Ideal S128x128 .f32)
    (v140 : FVec Ideal S16x128x256 .f32) (g : FVec Ideal S1x64 .f32) (q : Fin 16 → Fin 128 → Fin 64 → EReal)
    (hg : ∀ (h : Fin 2) (d : Fin 64), v49 (ix2 (0 : Fin 1) (lane h d)) = g (ix2 (0 : Fin 1) d))
    (hP : ∀ hd i d, P hd (ix2 i (lane (kvh hd) d)) = q hd i d) (hd : Fin 16) (i : Fin 128) (j : Fin 256) :
    logits v14 v45 v49 (k0_pay32 (F := Ideal) (stk P) k0_pay31) v140 (ix2 (srow hd i) j)
      = Scalar.select (v14 (ix2 (srow hd i) j)) ((∑ d : Fin 64, nrm (q hd i) g d * v45 (ix2 j (lane (kvh hd) d)))
        * Ideal.ofBits .f32 0x3E000000#32 + v140 (ix3 hd i j)) (⊥ : EReal) := by
  have o : ∀ d, own (stk P) (srow hd i) (lane (kvh hd) d) = q hd i d := fun d => (own_in _ _ _ _).trans ((stk_apply _ _ _ _).trans (hP hd i d))
  have hi := i.isLt
  rw [logits_raw]
  simp only [pay32_apply]
  rw [sum_half (kvh hd) (fun l => own (stk P) (srow hd i) l * own (stk P) (srow hd i) l) (fun d => q hd i d * q hd i d)
      (fun d => by simp only [o]) (fun l hl => by simp only [own_out _ hd i l hl, zero_mul]),
    sum_half (kvh hd) _ (fun d => nrm (q hd i) g d * v45 (ix2 j (lane (kvh hd) d)))
      (fun d => by simp only [o, hg]; rfl) (fun l hl => by simp only [own_out _ hd i l hl, zero_mul])]
  refine congrArg (fun a => Scalar.select _ (_ + a) _) (congrArg v140 ?_)
  refine congrArg₂ (fun a b => ix3 a b j) (Fin.ext ?_) (Fin.ext ?_)
  · show (hd.val * 128 + i.val) / 128 = hd.val; omega
  · show (hd.val * 128 + i.val) % 128 = i.val; omega

/-! ### The softmax and the product with the values -/

theorem pay30_apply (v48 : FVec Ideal S256x128 .bf16) (v147 : FVec Ideal S2048x256 .f32) (v149 v151 : FVec Ideal S2048x1 .f32)
    (hm : ∀ r : Fin 2048, v151 (ix2 r (0 : Fin 1)) = Finset.univ.fold max ⊥ (fun j : Fin 256 => v147 (ix2 r j))) (r : Fin 2048) (l : Fin 128) :
    k0_pay30 (F := Ideal) v48 v147 v149 v151 (ix2 r l) = att (fun j => v147 (ix2 r j)) (v149 (ix2 r (0 : Fin 1))) (fun j => v48 (ix2 j l)) := by
  pointwise [k0_pay30]
  simp only [hm]
  rfl

/-- The greatest logit of each row. -/
def top (x : FVec Ideal S2048x256 .f32) : FVec Ideal S2048x1 .f32 :=
  shapeCast S2048x1 (multiReduction (F := Ideal) .maximumf [1] S2048 x 0xFF800000#32 reduces_S2048x256_S2048 (.inl rfl) rfl) shapeCasts_S2048_S2048x1

theorem top_apply (x : FVec Ideal S2048x256 .f32) (r : Fin 2048) : top x (ix2 r (0 : Fin 1)) = Finset.univ.fold max ⊥ (fun j : Fin 256 => x (ix2 r j)) := by
  pointwise [top]
  rw [ninf]

theorem pay28_eq (x : FVec Ideal S2048x1 .f32) (r : Fin 2048) : k0_pay28 (F := Ideal) x (ix2 r (0 : Fin 1)) = x (ix2 r (0 : Fin 1)) := by
  pointwise [k0_pay28]

/-! ### The tiles of the result: two heads each -/

/-- A head of the tile that a column lies in, and its lane there. -/
theorem tile_low (v : FVec Ideal S2048x128 .f32) (p : Fin 4) (i l : Fin 128) :
    own v (srow ⟨2 * p.val, by omega⟩ i) l + own v (srow ⟨2 * p.val + 1, by omega⟩ i) ⟨(l.val + 128 - 64) % 128, by omega⟩
      = v (ix2 (srow ⟨2 * p.val + l.val / 64, by omega⟩ i) (lane 0 ⟨l.val % 64, by omega⟩)) := by
  by_cases h : l.val < 64
  · refine (congrArg₂ (· + ·) (if_pos ?_) (if_neg ?_)).trans ((add_zero _).trans (congrArg v (congrArg₂ ix2 (Fin.ext ?_) (Fin.ext ?_))))
    all_goals simp only [srow, lane, Fin.val_zero]
    all_goals omega
  · refine (congrArg₂ (· + ·) (if_neg ?_) (if_pos ?_)).trans ((zero_add _).trans (congrArg v (congrArg₂ ix2 (Fin.ext ?_) (Fin.ext ?_))))
    all_goals simp only [srow, lane, Fin.val_zero]
    all_goals omega

theorem tile_high (v : FVec Ideal S2048x128 .f32) (p : Fin 4) (i l : Fin 128) :
    own v (srow ⟨8 + 2 * p.val, by omega⟩ i) ⟨(l.val + 128 - 64) % 128, by omega⟩ + own v (srow ⟨8 + 2 * p.val + 1, by omega⟩ i) l
      = v (ix2 (srow ⟨8 + 2 * p.val + l.val / 64, by omega⟩ i) (lane 1 ⟨l.val % 64, by omega⟩)) := by
  by_cases h : l.val < 64
  · refine (congrArg₂ (· + ·) (if_pos ?_) (if_neg ?_)).trans ((add_zero _).trans (congrArg v (congrArg₂ ix2 (Fin.ext ?_) (Fin.ext ?_))))
    all_goals simp only [srow, lane, Fin.val_one]
    all_goals omega
  · refine (congrArg₂ (· + ·) (if_neg ?_) (if_pos ?_)).trans ((zero_add _).trans (congrArg v (congrArg₂ ix2 (Fin.ext ?_) (Fin.ext ?_))))
    all_goals simp only [srow, lane, Fin.val_one]
    all_goals omega

theorem pay33_apply (v : FVec Ideal S2048x128 .f32) (i l : Fin 128) : k0_pay33 (F := Ideal) v k0_pay31 (ix2 i l)
    = v (ix2 (srow ⟨0 + l.val / 64, by omega⟩ i) (lane 0 ⟨l.val % 64, by omega⟩)) := by
  refine Eq.trans ?_ (tile_low v 0 i l)
  have e := pay32_apply v
  pointwise [k0_pay33]
  rw [e, e]
  have h0 : (⟨i.val, by omega⟩ : Fin 2048) = srow 0 i := Fin.ext (by show i.val = 0 * 128 + i.val; omega)
  rw [h0]
  rfl

theorem pay34_apply (v : FVec Ideal S2048x128 .f32) (i l : Fin 128) : k0_pay34 (F := Ideal) v k0_pay31 (ix2 i l)
    = v (ix2 (srow ⟨2 + l.val / 64, by omega⟩ i) (lane 0 ⟨l.val % 64, by omega⟩)) := by
  refine Eq.trans ?_ (tile_low v 1 i l)
  have e := pay32_apply v
  pointwise [k0_pay34]
  rw [e, e]
  rfl

theorem pay35_apply (v : FVec Ideal S2048x128 .f32) (i l : Fin 128) : k0_pay35 (F := Ideal) v k0_pay31 (ix2 i l)
    = v (ix2 (srow ⟨4 + l.val / 64, by omega⟩ i) (lane 0 ⟨l.val % 64, by omega⟩)) := by
  refine Eq.trans ?_ (tile_low v 2 i l)
  have e := pay32_apply v
  pointwise [k0_pay35]
  rw [e, e]
  rfl

theorem pay36_apply (v : FVec Ideal S2048x128 .f32) (i l : Fin 128) : k0_pay36 (F := Ideal) v k0_pay31 (ix2 i l)
    = v (ix2 (srow ⟨6 + l.val / 64, by omega⟩ i) (lane 0 ⟨l.val % 64, by omega⟩)) := by
  refine Eq.trans ?_ (tile_low v 3 i l)
  have e := pay32_apply v
  pointwise [k0_pay36]
  rw [e, e]
  rfl

theorem pay37_apply (v : FVec Ideal S2048x128 .f32) (i l : Fin 128) : k0_pay37 (F := Ideal) v k0_pay31 (ix2 i l)
    = v (ix2 (srow ⟨8 + l.val / 64, by omega⟩ i) (lane 1 ⟨l.val % 64, by omega⟩)) := by
  refine Eq.trans ?_ (tile_high v 0 i l)
  have e := pay32_apply v
  pointwise [k0_pay37]
  rw [e, e]
  rfl

theorem pay38_apply (v : FVec Ideal S2048x128 .f32) (i l : Fin 128) : k0_pay38 (F := Ideal) v k0_pay31 (ix2 i l)
    = v (ix2 (srow ⟨10 + l.val / 64, by omega⟩ i) (lane 1 ⟨l.val % 64, by omega⟩)) := by
  refine Eq.trans ?_ (tile_high v 1 i l)
  have e := pay32_apply v
  pointwise [k0_pay38]
  rw [e, e]
  rfl

theorem pay1_apply (v : FVec Ideal S2048x128 .f32) (i l : Fin 128) : k0_pay1 (F := Ideal) (k0_pay32 (F := Ideal) v k0_pay31) (ix2 i l)
    = v (ix2 (srow ⟨12 + l.val / 64, by omega⟩ i) (lane 1 ⟨l.val % 64, by omega⟩)) := by
  refine Eq.trans ?_ (tile_high v 2 i l)
  have e := pay32_apply v
  pointwise [k0_pay1]
  rw [e, e]
  rfl

theorem pay2_apply (v : FVec Ideal S2048x128 .f32) (i l : Fin 128) : k0_pay2 (F := Ideal) (k0_pay32 (F := Ideal) v k0_pay31) (ix2 i l)
    = v (ix2 (srow ⟨14 + l.val / 64, by omega⟩ i) (lane 1 ⟨l.val % 64, by omega⟩)) := by
  refine Eq.trans ?_ (tile_high v 3 i l)
  have e := pay32_apply v
  pointwise [k0_pay2]
  rw [e, e]
  rfl

end Cert.Proof.Attnf

end
-- ==== Proof.AttnfSum.lean ====
/-
  The attention's average over a block's keys: a key outside the band has no weight, or every key has the same one.
-/
module

public import proofs.«01_k».proof.Proof.AttnfRef

@[expose] public section

noncomputable section

namespace Cert.Proof.Attnf

open Idealize.ShloMosaic
open scoped BigOperators

theorem exp_nonneg (x : EReal) : 0 ≤ Ideal.exp x := by
  induction x using EReal.rec with
  | bot => exact le_refl _
  | coe r => exact EReal.coe_nonneg.mpr (Real.exp_pos r).le
  | top => exact le_top

/-- Infinite or zero. -/
def Ext (x : EReal) : Prop := x = ⊥ ∨ x = ⊤ ∨ x = 0

theorem Ext.add (x y : EReal) (hx : Ext x) (hy : Ext y) : Ext (x + y) := by
  rcases hx with rfl | rfl | rfl <;> rcases hy with rfl | rfl | rfl <;> simp [Ext]

theorem Ext.double (x : EReal) (hx : Ext x) : x + x = x := by
  rcases hx with rfl | rfl | rfl <;> simp

theorem Ext.bot_mul (x : EReal) : Ext (⊥ * x) := by
  rcases lt_trichotomy x 0 with h | rfl | h
  · exact Or.inr (Or.inl (EReal.bot_mul_of_neg h))
  · exact Or.inr (Or.inr (mul_zero _))
  · exact Or.inl (EReal.bot_mul_of_pos h)

/-- THE FIRST BLOCK'S OTHER KEYS DO NOT COUNT: its first half of values may be its second half over again, or zero. -/
theorem att_congr (L v v' : Fin 256 → EReal) (s : EReal) (h : ∀ j, L j = ⊥ ∨ v j = v' j)
    (h0 : (∀ j, v j = v' j) ∨ ∀ j : Fin 128, v (Fin.castAdd 128 j) = v (Fin.natAdd 128 j) ∧ v' (Fin.castAdd 128 j) = 0
      ∧ v' (Fin.natAdd 128 j) = v (Fin.natAdd 128 j)) : att L s v = att L s v' := by
  rcases h0 with h0 | h0
  · exact congrArg (att L s) (funext h0)
  unfold att
  generalize max (Finset.univ.fold max ⊥ L) s = M
  by_cases hD : (∑ k : Fin 256, Ideal.exp (L k - M)) + Ideal.exp (s - M) = 0
  · have he : ∀ j, Ideal.exp (L j - M) = 0 := fun j => by
      refine le_antisymm ?_ (exp_nonneg _)
      rw [← hD]
      exact (Finset.single_le_sum (f := fun k => Ideal.exp (L k - M)) (fun k _ => exp_nonneg _) (Finset.mem_univ j)).trans
        (le_add_of_nonneg_right (exp_nonneg _))
    have hd : Ideal.div 0 0 = (⊥ : EReal) := by simp [Ideal.div]
    simp only [hD]
    simp only [he, hd]
    rw [Fin.sum_univ_add (a := 128) (b := 128) (fun j => (⊥ : EReal) * v j), Fin.sum_univ_add (a := 128) (b := 128) (fun j => (⊥ : EReal) * v' j)]
    simp only [(h0 _).1, (h0 _).2.1, (h0 _).2.2, mul_zero, Finset.sum_const_zero, zero_add]
    exact Ext.double _ (Finset.sum_induction _ Ext Ext.add (Or.inr (Or.inr rfl)) fun j _ => Ext.bot_mul _)
  · refine Finset.sum_congr rfl fun j _ => ?_
    rcases h j with e | e
    · have hz : Ideal.div 0 ((∑ k : Fin 256, Ideal.exp (L k - M)) + Ideal.exp (s - M)) = 0 := by
        unfold Ideal.div; rw [if_neg hD, zero_mul]
      rw [e, EReal.bot_sub, show Ideal.exp ⊥ = 0 from rfl, hz, zero_mul, zero_mul]
    · rw [e]

end Cert.Proof.Attnf

end
-- ==== Proof.Attnf.lean ====
/-
  The attention's forward call (`attn_fwd`): the whole output, block of queries by block of queries.
-/
module

public import proofs.«01_k».proof.Proof.AttnfK
public import proofs.«01_k».proof.Proof.AttnfSum
public import Idealize.ShloMosaic.Lib.Pipeline.ValueKit
public import Idealize.ShloMosaic.Lib.Pipeline.ValueKit.Partial
public import Idealize.ShloMosaic.Lib.Pointwise

@[expose] public section

noncomputable section

namespace Cert.Proof.Attnf

open Cert.KAttnfIdeal Cert.KAttnfIdeal.Gen Idealize.ShloMosaic Idealize.ShloMosaic.TcCoe Idealize.SL.Sem
open Idealize.ShloMosaic.Pipeline (Dat Cfg Window)
open scoped BigOperators

/-! ### What a block reads -/

variable (m : (ℓ : Loc nD τ sig) → Buf (Elt Ideal) ℓ)

theorem idx0 : ∀ t : Fin cfg0.N, win0_0.index t = ![t.val, 5] := (by decide +kernel : ∀ t : Fin grid0.N, _)
theorem idx1 : ∀ t : Fin cfg0.N, win0_1.index t = ![t.val - 1, 48] := (by decide +kernel : ∀ t : Fin grid0.N, _)
theorem idx2 : ∀ t : Fin cfg0.N, win0_2.index t = ![t.val, 48] := (by decide +kernel : ∀ t : Fin grid0.N, _)
theorem idx3 : ∀ t : Fin cfg0.N, win0_3.index t = ![t.val - 1, 49] := (by decide +kernel : ∀ t : Fin grid0.N, _)
theorem idx4 : ∀ t : Fin cfg0.N, win0_4.index t = ![t.val, 49] := (by decide +kernel : ∀ t : Fin grid0.N, _)
theorem idx5 : ∀ t : Fin cfg0.N, win0_5.index t = ![0, 0] := (by decide +kernel : ∀ t : Fin grid0.N, _)
theorem idx6 : ∀ t : Fin cfg0.N, win0_6.index t = ![0, 0] := (by decide +kernel : ∀ t : Fin grid0.N, _)
theorem idx7 : ∀ t : Fin cfg0.N, win0_7.index t = ![0, 0] := (by decide +kernel : ∀ t : Fin grid0.N, _)
theorem idx8 : ∀ t : Fin cfg0.N, win0_8.index t = ![0, 0, 0] := (by decide +kernel : ∀ t : Fin grid0.N, _)
theorem idx9 : ∀ t : Fin cfg0.N, win0_9.index t = ![t.val, 0] := (by decide +kernel : ∀ t : Fin grid0.N, _)
theorem co : ∀ t : Fin cfg0.N, (grid0.coords t 0).val = t.val := (by decide +kernel : ∀ t : Fin grid0.N, _)

def zz (c : Dev nD) : FVec Ideal S8192x6400 .bf16 := m ((c : Thread nD τ).loc main_arg0)
def ga (c : Dev nD) : FVec Ideal S1x64 .f32 := m ((c : Thread nD τ).loc main_arg1)
def gb (c : Dev nD) : FVec Ideal S1x64 .f32 := m ((c : Thread nD τ).loc main_arg2)
def sk (c : Dev nD) : FVec Ideal S1x16 .f32 := m ((c : Thread nD τ).loc main_arg3)
def bs (c : Dev nD) : FVec Ideal S16x128x256 .f32 := m ((c : Thread nD τ).loc main_arg4)

theorem rd0 (c : Dev nD) (t : Fin cfg0.N) (r : Fin 128) (k : Fin 1024) (n : Fin 8192) (q : Fin 6400) (e : n.val = t.val * 128 + r.val) (eq : q.val = 5120 + k.val) :
    (X0_0 m c t : FVec Ideal S128x1024 .bf16) (ix2 r k) = zz m c (ix2 n q) := by
  unfold zz X0_0 Pipeline.Window.fill
  rw [dif_pos (moved0_0 t (ix2 r k))]
  blk_point [iblk, V, idx0, e, eq]

theorem rd1 (c : Dev nD) (t : Fin cfg0.N) (r l : Fin 128) (n : Fin 8192) (q : Fin 6400) (e : n.val = (t.val - 1) * 128 + r.val) (eq : q.val = 6144 + l.val) :
    (iblk m c 1 t : FVec Ideal S128x128 .bf16) (ix2 r l) = zz m c (ix2 n q) := by
  unfold zz
  blk_point [iblk, V, idx1, e, eq]
theorem rd2 (c : Dev nD) (t : Fin cfg0.N) (r l : Fin 128) (n : Fin 8192) (q : Fin 6400) (e : n.val = t.val * 128 + r.val) (eq : q.val = 6144 + l.val) :
    (iblk m c 2 t : FVec Ideal S128x128 .bf16) (ix2 r l) = zz m c (ix2 n q) := by
  unfold zz
  blk_point [iblk, V, idx2, e, eq]
theorem rd3 (c : Dev nD) (t : Fin cfg0.N) (r l : Fin 128) (n : Fin 8192) (q : Fin 6400) (e : n.val = (t.val - 1) * 128 + r.val) (eq : q.val = 6272 + l.val) :
    (iblk m c 3 t : FVec Ideal S128x128 .bf16) (ix2 r l) = zz m c (ix2 n q) := by
  unfold zz
  blk_point [iblk, V, idx3, e, eq]
theorem rd4 (c : Dev nD) (t : Fin cfg0.N) (r l : Fin 128) (n : Fin 8192) (q : Fin 6400) (e : n.val = t.val * 128 + r.val) (eq : q.val = 6272 + l.val) :
    (iblk m c 4 t : FVec Ideal S128x128 .bf16) (ix2 r l) = zz m c (ix2 n q) := by
  unfold zz
  blk_point [iblk, V, idx4, e, eq]
theorem rd8 (c : Dev nD) (t : Fin cfg0.N) (i : S16x128x256.Idx) :
    (iblk m c 8 t : FVec Ideal S16x128x256 .f32) i = bs m c i := by
  unfold bs
  blk_point [iblk, V, idx8]
theorem rd5 (c : Dev nD) (t : Fin cfg0.N) (h : Fin 2) (d : Fin 64) :
    (iblk m c 5 t : FVec Ideal S1x128 .f32) (ix2 (0 : Fin 1) (lane h d)) = ga m c (ix2 (0 : Fin 1) d) := by
  unfold ga
  blk_point [iblk, V, idx5]
theorem rd6 (c : Dev nD) (t : Fin cfg0.N) (h : Fin 2) (d : Fin 64) :
    (iblk m c 6 t : FVec Ideal S1x128 .f32) (ix2 (0 : Fin 1) (lane h d)) = gb m c (ix2 (0 : Fin 1) d) := by
  unfold gb
  blk_point [iblk, V, idx6]
theorem rd7 (c : Dev nD) (t : Fin cfg0.N) (hd : Fin 16) (i : Fin 128) :
    (iblk m c 7 t : FVec Ideal S2048x1 .f32) (ix2 (srow hd i) (0 : Fin 1)) = sk m c (ix2 (0 : Fin 1) hd) := by
  unfold sk
  blk_point [iblk, V, idx7]

/-- A tile of 128 lanes of a block. -/
abbrev tl (q : FVec Ideal S128x1024 .bf16) (N : Nat) (inb : ∀ a, (![0, N] : Fin 2 → Nat) a + S128x128.size a ≤ S128x1024.size a) : FVec Ideal S128x128 .bf16 :=
  View.ld (Val := Elt Ideal) (e' := .bf16) q (Rect.unit (s := S128x1024) ![0, N] ![128, 128] inb)

/-- The queries of a head, on the lanes of its key and value head. -/
def parts (q : FVec Ideal S128x1024 .bf16) : Fin 16 → FVec Ideal S128x128 .f32 :=
  ![k0_pay7 (F := Ideal) (tl q 0 inb_S128x1024_S128x128_0_0),
    k0_pay8 (F := Ideal) (tl q 0 inb_S128x1024_S128x128_0_0),
    k0_pay9 (F := Ideal) (tl q 128 inb_S128x1024_S128x128_0_128),
    k0_pay10 (F := Ideal) (tl q 128 inb_S128x1024_S128x128_0_128),
    k0_pay11 (F := Ideal) (tl q 256 inb_S128x1024_S128x128_0_256),
    k0_pay12 (F := Ideal) (tl q 256 inb_S128x1024_S128x128_0_256),
    k0_pay13 (F := Ideal) (tl q 384 inb_S128x1024_S128x128_0_384),
    k0_pay14 (F := Ideal) (tl q 384 inb_S128x1024_S128x128_0_384),
    k0_pay15 (F := Ideal) (tl q 512 inb_S128x1024_S128x128_0_512),
    k0_pay16 (F := Ideal) (tl q 512 inb_S128x1024_S128x128_0_512),
    k0_pay17 (F := Ideal) (tl q 640 inb_S128x1024_S128x128_0_640),
    k0_pay18 (F := Ideal) (tl q 640 inb_S128x1024_S128x128_0_640),
    k0_pay19 (F := Ideal) (tl q 768 inb_S128x1024_S128x128_0_768),
    k0_pay20 (F := Ideal) (tl q 768 inb_S128x1024_S128x128_0_768),
    k0_pay21 (F := Ideal) (tl q 896 inb_S128x1024_S128x128_0_896),
    k0_pay22 (F := Ideal) (tl q 896 inb_S128x1024_S128x128_0_896)]

theorem tile_at (q : FVec Ideal S128x1024 .bf16) (N : Nat) (inb : ∀ a, (![0, N] : Fin 2 → Nat) a + S128x128.size a ≤ S128x1024.size a) (i l : Fin 128) (k : Fin 1024)
    (e : k.val = N + l.val) : tl q N inb (ix2 i l) = q (ix2 i k) :=
  View.ld_unit_apply_of (S := S128x1024) (Val := Elt Ideal) (e := .bf16) q _ _ _ _ _ fun a => by fin_cases a <;> simp [ix2, e]

theorem part0 (q : FVec Ideal S128x1024 .bf16) (i : Fin 128) (d : Fin 64) :
    k0_pay7 (F := Ideal) (tl q 0 inb_S128x1024_S128x128_0_0) (ix2 i (⟨0 + d.val, by omega⟩ : Fin 128)) = q (ix2 i (⟨0 + d.val, by omega⟩ : Fin 1024)) := by
  have e := tile_at q 0 inb_S128x1024_S128x128_0_0 i (⟨0 + d.val, by omega⟩ : Fin 128) (⟨0 + d.val, by omega⟩ : Fin 1024) (by show 0 + d.val = 0 + (0 + d.val); omega)
  rw [← e]
  generalize (tl q 0 inb_S128x1024_S128x128_0_0) = w
  pointwise [k0_pay7]
theorem part1 (q : FVec Ideal S128x1024 .bf16) (i : Fin 128) (d : Fin 64) :
    k0_pay8 (F := Ideal) (tl q 0 inb_S128x1024_S128x128_0_0) (ix2 i (⟨0 + d.val, by omega⟩ : Fin 128)) = q (ix2 i (⟨64 + d.val, by omega⟩ : Fin 1024)) := by
  have e := tile_at q 0 inb_S128x1024_S128x128_0_0 i (⟨64 + d.val, by omega⟩ : Fin 128) (⟨64 + d.val, by omega⟩ : Fin 1024) (by show 64 + d.val = 0 + (64 + d.val); omega)
  rw [← e]
  generalize (tl q 0 inb_S128x1024_S128x128_0_0) = w
  pointwise [k0_pay8]
  exact congrArg (fun l : Fin 128 => w (ix2 i l)) (Fin.ext (by show (d.val + 128 - 64) % 128 = 64 + d.val; omega))
theorem part2 (q : FVec Ideal S128x1024 .bf16) (i : Fin 128) (d : Fin 64) :
    k0_pay9 (F := Ideal) (tl q 128 inb_S128x1024_S128x128_0_128) (ix2 i (⟨0 + d.val, by omega⟩ : Fin 128)) = q (ix2 i (⟨128 + d.val, by omega⟩ : Fin 1024)) := by
  have e := tile_at q 128 inb_S128x1024_S128x128_0_128 i (⟨0 + d.val, by omega⟩ : Fin 128) (⟨128 + d.val, by omega⟩ : Fin 1024) (by show 128 + d.val = 128 + (0 + d.val); omega)
  rw [← e]
  generalize (tl q 128 inb_S128x1024_S128x128_0_128) = w
  pointwise [k0_pay9]
theorem part3 (q : FVec Ideal S128x1024 .bf16) (i : Fin 128) (d : Fin 64) :
    k0_pay10 (F := Ideal) (tl q 128 inb_S128x1024_S128x128_0_128) (ix2 i (⟨0 + d.val, by omega⟩ : Fin 128)) = q (ix2 i (⟨192 + d.val, by omega⟩ : Fin 1024)) := by
  have e := tile_at q 128 inb_S128x1024_S128x128_0_128 i (⟨64 + d.val, by omega⟩ : Fin 128) (⟨192 + d.val, by omega⟩ : Fin 1024) (by show 192 + d.val = 128 + (64 + d.val); omega)
  rw [← e]
  generalize (tl q 128 inb_S128x1024_S128x128_0_128) = w
  pointwise [k0_pay10]
  exact congrArg (fun l : Fin 128 => w (ix2 i l)) (Fin.ext (by show (d.val + 128 - 64) % 128 = 64 + d.val; omega))
theorem part4 (q : FVec Ideal S128x1024 .bf16) (i : Fin 128) (d : Fin 64) :
    k0_pay11 (F := Ideal) (tl q 256 inb_S128x1024_S128x128_0_256) (ix2 i (⟨0 + d.val, by omega⟩ : Fin 128)) = q (ix2 i (⟨256 + d.val, by omega⟩ : Fin 1024)) := by
  have e := tile_at q 256 inb_S128x1024_S128x128_0_256 i (⟨0 + d.val, by omega⟩ : Fin 128) (⟨256 + d.val, by omega⟩ : Fin 1024) (by show 256 + d.val = 256 + (0 + d.val); omega)
  rw [← e]
  generalize (tl q 256 inb_S128x1024_S128x128_0_256) = w
  pointwise [k0_pay11]
theorem part5 (q : FVec Ideal S128x1024 .bf16) (i : Fin 128) (d : Fin 64) :
    k0_pay12 (F := Ideal) (tl q 256 inb_S128x1024_S128x128_0_256) (ix2 i (⟨0 + d.val, by omega⟩ : Fin 128)) = q (ix2 i (⟨320 + d.val, by omega⟩ : Fin 1024)) := by
  have e := tile_at q 256 inb_S128x1024_S128x128_0_256 i (⟨64 + d.val, by omega⟩ : Fin 128) (⟨320 + d.val, by omega⟩ : Fin 1024) (by show 320 + d.val = 256 + (64 + d.val); omega)
  rw [← e]
  generalize (tl q 256 inb_S128x1024_S128x128_0_256) = w
  pointwise [k0_pay12]
  exact congrArg (fun l : Fin 128 => w (ix2 i l)) (Fin.ext (by show (d.val + 128 - 64) % 128 = 64 + d.val; omega))
theorem part6 (q : FVec Ideal S128x1024 .bf16) (i : Fin 128) (d : Fin 64) :
    k0_pay13 (F := Ideal) (tl q 384 inb_S128x1024_S128x128_0_384) (ix2 i (⟨0 + d.val, by omega⟩ : Fin 128)) = q (ix2 i (⟨384 + d.val, by omega⟩ : Fin 1024)) := by
  have e := tile_at q 384 inb_S128x1024_S128x128_0_384 i (⟨0 + d.val, by omega⟩ : Fin 128) (⟨384 + d.val, by omega⟩ : Fin 1024) (by show 384 + d.val = 384 + (0 + d.val); omega)
  rw [← e]
  generalize (tl q 384 inb_S128x1024_S128x128_0_384) = w
  pointwise [k0_pay13]
theorem part7 (q : FVec Ideal S128x1024 .bf16) (i : Fin 128) (d : Fin 64) :
    k0_pay14 (F := Ideal) (tl q 384 inb_S128x1024_S128x128_0_384) (ix2 i (⟨0 + d.val, by omega⟩ : Fin 128)) = q (ix2 i (⟨448 + d.val, by omega⟩ : Fin 1024)) := by
  have e := tile_at q 384 inb_S128x1024_S128x128_0_384 i (⟨64 + d.val, by omega⟩ : Fin 128) (⟨448 + d.val, by omega⟩ : Fin 1024) (by show 448 + d.val = 384 + (64 + d.val); omega)
  rw [← e]
  generalize (tl q 384 inb_S128x1024_S128x128_0_384) = w
  pointwise [k0_pay14]
  exact congrArg (fun l : Fin 128 => w (ix2 i l)) (Fin.ext (by show (d.val + 128 - 64) % 128 = 64 + d.val; omega))
theorem part8 (q : FVec Ideal S128x1024 .bf16) (i : Fin 128) (d : Fin 64) :
    k0_pay15 (F := Ideal) (tl q 512 inb_S128x1024_S128x128_0_512) (ix2 i (⟨64 + d.val, by omega⟩ : Fin 128)) = q (ix2 i (⟨512 + d.val, by omega⟩ : Fin 1024)) := by
  have e := tile_at q 512 inb_S128x1024_S128x128_0_512 i (⟨0 + d.val, by omega⟩ : Fin 128) (⟨512 + d.val, by omega⟩ : Fin 1024) (by show 512 + d.val = 512 + (0 + d.val); omega)
  rw [← e]
  generalize (tl q 512 inb_S128x1024_S128x128_0_512) = w
  pointwise [k0_pay15]
  exact congrArg (fun l : Fin 128 => w (ix2 i l)) (Fin.ext (by show (64 + d.val + 128 - 64) % 128 = d.val; omega))
theorem part9 (q : FVec Ideal S128x1024 .bf16) (i : Fin 128) (d : Fin 64) :
    k0_pay16 (F := Ideal) (tl q 512 inb_S128x1024_S128x128_0_512) (ix2 i (⟨64 + d.val, by omega⟩ : Fin 128)) = q (ix2 i (⟨576 + d.val, by omega⟩ : Fin 1024)) := by
  have e := tile_at q 512 inb_S128x1024_S128x128_0_512 i (⟨64 + d.val, by omega⟩ : Fin 128) (⟨576 + d.val, by omega⟩ : Fin 1024) (by show 576 + d.val = 512 + (64 + d.val); omega)
  rw [← e]
  generalize (tl q 512 inb_S128x1024_S128x128_0_512) = w
  pointwise [k0_pay16]
theorem part10 (q : FVec Ideal S128x1024 .bf16) (i : Fin 128) (d : Fin 64) :
    k0_pay17 (F := Ideal) (tl q 640 inb_S128x1024_S128x128_0_640) (ix2 i (⟨64 + d.val, by omega⟩ : Fin 128)) = q (ix2 i (⟨640 + d.val, by omega⟩ : Fin 1024)) := by
  have e := tile_at q 640 inb_S128x1024_S128x128_0_640 i (⟨0 + d.val, by omega⟩ : Fin 128) (⟨640 + d.val, by omega⟩ : Fin 1024) (by show 640 + d.val = 640 + (0 + d.val); omega)
  rw [← e]
  generalize (tl q 640 inb_S128x1024_S128x128_0_640) = w
  pointwise [k0_pay17]
  exact congrArg (fun l : Fin 128 => w (ix2 i l)) (Fin.ext (by show (64 + d.val + 128 - 64) % 128 = d.val; omega))
theorem part11 (q : FVec Ideal S128x1024 .bf16) (i : Fin 128) (d : Fin 64) :
    k0_pay18 (F := Ideal) (tl q 640 inb_S128x1024_S128x128_0_640) (ix2 i (⟨64 + d.val, by omega⟩ : Fin 128)) = q (ix2 i (⟨704 + d.val, by omega⟩ : Fin 1024)) := by
  have e := tile_at q 640 inb_S128x1024_S128x128_0_640 i (⟨64 + d.val, by omega⟩ : Fin 128) (⟨704 + d.val, by omega⟩ : Fin 1024) (by show 704 + d.val = 640 + (64 + d.val); omega)
  rw [← e]
  generalize (tl q 640 inb_S128x1024_S128x128_0_640) = w
  pointwise [k0_pay18]
theorem part12 (q : FVec Ideal S128x1024 .bf16) (i : Fin 128) (d : Fin 64) :
    k0_pay19 (F := Ideal) (tl q 768 inb_S128x1024_S128x128_0_768) (ix2 i (⟨64 + d.val, by omega⟩ : Fin 128)) = q (ix2 i (⟨768 + d.val, by omega⟩ : Fin 1024)) := by
  have e := tile_at q 768 inb_S128x1024_S128x128_0_768 i (⟨0 + d.val, by omega⟩ : Fin 128) (⟨768 + d.val, by omega⟩ : Fin 1024) (by show 768 + d.val = 768 + (0 + d.val); omega)
  rw [← e]
  generalize (tl q 768 inb_S128x1024_S128x128_0_768) = w
  pointwise [k0_pay19]
  exact congrArg (fun l : Fin 128 => w (ix2 i l)) (Fin.ext (by show (64 + d.val + 128 - 64) % 128 = d.val; omega))
theorem part13 (q : FVec Ideal S128x1024 .bf16) (i : Fin 128) (d : Fin 64) :
    k0_pay20 (F := Ideal) (tl q 768 inb_S128x1024_S128x128_0_768) (ix2 i (⟨64 + d.val, by omega⟩ : Fin 128)) = q (ix2 i (⟨832 + d.val, by omega⟩ : Fin 1024)) := by
  have e := tile_at q 768 inb_S128x1024_S128x128_0_768 i (⟨64 + d.val, by omega⟩ : Fin 128) (⟨832 + d.val, by omega⟩ : Fin 1024) (by show 832 + d.val = 768 + (64 + d.val); omega)
  rw [← e]
  generalize (tl q 768 inb_S128x1024_S128x128_0_768) = w
  pointwise [k0_pay20]
theorem part14 (q : FVec Ideal S128x1024 .bf16) (i : Fin 128) (d : Fin 64) :
    k0_pay21 (F := Ideal) (tl q 896 inb_S128x1024_S128x128_0_896) (ix2 i (⟨64 + d.val, by omega⟩ : Fin 128)) = q (ix2 i (⟨896 + d.val, by omega⟩ : Fin 1024)) := by
  have e := tile_at q 896 inb_S128x1024_S128x128_0_896 i (⟨0 + d.val, by omega⟩ : Fin 128) (⟨896 + d.val, by omega⟩ : Fin 1024) (by show 896 + d.val = 896 + (0 + d.val); omega)
  rw [← e]
  generalize (tl q 896 inb_S128x1024_S128x128_0_896) = w
  pointwise [k0_pay21]
  exact congrArg (fun l : Fin 128 => w (ix2 i l)) (Fin.ext (by show (64 + d.val + 128 - 64) % 128 = d.val; omega))
theorem part15 (q : FVec Ideal S128x1024 .bf16) (i : Fin 128) (d : Fin 64) :
    k0_pay22 (F := Ideal) (tl q 896 inb_S128x1024_S128x128_0_896) (ix2 i (⟨64 + d.val, by omega⟩ : Fin 128)) = q (ix2 i (⟨960 + d.val, by omega⟩ : Fin 1024)) := by
  have e := tile_at q 896 inb_S128x1024_S128x128_0_896 i (⟨64 + d.val, by omega⟩ : Fin 128) (⟨960 + d.val, by omega⟩ : Fin 1024) (by show 960 + d.val = 896 + (64 + d.val); omega)
  rw [← e]
  generalize (tl q 896 inb_S128x1024_S128x128_0_896) = w
  pointwise [k0_pay22]

theorem parts_apply (q : FVec Ideal S128x1024 .bf16) (hd : Fin 16) (i : Fin 128) (d : Fin 64) :
    parts q hd (ix2 i (lane (kvh hd) d)) = q (ix2 i (⟨hd.val * 64 + d.val, by omega⟩ : Fin 1024)) := by
  match hd with
  | ⟨0, _⟩ => exact (congrArg (fun l : Fin 128 => k0_pay7 (F := Ideal) (tl q 0 inb_S128x1024_S128x128_0_0) (ix2 i l)) (Fin.ext (by show 0 / 8 * 64 + d.val = 0 + d.val; omega))).trans ((part0 q i d).trans (congrArg (fun l : Fin 1024 => q (ix2 i l)) (Fin.ext (by show 0 + d.val = 0 * 64 + d.val; omega))))
  | ⟨1, _⟩ => exact (congrArg (fun l : Fin 128 => k0_pay8 (F := Ideal) (tl q 0 inb_S128x1024_S128x128_0_0) (ix2 i l)) (Fin.ext (by show 1 / 8 * 64 + d.val = 0 + d.val; omega))).trans ((part1 q i d).trans (congrArg (fun l : Fin 1024 => q (ix2 i l)) (Fin.ext (by show 64 + d.val = 1 * 64 + d.val; omega))))
  | ⟨2, _⟩ => exact (congrArg (fun l : Fin 128 => k0_pay9 (F := Ideal) (tl q 128 inb_S128x1024_S128x128_0_128) (ix2 i l)) (Fin.ext (by show 2 / 8 * 64 + d.val = 0 + d.val; omega))).trans ((part2 q i d).trans (congrArg (fun l : Fin 1024 => q (ix2 i l)) (Fin.ext (by show 128 + d.val = 2 * 64 + d.val; omega))))
  | ⟨3, _⟩ => exact (congrArg (fun l : Fin 128 => k0_pay10 (F := Ideal) (tl q 128 inb_S128x1024_S128x128_0_128) (ix2 i l)) (Fin.ext (by show 3 / 8 * 64 + d.val = 0 + d.val; omega))).trans ((part3 q i d).trans (congrArg (fun l : Fin 1024 => q (ix2 i l)) (Fin.ext (by show 192 + d.val = 3 * 64 + d.val; omega))))
  | ⟨4, _⟩ => exact (congrArg (fun l : Fin 128 => k0_pay11 (F := Ideal) (tl q 256 inb_S128x1024_S128x128_0_256) (ix2 i l)) (Fin.ext (by show 4 / 8 * 64 + d.val = 0 + d.val; omega))).trans ((part4 q i d).trans (congrArg (fun l : Fin 1024 => q (ix2 i l)) (Fin.ext (by show 256 + d.val = 4 * 64 + d.val; omega))))
  | ⟨5, _⟩ => exact (congrArg (fun l : Fin 128 => k0_pay12 (F := Ideal) (tl q 256 inb_S128x1024_S128x128_0_256) (ix2 i l)) (Fin.ext (by show 5 / 8 * 64 + d.val = 0 + d.val; omega))).trans ((part5 q i d).trans (congrArg (fun l : Fin 1024 => q (ix2 i l)) (Fin.ext (by show 320 + d.val = 5 * 64 + d.val; omega))))
  | ⟨6, _⟩ => exact (congrArg (fun l : Fin 128 => k0_pay13 (F := Ideal) (tl q 384 inb_S128x1024_S128x128_0_384) (ix2 i l)) (Fin.ext (by show 6 / 8 * 64 + d.val = 0 + d.val; omega))).trans ((part6 q i d).trans (congrArg (fun l : Fin 1024 => q (ix2 i l)) (Fin.ext (by show 384 + d.val = 6 * 64 + d.val; omega))))
  | ⟨7, _⟩ => exact (congrArg (fun l : Fin 128 => k0_pay14 (F := Ideal) (tl q 384 inb_S128x1024_S128x128_0_384) (ix2 i l)) (Fin.ext (by show 7 / 8 * 64 + d.val = 0 + d.val; omega))).trans ((part7 q i d).trans (congrArg (fun l : Fin 1024 => q (ix2 i l)) (Fin.ext (by show 448 + d.val = 7 * 64 + d.val; omega))))
  | ⟨8, _⟩ => exact (congrArg (fun l : Fin 128 => k0_pay15 (F := Ideal) (tl q 512 inb_S128x1024_S128x128_0_512) (ix2 i l)) (Fin.ext (by show 8 / 8 * 64 + d.val = 64 + d.val; omega))).trans ((part8 q i d).trans (congrArg (fun l : Fin 1024 => q (ix2 i l)) (Fin.ext (by show 512 + d.val = 8 * 64 + d.val; omega))))
  | ⟨9, _⟩ => exact (congrArg (fun l : Fin 128 => k0_pay16 (F := Ideal) (tl q 512 inb_S128x1024_S128x128_0_512) (ix2 i l)) (Fin.ext (by show 9 / 8 * 64 + d.val = 64 + d.val; omega))).trans ((part9 q i d).trans (congrArg (fun l : Fin 1024 => q (ix2 i l)) (Fin.ext (by show 576 + d.val = 9 * 64 + d.val; omega))))
  | ⟨10, _⟩ => exact (congrArg (fun l : Fin 128 => k0_pay17 (F := Ideal) (tl q 640 inb_S128x1024_S128x128_0_640) (ix2 i l)) (Fin.ext (by show 10 / 8 * 64 + d.val = 64 + d.val; omega))).trans ((part10 q i d).trans (congrArg (fun l : Fin 1024 => q (ix2 i l)) (Fin.ext (by show 640 + d.val = 10 * 64 + d.val; omega))))
  | ⟨11, _⟩ => exact (congrArg (fun l : Fin 128 => k0_pay18 (F := Ideal) (tl q 640 inb_S128x1024_S128x128_0_640) (ix2 i l)) (Fin.ext (by show 11 / 8 * 64 + d.val = 64 + d.val; omega))).trans ((part11 q i d).trans (congrArg (fun l : Fin 1024 => q (ix2 i l)) (Fin.ext (by show 704 + d.val = 11 * 64 + d.val; omega))))
  | ⟨12, _⟩ => exact (congrArg (fun l : Fin 128 => k0_pay19 (F := Ideal) (tl q 768 inb_S128x1024_S128x128_0_768) (ix2 i l)) (Fin.ext (by show 12 / 8 * 64 + d.val = 64 + d.val; omega))).trans ((part12 q i d).trans (congrArg (fun l : Fin 1024 => q (ix2 i l)) (Fin.ext (by show 768 + d.val = 12 * 64 + d.val; omega))))
  | ⟨13, _⟩ => exact (congrArg (fun l : Fin 128 => k0_pay20 (F := Ideal) (tl q 768 inb_S128x1024_S128x128_0_768) (ix2 i l)) (Fin.ext (by show 13 / 8 * 64 + d.val = 64 + d.val; omega))).trans ((part13 q i d).trans (congrArg (fun l : Fin 1024 => q (ix2 i l)) (Fin.ext (by show 832 + d.val = 13 * 64 + d.val; omega))))
  | ⟨14, _⟩ => exact (congrArg (fun l : Fin 128 => k0_pay21 (F := Ideal) (tl q 896 inb_S128x1024_S128x128_0_896) (ix2 i l)) (Fin.ext (by show 14 / 8 * 64 + d.val = 64 + d.val; omega))).trans ((part14 q i d).trans (congrArg (fun l : Fin 1024 => q (ix2 i l)) (Fin.ext (by show 896 + d.val = 14 * 64 + d.val; omega))))
  | ⟨15, _⟩ => exact (congrArg (fun l : Fin 128 => k0_pay22 (F := Ideal) (tl q 896 inb_S128x1024_S128x128_0_896) (ix2 i l)) (Fin.ext (by show 15 / 8 * 64 + d.val = 64 + d.val; omega))).trans ((part15 q i d).trans (congrArg (fun l : Fin 1024 => q (ix2 i l)) (Fin.ext (by show 960 + d.val = 15 * 64 + d.val; omega))))
  | ⟨n + 16, h⟩ => exact absurd h (by omega)

/-- The logits of a block, and what the block keeps. -/
def LL (c : Dev nD) (t : Fin cfg0.N) : FVec Ideal S2048x256 .f32 :=
  logits (k0_pay3 (grid0.coords t)) (k0_pay5 (k0_pay4 (iblk m c 1 t) (iblk m c 2 t)) (iblk m c 6 t)) (iblk m c 5 t)
    (k0_pay32 (stk (parts (X0_0 m c t))) k0_pay31) (iblk m c 8 t)
def OO (c : Dev nD) (t : Fin cfg0.N) : FVec Ideal S2048x128 .f32 :=
  k0_pay30 (k0_pay6 (iblk m c 3 t) (iblk m c 4 t)) (LL m c t) (k0_pay28 (iblk m c 7 t)) (top (LL m c t))

/-- The two rows of keys, or of values, one after the other. -/
theorem cat_eq (c : Dev nD) (t : Fin cfg0.N) (n : Fin 64) (hn : n.val = t.val) (j : Fin 256) (hj : 128 ≤ n.val * 128 + j.val) (h : Fin 2) (d : Fin 64) :
    cat (iblk m c 1 t) (iblk m c 2 t) j (lane h d) = kz (zz m c) ⟨n.val * 128 + j.val - 128, by omega⟩ h d
      ∧ cat (iblk m c 3 t) (iblk m c 4 t) j (lane h d) = vz (zz m c) ⟨n.val * 128 + j.val - 128, by omega⟩ h d := by
  have hn' := n.isLt
  unfold cat kz vz
  by_cases e : j.val < 128
  · rw [dif_pos e, dif_pos e]
    exact ⟨rd1 m c t _ _ _ _ (by show n.val * 128 + j.val - 128 = (t.val - 1) * 128 + j.val; omega) rfl,
      rd3 m c t _ _ _ _ (by show n.val * 128 + j.val - 128 = (t.val - 1) * 128 + j.val; omega) rfl⟩
  · rw [dif_neg e, dif_neg e]
    exact ⟨rd2 m c t _ _ _ _ (by show n.val * 128 + j.val - 128 = t.val * 128 + (j.val - 128); omega) rfl,
      rd4 m c t _ _ _ _ (by show n.val * 128 + j.val - 128 = t.val * 128 + (j.val - 128); omega) rfl⟩

theorem LL_apply (c : Dev nD) (t : Fin cfg0.N) (n : Fin 64) (hn : n.val = t.val) (i : Fin 128) (h : Fin 2) (g : Fin 8) (j : Fin 256) :
    LL m c t (ix2 (srow ⟨h.val * 8 + g.val, by omega⟩ i) j) = lg (zz m c) (ga m c) (gb m c) (bs m c) n i h g j := by
  have ek : kvh ⟨h.val * 8 + g.val, by omega⟩ = h := Fin.ext (by show (h.val * 8 + g.val) / 8 = h.val; omega)
  refine (logits_apply _ _ _ (parts (X0_0 m c t)) _ (ga m c) (fun hd i d => qz (zz m c) ⟨n.val * 128 + i.val, by omega⟩ hd d) (rd5 m c t)
    (fun hd i d => (parts_apply _ hd i d).trans (rd0 m c t i _ _ _ (by show n.val * 128 + i.val = t.val * 128 + i.val; rw [hn]) rfl)) ⟨h.val * 8 + g.val, by omega⟩ i j).trans ?_
  rw [pay3_apply (grid0.coords t) n ((co t).trans hn.symm), ek]
  unfold lg
  by_cases hb : band n.val i.val j.val
  · rw [if_pos hb, if_pos hb, sel1]
    have hj : 128 ≤ n.val * 128 + j.val := by obtain ⟨-, -, q⟩ := hb; omega
    refine congrArg₂ (fun a b : EReal => a * Ideal.ofBits .f32 0x3E000000#32 + b) (Finset.sum_congr rfl fun d _ => ?_) (rd8 m c t _)
    rw [mul_comm]
    refine congrArg₂ (fun a b : EReal => a * b) ((key_apply _ _ _ (gb m c) (rd6 m c t) j h d).trans ?_) rfl
    unfold kb
    rw [dif_pos hj]
    exact congrArg (fun f => nrm f (gb m c) d) (funext fun d => (cat_eq m c t n hn j hj h d).1)
  · rw [if_neg hb, if_neg hb, sel0]

/-- A row that the block keeps is a head's answer to a query. -/
theorem OO_apply (c : Dev nD) (t : Fin cfg0.N) (n : Fin 64) (hn : n.val = t.val) (i : Fin 128)
    (h : Fin 2) (g : Fin 8) (d : Fin 64) : OO m c t (ix2 (srow ⟨h.val * 8 + g.val, by omega⟩ i) (lane h d))
      = att (lg (zz m c) (ga m c) (gb m c) (bs m c) n i h g) (sk m c (ix2 (0 : Fin 1) (⟨h.val * 8 + g.val, by omega⟩ : Fin 16))) (fun j => vb (zz m c) n h j d) := by
  refine (pay30_apply _ _ _ _ (top_apply (LL m c t)) _ _).trans ?_
  have eL : (fun j => LL m c t (ix2 (srow ⟨h.val * 8 + g.val, by omega⟩ i) j)) = lg (zz m c) (ga m c) (gb m c) (bs m c) n i h g :=
    funext fun j => LL_apply m c t n hn i h g j
  have es : k0_pay28 (iblk m c 7 t) (ix2 (srow ⟨h.val * 8 + g.val, by omega⟩ i) (0 : Fin 1)) = sk m c (ix2 (0 : Fin 1) (⟨h.val * 8 + g.val, by omega⟩ : Fin 16)) := by
    rw [pay28_eq]; exact rd7 m c t _ i
  rw [eL, es]
  have hv : ∀ j : Fin 256, 128 ≤ n.val * 128 + j.val → k0_pay6 (iblk m c 3 t) (iblk m c 4 t) (ix2 j (lane h d)) = vb (zz m c) n h j d := fun j hj => by
    refine (pay6_apply _ _ j _).trans ((cat_eq m c t n hn j hj h d).2.trans ?_)
    unfold vb
    rw [dif_pos hj]
  refine att_congr _ _ _ _ (fun j => ?_) ?_
  · by_cases hb : band n.val i.val j.val
    · exact Or.inr (hv j (by obtain ⟨-, -, q⟩ := hb; omega))
    · exact Or.inl (by unfold lg; rw [if_neg hb])
  · by_cases h0 : 0 < n.val
    · exact Or.inl fun j => hv j (by omega)
    · refine Or.inr fun j => ?_
      have e1 : vb (zz m c) n h (Fin.castAdd 128 j) d = 0 := by
        unfold vb
        rw [dif_neg (by show ¬ 128 ≤ n.val * 128 + j.val; omega)]
      have e2 := hv (Fin.natAdd 128 j) (by show 128 ≤ n.val * 128 + (128 + j.val); omega)
      refine ⟨((pay6_apply _ _ _ _).trans ?_).trans ((pay6_apply _ _ _ _).trans (cat_eq m c t n hn (Fin.natAdd 128 j) (by show 128 ≤ n.val * 128 + (128 + j.val); omega) h d).2).symm, e1, e2.symm⟩
      unfold cat vz
      rw [dif_pos (show (Fin.castAdd 128 j : Fin 256).val < 128 from j.isLt)]
      exact rd3 m c t _ _ _ _ (by show n.val * 128 + (128 + j.val) - 128 = (t.val - 1) * 128 + j.val; omega) rfl

/-- Where a block's place lies in the whole output. -/
def at_ (t : Fin cfg0.N) (y : S128x1024.Idx) : S8192x1024.Idx :=
  ix2 (⟨t.val * 128 + (y 0).val, by have := lt_of_lt_of_eq t.isLt N_0; have : (y 0).val < 128 := (y 0).isLt; omega⟩ : Fin 8192) (y 1)

theorem ix2_eta {a b : Nat} (x : (⟨2, ![a, b]⟩ : Shape).Idx) : x = ix2 (x 0) (x 1) := by
  funext k; match k with
  | 0 => rfl
  | 1 => rfl

/-- One place of the output, from the row the block keeps. -/
theorem cell (c : Dev nD) (t : Fin cfg0.N) (y : S128x1024.Idx) (i : Fin 128) (hd : Fin 16) (l : Fin 128)
    (h : Fin 2) (d : Fin 64) (h0 : (y 0).val = i.val) (h1 : (y 1).val = hd.val * 64 + d.val) (eh : h.val = hd.val / 8) (el : l.val = h.val * 64 + d.val) :
    OO m c t (ix2 (srow hd i) l) = Cert.RAttnfIdeal.Read.val_main_v102 (F := Ideal) (zz m c) (ga m c) (gb m c) (sk m c) (bs m c) (at_ t y) := by
  have ht := lt_of_lt_of_eq t.isLt N_0
  have hg : hd = (⟨h.val * 8 + (⟨hd.val % 8, by omega⟩ : Fin 8).val, by show h.val * 8 + hd.val % 8 < 16; omega⟩ : Fin 16) :=
    Fin.ext (by show hd.val = h.val * 8 + hd.val % 8; omega)
  have e1 := (congrArg₂ (fun (a : Fin 16) (b : Fin 128) => OO m c t (ix2 (srow a i) b)) hg (show l = lane h d from Fin.ext el)).trans
    (OO_apply m c t ⟨t.val, ht⟩ rfl i h ⟨hd.val % 8, by omega⟩ d)
  refine e1.trans ?_
  refine ((ref_apply _ _ _ _ _ _ _).trans ?_).symm
  have a1 : (⟨(t.val * 128 + (y 0).val) / 128, by have : (y 0).val < 128 := (y 0).isLt; omega⟩ : Fin 64) = ⟨t.val, ht⟩ :=
    Fin.ext (by show (t.val * 128 + (y 0).val) / 128 = t.val; omega)
  have a2 : (⟨(t.val * 128 + (y 0).val) % 128, by omega⟩ : Fin 128) = i := Fin.ext (by show (t.val * 128 + (y 0).val) % 128 = i.val; omega)
  have b1 : (⟨(y 1).val / 512, by have : (y 1).val < 1024 := (y 1).isLt; omega⟩ : Fin 2) = h := Fin.ext (by show (y 1).val / 512 = h.val; omega)
  have b2 : (⟨(y 1).val / 64 % 8, by omega⟩ : Fin 8) = ⟨hd.val % 8, by omega⟩ := Fin.ext (by show (y 1).val / 64 % 8 = hd.val % 8; omega)
  have b3 : (⟨(y 1).val % 64, by omega⟩ : Fin 64) = d := Fin.ext (by show (y 1).val % 64 = d.val; omega)
  have key : ∀ (n' : Fin 64) (i' : Fin 128) (h' : Fin 2) (g' : Fin 8) (d' : Fin 64), n' = ⟨t.val, ht⟩ → i' = i → h' = h → g' = ⟨hd.val % 8, by omega⟩ → d' = d →
      att (lg (zz m c) (ga m c) (gb m c) (bs m c) n' i' h' g') (sk m c (ix2 (0 : Fin 1) (⟨h'.val * 8 + g'.val, by omega⟩ : Fin 16))) (fun j => vb (zz m c) n' h' j d')
        = att (lg (zz m c) (ga m c) (gb m c) (bs m c) ⟨t.val, ht⟩ i h ⟨hd.val % 8, by omega⟩)
          (sk m c (ix2 (0 : Fin 1) (⟨h.val * 8 + (⟨hd.val % 8, by omega⟩ : Fin 8).val, by show h.val * 8 + hd.val % 8 < 16; omega⟩ : Fin 16)))
          (fun j => vb (zz m c) ⟨t.val, ht⟩ h j d) := by
    rintro _ _ _ _ _ rfl rfl rfl rfl rfl
    rfl
  exact key _ _ _ _ _ a1 a2 b1 b2 b3

theorem block (c : Dev nD) (t : Fin cfg0.N) (y : S128x1024.Idx) :
    ((outsAt0 m c t) : FVec Ideal S128x1024 .bf16) y
      = Cert.RAttnfIdeal.Read.val_main_v102 (F := Ideal) (zz m c) (ga m c) (gb m c) (sk m c) (bs m c) (at_ t y) := by
  unfold outsAt0
  frame_out
  canon_tiles x h
  · have hx : (x 1).val < 128 := (x 1).isLt
    have h0' : (y 0).val = (x 0).val := by first | exact h0 | (rw [h0]; simp)
    have h1' : (y 1).val = 896 + (x 1).val := by first | exact h1 | (rw [h1]; simp)
    change k0_pay2 (k0_pay32 (OO m c t) k0_pay31) x = _
    refine (congrArg _ (ix2_eta x)).trans ((pay2_apply (OO m c t) (x 0) (x 1)).trans ?_)
    exact cell m c t y (x 0) (⟨14 + (x 1).val / 64, by have : (x 1).val < 128 := (x 1).isLt; omega⟩ : Fin 16) (lane 1 (⟨(x 1).val % 64, by omega⟩ : Fin 64)) 1 (⟨(x 1).val % 64, by omega⟩ : Fin 64) h0' (by show (y 1).val = (14 + (x 1).val / 64) * 64 + (x 1).val % 64; omega)
      (by show 1 = (14 + (x 1).val / 64) / 8; omega) rfl
  · have hx : (x 1).val < 128 := (x 1).isLt
    have h0' : (y 0).val = (x 0).val := by first | exact h0 | (rw [h0]; simp)
    have h1' : (y 1).val = 768 + (x 1).val := by first | exact h1 | (rw [h1]; simp)
    change k0_pay1 (k0_pay32 (OO m c t) k0_pay31) x = _
    refine (congrArg _ (ix2_eta x)).trans ((pay1_apply (OO m c t) (x 0) (x 1)).trans ?_)
    exact cell m c t y (x 0) (⟨12 + (x 1).val / 64, by have : (x 1).val < 128 := (x 1).isLt; omega⟩ : Fin 16) (lane 1 (⟨(x 1).val % 64, by omega⟩ : Fin 64)) 1 (⟨(x 1).val % 64, by omega⟩ : Fin 64) h0' (by show (y 1).val = (12 + (x 1).val / 64) * 64 + (x 1).val % 64; omega)
      (by show 1 = (12 + (x 1).val / 64) / 8; omega) rfl
  · have hx : (x 1).val < 128 := (x 1).isLt
    have h0' : (y 0).val = (x 0).val := by first | exact h0 | (rw [h0]; simp)
    have h1' : (y 1).val = 640 + (x 1).val := by first | exact h1 | (rw [h1]; simp)
    change k0_pay38 (OO m c t) k0_pay31 x = _
    refine (congrArg _ (ix2_eta x)).trans ((pay38_apply (OO m c t) (x 0) (x 1)).trans ?_)
    exact cell m c t y (x 0) (⟨10 + (x 1).val / 64, by have : (x 1).val < 128 := (x 1).isLt; omega⟩ : Fin 16) (lane 1 (⟨(x 1).val % 64, by omega⟩ : Fin 64)) 1 (⟨(x 1).val % 64, by omega⟩ : Fin 64) h0' (by show (y 1).val = (10 + (x 1).val / 64) * 64 + (x 1).val % 64; omega)
      (by show 1 = (10 + (x 1).val / 64) / 8; omega) rfl
  · have hx : (x 1).val < 128 := (x 1).isLt
    have h0' : (y 0).val = (x 0).val := by first | exact h0 | (rw [h0]; simp)
    have h1' : (y 1).val = 512 + (x 1).val := by first | exact h1 | (rw [h1]; simp)
    change k0_pay37 (OO m c t) k0_pay31 x = _
    refine (congrArg _ (ix2_eta x)).trans ((pay37_apply (OO m c t) (x 0) (x 1)).trans ?_)
    exact cell m c t y (x 0) (⟨8 + (x 1).val / 64, by have : (x 1).val < 128 := (x 1).isLt; omega⟩ : Fin 16) (lane 1 (⟨(x 1).val % 64, by omega⟩ : Fin 64)) 1 (⟨(x 1).val % 64, by omega⟩ : Fin 64) h0' (by show (y 1).val = (8 + (x 1).val / 64) * 64 + (x 1).val % 64; omega)
      (by show 1 = (8 + (x 1).val / 64) / 8; omega) rfl
  · have hx : (x 1).val < 128 := (x 1).isLt
    have h0' : (y 0).val = (x 0).val := by first | exact h0 | (rw [h0]; simp)
    have h1' : (y 1).val = 384 + (x 1).val := by first | exact h1 | (rw [h1]; simp)
    change k0_pay36 (OO m c t) k0_pay31 x = _
    refine (congrArg _ (ix2_eta x)).trans ((pay36_apply (OO m c t) (x 0) (x 1)).trans ?_)
    exact cell m c t y (x 0) (⟨6 + (x 1).val / 64, by have : (x 1).val < 128 := (x 1).isLt; omega⟩ : Fin 16) (lane 0 (⟨(x 1).val % 64, by omega⟩ : Fin 64)) 0 (⟨(x 1).val % 64, by omega⟩ : Fin 64) h0' (by show (y 1).val = (6 + (x 1).val / 64) * 64 + (x 1).val % 64; omega)
      (by show 0 = (6 + (x 1).val / 64) / 8; omega) rfl
  · have hx : (x 1).val < 128 := (x 1).isLt
    have h0' : (y 0).val = (x 0).val := by first | exact h0 | (rw [h0]; simp)
    have h1' : (y 1).val = 256 + (x 1).val := by first | exact h1 | (rw [h1]; simp)
    change k0_pay35 (OO m c t) k0_pay31 x = _
    refine (congrArg _ (ix2_eta x)).trans ((pay35_apply (OO m c t) (x 0) (x 1)).trans ?_)
    exact cell m c t y (x 0) (⟨4 + (x 1).val / 64, by have : (x 1).val < 128 := (x 1).isLt; omega⟩ : Fin 16) (lane 0 (⟨(x 1).val % 64, by omega⟩ : Fin 64)) 0 (⟨(x 1).val % 64, by omega⟩ : Fin 64) h0' (by show (y 1).val = (4 + (x 1).val / 64) * 64 + (x 1).val % 64; omega)
      (by show 0 = (4 + (x 1).val / 64) / 8; omega) rfl
  · have hx : (x 1).val < 128 := (x 1).isLt
    have h0' : (y 0).val = (x 0).val := by first | exact h0 | (rw [h0]; simp)
    have h1' : (y 1).val = 128 + (x 1).val := by first | exact h1 | (rw [h1]; simp)
    change k0_pay34 (OO m c t) k0_pay31 x = _
    refine (congrArg _ (ix2_eta x)).trans ((pay34_apply (OO m c t) (x 0) (x 1)).trans ?_)
    exact cell m c t y (x 0) (⟨2 + (x 1).val / 64, by have : (x 1).val < 128 := (x 1).isLt; omega⟩ : Fin 16) (lane 0 (⟨(x 1).val % 64, by omega⟩ : Fin 64)) 0 (⟨(x 1).val % 64, by omega⟩ : Fin 64) h0' (by show (y 1).val = (2 + (x 1).val / 64) * 64 + (x 1).val % 64; omega)
      (by show 0 = (2 + (x 1).val / 64) / 8; omega) rfl
  · have hx : (x 1).val < 128 := (x 1).isLt
    have h0' : (y 0).val = (x 0).val := by first | exact h0 | (rw [h0]; simp)
    have h1' : (y 1).val = 0 + (x 1).val := by first | exact h1 | (rw [h1]; simp)
    change k0_pay33 (OO m c t) k0_pay31 x = _
    refine (congrArg _ (ix2_eta x)).trans ((pay33_apply (OO m c t) (x 0) (x 1)).trans ?_)
    exact cell m c t y (x 0) (⟨0 + (x 1).val / 64, by have : (x 1).val < 128 := (x 1).isLt; omega⟩ : Fin 16) (lane 0 (⟨(x 1).val % 64, by omega⟩ : Fin 64)) 0 (⟨(x 1).val % 64, by omega⟩ : Fin 64) h0' (by show (y 1).val = (0 + (x 1).val / 64) * 64 + (x 1).val % 64; omega)
      (by show 0 = (0 + (x 1).val / 64) / 8; omega) rfl

set_option maxRecDepth 100000 in
/-- THE OUTPUT, whole. -/
theorem final (c : Dev nD) :
    (dats m 0 c).arrAt 9 cfg0.N = Cert.RAttnfIdeal.Read.val_main_v102 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 9 _ (by decide +kernel) fun t hf y => ?_
  rw [after0_9]
  refine (block m c t y).trans ?_
  have h1 : (((cfg0.win 9).blk t).view.emb y) 1 = at_ t y 1 := Fin.ext (by blk_simp [idx9, at_])
  have h0 : (((cfg0.win 9).blk t).view.emb y) 0 = at_ t y 0 := Fin.ext (by blk_simp [idx9, at_])
  exact congrArg (Cert.RAttnfIdeal.Read.val_main_v102 (F := Ideal) (zz m c) (ga m c) (gb m c) (sk m c) (bs m c)) (funext (Fin.forall_fin_two.mpr ⟨h0.symm, h1.symm⟩))

end Cert.Proof.Attnf

end
-- ==== Proof.BwdClaims.lean ====
/-
  The claims about the gradients through the norm and through the pooling, about the pooling and about the attention: each call's run
  beside the run of the problem's lines, or of their derivative, which ends with the same arrays.
-/
module

public import proofs.«01_k».proof.Defs
public import proofs.«01_k».proof.Proof.Nbw
public import proofs.«01_k».proof.Proof.Poolb
public import proofs.«01_k».proof.Proof.Poolf
public import proofs.«01_k».proof.Proof.Attnf
public import proofs.«01_k».proof.Proof.Gen.KNbw.Frame
public import proofs.«01_k».proof.Proof.Gen.KPoolb.Frame
public import proofs.«01_k».proof.Proof.Gen.KPoolf.Frame
public import proofs.«01_k».proof.Proof.Gen.KAttnf.Frame
public import proofs.«01_k».proof.Proof.Gen.RNbwIdeal.Run
public import proofs.«01_k».proof.Proof.Gen.RPoolbIdeal.Run
public import proofs.«01_k».proof.Proof.Gen.RPoolfIdeal.Run
public import proofs.«01_k».proof.Proof.Gen.RAttnfIdeal.Run
public import proofs.«01_k».proof.Proof.Gen.Pre_finite_nbw
public import proofs.«01_k».proof.Proof.Gen.Pre_finite_poolb
public import proofs.«01_k».proof.Proof.Gen.Pre_finite_poolf

@[expose] public section

noncomputable section

namespace Cert.Proof.Bwd

open Idealize.ShloMosaic Idealize.ShloMosaic.TcCoe Idealize.SL.Sem

/-! ## The references end with their arguments unchanged and have no semaphore -/

/-- The gradient through the norm and its modulation, as the problem writes it, runs and leaves its arguments. -/
theorem frame_nbw : Cert.quiescent_RNbwIdeal := fun m ρ _ =>
  (θ_run Cert.RNbwIdeal.defs _ _).mono (fun r h => ⟨fun c => (h c).2.2.2.2.2.2, sem_eq_zero_of_no_sems (by decide) r.2⟩)
    (Cert.RNbwIdeal.Value.run (F := Ideal) m ρ)

/-- The gradient through the pooling, as the problem writes it, runs and leaves its arguments. -/
theorem frame_poolb : Cert.quiescent_RPoolbIdeal := fun m ρ _ =>
  (θ_run Cert.RPoolbIdeal.defs _ _).mono (fun r h => ⟨fun c => (h c).2.2.2, sem_eq_zero_of_no_sems (by decide) r.2⟩)
    (Cert.RPoolbIdeal.Value.run (F := Ideal) m ρ)

/-- The pooling, as the problem writes it, runs and leaves its arguments. -/
theorem frame_poolf : Cert.quiescent_RPoolfIdeal := fun m ρ _ =>
  (θ_run Cert.RPoolfIdeal.defs _ _).mono (fun r h => ⟨fun c => (h c).2.2, sem_eq_zero_of_no_sems (by decide) r.2⟩)
    (Cert.RPoolfIdeal.Value.run (F := Ideal) m ρ)

/-- The attention, as the problem writes it, runs and leaves its arguments. -/
theorem frame_attnf : Cert.quiescent_RAttnfIdeal := fun m ρ _ =>
  (θ_run Cert.RAttnfIdeal.defs _ _).mono (fun r h => ⟨fun c => (h c).2, sem_eq_zero_of_no_sems (by decide) r.2⟩)
    (Cert.RAttnfIdeal.Value.run (F := Ideal) m ρ)

/-! ## The call and its reference end with equal arrays -/

/-- Through the norm: each block of rows is that of the whole, and the sums over the rows add up, where the input, the gain, the
scale and the cotangent are real. -/
theorem algebraic_nbw : Cert.algebraic_KNbwIdeal_RNbwIdeal_pre_finite_nbw := by
  intro m g m' g' hp h
  refine ⟨fun c => Cert.RNbwIdeal.Read.val_main_v49 (F := Ideal) (m ((c.tc : Thread Cert.KNbwIdeal.nD Cert.KNbwIdeal.τ).loc Cert.KNbwIdeal.main_arg0)) (m ((c.tc : Thread Cert.KNbwIdeal.nD Cert.KNbwIdeal.τ).loc Cert.KNbwIdeal.main_arg1)) (m ((c.tc : Thread Cert.KNbwIdeal.nD Cert.KNbwIdeal.τ).loc Cert.KNbwIdeal.main_arg2)) (m ((c.tc : Thread Cert.KNbwIdeal.nD Cert.KNbwIdeal.τ).loc Cert.KNbwIdeal.main_arg3)) (m ((c.tc : Thread Cert.KNbwIdeal.nD Cert.KNbwIdeal.τ).loc Cert.KNbwIdeal.main_arg4)),
    fun c => Cert.RNbwIdeal.Read.val_main_v24 (F := Ideal) (m ((c.tc : Thread Cert.KNbwIdeal.nD Cert.KNbwIdeal.τ).loc Cert.KNbwIdeal.main_arg3)),
    fun c => Cert.RNbwIdeal.Read.val_main_v27 (F := Ideal) (m ((c.tc : Thread Cert.KNbwIdeal.nD Cert.KNbwIdeal.τ).loc Cert.KNbwIdeal.main_arg0)) (m ((c.tc : Thread Cert.KNbwIdeal.nD Cert.KNbwIdeal.τ).loc Cert.KNbwIdeal.main_arg1)) (m ((c.tc : Thread Cert.KNbwIdeal.nD Cert.KNbwIdeal.τ).loc Cert.KNbwIdeal.main_arg3)),
    fun c => Cert.RNbwIdeal.Read.val_main_v32 (F := Ideal) (m ((c.tc : Thread Cert.KNbwIdeal.nD Cert.KNbwIdeal.τ).loc Cert.KNbwIdeal.main_arg0)) (m ((c.tc : Thread Cert.KNbwIdeal.nD Cert.KNbwIdeal.τ).loc Cert.KNbwIdeal.main_arg2)) (m ((c.tc : Thread Cert.KNbwIdeal.nD Cert.KNbwIdeal.τ).loc Cert.KNbwIdeal.main_arg3)),
    fun c => Cert.RNbwIdeal.Read.val_main_v62 (F := Ideal) (m ((c.tc : Thread Cert.KNbwIdeal.nD Cert.KNbwIdeal.τ).loc Cert.KNbwIdeal.main_arg0)) (m ((c.tc : Thread Cert.KNbwIdeal.nD Cert.KNbwIdeal.τ).loc Cert.KNbwIdeal.main_arg1)) (m ((c.tc : Thread Cert.KNbwIdeal.nD Cert.KNbwIdeal.τ).loc Cert.KNbwIdeal.main_arg2)) (m ((c.tc : Thread Cert.KNbwIdeal.nD Cert.KNbwIdeal.τ).loc Cert.KNbwIdeal.main_arg3)) (m ((c.tc : Thread Cert.KNbwIdeal.nD Cert.KNbwIdeal.τ).loc Cert.KNbwIdeal.main_arg4)) (m ((c.tc : Thread Cert.KNbwIdeal.nD Cert.KNbwIdeal.τ).loc Cert.KNbwIdeal.main_arg6)),
    fun c => Cert.RNbwIdeal.Read.val_main_v61 (F := Ideal) (m ((c.tc : Thread Cert.KNbwIdeal.nD Cert.KNbwIdeal.τ).loc Cert.KNbwIdeal.main_arg0)) (m ((c.tc : Thread Cert.KNbwIdeal.nD Cert.KNbwIdeal.τ).loc Cert.KNbwIdeal.main_arg1)) (m ((c.tc : Thread Cert.KNbwIdeal.nD Cert.KNbwIdeal.τ).loc Cert.KNbwIdeal.main_arg2)) (m ((c.tc : Thread Cert.KNbwIdeal.nD Cert.KNbwIdeal.τ).loc Cert.KNbwIdeal.main_arg3)) (m ((c.tc : Thread Cert.KNbwIdeal.nD Cert.KNbwIdeal.τ).loc Cert.KNbwIdeal.main_arg4)) (m ((c.tc : Thread Cert.KNbwIdeal.nD Cert.KNbwIdeal.τ).loc Cert.KNbwIdeal.main_arg5)), ?_, ?_⟩
  · refine (θ_run Cert.KNbwIdeal.defs _ _).mono (fun r hr c => ?_) (Cert.KNbwIdeal.Value.run_blocks (F := Ideal) m g)
    obtain ⟨hx, hg, hs, hh⟩ := Nbw.real_of_pre _ _ _ _ _ _ _ (hp c)
    exact ⟨(hr c).1.trans (Nbw.final7 m c hx hg hs hh), (hr c).2.1.trans (Nbw.final8 m c), (hr c).2.2.1.trans (Nbw.final9 m c), (hr c).2.2.2.1.trans (Nbw.final10 m c), (hr c).2.2.2.2.1.trans (Nbw.final11 m c hx hg hs hh), (hr c).2.2.2.2.2.1.trans (Nbw.final12 m c hx hg hs hh), (hr c).2.2.2.2.2.2⟩
  · refine (θ_run Cert.RNbwIdeal.defs _ _).mono (fun r hr c => ?_) (Cert.RNbwIdeal.Value.run (F := Ideal) m' g')
    obtain ⟨h0, h1, h2, h3, h4, h5, h6⟩ := h c
    refine ⟨(hr c).1.trans ?_, (hr c).2.1.trans ?_, (hr c).2.2.1.trans ?_, (hr c).2.2.2.1.trans ?_, (hr c).2.2.2.2.1.trans ?_, (hr c).2.2.2.2.2.1.trans ?_, (hr c).2.2.2.2.2.2⟩
    · exact (Cert.RNbwIdeal.Read.val_main_v49_eq m' c).trans (congr (congr (congr (congr (congrArg (Cert.RNbwIdeal.Read.val_main_v49 (F := Ideal)) h0) h1) h2) h3) h4)
    · exact (Cert.RNbwIdeal.Read.val_main_v24_eq _).trans (congrArg (Cert.RNbwIdeal.Read.val_main_v24 (F := Ideal)) h3)
    · exact (Cert.RNbwIdeal.Read.val_main_v27_eq _ _ _).trans (congr (congr (congrArg (Cert.RNbwIdeal.Read.val_main_v27 (F := Ideal)) h0) h1) h3)
    · exact (Cert.RNbwIdeal.Read.val_main_v32_eq _ _ _).trans (congr (congr (congrArg (Cert.RNbwIdeal.Read.val_main_v32 (F := Ideal)) h0) h2) h3)
    · exact (Cert.RNbwIdeal.Read.val_main_v62_eq m' c).trans (congr (congr (congr (congr (congr (congrArg (Cert.RNbwIdeal.Read.val_main_v62 (F := Ideal)) h0) h1) h2) h3) h4) h6)
    · exact (Cert.RNbwIdeal.Read.val_main_v61_eq m' c).trans (congr (congr (congr (congr (congr (congrArg (Cert.RNbwIdeal.Read.val_main_v61 (F := Ideal)) h0) h1) h2) h3) h4) h5)

/-- Through the pooling: the windowed sums of the cotangent are what the derivative of the differences of cumulative sums gives,
and the sums over the rows add up, where the cotangent, the scale and the mixing matrices are real. -/
theorem algebraic_poolb : Cert.algebraic_KPoolbIdeal_RPoolbIdeal_pre_finite_poolb := by
  intro m g m' g' hp h
  refine ⟨fun c => Cert.RPoolbIdeal.Read.val_main_v205 (F := Ideal) (m ((c.tc : Thread Cert.KPoolbIdeal.nD Cert.KPoolbIdeal.τ).loc Cert.KPoolbIdeal.main_arg1)) (m ((c.tc : Thread Cert.KPoolbIdeal.nD Cert.KPoolbIdeal.τ).loc Cert.KPoolbIdeal.main_arg2)) (m ((c.tc : Thread Cert.KPoolbIdeal.nD Cert.KPoolbIdeal.τ).loc Cert.KPoolbIdeal.main_arg3)) (m ((c.tc : Thread Cert.KPoolbIdeal.nD Cert.KPoolbIdeal.τ).loc Cert.KPoolbIdeal.main_arg4)),
    fun c => Cert.RPoolbIdeal.Read.val_main_v132 (F := Ideal) (m ((c.tc : Thread Cert.KPoolbIdeal.nD Cert.KPoolbIdeal.τ).loc Cert.KPoolbIdeal.main_arg0)) (m ((c.tc : Thread Cert.KPoolbIdeal.nD Cert.KPoolbIdeal.τ).loc Cert.KPoolbIdeal.main_arg1)) (m ((c.tc : Thread Cert.KPoolbIdeal.nD Cert.KPoolbIdeal.τ).loc Cert.KPoolbIdeal.main_arg3)),
    fun c => Cert.RPoolbIdeal.Read.val_main_v140 (F := Ideal) (m ((c.tc : Thread Cert.KPoolbIdeal.nD Cert.KPoolbIdeal.τ).loc Cert.KPoolbIdeal.main_arg0)) (m ((c.tc : Thread Cert.KPoolbIdeal.nD Cert.KPoolbIdeal.τ).loc Cert.KPoolbIdeal.main_arg2)) (m ((c.tc : Thread Cert.KPoolbIdeal.nD Cert.KPoolbIdeal.τ).loc Cert.KPoolbIdeal.main_arg3)), ?_, ?_⟩
  · refine (θ_run Cert.KPoolbIdeal.defs _ _).mono (fun r hr c => ?_) (Cert.KPoolbIdeal.Value.run_blocks (F := Ideal) m g)
    have hD := Poolb.real_of_pre _ _ _ _ _ (hp c)
    exact ⟨(hr c).1.trans (Poolb.final_z m c hD), (hr c).2.1.trans (Poolb.final_s m c), (hr c).2.2.1.trans (Poolb.final_m m c), (hr c).2.2.2⟩
  · refine (θ_run Cert.RPoolbIdeal.defs _ _).mono (fun r hr c => ?_) (Cert.RPoolbIdeal.Value.run (F := Ideal) m' g')
    obtain ⟨h0, h1, h2, h3, h4⟩ := h c
    refine ⟨(hr c).1.trans ?_, (hr c).2.1.trans ?_, (hr c).2.2.1.trans ?_, (hr c).2.2.2⟩
    · exact (Cert.RPoolbIdeal.Read.val_main_v205_eq _).trans (congr (congr (congr (congrArg (Cert.RPoolbIdeal.Read.val_main_v205 (F := Ideal)) h1) h2) h3) h4)
    · exact (Cert.RPoolbIdeal.Read.val_main_v132_eq _).trans (congr (congr (congrArg (Cert.RPoolbIdeal.Read.val_main_v132 (F := Ideal)) h0) h1) h3)
    · exact (Cert.RPoolbIdeal.Read.val_main_v140_eq _).trans (congr (congr (congrArg (Cert.RPoolbIdeal.Read.val_main_v140 (F := Ideal)) h0) h2) h3)

/-- The pooling and its mixed and scaled product: the sum over a window is the difference of the cumulative sums where the pooled
columns are real. -/
theorem algebraic_poolf : Cert.algebraic_KPoolfIdeal_RPoolfIdeal_pre_finite_poolf := by
  intro m g m' g' hp h
  refine ⟨fun c => Cert.RPoolfIdeal.Read.val_main_v129 (F := Ideal) (m ((c.tc : Thread Cert.KPoolfIdeal.nD Cert.KPoolfIdeal.τ).loc Cert.KPoolfIdeal.main_arg0)),
    fun c => Cert.RPoolfIdeal.Read.val_main_v130 (F := Ideal) (m ((c.tc : Thread Cert.KPoolfIdeal.nD Cert.KPoolfIdeal.τ).loc Cert.KPoolfIdeal.main_arg0)) (m ((c.tc : Thread Cert.KPoolfIdeal.nD Cert.KPoolfIdeal.τ).loc Cert.KPoolfIdeal.main_arg1)) (m ((c.tc : Thread Cert.KPoolfIdeal.nD Cert.KPoolfIdeal.τ).loc Cert.KPoolfIdeal.main_arg2)), ?_, ?_⟩
  · refine (θ_run Cert.KPoolfIdeal.defs _ _).mono (fun r hr c => ?_) (Cert.KPoolfIdeal.Value.run_blocks (F := Ideal) m g)
    have hU := Poolf.real_of_pre _ _ _ (hp c)
    exact ⟨(hr c).1.trans (Poolf.final_u m c hU), (hr c).2.1.trans (Poolf.final_p m c hU), (hr c).2.2⟩
  · refine (θ_run Cert.RPoolfIdeal.defs _ _).mono (fun r hr c => ?_) (Cert.RPoolfIdeal.Value.run (F := Ideal) m' g')
    obtain ⟨h0, h1, h2⟩ := h c
    refine ⟨(hr c).1.trans ?_, (hr c).2.1.trans ?_, (hr c).2.2⟩
    · exact (Cert.RPoolfIdeal.Read.val_main_v129_eq m' c).trans (congrArg (Cert.RPoolfIdeal.Read.val_main_v129 (F := Ideal)) h0)
    · exact (Cert.RPoolfIdeal.Read.val_main_v130_eq m' c).trans (congr (congr (congrArg (Cert.RPoolfIdeal.Read.val_main_v130 (F := Ideal)) h0) h1) h2)

/-- The attention: each block of queries sees the block of keys before its own and its own, and a key outside the band has no weight,
or all keys have the same. -/
theorem algebraic_attnf : Cert.algebraic_KAttnfIdeal_RAttnfIdeal := by
  intro m g m' g' _ h
  refine ⟨fun c => Cert.RAttnfIdeal.Read.val_main_v102 (F := Ideal) (m ((c.tc : Thread Cert.KAttnfIdeal.nD Cert.KAttnfIdeal.τ).loc Cert.KAttnfIdeal.main_arg0)) (m ((c.tc : Thread Cert.KAttnfIdeal.nD Cert.KAttnfIdeal.τ).loc Cert.KAttnfIdeal.main_arg1)) (m ((c.tc : Thread Cert.KAttnfIdeal.nD Cert.KAttnfIdeal.τ).loc Cert.KAttnfIdeal.main_arg2)) (m ((c.tc : Thread Cert.KAttnfIdeal.nD Cert.KAttnfIdeal.τ).loc Cert.KAttnfIdeal.main_arg3)) (m ((c.tc : Thread Cert.KAttnfIdeal.nD Cert.KAttnfIdeal.τ).loc Cert.KAttnfIdeal.main_arg4)), ?_, ?_⟩
  · exact (θ_run Cert.KAttnfIdeal.defs _ _).mono (fun r hr c => ⟨(hr c).1.trans (Attnf.final m c), (hr c).2⟩)
      (Cert.KAttnfIdeal.Value.run_blocks (F := Ideal) m g)
  · refine (θ_run Cert.RAttnfIdeal.defs _ _).mono (fun r hr c => ?_) (Cert.RAttnfIdeal.Value.run (F := Ideal) m' g')
    obtain ⟨h0, h1, h2, h3, h4⟩ := h c
    refine ⟨(hr c).1.trans ?_, (hr c).2⟩
    · exact (Cert.RAttnfIdeal.Read.val_main_v102_eq m' c).trans (congr (congr (congr (congr (congrArg (Cert.RAttnfIdeal.Read.val_main_v102 (F := Ideal)) h0) h1) h2) h3) h4)

end Cert.Proof.Bwd

end
-- ==== Proof.Step.lean ====
/-
  One step of the optimiser on one weight: its moments and its update, from the gradient.
-/
module

public import Idealize.ShloMosaic.Lib.Pointwise

@[expose] public section

noncomputable section

namespace Cert.Proof.Step

open Idealize.ShloMosaic

/-- The first moment. -/
def mom (g m : EReal) : EReal := Ideal.ofBits .f32 0x3F666666#32 * m + Ideal.ofBits .f32 0x3DCCCCCD#32 * g

/-- The second moment. -/
def vel (g v : EReal) : EReal := Ideal.ofBits .f32 0x3F7FBE77#32 * v + Ideal.ofBits .f32 0x3A83126F#32 * (g * g)

/-- The update. -/
def upd (g w m v : EReal) : EReal :=
  Ideal.ofBits .f32 0xBA83126F#32 * (Ideal.div (Ideal.div (mom g m) (Ideal.ofBits .f32 0x3F26BD02#32))
    (Ideal.sqrt (Ideal.div (vel g v) (Ideal.ofBits .f32 0x3C231ACC#32)) + Ideal.ofBits .f32 0x322BCC77#32)
    + Ideal.ofBits .f32 0x3C23D70A#32 * w)

end Cert.Proof.Step

end
-- ==== Proof.Adam.lean ====
/-
  The optimiser's step from the parts of the gradient (`adamw_from_parts`): the sum over the devices, and the step.
-/
module

public import proofs.«01_k».proof.Proof.Gen.KAdamIdeal.Value
public import proofs.«01_k».proof.Proof.Gen.RAdamIdeal.Read
public import Idealize.ShloMosaic.Lib.Pipeline.ValueKit
public import Idealize.ShloMosaic.Lib.Pointwise
public import proofs.«01_k».proof.Proof.Step

@[expose] public section

noncomputable section

namespace Cert.Proof.Adam

open Cert.KAdamIdeal Cert.KAdamIdeal.Gen Idealize.ShloMosaic Idealize.ShloMosaic.TcCoe Idealize.SL.Sem
open Idealize.ShloMosaic.Pipeline (Dat Cfg Window)
open Cert.Proof.Step
open scoped BigOperators

variable (m : (ℓ : Loc nD τ sig) → Buf (Elt Ideal) ℓ)

theorem idx0 : ∀ t : Fin cfg0.N, win0_0.index t = ![0, t.val, 0] := (by decide +kernel : ∀ t : Fin grid0.N, _)
theorem idx1 : ∀ t : Fin cfg0.N, win0_1.index t = ![t.val, 0] := (by decide +kernel : ∀ t : Fin grid0.N, _)
theorem idx2 : ∀ t : Fin cfg0.N, win0_2.index t = ![t.val, 0] := (by decide +kernel : ∀ t : Fin grid0.N, _)
theorem idx3 : ∀ t : Fin cfg0.N, win0_3.index t = ![t.val, 0] := (by decide +kernel : ∀ t : Fin grid0.N, _)
theorem idx4 : ∀ t : Fin cfg0.N, win0_4.index t = ![t.val, 0] := (by decide +kernel : ∀ t : Fin grid0.N, _)
theorem idx5 : ∀ t : Fin cfg0.N, win0_5.index t = ![t.val, 0] := (by decide +kernel : ∀ t : Fin grid0.N, _)
theorem idx6 : ∀ t : Fin cfg0.N, win0_6.index t = ![t.val, 0] := (by decide +kernel : ∀ t : Fin grid0.N, _)
theorem idx7 : ∀ t : Fin cfg0.N, win0_7.index t = ![t.val, 0] := (by decide +kernel : ∀ t : Fin grid0.N, _)

/-- The sum over the devices, at an entry of a block. -/
def gsum (p0 p1 p2 p3 p4 p5 p6 p7 : FVec Ideal S1x64x2048 .bf16) (j : S64x2048.Idx) : EReal :=
  p0 (ix3 0 (j 0) (j 1)) + p1 (ix3 0 (j 0) (j 1)) + p2 (ix3 0 (j 0) (j 1)) + p3 (ix3 0 (j 0) (j 1)) + p4 (ix3 0 (j 0) (j 1)) + p5 (ix3 0 (j 0) (j 1)) + p6 (ix3 0 (j 0) (j 1)) + p7 (ix3 0 (j 0) (j 1))

theorem pay4_apply (p0 p1 p2 p3 p4 p5 p6 p7 : FVec Ideal S1x64x2048 .bf16) (j : S64x2048.Idx) :
    k0_pay4 (F := Ideal) p0 p1 p2 p3 p4 p5 p6 p7 j = gsum p0 p1 p2 p3 p4 p5 p6 p7 j := by
  pointwise [k0_pay4, gsum]

theorem pay1_apply (g m : FVec Ideal S64x2048 .f32) (j : S64x2048.Idx) : k0_pay1 (F := Ideal) g m j = mom (g j) (m j) := by
  pointwise [k0_pay1, mom]

theorem pay2_apply (g v : FVec Ideal S64x2048 .f32) (j : S64x2048.Idx) : k0_pay2 (F := Ideal) g v j = vel (g j) (v j) := by
  pointwise [k0_pay2, vel]

theorem pay3_apply (g w m v : FVec Ideal S64x2048 .f32) (j : S64x2048.Idx) :
    k0_pay3 (F := Ideal) g w m v j = upd (g j) (w j) (m j) (v j) := by
  pointwise [k0_pay3, k0_pay1, k0_pay2, upd, mom, vel]

section Reference

open Cert.RAdamIdeal.Read

variable (p : FVec Ideal Cert.RAdamIdeal.S8x704x2048 .bf16) (w m v : FVec Ideal Cert.RAdamIdeal.S704x2048 .f32)

/-- The gradient: the sum over the devices. -/
def grad (i : Cert.RAdamIdeal.S704x2048.Idx) : EReal := ∑ k : Fin 8, p (ix3 k (i 0) (i 1))

theorem ref_g (i : Cert.RAdamIdeal.S704x2048.Idx) : val_main_v1 (F := Ideal) p i = grad p i := by
  pointwise [val_main_v0, val_main_v1, val_main_cst, grad]

theorem ref_m (i : Cert.RAdamIdeal.S704x2048.Idx) : val_main_v6 (F := Ideal) p m i = mom (grad p i) (m i) := by
  rw [← ref_g]
  pointwise [val_main_v2, val_main_v3, val_main_v4, val_main_v5, val_main_v6, val_main_cst_0, val_main_cst_1, mom]

theorem ref_v (i : Cert.RAdamIdeal.S704x2048.Idx) : val_main_v12 (F := Ideal) p v i = vel (grad p i) (v i) := by
  rw [← ref_g]
  pointwise [val_main_v7, val_main_v8, val_main_v9, val_main_v10, val_main_v11, val_main_v12, val_main_cst_2, val_main_cst_3, vel]

theorem ref_d (i : Cert.RAdamIdeal.S704x2048.Idx) : val_main_v25 (F := Ideal) p w m v i = upd (grad p i) (w i) (m i) (v i) := by
  rw [upd, ← ref_m, ← ref_v]
  pointwise [val_main_v13, val_main_v14, val_main_v15, val_main_v16, val_main_v17, val_main_v18, val_main_v19, val_main_v20, val_main_v21, val_main_v22, val_main_v23, val_main_v24, val_main_v25, val_main_cst_4, val_main_cst_5, val_main_cst_6, val_main_cst_7, val_main_cst_8]

end Reference

/-- The sum over the devices of a block of the parts. -/
def bsum (p : FVec Ideal S8x64x2048 .bf16) (j : S64x2048.Idx) : EReal := ∑ k : Fin 8, p (ix3 k (j 0) (j 1))

/-- What a point sums. -/
theorem grad_apply (p : FVec Ideal S8x64x2048 .bf16) (j : S64x2048.Idx) :
    k0_pay4 (F := Ideal) (View.ld p r0_0) (View.ld p r0_1) (View.ld p r0_2) (View.ld p r0_3) (View.ld p r0_4) (View.ld p r0_5) (View.ld p r0_6) (View.ld p r0_7) j = bsum p j := by
  refine (pay4_apply _ _ _ _ _ _ _ _ _).trans ?_
  unfold gsum bsum
  rw [Fin.sum_univ_eight]
  refine congrArg₂ (· + ·) (congrArg₂ (· + ·) (congrArg₂ (· + ·) (congrArg₂ (· + ·) (congrArg₂ (· + ·) (congrArg₂ (· + ·) (congrArg₂ (· + ·)
    ?_ ?_) ?_) ?_) ?_) ?_) ?_) ?_
  all_goals
    refine View.ld_unit_apply_of (S := S8x64x2048) (Val := Elt Ideal) (e := .bf16) p _ _ _ _ _ fun a => ?_
    fin_cases a <;> simp

/-- THE RESULT. -/
theorem final_g (c : Dev nD) :
    (dats m 0 c).arrAt 4 cfg0.N
      = Cert.RAdamIdeal.Read.val_main_v1 (F := Ideal) (m ((c : Thread nD τ).loc main_arg0)) := by
  refine (dats m 0 c).arrAt_eq_of_covers 4 _ (by decide +kernel) fun t hf y => ?_
  blk_simp
  rw [after0_4, ref_g]
  frame_out
  refine (grad_apply _ _).trans ?_
  unfold bsum grad
  blk_point [iblk, V, idx0, idx1, idx2, idx3, idx4]

/-- THE RESULT. -/
theorem final_d (c : Dev nD) :
    (dats m 0 c).arrAt 5 cfg0.N
      = Cert.RAdamIdeal.Read.val_main_v25 (F := Ideal) (m ((c : Thread nD τ).loc main_arg0)) (m ((c : Thread nD τ).loc main_arg1))
          (m ((c : Thread nD τ).loc main_arg2)) (m ((c : Thread nD τ).loc main_arg3)) := by
  refine (dats m 0 c).arrAt_eq_of_covers 5 _ (by decide +kernel) fun t hf y => ?_
  blk_simp
  rw [after0_5, ref_d]
  frame_out
  refine (pay3_apply _ _ _ _ _).trans ?_
  rw [show k0_pay5 (F := Ideal) (iblk m c 0 t) (iblk m c 1 t) (iblk m c 2 t) (iblk m c 3 t) y = bsum (iblk m c 0 t) y from grad_apply _ _]
  unfold bsum grad
  blk_point [iblk, V, idx0, idx1, idx2, idx3, idx5]

/-- THE RESULT. -/
theorem final_m (c : Dev nD) :
    (dats m 0 c).arrAt 6 cfg0.N
      = Cert.RAdamIdeal.Read.val_main_v6 (F := Ideal) (m ((c : Thread nD τ).loc main_arg0)) (m ((c : Thread nD τ).loc main_arg2)) := by
  refine (dats m 0 c).arrAt_eq_of_covers 6 _ (by decide +kernel) fun t hf y => ?_
  blk_simp
  rw [after0_6, ref_m]
  frame_out
  refine (pay1_apply _ _ _).trans ?_
  rw [show k0_pay5 (F := Ideal) (iblk m c 0 t) (iblk m c 1 t) (iblk m c 2 t) (iblk m c 3 t) y = bsum (iblk m c 0 t) y from grad_apply _ _]
  unfold bsum grad
  blk_point [iblk, V, idx0, idx1, idx2, idx3, idx6]

/-- THE RESULT. -/
theorem final_v (c : Dev nD) :
    (dats m 0 c).arrAt 7 cfg0.N
      = Cert.RAdamIdeal.Read.val_main_v12 (F := Ideal) (m ((c : Thread nD τ).loc main_arg0)) (m ((c : Thread nD τ).loc main_arg3)) := by
  refine (dats m 0 c).arrAt_eq_of_covers 7 _ (by decide +kernel) fun t hf y => ?_
  blk_simp
  rw [after0_7, ref_v]
  frame_out
  refine (pay2_apply _ _ _).trans ?_
  rw [show k0_pay5 (F := Ideal) (iblk m c 0 t) (iblk m c 1 t) (iblk m c 2 t) (iblk m c 3 t) y = bsum (iblk m c 0 t) y from grad_apply _ _]
  unfold bsum grad
  blk_point [iblk, V, idx0, idx1, idx2, idx3, idx7]

end Cert.Proof.Adam

end
-- ==== Proof.Adamt.lean ====
/-
  The optimiser's step from the transposed parts of the gradient (`adamw_from_transposed_parts`): the sum over the
  devices, its transpose, and the step.
-/
module

public import proofs.«01_k».proof.Proof.Gen.KAdamtIdeal.Value
public import proofs.«01_k».proof.Proof.Gen.RAdamtIdeal.Read
public import Idealize.ShloMosaic.Lib.Pipeline.ValueKit
public import Idealize.ShloMosaic.Lib.Pointwise
public import proofs.«01_k».proof.Proof.Step

@[expose] public section

noncomputable section

namespace Cert.Proof.Adamt

open Cert.KAdamtIdeal Cert.KAdamtIdeal.Gen Idealize.ShloMosaic Idealize.ShloMosaic.TcCoe Idealize.SL.Sem
open Idealize.ShloMosaic.Pipeline (Dat Cfg Window)
open Cert.Proof.Step
open scoped BigOperators

variable (m : (ℓ : Loc nD τ sig) → Buf (Elt Ideal) ℓ)

theorem idx0 : ∀ t : Fin cfg0.N, win0_0.index t = ![0, t.val, 0] := (by decide +kernel : ∀ t : Fin grid0.N, _)
theorem idx1 : ∀ t : Fin cfg0.N, win0_1.index t = ![0, t.val] := (by decide +kernel : ∀ t : Fin grid0.N, _)
theorem idx2 : ∀ t : Fin cfg0.N, win0_2.index t = ![0, t.val] := (by decide +kernel : ∀ t : Fin grid0.N, _)
theorem idx3 : ∀ t : Fin cfg0.N, win0_3.index t = ![0, t.val] := (by decide +kernel : ∀ t : Fin grid0.N, _)
theorem idx4 : ∀ t : Fin cfg0.N, win0_4.index t = ![0, t.val] := (by decide +kernel : ∀ t : Fin grid0.N, _)
theorem idx5 : ∀ t : Fin cfg0.N, win0_5.index t = ![0, t.val] := (by decide +kernel : ∀ t : Fin grid0.N, _)
theorem idx6 : ∀ t : Fin cfg0.N, win0_6.index t = ![0, t.val] := (by decide +kernel : ∀ t : Fin grid0.N, _)
theorem idx7 : ∀ t : Fin cfg0.N, win0_7.index t = ![0, t.val] := (by decide +kernel : ∀ t : Fin grid0.N, _)

/-- The sum over the devices, at an entry of a block. -/
def gsum (p0 p1 p2 p3 p4 p5 p6 p7 : FVec Ideal S1x128x2048 .bf16) (j : S2048x128.Idx) : EReal :=
  p0 (ix3 0 (j 1) (j 0)) + p1 (ix3 0 (j 1) (j 0)) + p2 (ix3 0 (j 1) (j 0)) + p3 (ix3 0 (j 1) (j 0)) + p4 (ix3 0 (j 1) (j 0)) + p5 (ix3 0 (j 1) (j 0)) + p6 (ix3 0 (j 1) (j 0)) + p7 (ix3 0 (j 1) (j 0))

theorem pay4_apply (p0 p1 p2 p3 p4 p5 p6 p7 : FVec Ideal S1x128x2048 .bf16) (j : S2048x128.Idx) :
    k0_pay4 (F := Ideal) p0 p1 p2 p3 p4 p5 p6 p7 j = gsum p0 p1 p2 p3 p4 p5 p6 p7 j := by
  pointwise [k0_pay4, gsum]

theorem pay1_apply (g m : FVec Ideal S2048x128 .f32) (j : S2048x128.Idx) : k0_pay1 (F := Ideal) g m j = mom (g j) (m j) := by
  pointwise [k0_pay1, mom]

theorem pay2_apply (g v : FVec Ideal S2048x128 .f32) (j : S2048x128.Idx) : k0_pay2 (F := Ideal) g v j = vel (g j) (v j) := by
  pointwise [k0_pay2, vel]

theorem pay3_apply (g w m v : FVec Ideal S2048x128 .f32) (j : S2048x128.Idx) :
    k0_pay3 (F := Ideal) g w m v j = upd (g j) (w j) (m j) (v j) := by
  pointwise [k0_pay3, k0_pay1, k0_pay2, upd, mom, vel]

section Reference

open Cert.RAdamtIdeal.Read

variable (p : FVec Ideal Cert.RAdamtIdeal.S8x1408x2048 .bf16) (w m v : FVec Ideal Cert.RAdamtIdeal.S2048x1408 .f32)

/-- The gradient: the sum over the devices. -/
def grad (i : Cert.RAdamtIdeal.S2048x1408.Idx) : EReal := ∑ k : Fin 8, p (ix3 k (i 1) (i 0))

theorem ref_g (i : Cert.RAdamtIdeal.S2048x1408.Idx) : val_main_v2 (F := Ideal) p i = grad p i := by
  pointwise [val_main_v0, val_main_v1, val_main_v2, val_main_cst, grad]

theorem ref_m (i : Cert.RAdamtIdeal.S2048x1408.Idx) : val_main_v7 (F := Ideal) p m i = mom (grad p i) (m i) := by
  rw [← ref_g]
  pointwise [val_main_v3, val_main_v4, val_main_v5, val_main_v6, val_main_v7, val_main_cst_0, val_main_cst_1, mom]

theorem ref_v (i : Cert.RAdamtIdeal.S2048x1408.Idx) : val_main_v13 (F := Ideal) p v i = vel (grad p i) (v i) := by
  rw [← ref_g]
  pointwise [val_main_v8, val_main_v9, val_main_v10, val_main_v11, val_main_v12, val_main_v13, val_main_cst_2, val_main_cst_3, vel]

theorem ref_d (i : Cert.RAdamtIdeal.S2048x1408.Idx) : val_main_v26 (F := Ideal) p w m v i = upd (grad p i) (w i) (m i) (v i) := by
  rw [upd, ← ref_m, ← ref_v]
  pointwise [val_main_v14, val_main_v15, val_main_v16, val_main_v17, val_main_v18, val_main_v19, val_main_v20, val_main_v21, val_main_v22, val_main_v23, val_main_v24, val_main_v25, val_main_v26, val_main_cst_4, val_main_cst_5, val_main_cst_6, val_main_cst_7, val_main_cst_8]

end Reference

/-- The sum over the devices of a block of the parts. -/
def bsum (p : FVec Ideal S8x128x2048 .bf16) (j : S2048x128.Idx) : EReal := ∑ k : Fin 8, p (ix3 k (j 1) (j 0))

/-- What a point sums. -/
theorem grad_apply (p : FVec Ideal S8x128x2048 .bf16) (j : S2048x128.Idx) :
    k0_pay4 (F := Ideal) (View.ld p r0_0) (View.ld p r0_1) (View.ld p r0_2) (View.ld p r0_3) (View.ld p r0_4) (View.ld p r0_5) (View.ld p r0_6) (View.ld p r0_7) j = bsum p j := by
  refine (pay4_apply _ _ _ _ _ _ _ _ _).trans ?_
  unfold gsum bsum
  rw [Fin.sum_univ_eight]
  refine congrArg₂ (· + ·) (congrArg₂ (· + ·) (congrArg₂ (· + ·) (congrArg₂ (· + ·) (congrArg₂ (· + ·) (congrArg₂ (· + ·) (congrArg₂ (· + ·)
    ?_ ?_) ?_) ?_) ?_) ?_) ?_) ?_
  all_goals
    refine View.ld_unit_apply_of (S := S8x128x2048) (Val := Elt Ideal) (e := .bf16) p _ _ _ _ _ fun a => ?_
    fin_cases a <;> simp

/-- THE RESULT. -/
theorem final_g (c : Dev nD) :
    (dats m 0 c).arrAt 4 cfg0.N
      = Cert.RAdamtIdeal.Read.val_main_v2 (F := Ideal) (m ((c : Thread nD τ).loc main_arg0)) := by
  refine (dats m 0 c).arrAt_eq_of_covers 4 _ (by decide +kernel) fun t hf y => ?_
  blk_simp
  rw [after0_4, ref_g]
  frame_out
  refine (grad_apply _ _).trans ?_
  unfold bsum grad
  blk_point [iblk, V, idx0, idx1, idx2, idx3, idx4]

/-- THE RESULT. -/
theorem final_d (c : Dev nD) :
    (dats m 0 c).arrAt 5 cfg0.N
      = Cert.RAdamtIdeal.Read.val_main_v26 (F := Ideal) (m ((c : Thread nD τ).loc main_arg0)) (m ((c : Thread nD τ).loc main_arg1))
          (m ((c : Thread nD τ).loc main_arg2)) (m ((c : Thread nD τ).loc main_arg3)) := by
  refine (dats m 0 c).arrAt_eq_of_covers 5 _ (by decide +kernel) fun t hf y => ?_
  blk_simp
  rw [after0_5, ref_d]
  frame_out
  refine (pay3_apply _ _ _ _ _).trans ?_
  rw [show k0_pay5 (F := Ideal) (iblk m c 0 t) (iblk m c 1 t) (iblk m c 2 t) (iblk m c 3 t) y = bsum (iblk m c 0 t) y from grad_apply _ _]
  unfold bsum grad
  blk_point [iblk, V, idx0, idx1, idx2, idx3, idx5]

/-- THE RESULT. -/
theorem final_m (c : Dev nD) :
    (dats m 0 c).arrAt 6 cfg0.N
      = Cert.RAdamtIdeal.Read.val_main_v7 (F := Ideal) (m ((c : Thread nD τ).loc main_arg0)) (m ((c : Thread nD τ).loc main_arg2)) := by
  refine (dats m 0 c).arrAt_eq_of_covers 6 _ (by decide +kernel) fun t hf y => ?_
  blk_simp
  rw [after0_6, ref_m]
  frame_out
  refine (pay1_apply _ _ _).trans ?_
  rw [show k0_pay5 (F := Ideal) (iblk m c 0 t) (iblk m c 1 t) (iblk m c 2 t) (iblk m c 3 t) y = bsum (iblk m c 0 t) y from grad_apply _ _]
  unfold bsum grad
  blk_point [iblk, V, idx0, idx1, idx2, idx3, idx6]

/-- THE RESULT. -/
theorem final_v (c : Dev nD) :
    (dats m 0 c).arrAt 7 cfg0.N
      = Cert.RAdamtIdeal.Read.val_main_v13 (F := Ideal) (m ((c : Thread nD τ).loc main_arg0)) (m ((c : Thread nD τ).loc main_arg3)) := by
  refine (dats m 0 c).arrAt_eq_of_covers 7 _ (by decide +kernel) fun t hf y => ?_
  blk_simp
  rw [after0_7, ref_v]
  frame_out
  refine (pay2_apply _ _ _).trans ?_
  rw [show k0_pay5 (F := Ideal) (iblk m c 0 t) (iblk m c 1 t) (iblk m c 2 t) (iblk m c 3 t) y = bsum (iblk m c 0 t) y from grad_apply _ _]
  unfold bsum grad
  blk_point [iblk, V, idx0, idx1, idx2, idx3, idx7]

end Cert.Proof.Adamt

end
-- ==== Proof.Ada.lean ====
/-
  The projection of the conditioning (`ada_fwd`): a tile of the product with the activated conditioning, and the bias.
-/
module

public import proofs.«01_k».proof.Proof.Gen.KAdaIdeal.Value
public import proofs.«01_k».proof.Proof.Gen.RAdaIdeal.Read
public import Idealize.ShloMosaic.Lib.Pipeline.ValueKit
public import Idealize.ShloMosaic.Lib.Pointwise

@[expose] public section

noncomputable section

namespace Cert.Proof.Ada

open Cert.KAdaIdeal Cert.KAdaIdeal.Gen Idealize.ShloMosaic Idealize.ShloMosaic.TcCoe Idealize.SL.Sem
open Idealize.ShloMosaic.Pipeline (Dat Cfg Window)
open scoped BigOperators

variable (m : (ℓ : Loc nD τ sig) → Buf (Elt Ideal) ℓ)

theorem idx0 : ∀ t : Fin cfg0.N, win0_0.index t = ![0, 0] := (by decide +kernel : ∀ t : Fin grid0.N, _)
theorem idx1 : ∀ t : Fin cfg0.N, win0_1.index t = ![0, t.val] := (by decide +kernel : ∀ t : Fin grid0.N, _)
theorem idx2 : ∀ t : Fin cfg0.N, win0_2.index t = ![0, t.val] := (by decide +kernel : ∀ t : Fin grid0.N, _)
theorem idx3 : ∀ t : Fin cfg0.N, win0_3.index t = ![0, t.val] := (by decide +kernel : ∀ t : Fin grid0.N, _)

/-- The activation. -/
def silu (x : EReal) : EReal := x * Ideal.div 1 (1 + Ideal.exp (-x))

/-- A tile of the product. -/
def prod (x : FVec Ideal S16x2048 .f32) (w : FVec Ideal S2048x768 .f32) (j : S16x768.Idx) : EReal :=
  ∑ k : Fin 2048, silu (x (ix2 (j 0) k)) * w (ix2 k (j 1))

/-- The product, whole. -/
def whole (x : FVec Ideal Cert.RAdaIdeal.S16x2048 .f32) (w : FVec Ideal Cert.RAdaIdeal.S2048x2304 .f32) (i : Cert.RAdaIdeal.S16x2304.Idx) : EReal :=
  ∑ k : Fin 2048, silu (x (ix2 (i 0) k)) * w (ix2 k (i 1))

theorem pay1_apply (x : FVec Ideal S16x2048 .f32) (w : FVec Ideal S2048x768 .f32) (b : FVec Ideal S1x768 .f32) (j : S16x768.Idx) :
    k0_pay1 (F := Ideal) x w b j = prod x w j + b (ix2 0 (j 1)) := by
  pointwise [k0_pay1, prod, silu, zero_sub]

open Cert.RAdaIdeal.Read in
theorem ref_apply (x : FVec Ideal Cert.RAdaIdeal.S16x2048 .f32) (w : FVec Ideal Cert.RAdaIdeal.S2048x2304 .f32)
    (b : FVec Ideal Cert.RAdaIdeal.S1x2304 .f32) (i : Cert.RAdaIdeal.S16x2304.Idx) :
    val_main_v3 (F := Ideal) x w b i = whole x w i + b (ix2 0 (i 1)) := by
  pointwise [val_main_call0_v0, val_main_call0_v1, val_main_call0_cst, val_main_call0_v2, val_main_call0_v3, val_main_call0_cst_0,
    val_main_call0_v4, val_main_call0_v5, val_main_v0, val_main_v1, val_main_v2, val_main_v3, whole, silu]

/-- THE RESULT. -/
theorem final (c : Dev nD) :
    (dats m 0 c).arrAt 3 cfg0.N
      = Cert.RAdaIdeal.Read.val_main_v3 (F := Ideal) (m ((c : Thread nD τ).loc main_arg0)) (m ((c : Thread nD τ).loc main_arg1))
          (m ((c : Thread nD τ).loc main_arg2)) := by
  refine (dats m 0 c).arrAt_eq_of_covers 3 _ (by decide +kernel) fun t hf y => ?_
  blk_simp
  rw [after0_3, ref_apply]
  frame_out
  refine (pay1_apply _ _ _ _).trans ?_
  unfold prod whole
  blk_point [iblk, V, idx0, idx1, idx2, idx3]

end Cert.Proof.Ada

end
-- ==== Proof.Adab.lean ====
/-
  The gradient of the conditioning's projection with the optimiser's step (`ada_bwd_adamw`).
-/
module

public import proofs.«01_k».proof.Proof.Gen.KAdabIdeal.Value
public import proofs.«01_k».proof.Proof.Gen.RAdabIdeal.Read
public import Idealize.ShloMosaic.Lib.Pipeline.ValueKit
public import Idealize.ShloMosaic.Lib.Pointwise
public import proofs.«01_k».proof.Proof.Step

@[expose] public section

noncomputable section

namespace Cert.Proof.Adab

open Cert.KAdabIdeal Cert.KAdabIdeal.Gen Idealize.ShloMosaic Idealize.ShloMosaic.TcCoe Idealize.SL.Sem
open Idealize.ShloMosaic.Pipeline (Dat Cfg Window)
open Cert.Proof.Step
open scoped BigOperators

variable (m : (ℓ : Loc nD τ sig) → Buf (Elt Ideal) ℓ)

theorem idx0 : ∀ t : Fin cfg0.N, win0_0.index t = ![0, 0] := (by decide +kernel : ∀ t : Fin grid0.N, _)
theorem idx1 : ∀ t : Fin cfg0.N, win0_1.index t = ![0, t.val] := (by decide +kernel : ∀ t : Fin grid0.N, _)
theorem idx2 : ∀ t : Fin cfg0.N, win0_2.index t = ![0, t.val] := (by decide +kernel : ∀ t : Fin grid0.N, _)
theorem idx3 : ∀ t : Fin cfg0.N, win0_3.index t = ![0, t.val] := (by decide +kernel : ∀ t : Fin grid0.N, _)
theorem idx4 : ∀ t : Fin cfg0.N, win0_4.index t = ![0, t.val] := (by decide +kernel : ∀ t : Fin grid0.N, _)
theorem idx5 : ∀ t : Fin cfg0.N, win0_5.index t = ![0, t.val] := (by decide +kernel : ∀ t : Fin grid0.N, _)
theorem idx6 : ∀ t : Fin cfg0.N, win0_6.index t = ![0, t.val] := (by decide +kernel : ∀ t : Fin grid0.N, _)
theorem idx7 : ∀ t : Fin cfg0.N, win0_7.index t = ![0, t.val] := (by decide +kernel : ∀ t : Fin grid0.N, _)
theorem idx8 : ∀ t : Fin cfg0.N, win0_8.index t = ![0, t.val] := (by decide +kernel : ∀ t : Fin grid0.N, _)

/-- The activation. -/
def silu (x : EReal) : EReal := x * Ideal.div 1 (1 + Ideal.exp (-x))

/-- A tile of the gradient. -/
def bgrad (x : FVec Ideal S2048x128 .f32) (d : FVec Ideal S128x256 .f32) (j : S2048x256.Idx) : EReal :=
  ∑ k : Fin 128, silu (x (ix2 (j 0) k)) * d (ix2 k (j 1))

theorem pay2_apply (x : FVec Ideal S2048x128 .f32) (d : FVec Ideal S128x256 .f32) (j : S2048x256.Idx) :
    k0_pay2 (F := Ideal) x d j = bgrad x d j := by
  pointwise [k0_pay2, bgrad, silu, zero_sub]

theorem pay3_apply (x : FVec Ideal S2048x128 .f32) (d : FVec Ideal S128x256 .f32) (m : FVec Ideal S2048x256 .f32) (j : S2048x256.Idx) :
    k0_pay3 (F := Ideal) x d m j = mom (bgrad x d j) (m j) := by
  rw [← pay2_apply]
  pointwise [k0_pay3, mom]

theorem pay4_apply (x : FVec Ideal S2048x128 .f32) (d : FVec Ideal S128x256 .f32) (v : FVec Ideal S2048x256 .f32) (j : S2048x256.Idx) :
    k0_pay4 (F := Ideal) x d v j = vel (bgrad x d j) (v j) := by
  rw [← pay2_apply]
  pointwise [k0_pay4, vel]

theorem pay1_apply (x : FVec Ideal S2048x128 .f32) (d : FVec Ideal S128x256 .f32) (w m v : FVec Ideal S2048x256 .f32) (j : S2048x256.Idx) :
    k0_pay1 (F := Ideal) w (k0_pay5 x d m) (k0_pay6 x d v) k0_pay7 j = upd (bgrad x d j) (w j) (m j) (v j) := by
  rw [upd, ← pay3_apply, ← pay4_apply]
  pointwise [k0_pay1, k0_pay5, k0_pay6, k0_pay7]

section Reference

open Cert.RAdabIdeal.Read

variable (x : FVec Ideal Cert.RAdabIdeal.S128x2048 .f32) (d : FVec Ideal Cert.RAdabIdeal.S128x2304 .f32) (w m v : FVec Ideal Cert.RAdabIdeal.S2048x2304 .f32)

/-- The gradient. -/
def grad (i : Cert.RAdabIdeal.S2048x2304.Idx) : EReal := ∑ k : Fin 128, silu (x (ix2 k (i 0))) * d (ix2 k (i 1))

theorem ref_g (i : Cert.RAdabIdeal.S2048x2304.Idx) : val_main_v3 (F := Ideal) x d i = grad x d i := by
  unfold grad
  rw [show val_main_v3 (F := Ideal) x d i = ∑ k : Fin 128, d (ix2 k (i 1)) * silu (x (ix2 k (i 0))) from by
    pointwise [val_main_call0_v0, val_main_call0_v1, val_main_call0_cst, val_main_call0_v2, val_main_call0_v3, val_main_call0_cst_0,
      val_main_call0_v4, val_main_call0_v5, val_main_v0, val_main_v2, val_main_v3, silu]]
  exact Finset.sum_congr rfl fun k _ => mul_comm _ _

theorem ref_m (i : Cert.RAdabIdeal.S2048x2304.Idx) : val_main_v8 (F := Ideal) x d m i = mom (grad x d i) (m i) := by
  rw [← ref_g]
  pointwise [val_main_v4, val_main_v5, val_main_v6, val_main_v7, val_main_v8, val_main_cst, val_main_cst_0, mom]

theorem ref_v (i : Cert.RAdabIdeal.S2048x2304.Idx) : val_main_v14 (F := Ideal) x d v i = vel (grad x d i) (v i) := by
  rw [← ref_g]
  pointwise [val_main_v9, val_main_v10, val_main_v11, val_main_v12, val_main_v13, val_main_v14, val_main_cst_1, val_main_cst_2, vel]

theorem ref_d (i : Cert.RAdabIdeal.S2048x2304.Idx) : val_main_v27 (F := Ideal) x d w m v i = upd (grad x d i) (w i) (m i) (v i) := by
  rw [upd, ← ref_m, ← ref_v]
  pointwise [val_main_v15, val_main_v16, val_main_v17, val_main_v18, val_main_v19, val_main_v20, val_main_v21, val_main_v22, val_main_v23, val_main_v24, val_main_v25, val_main_v26, val_main_v27, val_main_cst_3, val_main_cst_4, val_main_cst_5, val_main_cst_6, val_main_cst_7]

end Reference

/-- The host's transpose of the conditioning. -/
theorem read0 (c : Dev nD) (i : S2048x128.Idx) :
    (V m c main_v0 : FVec Ideal S2048x128 .f32) i = (m ((c : Thread nD τ).loc main_arg0)) (ix2 (i 1) (i 0)) := by
  entry_read
  pointwise

/-- THE RESULT. -/
theorem final_g (c : Dev nD) :
    (dats m 0 c).arrAt 5 cfg0.N
      = Cert.RAdabIdeal.Read.val_main_v3 (F := Ideal) (m ((c : Thread nD τ).loc main_arg0)) (m ((c : Thread nD τ).loc main_arg1)) := by
  refine (dats m 0 c).arrAt_eq_of_covers 5 _ (by decide +kernel) fun t hf y => ?_
  blk_simp
  rw [after0_5, ref_g]
  frame_out
  refine (pay2_apply _ _ _).trans ?_
  unfold bgrad grad
  blk_point [iblk, V, idx0, idx1, idx2, idx3, idx4, idx5]

/-- THE RESULT. -/
theorem final_d (c : Dev nD) :
    (dats m 0 c).arrAt 6 cfg0.N
      = Cert.RAdabIdeal.Read.val_main_v27 (F := Ideal) (m ((c : Thread nD τ).loc main_arg0)) (m ((c : Thread nD τ).loc main_arg1))
          (m ((c : Thread nD τ).loc main_arg2)) (m ((c : Thread nD τ).loc main_arg3)) (m ((c : Thread nD τ).loc main_arg4)) := by
  refine (dats m 0 c).arrAt_eq_of_covers 6 _ (by decide +kernel) fun t hf y => ?_
  blk_simp
  rw [after0_6, ref_d]
  frame_out
  refine (pay1_apply _ _ _ _ _ _).trans ?_
  unfold bgrad grad
  blk_point [iblk, V, idx0, idx1, idx2, idx3, idx4, idx6]

/-- THE RESULT. -/
theorem final_m (c : Dev nD) :
    (dats m 0 c).arrAt 7 cfg0.N
      = Cert.RAdabIdeal.Read.val_main_v8 (F := Ideal) (m ((c : Thread nD τ).loc main_arg0)) (m ((c : Thread nD τ).loc main_arg1))
          (m ((c : Thread nD τ).loc main_arg3)) := by
  refine (dats m 0 c).arrAt_eq_of_covers 7 _ (by decide +kernel) fun t hf y => ?_
  blk_simp
  rw [after0_7, ref_m]
  frame_out
  refine (pay3_apply _ _ _ _).trans ?_
  unfold bgrad grad
  blk_point [iblk, V, idx0, idx1, idx2, idx3, idx4, idx7]

/-- THE RESULT. -/
theorem final_v (c : Dev nD) :
    (dats m 0 c).arrAt 8 cfg0.N
      = Cert.RAdabIdeal.Read.val_main_v14 (F := Ideal) (m ((c : Thread nD τ).loc main_arg0)) (m ((c : Thread nD τ).loc main_arg1))
          (m ((c : Thread nD τ).loc main_arg4)) := by
  refine (dats m 0 c).arrAt_eq_of_covers 8 _ (by decide +kernel) fun t hf y => ?_
  blk_simp
  rw [after0_8, ref_v]
  frame_out
  refine (pay4_apply _ _ _ _).trans ?_
  unfold bgrad grad
  blk_point [iblk, V, idx0, idx1, idx2, idx3, idx4, idx8]

end Cert.Proof.Adab

end
-- ==== Proof.Hot.lean ====
/-
  The one-hot matrix of the relative positions' buckets.
-/
module

public import proofs.«01_k».proof.Proof.Finite
public import Idealize.ShloMosaic.Lib.WordCmp
public import Idealize.ShloMosaic.Lib.Routing.OpsPair
public import Idealize.ShloMosaic.Lib.Routing.Ops

@[expose] public section

noncomputable section

namespace Cert.Proof.Hot

open Idealize.ShloMosaic
open scoped BigOperators

/-- A word names a row where it is one of the first thirty-two numbers. -/
theorem row_of (b : BitVec 32) (h0 : IntOp.cmpi .sge b 0#32 = 1#1) (h1 : IntOp.cmpi .slt b 32#32 = 1#1) :
    ∃ r : Fin 32, b = BitVec.ofNat 32 r.val := by
  rw [WordCmp.cmpi_sge_eq] at h0
  rw [WordCmp.cmpi_slt_eq] at h1
  have e0 : (0 : Int) ≤ b.toInt := by
    by_contra hn
    simp [hn] at h0
  have e1 : b.toInt < 32 := by
    by_contra hn
    have : (32#32 : BitVec 32).toInt = 32 := by decide
    rw [this] at h1
    simp [hn] at h1
  have e2 : b.toNat < 32 := by
    have := b.isLt
    rw [BitVec.toInt_eq_toNat_cond] at e0 e1
    split at e0 <;> omega
  exact ⟨⟨b.toNat, e2⟩, by simp⟩

/-- The entry of the one-hot matrix at a row: one where the word is the row's number. -/
def hot (b : BitVec 32) (r : Fin 32) : EReal := if b = BitVec.ofNat 32 r.val then 1 else 0

theorem hot_row (a r : Fin 32) : hot (BitVec.ofNat 32 a.val) r = if a = r then 1 else 0 := by
  unfold hot
  have : (BitVec.ofNat 32 a.val = BitVec.ofNat 32 r.val) ↔ a = r := by
    constructor
    · intro h
      have := congrArg BitVec.toNat h
      simp only [BitVec.toNat_ofNat] at this
      exact Fin.ext (by omega)
    · rintro rfl
      rfl
  simp only [this]

/-- The host's wrap of an index leaves a row's number as it is. -/
theorem wrap (b : BitVec 32) (r : Fin 32) (h : b = BitVec.ofNat 32 r.val) :
    Scalar.select (IntOp.cmpi .slt b 0#32) (IntOp.addi b 32#32) b = b :=
  Routing.wrap_of_lt b _ (by
    subst h
    have := r.isLt
    simp only [BitVec.toNat_ofNat]
    omega)

/-- The comparison with the row's number, as a number. -/
theorem hot_eq (b : BitVec 32) (r : Fin 32) :
    FloatOps.uitofp (F := Ideal) FTy.f32 (IntOp.cmpi .eq (BitVec.ofNat 32 r.val) b) = hot b r := by
  rw [WordCmp.cmpi_eq_eq]
  unfold hot
  by_cases h : BitVec.ofNat 32 r.val = b
  · rw [if_pos h.symm]
    simp [h, FloatOps.uitofp]
  · rw [if_neg fun e => h e.symm]
    simp [h, FloatOps.uitofp]

/-- An addition of rows at indices, read at an entry: what the rows with this index add. -/
theorem scatter_rows {R C N : Nat} (d : ScatterDims ⟨2, ![R, C]⟩ ⟨2, ![N, 1]⟩ ⟨2, ![N, C]⟩) (x : Shape.Idx ⟨2, ![R, C]⟩ → EReal)
    (idx : IVec ⟨2, ![N, 1]⟩ 32) (upd : Shape.Idx ⟨2, ![N, C]⟩ → EReal) (r : Fin R) (c : Fin C)
    (s0 : ∀ (k : Fin N) (h : Fin C), d.start (ix2 k h) idx 0 = (idx (ix2 k (0 : Fin 1))).toInt)
    (s1 : ∀ (k : Fin N) (h : Fin C), d.start (ix2 k h) idx 1 = 0)
    (w0 : ∀ (k : Fin N) (h : Fin C), d.window (ix2 k h) 0 = 0) (w1 : ∀ (k : Fin N) (h : Fin C), d.window (ix2 k h) 1 = h.val) :
    Ideal.hostScatterAdd d x idx upd (ix2 r c)
      = x (ix2 r c) + ∑ k ∈ Finset.univ.filter (fun k : Fin N => (idx (ix2 k (0 : Fin 1))).toInt = (r.val : Int)), upd (ix2 k c) := by
  have hl : ∀ (k : Fin N) (h : Fin C), (d.resultIdx? (ix2 k h) idx = some (ix2 r c)) ↔ ((idx (ix2 k (0 : Fin 1))).toInt = (r.val : Int) ∧ h = c) := fun k h => by
    refine (Routing.resultIdx?_ix2 (R := R) (C := C) d (ix2 k h) idx r c).trans ?_
    rw [s0, s1, w0, w1]
    constructor
    · rintro ⟨p, q⟩
      exact ⟨by omega, Fin.ext (by omega)⟩
    · rintro ⟨p, rfl⟩
      exact ⟨by omega, by omega⟩
  have hs : ∀ j : Shape.Idx ⟨2, ![N, C]⟩, ix2 (j 0) (j 1) = j := fun j => funext (Fin.forall_fin_two.mpr ⟨rfl, rfl⟩)
  unfold Ideal.hostScatterAdd
  refine congrArg (x (ix2 r c) + ·) ?_
  refine Finset.sum_nbij' (fun j : Shape.Idx ⟨2, ![N, C]⟩ => (j 0 : Fin N)) (fun k => (ix2 k c : Shape.Idx ⟨2, ![N, C]⟩)) ?_ ?_ ?_ ?_ ?_
  · intro j hj
    have := (Finset.mem_filter.mp hj).2
    rw [← hs j] at this
    exact Finset.mem_filter.mpr ⟨Finset.mem_univ _, ((hl _ _).mp this).1⟩
  · intro k hk
    exact Finset.mem_filter.mpr ⟨Finset.mem_univ _, (hl _ _).mpr ⟨(Finset.mem_filter.mp hk).2, rfl⟩⟩
  · intro j hj
    have := (Finset.mem_filter.mp hj).2
    rw [← hs j] at this
    have e := ((hl _ _).mp this).2
    exact (congrArg (ix2 (j 0)) e.symm).trans (hs j)
  · intro k hk
    rfl
  · intro j hj
    have := (Finset.mem_filter.mp hj).2
    rw [← hs j] at this
    have e := ((hl _ _).mp this).2
    exact congrArg upd ((hs j).symm.trans (congrArg (ix2 (j 0)) e))

/-- A sum over the rows with an index is the sum with the one-hot row's entries. -/
theorem sum_hot {N : Nat} (f : Fin N → EReal) (b : Fin N → BitVec 32) (hb : ∀ k, ∃ a : Fin 32, b k = BitVec.ofNat 32 a.val) (r : Fin 32) :
    ∑ k ∈ Finset.univ.filter (fun k : Fin N => (b k).toInt = (r.val : Int)), f k = ∑ k : Fin N, f k * hot (b k) r := by
  rw [Finset.sum_filter]
  refine Finset.sum_congr rfl fun k _ => ?_
  obtain ⟨a, ha⟩ := hb k
  rw [ha, hot_row, StableHlo.Predicate.toInt_ofNat_small _ (by omega)]
  by_cases h : a = r
  · rw [if_pos h, if_pos (by rw [h]), mul_one]
  · rw [if_neg h, if_neg (fun e => h (Fin.ext (by omega))), mul_zero]

end Cert.Proof.Hot

end
-- ==== Proof.Bias.lean ====
/-
  The table of the relative biases at the positions (`bias_table`): the product with the one-hot matrix takes the rows.
-/
module

public import proofs.«01_k».proof.Proof.Gen.KBiasIdeal.Value
public import proofs.«01_k».proof.Proof.Gen.RBiasIdeal.Read
public import Idealize.ShloMosaic.Lib.Pipeline.ValueKit
public import Idealize.ShloMosaic.Lib.Pointwise
public import proofs.«01_k».proof.Proof.Hot
public import Idealize.ShloMosaic.Lib.Routing.Ops
public import Idealize.ShloMosaic.Lib.Routing.OpsPair
public import proofs.«01_k».proof.Pre_is_bucket

@[expose] public section

noncomputable section

namespace Cert.Proof.Bias

open Cert.KBiasIdeal Cert.KBiasIdeal.Gen Idealize.ShloMosaic Idealize.ShloMosaic.TcCoe Idealize.SL.Sem
open Idealize.ShloMosaic.Pipeline (Dat Cfg Window)
open Cert.Proof.Hot
open scoped BigOperators

variable (m : (ℓ : Loc nD τ sig) → Buf (Elt Ideal) ℓ)

theorem idx0 : ∀ t : Fin cfg0.N, win0_0.index t = ![0, 0] := (by decide +kernel : ∀ t : Fin grid0.N, _)
theorem idx1 : ∀ t : Fin cfg0.N, win0_1.index t = ![0, t.val] := (by decide +kernel : ∀ t : Fin grid0.N, _)
theorem idx2 : ∀ t : Fin cfg0.N, win0_2.index t = ![0, t.val] := (by decide +kernel : ∀ t : Fin grid0.N, _)

theorem pay1_apply (x : FVec Ideal S16x32 .f32) (w : FVec Ideal S32x4096 .f32) (j : S16x4096.Idx) :
    k0_pay1 (F := Ideal) x w j = ∑ k : Fin 32, x (ix2 (j 0) k) * w (ix2 k (j 1)) := by
  pointwise [k0_pay1]

open Cert.RBiasIdeal.Read in
theorem ref_apply (x : FVec Ideal Cert.RBiasIdeal.S32x16 .f32) (b : IVec Cert.RBiasIdeal.S32768 32)
    (hb : ∀ i, ∃ r : Fin 32, b i = BitVec.ofNat 32 r.val) (i : Cert.RBiasIdeal.S16x32768.Idx) (r : Fin 32) (hr : b (ix1 (i 1)) = BitVec.ofNat 32 r.val) :
    val_main_v7 (F := Ideal) x b i = x (ix2 r (i 0)) := by
  have e5 : val_main_v5 (F := Ideal) b (ix2 (i 1) (0 : Fin 1)) = BitVec.ofNat 32 r.val := by
    pointwise [val_main_v5, val_main_v4, val_main_v3, val_main_v2, val_main_v1, val_main_v0, val_main_c, val_main_c_0]
    exact (wrap _ r hr).trans hr
  rw [val_main_v7_apply, show idx_main_v7 i = ix2 (i 1) (i 0) from funext (Fin.forall_fin_two.mpr ⟨Fin.ext rfl, Fin.ext rfl⟩)]
  unfold val_main_v6
  generalize val_main_v5 (F := Ideal) b = idx at e5
  exact Routing.gather_row (nb := 32) (B := 16) (n := 32768) Cert.RBiasIdeal.gather_S32x16_S32768x1_S32768x16_1_0_n_n_0_1_116 rfl rfl rfl rfl rfl x idx (i 1) (i 0) r e5 (by norm_num)

theorem read0 (c : Dev nD) (i : S16x32.Idx) :
    (V m c main_v0 : FVec Ideal S16x32 .f32) i = (m ((c : Thread nD τ).loc main_arg0)) (ix2 (i 1) (i 0)) := by
  entry_read
  pointwise

theorem read7 (c : Dev nD) (i : S32x32768.Idx) :
    (V m c main_v7 : FVec Ideal S32x32768 .f32) i = hot ((m ((c : Thread nD τ).loc main_arg1)) (ix1 (i 1))) (i 0) := by
  entry_read
  pointwise
  exact hot_eq _ _

/-- THE RESULT. -/
theorem final (c : Dev nD) (hb : ∀ i, ∃ r : Fin 32, ((m ((c : Thread nD τ).loc main_arg1)) : IVec S32768 32) i = BitVec.ofNat 32 r.val) :
    (dats m 0 c).arrAt 2 cfg0.N
      = Cert.RBiasIdeal.Read.val_main_v7 (F := Ideal) (m ((c : Thread nD τ).loc main_arg0)) (m ((c : Thread nD τ).loc main_arg1)) := by
  refine (dats m 0 c).arrAt_eq_of_covers 2 _ (by decide +kernel) fun t hf y => ?_
  blk_simp
  rw [after0_2]
  frame_out
  refine (pay1_apply _ _ _).trans ?_
  obtain ⟨r, hr⟩ := hb (ix1 ((((cfg0.win 2).blk t).view.emb y) 1))
  refine Eq.trans ?_ (ref_apply _ _ hb _ r hr).symm
  have e1 : ∀ k : Fin 32, @Eq EReal ((iblk m c 1 t : FVec Ideal S32x4096 .f32) (ix2 k (y 1))) (if r = k then 1 else 0) := fun k => by
    rw [← hot_row, ← hr]
    refine Eq.trans ?_ (read7 m c (ix2 k ((((cfg0.win 2).blk t).view.emb y) 1)))
    blk_point [iblk, idx1, idx2]
  have e0 : (iblk m c 0 t : FVec Ideal S16x32 .f32) (ix2 (y 0) r)
      = m ((c : Thread nD τ).loc main_arg0) (ix2 r ((((cfg0.win 2).blk t).view.emb y) 0)) := by
    refine Eq.trans ?_ (read0 m c (ix2 ((((cfg0.win 2).blk t).view.emb y) 0) r))
    blk_point [iblk, idx0, idx2]
  refine (Finset.sum_eq_single r (fun k _ hk => ?_) (fun h => absurd (Finset.mem_univ _) h)).trans ?_
  · rw [e1, if_neg (Ne.symm hk), mul_zero]
  · rw [e1, if_pos rfl, mul_one, e0]

/-- What the precondition says of the words. -/
theorem real_of_pre [Cert.Pre_is_bucket.Facts] (x : FVec Ideal Cert.Pre_is_bucket.S32x16 .f32)
    (b : IVec Cert.Pre_is_bucket.S32768 32) (hp : Cert.Pre_is_bucket.fn (F := Ideal) x b = fun _ => 1#1) :
    ∀ i, ∃ r : Fin 32, b i = BitVec.ofNat 32 r.val := by
  intro i
  have e := congrFun hp (fun k => k.elim0)
  have : Subsingleton Cert.Pre_is_bucket.S_.Idx := ⟨fun a b => funext fun k => k.elim0⟩
  have h1 := Host.reduce_andi_all _ _ _ _ _ e i
  obtain ⟨e0, e1⟩ := and_eq_one _ _ h1
  exact row_of _ e0 e1

end Cert.Proof.Bias

end
-- ==== Proof.Biasb.lean ====
/-
  The gradient at the table of the relative biases (`bias_table_bwd`): the product with the one-hot matrix adds up the
  positions of each bucket.
-/
module

public import proofs.«01_k».proof.Proof.Gen.KBiasbIdeal.Value
public import proofs.«01_k».proof.Proof.Gen.RBiasbIdeal.Read
public import Idealize.ShloMosaic.Lib.Pipeline.ValueKit
public import Idealize.ShloMosaic.Lib.Pointwise
public import proofs.«01_k».proof.Proof.Hot
public import Idealize.ShloMosaic.Lib.Routing.Ops
public import Idealize.ShloMosaic.Lib.Routing.OpsPair
public import proofs.«01_k».proof.Pre_is_bucket_b

@[expose] public section

noncomputable section

namespace Cert.Proof.Biasb

open Cert.KBiasbIdeal Cert.KBiasbIdeal.Gen Idealize.ShloMosaic Idealize.ShloMosaic.TcCoe Idealize.SL.Sem
open Idealize.ShloMosaic.Pipeline (Dat Cfg Window)
open Cert.Proof.Hot
open scoped BigOperators

variable (m : (ℓ : Loc nD τ sig) → Buf (Elt Ideal) ℓ)

theorem idx0 : ∀ t : Fin cfg0.N, win0_0.index t = ![0, t.val] := (by decide +kernel : ∀ t : Fin grid0.N, _)
theorem idx1 : ∀ t : Fin cfg0.N, win0_1.index t = ![0, t.val] := (by decide +kernel : ∀ t : Fin grid0.N, _)
theorem idx2 : ∀ t : Fin cfg0.N, win0_2.index t = ![0, 0] := (by decide +kernel : ∀ t : Fin grid0.N, _)

theorem pay1_apply (x : FVec Ideal S16x4096 .f32) (w : FVec Ideal S32x4096 .f32) (j : S16x32.Idx) :
    k0_pay1 (F := Ideal) x w j = ∑ k : Fin 4096, x (ix2 (j 0) k) * w (ix2 (j 1) k) := by
  pointwise [k0_pay1]

/-- One term of the product. -/
def entry (x : FVec Ideal S16x4096 .f32) (w : FVec Ideal S32x4096 .f32) (j : S16x32.Idx) (k : Fin 4096) : EReal :=
  x (ix2 (j 0) k) * w (ix2 (j 1) k)

theorem pay1_entry (x : FVec Ideal S16x4096 .f32) (w : FVec Ideal S32x4096 .f32) (j : S16x32.Idx) :
    k0_pay1 (F := Ideal) x w j = ∑ k : Fin 4096, entry x w j k := pay1_apply x w j

theorem pay2_apply (x : FVec Ideal S16x4096 .f32) (w : FVec Ideal S32x4096 .f32) (a : FVec Ideal S16x32 .f32) (j : S16x32.Idx) :
    k0_pay2 (F := Ideal) x w a j = a j + ∑ k : Fin 4096, x (ix2 (j 0) k) * w (ix2 (j 1) k) := by
  rw [← pay1_apply]
  pointwise [k0_pay2]

open Cert.RBiasbIdeal.Read in
theorem ref_apply (x : FVec Ideal Cert.RBiasbIdeal.S16x32768 .f32) (b : IVec Cert.RBiasbIdeal.S32768 32)
    (hb : ∀ i, ∃ r : Fin 32, b i = BitVec.ofNat 32 r.val) (i : Cert.RBiasbIdeal.S16x32.Idx) :
    val_main_v12 (F := Ideal) x b i = ∑ k : Fin 32768, x (ix2 (i 0) k) * hot (b (ix1 k)) (i 1) := by
  have e6 : ∀ k : Fin 32768, val_main_v6 (F := Ideal) b (ix2 k (0 : Fin 1)) = b (ix1 k) := fun k => by
    obtain ⟨r, hr⟩ := hb (ix1 k)
    pointwise [val_main_v6, val_main_v5, val_main_v4, val_main_v3, val_main_v2, val_main_v1, val_main_c, val_main_c_0]
    exact wrap _ r hr
  have e10 : val_main_v10 (F := Ideal) (ix2 (i 1) (i 0)) = 0 := by
    pointwise [val_main_v10, val_main_cst_1]
  have e9 : ∀ (k : Fin 32768) (h : Fin 16), val_main_v9 (F := Ideal) x (ix2 k h) = x (ix2 h k) := fun k h => by
    pointwise [val_main_v9]
  rw [val_main_v12_apply, show idx_main_v12 i = ix2 (i 1) (i 0) from funext (Fin.forall_fin_two.mpr ⟨Fin.ext rfl, Fin.ext rfl⟩)]
  refine Eq.trans (scatter_rows (R := 32) (C := 16) (N := 32768) Cert.RBiasbIdeal.scatter_S32x16_S32768x1_S32768x16_1_0_0_1 (val_main_v10 (F := Ideal)) (val_main_v6 (F := Ideal) b)
    (val_main_v9 (F := Ideal) x) (i 1) (i 0) (fun k h => ?_) (fun k h => rfl) (fun k h => rfl) (fun k h => rfl)) ?_
  · exact congrArg (fun a => (val_main_v6 (F := Ideal) b a).toInt) (funext (Fin.forall_fin_two.mpr ⟨Fin.ext rfl, Fin.ext rfl⟩))
  · rw [e10, zero_add]
    generalize val_main_v6 (F := Ideal) b = idx at e6 ⊢
    generalize val_main_v9 (F := Ideal) x = u at e9 ⊢
    refine Eq.trans ?_ (sum_hot (N := 32768) (fun k => x (ix2 (i 0) k)) (fun k => b (ix1 k)) (fun k => hb (ix1 k)) (i 1))
    refine Finset.sum_congr (Finset.filter_congr fun k _ => ?_) fun k _ => e9 k (i 0)
    rw [e6]

/-- One term of the gradient. -/
def gterm (x : FVec Ideal S16x32768 .f32) (b : IVec S32768 32) (j : S16x32.Idx) (k : Fin 32768) : EReal :=
  x (ix2 (j 0) k) * hot (b (ix1 k)) (j 1)

theorem read6 (c : Dev nD) (i : S32x32768.Idx) :
    (V m c main_v6 : FVec Ideal S32x32768 .f32) i = hot ((m ((c : Thread nD τ).loc main_arg1)) (ix1 (i 1))) (i 0) := by
  entry_read
  pointwise
  exact hot_eq _ _

/-- What a point adds. -/
def term (c : Dev nD) (t : Fin cfg0.N) (j : S16x32.Idx) : EReal := k0_pay1 (F := Ideal) (iblk m c 0 t) (iblk m c 1 t) j

theorem acc (c : Dev nD) (t : Fin cfg0.N) (h : t.val % 8 = 7) (j : S16x32.Idx) :
    (outsAt0 m c t.val t.isLt : FVec Ideal S16x32 .f32) j
      = 0 + ∑ s : Fin 8, term m c ⟨8 * (t.val / 8) + s.val, Pipeline.run_point_lt_of_flush t h s⟩ j := by
  refine Pipeline.eq_sum_fin_of_reset_step_apply_of_flush (fun n h => (outsAt0 m c n h : FVec Ideal S16x32 .f32)) 8 (fun _ => (0 : EReal))
    (term m c) ?_ ?_ t h j
  · intro t h0 j
    have hN : t.val < 8 := lt_of_lt_of_eq t.isLt N_0
    have h1 : ¬1 ≤ t.val := by omega
    rw [outsAt0_A m c t h0 h1]; frame_out
    rw [zero_add, term]
  · intro t h0 j
    have h1 : 1 ≤ t.val := by omega
    rw [outsAt0_B m c t h0 h1]; frame_out
    rw [pay2_apply, ← pay1_apply, term]

/-- THE GRADIENT AT THE TABLE. -/
theorem final (c : Dev nD) (hb : ∀ i, ∃ r : Fin 32, ((m ((c : Thread nD τ).loc main_arg1)) : IVec S32768 32) i = BitVec.ofNat 32 r.val) :
    (dats m 0 c).arrAt 2 cfg0.N
      = Cert.RBiasbIdeal.Read.val_main_v12 (F := Ideal) (m ((c : Thread nD τ).loc main_arg0)) (m ((c : Thread nD τ).loc main_arg1)) := by
  refine (dats m 0 c).arrAt_eq_of_covers 2 _ (by decide +kernel) fun t hf y => ?_
  have h := (flush0_2 t).mp hf
  have hN : t.val < 8 := lt_of_lt_of_eq t.isLt N_0
  rw [after0_2]
  refine (acc m c t h y).trans ?_
  have hq : (((cfg0.win 2).blk t).view.emb y) 1 = y 1 := Fin.ext (by blk_simp [idx2])
  have hp : (((cfg0.win 2).blk t).view.emb y) 0 = y 0 := Fin.ext (by blk_simp [idx2])
  rw [zero_add, ref_apply _ _ hb, hq, hp]
  have key : ∀ (s : Fin cfg0.N) (k : Fin 4096) (k' : Fin 32768), k'.val = s.val * 4096 + k.val →
      entry (iblk m c 0 s) (iblk m c 1 s) y k
        = gterm (m ((c : Thread nD τ).loc main_arg0)) (m ((c : Thread nD τ).loc main_arg1)) y k' := fun s k k' e => by
    refine congrArg₂ (fun a b : EReal => a * b) ?_ (Eq.trans ?_ (read6 m c (ix2 (y 1) k')))
    · blk_point [iblk, V, idx0, e]
    · blk_point [iblk, idx1, e]
  simp only [term, pay1_entry]
  refine Fin.sum_mul_add_congr fun s k hl => key _ _ _ ?_
  dsimp only
  omega

/-- What the precondition says of the words. -/
theorem real_of_pre [Cert.Pre_is_bucket_b.Facts] (x : FVec Ideal Cert.Pre_is_bucket_b.S16x32768 .f32)
    (b : IVec Cert.Pre_is_bucket_b.S32768 32) (hp : Cert.Pre_is_bucket_b.fn (F := Ideal) x b = fun _ => 1#1) :
    ∀ i, ∃ r : Fin 32, b i = BitVec.ofNat 32 r.val := by
  intro i
  have e := congrFun hp (fun k => k.elim0)
  have : Subsingleton Cert.Pre_is_bucket_b.S_.Idx := ⟨fun a b => funext fun k => k.elim0⟩
  have h1 := Host.reduce_andi_all _ _ _ _ _ e i
  obtain ⟨e0, e1⟩ := and_eq_one _ _ h1
  exact row_of _ e0 e1

end Cert.Proof.Biasb

end
-- ==== Proof.OptClaims.lean ====
/-
  The claims about the optimiser's steps, the conditioning and the relative biases: each call's run beside the run of the
  problem's lines, which ends with the same arrays.
-/
module

public import proofs.«01_k».proof.Defs
public import proofs.«01_k».proof.Proof.Adam
public import proofs.«01_k».proof.Proof.Adamt
public import proofs.«01_k».proof.Proof.Ada
public import proofs.«01_k».proof.Proof.Adab
public import proofs.«01_k».proof.Proof.Bias
public import proofs.«01_k».proof.Proof.Biasb
public import proofs.«01_k».proof.Proof.Gen.KAdam.Frame
public import proofs.«01_k».proof.Proof.Gen.KAdamt.Frame
public import proofs.«01_k».proof.Proof.Gen.KAda.Frame
public import proofs.«01_k».proof.Proof.Gen.KAdab.Frame
public import proofs.«01_k».proof.Proof.Gen.KBias.Frame
public import proofs.«01_k».proof.Proof.Gen.KBiasb.Frame
public import proofs.«01_k».proof.Proof.Gen.RAdamIdeal.Run
public import proofs.«01_k».proof.Proof.Gen.RAdamtIdeal.Run
public import proofs.«01_k».proof.Proof.Gen.RAdaIdeal.Run
public import proofs.«01_k».proof.Proof.Gen.RAdabIdeal.Run
public import proofs.«01_k».proof.Proof.Gen.RBiasIdeal.Run
public import proofs.«01_k».proof.Proof.Gen.RBiasbIdeal.Run
public import proofs.«01_k».proof.Proof.Gen.Pre_is_bucket
public import proofs.«01_k».proof.Proof.Gen.Pre_is_bucket_b

@[expose] public section

noncomputable section

namespace Cert.Proof.Opt

open Idealize.ShloMosaic Idealize.ShloMosaic.TcCoe Idealize.SL.Sem

/-! ## The references end with their arguments unchanged and have no semaphore -/

/-- The optimiser's step from the parts of a gradient, as the problem writes it, runs and leaves its arguments. -/
theorem frame_adam : Cert.quiescent_RAdamIdeal := fun m ρ _ =>
  (θ_run Cert.RAdamIdeal.defs _ _).mono (fun r h => ⟨fun c => (h c).2.2.2.2, sem_eq_zero_of_no_sems (by decide) r.2⟩)
    (Cert.RAdamIdeal.Value.run (F := Ideal) m ρ)

/-- The optimiser's step from the transposed parts of a gradient, as the problem writes it, runs and leaves its arguments. -/
theorem frame_adamt : Cert.quiescent_RAdamtIdeal := fun m ρ _ =>
  (θ_run Cert.RAdamtIdeal.defs _ _).mono (fun r h => ⟨fun c => (h c).2.2.2.2, sem_eq_zero_of_no_sems (by decide) r.2⟩)
    (Cert.RAdamtIdeal.Value.run (F := Ideal) m ρ)

/-- The conditioning's projection, as the problem writes it, runs and leaves its arguments. -/
theorem frame_ada : Cert.quiescent_RAdaIdeal := fun m ρ _ =>
  (θ_run Cert.RAdaIdeal.defs _ _).mono (fun r h => ⟨fun c => (h c).2, sem_eq_zero_of_no_sems (by decide) r.2⟩)
    (Cert.RAdaIdeal.Value.run (F := Ideal) m ρ)

/-- The gradient of the conditioning's projection with the optimiser's step, as the problem writes it, runs and leaves its arguments. -/
theorem frame_adab : Cert.quiescent_RAdabIdeal := fun m ρ _ =>
  (θ_run Cert.RAdabIdeal.defs _ _).mono (fun r h => ⟨fun c => (h c).2.2.2.2, sem_eq_zero_of_no_sems (by decide) r.2⟩)
    (Cert.RAdabIdeal.Value.run (F := Ideal) m ρ)

/-- The table of the relative biases, as the problem writes it, runs and leaves its arguments. -/
theorem frame_bias : Cert.quiescent_RBiasIdeal := fun m ρ _ =>
  (θ_run Cert.RBiasIdeal.defs _ _).mono (fun r h => ⟨fun c => (h c).2, sem_eq_zero_of_no_sems (by decide) r.2⟩)
    (Cert.RBiasIdeal.Value.run (F := Ideal) m ρ)

/-- The gradient at the relative biases, as the problem writes it, runs and leaves its arguments. -/
theorem frame_biasb : Cert.quiescent_RBiasbIdeal := fun m ρ _ =>
  (θ_run Cert.RBiasbIdeal.defs _ _).mono (fun r h => ⟨fun c => (h c).2, sem_eq_zero_of_no_sems (by decide) r.2⟩)
    (Cert.RBiasbIdeal.Value.run (F := Ideal) m ρ)

/-! ## The call and its reference end with equal arrays -/

/-- The optimiser's step: each block is that of the whole. -/
theorem algebraic_adam : Cert.algebraic_KAdamIdeal_RAdamIdeal := by
  intro m g m' g' _ h
  refine ⟨fun c => Cert.RAdamIdeal.Read.val_main_v1 (F := Ideal) (m ((c.tc : Thread Cert.KAdamIdeal.nD Cert.KAdamIdeal.τ).loc Cert.KAdamIdeal.main_arg0)),
    fun c => Cert.RAdamIdeal.Read.val_main_v25 (F := Ideal) (m ((c.tc : Thread Cert.KAdamIdeal.nD Cert.KAdamIdeal.τ).loc Cert.KAdamIdeal.main_arg0)) (m ((c.tc : Thread Cert.KAdamIdeal.nD Cert.KAdamIdeal.τ).loc Cert.KAdamIdeal.main_arg1)) (m ((c.tc : Thread Cert.KAdamIdeal.nD Cert.KAdamIdeal.τ).loc Cert.KAdamIdeal.main_arg2)) (m ((c.tc : Thread Cert.KAdamIdeal.nD Cert.KAdamIdeal.τ).loc Cert.KAdamIdeal.main_arg3)),
    fun c => Cert.RAdamIdeal.Read.val_main_v6 (F := Ideal) (m ((c.tc : Thread Cert.KAdamIdeal.nD Cert.KAdamIdeal.τ).loc Cert.KAdamIdeal.main_arg0)) (m ((c.tc : Thread Cert.KAdamIdeal.nD Cert.KAdamIdeal.τ).loc Cert.KAdamIdeal.main_arg2)),
    fun c => Cert.RAdamIdeal.Read.val_main_v12 (F := Ideal) (m ((c.tc : Thread Cert.KAdamIdeal.nD Cert.KAdamIdeal.τ).loc Cert.KAdamIdeal.main_arg0)) (m ((c.tc : Thread Cert.KAdamIdeal.nD Cert.KAdamIdeal.τ).loc Cert.KAdamIdeal.main_arg3)), ?_, ?_⟩
  · exact (θ_run Cert.KAdamIdeal.defs _ _).mono (fun r hr c => ⟨(hr c).1.trans (Adam.final_g m c), (hr c).2.1.trans (Adam.final_d m c), (hr c).2.2.1.trans (Adam.final_m m c), (hr c).2.2.2.1.trans (Adam.final_v m c), (hr c).2.2.2.2⟩)
      (Cert.KAdamIdeal.Value.run_blocks (F := Ideal) m g)
  · refine (θ_run Cert.RAdamIdeal.defs _ _).mono (fun r hr c => ?_) (Cert.RAdamIdeal.Value.run (F := Ideal) m' g')
    obtain ⟨h0, h1, h2, h3⟩ := h c
    refine ⟨(hr c).1.trans ?_, (hr c).2.1.trans ?_, (hr c).2.2.1.trans ?_, (hr c).2.2.2.1.trans ?_, (hr c).2.2.2.2⟩
    · exact (Cert.RAdamIdeal.Read.val_main_v1_eq _).trans (congrArg (Cert.RAdamIdeal.Read.val_main_v1 (F := Ideal)) h0)
    · exact (Cert.RAdamIdeal.Read.val_main_v25_eq _ _ _ _).trans (congr (congr (congr (congrArg (Cert.RAdamIdeal.Read.val_main_v25 (F := Ideal)) h0) h1) h2) h3)
    · exact (Cert.RAdamIdeal.Read.val_main_v6_eq _ _).trans (congr (congrArg (Cert.RAdamIdeal.Read.val_main_v6 (F := Ideal)) h0) h2)
    · exact (Cert.RAdamIdeal.Read.val_main_v12_eq _ _).trans (congr (congrArg (Cert.RAdamIdeal.Read.val_main_v12 (F := Ideal)) h0) h3)

/-- The optimiser's step from the transposed parts: each block is that of the whole. -/
theorem algebraic_adamt : Cert.algebraic_KAdamtIdeal_RAdamtIdeal := by
  intro m g m' g' _ h
  refine ⟨fun c => Cert.RAdamtIdeal.Read.val_main_v2 (F := Ideal) (m ((c.tc : Thread Cert.KAdamtIdeal.nD Cert.KAdamtIdeal.τ).loc Cert.KAdamtIdeal.main_arg0)),
    fun c => Cert.RAdamtIdeal.Read.val_main_v26 (F := Ideal) (m ((c.tc : Thread Cert.KAdamtIdeal.nD Cert.KAdamtIdeal.τ).loc Cert.KAdamtIdeal.main_arg0)) (m ((c.tc : Thread Cert.KAdamtIdeal.nD Cert.KAdamtIdeal.τ).loc Cert.KAdamtIdeal.main_arg1)) (m ((c.tc : Thread Cert.KAdamtIdeal.nD Cert.KAdamtIdeal.τ).loc Cert.KAdamtIdeal.main_arg2)) (m ((c.tc : Thread Cert.KAdamtIdeal.nD Cert.KAdamtIdeal.τ).loc Cert.KAdamtIdeal.main_arg3)),
    fun c => Cert.RAdamtIdeal.Read.val_main_v7 (F := Ideal) (m ((c.tc : Thread Cert.KAdamtIdeal.nD Cert.KAdamtIdeal.τ).loc Cert.KAdamtIdeal.main_arg0)) (m ((c.tc : Thread Cert.KAdamtIdeal.nD Cert.KAdamtIdeal.τ).loc Cert.KAdamtIdeal.main_arg2)),
    fun c => Cert.RAdamtIdeal.Read.val_main_v13 (F := Ideal) (m ((c.tc : Thread Cert.KAdamtIdeal.nD Cert.KAdamtIdeal.τ).loc Cert.KAdamtIdeal.main_arg0)) (m ((c.tc : Thread Cert.KAdamtIdeal.nD Cert.KAdamtIdeal.τ).loc Cert.KAdamtIdeal.main_arg3)), ?_, ?_⟩
  · exact (θ_run Cert.KAdamtIdeal.defs _ _).mono (fun r hr c => ⟨(hr c).1.trans (Adamt.final_g m c), (hr c).2.1.trans (Adamt.final_d m c), (hr c).2.2.1.trans (Adamt.final_m m c), (hr c).2.2.2.1.trans (Adamt.final_v m c), (hr c).2.2.2.2⟩)
      (Cert.KAdamtIdeal.Value.run_blocks (F := Ideal) m g)
  · refine (θ_run Cert.RAdamtIdeal.defs _ _).mono (fun r hr c => ?_) (Cert.RAdamtIdeal.Value.run (F := Ideal) m' g')
    obtain ⟨h0, h1, h2, h3⟩ := h c
    refine ⟨(hr c).1.trans ?_, (hr c).2.1.trans ?_, (hr c).2.2.1.trans ?_, (hr c).2.2.2.1.trans ?_, (hr c).2.2.2.2⟩
    · exact (Cert.RAdamtIdeal.Read.val_main_v2_eq _).trans (congrArg (Cert.RAdamtIdeal.Read.val_main_v2 (F := Ideal)) h0)
    · exact (Cert.RAdamtIdeal.Read.val_main_v26_eq _ _ _ _).trans (congr (congr (congr (congrArg (Cert.RAdamtIdeal.Read.val_main_v26 (F := Ideal)) h0) h1) h2) h3)
    · exact (Cert.RAdamtIdeal.Read.val_main_v7_eq _ _).trans (congr (congrArg (Cert.RAdamtIdeal.Read.val_main_v7 (F := Ideal)) h0) h2)
    · exact (Cert.RAdamtIdeal.Read.val_main_v13_eq _ _).trans (congr (congrArg (Cert.RAdamtIdeal.Read.val_main_v13 (F := Ideal)) h0) h3)

/-- The conditioning's projection: the tiles are those of the product. -/
theorem algebraic_ada : Cert.algebraic_KAdaIdeal_RAdaIdeal := by
  intro m g m' g' _ h
  refine ⟨fun c => Cert.RAdaIdeal.Read.val_main_v3 (F := Ideal) (m ((c.tc : Thread Cert.KAdaIdeal.nD Cert.KAdaIdeal.τ).loc Cert.KAdaIdeal.main_arg0)) (m ((c.tc : Thread Cert.KAdaIdeal.nD Cert.KAdaIdeal.τ).loc Cert.KAdaIdeal.main_arg1)) (m ((c.tc : Thread Cert.KAdaIdeal.nD Cert.KAdaIdeal.τ).loc Cert.KAdaIdeal.main_arg2)), ?_, ?_⟩
  · exact (θ_run Cert.KAdaIdeal.defs _ _).mono (fun r hr c => ⟨(hr c).1.trans (Ada.final m c), (hr c).2⟩)
      (Cert.KAdaIdeal.Value.run_blocks (F := Ideal) m g)
  · refine (θ_run Cert.RAdaIdeal.defs _ _).mono (fun r hr c => ?_) (Cert.RAdaIdeal.Value.run (F := Ideal) m' g')
    obtain ⟨h0, h1, h2⟩ := h c
    refine ⟨(hr c).1.trans ?_, (hr c).2⟩
    · exact (Cert.RAdaIdeal.Read.val_main_v3_eq _ _ _).trans (congr (congr (congrArg (Cert.RAdaIdeal.Read.val_main_v3 (F := Ideal)) h0) h1) h2)

/-- The conditioning's gradient and the step: each tile is that of the whole. -/
theorem algebraic_adab : Cert.algebraic_KAdabIdeal_RAdabIdeal := by
  intro m g m' g' _ h
  refine ⟨fun c => Cert.RAdabIdeal.Read.val_main_v3 (F := Ideal) (m ((c.tc : Thread Cert.KAdabIdeal.nD Cert.KAdabIdeal.τ).loc Cert.KAdabIdeal.main_arg0)) (m ((c.tc : Thread Cert.KAdabIdeal.nD Cert.KAdabIdeal.τ).loc Cert.KAdabIdeal.main_arg1)),
    fun c => Cert.RAdabIdeal.Read.val_main_v27 (F := Ideal) (m ((c.tc : Thread Cert.KAdabIdeal.nD Cert.KAdabIdeal.τ).loc Cert.KAdabIdeal.main_arg0)) (m ((c.tc : Thread Cert.KAdabIdeal.nD Cert.KAdabIdeal.τ).loc Cert.KAdabIdeal.main_arg1)) (m ((c.tc : Thread Cert.KAdabIdeal.nD Cert.KAdabIdeal.τ).loc Cert.KAdabIdeal.main_arg2)) (m ((c.tc : Thread Cert.KAdabIdeal.nD Cert.KAdabIdeal.τ).loc Cert.KAdabIdeal.main_arg3)) (m ((c.tc : Thread Cert.KAdabIdeal.nD Cert.KAdabIdeal.τ).loc Cert.KAdabIdeal.main_arg4)),
    fun c => Cert.RAdabIdeal.Read.val_main_v8 (F := Ideal) (m ((c.tc : Thread Cert.KAdabIdeal.nD Cert.KAdabIdeal.τ).loc Cert.KAdabIdeal.main_arg0)) (m ((c.tc : Thread Cert.KAdabIdeal.nD Cert.KAdabIdeal.τ).loc Cert.KAdabIdeal.main_arg1)) (m ((c.tc : Thread Cert.KAdabIdeal.nD Cert.KAdabIdeal.τ).loc Cert.KAdabIdeal.main_arg3)),
    fun c => Cert.RAdabIdeal.Read.val_main_v14 (F := Ideal) (m ((c.tc : Thread Cert.KAdabIdeal.nD Cert.KAdabIdeal.τ).loc Cert.KAdabIdeal.main_arg0)) (m ((c.tc : Thread Cert.KAdabIdeal.nD Cert.KAdabIdeal.τ).loc Cert.KAdabIdeal.main_arg1)) (m ((c.tc : Thread Cert.KAdabIdeal.nD Cert.KAdabIdeal.τ).loc Cert.KAdabIdeal.main_arg4)), ?_, ?_⟩
  · exact (θ_run Cert.KAdabIdeal.defs _ _).mono (fun r hr c => ⟨(hr c).1.trans (Adab.final_g m c), (hr c).2.1.trans (Adab.final_d m c), (hr c).2.2.1.trans (Adab.final_m m c), (hr c).2.2.2.1.trans (Adab.final_v m c), (hr c).2.2.2.2⟩)
      (Cert.KAdabIdeal.Value.run_blocks (F := Ideal) m g)
  · refine (θ_run Cert.RAdabIdeal.defs _ _).mono (fun r hr c => ?_) (Cert.RAdabIdeal.Value.run (F := Ideal) m' g')
    obtain ⟨h0, h1, h2, h3, h4⟩ := h c
    refine ⟨(hr c).1.trans ?_, (hr c).2.1.trans ?_, (hr c).2.2.1.trans ?_, (hr c).2.2.2.1.trans ?_, (hr c).2.2.2.2⟩
    · exact (Cert.RAdabIdeal.Read.val_main_v3_eq _ _).trans (congr (congrArg (Cert.RAdabIdeal.Read.val_main_v3 (F := Ideal)) h0) h1)
    · exact (Cert.RAdabIdeal.Read.val_main_v27_eq _ _ _ _ _).trans (congr (congr (congr (congr (congrArg (Cert.RAdabIdeal.Read.val_main_v27 (F := Ideal)) h0) h1) h2) h3) h4)
    · exact (Cert.RAdabIdeal.Read.val_main_v8_eq _ _ _).trans (congr (congr (congrArg (Cert.RAdabIdeal.Read.val_main_v8 (F := Ideal)) h0) h1) h3)
    · exact (Cert.RAdabIdeal.Read.val_main_v14_eq _ _ _).trans (congr (congr (congrArg (Cert.RAdabIdeal.Read.val_main_v14 (F := Ideal)) h0) h1) h4)

/-- The table of the relative biases: the product with the one-hot matrix takes the rows the indices name, where each index names a
row. -/
theorem algebraic_bias : Cert.algebraic_KBiasIdeal_RBiasIdeal_pre_is_bucket := by
  intro m g m' g' hp h
  refine ⟨fun c => Cert.RBiasIdeal.Read.val_main_v7 (F := Ideal) (m ((c.tc : Thread Cert.KBiasIdeal.nD Cert.KBiasIdeal.τ).loc Cert.KBiasIdeal.main_arg0)) (m ((c.tc : Thread Cert.KBiasIdeal.nD Cert.KBiasIdeal.τ).loc Cert.KBiasIdeal.main_arg1)), ?_, ?_⟩
  · refine (θ_run Cert.KBiasIdeal.defs _ _).mono (fun r hr c => ?_) (Cert.KBiasIdeal.Value.run_blocks (F := Ideal) m g)
    have hb := Bias.real_of_pre _ _ (hp c)
    exact ⟨(hr c).1.trans (Bias.final m c hb), (hr c).2⟩
  · refine (θ_run Cert.RBiasIdeal.defs _ _).mono (fun r hr c => ?_) (Cert.RBiasIdeal.Value.run (F := Ideal) m' g')
    obtain ⟨h0, h1⟩ := h c
    refine ⟨(hr c).1.trans ?_, (hr c).2⟩
    · exact (Cert.RBiasIdeal.Read.val_main_v7_eq _ _).trans (congr (congrArg (Cert.RBiasIdeal.Read.val_main_v7 (F := Ideal)) h0) h1)

/-- The gradient at the relative biases: the product with the one-hot matrix adds up the positions of each index, where each index
names a row. -/
theorem algebraic_biasb : Cert.algebraic_KBiasbIdeal_RBiasbIdeal_pre_is_bucket_b := by
  intro m g m' g' hp h
  refine ⟨fun c => Cert.RBiasbIdeal.Read.val_main_v12 (F := Ideal) (m ((c.tc : Thread Cert.KBiasbIdeal.nD Cert.KBiasbIdeal.τ).loc Cert.KBiasbIdeal.main_arg0)) (m ((c.tc : Thread Cert.KBiasbIdeal.nD Cert.KBiasbIdeal.τ).loc Cert.KBiasbIdeal.main_arg1)), ?_, ?_⟩
  · refine (θ_run Cert.KBiasbIdeal.defs _ _).mono (fun r hr c => ?_) (Cert.KBiasbIdeal.Value.run_blocks (F := Ideal) m g)
    have hb := Biasb.real_of_pre _ _ (hp c)
    exact ⟨(hr c).1.trans (Biasb.final m c hb), (hr c).2⟩
  · refine (θ_run Cert.RBiasbIdeal.defs _ _).mono (fun r hr c => ?_) (Cert.RBiasbIdeal.Value.run (F := Ideal) m' g')
    obtain ⟨h0, h1⟩ := h c
    refine ⟨(hr c).1.trans ?_, (hr c).2⟩
    · exact (Cert.RBiasbIdeal.Read.val_main_v12_eq _ _).trans (congr (congrArg (Cert.RBiasbIdeal.Read.val_main_v12 (F := Ideal)) h0) h1)

end Cert.Proof.Opt

end
-- ==== Proof.lean ====
/-
  The proof of the certificate's claim: every program's frame, and for each call the equality of its arrays with the
  reference's over the extended reals. The frames of the kernels are the generated ones.
-/
module

public import proofs.«01_k».proof.Proof.FfnClaims
public import proofs.«01_k».proof.Proof.MixClaims
public import proofs.«01_k».proof.Proof.FwdClaims
public import proofs.«01_k».proof.Proof.BwdClaims
public import proofs.«01_k».proof.Proof.OptClaims
public import proofs.«01_k».proof.Proof.Gen.Pre_finite_dgu
public import proofs.«01_k».proof.Proof.Gen.Pre_finite_nbw
public import proofs.«01_k».proof.Proof.Gen.Pre_is_bucket
public import proofs.«01_k».proof.Proof.Gen.Pre_is_bucket_b
public import proofs.«01_k».proof.Proof.Gen.Pre_finite_poolb
public import proofs.«01_k».proof.Proof.Gen.Pre_finite_poolf

@[expose] public section

noncomputable section

namespace Cert.Proof

open Idealize.ShloMosaic Idealize.SL.Sem

/-- THE CLAIM: the side conditions of the programs, then the frames, then the value claims. -/
theorem claim : Cert.Claim :=
  ⟨Cert.KDgu.Gen.facts, Cert.KDguIdeal.Gen.facts, Cert.RDguIdeal.Gen.facts, Cert.KDwgu.Gen.facts,
    Cert.KDwguIdeal.Gen.facts, Cert.RDwguIdeal.Gen.facts, Cert.KDh.Gen.facts, Cert.KDhIdeal.Gen.facts,
    Cert.RDhIdeal.Gen.facts, Cert.KDwd.Gen.facts, Cert.KDwdIdeal.Gen.facts, Cert.RDwdIdeal.Gen.facts,
    Cert.KMerge.Gen.facts, Cert.KMergeIdeal.Gen.facts, Cert.RMergeIdeal.Gen.facts, Cert.KDwin.Gen.facts,
    Cert.KDwinIdeal.Gen.facts, Cert.RDwinIdeal.Gen.facts, Cert.KDwo.Gen.facts, Cert.KDwoIdeal.Gen.facts,
    Cert.RDwoIdeal.Gen.facts, Cert.KDwup.Gen.facts, Cert.KDwupIdeal.Gen.facts, Cert.RDwupIdeal.Gen.facts,
    Cert.KDhm.Gen.facts, Cert.KDhmIdeal.Gen.facts, Cert.RDhmIdeal.Gen.facts, Cert.KDpre.Gen.facts,
    Cert.KDpreIdeal.Gen.facts, Cert.RDpreIdeal.Gen.facts, Cert.KUp.Gen.facts, Cert.KUpIdeal.Gen.facts,
    Cert.RUpIdeal.Gen.facts, Cert.KDown.Gen.facts, Cert.KDownIdeal.Gen.facts, Cert.RDownIdeal.Gen.facts,
    Cert.KLoss.Gen.facts, Cert.KLossIdeal.Gen.facts, Cert.RLossIdeal.Gen.facts, Cert.KOut.Gen.facts,
    Cert.KOutIdeal.Gen.facts, Cert.ROutIdeal.Gen.facts, Cert.KIn.Gen.facts, Cert.KInIdeal.Gen.facts,
    Cert.RInIdeal.Gen.facts, Cert.KMup.Gen.facts, Cert.KMupIdeal.Gen.facts, Cert.RMupIdeal.Gen.facts,
    Cert.KNrm.Gen.facts, Cert.KNrmIdeal.Gen.facts, Cert.RNrmIdeal.Gen.facts, Cert.KNbw.Gen.facts,
    Cert.KNbwIdeal.Gen.facts, Cert.RNbwIdeal.Gen.facts, Cert.KAda.Gen.facts, Cert.KAdaIdeal.Gen.facts,
    Cert.RAdaIdeal.Gen.facts, Cert.KAdab.Gen.facts, Cert.KAdabIdeal.Gen.facts, Cert.RAdabIdeal.Gen.facts,
    Cert.KAdam.Gen.facts, Cert.KAdamIdeal.Gen.facts, Cert.RAdamIdeal.Gen.facts, Cert.KAdamt.Gen.facts,
    Cert.KAdamtIdeal.Gen.facts, Cert.RAdamtIdeal.Gen.facts, Cert.KBias.Gen.facts, Cert.KBiasIdeal.Gen.facts,
    Cert.RBiasIdeal.Gen.facts, Cert.KBiasb.Gen.facts, Cert.KBiasbIdeal.Gen.facts, Cert.RBiasbIdeal.Gen.facts,
    Cert.KPoolb.Gen.facts, Cert.KPoolbIdeal.Gen.facts, Cert.RPoolbIdeal.Gen.facts, Cert.KPoolf.Gen.facts,
    Cert.KPoolfIdeal.Gen.facts, Cert.RPoolfIdeal.Gen.facts, Cert.KAttnf.Gen.facts, Cert.KAttnfIdeal.Gen.facts,
    Cert.RAttnfIdeal.Gen.facts, Cert.Pre_finite_dgu.Gen.facts, Cert.Pre_finite_nbw.Gen.facts,
    Cert.Pre_is_bucket.Gen.facts, Cert.Pre_is_bucket_b.Gen.facts, Cert.Pre_finite_poolb.Gen.facts,
    Cert.Pre_finite_poolf.Gen.facts, fun m ρ _ => Cert.KDgu.Gen.frame m ρ,
    fun m ρ _ => Cert.KDguIdeal.Gen.frame m ρ, fun m ρ _ => Cert.KDguIdeal.Gen.frame m ρ, Ffn.frame_rdgu,
    fun m ρ _ => Ffn.frame_rdgu m ρ trivial, fun m ρ _ => Cert.KDwgu.Gen.frame m ρ,
    fun m ρ _ => Cert.KDwguIdeal.Gen.frame m ρ, Ffn.frame_rdwgu, fun m ρ _ => Cert.KDh.Gen.frame m ρ,
    fun m ρ _ => Cert.KDhIdeal.Gen.frame m ρ, Ffn.frame_rdh, fun m ρ _ => Cert.KDwd.Gen.frame m ρ,
    fun m ρ _ => Cert.KDwdIdeal.Gen.frame m ρ, Ffn.frame_rdwd, fun m ρ _ => Cert.KMerge.Gen.frame m ρ,
    fun m ρ _ => Cert.KMergeIdeal.Gen.frame m ρ, Mix.frame_merge, fun m ρ _ => Cert.KDwin.Gen.frame m ρ,
    fun m ρ _ => Cert.KDwinIdeal.Gen.frame m ρ, Mix.frame_dwin, fun m ρ _ => Cert.KDwo.Gen.frame m ρ,
    fun m ρ _ => Cert.KDwoIdeal.Gen.frame m ρ, Mix.frame_dwo, fun m ρ _ => Cert.KDwup.Gen.frame m ρ,
    fun m ρ _ => Cert.KDwupIdeal.Gen.frame m ρ, Mix.frame_dwup, fun m ρ _ => Cert.KDhm.Gen.frame m ρ,
    fun m ρ _ => Cert.KDhmIdeal.Gen.frame m ρ, Mix.frame_dhm, fun m ρ _ => Cert.KDpre.Gen.frame m ρ,
    fun m ρ _ => Cert.KDpreIdeal.Gen.frame m ρ, Mix.frame_dpre, fun m ρ _ => Cert.KUp.Gen.frame m ρ,
    fun m ρ _ => Cert.KUpIdeal.Gen.frame m ρ, Fwd.frame_up, fun m ρ _ => Cert.KDown.Gen.frame m ρ,
    fun m ρ _ => Cert.KDownIdeal.Gen.frame m ρ, Fwd.frame_down, fun m ρ _ => Cert.KLoss.Gen.frame m ρ,
    fun m ρ _ => Cert.KLossIdeal.Gen.frame m ρ, Fwd.frame_loss, fun m ρ _ => Cert.KOut.Gen.frame m ρ,
    fun m ρ _ => Cert.KOutIdeal.Gen.frame m ρ, Fwd.frame_out, fun m ρ _ => Cert.KIn.Gen.frame m ρ,
    fun m ρ _ => Cert.KInIdeal.Gen.frame m ρ, Fwd.frame_in, fun m ρ _ => Cert.KMup.Gen.frame m ρ,
    fun m ρ _ => Cert.KMupIdeal.Gen.frame m ρ, Fwd.frame_mup, fun m ρ _ => Cert.KNrm.Gen.frame m ρ,
    fun m ρ _ => Cert.KNrmIdeal.Gen.frame m ρ, Fwd.frame_nrm, fun m ρ _ => Cert.KNbw.Gen.frame m ρ,
    fun m ρ _ => Cert.KNbwIdeal.Gen.frame m ρ, fun m ρ _ => Cert.KNbwIdeal.Gen.frame m ρ, Bwd.frame_nbw,
    fun m ρ _ => Bwd.frame_nbw m ρ trivial, fun m ρ _ => Cert.KAda.Gen.frame m ρ,
    fun m ρ _ => Cert.KAdaIdeal.Gen.frame m ρ, Opt.frame_ada, fun m ρ _ => Cert.KAdab.Gen.frame m ρ,
    fun m ρ _ => Cert.KAdabIdeal.Gen.frame m ρ, Opt.frame_adab, fun m ρ _ => Cert.KAdam.Gen.frame m ρ,
    fun m ρ _ => Cert.KAdamIdeal.Gen.frame m ρ, Opt.frame_adam, fun m ρ _ => Cert.KAdamt.Gen.frame m ρ,
    fun m ρ _ => Cert.KAdamtIdeal.Gen.frame m ρ, Opt.frame_adamt, fun m ρ _ => Cert.KBias.Gen.frame m ρ,
    fun m ρ _ => Cert.KBiasIdeal.Gen.frame m ρ, fun m ρ _ => Cert.KBiasIdeal.Gen.frame m ρ, Opt.frame_bias,
    fun m ρ _ => Opt.frame_bias m ρ trivial, fun m ρ _ => Cert.KBiasb.Gen.frame m ρ,
    fun m ρ _ => Cert.KBiasbIdeal.Gen.frame m ρ, fun m ρ _ => Cert.KBiasbIdeal.Gen.frame m ρ, Opt.frame_biasb,
    fun m ρ _ => Opt.frame_biasb m ρ trivial, fun m ρ _ => Cert.KPoolb.Gen.frame m ρ,
    fun m ρ _ => Cert.KPoolbIdeal.Gen.frame m ρ, fun m ρ _ => Cert.KPoolbIdeal.Gen.frame m ρ, Bwd.frame_poolb,
    fun m ρ _ => Bwd.frame_poolb m ρ trivial, fun m ρ _ => Cert.KPoolf.Gen.frame m ρ,
    fun m ρ _ => Cert.KPoolfIdeal.Gen.frame m ρ, fun m ρ _ => Cert.KPoolfIdeal.Gen.frame m ρ, Bwd.frame_poolf,
    fun m ρ _ => Bwd.frame_poolf m ρ trivial, fun m ρ _ => Cert.KAttnf.Gen.frame m ρ,
    fun m ρ _ => Cert.KAttnfIdeal.Gen.frame m ρ, Bwd.frame_attnf, trivial, Ffn.algebraic_dgu, trivial,
    Ffn.algebraic_dwgu, trivial, Ffn.algebraic_dh, trivial, Ffn.algebraic_dwd, trivial, Mix.algebraic_merge,
    trivial, Mix.algebraic_dwin, trivial, Mix.algebraic_dwo, trivial, Mix.algebraic_dwup, trivial,
    Mix.algebraic_dhm, trivial, Mix.algebraic_dpre, trivial, Fwd.algebraic_up, trivial, Fwd.algebraic_down,
    trivial, Fwd.algebraic_loss, trivial, Fwd.algebraic_out, trivial, Fwd.algebraic_in, trivial, Fwd.algebraic_mup,
    trivial, Fwd.algebraic_nrm, trivial, Bwd.algebraic_nbw, trivial, Opt.algebraic_ada, trivial,
    Opt.algebraic_adab, trivial, Opt.algebraic_adam, trivial, Opt.algebraic_adamt, trivial, Opt.algebraic_bias,
    trivial, Opt.algebraic_biasb, trivial, Bwd.algebraic_poolb, trivial, Bwd.algebraic_poolf,
    IdealRules.named_const.statement Cert.KAttnfIdeal.κ "mask" .f32 0xF149F2CA#32 ⊥ rfl, Bwd.algebraic_attnf⟩

end Cert.Proof

end
